-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v108_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v57_0)) (v1 : (c : Dev Cert.Kernel2Ideal.nD) → Buf (Elt Ideal) ((c.tc : Thread Cert.Kernel2Ideal.nD Cert.Kernel2Ideal.τ).loc Cert.Kernel2Ideal.main_v61)) (v2 : (c : Dev Cert.Kernel2Ideal.nD) → Buf (Elt Ideal) ((c.tc : Thread Cert.Kernel2Ideal.nD Cert.Kernel2Ideal.τ).loc Cert.Kernel2Ideal.main_v64)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57_0) = v0 c
          ∧ r.2.mem ((c.tc : Thread Cert.Kernel2Ideal.nD Cert.Kernel2Ideal.τ).loc Cert.Kernel2Ideal.main_v61) = v1 c
          ∧ r.2.mem ((c.tc : Thread Cert.Kernel2Ideal.nD Cert.Kernel2Ideal.τ).loc Cert.Kernel2Ideal.main_v64) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v23_8) = v1 c
          ∧ r.2.mem ((c.tc : Thread Cert.Reference2Ideal.nD Cert.Reference2Ideal.τ).loc Cert.Reference2Ideal.main_v23_9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x1024 : Shape := ⟨3, ![8, 2048, 1024]⟩
abbrev S8x8x128x128 : Shape := ⟨4, ![8, 8, 128, 128]⟩
abbrev S1024 : Shape := ⟨1, ![1024]⟩
abbrev S1024x4096 : Shape := ⟨2, ![1024, 4096]⟩
abbrev S128 : Shape := ⟨1, ![128]⟩
abbrev S1024x1024 : Shape := ⟨2, ![1024, 1024]⟩
abbrev S1x1024 : Shape := ⟨2, ![1, 1024]⟩
abbrev S1x128 : Shape := ⟨2, ![1, 128]⟩
abbrev S1x256x1024 : Shape := ⟨3, ![1, 256, 1024]⟩
abbrev S1x8x128x128 : Shape := ⟨4, ![1, 8, 128, 128]⟩
abbrev S8x128x128 : Shape := ⟨3, ![8, 128, 128]⟩
abbrev S256x1024 : Shape := ⟨2, ![256, 1024]⟩
abbrev S1x1x128x128 : Shape := ⟨4, ![1, 1, 128, 128]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S256x4096 : Shape := ⟨2, ![256, 4096]⟩
abbrev S64x1024 : Shape := ⟨2, ![64, 1024]⟩
abbrev S64x64 : Shape := ⟨2, ![64, 64]⟩
abbrev S64x128 : Shape := ⟨2, ![64, 128]⟩
abbrev S128x64 : Shape := ⟨2, ![128, 64]⟩
abbrev S64 : Shape := ⟨1, ![64]⟩
abbrev S64x1 : Shape := ⟨2, ![64, 1]⟩

abbrev nBuf : Space → Nat
  | .hbm => 14
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x8x128x128, .f32⟩
  | .hbm, ⟨2, _⟩ => ⟨S1024, .f32⟩
  | .hbm, ⟨3, _⟩ => ⟨S1024x4096, .f32⟩
  | .hbm, ⟨4, _⟩ => ⟨S1024, .f32⟩
  | .hbm, ⟨5, _⟩ => ⟨S128, .f32⟩
  | .hbm, ⟨6, _⟩ => ⟨S1024x1024, .f32⟩
  | .hbm, ⟨7, _⟩ => ⟨S1x1024, .f32⟩
  | .hbm, ⟨8, _⟩ => ⟨S1024x4096, .bf16⟩
  | .hbm, ⟨9, _⟩ => ⟨S1x1024, .f32⟩
  | .hbm, ⟨10, _⟩ => ⟨S1x128, .f32⟩
  | .hbm, ⟨11, _⟩ => ⟨S1024x1024, .bf16⟩
  | .hbm, ⟨12, _⟩ => ⟨S8x2048x1024, .f32⟩
  | .hbm, ⟨13, _⟩ => ⟨S8x8x128x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x128x128, .f32⟩
  | .local _ .vmem, ⟨3, _⟩ => ⟨S1x8x128x128, .f32⟩
  | .local _ .vmem, ⟨4, _⟩ => ⟨S1x1024, .f32⟩
  | .local _ .vmem, ⟨5, _⟩ => ⟨S1024x4096, .bf16⟩
  | .local _ .vmem, ⟨6, _⟩ => ⟨S1x1024, .f32⟩
  | .local _ .vmem, ⟨7, _⟩ => ⟨S1x128, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x8x128x128, .f32⟩
  | .local _ .vmem, ⟨12, _⟩ => ⟨S1x8x128x128, .f32⟩
  | .local _ .vmem, ⟨13, _⟩ => ⟨S8x128x128, .f32⟩
  | .local _ .vmem, ⟨14, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v1833 : BitVec 1 := Scalar.cmpi .eq arg1 c7_i32
  let v1834 : BitVec 32 := Scalar.extui v1833
  let c0_i32_593 : BitVec 32 := 0#32
  let v1835 : BitVec 1 := Scalar.cmpi .ne v1834 c0_i32_593
  v1835

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x2048x1024 : Shape := ⟨3, ![8, 2048, 1024]⟩
abbrev S8x8x128x128 : Shape := ⟨4, ![8, 8, 128, 128]⟩
abbrev S1024 : Shape := ⟨1, ![1024]⟩
abbrev S1024x4096 : Shape := ⟨2, ![1024, 4096]⟩
abbrev S128 : Shape := ⟨1, ![128]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x2048x8x128 : Shape := ⟨4, ![8, 2048, 8, 128]⟩
abbrev S8x128 : Shape := ⟨2, ![8, 128]⟩
abbrev S1x1x8x128 : Shape := ⟨4, ![1, 1, 8, 128]⟩
abbrev S8x32x64x8x128 : Shape := ⟨5, ![8, 32, 64, 8, 128]⟩
abbrev S32x8x8x64x128 : Shape := ⟨5, ![32, 8, 8, 64, 128]⟩
abbrev S32x8x8x1x128 : Shape := ⟨5, ![32, 8, 8, 1, 128]⟩
abbrev S32x8x8x64x64 : Shape := ⟨5, ![32, 8, 8, 64, 64]⟩
abbrev S64x64 : Shape := ⟨2, ![64, 64]⟩
abbrev S32x8x8x128x128 : Shape := ⟨5, ![32, 8, 8, 128, 128]⟩
abbrev S32x8x8x128 : Shape := ⟨4, ![32, 8, 8, 128]⟩
abbrev S1x8x8x64x128 : Shape := ⟨5, ![1, 8, 8, 64, 128]⟩
abbrev S8x8x64x128 : Shape := ⟨4, ![8, 8, 64, 128]⟩
abbrev S1x8x8x128 : Shape := ⟨4, ![1, 8, 8, 128]⟩
abbrev S8x8x128 : Shape := ⟨3, ![8, 8, 128]⟩
abbrev S1x8x8x128x128 : Shape := ⟨5, ![1, 8, 8, 128, 128]⟩
abbrev S8x8x64 : Shape := ⟨3, ![8, 8, 64]⟩
abbrev S8x8x64x1 : Shape := ⟨4, ![8, 8, 64, 1]⟩
abbrev S8x8x128x1 : Shape := ⟨4, ![8, 8, 128, 1]⟩
abbrev S1x1x1x128 : Shape := ⟨4, ![1, 1, 1, 128]⟩

abbrev nBuf : Space → Nat
  | .hbm => 230
  | .vmem => 0
  | .smem => 0
  | _ => 0

abbrev hbmTy0_0 (i : Nat) : BufTy := match i % 128 with
  | 0 => ⟨S8x2048x1024, .f32⟩
  | 1 => ⟨S8x8x128x128, .f32⟩
  | 2 => ⟨S1024, .f32⟩
  | 3 => ⟨S1024x4096, .f32⟩
  | 4 => ⟨S1024, .f32⟩
  | 5 => ⟨S128, .f32⟩
  | 6 => ⟨S1024x1024, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S8x2048x4096, .f32⟩
  | 24 => ⟨S8x2048x1024, .f32⟩
  | 25 => ⟨S8x2048x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S_, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S8x2048x1024, .f32⟩
  | 37 => ⟨S8x2048x8x128, .f32⟩
  | 38 => ⟨S8x2048x8x128, .f32⟩
  | 39 => ⟨S8x128, .f32⟩
  | 40 => ⟨S8x128, .f32⟩
  | 41 => ⟨S8x128, .f32⟩
  | 42 => ⟨S8x128, .f32⟩
  | 43 => ⟨S8x2048x8x128, .f32⟩
  | 44 => ⟨S_, .f32⟩
  | 45 => ⟨S8x2048x8x128, .f32⟩
  | 46 => ⟨S8x2048x8x128, .f32⟩
  | 47 => ⟨S8x2048x8x128, .f32⟩
  | 48 => ⟨S8x2048x8x128, .f32⟩
  | 49 => ⟨S8x2048x8x128, .i1⟩
  | 50 => ⟨S8x2048x8x128, .f32⟩
  | 51 => ⟨S8x2048x8x128, .f32⟩
  | 52 => ⟨S8x2048x8x128, .f32⟩
  | 53 => ⟨S8x2048x8x128, .f32⟩
  | 54 => ⟨S8x2048x8x128, .f32⟩
  | 55 => ⟨S8x2048x8x128, .f32⟩
  | 56 => ⟨S8x2048x8x128, .f32⟩
  | 57 => ⟨S8x2048x8x128, .f32⟩
  | 58 => ⟨S8x2048x8x128, .f32⟩
  | 59 => ⟨S1x1x8x128, .f32⟩
  | 60 => ⟨S8x2048x8x128, .f32⟩
  | 61 => ⟨S8x2048x8x128, .f32⟩
  | 62 => ⟨S1x1x8x128, .f32⟩
  | 63 => ⟨S8x2048x8x128, .f32⟩
  | 64 => ⟨S8x2048x8x128, .f32⟩
  | 65 => ⟨S8x2048x8x128, .f32⟩
  | 66 => ⟨S8x2048x8x128, .f32⟩
  | 67 => ⟨S8x2048x8x128, .i1⟩
  | 68 => ⟨S8x2048x8x128, .f32⟩
  | 69 => ⟨S8x2048x8x128, .f32⟩
  | 70 => ⟨S8x2048x8x128, .f32⟩
  | 71 => ⟨S8x2048x8x128, .f32⟩
  | 72 => ⟨S8x2048x8x128, .f32⟩
  | 73 => ⟨S8x2048x8x128, .f32⟩
  | 74 => ⟨S8x2048x8x128, .f32⟩
  | 75 => ⟨S8x2048x8x128, .f32⟩
  | 76 => ⟨S_, .f32⟩
  | 77 => ⟨S8x128, .f32⟩
  | 78 => ⟨S8x128, .f32⟩
  | 79 => ⟨S8x2048x8x128, .f32⟩
  | 80 => ⟨S8x2048x8x128, .f32⟩
  | 81 => ⟨S8x2048x8x128, .f32⟩
  | 82 => ⟨S_, .f32⟩
  | 83 => ⟨S8x2048x8x128, .f32⟩
  | 84 => ⟨S8x2048x8x128, .f32⟩
  | 85 => ⟨S_, .f32⟩
  | 86 => ⟨S8x2048x8x128, .f32⟩
  | 87 => ⟨S8x2048x8x128, .f32⟩
  | 88 => ⟨S1x1x8x128, .f32⟩
  | 89 => ⟨S8x2048x8x128, .f32⟩
  | 90 => ⟨S8x2048x8x128, .f32⟩
  | 91 => ⟨S8x2048x8x128, .f32⟩
  | 92 => ⟨S8x32x64x8x128, .f32⟩
  | 93 => ⟨S32x8x8x64x128, .f32⟩
  | 94 => ⟨S8x32x64x8x128, .f32⟩
  | 95 => ⟨S32x8x8x64x128, .f32⟩
  | 96 => ⟨S8x32x64x8x128, .f32⟩
  | 97 => ⟨S32x8x8x64x128, .f32⟩
  | 98 => ⟨S8x32x64x8x128, .f32⟩
  | 99 => ⟨S32x8x8x64x128, .f32⟩
  | 100 => ⟨S_, .f32⟩
  | 101 => ⟨S_, .f32⟩
  | 102 => ⟨S32x8x8x64x128, .f32⟩
  | 103 => ⟨S32x8x8x1x128, .f32⟩
  | 104 => ⟨S32x8x8x1x128, .f32⟩
  | 105 => ⟨S32x8x8x64x128, .f32⟩
  | 106 => ⟨S32x8x8x64x128, .f32⟩
  | 107 => ⟨S32x8x8x64x128, .f32⟩
  | 108 => ⟨S32x8x8x64x128, .f32⟩
  | 109 => ⟨S32x8x8x64x128, .f32⟩
  | 110 => ⟨S32x8x8x64x128, .f32⟩
  | 111 => ⟨S32x8x8x64x128, .f32⟩
  | 112 => ⟨S32x8x8x64x128, .f32⟩
  | 113 => ⟨S32x8x8x64x64, .f32⟩
  | 114 => ⟨S_, .i1⟩
  | 115 => ⟨S64x64, .i1⟩
  | 116 => ⟨S64x64, .i32⟩
  | 117 => ⟨S_, .i32⟩
  | 118 => ⟨S64x64, .i32⟩
  | 119 => ⟨S64x64, .i32⟩
  | 120 => ⟨S64x64, .i32⟩
  | 121 => ⟨S64x64, .i1⟩
  | 122 => ⟨S_, .i1⟩
  | 123 => ⟨S64x64, .i1⟩
  | 124 => ⟨S64x64, .i1⟩
  | 125 => ⟨S_, .f32⟩
  | 126 => ⟨S_, .f32⟩
  | 127 => ⟨S32x8x8x64x64, .i1⟩
  | _ => ⟨S8x2048x1024, .f32⟩

abbrev hbmTy0_1 (i : Nat) : BufTy := match i % 128 with
  | 0 => ⟨S32x8x8x64x64, .f32⟩
  | 1 => ⟨S32x8x8x64x64, .f32⟩
  | 2 => ⟨S32x8x8x64x128, .f32⟩
  | 3 => ⟨S32x8x8x64x128, .f32⟩
  | 4 => ⟨S32x8x8x64x128, .f32⟩
  | 5 => ⟨S32x8x8x64x128, .f32⟩
  | 6 => ⟨S32x8x8x64x128, .f32⟩
  | 7 => ⟨S32x8x8x64x128, .f32⟩
  | 8 => ⟨S32x8x8x64x128, .f32⟩
  | 9 => ⟨S32x8x8x128x128, .f32⟩
  | 10 => ⟨S32x8x8x128, .f32⟩
  | 11 => ⟨S32x8x8x128, .f32⟩
  | 12 => ⟨S8x2048x8x128, .f32⟩
  | 13 => ⟨S8x2048x8x128, .f32⟩
  | 14 => ⟨S8x2048x8x128, .f32⟩
  | 15 => ⟨S_, .f32⟩
  | 16 => ⟨S8x2048x8x128, .f32⟩
  | 17 => ⟨S8x2048x8x128, .f32⟩
  | 18 => ⟨S_, .f32⟩
  | 19 => ⟨S8x2048x8x128, .f32⟩
  | 20 => ⟨S8x2048x8x128, .f32⟩
  | 21 => ⟨S8x2048x8x128, .f32⟩
  | 22 => ⟨S8x32x64x8x128, .f32⟩
  | 23 => ⟨S32x8x8x64x128, .f32⟩
  | 24 => ⟨S_, .f32⟩
  | 25 => ⟨S32x8x8x64x128, .f32⟩
  | 26 => ⟨S_, .i32⟩
  | 27 => ⟨S32x8x8x64x128, .f32⟩
  | 28 => ⟨S32x8x8x128, .f32⟩
  | 29 => ⟨S32x8x8x128x128, .f32⟩
  | 30 => ⟨S32x8x8x64x128, .f32⟩
  | 31 => ⟨S32x8x8x64x128, .f32⟩
  | 32 => ⟨S128, .f32⟩
  | 33 => ⟨S_, .i32⟩
  | 34 => ⟨S8x8x128x128, .f32⟩
  | 35 => ⟨S32x8x8x64x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x8x8x64x128, .f32⟩
  | 43 => ⟨S8x8x64x128, .f32⟩
  | 44 => ⟨S_, .i32⟩
  | 45 => ⟨S_, .i32⟩
  | 46 => ⟨S_, .i32⟩
  | 47 => ⟨S1x8x8x128, .f32⟩
  | 48 => ⟨S8x8x128, .f32⟩
  | 49 => ⟨S_, .i32⟩
  | 50 => ⟨S_, .i32⟩
  | 51 => ⟨S_, .i32⟩
  | 52 => ⟨S_, .i32⟩
  | 53 => ⟨S1x8x8x128x128, .f32⟩
  | 54 => ⟨S8x8x128x128, .f32⟩
  | 55 => ⟨S_, .i32⟩
  | 56 => ⟨S_, .i32⟩
  | 57 => ⟨S_, .i32⟩
  | 58 => ⟨S_, .i32⟩
  | 59 => ⟨S1x8x8x64x128, .f32⟩
  | 60 => ⟨S8x8x64x128, .f32⟩
  | 61 => ⟨S_, .i32⟩
  | 62 => ⟨S_, .i32⟩
  | 63 => ⟨S_, .i32⟩
  | 64 => ⟨S_, .i32⟩
  | 65 => ⟨S1x8x8x64x128, .f32⟩
  | 66 => ⟨S8x8x64x128, .f32⟩
  | 67 => ⟨S8x8x64x128, .f32⟩
  | 68 => ⟨S8x8x64x128, .f32⟩
  | 69 => ⟨S8x8x64x128, .f32⟩
  | 70 => ⟨S_, .f32⟩
  | 71 => ⟨S8x8x64, .f32⟩
  | 72 => ⟨S8x8x64x1, .f32⟩
  | 73 => ⟨S_, .f32⟩
  | 74 => ⟨S8x8x64x1, .f32⟩
  | 75 => ⟨S8x8x64x1, .f32⟩
  | 76 => ⟨S_, .f32⟩
  | 77 => ⟨S8x8x64x1, .f32⟩
  | 78 => ⟨S8x8x64x1, .f32⟩
  | 79 => ⟨S8x8x64x1, .f32⟩
  | 80 => ⟨S8x8x64x128, .f32⟩
  | 81 => ⟨S8x8x64x128, .f32⟩
  | 82 => ⟨S8x8x128x1, .f32⟩
  | 83 => ⟨S8x8x128x128, .f32⟩
  | 84 => ⟨S8x8x128x128, .f32⟩
  | 85 => ⟨S8x8x128x128, .f32⟩
  | 86 => ⟨S1x1x1x128, .f32⟩
  | 87 => ⟨S8x8x64x128, .f32⟩
  | 88 => ⟨S8x8x64x128, .f32⟩
  | 89 => ⟨S8x8x64x128, .f32⟩
  | 90 => ⟨S1x8x8x64x128, .f32⟩
  | 91 => ⟨S_, .i32⟩
  | 92 => ⟨S_, .i32⟩
  | 93 => ⟨S_, .i32⟩
  | 94 => ⟨S_, .i32⟩
  | 95 => ⟨S32x8x8x64x128, .f32⟩
  | 96 => ⟨S_, .i32⟩
  | 97 => ⟨S_, .i32⟩
  | 98 => ⟨S8x32x64x8x128, .f32⟩
  | 99 => ⟨S8x2048x1024, .f32⟩
  | 100 => ⟨S8x2048x1024, .f32⟩
  | 101 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_4 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_call0_cst : Ref sig .tc := ⟨.hbm, 100, rfl⟩
abbrev main_call1_call0_v0 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c : Ref sig .tc := ⟨.hbm, 114, rfl⟩
abbrev main_v90 : Ref sig .tc := ⟨.hbm, 115, rfl⟩
abbrev main_call2_v0 : Ref sig .tc := ⟨.hbm, 116, rfl⟩
abbrev main_call2_c : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_c_0 : Ref sig .tc := ⟨.hbm, 122, rfl⟩
abbrev main_call2_v5 : Ref sig .tc := ⟨.hbm, 123, rfl⟩
abbrev main_v91 : Ref sig .tc := ⟨.hbm, 124, rfl⟩
abbrev main_cst_6 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_call4_v5 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_7 : Ref sig .tc := ⟨.hbm, 152, rfl⟩
abbrev main_v107 : Ref sig .tc := ⟨.hbm, 153, rfl⟩
abbrev main_c_8 : Ref sig .tc := ⟨.hbm, 154, rfl⟩
abbrev main_v108_0 : Ref sig .tc := ⟨.hbm, 155, rfl⟩
abbrev main_v108_1 : Ref sig .tc := ⟨.hbm, 156, rfl⟩
abbrev main_v108_2 : Ref sig .tc := ⟨.hbm, 157, rfl⟩
abbrev main_v108_3 : Ref sig .tc := ⟨.hbm, 158, rfl⟩
abbrev main_v108_4 : Ref sig .tc := ⟨.hbm, 159, rfl⟩
abbrev main_v108_5 : Ref sig .tc := ⟨.hbm, 160, rfl⟩
abbrev main_v108_6 : Ref sig .tc := ⟨.hbm, 161, rfl⟩
abbrev main_v108_7 : Ref sig .tc := ⟨.hbm, 162, rfl⟩
abbrev main_v108_8 : Ref sig .tc := ⟨.hbm, 163, rfl⟩
abbrev main_while0c_c_17 : Ref sig .tc := ⟨.hbm, 164, rfl⟩
abbrev main_while0c_v113 : Ref sig .tc := ⟨.hbm, 165, rfl⟩
abbrev main_while0b_call5_c : Ref sig .tc := ⟨.hbm, 166, rfl⟩
abbrev main_while0b_call5_c_0 : Ref sig .tc := ⟨.hbm, 167, rfl⟩
abbrev main_while0b_call5_c_1 : Ref sig .tc := ⟨.hbm, 168, rfl⟩
abbrev main_while0b_call5_c_2 : Ref sig .tc := ⟨.hbm, 169, rfl⟩
abbrev main_while0b_call5_v0 : Ref sig .tc := ⟨.hbm, 170, rfl⟩
abbrev main_while0b_v113 : Ref sig .tc := ⟨.hbm, 171, rfl⟩
abbrev main_while0b_call6_c : Ref sig .tc := ⟨.hbm, 172, rfl⟩
abbrev main_while0b_call6_c_0 : Ref sig .tc := ⟨.hbm, 173, rfl⟩
abbrev main_while0b_call6_c_1 : Ref sig .tc := ⟨.hbm, 174, rfl⟩
abbrev main_while0b_call6_v0 : Ref sig .tc := ⟨.hbm, 175, rfl⟩
abbrev main_while0b_v114 : Ref sig .tc := ⟨.hbm, 176, rfl⟩
abbrev main_while0b_call7_c : Ref sig .tc := ⟨.hbm, 177, rfl⟩
abbrev main_while0b_call7_c_0 : Ref sig .tc := ⟨.hbm, 178, rfl⟩
abbrev main_while0b_call7_c_1 : Ref sig .tc := ⟨.hbm, 179, rfl⟩
abbrev main_while0b_call7_c_2 : Ref sig .tc := ⟨.hbm, 180, rfl⟩
abbrev main_while0b_call7_v0 : Ref sig .tc := ⟨.hbm, 181, rfl⟩
abbrev main_while0b_v115 : Ref sig .tc := ⟨.hbm, 182, rfl⟩
abbrev main_while0b_call8_c : Ref sig .tc := ⟨.hbm, 183, rfl⟩
abbrev main_while0b_call8_c_0 : Ref sig .tc := ⟨.hbm, 184, rfl⟩
abbrev main_while0b_call8_c_1 : Ref sig .tc := ⟨.hbm, 185, rfl⟩
abbrev main_while0b_call8_c_2 : Ref sig .tc := ⟨.hbm, 186, rfl⟩
abbrev main_while0b_call8_v0 : Ref sig .tc := ⟨.hbm, 187, rfl⟩
abbrev main_while0b_v116 : Ref sig .tc := ⟨.hbm, 188, rfl⟩
abbrev main_while0b_call9_c : Ref sig .tc := ⟨.hbm, 189, rfl⟩
abbrev main_while0b_call9_c_0 : Ref sig .tc := ⟨.hbm, 190, rfl⟩
abbrev main_while0b_call9_c_1 : Ref sig .tc := ⟨.hbm, 191, rfl⟩
abbrev main_while0b_call9_c_2 : Ref sig .tc := ⟨.hbm, 192, rfl⟩
abbrev main_while0b_call9_v0 : Ref sig .tc := ⟨.hbm, 193, rfl⟩
abbrev main_while0b_v117 : Ref sig .tc := ⟨.hbm, 194, rfl⟩
abbrev main_while0b_v118 : Ref sig .tc := ⟨.hbm, 195, rfl⟩
abbrev main_while0b_v119 : Ref sig .tc := ⟨.hbm, 196, rfl⟩
abbrev main_while0b_v120 : Ref sig .tc := ⟨.hbm, 197, rfl⟩
abbrev main_while0b_cst_17 : Ref sig .tc := ⟨.hbm, 198, rfl⟩
abbrev main_while0b_v121 : Ref sig .tc := ⟨.hbm, 199, rfl⟩
abbrev main_while0b_v122 : Ref sig .tc := ⟨.hbm, 200, rfl⟩
abbrev main_while0b_cst_18 : Ref sig .tc := ⟨.hbm, 201, rfl⟩
abbrev main_while0b_v123 : Ref sig .tc := ⟨.hbm, 202, rfl⟩
abbrev main_while0b_v124 : Ref sig .tc := ⟨.hbm, 203, rfl⟩
abbrev main_while0b_cst_19 : Ref sig .tc := ⟨.hbm, 204, rfl⟩
abbrev main_while0b_v125 : Ref sig .tc := ⟨.hbm, 205, rfl⟩
abbrev main_while0b_v126 : Ref sig .tc := ⟨.hbm, 206, rfl⟩
abbrev main_while0b_v127 : Ref sig .tc := ⟨.hbm, 207, rfl⟩
abbrev main_while0b_v128 : Ref sig .tc := ⟨.hbm, 208, rfl⟩
abbrev main_while0b_v129 : Ref sig .tc := ⟨.hbm, 209, rfl⟩
abbrev main_while0b_v130 : Ref sig .tc := ⟨.hbm, 210, rfl⟩
abbrev main_while0b_v131 : Ref sig .tc := ⟨.hbm, 211, rfl⟩
abbrev main_while0b_v132 : Ref sig .tc := ⟨.hbm, 212, rfl⟩
abbrev main_while0b_v133 : Ref sig .tc := ⟨.hbm, 213, rfl⟩
abbrev main_while0b_v134 : Ref sig .tc := ⟨.hbm, 214, rfl⟩
abbrev main_while0b_v135 : Ref sig .tc := ⟨.hbm, 215, rfl⟩
abbrev main_while0b_v136 : Ref sig .tc := ⟨.hbm, 216, rfl⟩
abbrev main_while0b_v137 : Ref sig .tc := ⟨.hbm, 217, rfl⟩
abbrev main_while0b_call10_v0 : Ref sig .tc := ⟨.hbm, 218, rfl⟩
abbrev main_while0b_call10_c : Ref sig .tc := ⟨.hbm, 219, rfl⟩
abbrev main_while0b_call10_c_0 : Ref sig .tc := ⟨.hbm, 220, rfl⟩
abbrev main_while0b_call10_c_1 : Ref sig .tc := ⟨.hbm, 221, rfl⟩
abbrev main_while0b_call10_c_2 : Ref sig .tc := ⟨.hbm, 222, rfl⟩
abbrev main_while0b_v138 : Ref sig .tc := ⟨.hbm, 223, rfl⟩
abbrev main_while0b_c_20 : Ref sig .tc := ⟨.hbm, 224, rfl⟩
abbrev main_while0b_v139 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S8x64x64 : Shape := ⟨3, ![8, 64, 64]⟩
abbrev S1024 : Shape := ⟨1, ![1024]⟩
abbrev S64x64 : Shape := ⟨2, ![64, 64]⟩
abbrev S64x64x16 : Shape := ⟨3, ![64, 64, 16]⟩
abbrev S64x16x64 : Shape := ⟨3, ![64, 16, 64]⟩
abbrev S1024x2048 : Shape := ⟨2, ![1024, 2048]⟩
abbrev S16x16 : Shape := ⟨2, ![16, 16]⟩
abbrev S_ : Shape := ⟨0, ![]⟩
abbrev S4x16x64x16 : Shape := ⟨4, ![4, 16, 64, 16]⟩
abbrev S4x16x16x64 : Shape := ⟨4, ![4, 16, 16, 64]⟩
abbrev S4x16x16x1x64 : Shape := ⟨5, ![4, 16, 16, 1, 64]⟩
abbrev S1x16x1x16x1 : Shape := ⟨5, ![1, 16, 1, 16, 1]⟩
abbrev S4x16x16x16x64 : Shape := ⟨5, ![4, 16, 16, 16, 64]⟩
abbrev S4x256x1024 : Shape := ⟨3, ![4, 256, 1024]⟩
abbrev S4x256x2048 : Shape := ⟨3, ![4, 256, 2048]⟩
abbrev S4x16x64x1x16 : Shape := ⟨5, ![4, 16, 64, 1, 16]⟩
abbrev S4x16x64x16x16 : Shape := ⟨5, ![4, 16, 64, 16, 16]⟩
abbrev S4x1024x256 : Shape := ⟨3, ![4, 1024, 256]⟩
abbrev S4x2048x256 : Shape := ⟨3, ![4, 2048, 256]⟩
abbrev S4x1024 : Shape := ⟨2, ![4, 1024]⟩
abbrev S4x1x1024 : Shape := ⟨3, ![4, 1, 1024]⟩
abbrev S4x2x1024 : Shape := ⟨3, ![4, 2, 1024]⟩
abbrev S8x4x1024 : Shape := ⟨3, ![8, 4, 1024]⟩
abbrev S8x4x1x1024 : Shape := ⟨4, ![8, 4, 1, 1024]⟩
abbrev S8x4x2x1024 : Shape := ⟨4, ![8, 4, 2, 1024]⟩
abbrev S8x8192 : Shape := ⟨2, ![8, 8192]⟩
abbrev S1x1024 : Shape := ⟨2, ![1, 1024]⟩
abbrev S8x64x1024 : Shape := ⟨3, ![8, 64, 1024]⟩
abbrev S16x512x128 : Shape := ⟨3, ![16, 512, 128]⟩
abbrev S8x512x128 : Shape := ⟨3, ![8, 512, 128]⟩
abbrev S512x1024 : Shape := ⟨2, ![512, 1024]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S512x256 : Shape := ⟨2, ![512, 256]⟩
abbrev S1x256x2048 : Shape := ⟨3, ![1, 256, 2048]⟩
abbrev S256x2048 : Shape := ⟨2, ![256, 2048]⟩
abbrev S512x2048 : Shape := ⟨2, ![512, 2048]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S1x2048x256 : Shape := ⟨3, ![1, 2048, 256]⟩
abbrev S2048x256 : Shape := ⟨2, ![2048, 256]⟩

abbrev nBuf : Space → Nat
  | .hbm => 79
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x64x64, .f32⟩
  | .hbm, ⟨2, _⟩ => ⟨S8x64x64, .f32⟩
  | .hbm, ⟨3, _⟩ => ⟨S1024, .f32⟩
  | .hbm, ⟨4, _⟩ => ⟨S64x64, .f32⟩
  | .hbm, ⟨5, _⟩ => ⟨S64x64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1024, .f32⟩
  | .hbm, ⟨11, _⟩ => ⟨S1024x2048, .f32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i1⟩
  | .hbm, ⟨18, _⟩ => ⟨S16x16, .f32⟩
  | .hbm, ⟨19, _⟩ => ⟨S4x16x64x16, .f32⟩
  | .hbm, ⟨20, _⟩ => ⟨S4x16x16x64, .f32⟩
  | .hbm, ⟨21, _⟩ => ⟨S4x16x16x1x64, .f32⟩
  | .hbm, ⟨22, _⟩ => ⟨S1x16x1x16x1, .f32⟩
  | .hbm, ⟨23, _⟩ => ⟨S4x16x16x16x64, .f32⟩
  | .hbm, ⟨24, _⟩ => ⟨S4x16x16x16x64, .f32⟩
  | .hbm, ⟨25, _⟩ => ⟨S4x16x16x16x64, .f32⟩
  | .hbm, ⟨26, _⟩ => ⟨S4x256x1024, .f32⟩
  | .hbm, ⟨27, _⟩ => ⟨S4x16x64x16, .f32⟩
  | .hbm, ⟨28, _⟩ => ⟨S4x16x16x64, .f32⟩
  | .hbm, ⟨29, _⟩ => ⟨S4x16x16x1x64, .f32⟩
  | .hbm, ⟨30, _⟩ => ⟨S1x16x1x16x1, .f32⟩
  | .hbm, ⟨31, _⟩ => ⟨S4x16x16x16x64, .f32⟩
  | .hbm, ⟨32, _⟩ => ⟨S4x16x16x16x64, .f32⟩
  | .hbm, ⟨33, _⟩ => ⟨S4x16x16x16x64, .f32⟩
  | .hbm, ⟨34, _⟩ => ⟨S4x256x1024, .f32⟩
  | .hbm, ⟨35, _⟩ => ⟨S4x256x2048, .f32⟩
  | .hbm, ⟨36, _⟩ => ⟨S4x256x2048, .bf16⟩
  | .hbm, ⟨37, _⟩ => ⟨S4x16x16x64, .f32⟩
  | .hbm, ⟨38, _⟩ => ⟨S4x16x64x16, .f32⟩
  | .hbm, ⟨39, _⟩ => ⟨S4x16x64x1x16, .f32⟩
  | .hbm, ⟨40, _⟩ => ⟨S1x16x1x16x1, .f32⟩
  | .hbm, ⟨41, _⟩ => ⟨S4x16x64x16x16, .f32⟩
  | .hbm, ⟨42, _⟩ => ⟨S4x16x64x16x16, .f32⟩
  | .hbm, ⟨43, _⟩ => ⟨S4x16x64x16x16, .f32⟩
  | .hbm, ⟨44, _⟩ => ⟨S4x1024x256, .f32⟩
  | .hbm, ⟨45, _⟩ => ⟨S4x16x16x64, .f32⟩
  | .hbm, ⟨46, _⟩ => ⟨S4x16x64x16, .f32⟩
  | .hbm, ⟨47, _⟩ => ⟨S4x16x64x1x16, .f32⟩
  | .hbm, ⟨48, _⟩ => ⟨S1x16x1x16x1, .f32⟩
  | .hbm, ⟨49, _⟩ => ⟨S4x16x64x16x16, .f32⟩
  | .hbm, ⟨50, _⟩ => ⟨S4x16x64x16x16, .f32⟩
  | .hbm, ⟨51, _⟩ => ⟨S4x16x64x16x16, .f32⟩
  | .hbm, ⟨52, _⟩ => ⟨S4x1024x256, .f32⟩
  | .hbm, ⟨53, _⟩ => ⟨S4x1024x256, .f32⟩
  | .hbm, ⟨54, _⟩ => ⟨S4x2048x256, .f32⟩
  | .hbm, ⟨55, _⟩ => ⟨S4x2048x256, .bf16⟩
  | .hbm, ⟨56, _⟩ => ⟨S4x1024, .f32⟩
  | .hbm, ⟨57, _⟩ => ⟨S4x1024, .f32⟩
  | .hbm, ⟨58, _⟩ => ⟨S4x1x1024, .f32⟩
  | .hbm, ⟨59, _⟩ => ⟨S4x1x1024, .f32⟩
  | .hbm, ⟨60, _⟩ => ⟨S4x2x1024, .f32⟩
  | .hbm, ⟨61, _⟩ => ⟨S1024x2048, .bf16⟩
  | .hbm, ⟨62, _⟩ => ⟨S8x4x1024, .f32⟩
  | .hbm, ⟨63, _⟩ => ⟨S8x4x1024, .f32⟩
  | .hbm, ⟨64, _⟩ => ⟨S8x4x1x1024, .f32⟩
  | .hbm, ⟨65, _⟩ => ⟨S8x4x1x1024, .f32⟩
  | .hbm, ⟨66, _⟩ => ⟨S8x4x2x1024, .f32⟩
  | .hbm, ⟨67, _⟩ => ⟨S8x8192, .f32⟩
  | .hbm, ⟨68, _⟩ => ⟨S1x1024, .f32⟩
  | .hbm, ⟨69, _⟩ => ⟨S1x1024, .f32⟩
  | .hbm, ⟨70, _⟩ => ⟨S8x2048x1024, .f32⟩
  | .hbm, ⟨71, _⟩ => ⟨S8x8192, .f32⟩
  | .hbm, ⟨72, _⟩ => ⟨S8x4x2x1024, .f32⟩
  | .hbm, ⟨73, _⟩ => ⟨S8x4x1x1024, .f32⟩
  | .hbm, ⟨74, _⟩ => ⟨S8x4x1024, .f32⟩
  | .hbm, ⟨75, _⟩ => ⟨S8x64x64, .f32⟩
  | .hbm, ⟨76, _⟩ => ⟨S8x4x1x1024, .f32⟩
  | .hbm, ⟨77, _⟩ => ⟨S8x4x1024, .f32⟩
  | .hbm, ⟨78, _⟩ => ⟨S8x64x64, .f32⟩
  | .local _ .vmem, ⟨0, _⟩ => ⟨S8x64x1024, .f32⟩
  | .local _ .vmem, ⟨1, _⟩ => ⟨S8x64x1024, .f32⟩
  | .local _ .vmem, ⟨2, _⟩ => ⟨S8x8192, .f32⟩
  | .local _ .vmem, ⟨3, _⟩ => ⟨S1x1024, .f32⟩
  | .local _ .vmem, ⟨4, _⟩ => ⟨S4x2x1024, .f32⟩
  | .local _ .vmem, ⟨5, _⟩ => ⟨S4x256x2048, .bf16⟩
  | .local _ .vmem, ⟨6, _⟩ => ⟨S4x2048x256, .bf16⟩
  | .local _ .vmem, ⟨7, _⟩ => ⟨S1x1024, .f32⟩
  | .local _ .vmem, ⟨8, _⟩ => ⟨S1024x2048, .bf16⟩
  | .local _ .vmem, ⟨9, _⟩ => ⟨S8x64x1024, .f32⟩
  | .local _ .vmem, ⟨10, _⟩ => ⟨S8x64x1024, .f32⟩
  | .local _ .vmem, ⟨11, _⟩ => ⟨S8x8192, .f32⟩
  | .local _ .vmem, ⟨12, _⟩ => ⟨S16x512x128, .f32⟩
  | .local _ .vmem, ⟨13, _⟩ => ⟨S8x8192, .f32⟩
  | .local _ .vmem, ⟨14, _⟩ => ⟨S8x512x128, .f32⟩
  | .local _ .vmem, ⟨15, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57_0 : Ref sig .tc := ⟨.hbm, 70, rfl⟩
abbrev main_v57_1 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_325 : BitVec 32 := 0#32
  let c64_i32 : BitVec 32 := 64#32
  let v441 : BitVec 32 := Scalar.addi c0_i32_325 c64_i32
  let c1_i32 : BitVec 32 := 1#32
  ⟨c0_i32_325, v441, c1_i32⟩
def k0_mult1 (k0_t1 : Fin k0_t1_loop.trips) : BitVec 32 :=
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  v1435
def k0_off1 (k0_t1 : Fin k0_t1_loop.trips) : Fin 3 → Nat :=
  let c0_1258 : Index := 0#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1440 : Index := Scalar.indexCast v1436
  let c0_1259 : Index := 0#32
  ![0, v1440.toNat, 0]
def k0_off2 (k0_t1 : Fin k0_t1_loop.trips) : Fin 3 → Nat :=
  let c8_1260 : Index := 8#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1447 : Index := Scalar.indexCast v1436
  let c0_1261 : Index := 0#32
  ![8, v1447.toNat, 0]
def k0_off3 (k0_t1 : Fin k0_t1_loop.trips) : Fin 3 → Nat :=
  let c1_1266 : Index := 1#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1462 : Index := Scalar.indexCast v1436
  let c0_1267 : Index := 0#32
  ![1, v1462.toNat, 0]
def k0_off4 (k0_t1 : Fin k0_t1_loop.trips) : Fin 3 → Nat :=
  let c9_1268 : Index := 9#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1469 : Index := Scalar.indexCast v1436
  let c0_1269 : Index := 0#32
  ![9, v1469.toNat, 0]
def k0_off5 (k0_t1 : Fin k0_t1_loop.trips) : Fin 3 → Nat :=
  let c2_1274 : Index := 2#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1484 : Index := Scalar.indexCast v1436
  let c0_1275 : Index := 0#32
  ![2, v1484.toNat, 0]
def k0_off6 (k0_t1 : Fin k0_t1_loop.trips) : Fin 3 → Nat :=
  let c10_1276 : Index := 10#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1491 : Index := Scalar.indexCast v1436
  let c0_1277 : Index := 0#32
  ![10, v1491.toNat, 0]
def k0_off7 (k0_t1 : Fin k0_t1_loop.trips) : Fin 3 → Nat :=
  let c3_1282 : Index := 3#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1506 : Index := Scalar.indexCast v1436
  let c0_1283 : Index := 0#32
  ![3, v1506.toNat, 0]
def k0_off8 (k0_t1 : Fin k0_t1_loop.trips) : Fin 3 → Nat :=
  let c11_1284 : Index := 11#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1513 : Index := Scalar.indexCast v1436
  let c0_1285 : Index := 0#32
  ![11, v1513.toNat, 0]
def k0_off9 (k0_t1 : Fin k0_t1_loop.trips) : Fin 3 → Nat :=
  let c4_1290 : Index := 4#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1528 : Index := Scalar.indexCast v1436
  let c0_1291 : Index := 0#32
  ![4, v1528.toNat, 0]
def k0_off10 (k0_t1 : Fin k0_t1_loop.trips) : Fin 3 → Nat :=
  let c12_1292 : Index := 12#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1535 : Index := Scalar.indexCast v1436
  let c0_1293 : Index := 0#32
  ![12, v1535.toNat, 0]
def k0_off11 (k0_t1 : Fin k0_t1_loop.trips) : Fin 3 → Nat :=
  let c5_1298 : Index := 5#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1550 : Index := Scalar.indexCast v1436
  let c0_1299 : Index := 0#32
  ![5, v1550.toNat, 0]
def k0_off12 (k0_t1 : Fin k0_t1_loop.trips) : Fin 3 → Nat :=
  let c13_1300 : Index := 13#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1557 : Index := Scalar.indexCast v1436
  let c0_1301 : Index := 0#32
  ![13, v1557.toNat, 0]
def k0_off13 (k0_t1 : Fin k0_t1_loop.trips) : Fin 3 → Nat :=
  let c6_1306 : Index := 6#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1572 : Index := Scalar.indexCast v1436
  let c0_1307 : Index := 0#32
  ![6, v1572.toNat, 0]
def k0_off14 (k0_t1 : Fin k0_t1_loop.trips) : Fin 3 → Nat :=
  let c14_1308 : Index := 14#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1579 : Index := Scalar.indexCast v1436
  let c0_1309 : Index := 0#32
  ![14, v1579.toNat, 0]
def k0_off15 (k0_t1 : Fin k0_t1_loop.trips) : Fin 3 → Nat :=
  let c7_1314 : Index := 7#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1594 : Index := Scalar.indexCast v1436
  let c0_1315 : Index := 0#32
  ![7, v1594.toNat, 0]
def k0_off16 (k0_t1 : Fin k0_t1_loop.trips) : Fin 3 → Nat :=
  let c15_1316 : Index := 15#32
  let c0_i32_325 : BitVec 32 := 0#32
  let c1_i32 : BitVec 32 := 1#32
  let arg15 : BitVec 32 := Scf.iv c0_i32_325 c1_i32 k0_t1
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1601 : Index := Scalar.indexCast v1436
  let c0_1317 : Index := 0#32
  ![15, v1601.toNat, 0]
@[reducible] def k0_t2_loop : Scf.Loop 32 :=
  let c0_i32_533 : BitVec 32 := 0#32
  let c64_i32_534 : BitVec 32 := 64#32
  let v684 : BitVec 32 := Scalar.addi c0_i32_533 c64_i32_534
  let c1_i32_535 : BitVec 32 := 1#32
  ⟨c0_i32_533, v684, c1_i32_535⟩
def k0_mult2 (k0_t2 : Fin k0_t2_loop.trips) : BitVec 32 :=
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  v1435
def k0_off17 (k0_t2 : Fin k0_t2_loop.trips) : Fin 3 → Nat :=
  let c0_1258 : Index := 0#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1440 : Index := Scalar.indexCast v1436
  let c0_1259 : Index := 0#32
  ![0, v1440.toNat, 0]
def k0_off18 (k0_t2 : Fin k0_t2_loop.trips) : Fin 3 → Nat :=
  let c8_1260 : Index := 8#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1447 : Index := Scalar.indexCast v1436
  let c0_1261 : Index := 0#32
  ![8, v1447.toNat, 0]
def k0_off19 (k0_t2 : Fin k0_t2_loop.trips) : Fin 3 → Nat :=
  let c1_1266 : Index := 1#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1462 : Index := Scalar.indexCast v1436
  let c0_1267 : Index := 0#32
  ![1, v1462.toNat, 0]
def k0_off20 (k0_t2 : Fin k0_t2_loop.trips) : Fin 3 → Nat :=
  let c9_1268 : Index := 9#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1469 : Index := Scalar.indexCast v1436
  let c0_1269 : Index := 0#32
  ![9, v1469.toNat, 0]
def k0_off21 (k0_t2 : Fin k0_t2_loop.trips) : Fin 3 → Nat :=
  let c2_1274 : Index := 2#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1484 : Index := Scalar.indexCast v1436
  let c0_1275 : Index := 0#32
  ![2, v1484.toNat, 0]
def k0_off22 (k0_t2 : Fin k0_t2_loop.trips) : Fin 3 → Nat :=
  let c10_1276 : Index := 10#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1491 : Index := Scalar.indexCast v1436
  let c0_1277 : Index := 0#32
  ![10, v1491.toNat, 0]
def k0_off23 (k0_t2 : Fin k0_t2_loop.trips) : Fin 3 → Nat :=
  let c3_1282 : Index := 3#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1506 : Index := Scalar.indexCast v1436
  let c0_1283 : Index := 0#32
  ![3, v1506.toNat, 0]
def k0_off24 (k0_t2 : Fin k0_t2_loop.trips) : Fin 3 → Nat :=
  let c11_1284 : Index := 11#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1513 : Index := Scalar.indexCast v1436
  let c0_1285 : Index := 0#32
  ![11, v1513.toNat, 0]
def k0_off25 (k0_t2 : Fin k0_t2_loop.trips) : Fin 3 → Nat :=
  let c4_1290 : Index := 4#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1528 : Index := Scalar.indexCast v1436
  let c0_1291 : Index := 0#32
  ![4, v1528.toNat, 0]
def k0_off26 (k0_t2 : Fin k0_t2_loop.trips) : Fin 3 → Nat :=
  let c12_1292 : Index := 12#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1535 : Index := Scalar.indexCast v1436
  let c0_1293 : Index := 0#32
  ![12, v1535.toNat, 0]
def k0_off27 (k0_t2 : Fin k0_t2_loop.trips) : Fin 3 → Nat :=
  let c5_1298 : Index := 5#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1550 : Index := Scalar.indexCast v1436
  let c0_1299 : Index := 0#32
  ![5, v1550.toNat, 0]
def k0_off28 (k0_t2 : Fin k0_t2_loop.trips) : Fin 3 → Nat :=
  let c13_1300 : Index := 13#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1557 : Index := Scalar.indexCast v1436
  let c0_1301 : Index := 0#32
  ![13, v1557.toNat, 0]
def k0_off29 (k0_t2 : Fin k0_t2_loop.trips) : Fin 3 → Nat :=
  let c6_1306 : Index := 6#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1572 : Index := Scalar.indexCast v1436
  let c0_1307 : Index := 0#32
  ![6, v1572.toNat, 0]
def k0_off30 (k0_t2 : Fin k0_t2_loop.trips) : Fin 3 → Nat :=
  let c14_1308 : Index := 14#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1579 : Index := Scalar.indexCast v1436
  let c0_1309 : Index := 0#32
  ![14, v1579.toNat, 0]
def k0_off31 (k0_t2 : Fin k0_t2_loop.trips) : Fin 3 → Nat :=
  let c7_1314 : Index := 7#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1594 : Index := Scalar.indexCast v1436
  let c0_1315 : Index := 0#32
  ![7, v1594.toNat, 0]
def k0_off32 (k0_t2 : Fin k0_t2_loop.trips) : Fin 3 → Nat :=
  let c15_1316 : Index := 15#32
  let c0_i32_533 : BitVec 32 := 0#32
  let c1_i32_535 : BitVec 32 := 1#32
  let arg15 : BitVec 32 := Scf.iv c0_i32_533 c1_i32_535 k0_t2
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1601 : Index := Scalar.indexCast v1436
  let c0_1317 : Index := 0#32
  ![15, v1601.toNat, 0]
@[reducible] def k0_t3_loop : Scf.Loop 32 :=
  let c0_i32_743 : BitVec 32 := 0#32
  let c64_i32_744 : BitVec 32 := 64#32
  let v927 : BitVec 32 := Scalar.addi c0_i32_743 c64_i32_744
  let c1_i32_745 : BitVec 32 := 1#32
  ⟨c0_i32_743, v927, c1_i32_745⟩
def k0_mult3 (k0_t3 : Fin k0_t3_loop.trips) : BitVec 32 :=
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  v1435
def k0_off33 (k0_t3 : Fin k0_t3_loop.trips) : Fin 3 → Nat :=
  let c0_1258 : Index := 0#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1440 : Index := Scalar.indexCast v1436
  let c0_1259 : Index := 0#32
  ![0, v1440.toNat, 0]
def k0_off34 (k0_t3 : Fin k0_t3_loop.trips) : Fin 3 → Nat :=
  let c8_1260 : Index := 8#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1447 : Index := Scalar.indexCast v1436
  let c0_1261 : Index := 0#32
  ![8, v1447.toNat, 0]
def k0_off35 (k0_t3 : Fin k0_t3_loop.trips) : Fin 3 → Nat :=
  let c1_1266 : Index := 1#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1462 : Index := Scalar.indexCast v1436
  let c0_1267 : Index := 0#32
  ![1, v1462.toNat, 0]
def k0_off36 (k0_t3 : Fin k0_t3_loop.trips) : Fin 3 → Nat :=
  let c9_1268 : Index := 9#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1469 : Index := Scalar.indexCast v1436
  let c0_1269 : Index := 0#32
  ![9, v1469.toNat, 0]
def k0_off37 (k0_t3 : Fin k0_t3_loop.trips) : Fin 3 → Nat :=
  let c2_1274 : Index := 2#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1484 : Index := Scalar.indexCast v1436
  let c0_1275 : Index := 0#32
  ![2, v1484.toNat, 0]
def k0_off38 (k0_t3 : Fin k0_t3_loop.trips) : Fin 3 → Nat :=
  let c10_1276 : Index := 10#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1491 : Index := Scalar.indexCast v1436
  let c0_1277 : Index := 0#32
  ![10, v1491.toNat, 0]
def k0_off39 (k0_t3 : Fin k0_t3_loop.trips) : Fin 3 → Nat :=
  let c3_1282 : Index := 3#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1506 : Index := Scalar.indexCast v1436
  let c0_1283 : Index := 0#32
  ![3, v1506.toNat, 0]
def k0_off40 (k0_t3 : Fin k0_t3_loop.trips) : Fin 3 → Nat :=
  let c11_1284 : Index := 11#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1513 : Index := Scalar.indexCast v1436
  let c0_1285 : Index := 0#32
  ![11, v1513.toNat, 0]
def k0_off41 (k0_t3 : Fin k0_t3_loop.trips) : Fin 3 → Nat :=
  let c4_1290 : Index := 4#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1528 : Index := Scalar.indexCast v1436
  let c0_1291 : Index := 0#32
  ![4, v1528.toNat, 0]
def k0_off42 (k0_t3 : Fin k0_t3_loop.trips) : Fin 3 → Nat :=
  let c12_1292 : Index := 12#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1535 : Index := Scalar.indexCast v1436
  let c0_1293 : Index := 0#32
  ![12, v1535.toNat, 0]
def k0_off43 (k0_t3 : Fin k0_t3_loop.trips) : Fin 3 → Nat :=
  let c5_1298 : Index := 5#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1550 : Index := Scalar.indexCast v1436
  let c0_1299 : Index := 0#32
  ![5, v1550.toNat, 0]
def k0_off44 (k0_t3 : Fin k0_t3_loop.trips) : Fin 3 → Nat :=
  let c13_1300 : Index := 13#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1557 : Index := Scalar.indexCast v1436
  let c0_1301 : Index := 0#32
  ![13, v1557.toNat, 0]
def k0_off45 (k0_t3 : Fin k0_t3_loop.trips) : Fin 3 → Nat :=
  let c6_1306 : Index := 6#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1572 : Index := Scalar.indexCast v1436
  let c0_1307 : Index := 0#32
  ![6, v1572.toNat, 0]
def k0_off46 (k0_t3 : Fin k0_t3_loop.trips) : Fin 3 → Nat :=
  let c14_1308 : Index := 14#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1579 : Index := Scalar.indexCast v1436
  let c0_1309 : Index := 0#32
  ![14, v1579.toNat, 0]
def k0_off47 (k0_t3 : Fin k0_t3_loop.trips) : Fin 3 → Nat :=
  let c7_1314 : Index := 7#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1594 : Index := Scalar.indexCast v1436
  let c0_1315 : Index := 0#32
  ![7, v1594.toNat, 0]
def k0_off48 (k0_t3 : Fin k0_t3_loop.trips) : Fin 3 → Nat :=
  let c15_1316 : Index := 15#32
  let c0_i32_743 : BitVec 32 := 0#32
  let c1_i32_745 : BitVec 32 := 1#32
  let arg15 : BitVec 32 := Scf.iv c0_i32_743 c1_i32_745 k0_t3
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1601 : Index := Scalar.indexCast v1436
  let c0_1317 : Index := 0#32
  ![15, v1601.toNat, 0]
@[reducible] def k0_t4_loop : Scf.Loop 32 :=
  let c0_i32_953 : BitVec 32 := 0#32
  let c64_i32_954 : BitVec 32 := 64#32
  let v1170 : BitVec 32 := Scalar.addi c0_i32_953 c64_i32_954
  let c1_i32_955 : BitVec 32 := 1#32
  ⟨c0_i32_953, v1170, c1_i32_955⟩
def k0_mult4 (k0_t4 : Fin k0_t4_loop.trips) : BitVec 32 :=
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  v1435
def k0_off49 (k0_t4 : Fin k0_t4_loop.trips) : Fin 3 → Nat :=
  let c0_1258 : Index := 0#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1440 : Index := Scalar.indexCast v1436
  let c0_1259 : Index := 0#32
  ![0, v1440.toNat, 0]
def k0_off50 (k0_t4 : Fin k0_t4_loop.trips) : Fin 3 → Nat :=
  let c8_1260 : Index := 8#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1447 : Index := Scalar.indexCast v1436
  let c0_1261 : Index := 0#32
  ![8, v1447.toNat, 0]
def k0_off51 (k0_t4 : Fin k0_t4_loop.trips) : Fin 3 → Nat :=
  let c1_1266 : Index := 1#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1462 : Index := Scalar.indexCast v1436
  let c0_1267 : Index := 0#32
  ![1, v1462.toNat, 0]
def k0_off52 (k0_t4 : Fin k0_t4_loop.trips) : Fin 3 → Nat :=
  let c9_1268 : Index := 9#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1469 : Index := Scalar.indexCast v1436
  let c0_1269 : Index := 0#32
  ![9, v1469.toNat, 0]
def k0_off53 (k0_t4 : Fin k0_t4_loop.trips) : Fin 3 → Nat :=
  let c2_1274 : Index := 2#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1484 : Index := Scalar.indexCast v1436
  let c0_1275 : Index := 0#32
  ![2, v1484.toNat, 0]
def k0_off54 (k0_t4 : Fin k0_t4_loop.trips) : Fin 3 → Nat :=
  let c10_1276 : Index := 10#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1491 : Index := Scalar.indexCast v1436
  let c0_1277 : Index := 0#32
  ![10, v1491.toNat, 0]
def k0_off55 (k0_t4 : Fin k0_t4_loop.trips) : Fin 3 → Nat :=
  let c3_1282 : Index := 3#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1506 : Index := Scalar.indexCast v1436
  let c0_1283 : Index := 0#32
  ![3, v1506.toNat, 0]
def k0_off56 (k0_t4 : Fin k0_t4_loop.trips) : Fin 3 → Nat :=
  let c11_1284 : Index := 11#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1513 : Index := Scalar.indexCast v1436
  let c0_1285 : Index := 0#32
  ![11, v1513.toNat, 0]
def k0_off57 (k0_t4 : Fin k0_t4_loop.trips) : Fin 3 → Nat :=
  let c4_1290 : Index := 4#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1528 : Index := Scalar.indexCast v1436
  let c0_1291 : Index := 0#32
  ![4, v1528.toNat, 0]
def k0_off58 (k0_t4 : Fin k0_t4_loop.trips) : Fin 3 → Nat :=
  let c12_1292 : Index := 12#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1535 : Index := Scalar.indexCast v1436
  let c0_1293 : Index := 0#32
  ![12, v1535.toNat, 0]
def k0_off59 (k0_t4 : Fin k0_t4_loop.trips) : Fin 3 → Nat :=
  let c5_1298 : Index := 5#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1550 : Index := Scalar.indexCast v1436
  let c0_1299 : Index := 0#32
  ![5, v1550.toNat, 0]
def k0_off60 (k0_t4 : Fin k0_t4_loop.trips) : Fin 3 → Nat :=
  let c13_1300 : Index := 13#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1557 : Index := Scalar.indexCast v1436
  let c0_1301 : Index := 0#32
  ![13, v1557.toNat, 0]
def k0_off61 (k0_t4 : Fin k0_t4_loop.trips) : Fin 3 → Nat :=
  let c6_1306 : Index := 6#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1572 : Index := Scalar.indexCast v1436
  let c0_1307 : Index := 0#32
  ![6, v1572.toNat, 0]
def k0_off62 (k0_t4 : Fin k0_t4_loop.trips) : Fin 3 → Nat :=
  let c14_1308 : Index := 14#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1579 : Index := Scalar.indexCast v1436
  let c0_1309 : Index := 0#32
  ![14, v1579.toNat, 0]
def k0_off63 (k0_t4 : Fin k0_t4_loop.trips) : Fin 3 → Nat :=
  let c7_1314 : Index := 7#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1594 : Index := Scalar.indexCast v1436
  let c0_1315 : Index := 0#32
  ![7, v1594.toNat, 0]
def k0_off64 (k0_t4 : Fin k0_t4_loop.trips) : Fin 3 → Nat :=
  let c15_1316 : Index := 15#32
  let c0_i32_953 : BitVec 32 := 0#32
  let c1_i32_955 : BitVec 32 := 1#32
  let arg15 : BitVec 32 := Scf.iv c0_i32_953 c1_i32_955 k0_t4
  let c8_i32 : BitVec 32 := 8#32
  let v1434 : BitVec 32 := Scalar.muli arg15 c8_i32
  let c0_i32_1257 : BitVec 32 := 0#32
  let v1435 : BitVec 32 := Scalar.addi v1434 c0_i32_1257
  let v1436 : BitVec 32 := v1435
  let v1601 : Index := Scalar.indexCast v1436
  let c0_1317 : Index := 0#32
  ![15, v1601.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8x2048x1024 : Shape := ⟨3, ![8, 2048, 1024]⟩
abbrev S8x64x64 : Shape := ⟨3, ![8, 64, 64]⟩
abbrev S1024 : Shape := ⟨1, ![1024]⟩
abbrev S64x64 : Shape := ⟨2, ![64, 64]⟩
abbrev S64x64x16 : Shape := ⟨3, ![64, 64, 16]⟩
abbrev S64x16x64 : Shape := ⟨3, ![64, 16, 64]⟩
abbrev S1024x2048 : Shape := ⟨2, ![1024, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x64x16 : Shape := ⟨4, ![8, 2048, 64, 16]⟩
abbrev S64x64x8x2048 : Shape := ⟨4, ![64, 64, 8, 2048]⟩
abbrev S2048x8x64x64 : Shape := ⟨4, ![2048, 8, 64, 64]⟩
abbrev S2048x8x1024 : Shape := ⟨3, ![2048, 8, 1024]⟩
abbrev S1x8x64x64 : Shape := ⟨4, ![1, 8, 64, 64]⟩
abbrev S1x8x1024 : Shape := ⟨3, ![1, 8, 1024]⟩
abbrev S8x1024 : Shape := ⟨2, ![8, 1024]⟩
abbrev S1x64x64 : Shape := ⟨3, ![1, 64, 64]⟩
abbrev S64x16x8 : Shape := ⟨3, ![64, 16, 8]⟩
abbrev S8x64x16 : Shape := ⟨3, ![8, 64, 16]⟩
abbrev S8x2048x2048 : Shape := ⟨3, ![8, 2048, 2048]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x64x64, .f32⟩
  | .hbm, ⟨2, _⟩ => ⟨S8x64x64, .f32⟩
  | .hbm, ⟨3, _⟩ => ⟨S1024, .f32⟩
  | .hbm, ⟨4, _⟩ => ⟨S64x64, .f32⟩
  | .hbm, ⟨5, _⟩ => ⟨S64x64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1024, .f32⟩
  | .hbm, ⟨11, _⟩ => ⟨S1024x2048, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x64x16, .f32⟩
  | .hbm, ⟨29, _⟩ => ⟨S64x64x8x2048, .f32⟩
  | .hbm, ⟨30, _⟩ => ⟨S2048x8x64x64, .f32⟩
  | .hbm, ⟨31, _⟩ => ⟨S64x64x8x2048, .f32⟩
  | .hbm, ⟨32, _⟩ => ⟨S2048x8x64x64, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S2048x8x1024, .f32⟩
  | .hbm, ⟨37, _⟩ => ⟨S_, .f32⟩
  | .hbm, ⟨38, _⟩ => ⟨S2048x8x1024, .f32⟩
  | .hbm, ⟨39, _⟩ => ⟨S_, .i32⟩
  | .hbm, ⟨40, _⟩ => ⟨S2048x8x64x64, .f32⟩
  | .hbm, ⟨41, _⟩ => ⟨S2048x8x64x64, .f32⟩
  | .hbm, ⟨42, _⟩ => ⟨S2048x8x1024, .f32⟩
  | .hbm, ⟨43, _⟩ => ⟨S64x64, .f32⟩
  | .hbm, ⟨44, _⟩ => ⟨S64x64, .f32⟩
  | .hbm, ⟨45, _⟩ => ⟨S64x16x64, .f32⟩
  | .hbm, ⟨46, _⟩ => ⟨S64x16x64, .f32⟩
  | .hbm, ⟨47, _⟩ => ⟨S_, .i32⟩
  | .hbm, ⟨48, _⟩ => ⟨S8x64x64, .f32⟩
  | .hbm, ⟨49, _⟩ => ⟨S8x64x64, .f32⟩
  | .hbm, ⟨50, _⟩ => ⟨S2048x8x1024, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x64x64, .f32⟩
  | .hbm, ⟨57, _⟩ => ⟨S8x64x64, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x64x64, .f32⟩
  | .hbm, ⟨62, _⟩ => ⟨S8x64x64, .f32⟩
  | .hbm, ⟨63, _⟩ => ⟨S_, .i32⟩
  | .hbm, ⟨64, _⟩ => ⟨S_, .i32⟩
  | .hbm, ⟨65, _⟩ => ⟨S1x8x1024, .f32⟩
  | .hbm, ⟨66, _⟩ => ⟨S8x1024, .f32⟩
  | .hbm, ⟨67, _⟩ => ⟨S1x64x64, .f32⟩
  | .hbm, ⟨68, _⟩ => ⟨S8x64x64, .f32⟩
  | .hbm, ⟨69, _⟩ => ⟨S8x64x64, .f32⟩
  | .hbm, ⟨70, _⟩ => ⟨S1x64x64, .f32⟩
  | .hbm, ⟨71, _⟩ => ⟨S8x64x64, .f32⟩
  | .hbm, ⟨72, _⟩ => ⟨S8x64x64, .f32⟩
  | .hbm, ⟨73, _⟩ => ⟨S8x64x64, .f32⟩
  | .hbm, ⟨74, _⟩ => ⟨S8x64x64, .f32⟩
  | .hbm, ⟨75, _⟩ => ⟨S1x64x64, .f32⟩
  | .hbm, ⟨76, _⟩ => ⟨S8x64x64, .f32⟩
  | .hbm, ⟨77, _⟩ => ⟨S8x64x64, .f32⟩
  | .hbm, ⟨78, _⟩ => ⟨S1x64x64, .f32⟩
  | .hbm, ⟨79, _⟩ => ⟨S8x64x64, .f32⟩
  | .hbm, ⟨80, _⟩ => ⟨S8x64x64, .f32⟩
  | .hbm, ⟨81, _⟩ => ⟨S8x64x64, .f32⟩
  | .hbm, ⟨82, _⟩ => ⟨S8x64x64, .f32⟩
  | .hbm, ⟨83, _⟩ => ⟨S64x16x8, .f32⟩
  | .hbm, ⟨84, _⟩ => ⟨S8x64x16, .f32⟩
  | .hbm, ⟨85, _⟩ => ⟨S64x16x64, .f32⟩
  | .hbm, ⟨86, _⟩ => ⟨S64x16x8, .f32⟩
  | .hbm, ⟨87, _⟩ => ⟨S8x64x16, .f32⟩
  | .hbm, ⟨88, _⟩ => ⟨S8x64x16, .f32⟩
  | .hbm, ⟨89, _⟩ => ⟨S8x1024, .f32⟩
  | .hbm, ⟨90, _⟩ => ⟨S8x1024, .f32⟩
  | .hbm, ⟨91, _⟩ => ⟨S1x8x1024, .f32⟩
  | .hbm, ⟨92, _⟩ => ⟨S_, .i32⟩
  | .hbm, ⟨93, _⟩ => ⟨S_, .i32⟩
  | .hbm, ⟨94, _⟩ => ⟨S2048x8x1024, .f32⟩
  | .hbm, ⟨95, _⟩ => ⟨S_, .i32⟩
  | .hbm, ⟨96, _⟩ => ⟨S_, .i32⟩
  | .hbm, ⟨97, _⟩ => ⟨S8x2048x1024, .f32⟩
  | .hbm, ⟨98, _⟩ => ⟨S_, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S_, .f32⟩
  | .hbm, ⟨106, _⟩ => ⟨S8x2048x1024, .f32⟩
  | .hbm, ⟨107, _⟩ => ⟨S8x2048x1024, .f32⟩
  | .hbm, ⟨108, _⟩ => ⟨S8x2048x1024, .f32⟩
  | .hbm, ⟨109, _⟩ => ⟨S8x2048x2048, .f32⟩
  | .hbm, ⟨110, _⟩ => ⟨S8x2048x1024, .f32⟩
  | .hbm, ⟨111, _⟩ => ⟨S8x2048x1024, .f32⟩
  | .hbm, ⟨112, _⟩ => ⟨S8x2048x1024, .f32⟩
  | .hbm, ⟨113, _⟩ => ⟨S8x2048x1024, .f32⟩
  | .hbm, ⟨114, _⟩ => ⟨S_, .f32⟩
  | .hbm, ⟨115, _⟩ => ⟨S8x2048x1024, .f32⟩
  | .hbm, ⟨116, _⟩ => ⟨S8x2048x1024, .f32⟩
  | .hbm, ⟨117, _⟩ => ⟨S_, .f32⟩
  | .hbm, ⟨118, _⟩ => ⟨S8x2048x1024, .f32⟩
  | .hbm, ⟨119, _⟩ => ⟨S8x2048x1024, .f32⟩
  | .hbm, ⟨120, _⟩ => ⟨S8x2048x1024, .f32⟩
  | .hbm, ⟨121, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_c : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev main_v23_5 : Ref sig .tc := ⟨.hbm, 45, rfl⟩
abbrev main_v23_6 : Ref sig .tc := ⟨.hbm, 46, rfl⟩
abbrev main_v23_7 : Ref sig .tc := ⟨.hbm, 47, rfl⟩
abbrev main_v23_8 : Ref sig .tc := ⟨.hbm, 48, rfl⟩
abbrev main_v23_9 : Ref sig .tc := ⟨.hbm, 49, rfl⟩
abbrev main_v23_10 : Ref sig .tc := ⟨.hbm, 50, rfl⟩
abbrev main_while0c_c_18 : Ref sig .tc := ⟨.hbm, 51, rfl⟩
abbrev main_while0c_v44 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_c_1 : Ref sig .tc := ⟨.hbm, 55, rfl⟩
abbrev main_while0b_call0_v0 : Ref sig .tc := ⟨.hbm, 56, rfl⟩
abbrev main_while0b_v44 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_c_1 : Ref sig .tc := ⟨.hbm, 60, rfl⟩
abbrev main_while0b_call1_v0 : Ref sig .tc := ⟨.hbm, 61, rfl⟩
abbrev main_while0b_v45 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_v0 : Ref sig .tc := ⟨.hbm, 65, rfl⟩
abbrev main_while0b_v46 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_v50 : Ref sig .tc := ⟨.hbm, 70, rfl⟩
abbrev main_while0b_v51 : Ref sig .tc := ⟨.hbm, 71, rfl⟩
abbrev main_while0b_v52 : Ref sig .tc := ⟨.hbm, 72, rfl⟩
abbrev main_while0b_v53 : Ref sig .tc := ⟨.hbm, 73, rfl⟩
abbrev main_while0b_v54 : Ref sig .tc := ⟨.hbm, 74, rfl⟩
abbrev main_while0b_v55 : Ref sig .tc := ⟨.hbm, 75, rfl⟩
abbrev main_while0b_v56 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_call3_v0 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_v71 : Ref sig .tc := ⟨.hbm, 94, rfl⟩
abbrev main_while0b_c_18 : Ref sig .tc := ⟨.hbm, 95, rfl⟩
abbrev main_while0b_v72 : Ref sig .tc := ⟨.hbm, 96, rfl⟩
abbrev main_v24 : Ref sig .tc := ⟨.hbm, 97, rfl⟩
abbrev main_cst_3 : Ref sig .tc := ⟨.hbm, 98, rfl⟩
abbrev main_v25 : Ref sig .tc := ⟨.hbm, 99, rfl⟩
abbrev main_v26 : Ref sig .tc := ⟨.hbm, 100, rfl⟩
abbrev main_cst_4 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_cst_5 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_cst_6 : Ref sig .tc := ⟨.hbm, 114, rfl⟩
abbrev main_v38 : Ref sig .tc := ⟨.hbm, 115, rfl⟩
abbrev main_v39 : Ref sig .tc := ⟨.hbm, 116, rfl⟩
abbrev main_cst_7 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩

abbrev nD : Nat := 1
abbrev τ : Topo := Topo.v7x

variable {F : FTy → Type} [FloatOps F]

abbrev main_while0_count : Scf.Loop 32 := ⟨0#32, 2048#32, 1#32⟩
-- ==== Proof.RefLoop.lean ====
/- The reference's loop over the chunks: what the memory holds before each trip is a state of `Step`, so the reference's two
   results are read off the state reached after thirty-two steps. -/
module

public import proofs.«01_k».proof.Proof.Gen.ReferenceIdeal.Run
public import proofs.«01_k».proof.Proof.Gen.ReferenceIdeal.Step
public import Idealize.ShloMosaic.PureOps.Ideal

@[expose] public section

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The buffers the loop carries hold the state `s`, and its counter holds the number `n`. -/
structure Carries (V : Valuation τ sig (Elt Ideal)) (s : State Ideal) (n : ℕ) : Prop where
  qi : V (Proc.devRef .tc main_v108_0) = s.main_v108_0
  dec : V (Proc.devRef .tc main_v108_1) = s.main_v108_1
  kv : V (Proc.devRef .tc main_v108_2) = s.main_v108_2
  oi : V (Proc.devRef .tc main_v108_3) = s.main_v108_3
  gate : V (Proc.devRef .tc main_v108_4) = s.main_v108_4
  nw : V (Proc.devRef .tc main_v108_5) = s.main_v108_5
  num : V (Proc.devRef .tc main_v108_6) = constantI S_ 32 (BitVec.ofNat 32 n)
  st : V (Proc.devRef .tc main_v108_7) = s.main_v108_7
  outs : V (Proc.devRef .tc main_v108_8) = s.main_v108_8

variable {V : Valuation τ sig (Elt Ideal)} {s : State Ideal} {n : ℕ}

theorem next_state (h : Carries V s n) : step_main_v108_7 V = (step n s).main_v108_7 := by
  unfold step_main_v108_7
  rw [h.dec, h.num, h.st, h.kv]
  rfl

theorem next_out (h : Carries V s n) : step_main_v108_8 V = (step n s).main_v108_8 := by
  unfold step_main_v108_8 res_main_while0b_v119
  rw [h.oi, h.num, h.qi, h.st, h.nw, h.gate, h.outs]
  rfl

theorem next_num (h : Carries V s n) : step_main_v108_6 V = constantI S_ 32 (BitVec.ofNat 32 (n + 1)) := by
  unfold step_main_v108_6
  rw [h.num]
  funext i
  exact (BitVec.ofNat_add n 1).symm

/-- One trip takes a state to the next one. -/
theorem Carries.next (h : Carries V s n) : Carries (STEP V) (step n s) (n + 1) :=
  ⟨(STEP_main_v108_0 V).trans h.qi, (STEP_main_v108_1 V).trans h.dec, (STEP_main_v108_2 V).trans h.kv,
    (STEP_main_v108_3 V).trans h.oi, (STEP_main_v108_4 V).trans h.gate, (STEP_main_v108_5 V).trans h.nw,
    (STEP_main_v108_6 V).trans (next_num h), (STEP_main_v108_7 V).trans (next_state h),
    (STEP_main_v108_8 V).trans (next_out h)⟩

variable (m : (ℓ : Loc nD τ sig) → Buf (Elt Ideal) ℓ) (c : Dev nD)

/-- The state the loop starts from. -/
abbrev start : State Ideal :=
  init (m ((c.tc : Thread nD τ).loc main_arg1)) (m ((c.tc : Thread nD τ).loc main_arg5)) (m ((c.tc : Thread nD τ).loc main_arg0)) (m ((c.tc : Thread nD τ).loc main_arg2)) (m ((c.tc : Thread nD τ).loc main_arg3)) (m ((c.tc : Thread nD τ).loc main_arg4))

/-- The state after `n` trips. -/
def stateAt : ℕ → State Ideal
  | 0 => start m c
  | n + 1 => step n (stateAt n)

set_option maxRecDepth 65536 in
set_option maxHeartbeats 2000000 in
theorem enters : Carries (entryContents preI m c) (start m c) 0 := by
  constructor <;> (simp only [entryContents, afterL_cons, afterL_nil]; after_reads_simp) <;> rfl

theorem carries_at : ∀ n, Carries (STEP^[n] (entryContents preI m c)) (stateAt m c n) n
  | 0 => enters m c
  | n + 1 => by
    rw [Function.iterate_succ_apply']
    exact (carries_at n).next

theorem out_of (h : Carries V s n) : out_main_v112 V
    = Step.R_main_v112 s (V (Proc.devRef .tc main_arg0)) (V (Proc.devRef .tc main_arg6)) := by
  unfold out_main_v112
  rw [h.outs]
  rfl

/-- The reference's results: the output of the last state and its recurrent state; the arguments are unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v112)
        = Step.R_main_v112 (stateAt m c 32) (m ((c.tc : Thread nD τ).loc main_arg0)) (m ((c.tc : Thread nD τ).loc main_arg6))
      ∧ r.2.mem ((c.tc : Thread nD τ).loc main_v108_7) = (stateAt m c 32).main_v108_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    have hk := carries_at m c 32
    refine ⟨(h c).1.trans ((out_of hk).trans ?_), (h c).2.1.trans hk.st, (h c).2.2⟩
    rw [iter_main_arg0 m c 32, iter_main_arg6 m c 32]) (Value.run m ρ)

end Cert.RefLoop

end
-- ==== Proof.Tile.lean ====
/- What one grid point of the kernel computes, as functions of the blocks it reads.

A point reads 256 rows of the input and handles them as four groups of 64 rows.  For each group it
goes over eight heads; a head has a 128 by 128 state tile, kept transposed in the scratch buffer.
`Blocks` names the blocks.  `headOut`, `headSt` and `headY` are one head's output, next state and
normalised, gated output.  `steps` is the list of stores into the state buffer, each one reading
what the stores before it left. -/
module

public import proofs.«01_k».proof.Proof.RefLoop
public import proofs.«01_k».proof.Proof.Gen.KernelIdeal.Value
public import Idealize.ShloMosaic.Lib.Pipeline.ReadBack

@[expose] public section

noncomputable section

namespace Cert.Tile

open Cert.KernelIdeal Cert.KernelIdeal.Gen
open Idealize.ShloMosaic Idealize.SL.Sem

variable {F : FTy → Type} [FloatOps F]

/-- The blocks a point reads: input rows, norm weights, input projection, lower bounds, head norm
weights, output projection. -/
structure Blocks (F : FTy → Type) where
  x : Vec F S1x256x1024 .f32
  nw : Vec F S1x1024 .f32
  win : Vec F S1024x4096 .bf16
  lb : Vec F S1x1024 .f32
  hnw : Vec F S1x128 .f32
  wout : Vec F S1024x1024 .bf16

/-- The rows of a group stay inside the 256 rows. -/
theorem sub_ok (r : ℕ) : S256x1024.Slices ![64 * (r % 4), 0] S64x1024 :=
  ⟨rfl, fun a => by
    have := Nat.mod_lt r (show 0 < 4 by decide)
    match a with
    | ⟨0, _⟩ => show 64 * (r % 4) + 64 ≤ 256; omega
    | ⟨1, _⟩ => show 0 + 1024 ≤ 1024; omega⟩

/-- The columns of a head stay inside the 1024 columns. -/
theorem cut_ok (h : ℕ) : S64x1024.Slices ![0, 128 * (h % 8)] S64x128 :=
  ⟨rfl, fun a => by
    have := Nat.mod_lt h (show 0 < 8 by decide)
    match a with
    | ⟨0, _⟩ => show 0 + 64 ≤ 64; omega
    | ⟨1, _⟩ => show 128 * (h % 8) + 128 ≤ 1024; omega⟩

/-- So do they in the last row of a group. -/
theorem last_ok (h : ℕ) : S64x1024.Slices ![63, 128 * (h % 8)] S1x128 :=
  ⟨rfl, fun a => by
    have := Nat.mod_lt h (show 0 < 8 by decide)
    match a with
    | ⟨0, _⟩ => show 63 + 1 ≤ 64; omega
    | ⟨1, _⟩ => show 128 * (h % 8) + 128 ≤ 1024; omega⟩

/-- A head's tile stays inside the state buffer. -/
theorem tile_ok (h : ℕ) : ∀ a, (![h % 8, 0, 0] : Fin 3 → ℕ) a + S1x128x128.size a ≤ S8x128x128.size a := fun a => by
  have := Nat.mod_lt h (show 0 < 8 by decide)
  match a with
  | ⟨0, _⟩ => show h % 8 + 1 ≤ 8; omega
  | ⟨1, _⟩ => show 0 + 128 ≤ 128; omega
  | ⟨2, _⟩ => show 0 + 128 ≤ 128; omega

/-- The rectangle of a head's tile in the state buffer. -/
@[reducible] def tileRect (h : ℕ) : Rect S8x128x128 := Rect.unit ![h % 8, 0, 0] S1x128x128.size (tile_ok h)

/-- Rows `64 * (r % 4) …` of a 256 row array. -/
def sub (r : ℕ) (X : FVec F S256x1024 .f32) : FVec F S64x1024 .f32 :=
  extractStridedSlice S64x1024 ![64 * (r % 4), 0] X (sub_ok r)

/-- The columns of a head. -/
def cut {α : Type} (h : ℕ) (X : S64x1024.Idx → α) : S64x128.Idx → α :=
  extractStridedSlice S64x128 ![0, 128 * (h % 8)] X (cut_ok h)

namespace Blocks

variable (I : Blocks F) (r : ℕ)

/-- The projected rows: query, forget logit, value, gate; then log forget gate and key. -/
def q : FVec F S256x1024 .f32 := k0_pay20 I.x I.nw I.win
def fz : FVec F S256x1024 .f32 := k0_pay21 I.x I.nw I.win
def v : FVec F S256x1024 .f32 := k0_pay22 I.x I.nw I.win
def g : FVec F S256x1024 .f32 := k0_pay23 I.x I.nw I.win
def lf : FVec F S256x1024 .f32 := k0_pay25 (k0_pay19 I.lb) I.fz k0_pay24
def k : FVec F S256x1024 .f32 := k0_pay26 (k0_pay19 I.lb) I.fz

/-- The running sums of the log forget gates down the 64 rows of a group. -/
def csum : FVec F S64x1024 .f32 :=
  matmul dot_S64x64_S64x1024_S64x1024_1_0_0_1_n_n (some .fp32)
    (select k0_pay32 (broadcast S64x64 (Scalar.ofBits .f32 0x3F800000#32 : F .f32))
      (broadcast S64x64 (Scalar.ofBits .f32 0x00000000#32 : F .f32)))
    (sub r I.lf) (constant S64x1024 .f32 0x00000000#32)

end Blocks

/-- One head's output for a group, from the state tile before the group. -/
def headOut (I : Blocks F) (r h : ℕ) (st : Vec F S1x128x128 .f32) : FVec F S64x128 .f32 :=
  addf
    (matmul dot_S64x64_S64x128_S64x128_1_0_0_1_n_n none
      (truncf .bf16 (select k0_pay32
        (matmul dot_S64x128_S64x128_S64x64_1_1_0_0_n_n none
          (cut h (k0_pay35 (sub r I.q) (I.csum r))) (cut h (k0_pay36 (sub r I.k) (I.csum r)))
          (constant S64x64 .f32 0x00000000#32))
        (broadcast S64x64 (Scalar.ofBits .f32 0x00000000#32 : F .f32))) bitsLt_bf16_f32)
      (cut h (k0_pay39 (sub r I.v))) (constant S64x128 .f32 0x00000000#32))
    (matmul dot_S64x128_S128x128_S64x128_1_1_0_0_n_n none
      (cut h (k0_pay37 (sub r I.q) (I.csum r))) (truncf .bf16 (k0_pay40 st) bitsLt_bf16_f32)
      (constant S64x128 .f32 0x00000000#32))

/-- One head's state tile after a group. -/
def headSt (I : Blocks F) (r h : ℕ) (st : Vec F S1x128x128 .f32) : Vec F S1x128x128 .f32 :=
  shapeCast S1x128x128
    (addf
      (mulf (broadcastTo S128x128 (exp (extractStridedSlice S1x128 ![63, 128 * (h % 8)] (I.csum r) (last_ok h)))
        broadcasts_S1x128_S128x128) (k0_pay40 st))
      (matmul dot_S128x64_S64x128_S128x128_1_0_0_1_n_n none
        (truncf .bf16 (transpose S128x64 [1, 0] (cut h (sub r I.v)) transposes_S64x128_p1_0_S128x64) bitsLt_bf16_f32)
        (truncf .bf16 (cut h (k0_pay38 (sub r I.k) (I.csum r))) bitsLt_bf16_f32)
        (constant S128x128 .f32 0x00000000#32)))
    shapeCasts_S128x128_S1x128x128

/-- One head's output normalised and gated. -/
def headY (I : Blocks F) (r h : ℕ) (o : FVec F S64x128 .f32) : FVec F S64x128 .f32 :=
  have g : FVec F S64x128 .f32 := cut h (sub r I.g)
  mulf
    (mulf
      (mulf o (broadcastTo S64x128
        (rsqrt (addf
          (divf (shapeCast S64x1 (multiReduction .add [1] S64 (mulf o o) 0x00000000#32 reduces_S64x128_S64 (.inl rfl) rfl)
              shapeCasts_S64_S64x1)
            (broadcast S64x1 (Scalar.ofBits .f32 0x43000000#32 : F .f32)))
          (broadcast S64x1 (Scalar.ofBits .f32 0x358637BD#32 : F .f32)))) broadcasts_S64x1_S64x128))
      (broadcastTo S64x128 (k0_pay31 I.hnw) broadcasts_S1x128_S64x128))
    (mulf g (divf (broadcast S64x128 (Scalar.ofBits .f32 0x3F800000#32 : F .f32))
      (addf (broadcast S64x128 (Scalar.ofBits .f32 0x3F800000#32 : F .f32))
        (exp (subf (broadcast S64x128 (Scalar.ofBits .f32 0x00000000#32 : F .f32)) g)))))

/-- The 64 rows a group stores, from the state tiles its heads read. -/
def rowsY (I : Blocks F) (r : ℕ) (st : ℕ → Vec F S1x128x128 .f32) : FVec F S64x1024 .f32 :=
  have y : ℕ → FVec F S64x128 .f32 := fun h => headY I r h (headOut I r h (st h))
  shapeCast S64x1024
    (concatenate S64x1024 1
      [⟨S64x128, y 0⟩, ⟨S64x128, y 1⟩, ⟨S64x128, y 2⟩, ⟨S64x128, y 3⟩, ⟨S64x128, y 4⟩, ⟨S64x128, y 5⟩, ⟨S64x128, y 6⟩,
        ⟨S64x128, y 7⟩]
      concatenates_S64x128_S64x128_S64x128_S64x128_S64x128_S64x128_S64x128_S64x128_S64x1024_d1)
    shapeCasts_S64x1024_S64x1024

/-- The stores into the state buffer, last first: `n` more stores on top of `base`, from store number
`n0` on; store number `m` writes head `m % 8` of group `m / 8`, from the tile `ld m` reads. -/
def steps (I : Blocks F) (ld : ℕ → List (View.Piece (Elt F) S8x128x128 .f32) → Vec F S1x128x128 .f32)
    (base : List (View.Piece (Elt F) S8x128x128 .f32)) (n0 : ℕ) : ℕ → List (View.Piece (Elt F) S8x128x128 .f32)
  | 0 => base
  | n + 1 =>
    ⟨tileRect (n0 + n), headSt I ((n0 + n) / 8) ((n0 + n) % 8) (ld (n0 + n) (steps I ld base n0 n))⟩ ::
      steps I ld base n0 n

/-- The state tile of a head after `r` groups. -/
def tileAt (I : Blocks F) (T0 : ℕ → Vec F S1x128x128 .f32) : ℕ → ℕ → Vec F S1x128x128 .f32
  | 0, h => T0 h
  | r + 1, h => headSt I r h (tileAt I T0 r h)

/-- A load of a head's tile after some stores. -/
def ldCov {κ : Kind} {sp : Space} (V : View sig κ sp S8x128x128 .f32) (n : ℕ)
    (L : List (View.Piece (Elt F) S8x128x128 .f32)) : Vec F S1x128x128 .f32 :=
  V.readCov L (tileRect n).toLoadRect

/-- Different heads' tiles do not meet. -/
theorem tile_disj {a b : ℕ} (h : a % 8 ≠ b % 8) : LoadRect.disj (tileRect a) (tileRect b).toLoadRect = true := by
  refine decide_eq_true ⟨(0 : Fin 3), Or.inr (Or.inr ?_)⟩
  show a % 8 + 1 * (1 - 1) < b % 8 ∨ b % 8 + 1 * (1 - 1) < a % 8
  omega

section
variable {κ : Kind} {sp : Space} (V : View sig κ sp S8x128x128 .f32)

/-- Loads go by the head. -/
theorem ldCov_congr {a b : ℕ} (h : a % 8 = b % 8) (L : List (View.Piece (Elt F) S8x128x128 .f32)) :
    ldCov V a L = ldCov V b L := by
  have key : ∀ (x y : ℕ) (hx : ∀ a, (![x, 0, 0] : Fin 3 → ℕ) a + S1x128x128.size a ≤ S8x128x128.size a)
      (hy : ∀ a, (![y, 0, 0] : Fin 3 → ℕ) a + S1x128x128.size a ≤ S8x128x128.size a), x = y →
      (V.readCov L (Rect.unit (s := S8x128x128) ![x, 0, 0] S1x128x128.size hx).toLoadRect : Vec F S1x128x128 .f32)
        = V.readCov L (Rect.unit (s := S8x128x128) ![y, 0, 0] S1x128x128.size hy).toLoadRect := by
    intro x y hx hy e; subst e; rfl
  exact key _ _ _ _ h

/-- A load reads the last store into its tile, -/
theorem ldCov_same (n : ℕ) (w : Vec F S1x128x128 .f32) (L : List (View.Piece (Elt F) S8x128x128 .f32)) :
    ldCov V n (⟨tileRect n, w⟩ :: L) = w :=
  View.readCov_cons_toLoadRect (Val := Elt F) V (tileRect n) w L

/-- and does not see a store into another tile. -/
theorem ldCov_other {m n : ℕ} (h : m % 8 ≠ n % 8) (w : Vec F S1x128x128 .f32)
    (L : List (View.Piece (Elt F) S8x128x128 .f32)) : ldCov V n (⟨tileRect m, w⟩ :: L) = ldCov V n L :=
  View.readCov_skip V (tileRect m) w L _ (tile_disj h)

/-- After `n` stores on top of a list that left every head's tile after `r0` groups, head `h` has its tile
after `r0 + n / 8` groups, and one more if the group under way has passed it. -/
theorem ldCov_steps (I : Blocks F)
    (T0 : ℕ → Vec F S1x128x128 .f32) (base : List (View.Piece (Elt F) S8x128x128 .f32)) (r0 : ℕ)
    (hb : ∀ h, h < 8 → ldCov V h base = tileAt I T0 r0 h) (n h : ℕ) (hh : h < 8) :
    ldCov V h (steps I (ldCov V) base (8 * r0) n) = tileAt I T0 (r0 + n / 8 + if h < n % 8 then 1 else 0) h := by
  induction n generalizing h with
  | zero =>
    have : r0 + 0 / 8 + (if h < 0 % 8 then 1 else 0) = r0 := by simp
    rw [this]; exact hb h hh
  | succ n ih =>
    rw [steps]
    by_cases e : (8 * r0 + n) % 8 = h
    · have h0 : n % 8 = h := by omega
      have h2 : (8 * r0 + n) / 8 = r0 + n / 8 := by omega
      have h3 : r0 + (n + 1) / 8 + (if h < (n + 1) % 8 then 1 else 0) = (r0 + n / 8) + 1 := by
        split_ifs <;> omega
      have h4 : r0 + n / 8 + (if h < n % 8 then 1 else 0) = r0 + n / 8 := by
        rw [if_neg (by omega), Nat.add_zero]
      have e5 : (8 * r0 + n) % 8 = h % 8 := by omega
      rw [← ldCov_congr V e5, ldCov_same, e, h2, ldCov_congr V e5, ih h hh, h3, h4, tileAt]
    · rw [ldCov_other V (by omega), ih h hh]
      congr 1
      split_ifs <;> omega

end

end Cert.Tile
-- ==== Proof.Points.lean ====
/- The stores a grid point's run makes, as the lists of `Tile`.

The run of the body names each store's payload; here the lists of stores into the state buffer, the
row buffer and the outputs are stated in the vocabulary of `Tile`, case by case: the first point of a
sequence (A), a middle one (B) and the last (C). -/
module

public import proofs.«01_k».proof.Proof.Tile

@[expose] public section

set_option maxRecDepth 16384

noncomputable section

namespace Cert.Tile

open Cert.KernelIdeal Cert.KernelIdeal.Gen
open Idealize.ShloMosaic Idealize.ShloMosaic.TcCoe Idealize.ShloMosaic.Tactic Idealize.SL.Sem

variable {F : FTy → Type} [FloatOps F]
variable (c : Dev nD) (i : grid0.Coords) (arg2 : Memref sig .tc .vmem S1x256x1024 .f32) (harg2 : arg2.IsWhole)
   (arg3 : Memref sig .tc .vmem S1x8x128x128 .f32) (harg3 : arg3.IsWhole) (arg4 : Memref sig .tc .vmem S1x1024 .f32)
   (harg4 : arg4.IsWhole) (arg5 : Memref sig .tc .vmem S1024x4096 .bf16) (harg5 : arg5.IsWhole)
   (arg6 : Memref sig .tc .vmem S1x1024 .f32) (harg6 : arg6.IsWhole) (arg7 : Memref sig .tc .vmem S1x128 .f32)
   (harg7 : arg7.IsWhole) (arg8 : Memref sig .tc .vmem S1024x1024 .bf16) (harg8 : arg8.IsWhole)
   (arg9 : Memref sig .tc .vmem S1x256x1024 .f32) (harg9 : arg9.IsWhole)
   (arg10 : Memref sig .tc .vmem S1x8x128x128 .f32) (harg10 : arg10.IsWhole)
   (arg11 : Memref sig .tc .vmem S8x128x128 .f32) (harg11 : arg11.IsWhole)
   (arg12 : Memref sig .tc .vmem S256x1024 .f32) (harg12 : arg12.IsWhole)
  (x0 : Vec F S1x256x1024 .f32) (x1 : Vec F S1x8x128x128 .f32) (x2 : Vec F S1x1024 .f32) (x3 : Vec F S1024x4096 .bf16)
  (x4 : Vec F S1x1024 .f32) (x5 : Vec F S1x128 .f32) (x6 : Vec F S1024x1024 .bf16) (xs0 : Vec F S8x128x128 .f32)

/-- The blocks as the run loads them. -/
def blks (arg2 : Memref sig .tc .vmem S1x256x1024 .f32) (harg2 : arg2.IsWhole)
    (arg4 : Memref sig .tc .vmem S1x1024 .f32) (harg4 : arg4.IsWhole)
    (arg5 : Memref sig .tc .vmem S1024x4096 .bf16) (harg5 : arg5.IsWhole)
    (arg6 : Memref sig .tc .vmem S1x1024 .f32) (harg6 : arg6.IsWhole)
    (arg7 : Memref sig .tc .vmem S1x128 .f32) (harg7 : arg7.IsWhole)
    (arg8 : Memref sig .tc .vmem S1024x1024 .bf16) (harg8 : arg8.IsWhole)
    (x0 : Vec F S1x256x1024 .f32) (x2 : Vec F S1x1024 .f32) (x3 : Vec F S1024x4096 .bf16)
    (x4 : Vec F S1x1024 .f32) (x5 : Vec F S1x128 .f32) (x6 : Vec F S1024x1024 .bf16) : Blocks F where
  x := View.readAt (Elt F) arg2.view (Rect.unit (s := S1x256x1024) ![0, 0, 0] S1x256x1024.size (by decide)).toLoadRect (harg2.unread x0)
  nw := View.readAt (Elt F) arg4.view (Rect.unit (s := S1x1024) ![0, 0] S1x1024.size (by decide)).toLoadRect (harg4.unread x2)
  win := View.readAt (Elt F) arg5.view (Rect.unit (s := S1024x4096) ![0, 0] S1024x4096.size (by decide)).toLoadRect (harg5.unread x3)
  lb := View.readAt (Elt F) arg6.view (Rect.unit (s := S1x1024) ![0, 0] S1x1024.size (by decide)).toLoadRect (harg6.unread x4)
  hnw := View.readAt (Elt F) arg7.view (Rect.unit (s := S1x128) ![0, 0] S1x128.size (by decide)).toLoadRect (harg7.unread x5)
  wout := View.readAt (Elt F) arg8.view (Rect.unit (s := S1024x1024) ![0, 0] S1024x1024.size (by decide)).toLoadRect (harg8.unread x6)

/-- A load of a head's tile of what the point before left. -/
def ldOld (arg11 : Memref sig .tc .vmem S8x128x128 .f32) (harg11 : arg11.IsWhole) (xs0 : Vec F S8x128x128 .f32)
    (n : ℕ) : Vec F S1x128x128 .f32 :=
  View.readAt (Elt F) arg11.view (tileRect n).toLoadRect (harg11.unread xs0)

/-- The first eight stores of a point that goes on from the point before, -/
def firsts (I : Blocks F) (T0 : ℕ → Vec F S1x128x128 .f32) : List (View.Piece (Elt F) S8x128x128 .f32) :=
  steps I (fun n _ => T0 n) [] 0 8

/-- and all its stores into the state buffer. -/
def later (I : Blocks F) (T0 : ℕ → Vec F S1x128x128 .f32) {κ : Kind} {sp : Space} (V : View sig κ sp S8x128x128 .f32)
    (n : ℕ) : List (View.Piece (Elt F) S8x128x128 .f32) :=
  steps I (ldCov V) (firsts I T0) (8 * 1) n

/-- The rectangle of a head's tile in a block of states. -/
theorem stTile_ok (h : ℕ) : ∀ a, (![0, h % 8, 0, 0] : Fin 4 → ℕ) a + S1x1x128x128.size a ≤ S1x8x128x128.size a := fun a => by
  have := Nat.mod_lt h (show 0 < 8 by decide)
  match a with
  | ⟨0, _⟩ => show 0 + 1 ≤ 1; omega
  | ⟨1, _⟩ => show h % 8 + 1 ≤ 8; omega
  | ⟨2, _⟩ => show 0 + 128 ≤ 128; omega
  | ⟨3, _⟩ => show 0 + 128 ≤ 128; omega

@[reducible] def stTileRect (h : ℕ) : Rect S1x8x128x128 := Rect.unit ![0, h % 8, 0, 0] S1x1x128x128.size (stTile_ok h)

/-- A head's tile of the block of initial states, transposed. -/
def tileIn (arg3 : Memref sig .tc .vmem S1x8x128x128 .f32) (harg3 : arg3.IsWhole) (x1 : Vec F S1x8x128x128 .f32)
    (h : ℕ) : Vec F S1x128x128 .f32 :=
  k0_pay5 (View.readAt (Elt F) arg3.view (stTileRect h).toLoadRect (harg3.unread x1))

/-- The stores that fill the state buffer with the initial states. -/
def inits (T0 : ℕ → Vec F S1x128x128 .f32) : ℕ → List (View.Piece (Elt F) S8x128x128 .f32)
  | 0 => []
  | n + 1 => ⟨tileRect n, T0 n⟩ :: inits T0 n

/-- All stores of the first point into the state buffer. -/
def first (I : Blocks F) (T0 : ℕ → Vec F S1x128x128 .f32) {κ : Kind} {sp : Space} (V : View sig κ sp S8x128x128 .f32)
    (n : ℕ) : List (View.Piece (Elt F) S8x128x128 .f32) :=
  steps I (ldCov V) (inits T0 8) (8 * 0) n

/-- The tile that head `h` of group `r` reads, at a later point -/
def laterSt (I : Blocks F) (T0 : ℕ → Vec F S1x128x128 .f32) {κ : Kind} {sp : Space} (V : View sig κ sp S8x128x128 .f32) :
    ℕ → ℕ → Vec F S1x128x128 .f32
  | 0, h => T0 h
  | r + 1, h => ldCov V h (later I T0 V (8 * r + h))

/-- and at the first. -/
def firstSt (I : Blocks F) (T0 : ℕ → Vec F S1x128x128 .f32) {κ : Kind} {sp : Space} (V : View sig κ sp S8x128x128 .f32)
    (r h : ℕ) : Vec F S1x128x128 .f32 :=
  ldCov V h (first I T0 V (8 * r + h))

/-- The stores into the row buffer. -/
def rowStores (I : Blocks F) (st : ℕ → ℕ → Vec F S1x128x128 .f32) : List (View.Piece (Elt F) S256x1024 .f32) :=
  [⟨Rect.unit ![192, 0] S64x1024.size (by decide), rowsY I 3 (st 3)⟩,
    ⟨Rect.unit ![128, 0] S64x1024.size (by decide), rowsY I 2 (st 2)⟩,
    ⟨Rect.unit ![64, 0] S64x1024.size (by decide), rowsY I 1 (st 1)⟩,
    ⟨Rect.unit ![0, 0] S64x1024.size (by decide), rowsY I 0 (st 0)⟩]

/-- The store into the output rows. -/
def outStores (I : Blocks F) {κ : Kind} {sp : Space} (V : View sig κ sp S256x1024 .f32)
    (st : ℕ → ℕ → Vec F S1x128x128 .f32) : List (View.Piece (Elt F) S1x256x1024 .f32) :=
  [⟨Rect.unit ![0, 0, 0] S1x256x1024.size (by decide),
    k0_pay263 (k0_pay17 I.x)
      (V.readCov (rowStores I st) (Rect.unit (s := S256x1024) ![0, 0] S256x1024.size (by decide)).toLoadRect) I.wout⟩]

/-- The stores of the last states, transposed back. -/
def lastStores (T : ℕ → Vec F S1x128x128 .f32) : ℕ → List (View.Piece (Elt F) S1x8x128x128 .f32)
  | 0 => []
  | n + 1 => ⟨stTileRect n, k0_pay1 (T n)⟩ :: lastStores T n

theorem stores_A (hc0 : cond0_0 i) (hc1 : ¬cond0_1 i) :
    (kernelRun0_A c i arg2 harg2 arg3 harg3 arg4 harg4 arg5 harg5 arg6 harg6 arg7 harg7 arg8 harg8
      arg9 harg9 arg10 harg10 arg11 harg11 arg12 harg12 hc0 hc1 x0 x1 x2 x3 x4 x5 x6).2.2.1
      = first (blks arg2 harg2 arg4 harg4 arg5 harg5 arg6 harg6 arg7 harg7 arg8 harg8 x0 x2 x3 x4 x5 x6) (tileIn arg3 harg3 x1) arg11.view 32 := by
  sl_kernel_rfl

theorem outs_A (hc0 : cond0_0 i) (hc1 : ¬cond0_1 i) :
    (kernelRun0_A c i arg2 harg2 arg3 harg3 arg4 harg4 arg5 harg5 arg6 harg6 arg7 harg7 arg8 harg8
      arg9 harg9 arg10 harg10 arg11 harg11 arg12 harg12 hc0 hc1 x0 x1 x2 x3 x4 x5 x6).1
      = outStores (blks arg2 harg2 arg4 harg4 arg5 harg5 arg6 harg6 arg7 harg7 arg8 harg8 x0 x2 x3 x4 x5 x6) arg12.view
          (firstSt (blks arg2 harg2 arg4 harg4 arg5 harg5 arg6 harg6 arg7 harg7 arg8 harg8 x0 x2 x3 x4 x5 x6) (tileIn arg3 harg3 x1) arg11.view) := by
  sl_kernel_rfl

theorem stores_B (hc0 : ¬cond0_0 i) (hc1 : ¬cond0_1 i) :
    (kernelRun0_B c i arg2 harg2 arg3 harg3 arg4 harg4 arg5 harg5 arg6 harg6 arg7 harg7 arg8 harg8
      arg9 harg9 arg10 harg10 arg11 harg11 arg12 harg12 hc0 hc1 x0 x1 x2 x3 x4 x5 x6 xs0).2.2.1
      = later (blks arg2 harg2 arg4 harg4 arg5 harg5 arg6 harg6 arg7 harg7 arg8 harg8 x0 x2 x3 x4 x5 x6) (ldOld arg11 harg11 xs0) arg11.view 24 := by
  sl_kernel_rfl

theorem outs_B (hc0 : ¬cond0_0 i) (hc1 : ¬cond0_1 i) :
    (kernelRun0_B c i arg2 harg2 arg3 harg3 arg4 harg4 arg5 harg5 arg6 harg6 arg7 harg7 arg8 harg8
      arg9 harg9 arg10 harg10 arg11 harg11 arg12 harg12 hc0 hc1 x0 x1 x2 x3 x4 x5 x6 xs0).1
      = outStores (blks arg2 harg2 arg4 harg4 arg5 harg5 arg6 harg6 arg7 harg7 arg8 harg8 x0 x2 x3 x4 x5 x6) arg12.view
          (laterSt (blks arg2 harg2 arg4 harg4 arg5 harg5 arg6 harg6 arg7 harg7 arg8 harg8 x0 x2 x3 x4 x5 x6) (ldOld arg11 harg11 xs0) arg11.view) := by
  sl_kernel_rfl

theorem stores_C (hc0 : ¬cond0_0 i) (hc1 : cond0_1 i) :
    (kernelRun0_C c i arg2 harg2 arg3 harg3 arg4 harg4 arg5 harg5 arg6 harg6 arg7 harg7 arg8 harg8
      arg9 harg9 arg10 harg10 arg11 harg11 arg12 harg12 hc0 hc1 x0 x1 x2 x3 x4 x5 x6 xs0).2.2.1
      = later (blks arg2 harg2 arg4 harg4 arg5 harg5 arg6 harg6 arg7 harg7 arg8 harg8 x0 x2 x3 x4 x5 x6) (ldOld arg11 harg11 xs0) arg11.view 24 := by
  sl_kernel_rfl

theorem outs_C (hc0 : ¬cond0_0 i) (hc1 : cond0_1 i) :
    (kernelRun0_C c i arg2 harg2 arg3 harg3 arg4 harg4 arg5 harg5 arg6 harg6 arg7 harg7 arg8 harg8
      arg9 harg9 arg10 harg10 arg11 harg11 arg12 harg12 hc0 hc1 x0 x1 x2 x3 x4 x5 x6 xs0).1
      = outStores (blks arg2 harg2 arg4 harg4 arg5 harg5 arg6 harg6 arg7 harg7 arg8 harg8 x0 x2 x3 x4 x5 x6) arg12.view
          (laterSt (blks arg2 harg2 arg4 harg4 arg5 harg5 arg6 harg6 arg7 harg7 arg8 harg8 x0 x2 x3 x4 x5 x6) (ldOld arg11 harg11 xs0) arg11.view) := by
  sl_kernel_rfl

theorem lasts_C (hc0 : ¬cond0_0 i) (hc1 : cond0_1 i) :
    (kernelRun0_C c i arg2 harg2 arg3 harg3 arg4 harg4 arg5 harg5 arg6 harg6 arg7 harg7 arg8 harg8
      arg9 harg9 arg10 harg10 arg11 harg11 arg12 harg12 hc0 hc1 x0 x1 x2 x3 x4 x5 x6 xs0).2.1
      = lastStores (fun h => ldCov arg11.view h
          (later (blks arg2 harg2 arg4 harg4 arg5 harg5 arg6 harg6 arg7 harg7 arg8 harg8 x0 x2 x3 x4 x5 x6) (ldOld arg11 harg11 xs0) arg11.view 24)) 8 := by
  sl_kernel_rfl

end Cert.Tile
-- ==== Proof.Spec.lean ====
/- The layer's mathematics over the extended reals, in the words both programs are read in.

A row of the input is normalised and projected; the projection's columns give, per head, a query, a
forget logit, a value and a gate.  64 rows make a `Chunk`.  A chunk takes a head's 128 by 128 state to
the next one and gives 64 output rows. -/
module

public import proofs.«01_k».proof.Proof.Points
public import Idealize.ShloMosaic.Lib.Pointwise

@[expose] public section

noncomputable section

namespace Cert.Spec

open Idealize.ShloMosaic

/-- The three constants of the two means: 1024, 128 and the small number under the root. -/
abbrev c1024 : EReal := Ideal.ofBits .f32 1149239296#32
abbrev c128 : EReal := Ideal.ofBits .f32 1124073472#32
abbrev eps : EReal := Ideal.ofBits .f32 897988541#32

/-- Column `j` of the projection of a normalised row. -/
def proj {n : ℕ} (nw : Fin 1024 → EReal) (w : Fin 1024 → Fin n → EReal) (x : Fin 1024 → EReal) (j : Fin n) : EReal :=
  ∑ d, x d * Ideal.rsqrt (Ideal.div (∑ e, x e * x e) c1024 + eps) * nw d * w d j

def silu (a : EReal) : EReal := a * Ideal.div 1 (1 + Ideal.exp (-a))

/-- The logarithm of a sum of two exponentials. -/
def lae (a b : EReal) : EReal := max a b + Ideal.log1p (Ideal.exp (min a b - max a b))

/-- The logarithm of the logistic function. -/
def logsig (a : EReal) : EReal := min a 0 - Ideal.log1p (Ideal.exp (-max a (-a)))

/-- The logarithm of the forget gate with lower bound `l` at the logit `a`. -/
def logf (l a : EReal) : EReal := lae (Ideal.log l) (Ideal.log1p (-l) + logsig a)

def key (l a : EReal) : EReal := (1 - l) * Ideal.div 1 (1 + Ideal.exp (- -a))

/-- A head's 64 rows of queries, keys, values, gates and log forget gates. -/
structure Chunk where
  q : Fin 64 → Fin 128 → EReal
  k : Fin 64 → Fin 128 → EReal
  v : Fin 64 → Fin 128 → EReal
  g : Fin 64 → Fin 128 → EReal
  lf : Fin 64 → Fin 128 → EReal

namespace Chunk

variable (C : Chunk) (S : Fin 128 → Fin 128 → EReal) (hn : Fin 128 → EReal)

/-- The running sum of the log forget gates. -/
def cs (s : Fin 64) (d : Fin 128) : EReal := ∑ j, if j ≤ s then C.lf j d else 0

/-- What the chunk's own rows contribute to its output. -/
def intra (s : Fin 64) (e : Fin 128) : EReal :=
  ∑ j, (if j ≤ s then
    ∑ d, C.q s d * Ideal.exp (C.cs s d - C.cs 32 d) * (C.k j d * Ideal.exp (C.cs 32 d - C.cs j d)) else 0) * C.v j e

/-- What the state contributes. -/
def inter (s : Fin 64) (e : Fin 128) : EReal := ∑ d, C.q s d * Ideal.exp (C.cs s d) * S d e

def o (s : Fin 64) (e : Fin 128) : EReal := C.intra s e + C.inter S s e

/-- The state after the chunk. -/
def next (d e : Fin 128) : EReal :=
  Ideal.exp (C.cs 63 d) * S d e + ∑ j, C.k j d * Ideal.exp (C.cs 63 d - C.cs j d) * C.v j e

/-- The output, normalised over the head and gated. -/
def y (s : Fin 64) (e : Fin 128) : EReal :=
  C.o S s e * Ideal.rsqrt (Ideal.div (∑ f, C.o S s f * C.o S s f) c128 + eps) * hn e * silu (C.g s e)

end Chunk

/-- A head's column among the 1024. -/
abbrev col (h : Fin 8) (d : Fin 128) : Fin 1024 := ⟨h * 128 + d, by omega⟩

/-- The columns of the four parts of the projection. -/
abbrev colQ (h : Fin 8) (d : Fin 128) : Fin 4096 := ⟨h * 128 + d, by omega⟩
abbrev colF (h : Fin 8) (d : Fin 128) : Fin 4096 := ⟨1024 + (h * 128 + d), by omega⟩
abbrev colV (h : Fin 8) (d : Fin 128) : Fin 4096 := ⟨2048 + (h * 128 + d), by omega⟩
abbrev colG (h : Fin 8) (d : Fin 128) : Fin 4096 := ⟨3072 + (h * 128 + d), by omega⟩

section

variable (nw : Fin 1024 → EReal) (w : Fin 1024 → Fin 4096 → EReal) (lb : Fin 1024 → EReal)

/-- The chunk of head `h` made of 64 input rows. -/
def chunk (h : Fin 8) (X : Fin 64 → Fin 1024 → EReal) : Chunk where
  q s d := silu (proj nw w (X s) (colQ h d))
  k s d := key (lb (col h d)) (proj nw w (X s) (colF h d))
  v s d := proj nw w (X s) (colV h d)
  g s d := proj nw w (X s) (colG h d)
  lf s d := logf (lb (col h d)) (proj nw w (X s) (colF h d))

/-- A head's state after `n` chunks. -/
def state (C : ℕ → Chunk) (S0 : Fin 128 → Fin 128 → EReal) : ℕ → Fin 128 → Fin 128 → EReal
  | 0 => S0
  | n + 1 => (C n).next (state C S0 n)

end

/-! Facts about the scalar functions. -/

/-- The logarithm of a real number above one is not negative. -/
theorem log_nonneg {r : ℝ} (h : 1 ≤ r) : 0 ≤ Ideal.log (r : EReal) := by
  show 0 ≤ if r ≤ 0 then ⊥ else (Real.log r : EReal)
  rw [if_neg (by linarith)]
  exact_mod_cast Real.log_nonneg h

theorem log1p_exp_nonneg (a : EReal) : 0 ≤ Ideal.log1p (Ideal.exp a) := by
  induction a using EReal.rec with
  | bot =>
    have e : (1 : EReal) + 0 = ((1 : ℝ) : EReal) := by simp
    show 0 ≤ Ideal.log ((1 : EReal) + 0)
    rw [e]
    exact log_nonneg le_rfl
  | coe r =>
    have e : (1 : EReal) + (Real.exp r : EReal) = ((1 + Real.exp r : ℝ) : EReal) := by push_cast; rfl
    show 0 ≤ Ideal.log ((1 : EReal) + (Real.exp r : EReal))
    rw [e]
    exact log_nonneg (by linarith [Real.exp_pos r])
  | top => exact le_top

theorem neg_abs_of_nonpos {u : EReal} (h : u ≤ 0) : -max u (-u) = u := by
  have h' : 0 ≤ -u := by simpa using EReal.neg_le_neg_iff.2 h
  rw [max_eq_right (h.trans h'), neg_neg]

/-- The smaller less the larger is minus the distance. -/
theorem min_sub_max (a b : EReal) : min a b - max a b = -max (a - b) (-(a - b)) := by
  rcases le_or_gt a b with h | h
  · rw [min_eq_left h, max_eq_right h, neg_abs_of_nonpos (EReal.sub_nonpos.2 h)]
  · have e : -(a - b) = b - a := EReal.neg_sub (.inl (bot_le.trans_lt h).ne') (.inr (h.trans_le le_top).ne) |>.trans (by rw [sub_eq_add_neg, add_comm])
    have e' : -(b - a) = a - b := by rw [← e, neg_neg]
    rw [min_eq_right h.le, max_eq_left h.le, max_comm, e]
    exact ((congrArg (fun z => -max (b - a) z) e').symm.trans (neg_abs_of_nonpos (EReal.sub_nonpos.2 h.le))).symm

theorem lae_eq (a b : EReal) : max a b + Ideal.log1p (Ideal.exp (-max (a - b) (-(a - b)))) = lae a b := by
  rw [lae, min_sub_max]

theorem logsig_eq (a : EReal) :
    -(max (-a) 0 + Ideal.log1p (Ideal.exp (-max (-a) (- -a)))) = logsig a := by
  have h0 : (0 : EReal) ≤ max (-a) 0 := le_max_right _ _
  have hm : -max (-a) 0 = min a 0 := by
    rcases le_total a 0 with h | h
    · rw [max_eq_left (by simpa using EReal.neg_le_neg_iff.2 h), neg_neg, min_eq_left h]
    · rw [max_eq_right (by simpa using EReal.neg_le_neg_iff.2 h), neg_zero, min_eq_right h]
  have hL := log1p_exp_nonneg (-max (-a) (- -a))
  rw [EReal.neg_add (.inl (EReal.bot_lt_zero.trans_le h0).ne') (.inr (EReal.bot_lt_zero.trans_le hL).ne'), hm, logsig, neg_neg, max_comm (-a) a]

/-- Comparing two row numbers as words is comparing them. -/
theorem sle_word : ∀ j s : Fin 64, IntOp.cmpi .sle (BitVec.ofNat 32 j) (BitVec.ofNat 32 s) = if j ≤ s then 1#1 else 0#1 := by
  decide +kernel

theorem sge_word : ∀ j s : Fin 64, IntOp.cmpi .sge (BitVec.ofNat 32 s) (BitVec.ofNat 32 j) = if j ≤ s then 1#1 else 0#1 := by
  decide +kernel

end Cert.Spec

end
-- ==== Proof.RefIdx.lean ====
/- The reference read at an index: every array it computes before its loop, in the words of the specification. -/
module

public import proofs.«01_k».proof.Proof.Spec

@[expose] public section

noncomputable section

namespace Cert.RefIdx

open Cert.ReferenceIdeal Cert.ReferenceIdeal.Gen Cert.ReferenceIdeal.Step
open Idealize.ShloMosaic Cert.Spec

variable (x : FVec Ideal S8x2048x1024 .f32) (nw : FVec Ideal S1024 .f32) (w : FVec Ideal S1024x4096 .f32)
  (lb : FVec Ideal S1024 .f32)

/-- The rows of chunk `n` of batch `b`. -/
def rows (b : Fin 8) (n : ℕ) (s : Fin 64) (d : Fin 1024) : EReal :=
  x (ix3 b ⟨(n * 64 + s) % 2048, Nat.mod_lt _ (by decide)⟩ d)

/-- Chunk `n` of head `h` of batch `b`. -/
def chunkAt (b h : Fin 8) (n : ℕ) : Chunk :=
  chunk (fun d => nw (ix1 d)) (fun d j => w (ix2 d j)) (fun d => lb (ix1 d)) h (rows x b n)

theorem proj_at (b : Fin 8) (t : Fin 2048) (j : Fin 4096) :
    A_main_v13 (F := Ideal) x nw w lb (ix3 b t j)
      = proj (fun d => nw (ix1 d)) (fun d j => w (ix2 d j)) (fun d => x (ix3 b t d)) j := by
  pointwise [A_main_v13, A_main_v12, A_main_v11, A_main_v10, A_main_v9, A_main_v8, A_main_v7, A_main_v6, A_main_v4, A_main_v2, A_main_v1, A_main_v0, K_main_v5, K_main_v3, K_main_cst, K_main_cst_0, K_main_cst_1]
  rfl

theorem rows_eq (b : Fin 8) (n : Fin 32) (s : Fin 64) (d : Fin 1024) (h : n.val * 64 + s.val < 2048) :
    x (ix3 b ⟨n * 64 + s, h⟩ d) = rows x b n s d :=
  congrArg (fun t => x (ix3 b t d)) (Fin.ext (Nat.mod_eq_of_lt h).symm)

theorem proj_rows (b : Fin 8) (n : Fin 32) (s : Fin 64) (j : Fin 4096) (h : n.val * 64 + s.val < 2048) :
    A_main_v13 (F := Ideal) x nw w lb (ix3 b ⟨n * 64 + s, h⟩ j)
      = proj (fun d => nw (ix1 d)) (fun d j => w (ix2 d j)) (rows x b n s) j := by
  rw [proj_at]
  exact congrArg (fun z => proj _ _ z j) (funext fun d => rows_eq x b n s d h)

theorem q_at (n : Fin 32) (b h : Fin 8) (s : Fin 64) (d : Fin 128) :
    A_main_v71 (F := Ideal) x nw w lb (ix5 n b h s d)
      = (chunkAt x nw w lb b h n).q s d := by
  pointwise [A_main_v71, A_main_v70, A_main_v19, A_main_v18, A_main_v14, A_main_call0_v5, A_main_call0_v3, A_main_call0_v1, A_main_call0_v0, K_main_call0_v4, K_main_call0_cst_0, K_main_call0_v2, K_main_call0_cst]
  simp only [proj_rows]
  rfl

theorem k_at (n : Fin 32) (b h : Fin 8) (s : Fin 64) (d : Fin 128) :
    A_main_v73 (F := Ideal) x nw w lb (ix5 n b h s d)
      = (chunkAt x nw w lb b h n).k s d := by
  pointwise [A_main_v73, A_main_v72, A_main_v65, A_main_v66, A_main_v67, A_main_v68, A_main_v58, A_main_v59, A_main_v60, A_main_v61, A_main_v63, A_main_v20, A_main_v21, A_main_v15, K_main_v57, K_main_cst_3, K_main_v62, K_main_cst_4, K_main_v64, K_main_cst_5]
  simp only [proj_rows]
  rfl

theorem v_at (n : Fin 32) (b h : Fin 8) (s : Fin 64) (d : Fin 128) :
    A_main_v75 (F := Ideal) x nw w lb (ix5 n b h s d)
      = (chunkAt x nw w lb b h n).v s d := by
  pointwise [A_main_v75, A_main_v74, A_main_v69, A_main_v16]
  simp only [proj_rows]
  rfl

theorem g_at (n : Fin 32) (b h : Fin 8) (s : Fin 64) (d : Fin 128) :
    A_main_v106 (F := Ideal) x nw w lb (ix5 n b h s d)
      = silu ((chunkAt x nw w lb b h n).g s d) := by
  pointwise [A_main_v103, A_main_v104, A_main_v105, A_main_v106, A_main_v17, A_main_call4_v5, A_main_call4_v3, A_main_call4_v1, A_main_call4_v0, K_main_call4_v4, K_main_call4_cst_0, K_main_call4_v2, K_main_call4_cst]
  simp only [proj_rows]
  rfl

theorem lf_at (n : Fin 32) (b h : Fin 8) (s : Fin 64) (d : Fin 128) :
    A_main_v77 (F := Ideal) x nw w lb (ix5 n b h s d)
      = (chunkAt x nw w lb b h n).lf s d := by
  pointwise [A_main_v77, A_main_v76, A_main_v38, A_main_v39, A_main_v40, A_main_v41, A_main_v42, A_main_v43, A_main_v44, A_main_v45, A_main_v46, A_main_v47, A_main_v48, A_main_v49, A_main_v50, A_main_v51, A_main_v52, A_main_v53, A_main_v54, A_main_v55, A_main_v56, A_main_v32, A_main_v33, A_main_v34, A_main_v35, A_main_v36, A_main_v37, A_main_v27, A_main_v29, A_main_v30, A_main_v20, A_main_v21, A_main_v22, A_main_v23, A_main_v24, A_main_v25, A_main_v15, K_main_v26, K_main_cst_2, K_main_v28, K_main_v31]
  simp only [proj_rows, ne_eq, not_true_eq_false, if_false]
  exact (lae_eq _ _).trans (congrArg (fun z => lae _ (_ + z)) (logsig_eq _))

/-- A sum over a window that ends at row `s` is the sum of the rows up to `s`. -/
theorem window_sum (f : Fin 64 → EReal) (s : Fin 64) :
    (∑ k : Fin 64, if h : 63 ≤ s.val + k.val then f ⟨s.val + k.val - 63, by omega⟩ else 0)
      = ∑ j, if j ≤ s then f j else 0 := by
  refine Eq.trans (Finset.sum_congr rfl fun k _ => ?_) (Equiv.sum_comp (Equiv.addRight (s + 1)) fun j => if j ≤ s then f j else 0)
  have hv : ((k + (s + 1) : Fin 64) : ℕ) = (k.val + (s.val + 1) % 64) % 64 := by rw [Fin.val_add, Fin.val_add]; rfl
  have hk := k.isLt
  have hs := s.isLt
  show _ = if k + (s + 1) ≤ s then f (k + (s + 1)) else 0
  by_cases h : 63 ≤ s.val + k.val
  · have hj : (k + (s + 1) : Fin 64) = ⟨s.val + k.val - 63, by omega⟩ := Fin.ext (by rw [hv]; show _ = s.val + k.val - 63; omega)
    rw [dif_pos h, hj, if_pos (Fin.mk_le_of_le_val (by omega))]
  · rw [dif_neg h, if_neg (by rw [Fin.le_def, hv]; omega)]

/-- Adding up a list of positions is the sum over the positions. -/
theorem foldl_add {n : ℕ} (g : Fin n → EReal) (a : EReal) : (List.finRange n).foldl (fun r i => r + g i) a = a + ∑ i, g i := by
  rw [Fin.sum_univ_def]
  generalize List.finRange n = l
  induction l generalizing a with
  | nil => simp
  | cons i l ih => rw [List.foldl_cons, ih, List.map_cons, List.sum_cons, add_assoc]

abbrev Win : Shape := ⟨5, ![1, 1, 1, 64, 1]⟩

/-- The positions of a window are its 64 rows. -/
def winEquiv : Fin 64 ≃ Win.Idx where
  toFun k := ix5 0 0 0 k 0
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

theorem window_at (X : FVec Ideal S32x8x8x64x128 .f32) (init : FVec Ideal S_ .f32) (hi : init (Shape.Idx.first h_S_) = 0)
    (n : Fin 32) (b h : Fin 8) (s : Fin 64) (d : Fin 128) :
    Host.reduceWindowAdd ![1, 1, 1, 64, 1] ![1, 1, 1, 1, 1] ![0, 0, 0, 63, 0] ![0, 0, 0, 0, 0] X init
        reduceWindows_S32x8x8x64x128_S32x8x8x64x128_w1s1p0_0_w1s1p0_0_w1s1p0_0_w64s1p63_0_w1s1p0_0 h_S_ (ix5 n b h s d)
      = ∑ j, if j ≤ s then X (ix5 n b h j d) else 0 := by
  refine (foldl_add _ _).trans ?_
  rw [hi, zero_add]
  refine Eq.trans ?_ (window_sum (fun j => X (ix5 n b h j d)) s)
  refine Eq.trans (Finset.sum_congr rfl fun i _ => ?_) ((Equiv.sum_comp Win.rowMajor.symm fun w : Win.Idx =>
    if hw : 63 ≤ s.val + (winEquiv.symm w).val then X (ix5 n b h ⟨s.val + (winEquiv.symm w).val - 63, by omega⟩ d) else 0).trans
      (Equiv.sum_comp winEquiv.symm fun k : Fin 64 =>
        if hw : 63 ≤ s.val + k.val then X (ix5 n b h ⟨s.val + k.val - 63, by omega⟩ d) else 0))
  have w0 : ∀ w : Win.Idx, (w 0).val = 0 ∧ (w 1).val = 0 ∧ (w 2).val = 0 ∧ (w 4).val = 0 := fun w =>
    ⟨Nat.lt_one_iff.1 (w 0).isLt, Nat.lt_one_iff.1 (w 1).isLt, Nat.lt_one_iff.1 (w 2).isLt, Nat.lt_one_iff.1 (w 4).isLt⟩
  obtain ⟨w0, w1, w2, w4⟩ := w0 (Win.rowMajor.symm i)
  have w3 : (Win.rowMajor.symm i 3).val = (winEquiv.symm (Win.rowMajor.symm i)).val := rfl
  have hn := n.isLt
  have hb := b.isLt
  have hh := h.isLt
  have hs := s.isLt
  have hd := d.isLt
  have hk := (winEquiv.symm (Win.rowMajor.symm i)).isLt
  by_cases hw : 63 ≤ s.val + (winEquiv.symm (Win.rowMajor.symm i)).val
  · rw [dif_pos hw, dif_pos (by
      intro a
      match a with
      | ⟨0, _⟩ => show 0 ≤ n.val * 1 + (Win.rowMajor.symm i 0).val ∧ n.val * 1 + (Win.rowMajor.symm i 0).val - 0 < 32; omega
      | ⟨1, _⟩ => show 0 ≤ b.val * 1 + (Win.rowMajor.symm i 1).val ∧ b.val * 1 + (Win.rowMajor.symm i 1).val - 0 < 8; omega
      | ⟨2, _⟩ => show 0 ≤ h.val * 1 + (Win.rowMajor.symm i 2).val ∧ h.val * 1 + (Win.rowMajor.symm i 2).val - 0 < 8; omega
      | ⟨3, _⟩ => show 63 ≤ s.val * 1 + (Win.rowMajor.symm i 3).val ∧ s.val * 1 + (Win.rowMajor.symm i 3).val - 63 < 64; omega
      | ⟨4, _⟩ => show 0 ≤ d.val * 1 + (Win.rowMajor.symm i 4).val ∧ d.val * 1 + (Win.rowMajor.symm i 4).val - 0 < 128; omega)]
    refine congrArg X (funext fun a => Fin.ext ?_)
    match a with
    | ⟨0, _⟩ => show n.val * 1 + (Win.rowMajor.symm i 0).val - 0 = n.val; omega
    | ⟨1, _⟩ => show b.val * 1 + (Win.rowMajor.symm i 1).val - 0 = b.val; omega
    | ⟨2, _⟩ => show h.val * 1 + (Win.rowMajor.symm i 2).val - 0 = h.val; omega
    | ⟨3, _⟩ => show s.val * 1 + (Win.rowMajor.symm i 3).val - 63 = s.val + (winEquiv.symm (Win.rowMajor.symm i)).val - 63; omega
    | ⟨4, _⟩ => show d.val * 1 + (Win.rowMajor.symm i 4).val - 0 = d.val; omega
  · rw [dif_neg hw, dif_neg (fun hin => by
      have h3 := (hin 3).1
      change 63 ≤ s.val * 1 + (Win.rowMajor.symm i 3).val at h3
      omega)]

theorem cs_at (n : Fin 32) (b h : Fin 8) (s : Fin 64) (d : Fin 128) :
    A_main_v78 (F := Ideal) x nw w lb (ix5 n b h s d) = (chunkAt x nw w lb b h n).cs s d := by
  unfold A_main_v78
  refine (window_at _ _ (by pointwise [K_main_call1_call0_v0, K_main_call1_call0_cst]) n b h s d).trans ?_
  simp only [lf_at]
  rfl

theorem qi_at (n : Fin 32) (b h : Fin 8) (s : Fin 64) (d : Fin 128) :
    A_main_v95 (F := Ideal) x nw w lb (ix5 n b h s d)
      = (chunkAt x nw w lb b h n).q s d * Ideal.exp ((chunkAt x nw w lb b h n).cs s d) := by
  pointwise [A_main_v95, A_main_v94]
  simp only [q_at, k_at, v_at, cs_at]

theorem dec_at (n : Fin 32) (b h : Fin 8) (d : Fin 128) :
    A_main_v102 (F := Ideal) x nw w lb (ix4 n b h d)
      = Ideal.exp ((chunkAt x nw w lb b h n).cs 63 d) := by
  pointwise [A_main_v102, A_main_v101, A_main_v79]
  simp only [q_at, k_at, v_at, cs_at]

theorem kv_at (n : Fin 32) (b h : Fin 8) (d e : Fin 128) :
    A_main_v100 (F := Ideal) x nw w lb (ix5 n b h d e)
      = ∑ j, (chunkAt x nw w lb b h n).k j d * Ideal.exp ((chunkAt x nw w lb b h n).cs 63 d - (chunkAt x nw w lb b h n).cs j d) * (chunkAt x nw w lb b h n).v j e := by
  pointwise [A_main_v100, A_main_v99, A_main_v98, A_main_v97, A_main_v96, A_main_v79]
  simp only [q_at, k_at, v_at, cs_at]

theorem intra_at (n : Fin 32) (b h : Fin 8) (s : Fin 64) (d : Fin 128) :
    A_main_v93 (F := Ideal) x nw w lb (ix5 n b h s d)
      = (chunkAt x nw w lb b h n).intra s d := by
  pointwise [A_main_v93, A_main_v92, A_main_v80, A_main_v81, A_main_v82, A_main_v83, A_main_v84, A_main_v85, A_main_v86, A_main_v87, A_main_v88, A_main_v89, K_main_call3_v2, K_main_call3_v1, K_main_call3_v0, K_main_cst_6, K_main_v91, K_main_call2_v5, K_main_call2_c_0, K_main_call2_v4, K_main_call2_v3, K_main_call2_v2, K_main_call2_v1, K_main_call2_c, K_main_call2_v0, K_main_v90, K_main_c]
  simp only [q_at, k_at, v_at, cs_at]
  refine Finset.sum_congr rfl fun j _ => congrArg (· * _) ?_
  have e : Scalar.select (IntOp.cmpi .sge (IntOp.addi (BitVec.ofNat 32 s.val) 0#32) (BitVec.ofNat 32 j.val)) 1#1 0#1
      = if j ≤ s then 1#1 else 0#1 := by
    rw [show IntOp.addi (BitVec.ofNat 32 s.val) 0#32 = BitVec.ofNat 32 s.val from BitVec.add_zero _, sge_word]
    split <;> rfl
  rw [e]
  split
  · exact if_pos rfl
  · exact (if_neg (by decide)).trans (show Ideal.ofBits .f32 0#32 = 0 from Ideal.ofBits_zero .f32)

end Cert.RefIdx

end
-- ==== Proof.RefFold.lean ====
/- The reference's loop, 32 trips by induction, and its two results in the words of the specification. -/
module

public import proofs.«01_k».proof.Proof.RefIdx
public import Idealize.ShloMosaic.Lib.DynamicIndex

@[expose] public section

noncomputable section

namespace Cert.RefFold

open Cert.ReferenceIdeal Cert.ReferenceIdeal.Gen Cert.ReferenceIdeal.Step
open Idealize.ShloMosaic Cert.Spec Cert.RefIdx

/-- A trip's number as a word is the number. -/
theorem word_of (j : ℕ) (hj : j < 32) : (BitVec.ofNat 32 j).toInt = j := toInt_ofNat_of_lt (by omega)

theorem b4_at (j : ℕ) (hj : j < 32) (s : State Ideal) (b : Fin 8) (h : Fin 8) (t : Fin 64) (e : Fin 128) :
    b4 j s (ix5 0 b h t e) = s.main_v108_0 (ix5 ⟨j, hj⟩ b h t e) := by
  unfold b4
  refine (congrFun (Host.dynamicSlice_eq_extractStridedSlice (s := S32x8x8x64x128) S1x8x8x64x128 _ _ (![j, 0, 0, 0, 0] : Fin 5 → ℕ) _ ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega⟩ (fun a => by
    match a with
    | ⟨0, _⟩ => exact word_of j hj
    | ⟨1, _⟩ => exact rfl
    | ⟨2, _⟩ => exact rfl
    | ⟨3, _⟩ => exact rfl
    | ⟨4, _⟩ => exact rfl)) _).trans ?_
  pointwise

theorem b9_at (j : ℕ) (hj : j < 32) (s : State Ideal) (b : Fin 8) (h : Fin 8) (d : Fin 128) :
    b9 j s (ix4 0 b h d) = s.main_v108_1 (ix4 ⟨j, hj⟩ b h d) := by
  unfold b9
  refine (congrFun (Host.dynamicSlice_eq_extractStridedSlice (s := S32x8x8x128) S1x8x8x128 _ _ (![j, 0, 0, 0] : Fin 4 → ℕ) _ ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 128 ≤ 128; omega⟩ (fun a => by
    match a with
    | ⟨0, _⟩ => exact word_of j hj
    | ⟨1, _⟩ => exact rfl
    | ⟨2, _⟩ => exact rfl
    | ⟨3, _⟩ => exact rfl)) _).trans ?_
  pointwise

theorem b15_at (j : ℕ) (hj : j < 32) (s : State Ideal) (b : Fin 8) (h : Fin 8) (d : Fin 128) (e : Fin 128) :
    b15 j s (ix5 0 b h d e) = s.main_v108_2 (ix5 ⟨j, hj⟩ b h d e) := by
  unfold b15
  refine (congrFun (Host.dynamicSlice_eq_extractStridedSlice (s := S32x8x8x128x128) S1x8x8x128x128 _ _ (![j, 0, 0, 0, 0] : Fin 5 → ℕ) _ ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 128 ≤ 128; omega
    | ⟨4, _⟩ => show 0 + 128 ≤ 128; omega⟩ (fun a => by
    match a with
    | ⟨0, _⟩ => exact word_of j hj
    | ⟨1, _⟩ => exact rfl
    | ⟨2, _⟩ => exact rfl
    | ⟨3, _⟩ => exact rfl
    | ⟨4, _⟩ => exact rfl)) _).trans ?_
  pointwise

theorem b21_at (j : ℕ) (hj : j < 32) (s : State Ideal) (b : Fin 8) (h : Fin 8) (t : Fin 64) (e : Fin 128) :
    b21 j s (ix5 0 b h t e) = s.main_v108_3 (ix5 ⟨j, hj⟩ b h t e) := by
  unfold b21
  refine (congrFun (Host.dynamicSlice_eq_extractStridedSlice (s := S32x8x8x64x128) S1x8x8x64x128 _ _ (![j, 0, 0, 0, 0] : Fin 5 → ℕ) _ ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega⟩ (fun a => by
    match a with
    | ⟨0, _⟩ => exact word_of j hj
    | ⟨1, _⟩ => exact rfl
    | ⟨2, _⟩ => exact rfl
    | ⟨3, _⟩ => exact rfl
    | ⟨4, _⟩ => exact rfl)) _).trans ?_
  pointwise

theorem b27_at (j : ℕ) (hj : j < 32) (s : State Ideal) (b : Fin 8) (h : Fin 8) (t : Fin 64) (e : Fin 128) :
    b27 j s (ix5 0 b h t e) = s.main_v108_4 (ix5 ⟨j, hj⟩ b h t e) := by
  unfold b27
  refine (congrFun (Host.dynamicSlice_eq_extractStridedSlice (s := S32x8x8x64x128) S1x8x8x64x128 _ _ (![j, 0, 0, 0, 0] : Fin 5 → ℕ) _ ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega⟩ (fun a => by
    match a with
    | ⟨0, _⟩ => exact word_of j hj
    | ⟨1, _⟩ => exact rfl
    | ⟨2, _⟩ => exact rfl
    | ⟨3, _⟩ => exact rfl
    | ⟨4, _⟩ => exact rfl)) _).trans ?_
  pointwise

theorem b57_at (j : ℕ) (hj : j < 32) (s : State Ideal) (n : Fin 32) (b h : Fin 8) (t : Fin 64) (e : Fin 128) :
    b57 j s (ix5 n b h t e) = if n.val = j then b51 j s (ix4 b h t e) else s.main_v108_8 (ix5 n b h t e) := by
  have hr : S32x8x8x64x128.Slices ![j, 0, 0, 0, 0] S1x8x8x64x128 := ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega⟩
  unfold b57
  refine (congrFun (Host.dynamicUpdateSlice_eq_updateSlice (s := S32x8x8x64x128) (u := S1x8x8x64x128) _ _ _ _ ![j, 0, 0, 0, 0] (fun a => by
    match a with
    | ⟨0, _⟩ => show (min (max (BitVec.ofNat 32 j).toInt 0) ((32 - 1 : ℕ) : ℤ)).toNat = j; rw [word_of j hj]; omega
    | ⟨1, _⟩ => rfl
    | ⟨2, _⟩ => rfl
    | ⟨3, _⟩ => rfl
    | ⟨4, _⟩ => rfl) hr) _).trans ?_
  pointwise [b52]
  by_cases hn : n.val = j
  · rw [dif_pos (by omega), if_pos hn]
  · rw [dif_neg (by omega), if_neg hn]

variable (x : FVec Ideal S8x2048x1024 .f32) (s0 : FVec Ideal S8x8x128x128 .f32) (nw : FVec Ideal S1024 .f32)
  (w : FVec Ideal S1024x4096 .f32) (lb : FVec Ideal S1024 .f32) (hn : FVec Ideal S128 .f32) (wo : FVec Ideal S1024x1024 .f32)

/-- A head's state after `n` chunks. -/
def stAt (b h : Fin 8) (n : ℕ) : Fin 128 → Fin 128 → EReal :=
  state (chunkAt x nw w lb b h) (fun d e => s0 (ix4 b h d e)) n

/-- A head's output rows in chunk `n`. -/
def yAt (b h : Fin 8) (n : ℕ) : Fin 64 → Fin 128 → EReal :=
  (chunkAt x nw w lb b h n).y (stAt x s0 nw w lb b h n) (fun e => hn (ix1 e))

/-- What holds after `n` trips. -/
structure After (n : ℕ) (s : State Ideal) : Prop where
  qi : s.main_v108_0 = A_main_v95 x nw w lb
  dec : s.main_v108_1 = A_main_v102 x nw w lb
  kv : s.main_v108_2 = A_main_v100 x nw w lb
  intra : s.main_v108_3 = A_main_v93 x nw w lb
  gate : s.main_v108_4 = A_main_v106 x nw w lb
  nrm : s.main_v108_5 = hn
  st : ∀ (b h : Fin 8) (d e : Fin 128), s.main_v108_7 (ix4 b h d e) = stAt x s0 nw w lb b h n d e
  out : ∀ (k : Fin 32) (b h : Fin 8) (t : Fin 64) (e : Fin 128), k.val < n →
    s.main_v108_8 (ix5 k b h t e) = yAt x s0 nw w lb hn b h k t e

variable {x s0 nw w lb hn}

theorem After.step {j : ℕ} (hj : j < 32) {s : State Ideal} (H : After x s0 nw w lb hn j s) :
    After x s0 nw w lb hn (j + 1) (step j s) where
  qi := H.qi
  dec := H.dec
  kv := H.kv
  intra := H.intra
  gate := H.gate
  nrm := H.nrm
  st b h d e := by
    rw [step_main_v108_7]
    pointwise [b47, b46, b45, b44, b16, b10]
    rw [b9_at j hj, b15_at j hj, H.dec, H.kv, H.st, dec_at, kv_at]
    rfl
  out k b h t e hk := by
    rw [step_main_v108_8, b57_at j hj]
    by_cases hkj : k.val = j
    · rw [if_pos hkj]
      obtain rfl : k = ⟨j, hj⟩ := Fin.ext hkj
      pointwise [b51, b50, b49, b48, b43, b42, b41, b40, b39, b38, b37, b36, b35, b34, b33, b32, b31, b30, b29, b28, b22, b5]
      simp only [b21_at j hj, b4_at j hj, b27_at j hj, H.qi, H.intra, H.gate, H.nrm, H.st, qi_at, intra_at, g_at]
      rfl
    · rw [if_neg hkj]
      exact H.out k b h t e (by omega)

open Cert.RefLoop

variable (x s0 nw w lb hn)

/-- The layer's output at an index. -/
def outAt (b : Fin 8) (t : Fin 2048) (e : Fin 1024) : EReal :=
  x (ix3 b t e) + ∑ k : Fin 1024,
    yAt x s0 nw w lb hn b ⟨k / 128, by omega⟩ (t / 64) ⟨t % 64, by omega⟩ ⟨k % 128, by omega⟩ * wo (ix2 k e)

/-- The layer's output and last state as arrays. -/
def outArr : FVec Ideal S8x2048x1024 .f32 := fun j => outAt x s0 nw w lb hn wo (j 0) (j 1) (j 2)
def stArr : FVec Ideal S8x8x128x128 .f32 := fun j => stAt x s0 nw w lb (j 0) (j 1) 32 (j 2) (j 3)

variable {x s0 nw w lb hn}

theorem After.out_eq {s : State Ideal} (H : After x s0 nw w lb hn 32 s) : R_main_v112 s x wo = outArr x s0 nw w lb hn wo := by
  funext j
  obtain ⟨b, t, e, rfl⟩ : ∃ (b : Fin 8) (t : Fin 2048) (e : Fin 1024), j = ix3 b t e := ⟨j 0, j 1, j 2, by pointwise⟩
  pointwise [R_main_v112]
  refine congrArg (x (ix3 b t e) + ·) (Finset.sum_congr rfl fun k _ => congrArg (· * wo (ix2 k e)) ?_)
  exact H.out _ b _ _ _ (by show t.val / 64 < 32; omega)

theorem After.st_eq {s : State Ideal} (H : After x s0 nw w lb hn 32 s) : s.main_v108_7 = stArr x s0 nw w lb := by
  funext j
  obtain ⟨b, h, d, e, rfl⟩ : ∃ (b h : Fin 8) (d e : Fin 128), j = ix4 b h d e := ⟨j 0, j 1, j 2, j 3, by pointwise⟩
  exact H.st b h d e

open Idealize.SL.Sem Idealize.ShloMosaic.TcCoe

theorem after_all (m : (ℓ : Loc nD τ sig) → Buf (Elt Ideal) ℓ) (c : Dev nD) : ∀ n, n ≤ 32 →
    After (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      n (stateAt m c n)
  | 0, _ => ⟨rfl, rfl, rfl, rfl, rfl, rfl, fun _ _ _ _ => rfl, fun _ _ _ _ _ h => absurd h (Nat.not_lt_zero _)⟩
  | n + 1, h => (after_all m c n (by omega)).step (by omega)

end Cert.RefFold

end
-- ==== Proof.Close.lean ====
/- What one grid point leaves, without the buffers: the state buffer after it, its output rows, and at a batch's last
point the block of final states, each as a function of the blocks the point reads. -/
module

public import proofs.«01_k».proof.Proof.RefFold

@[expose] public section

noncomputable section

namespace Cert.Tile

open Cert.KernelIdeal Cert.KernelIdeal.Gen
open Idealize.ShloMosaic Idealize.SL.Sem

variable {F : FTy → Type} [FloatOps F]

/-- A load of a whole buffer reads what it holds. -/
theorem load_whole {s : Shape} {e : EltTy} (a : Memref sig .tc .vmem s e) (h : a.IsWhole) (x : Vec F s e)
    {off : Fin s.rank → ℕ} (ho : off = fun _ => 0) (inb : ∀ k, off k + s.size k ≤ s.size k) :
    View.readAt (Elt F) a.view (Rect.unit off s.size inb).toLoadRect (h.unread x) = x := by
  rw [View.readAt_eq_ld, h.read_unread]
  exact View.ld_unit_zero ho inb x

theorem zero2 : (![0, 0] : Fin 2 → ℕ) = fun _ => 0 := by decide
theorem zero3 : (![0, 0, 0] : Fin 3 → ℕ) = fun _ => 0 := by decide

section

variable (c : Dev nD) (i : grid0.Coords) (arg2 : Memref sig .tc .vmem S1x256x1024 .f32) (harg2 : arg2.IsWhole)
   (arg3 : Memref sig .tc .vmem S1x8x128x128 .f32) (harg3 : arg3.IsWhole) (arg4 : Memref sig .tc .vmem S1x1024 .f32)
   (harg4 : arg4.IsWhole) (arg5 : Memref sig .tc .vmem S1024x4096 .bf16) (harg5 : arg5.IsWhole)
   (arg6 : Memref sig .tc .vmem S1x1024 .f32) (harg6 : arg6.IsWhole) (arg7 : Memref sig .tc .vmem S1x128 .f32)
   (harg7 : arg7.IsWhole) (arg8 : Memref sig .tc .vmem S1024x1024 .bf16) (harg8 : arg8.IsWhole)
   (arg9 : Memref sig .tc .vmem S1x256x1024 .f32) (harg9 : arg9.IsWhole)
   (arg10 : Memref sig .tc .vmem S1x8x128x128 .f32) (harg10 : arg10.IsWhole)
   (arg11 : Memref sig .tc .vmem S8x128x128 .f32) (harg11 : arg11.IsWhole)
   (arg12 : Memref sig .tc .vmem S256x1024 .f32) (harg12 : arg12.IsWhole)
  (x0 : Vec F S1x256x1024 .f32) (x1 : Vec F S1x8x128x128 .f32) (x2 : Vec F S1x1024 .f32) (x3 : Vec F S1024x4096 .bf16)
  (x4 : Vec F S1x1024 .f32) (x5 : Vec F S1x128 .f32) (x6 : Vec F S1024x1024 .bf16) (xs0 : Vec F S8x128x128 .f32)

theorem blks_eq : blks arg2 harg2 arg4 harg4 arg5 harg5 arg6 harg6 arg7 harg7 arg8 harg8 x0 x2 x3 x4 x5 x6
    = ⟨x0, x2, x3, x4, x5, x6⟩ := by
  unfold blks
  rw [load_whole arg2 harg2 x0 zero3, load_whole arg4 harg4 x2 zero2, load_whole arg5 harg5 x3 zero2,
    load_whole arg6 harg6 x4 zero2, load_whole arg7 harg7 x5 zero2, load_whole arg8 harg8 x6 zero2]

end

/-- A head's tile of a state buffer, -/
def oldTile (xs : Vec F S8x128x128 .f32) (h : ℕ) : Vec F S1x128x128 .f32 :=
  fun j => xs (ix3 ⟨h % 8, Nat.mod_lt _ (by decide)⟩ (j 1) (j 2))

/-- and of a block of initial states, transposed. -/
def inTile (x1 : Vec F S1x8x128x128 .f32) (h : ℕ) : Vec F S1x128x128 .f32 :=
  k0_pay5 fun j => x1 (ix4 0 ⟨h % 8, Nat.mod_lt _ (by decide)⟩ (j 2) (j 3))

/-- The state buffer after a point. -/
def afterBuf (I : Blocks F) (T0 : ℕ → Vec F S1x128x128 .f32) : Vec F S8x128x128 .f32 :=
  fun j => tileAt I T0 4 (j 0).val (ix3 0 (j 1) (j 2))

/-- The row buffer after a point. -/
def rowBuf (I : Blocks F) (T0 : ℕ → Vec F S1x128x128 .f32) : Vec F S256x1024 .f32 :=
  fun j => rowsY I ((j 0).val / 64) (tileAt I T0 ((j 0).val / 64)) (ix2 ⟨(j 0).val % 64, Nat.mod_lt _ (by decide)⟩ (j 1))

/-- The output rows of a point. -/
def outBuf (I : Blocks F) (T0 : ℕ → Vec F S1x128x128 .f32) : Vec F S1x256x1024 .f32 :=
  k0_pay263 (k0_pay17 I.x) (rowBuf I T0) I.wout

/-- The block of final states. -/
def lastBuf (I : Blocks F) (T0 : ℕ → Vec F S1x128x128 .f32) : Vec F S1x8x128x128 .f32 :=
  fun j => k0_pay1 (tileAt I T0 4 (j 1).val) (ix4 0 0 (j 2) (j 3))

theorem tile_idx (h : Fin 8) (a b : Fin 128) :
    (tileRect h.val).toLoadRect.idx (ix3 0 a b : S1x128x128.Idx) = (ix3 h a b : S8x128x128.Idx) := by
  funext k
  refine Fin.ext ?_
  match k with
  | ⟨0, _⟩ => show h.val % 8 + 1 * 0 = h.val; omega
  | ⟨1, _⟩ => show 0 + 1 * a.val = a.val; omega
  | ⟨2, _⟩ => show 0 + 1 * b.val = b.val; omega

/-- The state buffer after some stores, from the loads of its tiles. -/
theorem canon_of_tiles {κ : Kind} {sp : Space} (V : View sig κ sp S8x128x128 .f32)
    (L : List (View.Piece (Elt F) S8x128x128 .f32)) (T : ℕ → Vec F S1x128x128 .f32) (hT : ∀ h, h < 8 → ldCov V h L = T h) :
    View.canon L = fun j => T (j 0).val (ix3 0 (j 1) (j 2)) := by
  funext j
  have e := congrFun (hT (j 0).val (j 0).isLt) (ix3 0 (j 1) (j 2))
  refine Eq.trans ?_ e
  refine Eq.trans ?_ (congrFun (View.readCov_eq_canon' V L (tileRect (j 0).val).toLoadRect) _).symm
  refine congrArg (View.canon L) ?_
  refine Eq.trans ?_ (tile_idx (j 0) (j 1) (j 2)).symm
  funext k
  match k with
  | ⟨0, _⟩ => rfl
  | ⟨1, _⟩ => rfl
  | ⟨2, _⟩ => rfl

section
variable {κ : Kind} {sp : Space} (V : View sig κ sp S8x128x128 .f32) (I : Blocks F) (T0 : ℕ → Vec F S1x128x128 .f32)

theorem inits_tiles (n h : ℕ) (hn : n ≤ 8) (hh : h < n) : ldCov V h (inits T0 n) = T0 h := by
  induction n with
  | zero => omega
  | succ n ih =>
    rw [inits]
    by_cases e : n = h
    · subst e; exact ldCov_same V _ _ _
    · exact (ldCov_other V (by omega) _ _).trans (ih (by omega) (by omega))

theorem firsts_tiles_aux (n h : ℕ) (hn : n ≤ 8) (hh : h < n) :
    ldCov V h (steps I (fun n _ => T0 n) [] 0 n) = headSt I 0 h (T0 h) := by
  induction n with
  | zero => omega
  | succ n ih =>
    rw [steps, Nat.zero_add, Nat.div_eq_of_lt (by omega), Nat.mod_eq_of_lt (by omega)]
    by_cases e : n = h
    · subst e; exact ldCov_same V _ _ _
    · exact (ldCov_other V (by omega) _ _).trans (ih (by omega) (by omega))

theorem firsts_tiles (h : ℕ) (hh : h < 8) : ldCov V h (firsts I T0) = tileAt I T0 1 h :=
  firsts_tiles_aux V I T0 8 h le_rfl hh

theorem later_tiles (n h : ℕ) (hh : h < 8) :
    ldCov V h (later I T0 V n) = tileAt I T0 (1 + n / 8 + if h < n % 8 then 1 else 0) h :=
  ldCov_steps V I T0 (firsts I T0) 1 (firsts_tiles V I T0) n h hh

theorem first_tiles (n h : ℕ) (hh : h < 8) :
    ldCov V h (first I T0 V n) = tileAt I T0 (0 + n / 8 + if h < n % 8 then 1 else 0) h :=
  ldCov_steps V I T0 (inits T0 8) 0 (fun h hh => inits_tiles V T0 8 h le_rfl hh) n h hh

theorem laterSt_eq (r h : ℕ) (hh : h < 8) : laterSt I T0 V r h = tileAt I T0 r h := by
  cases r with
  | zero => rfl
  | succ r =>
    rw [laterSt, later_tiles V I T0 _ h hh, if_neg (by omega)]
    congr 1; omega

theorem firstSt_eq (r h : ℕ) (hh : h < 8) : firstSt I T0 V r h = tileAt I T0 r h := by
  rw [firstSt, first_tiles V I T0 _ h hh, if_neg (by omega)]
  congr 1; omega

theorem later_canon : View.canon (later I T0 V 24) = afterBuf I T0 :=
  canon_of_tiles V _ (tileAt I T0 4) fun h hh => later_tiles V I T0 24 h hh

theorem first_canon : View.canon (first I T0 V 32) = afterBuf I T0 :=
  canon_of_tiles V _ (tileAt I T0 4) fun h hh => first_tiles V I T0 32 h hh

end

/-- A group's rows go by the tiles its eight heads read. -/
theorem rowsY_congr (I : Blocks F) (r : ℕ) {st st' : ℕ → Vec F S1x128x128 .f32} (h : ∀ k, k < 8 → st k = st' k) :
    rowsY I r st = rowsY I r st' := by
  unfold rowsY
  dsimp only
  rw [h 0 (by decide), h 1 (by decide), h 2 (by decide), h 3 (by decide), h 4 (by decide), h 5 (by decide), h 6 (by decide),
    h 7 (by decide)]

/-- The store of a group's rows holds the rows of the row buffer. -/
theorem row_piece (I : Blocks F) (T0 : ℕ → Vec F S1x128x128 .f32) (r : ℕ) (hr : r < 4) (st : ℕ → Vec F S1x128x128 .f32)
    (hst : ∀ h, h < 8 → st h = tileAt I T0 r h)
    (hb : ∀ a, (![64 * r, 0] : Fin 2 → ℕ) a + S64x1024.size a ≤ S256x1024.size a) (x : S64x1024.Idx) :
    rowsY I r st x = rowBuf I T0 ((Rect.unit (s := S256x1024) ![64 * r, 0] S64x1024.size hb).emb x) := by
  have hx : (x 0).val < 64 := (x 0).isLt
  have h0 : ((Rect.unit (s := S256x1024) ![64 * r, 0] S64x1024.size hb).emb x 0).val = 64 * r + (x 0).val := by
    show 64 * r + 1 * (x 0).val = _; omega
  have h1 : ((Rect.unit (s := S256x1024) ![64 * r, 0] S64x1024.size hb).emb x 1) = (x 1 : Fin 1024) := Fin.ext (by
    show 0 + 1 * (x 1).val = _; omega)
  have e : ∀ (k : ℕ) (a : Fin 64), k = r → a = x 0 →
      rowsY I r (tileAt I T0 r) x = rowsY I k (tileAt I T0 k) (ix2 a (x 1)) := by
    rintro k a rfl rfl
    exact congrArg _ (by pointwise)
  rw [rowsY_congr I r hst]
  unfold rowBuf
  rw [h1]
  exact e _ _ (by rw [h0]; omega) (Fin.ext (by show _ % 64 = _; rw [h0]; omega))

theorem rows_canon (I : Blocks F) (T0 : ℕ → Vec F S1x128x128 .f32) {κ : Kind} {sp : Space} (V : View sig κ sp S256x1024 .f32)
    (st : ℕ → ℕ → Vec F S1x128x128 .f32) (hst : ∀ r h, h < 8 → st r h = tileAt I T0 r h) :
    (V.readCov (rowStores I st) (Rect.unit (s := S256x1024) ![0, 0] S256x1024.size (by decide)).toLoadRect : Vec F S256x1024 .f32)
      = rowBuf I T0 := by
  rw [View.readCov_eq_canon']
  have hc : View.canon (rowStores I st) = rowBuf I T0 := by
    funext y
    refine View.canon_apply_of_pieces (rowBuf I T0) (rowStores I st) ?_ y ?_
    · unfold rowStores
      intro p hp x
      simp only [List.mem_cons, List.not_mem_nil, or_false] at hp
      rcases hp with rfl | rfl | rfl | rfl
      · exact row_piece I T0 3 (by decide) _ (hst 3) (by decide) x
      · exact row_piece I T0 2 (by decide) _ (hst 2) (by decide) x
      · exact row_piece I T0 1 (by decide) _ (hst 1) (by decide) x
      · exact row_piece I T0 0 (by decide) _ (hst 0) (by decide) x
    · have h0 : (y 0).val < 256 := (y 0).isLt
      have hm : ∀ (r : ℕ) (hb : ∀ a, (![r, 0] : Fin 2 → ℕ) a + S64x1024.size a ≤ S256x1024.size a), r ≤ (y 0).val →
          (y 0).val < r + 64 → y ∈ (Rect.unit (s := S256x1024) ![r, 0] S64x1024.size hb).set := by
        intro r hb h1 h2
        refine (LoadRect.mem_set _).mpr fun a => ?_
        match a with
        | ⟨0, _⟩ => exact ⟨(y 0).val - r, (by show _ < 64; omega), (by show (y 0).val = r + 1 * _; omega)⟩
        | ⟨1, _⟩ => exact ⟨(y 1).val, (y 1).isLt, (by show (y 1).val = 0 + 1 * _; omega)⟩
      unfold rowStores
      simp only [List.mem_cons, List.not_mem_nil, or_false]
      by_cases h3 : 192 ≤ (y 0).val
      · exact ⟨_, .inl rfl, hm 192 (by decide) h3 (by omega)⟩
      by_cases h2 : 128 ≤ (y 0).val
      · exact ⟨_, .inr (.inl rfl), hm 128 (by decide) h2 (by omega)⟩
      by_cases h1 : 64 ≤ (y 0).val
      · exact ⟨_, .inr (.inr (.inl rfl)), hm 64 (by decide) h1 (by omega)⟩
      · exact ⟨_, .inr (.inr (.inr rfl)), hm 0 (by decide) (Nat.zero_le _) (by omega)⟩
  rw [hc]
  exact View.ld_unit_zero (Val := Elt F) zero2 (by decide) (rowBuf I T0)

theorem outs_canon (I : Blocks F) (T0 : ℕ → Vec F S1x128x128 .f32) {κ : Kind} {sp : Space} (V : View sig κ sp S256x1024 .f32)
    (st : ℕ → ℕ → Vec F S1x128x128 .f32) (hst : ∀ r h, h < 8 → st r h = tileAt I T0 r h) :
    View.canon (outStores I V st) = outBuf I T0 := by
  unfold outStores outBuf
  rw [rows_canon I T0 V st hst]
  exact View.canon_unit_zero zero3 _ _

theorem lasts_canon_aux (T : ℕ → Vec F S1x128x128 .f32) (n : ℕ) (hn : n ≤ 8) (h : Fin 8) (hh : h.val < n) (a b : Fin 128) :
    View.canon (lastStores T n) (ix4 0 h a b : S1x8x128x128.Idx) = k0_pay1 (T h.val) (ix4 0 0 a b) := by
  induction n with
  | zero => omega
  | succ n ih =>
    rw [lastStores]
    by_cases e : n = h.val
    · subst e
      have hi : (ix4 0 h a b : S1x8x128x128.Idx) = (stTileRect h.val).emb (ix4 0 0 a b : S1x1x128x128.Idx) := by
        funext k
        refine Fin.ext ?_
        match k with
        | ⟨0, _⟩ => rfl
        | ⟨1, _⟩ => show h.val = h.val % 8 + 1 * 0; omega
        | ⟨2, _⟩ => show a.val = 0 + 1 * a.val; omega
        | ⟨3, _⟩ => show b.val = 0 + 1 * b.val; omega
      rw [hi]
      exact View.canon_cons_emb (Val := Elt F) (stTileRect h.val) _ _ _
    · refine (View.canon_cons_of_not_mem (Val := Elt F) _ _ ?_).trans (ih (by omega) (by omega))
      intro hm
      obtain ⟨j, hj, e1⟩ := (LoadRect.mem_set _).mp hm 1
      have e2 : h.val = n % 8 + 1 * j := e1
      have hj' : j < 1 := hj
      omega

theorem lasts_canon (T : ℕ → Vec F S1x128x128 .f32) :
    View.canon (lastStores T 8) = fun j : S1x8x128x128.Idx => k0_pay1 (T (j 1).val) (ix4 0 0 (j 2) (j 3)) := by
  funext j
  obtain ⟨h, a, b, rfl⟩ : ∃ (h : Fin 8) (a b : Fin 128), j = ix4 0 h a b := ⟨j 1, j 2, j 3, by
    funext k
    match k with
    | ⟨0, _⟩ => exact Subsingleton.elim (α := Fin 1) _ _
    | ⟨1, _⟩ => rfl
    | ⟨2, _⟩ => rfl
    | ⟨3, _⟩ => rfl⟩
  exact lasts_canon_aux T 8 le_rfl h h.isLt a b

section

variable (c : Dev nD) (i : grid0.Coords) (arg2 : Memref sig .tc .vmem S1x256x1024 .f32) (harg2 : arg2.IsWhole)
   (arg3 : Memref sig .tc .vmem S1x8x128x128 .f32) (harg3 : arg3.IsWhole) (arg4 : Memref sig .tc .vmem S1x1024 .f32)
   (harg4 : arg4.IsWhole) (arg5 : Memref sig .tc .vmem S1024x4096 .bf16) (harg5 : arg5.IsWhole)
   (arg6 : Memref sig .tc .vmem S1x1024 .f32) (harg6 : arg6.IsWhole) (arg7 : Memref sig .tc .vmem S1x128 .f32)
   (harg7 : arg7.IsWhole) (arg8 : Memref sig .tc .vmem S1024x1024 .bf16) (harg8 : arg8.IsWhole)
   (arg9 : Memref sig .tc .vmem S1x256x1024 .f32) (harg9 : arg9.IsWhole)
   (arg10 : Memref sig .tc .vmem S1x8x128x128 .f32) (harg10 : arg10.IsWhole)
   (arg11 : Memref sig .tc .vmem S8x128x128 .f32) (harg11 : arg11.IsWhole)
   (arg12 : Memref sig .tc .vmem S256x1024 .f32) (harg12 : arg12.IsWhole)
  (x0 : Vec F S1x256x1024 .f32) (x1 : Vec F S1x8x128x128 .f32) (x2 : Vec F S1x1024 .f32) (x3 : Vec F S1024x4096 .bf16)
  (x4 : Vec F S1x1024 .f32) (x5 : Vec F S1x128 .f32) (x6 : Vec F S1024x1024 .bf16) (xs0 : Vec F S8x128x128 .f32)

theorem ldOld_eq : ldOld arg11 harg11 xs0 = oldTile xs0 := by
  funext h j
  unfold ldOld oldTile
  rw [View.readAt_eq_ld, harg11.read_unread]
  refine congrArg xs0 (funext fun k => Fin.ext ?_)
  have h0 : (j 0).val < 1 := (j 0).isLt
  match k with
  | ⟨0, _⟩ => show h % 8 + 1 * (j 0).val = h % 8; omega
  | ⟨1, _⟩ => show 0 + 1 * (j 1).val = (j 1).val; omega
  | ⟨2, _⟩ => show 0 + 1 * (j 2).val = (j 2).val; omega

theorem tileIn_eq : tileIn arg3 harg3 x1 = inTile x1 := by
  funext h
  unfold tileIn inTile
  refine congrArg k0_pay5 (funext fun j => ?_)
  rw [View.readAt_eq_ld, harg3.read_unread]
  refine congrArg x1 (funext fun k => Fin.ext ?_)
  have h0 : (j 0).val < 1 := (j 0).isLt
  have h1 : (j 1).val < 1 := (j 1).isLt
  match k with
  | ⟨0, _⟩ => show 0 + 1 * (j 0).val = 0; omega
  | ⟨1, _⟩ => show h % 8 + 1 * (j 1).val = h % 8; omega
  | ⟨2, _⟩ => show 0 + 1 * (j 2).val = (j 2).val; omega
  | ⟨3, _⟩ => show 0 + 1 * (j 3).val = (j 3).val; omega

theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6
      = afterBuf ⟨x0, x2, x3, x4, x5, x6⟩ (inTile x1) := by
  unfold sout0_A_0
  rw [View.read_writes_junk_eq_canon, stores_A, blks_eq, tileIn_eq]
  exact first_canon _ _ _

theorem out_A (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6
      = outBuf ⟨x0, x2, x3, x4, x5, x6⟩ (inTile x1) := by
  unfold out0_A_7
  rw [View.read_writes_junk_eq_canon, outs_A, blks_eq, tileIn_eq]
  exact outs_canon _ _ _ _ (firstSt_eq _ _ _)

theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = afterBuf ⟨x0, x2, x3, x4, x5, x6⟩ (oldTile xs0) := by
  unfold sout0_B_0
  rw [View.read_writes_junk_eq_canon, stores_B, blks_eq, ldOld_eq]
  exact later_canon _ _ _

theorem out_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = outBuf ⟨x0, x2, x3, x4, x5, x6⟩ (oldTile xs0) := by
  unfold out0_B_7
  rw [View.read_writes_junk_eq_canon, outs_B, blks_eq, ldOld_eq]
  exact outs_canon _ _ _ _ (laterSt_eq _ _ _)

theorem sout_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = afterBuf ⟨x0, x2, x3, x4, x5, x6⟩ (oldTile xs0) := by
  unfold sout0_C_0
  rw [View.read_writes_junk_eq_canon, stores_C, blks_eq, ldOld_eq]
  exact later_canon _ _ _

theorem out_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = outBuf ⟨x0, x2, x3, x4, x5, x6⟩ (oldTile xs0) := by
  unfold out0_C_7
  rw [View.read_writes_junk_eq_canon, outs_C, blks_eq, ldOld_eq]
  exact outs_canon _ _ _ _ (laterSt_eq _ _ _)

theorem last_C (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = lastBuf ⟨x0, x2, x3, x4, x5, x6⟩ (oldTile xs0) := by
  unfold out0_C_8
  rw [View.read_writes_junk_eq_canon, lasts_C, blks_eq, ldOld_eq, lasts_canon]
  funext j
  exact congrArg (fun T => k0_pay1 T (ix4 0 0 (j 2) (j 3))) (later_tiles _ _ _ 24 (j 1).val (j 1).isLt)

end

end Cert.Tile

end
-- ==== Proof.Rows.lean ====
/- What one grid point computes for a head, read at an index: the chunk of its group of rows. -/
module

public import proofs.«01_k».proof.Proof.Close

@[expose] public section

noncomputable section

namespace Cert.Rows

open Cert.KernelIdeal Cert.KernelIdeal.Gen Cert.Tile Cert.Spec
open Idealize.ShloMosaic

variable (I : Blocks Ideal)

/-- The projection of a row of the block. -/
def pr (t : Fin 256) (j : Fin 4096) : EReal :=
  proj (fun d => I.nw (ix2 0 d)) (fun d j => I.win (ix2 d j)) (fun d => I.x (ix3 0 t d)) j

theorem q_at (t : Fin 256) (e : Fin 1024) : I.q (ix2 t e) = silu (pr I t ⟨e, by omega⟩) := by
  pointwise [Blocks.q, k0_pay20, k0_pay18, k0_pay17]
  simp only [silu, pr, proj, c1024, eps, zero_sub]

theorem fz_at (t : Fin 256) (e : Fin 1024) : I.fz (ix2 t e) = pr I t ⟨1024 + e, by omega⟩ := by
  pointwise [Blocks.fz, k0_pay21, k0_pay18, k0_pay17]
  rfl

theorem v_at (t : Fin 256) (e : Fin 1024) : I.v (ix2 t e) = pr I t ⟨2048 + e, by omega⟩ := by
  pointwise [Blocks.v, k0_pay22, k0_pay18, k0_pay17]
  rfl

theorem g_at (t : Fin 256) (e : Fin 1024) : I.g (ix2 t e) = pr I t ⟨3072 + e, by omega⟩ := by
  pointwise [Blocks.g, k0_pay23, k0_pay18, k0_pay17]
  rfl

theorem lf_at (t : Fin 256) (e : Fin 1024) : I.lf (ix2 t e) = logf (I.lb (ix2 0 e)) (I.fz (ix2 t e)) := by
  pointwise [Blocks.lf, k0_pay25, k0_pay19, k0_pay24]
  simp only [zero_sub]
  rfl

theorem k_at (t : Fin 256) (e : Fin 1024) : I.k (ix2 t e) = key (I.lb (ix2 0 e)) (I.fz (ix2 t e)) := by
  pointwise [Blocks.k, k0_pay26, k0_pay19, k0_pay24]
  simp only [zero_sub, key]

/-- The chunk of a head and a group of rows. -/
def pchunk (h : Fin 8) (r : Fin 4) : Chunk :=
  chunk (fun d => I.nw (ix2 0 d)) (fun d j => I.win (ix2 d j)) (fun d => I.lb (ix2 0 d)) h
    fun s d => I.x (ix3 0 ⟨64 * r + s, by omega⟩ d)

abbrev row (r : Fin 4) (s : Fin 64) : Fin 256 := ⟨64 * (r.val % 4) + s, by omega⟩
abbrev kcol (h : Fin 8) (d : Fin 128) : Fin 1024 := ⟨128 * (h.val % 8) + d, by omega⟩

theorem row_eq (r : Fin 4) (s : Fin 64) : row r s = ⟨64 * r + s, by omega⟩ := Fin.ext (by show 64 * (r.val % 4) + s.val = 64 * r.val + s.val; omega)
theorem kcol_eq (h : Fin 8) (d : Fin 128) : kcol h d = col h d := Fin.ext (by show 128 * (h.val % 8) + d.val = h.val * 128 + d.val; omega)

theorem q_head (h : Fin 8) (r : Fin 4) (s : Fin 64) (d : Fin 128) : I.q (ix2 (row r s) (kcol h d)) = (pchunk I h r).q s d := by
  rw [q_at, kcol_eq, row_eq]; rfl

theorem k_head (h : Fin 8) (r : Fin 4) (s : Fin 64) (d : Fin 128) : I.k (ix2 (row r s) (kcol h d)) = (pchunk I h r).k s d := by
  rw [k_at, fz_at, kcol_eq, row_eq]; rfl

theorem v_head (h : Fin 8) (r : Fin 4) (s : Fin 64) (d : Fin 128) : I.v (ix2 (row r s) (kcol h d)) = (pchunk I h r).v s d := by
  rw [v_at, kcol_eq, row_eq]; rfl

theorem g_head (h : Fin 8) (r : Fin 4) (s : Fin 64) (d : Fin 128) : I.g (ix2 (row r s) (kcol h d)) = (pchunk I h r).g s d := by
  rw [g_at, kcol_eq, row_eq]; rfl

theorem lf_head (h : Fin 8) (r : Fin 4) (s : Fin 64) (d : Fin 128) : I.lf (ix2 (row r s) (kcol h d)) = (pchunk I h r).lf s d := by
  rw [lf_at, fz_at, kcol_eq, row_eq]; rfl

theorem select_sle (j s : Fin 64) (a b : EReal) :
    Scalar.select (IntOp.cmpi .sle (BitVec.ofNat 32 j) (BitVec.ofNat 32 s)) a b = if j ≤ s then a else b := by
  rw [sle_word]; split <;> rfl

theorem csum_head (h : Fin 8) (r : Fin 4) (s : Fin 64) (d : Fin 128) :
    I.csum r.val (ix2 s (kcol h d)) = (pchunk I h r).cs s d := by
  pointwise [Blocks.csum, k0_pay32, sub]
  simp only [select_sle]
  exact Finset.sum_congr rfl fun j _ => by rw [lf_head]

/-- A head's state after the group. -/
theorem headSt_at (h : Fin 8) (r : Fin 4) (st : FVec Ideal S1x128x128 .f32) (S : Fin 128 → Fin 128 → EReal)
    (hS : ∀ d e, st (ix3 0 e d) = S d e) (e d : Fin 128) :
    headSt I r.val h.val st (ix3 0 e d) = (pchunk I h r).next S d e := by
  pointwise [headSt, cut, sub, k0_pay40, k0_pay38]
  simp only [v_head, k_head, csum_head, hS]
  exact congrArg _ (Finset.sum_congr rfl fun j _ => mul_comm _ _)

/-- A head's output for the group. -/
theorem headOut_at (h : Fin 8) (r : Fin 4) (st : FVec Ideal S1x128x128 .f32) (S : Fin 128 → Fin 128 → EReal)
    (hS : ∀ d e, st (ix3 0 e d) = S d e) (s : Fin 64) (e : Fin 128) :
    headOut I r.val h.val st (ix2 s e) = (pchunk I h r).o S s e := by
  pointwise [headOut, cut, sub, k0_pay40, k0_pay35, k0_pay36, k0_pay37, k0_pay39, k0_pay32, k0_pay34]
  simp only [q_head, v_head, k_head, csum_head, hS, select_sle]
  refine congrArg (· + _) (Finset.sum_congr rfl fun j _ => ?_)
  rw [ite_mul, zero_mul]

theorem headY_at (h : Fin 8) (r : Fin 4) (o : FVec Ideal S64x128 .f32) (S : Fin 128 → Fin 128 → EReal)
    (ho : ∀ s e, o (ix2 s e) = (pchunk I h r).o S s e) (s : Fin 64) (e : Fin 128) :
    headY I r.val h.val o (ix2 s e) = (pchunk I h r).y S (fun e => I.hnw (ix2 0 e)) s e := by
  pointwise [headY, cut, sub, k0_pay31]
  simp only [g_head, ho, zero_sub]
  rfl

/-- The states of a head over the groups of a point. -/
def pstate (h : Fin 8) (S : Fin 128 → Fin 128 → EReal) (r : ℕ) : Fin 128 → Fin 128 → EReal :=
  state (fun n => pchunk I h ⟨n % 4, Nat.mod_lt _ (by decide)⟩) S r

theorem tileAt_at (T0 : ℕ → FVec Ideal S1x128x128 .f32) (h : Fin 8) (S : Fin 128 → Fin 128 → EReal)
    (hS : ∀ d e, T0 h.val (ix3 0 e d) = S d e) (r : ℕ) (hr : r ≤ 4) (d e : Fin 128) :
    tileAt I T0 r h.val (ix3 0 e d) = pstate I h S r d e := by
  induction r generalizing d e with
  | zero => exact hS d e
  | succ r ih =>
    have hm : (⟨r % 4, Nat.mod_lt _ (by decide)⟩ : Fin 4) = ⟨r, by omega⟩ := Fin.ext (Nat.mod_eq_of_lt (by omega))
    rw [tileAt, headSt_at I h ⟨r, by omega⟩ _ (pstate I h S r) (fun d e => ih (by omega) d e)]
    show _ = (pchunk I h ⟨r % 4, Nat.mod_lt _ (by decide)⟩).next (pstate I h S r) d e
    rw [hm]

/-- The rows a group stores. -/
theorem rowsY_at (st : ℕ → FVec Ideal S1x128x128 .f32) (r : ℕ) (s : Fin 64) (h : Fin 8) (e : Fin 128) :
    rowsY I r st (ix2 s (col h e)) = headY I r h.val (headOut I r h.val (st h.val)) (ix2 s e) := by
  have key : ∀ (k : ℕ) (c : Fin 128), k = h.val → c = e → headY I r k (headOut I r k (st k)) (ix2 s c)
      = headY I r h.val (headOut I r h.val (st h.val)) (ix2 s e) := by rintro k c rfl rfl; rfl
  pointwise [rowsY]
  split_ifs <;> exact key _ _ (by omega) (Fin.ext (by dsimp only; omega))

theorem out_at (T0 : ℕ → FVec Ideal S1x128x128 .f32) (t : Fin 256) (e : Fin 1024) :
    outBuf I T0 (ix3 0 t e) = I.x (ix3 0 t e) + ∑ k, rowBuf I T0 (ix2 t k) * I.wout (ix2 k e) := by
  pointwise [outBuf, k0_pay263, k0_pay17]

theorem last_at (T0 : ℕ → FVec Ideal S1x128x128 .f32) (h : Fin 8) (d e : Fin 128) :
    lastBuf I T0 (ix4 0 h d e) = tileAt I T0 4 h.val (ix3 0 e d) := by
  show k0_pay1 _ (ix4 0 0 d e) = _
  pointwise [k0_pay1]

theorem in_at (x1 : Vec Ideal S1x8x128x128 .f32) (h : Fin 8) (d e : Fin 128) :
    inTile (F := Ideal) x1 h.val (ix3 0 e d) = x1 (ix4 0 ⟨h.val % 8, Nat.mod_lt _ (by decide)⟩ d e) := by
  pointwise [inTile, k0_pay5]

end Cert.Rows

end
-- ==== Proof.Grid.lean ====
/- The kernel over its grid: each point's blocks as parts of the arguments, the states carried from point to point, and
what the two result arrays hold at the end. -/
module

public import proofs.«01_k».proof.Proof.Rows
public import Idealize.ShloMosaic.Lib.Pipeline.ValueKit
public import Idealize.ShloMosaic.Lib.Claim

@[expose] public section

noncomputable section

namespace Cert.Grid

open Cert.KernelIdeal Cert.KernelIdeal.Gen Cert.KernelIdeal.Value Cert.Tile Cert.Spec Cert.Rows
open Idealize.ShloMosaic Idealize.ShloMosaic.TcCoe Idealize.SL.Sem

variable (m : (ℓ : Loc nD τ sig) → Buf (Elt Ideal) ℓ) (c : Dev nD)

/-- Where each window's block lies at a point. -/
theorem idx : ∀ t : Fin cfg0.N, win0_0.index t = ![t.val / 8, t.val % 8, 0] ∧ win0_1.index t = ![t.val / 8, 0, 0, 0]
    ∧ win0_2.index t = ![0, 0] ∧ win0_3.index t = ![0, 0] ∧ win0_4.index t = ![0, 0] ∧ win0_5.index t = ![0, 0]
    ∧ win0_6.index t = ![0, 0] := by decide +kernel

theorem lt64 (t : Fin cfg0.N) : t.val < 64 := lt_of_lt_of_eq t.isLt N_0

/-- The batch and the chunk group of a point. -/
abbrev bat (t : Fin cfg0.N) : Fin 8 := ⟨t.val / 8, by have := lt64 t; omega⟩

theorem x_blk (t : Fin cfg0.N) (s : Fin 256) (d : Fin 1024) :
    (iblk m c 0 t : Vec Ideal S1x256x1024 .f32) (ix3 0 s d)
      = m ((c : Thread nD τ).loc main_arg0) (ix3 (bat t) ⟨256 * (t.val % 8) + s, by omega⟩ d) := by
  blk_ext [iblk, V, idx t]

theorem s_blk (t : Fin cfg0.N) (h : Fin 8) (d e : Fin 128) :
    (iblk m c 1 t : Vec Ideal S1x8x128x128 .f32) (ix4 0 h d e)
      = m ((c : Thread nD τ).loc main_arg1) (ix4 (bat t) h d e) := by
  blk_ext [iblk, V, idx t]

theorem nw_blk (t : Fin cfg0.N) (d : Fin 1024) :
    (iblk m c 2 t : Vec Ideal S1x1024 .f32) (ix2 0 d) = m ((c : Thread nD τ).loc main_arg2) (ix1 d) := by
  blk_point [iblk, V, idx t]

theorem win_blk (t : Fin cfg0.N) (d : Fin 1024) (j : Fin 4096) :
    (iblk m c 3 t : Vec Ideal S1024x4096 .bf16) (ix2 d j) = m ((c : Thread nD τ).loc main_arg3) (ix2 d j) := by
  blk_point [iblk, V, idx t]

theorem lb_blk (t : Fin cfg0.N) (d : Fin 1024) :
    (iblk m c 4 t : Vec Ideal S1x1024 .f32) (ix2 0 d) = m ((c : Thread nD τ).loc main_arg4) (ix1 d) := by
  blk_point [iblk, V, idx t]

theorem hn_blk (t : Fin cfg0.N) (d : Fin 128) :
    (iblk m c 5 t : Vec Ideal S1x128 .f32) (ix2 0 d) = m ((c : Thread nD τ).loc main_arg5) (ix1 d) := by
  blk_point [iblk, V, idx t]

theorem wo_blk (t : Fin cfg0.N) (d j : Fin 1024) :
    (iblk m c 6 t : Vec Ideal S1024x1024 .bf16) (ix2 d j) = m ((c : Thread nD τ).loc main_arg6) (ix2 d j) := by
  blk_point [iblk, V, idx t]

/-- The blocks a point reads. -/
def blk (t : Fin cfg0.N) : Blocks Ideal :=
  ⟨iblk m c 0 t, iblk m c 2 t, iblk m c 3 t, iblk m c 4 t, iblk m c 5 t, iblk m c 6 t⟩

/-- The state tiles a point starts from: the batch's initial ones, or those the point before left. -/
def start (t : Fin cfg0.N) : ℕ → Vec Ideal S1x128x128 .f32 :=
  if t.val % 8 = 0 then inTile (iblk m c 1 t)
  else oldTile (outsAt0 m c (t.val - 1) (Nat.lt_of_le_of_lt (Nat.sub_le _ _) t.isLt)).2.2

/-- What a point leaves in the state buffer, -/
theorem after_eq (t : Fin cfg0.N) : (outsAt0 m c t.val t.isLt).2.2 = afterBuf (blk m c t) (start m c t) := by
  unfold start
  by_cases h0 : t.val % 8 = 0
  · rw [if_pos h0, outsAt0_A m c t h0 (by omega)]
    dsimp only
    exact sout_A (F := Ideal) ..
  · rw [if_neg h0]
    by_cases h1 : t.val % 8 = 7
    · rw [outsAt0_C m c t h0 h1]
      dsimp only
      exact sout_C (F := Ideal) ..
    · rw [outsAt0_B m c t h0 h1]
      dsimp only
      exact sout_B (F := Ideal) ..

/-- in its output rows, -/
theorem out_eq (t : Fin cfg0.N) : (outsAt0 m c t.val t.isLt).1 = outBuf (blk m c t) (start m c t) := by
  unfold start
  by_cases h0 : t.val % 8 = 0
  · rw [if_pos h0, outsAt0_A m c t h0 (by omega)]
    dsimp only
    exact out_A (F := Ideal) ..
  · rw [if_neg h0]
    by_cases h1 : t.val % 8 = 7
    · rw [outsAt0_C m c t h0 h1]
      dsimp only
      exact out_C (F := Ideal) ..
    · rw [outsAt0_B m c t h0 h1]
      dsimp only
      exact out_B (F := Ideal) ..

/-- and at a batch's last point in the block of final states. -/
theorem last_eq (t : Fin cfg0.N) (h1 : t.val % 8 = 7) :
    (outsAt0 m c t.val t.isLt).2.1 = lastBuf (blk m c t) (start m c t) := by
  have h0 : ¬t.val % 8 = 0 := by omega
  unfold start
  rw [if_neg h0, outsAt0_C m c t h0 h1]
  dsimp only
  exact last_C (F := Ideal) ..

/-- The arguments. -/
abbrev X : FVec Ideal S8x2048x1024 .f32 := m ((c : Thread nD τ).loc main_arg0)
abbrev S0 : FVec Ideal S8x8x128x128 .f32 := m ((c : Thread nD τ).loc main_arg1)
abbrev Nw : FVec Ideal S1024 .f32 := m ((c : Thread nD τ).loc main_arg2)
abbrev W : FVec Ideal S1024x4096 .f32 := m ((c : Thread nD τ).loc main_arg3)
abbrev Lb : FVec Ideal S1024 .f32 := m ((c : Thread nD τ).loc main_arg4)
abbrev Hn : FVec Ideal S128 .f32 := m ((c : Thread nD τ).loc main_arg5)
abbrev Wo : FVec Ideal S1024x1024 .f32 := m ((c : Thread nD τ).loc main_arg6)

abbrev st (b h : Fin 8) (n : ℕ) := RefFold.stAt (X m c) (S0 m c) (Nw m c) (W m c) (Lb m c) b h n

/-- A group of a point is a chunk of its batch. -/
theorem chunk_blk (t : Fin cfg0.N) (h : Fin 8) (r : Fin 4) :
    pchunk (blk m c t) h r = RefIdx.chunkAt (X m c) (Nw m c) (W m c) (Lb m c) (bat t) h (4 * (t.val % 8) + r.val) := by
  have e1 : (fun d => (blk m c t).nw (ix2 0 d)) = fun d => Nw m c (ix1 d) := funext fun d => nw_blk m c t d
  have e2 : (fun d j => (blk m c t).win (ix2 d j)) = fun d j => W m c (ix2 d j) :=
    funext fun d => funext fun j => win_blk m c t d j
  have e3 : (fun d => (blk m c t).lb (ix2 0 d)) = fun d => Lb m c (ix1 d) := funext fun d => lb_blk m c t d
  have e4 : (fun (s : Fin 64) d => (blk m c t).x (ix3 0 ⟨64 * r + s, by omega⟩ d))
      = RefIdx.rows (X m c) (bat t) (4 * (t.val % 8) + r.val) := by
    funext s d
    have := lt64 t
    refine (x_blk m c t _ d).trans (congrArg (X m c) ?_)
    refine congrArg (fun k => ix3 (bat t) k d) (Fin.ext ?_)
    show 256 * (t.val % 8) + (64 * r.val + s.val) = ((4 * (t.val % 8) + r.val) * 64 + s.val) % 2048
    omega
  unfold pchunk RefIdx.chunkAt
  rw [e1, e2, e3, e4]

theorem pstate_blk (t : Fin cfg0.N) (h : Fin 8) (r : ℕ) (hr : r ≤ 4) :
    pstate (blk m c t) h (st m c (bat t) h (4 * (t.val % 8))) r = st m c (bat t) h (4 * (t.val % 8) + r) := by
  induction r with
  | zero => rfl
  | succ r ih =>
    show (pchunk _ _ _).next (pstate _ _ _ r) = (RefIdx.chunkAt _ _ _ _ _ _ (4 * (t.val % 8) + r)).next (st m c (bat t) h (4 * (t.val % 8) + r))
    rw [ih (by omega), chunk_blk]
    show Chunk.next (RefIdx.chunkAt _ _ _ _ _ _ (4 * (t.val % 8) + r % 4)) _ = _
    rw [show r % 4 = r from Nat.mod_eq_of_lt (by omega)]

/-- The tiles a point goes through are its batch's states. -/
theorem tile_blk (t : Fin cfg0.N) (h : Fin 8)
    (hs : ∀ d e, start m c t h.val (ix3 0 e d) = st m c (bat t) h (4 * (t.val % 8)) d e) (r : ℕ) (hr : r ≤ 4) (d e : Fin 128) :
    tileAt (blk m c t) (start m c t) r h.val (ix3 0 e d) = st m c (bat t) h (4 * (t.val % 8) + r) d e := by
  rw [tileAt_at (blk m c t) (start m c t) h _ hs r hr d e, pstate_blk m c t h r hr]

theorem start_blk (n : ℕ) (hn : n < cfg0.N) (h : Fin 8) (d e : Fin 128) :
    start m c ⟨n, hn⟩ h.val (ix3 0 e d) = st m c (bat ⟨n, hn⟩) h (4 * (n % 8)) d e := by
  induction n generalizing h d e with
  | zero =>
    show inTile _ _ _ = _
    rw [in_at, s_blk]
    show S0 m c _ = S0 m c _
    exact congrArg (fun k => S0 m c (ix4 _ k d e)) (Fin.ext (Nat.mod_eq_of_lt h.isLt))
  | succ n ih =>
    unfold start
    by_cases h0 : (n + 1) % 8 = 0
    · rw [if_pos h0, in_at, s_blk, h0]
      exact congrArg (fun k => S0 m c (ix4 _ k d e)) (Fin.ext (Nat.mod_eq_of_lt h.isLt))
    · rw [if_neg h0]
      have e1 : oldTile (outsAt0 m c n (Nat.lt_of_succ_lt hn)).2.2 h.val (ix3 0 e d)
          = (outsAt0 m c n (Nat.lt_of_succ_lt hn)).2.2 (ix3 h e d) :=
        congrArg (fun k => (outsAt0 m c n (Nat.lt_of_succ_lt hn)).2.2 (ix3 k e d)) (Fin.ext (Nat.mod_eq_of_lt h.isLt))
      refine e1.trans ((congrFun (after_eq m c ⟨n, Nat.lt_of_succ_lt hn⟩) _).trans ?_)
      refine (tile_blk m c ⟨n, Nat.lt_of_succ_lt hn⟩ h (fun d e => ih _ h d e) 4 le_rfl d e).trans ?_
      have hb : bat ⟨n, Nat.lt_of_succ_lt hn⟩ = bat ⟨n + 1, hn⟩ := Fin.ext (by show n / 8 = (n + 1) / 8; omega)
      rw [hb]
      exact congrArg (fun k => st m c _ h k d e) (by show 4 * (n % 8) + 4 = 4 * ((n + 1) % 8); omega)

/-- A row of the row buffer. -/
theorem row_blk (t : Fin cfg0.N) (s : Fin 256) (k : Fin 1024) :
    rowBuf (blk m c t) (start m c t) (ix2 s k)
      = RefFold.yAt (X m c) (S0 m c) (Nw m c) (W m c) (Lb m c) (Hn m c) (bat t) ⟨k / 128, by omega⟩
          (4 * (t.val % 8) + s / 64) ⟨s % 64, by omega⟩ ⟨k % 128, by omega⟩ := by
  obtain ⟨h, e, rfl⟩ : ∃ (h : Fin 8) (e : Fin 128), k = col h e :=
    ⟨⟨k / 128, by omega⟩, ⟨k % 128, by omega⟩, Fin.ext (by show k.val = k.val / 128 * 128 + k.val % 128; omega)⟩
  have hh : (⟨(col h e).val / 128, by omega⟩ : Fin 8) = h := Fin.ext (by show (h.val * 128 + e.val) / 128 = h.val; omega)
  have he : (⟨(col h e).val % 128, by omega⟩ : Fin 128) = e := Fin.ext (by show (h.val * 128 + e.val) % 128 = e.val; omega)
  rw [hh, he]
  show rowsY _ (s.val / 64) _ (ix2 ⟨s.val % 64, _⟩ (col h e)) = _
  rw [rowsY_at]
  refine (headY_at (blk m c t) h ⟨s / 64, by omega⟩ _ (st m c (bat t) h (4 * (t.val % 8) + s / 64)) (fun s' e' =>
    headOut_at (blk m c t) h ⟨s / 64, by omega⟩ _ _ (fun d e =>
      tile_blk m c t h (fun d e => start_blk m c t.val t.isLt h d e) (s / 64) (by omega) d e) s' e') _ e).trans ?_
  rw [chunk_blk]
  have e5 : (fun d => (blk m c t).hnw (ix2 0 d)) = fun d => Hn m c (ix1 d) := funext fun d => hn_blk m c t d
  rw [e5]
  rfl

/-- The first result. -/
theorem out_main : G7 m c = RefFold.outArr (X m c) (S0 m c) (Nw m c) (W m c) (Lb m c) (Hn m c) (Wo m c) := by
  funext i
  obtain ⟨b, t, e, rfl⟩ : ∃ (b : Fin 8) (t : Fin 2048) (e : Fin 1024), i = ix3 b t e := ⟨i 0, i 1, i 2, by pointwise⟩
  have hp : pt7Of (ix3 b t e) = 8 * b.val + t.val / 256 := by
    show 8 * (b.val / 1 - 0) + 1 * (t.val / 256 - 0) + 1 * (e.val / 1024 - 0) = _
    omega
  have hN : pt7Of (ix3 b t e) < cfg0.N := by rw [hp, show cfg0.N = 64 from N_0]; omega
  have hl : loc7Of (ix3 b t e) = ix3 0 ⟨t.val % 256, by omega⟩ e := by
    funext k
    refine Fin.ext ?_
    match k with
    | ⟨0, _⟩ => show b.val % 1 = 0; omega
    | ⟨1, _⟩ => rfl
    | ⟨2, _⟩ => show e.val % 1024 = e.val; omega
  unfold G7
  rw [dif_pos hN, ← outsAt0_sweep m c _ hN, hl]
  generalize pt7Of (ix3 b t e) = n at hp hN
  subst hp
  refine (congrFun (out_eq m c ⟨_, hN⟩) _).trans ?_
  rw [out_at]
  show _ = RefFold.outAt _ _ _ _ _ _ _ b t e
  unfold RefFold.outAt
  have hb : bat ⟨8 * b.val + t.val / 256, hN⟩ = b := Fin.ext (by show (8 * b.val + t.val / 256) / 8 = b.val; omega)
  have hc : (8 * b.val + t.val / 256) % 8 = t.val / 256 := by omega
  refine congrArg₂ (· + ·) ?_ (Finset.sum_congr rfl fun k _ => congrArg₂ (· * ·) ?_ ?_)
  · refine (x_blk m c ⟨_, hN⟩ ⟨t.val % 256, by omega⟩ e).trans ?_
    rw [hb]
    refine congrArg (fun k => X m c (ix3 b k e)) (Fin.ext ?_)
    show 256 * ((8 * b.val + t.val / 256) % 8) + t.val % 256 = t.val
    omega
  · rw [row_blk, hb]
    have h1 : 4 * ((8 * b.val + t.val / 256) % 8) + t.val % 256 / 64 = t.val / 64 := by omega
    have h2 : (⟨t.val % 256 % 64, by omega⟩ : Fin 64) = ⟨t.val % 64, by omega⟩ := Fin.ext (by show t.val % 256 % 64 = t.val % 64; omega)
    show RefFold.yAt _ _ _ _ _ _ b _ (4 * ((8 * b.val + t.val / 256) % 8) + t.val % 256 / 64) ⟨t.val % 256 % 64, _⟩ _ = _
    rw [h1, h2]
  · exact wo_blk m c ⟨_, hN⟩ k e

/-- The second result. -/
theorem st_main : G8 m c = RefFold.stArr (X m c) (S0 m c) (Nw m c) (W m c) (Lb m c) := by
  funext i
  obtain ⟨b, h, d, e, rfl⟩ : ∃ (b h : Fin 8) (d e : Fin 128), i = ix4 b h d e := ⟨i 0, i 1, i 2, i 3, by pointwise⟩
  have hp : pt8Of (ix4 b h d e) = 8 * b.val + 7 := by
    show 8 * (1 * (b.val / 1 - 0) + 1 * (h.val / 8 - 0) + 1 * (d.val / 128 - 0) + 1 * (e.val / 128 - 0)) + 7 = _
    omega
  have hN : pt8Of (ix4 b h d e) < cfg0.N := by rw [hp, show cfg0.N = 64 from N_0]; omega
  have hl : loc8Of (ix4 b h d e) = ix4 0 h d e := by
    funext k
    refine Fin.ext ?_
    match k with
    | ⟨0, _⟩ => show b.val % 1 = 0; omega
    | ⟨1, _⟩ => show h.val % 8 = h.val; omega
    | ⟨2, _⟩ => show d.val % 128 = d.val; omega
    | ⟨3, _⟩ => show e.val % 128 = e.val; omega
  unfold G8
  rw [dif_pos hN, ← outsAt0_sweep m c _ hN, hl]
  generalize pt8Of (ix4 b h d e) = n at hp hN
  subst hp
  refine (congrFun (last_eq m c ⟨_, hN⟩ (by show (8 * b.val + 7) % 8 = 7; omega)) _).trans ?_
  rw [last_at, tile_blk m c _ h (fun d e => start_blk m c _ hN h d e) 4 le_rfl d e]
  have hb : bat ⟨8 * b.val + 7, hN⟩ = b := Fin.ext (by show (8 * b.val + 7) / 8 = b.val; omega)
  rw [hb]
  exact congrArg (fun k => st m c b h k d e) (by show 4 * ((8 * b.val + 7) % 8) + 4 = 32; omega)

end Cert.Grid

end
-- ==== Proof.SRLoop.lean ====
/- The scan of the S5 reference: what the memory holds before each trip is a state of `Step`, so the results are read off the state
   reached after 2048 steps. -/
module

public import proofs.«01_k».proof.Proof.Gen.Reference2Ideal.Run
public import proofs.«01_k».proof.Proof.Gen.Reference2Ideal.Step
public import Idealize.ShloMosaic.PureOps.Ideal

@[expose] public section

noncomputable section

namespace Cert.S5.RefLoop

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

/-- The buffers the scan carries hold the state `s`, and its counter holds the number `n`. -/
structure Carries (V : Valuation τ sig (Elt Ideal)) (s : State Ideal) (n : ℕ) : Prop where
  bur : V (Proc.devRef .tc main_v23_0) = s.main_v23_0
  bui : V (Proc.devRef .tc main_v23_1) = s.main_v23_1
  du : V (Proc.devRef .tc main_v23_2) = s.main_v23_2
  ar : V (Proc.devRef .tc main_v23_3) = s.main_v23_3
  ai : V (Proc.devRef .tc main_v23_4) = s.main_v23_4
  cr : V (Proc.devRef .tc main_v23_5) = s.main_v23_5
  ci : V (Proc.devRef .tc main_v23_6) = s.main_v23_6
  num : V (Proc.devRef .tc main_v23_7) = constantI S_ 32 (BitVec.ofNat 32 n)
  re : V (Proc.devRef .tc main_v23_8) = s.main_v23_8
  im : V (Proc.devRef .tc main_v23_9) = s.main_v23_9
  ys : V (Proc.devRef .tc main_v23_10) = s.main_v23_10

variable {V : Valuation τ sig (Elt Ideal)} {s : State Ideal} {n : ℕ}

theorem next_re (h : Carries V s n) : step_main_v23_8 V = (step n s).main_v23_8 := by
  unfold step_main_v23_8 res_main_while0b_v54
  rw [h.ar, h.ai, h.re, h.im, h.bur, h.num]
  rfl

theorem next_im (h : Carries V s n) : step_main_v23_9 V = (step n s).main_v23_9 := by
  unfold step_main_v23_9 res_main_while0b_v62
  rw [h.ar, h.ai, h.re, h.im, h.bui, h.num]
  rfl

theorem next_ys (h : Carries V s n) : step_main_v23_10 V = (step n s).main_v23_10 := by
  unfold step_main_v23_10 res_main_while0b_v54 res_main_while0b_v62
  rw [h.ys, h.cr, h.ci, h.ar, h.ai, h.re, h.im, h.bur, h.bui, h.du, h.num]
  rfl

theorem next_num (h : Carries V s n) : step_main_v23_7 V = constantI S_ 32 (BitVec.ofNat 32 (n + 1)) := by
  unfold step_main_v23_7
  rw [h.num]
  funext i
  exact (BitVec.ofNat_add n 1).symm

/-- One trip takes a state to the next one. -/
theorem Carries.next (h : Carries V s n) : Carries (STEP V) (step n s) (n + 1) where
  bur := (STEP_main_v23_0 V).trans h.bur
  bui := (STEP_main_v23_1 V).trans h.bui
  du := (STEP_main_v23_2 V).trans h.du
  ar := (STEP_main_v23_3 V).trans h.ar
  ai := (STEP_main_v23_4 V).trans h.ai
  cr := (STEP_main_v23_5 V).trans h.cr
  ci := (STEP_main_v23_6 V).trans h.ci
  num := (STEP_main_v23_7 V).trans (next_num h)
  re := (STEP_main_v23_8 V).trans (next_re h)
  im := (STEP_main_v23_9 V).trans (next_im h)
  ys := (STEP_main_v23_10 V).trans (next_ys h)

variable (m : (ℓ : Loc nD τ sig) → Buf (Elt Ideal) ℓ) (c : Dev nD)

/-- The state the scan starts from. -/
abbrev start : State Ideal :=
  init (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg10))

/-- The state after `n` trips. -/
def stateAt : ℕ → State Ideal
  | 0 => start m c
  | n + 1 => step n (stateAt n)

set_option maxRecDepth 65536 in
set_option maxHeartbeats 2000000 in
theorem enters : Carries (entryContents preI m c) (start m c) 0 := by
  constructor <;> (simp only [entryContents, afterL_cons, afterL_nil]; after_reads_simp) <;> rfl

theorem carries_at : ∀ n, Carries (STEP^[n] (entryContents preI m c)) (stateAt m c n) n
  | 0 => enters m c
  | n + 1 => by
    rw [Function.iterate_succ_apply']
    exact (carries_at n).next

theorem out_of (h : Carries V s n) : out_main_v43 V
    = Step.R_main_v43 s (V (Proc.devRef .tc main_arg0)) (V (Proc.devRef .tc main_arg11)) := by
  unfold out_main_v43
  rw [h.ys]
  rfl

/-- The reference's results: the output of the last state and its two state arrays; the arguments are unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
        = Step.R_main_v43 (stateAt m c 2048) (m ((c.tc : Thread nD τ).loc main_arg0)) (m ((c.tc : Thread nD τ).loc main_arg11))
      ∧ r.2.mem ((c.tc : Thread nD τ).loc main_v23_8) = (stateAt m c 2048).main_v23_8
      ∧ r.2.mem ((c.tc : Thread nD τ).loc main_v23_9) = (stateAt m c 2048).main_v23_9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    have hk := carries_at m c 2048
    refine ⟨(h c).1.trans ((out_of hk).trans ?_), (h c).2.1.trans hk.re, (h c).2.2.1.trans hk.im, (h c).2.2.2⟩
    rw [iter_main_arg0 m c 2048, iter_main_arg11 m c 2048]) (Value.run m ρ)

end Cert.S5.RefLoop

end
-- ==== Proof.SILoop.lean ====
/- The recurrence of the S5 layer, and what a loop over 64 time steps that keeps its sixteen tiles in registers leaves: by induction on the trips,
   the carried tiles are the recurrence and the rows written so far hold it. -/
module

public import proofs.«01_k».proof.Proof.Gen.Kernel2Ideal.Loops
public import Idealize.ShloMosaic.Lib.Pipeline.ReadBack
public import Idealize.ShloMosaic.PureOps.Ideal
public import Idealize.ShloMosaic.Lib.Pointwise

@[expose] public section

noncomputable section

namespace Cert.S5

open Idealize.ShloMosaic Cert.Kernel2Ideal Cert.Kernel2Ideal.Gen

/-- One complex entry of the state: the recurrence s' = a s + b, in its real and imaginary parts. -/
def rec (ar ai : EReal) (br bi : ℕ → EReal) (s : EReal × EReal) : ℕ → EReal × EReal
  | 0 => s
  | t + 1 => (ar * (rec ar ai br bi s t).1 - ai * (rec ar ai br bi s t).2 + br t,
      ar * (rec ar ai br bi s t).2 + ai * (rec ar ai br bi s t).1 + bi t)

/-- The recurrence of `n + m` steps goes on from that of `n`. -/
theorem rec_add (ar ai : EReal) (br bi : ℕ → EReal) (s : EReal × EReal) (n : ℕ) :
    ∀ m, rec ar ai (fun t => br (n + t)) (fun t => bi (n + t)) (rec ar ai br bi s n) m = rec ar ai br bi s (n + m)
  | 0 => rfl
  | m + 1 => by
    show (_, _) = (_, _)
    rw [rec_add ar ai br bi s n m]
    rfl

/-- The recurrence looks only at the inputs of the steps it takes. -/
theorem rec_congr (ar ai : EReal) {br bi br' bi' : ℕ → EReal} (s : EReal × EReal) :
    ∀ n, (∀ t < n, br t = br' t) → (∀ t < n, bi t = bi' t) → rec ar ai br bi s n = rec ar ai br' bi' s n
  | 0, _, _ => rfl
  | n + 1, hr, hi => by
    show (_, _) = (_, _)
    rw [rec_congr ar ai s n (fun t ht => hr t (by omega)) (fun t ht => hi t (by omega)), hr n (by omega), hi n (by omega)]

abbrev Tile := FVec Ideal S8x128 .f32
abbrev Tiles := Tile × Tile × Tile × Tile × Tile × Tile × Tile × Tile × Tile × Tile × Tile × Tile × Tile × Tile × Tile × Tile

/-- Eight real and eight imaginary tiles, in the order the loop carries them. -/
def toT (r i : Fin 8 → Tile) : Tiles := (r 0, r 1, r 2, r 3, r 4, r 5, r 6, r 7, i 0, i 1, i 2, i 3, i 4, i 5, i 6, i 7)

abbrev Slab := FVec Ideal S1x8x128 .f32
abbrev P16 := View.Piece (Elt Ideal) S16x512x128 .f32

/-- One step of a real and of an imaginary tile. -/
def stepRe (ar ai sr si : Tile) (u : Slab) : Tile :=
  addf (subf (mulf ar sr) (mulf ai si)) (shapeCast S8x128 u shapeCasts_S1x8x128_S8x128)
def stepIm (ar ai sr si : Tile) (u : Slab) : Tile :=
  addf (addf (mulf ar si) (mulf ai sr)) (shapeCast S8x128 u shapeCasts_S1x8x128_S8x128)

/-- The store of one tile. -/
def put (off : Fin 3 → ℕ) (h : ∀ a, off a + S1x8x128.size a ≤ S16x512x128.size a) (w : Tile) : P16 :=
  ⟨Rect.unit (s := S16x512x128) off S1x8x128.size h, shapeCast S1x8x128 w shapeCasts_S8x128_S1x8x128⟩

/-- The sixteen stores of a trip, last first. -/
def mkL (r i : Fin 8 → P16) : List P16 :=
  [i 7, r 7, i 6, r 6, i 5, r 5, i 4, r 4, i 3, r 3, i 2, r 2, i 1, r 1, i 0, r 0]

theorem forall_mkL {r i : Fin 8 → P16} {Q : P16 → Prop} (hr : ∀ κ, Q (r κ)) (hi : ∀ κ, Q (i κ)) : ∀ p ∈ mkL r i, Q p := by
  intro p hp
  simp only [mkL, List.mem_cons, List.not_mem_nil, or_false] at hp
  rcases hp with h | h | h | h | h | h | h | h | h | h | h | h | h | h | h | h <;> subst h <;> first | exact hr _ | exact hi _

theorem mem_mkL_re (r i : Fin 8 → P16) (κ : Fin 8) : r κ ∈ mkL r i := by
  fin_cases κ <;> simp [mkL]

theorem mem_mkL_im (r i : Fin 8 → P16) (κ : Fin 8) : i κ ∈ mkL r i := by
  fin_cases κ <;> simp [mkL]

section

variable (Ar Ai Cr Ci : Fin 8 → Tile) (Br Bi : Fin 8 → ℕ → Fin 8 → Fin 128 → EReal)

/-- The entry of lane `l` of tile `κ` and batch row `b` after `n` steps. -/
def seqAt (κ : Fin 8) (n : ℕ) (b : Fin 8) (l : Fin 128) : EReal × EReal :=
  rec (Ar κ (ix2 b l)) (Ai κ (ix2 b l)) (fun t => Br κ t b l) (fun t => Bi κ t b l) (Cr κ (ix2 b l), Ci κ (ix2 b l)) n

def tr (n : ℕ) (κ : Fin 8) : Tile := fun j => (seqAt Ar Ai Cr Ci Br Bi κ n (j 0) (j 1)).1
def ti (n : ℕ) (κ : Fin 8) : Tile := fun j => (seqAt Ar Ai Cr Ci Br Bi κ n (j 0) (j 1)).2

/-- What the rows hold once the steps have been taken: row 8 t + b of slab κ is batch row b after step t. -/
def slab (y : S16x512x128.Idx) : EReal :=
  if h : (y 0).val < 8 then (seqAt Ar Ai Cr Ci Br Bi ⟨(y 0).val, h⟩ ((y 1).val / 8 + 1) ⟨(y 1).val % 8, by omega⟩ (y 2)).1
  else (seqAt Ar Ai Cr Ci Br Bi ⟨(y 0).val - 8, by have h0 : (y 0).val < 16 := (y 0).isLt; omega⟩ ((y 1).val / 8 + 1) ⟨(y 1).val % 8, by omega⟩ (y 2)).2

/-- The state before trip `n`. -/
structure Inv (n : ℕ) (st : Tiles × List P16) : Prop where
  carry : st.1 = toT (tr Ar Ai Cr Ci Br Bi n) (ti Ar Ai Cr Ci Br Bi n)
  pieces : ∀ p ∈ st.2, ∀ x : p.1.shape.Idx, p.2 x = slab Ar Ai Cr Ci Br Bi (p.1.emb x)
  low : ∀ p ∈ st.2, ∀ y ∈ p.1.set, (y 1).val < 8 * n
  cover : ∀ y : S16x512x128.Idx, (y 1).val < 8 * n → ∃ p ∈ st.2, y ∈ p.1.set

variable {Ar Ai Cr Ci Br Bi}

theorem Inv.zero : Inv Ar Ai Cr Ci Br Bi 0 (toT Cr Ci, []) where
  carry := by
    have h1 : tr Ar Ai Cr Ci Br Bi 0 = Cr := by
      funext κ j; obtain ⟨b, l, rfl⟩ : ∃ (b : Fin 8) (l : Fin 128), j = ix2 b l := ⟨j 0, j 1, by pointwise⟩; rfl
    have h2 : ti Ar Ai Cr Ci Br Bi 0 = Ci := by
      funext κ j; obtain ⟨b, l, rfl⟩ : ∃ (b : Fin 8) (l : Fin 128), j = ix2 b l := ⟨j 0, j 1, by pointwise⟩; rfl
    rw [h1, h2]
  pieces p hp := absurd hp List.not_mem_nil
  low p hp := absurd hp List.not_mem_nil
  cover y hy := absurd hy (by omega)

theorem mem_put {off : Fin 3 → ℕ} {h} {w : Tile} {κ n : ℕ} (ho : off = ![κ, 8 * n, 0]) {y : S16x512x128.Idx} :
    y ∈ (put off h w).1.set ↔ (y 0).val = κ ∧ 8 * n ≤ (y 1).val ∧ (y 1).val < 8 * (n + 1) := by
  subst ho
  have h2 : (y 2).val < 128 := (y 2).isLt
  show y ∈ (Rect.unit (s := S16x512x128) ![κ, 8 * n, 0] S1x8x128.size h).set ↔ _
  rw [Rect.mem_set_unit]
  constructor
  · intro H
    have a0 : κ ≤ (y 0).val ∧ (y 0).val < κ + 1 := H 0
    have a1 : 8 * n ≤ (y 1).val ∧ (y 1).val < 8 * n + 8 := H 1
    omega
  · rintro ⟨h0, h1, h1'⟩ a
    match a with
    | ⟨0, _⟩ => show κ ≤ (y 0).val ∧ (y 0).val < κ + 1; omega
    | ⟨1, _⟩ => show 8 * n ≤ (y 1).val ∧ (y 1).val < 8 * n + 8; omega
    | ⟨2, _⟩ => show 0 ≤ (y 2).val ∧ (y 2).val < 0 + 128; omega

theorem emb_put {off : Fin 3 → ℕ} {h} {w : Tile} {κ n : ℕ} (hκ : κ < 16) (hn : n < 64) (ho : off = ![κ, 8 * n, 0]) (b : Fin 8) (l : Fin 128) :
    (put off h w).1.emb (ix3 0 b l : S1x8x128.Idx) = (ix3 ⟨κ, hκ⟩ ⟨8 * n + b, by omega⟩ l : S16x512x128.Idx) := by
  subst ho
  funext a
  match a with
  | ⟨0, _⟩ => exact Fin.ext (show κ + 1 * 0 = κ by omega)
  | ⟨1, _⟩ => exact Fin.ext (show 8 * n + 1 * b.val = 8 * n + b.val by omega)
  | ⟨2, _⟩ => exact Fin.ext (show 0 + 1 * l.val = l.val by omega)

end

section

variable {Ar Ai Cr Ci : Fin 8 → Tile} {Br Bi : Fin 8 → ℕ → Fin 8 → Fin 128 → EReal}

theorem slab_re (κ : Fin 8) (n : ℕ) (hn : n < 64) (b : Fin 8) (l : Fin 128) :
    slab Ar Ai Cr Ci Br Bi (ix3 ⟨κ.val, by omega⟩ ⟨8 * n + b, by omega⟩ l) = (seqAt Ar Ai Cr Ci Br Bi κ (n + 1) b l).1 := by
  have e : (8 * n + b.val) / 8 = n := by omega
  have e' : (8 * n + b.val) % 8 = b.val := by omega
  unfold slab
  rw [dif_pos (show ((ix3 ⟨κ.val, by omega⟩ ⟨8 * n + b, by omega⟩ l : S16x512x128.Idx) 0).val < 8 from κ.isLt)]
  show (seqAt Ar Ai Cr Ci Br Bi κ ((8 * n + b.val) / 8 + 1) ⟨(8 * n + b.val) % 8, _⟩ l).1 = _
  simp only [e, e']

theorem slab_im (κ : Fin 8) (n : ℕ) (hn : n < 64) (b : Fin 8) (l : Fin 128) :
    slab Ar Ai Cr Ci Br Bi (ix3 ⟨8 + κ.val, by omega⟩ ⟨8 * n + b, by omega⟩ l) = (seqAt Ar Ai Cr Ci Br Bi κ (n + 1) b l).2 := by
  have e : (8 * n + b.val) / 8 = n := by omega
  have e' : (8 * n + b.val) % 8 = b.val := by omega
  have e'' : 8 + κ.val - 8 = κ.val := by omega
  unfold slab
  rw [dif_neg (show ¬ ((ix3 ⟨8 + κ.val, by omega⟩ ⟨8 * n + b, by omega⟩ l : S16x512x128.Idx) 0).val < 8 from
    show ¬ (8 + κ.val < 8) by omega)]
  show (seqAt Ar Ai Cr Ci Br Bi ⟨8 + κ.val - 8, _⟩ ((8 * n + b.val) / 8 + 1) ⟨(8 * n + b.val) % 8, _⟩ l).2 = _
  simp only [e, e', e'']

/-- What a trip reads of slab `κ`: the rows the loop has not written yet. -/
theorem read_tile (v : View sig .tc .vmem S16x512x128 .f32) (G : v.ty.Contents (Elt Ideal)) {n : ℕ} (hn : n < 64) {st : Tiles × List P16}
    (H : Inv Ar Ai Cr Ci Br Bi n st) {off : Fin 3 → ℕ} {h} {κ : ℕ} (hκ : κ < 16) (ho : off = ![κ, 8 * n, 0]) {B : ℕ → Fin 8 → Fin 128 → EReal}
    (hB : ∀ t (ht : t < 64) (b : Fin 8) (l : Fin 128), v.read (Elt Ideal) G (ix3 ⟨κ, hκ⟩ ⟨8 * t + b, by omega⟩ l) = B t b l) (b : Fin 8) (l : Fin 128) :
    v.readAt (Elt Ideal) (Rect.unit (s := S16x512x128) off S1x8x128.size h).toLoadRect (v.writes (Elt Ideal) G st.2) (ix3 0 b l) = B n b l := by
  have e : (Rect.unit (s := S16x512x128) off S1x8x128.size h).toLoadRect.idx (ix3 0 b l : S1x8x128.Idx)
      = (ix3 ⟨κ, hκ⟩ ⟨8 * n + b, by omega⟩ l : S16x512x128.Idx) :=
    emb_put (h := h) (w := Cr 0) hκ hn ho b l
  rw [View.readAt_apply, e, View.read_writes_apply_of_forall_not_mem, hB n hn b l]
  intro p hp hy
  have := H.low p hp _ hy
  exact absurd this (show ¬ (8 * n + b.val < 8 * n) by omega)

/-- One trip takes the state to the next one. -/
theorem Inv.step (v : View sig .tc .vmem S16x512x128 .f32) (G : v.ty.Contents (Elt Ideal)) {n : ℕ} (hn : n < 64) {st : Tiles × List P16}
    (H : Inv Ar Ai Cr Ci Br Bi n st) (offr offi : Fin 8 → Fin 3 → ℕ)
    (hr : ∀ κ a, offr κ a + S1x8x128.size a ≤ S16x512x128.size a) (hi : ∀ κ a, offi κ a + S1x8x128.size a ≤ S16x512x128.size a)
    (hor : ∀ κ, offr κ = ![κ.val, 8 * n, 0]) (hoi : ∀ κ, offi κ = ![8 + κ.val, 8 * n, 0])
    (hBr : ∀ (κ : Fin 8) t (ht : t < 64) (b : Fin 8) (l : Fin 128),
      v.read (Elt Ideal) G (ix3 ⟨κ.val, by omega⟩ ⟨8 * t + b, by omega⟩ l) = Br κ t b l)
    (hBi : ∀ (κ : Fin 8) t (ht : t < 64) (b : Fin 8) (l : Fin 128),
      v.read (Elt Ideal) G (ix3 ⟨8 + κ.val, by omega⟩ ⟨8 * t + b, by omega⟩ l) = Bi κ t b l)
    (r i : Fin 8 → Tile)
    (er : ∀ κ, r κ = stepRe (Ar κ) (Ai κ) (tr Ar Ai Cr Ci Br Bi n κ) (ti Ar Ai Cr Ci Br Bi n κ)
      (v.readAt (Elt Ideal) (Rect.unit (s := S16x512x128) (offr κ) S1x8x128.size (hr κ)).toLoadRect (v.writes (Elt Ideal) G st.2)))
    (ei : ∀ κ, i κ = stepIm (Ar κ) (Ai κ) (tr Ar Ai Cr Ci Br Bi n κ) (ti Ar Ai Cr Ci Br Bi n κ)
      (v.readAt (Elt Ideal) (Rect.unit (s := S16x512x128) (offi κ) S1x8x128.size (hi κ)).toLoadRect (v.writes (Elt Ideal) G st.2))) :
    Inv Ar Ai Cr Ci Br Bi (n + 1)
      (toT r i, mkL (fun κ => put (offr κ) (hr κ) (r κ)) (fun κ => put (offi κ) (hi κ) (i κ)) ++ st.2) := by
  have Er : ∀ κ b l, r κ (ix2 b l) = (seqAt Ar Ai Cr Ci Br Bi κ (n + 1) b l).1 := by
    intro κ b l
    have e := read_tile v G hn H (h := hr κ) (by omega) (hor κ) (hBr κ) b l
    rw [er κ]
    pointwise [stepRe]
    rw [e]
    rfl
  have Ei : ∀ κ b l, i κ (ix2 b l) = (seqAt Ar Ai Cr Ci Br Bi κ (n + 1) b l).2 := by
    intro κ b l
    have e := read_tile v G hn H (h := hi κ) (by omega) (hoi κ) (hBi κ) b l
    rw [ei κ]
    pointwise [stepIm]
    rw [e]
    rfl
  refine ⟨?_, ?_, ?_, ?_⟩
  · have h1 : r = tr Ar Ai Cr Ci Br Bi (n + 1) := by
      funext κ j
      obtain ⟨b, l, rfl⟩ : ∃ (b : Fin 8) (l : Fin 128), j = ix2 b l := ⟨j 0, j 1, by pointwise⟩
      exact Er κ b l
    have h2 : i = ti Ar Ai Cr Ci Br Bi (n + 1) := by
      funext κ j
      obtain ⟨b, l, rfl⟩ : ∃ (b : Fin 8) (l : Fin 128), j = ix2 b l := ⟨j 0, j 1, by pointwise⟩
      exact Ei κ b l
    rw [h1, h2]
  · intro p hp
    rcases List.mem_append.1 hp with hp | hp
    · refine forall_mkL (Q := fun p => ∀ x : p.1.shape.Idx, p.2 x = slab Ar Ai Cr Ci Br Bi (p.1.emb x)) ?_ ?_ p hp
      · intro κ x
        obtain ⟨b, l, rfl⟩ : ∃ (b : Fin 8) (l : Fin 128), x = (ix3 0 b l : S1x8x128.Idx) :=
          ⟨x 1, x 2, by funext a; match a with
            | ⟨0, _⟩ => exact Fin.ext (by have : (x 0).val < 1 := (x 0).isLt; show (x 0).val = 0; omega)
            | ⟨1, _⟩ => rfl
            | ⟨2, _⟩ => rfl⟩
        rw [emb_put (by omega) hn (hor κ) b l, slab_re κ n hn b l, ← Er κ b l]
        show shapeCast S1x8x128 (r κ) shapeCasts_S8x128_S1x8x128 (ix3 0 b l) = _
        pointwise
      · intro κ x
        obtain ⟨b, l, rfl⟩ : ∃ (b : Fin 8) (l : Fin 128), x = (ix3 0 b l : S1x8x128.Idx) :=
          ⟨x 1, x 2, by funext a; match a with
            | ⟨0, _⟩ => exact Fin.ext (by have : (x 0).val < 1 := (x 0).isLt; show (x 0).val = 0; omega)
            | ⟨1, _⟩ => rfl
            | ⟨2, _⟩ => rfl⟩
        rw [emb_put (by omega) hn (hoi κ) b l, slab_im κ n hn b l, ← Ei κ b l]
        show shapeCast S1x8x128 (i κ) shapeCasts_S8x128_S1x8x128 (ix3 0 b l) = _
        pointwise
    · exact H.pieces p hp
  · intro p hp
    rcases List.mem_append.1 hp with hp | hp
    · refine forall_mkL (Q := fun p => ∀ y ∈ p.1.set, (y 1).val < 8 * (n + 1)) ?_ ?_ p hp
      · exact fun κ y hy => ((mem_put (hor κ)).1 hy).2.2
      · exact fun κ y hy => ((mem_put (hoi κ)).1 hy).2.2
    · exact fun y hy => (H.low p hp y hy).trans_le (by omega)
  · intro y hy
    by_cases hlt : (y 1).val < 8 * n
    · obtain ⟨p, hp, hm⟩ := H.cover y hlt
      exact ⟨p, List.mem_append_right _ hp, hm⟩
    · have h0 : (y 0).val < 16 := (y 0).isLt
      by_cases h8 : (y 0).val < 8
      · exact ⟨_, List.mem_append_left _ (mem_mkL_re _ _ ⟨(y 0).val, h8⟩), (mem_put (hor _)).2 ⟨rfl, by omega, hy⟩⟩
      · exact ⟨_, List.mem_append_left _ (mem_mkL_im _ _ ⟨(y 0).val - 8, by omega⟩), (mem_put (hoi _)).2 ⟨by show _ = 8 + ((y 0).val - 8); omega, by omega, hy⟩⟩

end

end Cert.S5

end
-- ==== Proof.SModel.lean ====
/- The S5 layer for one batch row, as plain formulas over its parameters: the specification both programs are read into. -/
module

public import proofs.«01_k».proof.Proof.SILoop

@[expose] public section

noncomputable section

namespace Cert.S5

open Idealize.ShloMosaic

abbrev c1024 : EReal := Ideal.ofBits .f32 0x44800000#32
abbrev eps : EReal := Ideal.ofBits .f32 0x358637BD#32
abbrev half : EReal := Ideal.ofBits .f32 0x3F000000#32
abbrev rt : EReal := Ideal.ofBits .f32 0x3F3504F3#32

/-- The normalised entry of a row. -/
def nrm (nw x : Fin 1024 → EReal) (e : Fin 1024) : EReal :=
  x e * Ideal.rsqrt (Ideal.div (∑ k, x k * x k) c1024 + eps) * nw e

def gelu (a : EReal) : EReal := half * a * (1 + Ideal.erf (a * rt))

/-- The layer's parameters. -/
structure Par where
  nw : Fin 1024 → EReal
  ar : Fin 64 → Fin 64 → EReal
  ai : Fin 64 → Fin 64 → EReal
  br : Fin 64 → Fin 64 → Fin 16 → EReal
  bi : Fin 64 → Fin 64 → Fin 16 → EReal
  cr : Fin 64 → Fin 16 → Fin 64 → EReal
  ci : Fin 64 → Fin 16 → Fin 64 → EReal
  d : Fin 1024 → EReal
  w : Fin 1024 → Fin 2048 → EReal

namespace Par

variable (P : Par) (X : ℕ → Fin 1024 → EReal) (s : Fin 64 → Fin 64 → EReal × EReal)

/-- What a group's entries of the normalised row bring into state `p` of group `g`. -/
def bu (B : Fin 64 → Fin 64 → Fin 16 → EReal) (g p : Fin 64) (t : ℕ) : EReal :=
  ∑ k : Fin 16, B g p k * nrm P.nw (X t) ⟨g.val * 16 + k.val, by omega⟩

/-- State `p` of group `g` after `n` rows: its real and imaginary part. -/
def st (g p : Fin 64) (n : ℕ) : EReal × EReal :=
  Cert.S5.rec (P.ar g p) (P.ai g p) (P.bu X P.br g p) (P.bu X P.bi g p) (s g p) n

/-- The read-out of row `t`, with the skip term. -/
def y (t : ℕ) (e : Fin 1024) : EReal :=
  ((∑ p : Fin 64, P.cr ⟨e.val / 16, by omega⟩ ⟨e.val % 16, by omega⟩ p * (P.st X s ⟨e.val / 16, by omega⟩ p (t + 1)).1)
    + ∑ p : Fin 64, -P.ci ⟨e.val / 16, by omega⟩ ⟨e.val % 16, by omega⟩ p * (P.st X s ⟨e.val / 16, by omega⟩ p (t + 1)).2)
  + P.d e * nrm P.nw (X t) e

/-- The projection of the activated read-out. -/
def z (t : ℕ) (j : Fin 2048) : EReal := ∑ k : Fin 1024, gelu (P.y X s t k) * P.w k j

/-- The layer's output row: its input and the gated projection. -/
def out (t : ℕ) (e : Fin 1024) : EReal :=
  X t e + P.z X s t ⟨e.val, by omega⟩ * Ideal.div 1 (1 + Ideal.exp (-P.z X s t ⟨1024 + e.val, by omega⟩))

end Par

end Cert.S5

end
-- ==== Proof.SRFold.lean ====
/- The scan of the S5 reference, 2048 trips by induction, and its results in the words of the specification. -/
module

public import proofs.«01_k».proof.Proof.SRLoop
public import proofs.«01_k».proof.Proof.SModel
public import Idealize.ShloMosaic.Lib.DynamicIndex

@[expose] public section

noncomputable section

namespace Cert.S5.RefFold

open Cert.Reference2Ideal Cert.Reference2Ideal.Gen Cert.Reference2Ideal.Step
open Idealize.ShloMosaic

/-- A trip's number as a word is the number. -/
theorem word_of (j : ℕ) (hj : j < 2048) : (BitVec.ofNat 32 j).toInt = j := toInt_ofNat_of_lt (by omega)

theorem b3_at (j : ℕ) (hj : j < 2048) (s : State Ideal) (b : Fin 8) (g : Fin 64) (p : Fin 64) :
    b3 j s (ix4 0 b g p) = s.main_v23_0 (ix4 ⟨j, hj⟩ b g p) := by
  unfold b3
  refine (congrFun (Host.dynamicSlice_eq_extractStridedSlice (s := S2048x8x64x64) S1x8x64x64 _ _ (![j, 0, 0, 0] : Fin 4 → ℕ) _ ⟨rfl, fun a => by
    match a with
    | ⟨0, _⟩ => show j + 1 ≤ 2048; omega
    | ⟨1, _⟩ => show 0 + 8 ≤ 8; omega
    | ⟨2, _⟩ => show 0 + 64 ≤ 64; omega
    | ⟨3, _⟩ => show 0 + 64 ≤ 64; omega⟩ (fun a => by
    match a with
    | ⟨0, _⟩ => exact word_of j hj
    | ⟨1, _⟩ => exact rfl
    | ⟨2, _⟩ => exact rfl
    | ⟨3, _⟩ => exact rfl)) _).trans ?_
  pointwise

theorem b8_at (j : ℕ) (hj : j < 2048) (s : State Ideal) (b : Fin 8) (g : Fin 64) (p : Fin 64) :
    b8 j s (ix4 0 b g p) = s.main_v23_1 (ix4 ⟨j, hj⟩ b g p) := by
  unfold b8
  refine (congrFun (Host.dynamicSlice_eq_extractStridedSlice (s := S2048x8x64x64) S1x8x64x64 _ _ (![j, 0, 0, 0] : Fin 4 → ℕ) _ ⟨rfl, fun a => by
    match a with
    | ⟨0, _⟩ => show j + 1 ≤ 2048; omega
    | ⟨1, _⟩ => show 0 + 8 ≤ 8; omega
    | ⟨2, _⟩ => show 0 + 64 ≤ 64; omega
    | ⟨3, _⟩ => show 0 + 64 ≤ 64; omega⟩ (fun a => by
    match a with
    | ⟨0, _⟩ => exact word_of j hj
    | ⟨1, _⟩ => exact rfl
    | ⟨2, _⟩ => exact rfl
    | ⟨3, _⟩ => exact rfl)) _).trans ?_
  pointwise

theorem b12_at (j : ℕ) (hj : j < 2048) (s : State Ideal) (b : Fin 8) (e : Fin 1024) :
    b12 j s (ix3 0 b e) = s.main_v23_2 (ix3 ⟨j, hj⟩ b e) := by
  unfold b12
  refine (congrFun (Host.dynamicSlice_eq_extractStridedSlice (s := S2048x8x1024) S1x8x1024 _ _ (![j, 0, 0] : Fin 3 → ℕ) _ ⟨rfl, fun a => by
    match a with
    | ⟨0, _⟩ => show j + 1 ≤ 2048; omega
    | ⟨1, _⟩ => show 0 + 8 ≤ 8; omega
    | ⟨2, _⟩ => show 0 + 1024 ≤ 1024; omega⟩ (fun a => by
    match a with
    | ⟨0, _⟩ => exact word_of j hj
    | ⟨1, _⟩ => exact rfl
    | ⟨2, _⟩ => exact rfl)) _).trans ?_
  pointwise

theorem b41_at (j : ℕ) (hj : j < 2048) (s : State Ideal) (n : Fin 2048) (b : Fin 8) (e : Fin 1024) :
    b41 j s (ix3 n b e) = if n.val = j then b37 j s (ix2 b e) else s.main_v23_10 (ix3 n b e) := by
  have hr : S2048x8x1024.Slices ![j, 0, 0] S1x8x1024 := ⟨rfl, fun a => by
    match a with
    | ⟨0, _⟩ => show j + 1 ≤ 2048; omega
    | ⟨1, _⟩ => show 0 + 8 ≤ 8; omega
    | ⟨2, _⟩ => show 0 + 1024 ≤ 1024; omega⟩
  unfold b41
  refine (congrFun (Host.dynamicUpdateSlice_eq_updateSlice (s := S2048x8x1024) (u := S1x8x1024) _ _ _ _ ![j, 0, 0] (fun a => by
    match a with
    | ⟨0, _⟩ => show (min (max (BitVec.ofNat 32 j).toInt 0) ((2048 - 1 : ℕ) : ℤ)).toNat = j; rw [word_of j hj]; omega
    | ⟨1, _⟩ => rfl
    | ⟨2, _⟩ => rfl) hr) _).trans ?_
  pointwise [b38]
  by_cases hn : n.val = j
  · rw [dif_pos (by omega), if_pos hn]
  · rw [dif_neg (by omega), if_neg hn]

variable (x : FVec Ideal S8x2048x1024 .f32) (sr si : FVec Ideal S8x64x64 .f32) (nw : FVec Ideal S1024 .f32) (ar ai : FVec Ideal S64x64 .f32)
  (br bi : FVec Ideal S64x64x16 .f32) (cr ci : FVec Ideal S64x16x64 .f32) (d : FVec Ideal S1024 .f32) (w : FVec Ideal S1024x2048 .f32)

/-- The parameters read at their indices. -/
def par : Par where
  nw e := nw (ix1 e)
  ar g p := ar (ix2 g p)
  ai g p := ai (ix2 g p)
  br g p k := br (ix3 g p k)
  bi g p k := bi (ix3 g p k)
  cr g k p := cr (ix3 g k p)
  ci g k p := ci (ix3 g k p)
  d e := d (ix1 e)
  w k j := w (ix2 k j)

/-- The rows of batch row `b`. -/
def rows (b : Fin 8) (t : ℕ) (e : Fin 1024) : EReal := x (ix3 b ⟨t % 2048, Nat.mod_lt _ (by decide)⟩ e)

/-- The states of batch row `b` at the start. -/
def beg (b : Fin 8) (g p : Fin 64) : EReal × EReal := (sr (ix3 b g p), si (ix3 b g p))

theorem rows_eq (b : Fin 8) (t : Fin 2048) : rows x b t = fun e => x (ix3 b t e) :=
  funext fun e => congrArg (fun t => x (ix3 b t e)) (Fin.ext (Nat.mod_eq_of_lt t.isLt))

theorem h_at (b : Fin 8) (t : Fin 2048) (e : Fin 1024) :
    A_main_v12 (F := Ideal) x nw br bi d (ix3 b t e) = nrm (fun e => nw (ix1 e)) (fun e => x (ix3 b t e)) e := by
  pointwise [A_main_v12, A_main_v11, A_main_v10, A_main_v9, A_main_v8, A_main_v7, A_main_v6, A_main_v4, A_main_v2, A_main_v1, A_main_v0, K_main_v5, K_main_v3, K_main_cst, K_main_cst_0, K_main_cst_1]
  rfl

theorem bur_at (t : Fin 2048) (b : Fin 8) (g p : Fin 64) :
    A_main_v15 (F := Ideal) x nw br bi d (ix4 t b g p) = (par nw ar ai br bi cr ci d w).bu (rows x b) (par nw ar ai br bi cr ci d w).br g p t := by
  pointwise [A_main_v15, A_main_v14, A_main_v13]
  simp only [h_at]
  unfold Par.bu
  rw [rows_eq]
  rfl

theorem bui_at (t : Fin 2048) (b : Fin 8) (g p : Fin 64) :
    A_main_v17 (F := Ideal) x nw br bi d (ix4 t b g p) = (par nw ar ai br bi cr ci d w).bu (rows x b) (par nw ar ai br bi cr ci d w).bi g p t := by
  pointwise [A_main_v17, A_main_v16, A_main_v13]
  simp only [h_at]
  unfold Par.bu
  rw [rows_eq]
  rfl

theorem du_at (t : Fin 2048) (b : Fin 8) (e : Fin 1024) :
    A_main_v21 (F := Ideal) x nw br bi d (ix3 t b e) = d (ix1 e) * nrm (fun e => nw (ix1 e)) (rows x b t) e := by
  pointwise [A_main_v21, A_main_v20, A_main_v19, A_main_v18]
  simp only [h_at]
  rw [rows_eq]

/-- What holds after `n` trips. -/
structure After (n : ℕ) (s : State Ideal) : Prop where
  h_bur : s.main_v23_0 = A_main_v15 x nw br bi d
  h_bui : s.main_v23_1 = A_main_v17 x nw br bi d
  h_du : s.main_v23_2 = A_main_v21 x nw br bi d
  h_ar : s.main_v23_3 = ar
  h_ai : s.main_v23_4 = ai
  h_cr : s.main_v23_5 = cr
  h_ci : s.main_v23_6 = ci
  re : ∀ (b : Fin 8) (g p : Fin 64), s.main_v23_8 (ix3 b g p) = ((par nw ar ai br bi cr ci d w).st (rows x b) (beg sr si b) g p n).1
  im : ∀ (b : Fin 8) (g p : Fin 64), s.main_v23_9 (ix3 b g p) = ((par nw ar ai br bi cr ci d w).st (rows x b) (beg sr si b) g p n).2
  ys : ∀ (t : Fin 2048) (b : Fin 8) (e : Fin 1024), t.val < n →
    s.main_v23_10 (ix3 t b e) = (par nw ar ai br bi cr ci d w).y (rows x b) (beg sr si b) t e

variable {x sr si nw ar ai br bi cr ci d w}

theorem After.n_re {j : ℕ} (hj : j < 2048) {s : State Ideal} (H : After x sr si nw ar ai br bi cr ci d w j s) (b : Fin 8) (g p : Fin 64) :
    b21 j s (ix3 b g p) = ((par nw ar ai br bi cr ci d w).st (rows x b) (beg sr si b) g p (j + 1)).1 := by
  pointwise [b21, b20, b19, b18, b17, b16, b15, b14, b4]
  rw [b3_at j hj, H.h_bur, bur_at x nw ar ai br bi cr ci d w, H.h_ar, H.h_ai, H.re, H.im]
  rfl

theorem After.n_im {j : ℕ} (hj : j < 2048) {s : State Ideal} (H : After x sr si nw ar ai br bi cr ci d w j s) (b : Fin 8) (g p : Fin 64) :
    b29 j s (ix3 b g p) = ((par nw ar ai br bi cr ci d w).st (rows x b) (beg sr si b) g p (j + 1)).2 := by
  pointwise [b29, b28, b27, b26, b25, b24, b23, b22, b9]
  rw [b8_at j hj, H.h_bui, bui_at x nw ar ai br bi cr ci d w, H.h_ar, H.h_ai, H.re, H.im]
  rfl

theorem After.step {j : ℕ} (hj : j < 2048) {s : State Ideal} (H : After x sr si nw ar ai br bi cr ci d w j s) :
    After x sr si nw ar ai br bi cr ci d w (j + 1) (step j s) where
  h_bur := H.h_bur
  h_bui := H.h_bui
  h_du := H.h_du
  h_ar := H.h_ar
  h_ai := H.h_ai
  h_cr := H.h_cr
  h_ci := H.h_ci
  re b g p := by rw [step_main_v23_8]; exact H.n_re hj b g p
  im b g p := by rw [step_main_v23_9]; exact H.n_im hj b g p
  ys t b e ht := by
    rw [step_main_v23_10, b41_at j hj]
    by_cases htj : t.val = j
    · rw [if_pos htj]
      obtain rfl : t = ⟨j, hj⟩ := Fin.ext htj
      pointwise [b37, b36, b35, b34, b33, b32, b31, b30, b13]
      simp only [b12_at j hj, H.n_re hj, H.n_im hj, H.h_du, H.h_cr, H.h_ci, du_at]
      rfl
    · rw [if_neg htj]
      exact H.ys t b e (by omega)

theorem After.out_eq {s : State Ideal} (H : After x sr si nw ar ai br bi cr ci d w 2048 s) (b : Fin 8) (t : Fin 2048) (e : Fin 1024) :
    R_main_v43 s x w (ix3 b t e) = (par nw ar ai br bi cr ci d w).out (rows x b) (beg sr si b) t e := by
  pointwise [R_main_v43]
  simp only [H.ys _ _ _ (Fin.isLt _)]
  unfold Par.out
  rw [rows_eq]
  rfl

open Idealize.SL.Sem Idealize.ShloMosaic.TcCoe Cert.S5.RefLoop

theorem after_all (m : (ℓ : Loc nD τ sig) → Buf (Elt Ideal) ℓ) (c : Dev nD) : ∀ n, n ≤ 2048 →
    After (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      n (stateAt m c n)
  | 0, _ => ⟨rfl, rfl, rfl, rfl, rfl, rfl, rfl, fun _ _ _ => rfl, fun _ _ _ => rfl, fun _ _ _ h => absurd h (Nat.not_lt_zero _)⟩
  | n + 1, h => (after_all m c n (by omega)).step (by omega)

end Cert.S5.RefFold

end
-- ==== Proof.SIPay.lean ====
/- The pieces the S5 body stores, each read at an index. -/
module

public import proofs.«01_k».proof.Proof.SILoop
public import Idealize.ShloMosaic.Lib.Pipeline.Value
public import Idealize.ShloMosaic.Lib.WholeRead

@[expose] public section

set_option maxRecDepth 65536

noncomputable section

namespace Cert.S5

open Idealize.ShloMosaic Cert.Kernel2Ideal Cert.Kernel2Ideal.Gen

/-- The row of the batch-major matrix that row `r` of the time-major one comes from: time r / 8, batch row r % 8. -/
def hrow (r : Fin 512) : Fin 512 := ⟨r.val % 8 * 64 + r.val / 8, by omega⟩

/-- The time-major slabs of a batch-major matrix. -/
def hG (h : FVec Ideal S512x1024 .f32) (y : S8x512x128.Idx) : EReal :=
  h (ix2 (hrow (y 1)) ⟨128 * (y 0).val + (y 2).val, by have h0 : (y 0).val < 8 := (y 0).isLt; have h2 : (y 2).val < 128 := (y 2).isLt; omega⟩)

/-- One time tile's rows of one batch row: every eighth row. -/
def sR (κ b : ℕ) (hκ : κ < 8) (hb : b < 8) : Rect S8x512x128 where
  off := ![κ, b, 0]
  size := S1x64x128.size
  stride := ![1, 8, 1]
  inb a := by
    match a with
    | ⟨0, _⟩ => exact Or.inr (show κ + 1 * (1 - 1) < 8 by omega)
    | ⟨1, _⟩ => exact Or.inr (show b + 8 * (64 - 1) < 512 by omega)
    | ⟨2, _⟩ => exact Or.inr (show 0 + 1 * (128 - 1) < 128 by omega)
  stride_pos a := by
    match a with
    | ⟨0, _⟩ => exact Nat.one_pos
    | ⟨1, _⟩ => exact (show 0 < 8 by omega)
    | ⟨2, _⟩ => exact Nat.one_pos

theorem sR_emb (κ b : ℕ) (hκ : κ < 8) (hb : b < 8) (t : Fin 64) (l : Fin 128) :
    (sR κ b hκ hb).emb (ix3 0 t l : S1x64x128.Idx) = (ix3 ⟨κ, hκ⟩ ⟨8 * t.val + b, by omega⟩ l : S8x512x128.Idx) := by
  funext a
  match a with
  | ⟨0, _⟩ => exact Fin.ext (show κ + 1 * 0 = κ by omega)
  | ⟨1, _⟩ => exact Fin.ext (show b + 8 * t.val = 8 * t.val + b by omega)
  | ⟨2, _⟩ => exact Fin.ext (show 0 + 1 * l.val = l.val by omega)

theorem ix_unit {A B : ℕ} (x : (⟨3, ![1, A, B]⟩ : Shape).Idx) : ∃ (t : Fin A) (l : Fin B), x = ix3 0 t l :=
  ⟨x 1, x 2, funext fun a => match a with
    | ⟨0, _⟩ => Fin.ext (by have h : (x 0).val < 1 := (x 0).isLt; show (x 0).val = 0; omega)
    | ⟨1, _⟩ => rfl
    | ⟨2, _⟩ => rfl⟩

theorem hpiece (κ b : ℕ) (hκ : κ < 8) (hb : b < 8) (h : FVec Ideal S512x1024 .f32) (sl : S512x1024.Slices ![64 * b, 128 * κ] S64x128)
    (x : S1x64x128.Idx) :
    shapeCast S1x64x128 (extractStridedSlice S64x128 ![64 * b, 128 * κ] h sl) shapeCasts_S64x128_S1x64x128 x
      = hG h ((sR κ b hκ hb).emb x) := by
  obtain ⟨t, l, rfl⟩ := ix_unit x
  rw [sR_emb]
  have E : shapeCast S1x64x128 (extractStridedSlice S64x128 ![64 * b, 128 * κ] h sl) shapeCasts_S64x128_S1x64x128 (ix3 0 t l)
      = h (ix2 ⟨64 * b + t.val, by omega⟩ ⟨128 * κ + l.val, by omega⟩) := by pointwise
  rw [E]
  have e : (8 * t.val + b) % 8 * 64 + (8 * t.val + b) / 8 = 64 * b + t.val := by omega
  exact congrArg (fun r => h (ix2 r ⟨128 * κ + l.val, by omega⟩)) (Fin.ext e.symm)

def ySl (f : Fin 8 → FVec Ideal S512x128 .f32) : FVec Ideal S512x1024 .f32 :=
  concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] concatenates_S512x128_S512x128_S512x128_S512x128_S512x128_S512x128_S512x128_S512x128_S512x1024_d1

theorem ySl_apply (f : Fin 8 → FVec Ideal S512x128 .f32) (κ : Fin 8) (r : Fin 512) (l : Fin 128) :
    ySl f (ix2 r ⟨128 * κ.val + l.val, by omega⟩) = f κ (ix2 r l) := by
  refine concatenate_ofFn_apply (t := S512x1024) (s₁ := S512x128) 1 f _ rfl 128 rfl _ κ ?_ _ ?_ ?_
  · show (128 * κ.val + l.val) / 128 = κ.val; omega
  · show l.val = (128 * κ.val + l.val) % 128; omega
  · intro b hb
    match b with
    | ⟨0, _⟩ => rfl
    | ⟨1, _⟩ => exact absurd rfl hb

def rSl (f : Fin 8 → FVec Ideal S64x128 .f32) : FVec Ideal S512x128 .f32 :=
  concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩] concatenates_S64x128_S64x128_S64x128_S64x128_S64x128_S64x128_S64x128_S64x128_S512x128_d0

theorem rSl_apply (f : Fin 8 → FVec Ideal S64x128 .f32) (b : Fin 8) (t : Fin 64) (l : Fin 128) :
    rSl f (ix2 ⟨64 * b.val + t.val, by omega⟩ l) = f b (ix2 t l) := by
  refine concatenate_ofFn_apply (t := S512x128) (s₁ := S64x128) 0 f _ rfl 64 rfl _ b ?_ _ ?_ ?_
  · show (64 * b.val + t.val) / 64 = b.val; omega
  · show t.val = (64 * b.val + t.val) % 64; omega
  · intro a ha
    match a with
    | ⟨0, _⟩ => exact absurd rfl ha
    | ⟨1, _⟩ => rfl

def wSl (f : Fin 16 → FVec Ideal S512x128 .f32) : FVec Ideal S512x2048 .f32 :=
  concatenate S512x2048 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩,
    ⟨S512x128, f 8⟩, ⟨S512x128, f 9⟩, ⟨S512x128, f 10⟩, ⟨S512x128, f 11⟩, ⟨S512x128, f 12⟩, ⟨S512x128, f 13⟩, ⟨S512x128, f 14⟩, ⟨S512x128, f 15⟩] concatenates_S512x128_S512x128_S512x128_S512x128_S512x128_S512x128_S512x128_S512x128_S512x128_S512x128_S512x128_S512x128_S512x128_S512x128_S512x128_S512x128_S512x2048_d1

theorem wSl_apply (f : Fin 16 → FVec Ideal S512x128 .f32) (κ : Fin 16) (r : Fin 512) (l : Fin 128) :
    wSl f (ix2 r ⟨128 * κ.val + l.val, by omega⟩) = f κ (ix2 r l) := by
  refine concatenate_ofFn_apply (t := S512x2048) (s₁ := S512x128) 1 f _ rfl 128 rfl _ κ ?_ _ ?_ ?_
  · show (128 * κ.val + l.val) / 128 = κ.val; omega
  · show l.val = (128 * κ.val + l.val) % 128; omega
  · intro b hb
    match b with
    | ⟨0, _⟩ => rfl
    | ⟨1, _⟩ => exact absurd rfl hb

/-- The time-major matrix assembled from its slabs. -/
theorem hb_apply (v : Fin 8 → FVec Ideal S1x512x128 .f32) (h : FVec Ideal S512x1024 .f32)
    (hv : ∀ (κ : Fin 8) (r : Fin 512) (l : Fin 128), v κ (ix3 0 r l) = hG h (ix3 κ r l)) (r : Fin 512) (e : Fin 1024) :
    (k0_pay202 (F := Ideal) (v 0) (v 1) (v 2) (v 3) (v 4) (v 5) (v 6) (v 7) (ix2 r e) : EReal) = h (ix2 (hrow r) e) := by
  have E : e = ⟨128 * (e.val / 128) + e.val % 128, by omega⟩ := Fin.ext (by show _ = 128 * (e.val / 128) + e.val % 128; omega)
  have K := ySl_apply (fun κ => shapeCast S512x128 (v κ) shapeCasts_S1x512x128_S512x128) ⟨e.val / 128, by omega⟩ r ⟨e.val % 128, by omega⟩
  have K2 := hv ⟨e.val / 128, by omega⟩ r ⟨e.val % 128, by omega⟩
  have K3 : ∀ w : FVec Ideal S1x512x128 .f32, ∀ l : Fin 128, shapeCast S512x128 w shapeCasts_S1x512x128_S512x128 (ix2 r l) = w (ix3 0 r l) := fun w l => by pointwise
  rw [E]
  refine Eq.trans (show _ = _ from ?_) (K.trans ((K3 _ _).trans K2))
  rfl

/-- The input term of the recurrence: the matrix times a block of 256 rows. -/
def buE (hb : FVec Ideal S512x1024 .bf16) (W : FVec Ideal S4x256x2048 .bf16) (cb : Fin 4) (r : Fin 512) (n : Fin 2048) : EReal :=
  ∑ k : Fin 256, hb (ix2 r ⟨256 * cb.val + k.val, by omega⟩) * W (ix3 cb k n)

def buG (hb : FVec Ideal S512x1024 .bf16) (W : FVec Ideal S4x256x2048 .bf16) (cb : Fin 4) (y : S16x512x128.Idx) : EReal :=
  buE hb W cb (y 1) ⟨128 * (y 0).val + (y 2).val, by have h0 : (y 0).val < 16 := (y 0).isLt; have h2 : (y 2).val < 128 := (y 2).isLt; omega⟩

theorem bupiece (cb κ : ℕ) (hcb : cb < 4) (hκ : κ < 16) (hb : FVec Ideal S512x1024 .bf16) (W : FVec Ideal S4x256x2048 .bf16)
    (W1 : FVec Ideal S1x256x2048 .bf16) (hW : ∀ (k : Fin 256) (n : Fin 2048), W1 (ix3 0 k n) = W (ix3 ⟨cb, hcb⟩ k n))
    (sl1 : S512x1024.Slices ![0, 256 * cb] S512x256) (sl2 : S512x2048.Slices ![0, 128 * κ] S512x128)
    (inb : ∀ a : Fin 3, (![κ, 0, 0] : Fin 3 → ℕ) a + S1x512x128.size a ≤ S16x512x128.size a) (x : S1x512x128.Idx) :
    shapeCast S1x512x128 (extractStridedSlice S512x128 ![0, 128 * κ]
        (matmul dot_S512x256_S256x2048_S512x2048_1_0_0_1_n_n none (extractStridedSlice S512x256 ![0, 256 * cb] hb sl1)
          (shapeCast S256x2048 W1 shapeCasts_S1x256x2048_S256x2048) (constant S512x2048 .f32 0x00000000#32)) sl2)
        shapeCasts_S512x128_S1x512x128 x
      = buG hb W ⟨cb, hcb⟩ ((Rect.unit (s := S16x512x128) ![κ, 0, 0] S1x512x128.size inb).emb x) := by
  obtain ⟨r, l, rfl⟩ := ix_unit x
  have e : (Rect.unit (s := S16x512x128) ![κ, 0, 0] S1x512x128.size inb).emb (ix3 0 r l : S1x512x128.Idx) = (ix3 ⟨κ, hκ⟩ r l : S16x512x128.Idx) := by
    funext a
    match a with
    | ⟨0, _⟩ => exact Fin.ext (show κ + 1 * 0 = κ by omega)
    | ⟨1, _⟩ => exact Fin.ext (show 0 + 1 * r.val = r.val by omega)
    | ⟨2, _⟩ => exact Fin.ext (show 0 + 1 * l.val = l.val by omega)
  rw [e]
  have E : shapeCast S1x512x128 (extractStridedSlice S512x128 ![0, 128 * κ]
        (matmul dot_S512x256_S256x2048_S512x2048_1_0_0_1_n_n none (extractStridedSlice S512x256 ![0, 256 * cb] hb sl1)
          (shapeCast S256x2048 W1 shapeCasts_S1x256x2048_S256x2048) (constant S512x2048 .f32 0x00000000#32)) sl2)
        shapeCasts_S512x128_S1x512x128 (ix3 0 r l) = ∑ k : Fin 256, hb (ix2 r ⟨256 * cb + k.val, by omega⟩) * W1 (ix3 0 k ⟨128 * κ + l.val, by omega⟩) := by
    pointwise
  rw [E]
  simp only [hW]
  rfl

/-- The slabs of y: the states times a block of 2048 rows. -/
def yE (SL : Fin 4 → Fin 512 → Fin 2048 → EReal) (C : FVec Ideal S4x2048x256 .bf16) (r : Fin 512) (e : Fin 1024) : EReal :=
  ∑ n : Fin 2048, SL ⟨e.val / 256, by omega⟩ r n * C (ix3 ⟨e.val / 256, by omega⟩ n ⟨e.val % 256, by omega⟩)

def yG (SL : Fin 4 → Fin 512 → Fin 2048 → EReal) (C : FVec Ideal S4x2048x256 .bf16) (y : S8x512x128.Idx) : EReal :=
  yE SL C (y 1) ⟨128 * (y 0).val + (y 2).val, by have h0 : (y 0).val < 8 := (y 0).isLt; have h2 : (y 2).val < 128 := (y 2).isLt; omega⟩

theorem ypiece (cb q : ℕ) (hcb : cb < 4) (hq : q < 2) (SL : Fin 4 → Fin 512 → Fin 2048 → EReal) (C : FVec Ideal S4x2048x256 .bf16)
    (f : Fin 16 → FVec Ideal S512x128 .f32) (hf : ∀ (κ : Fin 16) (r : Fin 512) (l : Fin 128), f κ (ix2 r l) = SL ⟨cb, hcb⟩ r ⟨128 * κ.val + l.val, by omega⟩)
    (C1 : FVec Ideal S1x2048x256 .bf16) (hC : ∀ (n : Fin 2048) (o : Fin 256), C1 (ix3 0 n o) = C (ix3 ⟨cb, hcb⟩ n o))
    (sl2 : S512x256.Slices ![0, 128 * q] S512x128)
    (inb : ∀ a : Fin 3, (![2 * cb + q, 0, 0] : Fin 3 → ℕ) a + S1x512x128.size a ≤ S8x512x128.size a) (x : S1x512x128.Idx) :
    shapeCast S1x512x128 (extractStridedSlice S512x128 ![0, 128 * q]
        (matmul dot_S512x2048_S2048x256_S512x256_1_0_0_1_n_n none (truncf .bf16 (wSl f) bitsLt_bf16_f32)
          (shapeCast S2048x256 C1 shapeCasts_S1x2048x256_S2048x256) (constant S512x256 .f32 0x00000000#32)) sl2)
        shapeCasts_S512x128_S1x512x128 x
      = yG SL C ((Rect.unit (s := S8x512x128) ![2 * cb + q, 0, 0] S1x512x128.size inb).emb x) := by
  have hw : ∀ (r : Fin 512) (n : Fin 2048), wSl f (ix2 r n) = SL ⟨cb, hcb⟩ r n := by
    intro r n
    have E : n = ⟨128 * (n.val / 128) + n.val % 128, by omega⟩ := Fin.ext (by show _ = 128 * (n.val / 128) + n.val % 128; omega)
    rw [E]
    exact (wSl_apply f ⟨n.val / 128, by omega⟩ r ⟨n.val % 128, by omega⟩).trans (hf _ _ _)
  generalize wSl f = w at hw
  obtain ⟨r, l, rfl⟩ := ix_unit x
  have e : (Rect.unit (s := S8x512x128) ![2 * cb + q, 0, 0] S1x512x128.size inb).emb (ix3 0 r l : S1x512x128.Idx) = (ix3 ⟨2 * cb + q, by omega⟩ r l : S8x512x128.Idx) := by
    funext a
    match a with
    | ⟨0, _⟩ => exact Fin.ext (show 2 * cb + q + 1 * 0 = 2 * cb + q by omega)
    | ⟨1, _⟩ => exact Fin.ext (show 0 + 1 * r.val = r.val by omega)
    | ⟨2, _⟩ => exact Fin.ext (show 0 + 1 * l.val = l.val by omega)
  rw [e]
  have E : shapeCast S1x512x128 (extractStridedSlice S512x128 ![0, 128 * q]
        (matmul dot_S512x2048_S2048x256_S512x256_1_0_0_1_n_n none (truncf .bf16 w bitsLt_bf16_f32)
          (shapeCast S2048x256 C1 shapeCasts_S1x2048x256_S2048x256) (constant S512x256 .f32 0x00000000#32)) sl2)
        shapeCasts_S512x128_S1x512x128 (ix3 0 r l) = ∑ n : Fin 2048, w (ix2 r n) * C1 (ix3 0 n ⟨128 * q + l.val, by omega⟩) := by
    pointwise
  rw [E]
  simp only [hw, hC]
  have e1 : (⟨(128 * (2 * cb + q) + l.val) / 256, by omega⟩ : Fin 4) = ⟨cb, hcb⟩ := Fin.ext (by show (128 * (2 * cb + q) + l.val) / 256 = cb; omega)
  have e2 : (⟨(128 * (2 * cb + q) + l.val) % 256, by omega⟩ : Fin 256) = ⟨128 * q + l.val, by omega⟩ :=
    Fin.ext (by show (128 * (2 * cb + q) + l.val) % 256 = 128 * q + l.val; omega)
  show _ = ∑ n : Fin 2048, SL ⟨(128 * (2 * cb + q) + l.val) / 256, _⟩ r n * C (ix3 ⟨(128 * (2 * cb + q) + l.val) / 256, _⟩ n ⟨(128 * (2 * cb + q) + l.val) % 256, _⟩)
  rw [e1, e2]

end Cert.S5
-- ==== Proof.SILoops.lean ====
/- The four loops of the S5 body, each an instance of the loop over 64 steps. -/
module

public import proofs.«01_k».proof.Proof.SILoop

@[expose] public section

set_option maxRecDepth 65536

noncomputable section

namespace Cert.S5

open Idealize.ShloMosaic Idealize.ShloMosaic.TcCoe Idealize.SL.Sem Cert.Kernel2Ideal Cert.Kernel2Ideal.Gen

variable (𝒱 : Variants) (c : Dev nD) (bd : Option 𝒱.V) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)

theorem trips1 : k0_t1_loop.trips = 64 := by decide +kernel

abbrev offr1 (k : Fin k0_t1_loop.trips) : Fin 8 → Fin 3 → ℕ := ![k0_off1 k, k0_off3 k, k0_off5 k, k0_off7 k, k0_off9 k, k0_off11 k, k0_off13 k, k0_off15 k]
abbrev offi1 (k : Fin k0_t1_loop.trips) : Fin 8 → Fin 3 → ℕ := ![k0_off2 k, k0_off4 k, k0_off6 k, k0_off8 k, k0_off10 k, k0_off12 k, k0_off14 k, k0_off16 k]

theorem offr1_eq : ∀ k κ, offr1 k κ = ![κ.val, 8 * k.val, 0] := by decide +kernel
theorem offi1_eq : ∀ k κ, offi1 k κ = ![8 + κ.val, 8 * k.val, 0] := by decide +kernel

theorem offr1_inb (k : Fin k0_t1_loop.trips) (κ : Fin 8) (a : Fin 3) : offr1 k κ a + S1x8x128.size a ≤ S16x512x128.size a := by
  have hk : k.val < 64 := k.isLt.trans_eq trips1
  rw [offr1_eq]
  match a with
  | ⟨0, _⟩ => show κ.val + 1 ≤ 16; omega
  | ⟨1, _⟩ => show 8 * k.val + 8 ≤ 512; omega
  | ⟨2, _⟩ => show 0 + 128 ≤ 128; omega
theorem offi1_inb (k : Fin k0_t1_loop.trips) (κ : Fin 8) (a : Fin 3) : offi1 k κ a + S1x8x128.size a ≤ S16x512x128.size a := by
  have hk : k.val < 64 := k.isLt.trans_eq trips1
  rw [offi1_eq]
  match a with
  | ⟨0, _⟩ => show 8 + κ.val + 1 ≤ 16; omega
  | ⟨1, _⟩ => show 8 * k.val + 8 ≤ 512; omega
  | ⟨2, _⟩ => show 0 + 128 ≤ 128; omega

section

variable  (v364 : FVec Ideal S8x128 .f32) (v368 : FVec Ideal S8x128 .f32) (v372 : FVec Ideal S8x128 .f32) (v376 : FVec Ideal S8x128 .f32) (v380 : FVec Ideal S8x128 .f32) (v384 : FVec Ideal S8x128 .f32) (v388 : FVec Ideal S8x128 .f32) (v392 : FVec Ideal S8x128 .f32) (v396 : FVec Ideal S8x128 .f32) (v400 : FVec Ideal S8x128 .f32) (v404 : FVec Ideal S8x128 .f32) (v408 : FVec Ideal S8x128 .f32) (v412 : FVec Ideal S8x128 .f32) (v416 : FVec Ideal S8x128 .f32) (v420 : FVec Ideal S8x128 .f32) (v424 : FVec Ideal S8x128 .f32) (v425 : Vec Ideal S8x128 .f32) (v426 : Vec Ideal S8x128 .f32)

abbrev newR1 (k : Fin k0_t1_loop.trips) (cr ci : Fin 8 → Tile) (f : arg11.view.ty.Contents (Elt Ideal)) (κ : Fin 8) : Tile :=
  stepRe ((![v364, v368, v372, v376, v380, v384, v388, v392] : Fin 8 → Tile) κ) ((![v396, v400, v404, v408, v412, v416, v420, v424] : Fin 8 → Tile) κ) (cr κ) (ci κ)
    (arg11.view.readAt (Elt Ideal) (Rect.unit (s := S16x512x128) (offr1 k κ) S1x8x128.size (offr1_inb k κ)).toLoadRect f)
abbrev newI1 (k : Fin k0_t1_loop.trips) (cr ci : Fin 8 → Tile) (f : arg11.view.ty.Contents (Elt Ideal)) (κ : Fin 8) : Tile :=
  stepIm ((![v364, v368, v372, v376, v380, v384, v388, v392] : Fin 8 → Tile) κ) ((![v396, v400, v404, v408, v412, v416, v420, v424] : Fin 8 → Tile) κ) (cr κ) (ci κ)
    (arg11.view.readAt (Elt Ideal) (Rect.unit (s := S16x512x128) (offi1 k κ) S1x8x128.size (offi1_inb k κ)).toLoadRect f)

theorem tripR1 (k : Fin k0_t1_loop.trips) (cr ci : Fin 8 → Tile) (f : arg11.view.ty.Contents (Elt Ideal)) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v364 v368 v372 v376 v380 v384 v388 v392 v396 v400 v404 v408 v412 v416 v420 v424 v425 v426 k (toT cr ci) f
      = toT (newR1 arg11 v364 v368 v372 v376 v380 v384 v388 v392 v396 v400 v404 v408 v412 v416 v420 v424 k cr ci f) (newI1 arg11 v364 v368 v372 v376 v380 v384 v388 v392 v396 v400 v404 v408 v412 v416 v420 v424 k cr ci f) := by
  unfold tripR_k0_t1 trip_k0_t1
  rfl

theorem tripL1 (k : Fin k0_t1_loop.trips) (cr ci : Fin 8 → Tile) (f : arg11.view.ty.Contents (Elt Ideal)) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v364 v368 v372 v376 v380 v384 v388 v392 v396 v400 v404 v408 v412 v416 v420 v424 v425 v426 k (toT cr ci) f
      = mkL (fun κ => put (offr1 k κ) (offr1_inb k κ) (newR1 arg11 v364 v368 v372 v376 v380 v384 v388 v392 v396 v400 v404 v408 v412 v416 v420 v424 k cr ci f κ))
          (fun κ => put (offi1 k κ) (offi1_inb k κ) (newI1 arg11 v364 v368 v372 v376 v380 v384 v388 v392 v396 v400 v404 v408 v412 v416 v420 v424 k cr ci f κ)) := by
  unfold tripL_k0_t1 trip_k0_t1
  rfl

/-- The loop before trip `n`. -/
theorem loop1 (G : arg11.view.ty.Contents (Elt Ideal)) (Cr Ci : Fin 8 → Tile) (Br Bi : Fin 8 → ℕ → Fin 8 → Fin 128 → EReal)
    (hBr : ∀ (κ : Fin 8) t (ht : t < 64) (b : Fin 8) (l : Fin 128),
      arg11.view.read (Elt Ideal) G (ix3 ⟨κ.val, by omega⟩ ⟨8 * t + b, by omega⟩ l) = Br κ t b l)
    (hBi : ∀ (κ : Fin 8) t (ht : t < 64) (b : Fin 8) (l : Fin 128),
      arg11.view.read (Elt Ideal) G (ix3 ⟨8 + κ.val, by omega⟩ ⟨8 * t + b, by omega⟩ l) = Bi κ t b l) :
    ∀ n, n ≤ 64 → Inv ![v364, v368, v372, v376, v380, v384, v388, v392] ![v396, v400, v404, v408, v412, v416, v420, v424] Cr Ci Br Bi n
      (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v364 v368 v372 v376 v380 v384 v388 v392 v396 v400 v404 v408 v412 v416 v420 v424 v425 v426 G (toT Cr Ci) n)
  | 0, _ => Inv.zero
  | n + 1, hn => by
    have H := loop1 G Cr Ci Br Bi hBr hBi n (by omega)
    have E := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v364 v368 v372 v376 v380 v384 v388 v392 v396 v400 v404 v408 v412 v416 v420 v424 v425 v426 G (toT Cr Ci) ⟨n, (show n < 64 by omega).trans_eq trips1.symm⟩
    rw [show n + 1 = (⟨n, (show n < 64 by omega).trans_eq trips1.symm⟩ : Fin k0_t1_loop.trips).val + 1 from rfl, E, H.carry, tripR1, tripL1]
    exact Inv.step arg11.view G (by omega) H (offr1 ⟨n, (show n < 64 by omega).trans_eq trips1.symm⟩) (offi1 ⟨n, (show n < 64 by omega).trans_eq trips1.symm⟩) (offr1_inb _) (offi1_inb _) (offr1_eq _) (offi1_eq _) hBr hBi _ _ (fun _ => rfl) (fun _ => rfl)

end

theorem trips2 : k0_t2_loop.trips = 64 := by decide +kernel

abbrev offr2 (k : Fin k0_t2_loop.trips) : Fin 8 → Fin 3 → ℕ := ![k0_off17 k, k0_off19 k, k0_off21 k, k0_off23 k, k0_off25 k, k0_off27 k, k0_off29 k, k0_off31 k]
abbrev offi2 (k : Fin k0_t2_loop.trips) : Fin 8 → Fin 3 → ℕ := ![k0_off18 k, k0_off20 k, k0_off22 k, k0_off24 k, k0_off26 k, k0_off28 k, k0_off30 k, k0_off32 k]

theorem offr2_eq : ∀ k κ, offr2 k κ = ![κ.val, 8 * k.val, 0] := by decide +kernel
theorem offi2_eq : ∀ k κ, offi2 k κ = ![8 + κ.val, 8 * k.val, 0] := by decide +kernel

theorem offr2_inb (k : Fin k0_t2_loop.trips) (κ : Fin 8) (a : Fin 3) : offr2 k κ a + S1x8x128.size a ≤ S16x512x128.size a := by
  have hk : k.val < 64 := k.isLt.trans_eq trips2
  rw [offr2_eq]
  match a with
  | ⟨0, _⟩ => show κ.val + 1 ≤ 16; omega
  | ⟨1, _⟩ => show 8 * k.val + 8 ≤ 512; omega
  | ⟨2, _⟩ => show 0 + 128 ≤ 128; omega
theorem offi2_inb (k : Fin k0_t2_loop.trips) (κ : Fin 8) (a : Fin 3) : offi2 k κ a + S1x8x128.size a ≤ S16x512x128.size a := by
  have hk : k.val < 64 := k.isLt.trans_eq trips2
  rw [offi2_eq]
  match a with
  | ⟨0, _⟩ => show 8 + κ.val + 1 ≤ 16; omega
  | ⟨1, _⟩ => show 8 * k.val + 8 ≤ 512; omega
  | ⟨2, _⟩ => show 0 + 128 ≤ 128; omega

section

variable  (v607 : FVec Ideal S8x128 .f32) (v611 : FVec Ideal S8x128 .f32) (v615 : FVec Ideal S8x128 .f32) (v619 : FVec Ideal S8x128 .f32) (v623 : FVec Ideal S8x128 .f32) (v627 : FVec Ideal S8x128 .f32) (v631 : FVec Ideal S8x128 .f32) (v635 : FVec Ideal S8x128 .f32) (v639 : FVec Ideal S8x128 .f32) (v643 : FVec Ideal S8x128 .f32) (v647 : FVec Ideal S8x128 .f32) (v651 : FVec Ideal S8x128 .f32) (v655 : FVec Ideal S8x128 .f32) (v659 : FVec Ideal S8x128 .f32) (v663 : FVec Ideal S8x128 .f32) (v667 : FVec Ideal S8x128 .f32) (v668 : Vec Ideal S8x128 .f32) (v669 : Vec Ideal S8x128 .f32) (v670 : Vec Ideal S8x128 .f32) (v671 : Vec Ideal S8x128 .f32) (v672 : Vec Ideal S8x128 .f32) (v673 : Vec Ideal S8x128 .f32) (v674 : Vec Ideal S8x128 .f32) (v675 : Vec Ideal S8x128 .f32) (v676 : Vec Ideal S8x128 .f32) (v677 : Vec Ideal S8x128 .f32) (v678 : Vec Ideal S8x128 .f32) (v679 : Vec Ideal S8x128 .f32) (v680 : Vec Ideal S8x128 .f32) (v681 : Vec Ideal S8x128 .f32)

abbrev newR2 (k : Fin k0_t2_loop.trips) (cr ci : Fin 8 → Tile) (f : arg11.view.ty.Contents (Elt Ideal)) (κ : Fin 8) : Tile :=
  stepRe ((![v607, v611, v615, v619, v623, v627, v631, v635] : Fin 8 → Tile) κ) ((![v639, v643, v647, v651, v655, v659, v663, v667] : Fin 8 → Tile) κ) (cr κ) (ci κ)
    (arg11.view.readAt (Elt Ideal) (Rect.unit (s := S16x512x128) (offr2 k κ) S1x8x128.size (offr2_inb k κ)).toLoadRect f)
abbrev newI2 (k : Fin k0_t2_loop.trips) (cr ci : Fin 8 → Tile) (f : arg11.view.ty.Contents (Elt Ideal)) (κ : Fin 8) : Tile :=
  stepIm ((![v607, v611, v615, v619, v623, v627, v631, v635] : Fin 8 → Tile) κ) ((![v639, v643, v647, v651, v655, v659, v663, v667] : Fin 8 → Tile) κ) (cr κ) (ci κ)
    (arg11.view.readAt (Elt Ideal) (Rect.unit (s := S16x512x128) (offi2 k κ) S1x8x128.size (offi2_inb k κ)).toLoadRect f)

theorem tripR2 (k : Fin k0_t2_loop.trips) (cr ci : Fin 8 → Tile) (f : arg11.view.ty.Contents (Elt Ideal)) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v607 v611 v615 v619 v623 v627 v631 v635 v639 v643 v647 v651 v655 v659 v663 v667 v668 v669 v670 v671 v672 v673 v674 v675 v676 v677 v678 v679 v680 v681 k (toT cr ci) f
      = toT (newR2 arg11 v607 v611 v615 v619 v623 v627 v631 v635 v639 v643 v647 v651 v655 v659 v663 v667 k cr ci f) (newI2 arg11 v607 v611 v615 v619 v623 v627 v631 v635 v639 v643 v647 v651 v655 v659 v663 v667 k cr ci f) := by
  unfold tripR_k0_t2 trip_k0_t2
  rfl

theorem tripL2 (k : Fin k0_t2_loop.trips) (cr ci : Fin 8 → Tile) (f : arg11.view.ty.Contents (Elt Ideal)) :
    tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v607 v611 v615 v619 v623 v627 v631 v635 v639 v643 v647 v651 v655 v659 v663 v667 v668 v669 v670 v671 v672 v673 v674 v675 v676 v677 v678 v679 v680 v681 k (toT cr ci) f
      = mkL (fun κ => put (offr2 k κ) (offr2_inb k κ) (newR2 arg11 v607 v611 v615 v619 v623 v627 v631 v635 v639 v643 v647 v651 v655 v659 v663 v667 k cr ci f κ))
          (fun κ => put (offi2 k κ) (offi2_inb k κ) (newI2 arg11 v607 v611 v615 v619 v623 v627 v631 v635 v639 v643 v647 v651 v655 v659 v663 v667 k cr ci f κ)) := by
  unfold tripL_k0_t2 trip_k0_t2
  rfl

/-- The loop before trip `n`. -/
theorem loop2 (G : arg11.view.ty.Contents (Elt Ideal)) (Cr Ci : Fin 8 → Tile) (Br Bi : Fin 8 → ℕ → Fin 8 → Fin 128 → EReal)
    (hBr : ∀ (κ : Fin 8) t (ht : t < 64) (b : Fin 8) (l : Fin 128),
      arg11.view.read (Elt Ideal) G (ix3 ⟨κ.val, by omega⟩ ⟨8 * t + b, by omega⟩ l) = Br κ t b l)
    (hBi : ∀ (κ : Fin 8) t (ht : t < 64) (b : Fin 8) (l : Fin 128),
      arg11.view.read (Elt Ideal) G (ix3 ⟨8 + κ.val, by omega⟩ ⟨8 * t + b, by omega⟩ l) = Bi κ t b l) :
    ∀ n, n ≤ 64 → Inv ![v607, v611, v615, v619, v623, v627, v631, v635] ![v639, v643, v647, v651, v655, v659, v663, v667] Cr Ci Br Bi n
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v607 v611 v615 v619 v623 v627 v631 v635 v639 v643 v647 v651 v655 v659 v663 v667 v668 v669 v670 v671 v672 v673 v674 v675 v676 v677 v678 v679 v680 v681 G (toT Cr Ci) n)
  | 0, _ => Inv.zero
  | n + 1, hn => by
    have H := loop2 G Cr Ci Br Bi hBr hBi n (by omega)
    have E := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v607 v611 v615 v619 v623 v627 v631 v635 v639 v643 v647 v651 v655 v659 v663 v667 v668 v669 v670 v671 v672 v673 v674 v675 v676 v677 v678 v679 v680 v681 G (toT Cr Ci) ⟨n, (show n < 64 by omega).trans_eq trips2.symm⟩
    rw [show n + 1 = (⟨n, (show n < 64 by omega).trans_eq trips2.symm⟩ : Fin k0_t2_loop.trips).val + 1 from rfl, E, H.carry, tripR2, tripL2]
    exact Inv.step arg11.view G (by omega) H (offr2 ⟨n, (show n < 64 by omega).trans_eq trips2.symm⟩) (offi2 ⟨n, (show n < 64 by omega).trans_eq trips2.symm⟩) (offr2_inb _) (offi2_inb _) (offr2_eq _) (offi2_eq _) hBr hBi _ _ (fun _ => rfl) (fun _ => rfl)

end

theorem trips3 : k0_t3_loop.trips = 64 := by decide +kernel

abbrev offr3 (k : Fin k0_t3_loop.trips) : Fin 8 → Fin 3 → ℕ := ![k0_off33 k, k0_off35 k, k0_off37 k, k0_off39 k, k0_off41 k, k0_off43 k, k0_off45 k, k0_off47 k]
abbrev offi3 (k : Fin k0_t3_loop.trips) : Fin 8 → Fin 3 → ℕ := ![k0_off34 k, k0_off36 k, k0_off38 k, k0_off40 k, k0_off42 k, k0_off44 k, k0_off46 k, k0_off48 k]

theorem offr3_eq : ∀ k κ, offr3 k κ = ![κ.val, 8 * k.val, 0] := by decide +kernel
theorem offi3_eq : ∀ k κ, offi3 k κ = ![8 + κ.val, 8 * k.val, 0] := by decide +kernel

theorem offr3_inb (k : Fin k0_t3_loop.trips) (κ : Fin 8) (a : Fin 3) : offr3 k κ a + S1x8x128.size a ≤ S16x512x128.size a := by
  have hk : k.val < 64 := k.isLt.trans_eq trips3
  rw [offr3_eq]
  match a with
  | ⟨0, _⟩ => show κ.val + 1 ≤ 16; omega
  | ⟨1, _⟩ => show 8 * k.val + 8 ≤ 512; omega
  | ⟨2, _⟩ => show 0 + 128 ≤ 128; omega
theorem offi3_inb (k : Fin k0_t3_loop.trips) (κ : Fin 8) (a : Fin 3) : offi3 k κ a + S1x8x128.size a ≤ S16x512x128.size a := by
  have hk : k.val < 64 := k.isLt.trans_eq trips3
  rw [offi3_eq]
  match a with
  | ⟨0, _⟩ => show 8 + κ.val + 1 ≤ 16; omega
  | ⟨1, _⟩ => show 8 * k.val + 8 ≤ 512; omega
  | ⟨2, _⟩ => show 0 + 128 ≤ 128; omega

section

variable  (v850 : FVec Ideal S8x128 .f32) (v854 : FVec Ideal S8x128 .f32) (v858 : FVec Ideal S8x128 .f32) (v862 : FVec Ideal S8x128 .f32) (v866 : FVec Ideal S8x128 .f32) (v870 : FVec Ideal S8x128 .f32) (v874 : FVec Ideal S8x128 .f32) (v878 : FVec Ideal S8x128 .f32) (v882 : FVec Ideal S8x128 .f32) (v886 : FVec Ideal S8x128 .f32) (v890 : FVec Ideal S8x128 .f32) (v894 : FVec Ideal S8x128 .f32) (v898 : FVec Ideal S8x128 .f32) (v902 : FVec Ideal S8x128 .f32) (v906 : FVec Ideal S8x128 .f32) (v910 : FVec Ideal S8x128 .f32) (v911 : Vec Ideal S8x128 .f32) (v912 : Vec Ideal S8x128 .f32) (v913 : Vec Ideal S8x128 .f32) (v914 : Vec Ideal S8x128 .f32) (v915 : Vec Ideal S8x128 .f32) (v916 : Vec Ideal S8x128 .f32) (v917 : Vec Ideal S8x128 .f32)

abbrev newR3 (k : Fin k0_t3_loop.trips) (cr ci : Fin 8 → Tile) (f : arg11.view.ty.Contents (Elt Ideal)) (κ : Fin 8) : Tile :=
  stepRe ((![v850, v854, v858, v862, v866, v870, v874, v878] : Fin 8 → Tile) κ) ((![v882, v886, v890, v894, v898, v902, v906, v910] : Fin 8 → Tile) κ) (cr κ) (ci κ)
    (arg11.view.readAt (Elt Ideal) (Rect.unit (s := S16x512x128) (offr3 k κ) S1x8x128.size (offr3_inb k κ)).toLoadRect f)
abbrev newI3 (k : Fin k0_t3_loop.trips) (cr ci : Fin 8 → Tile) (f : arg11.view.ty.Contents (Elt Ideal)) (κ : Fin 8) : Tile :=
  stepIm ((![v850, v854, v858, v862, v866, v870, v874, v878] : Fin 8 → Tile) κ) ((![v882, v886, v890, v894, v898, v902, v906, v910] : Fin 8 → Tile) κ) (cr κ) (ci κ)
    (arg11.view.readAt (Elt Ideal) (Rect.unit (s := S16x512x128) (offi3 k κ) S1x8x128.size (offi3_inb k κ)).toLoadRect f)

theorem tripR3 (k : Fin k0_t3_loop.trips) (cr ci : Fin 8 → Tile) (f : arg11.view.ty.Contents (Elt Ideal)) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v850 v854 v858 v862 v866 v870 v874 v878 v882 v886 v890 v894 v898 v902 v906 v910 v911 v912 v913 v914 v915 v916 v917 k (toT cr ci) f
      = toT (newR3 arg11 v850 v854 v858 v862 v866 v870 v874 v878 v882 v886 v890 v894 v898 v902 v906 v910 k cr ci f) (newI3 arg11 v850 v854 v858 v862 v866 v870 v874 v878 v882 v886 v890 v894 v898 v902 v906 v910 k cr ci f) := by
  unfold tripR_k0_t3 trip_k0_t3
  rfl

theorem tripL3 (k : Fin k0_t3_loop.trips) (cr ci : Fin 8 → Tile) (f : arg11.view.ty.Contents (Elt Ideal)) :
    tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v850 v854 v858 v862 v866 v870 v874 v878 v882 v886 v890 v894 v898 v902 v906 v910 v911 v912 v913 v914 v915 v916 v917 k (toT cr ci) f
      = mkL (fun κ => put (offr3 k κ) (offr3_inb k κ) (newR3 arg11 v850 v854 v858 v862 v866 v870 v874 v878 v882 v886 v890 v894 v898 v902 v906 v910 k cr ci f κ))
          (fun κ => put (offi3 k κ) (offi3_inb k κ) (newI3 arg11 v850 v854 v858 v862 v866 v870 v874 v878 v882 v886 v890 v894 v898 v902 v906 v910 k cr ci f κ)) := by
  unfold tripL_k0_t3 trip_k0_t3
  rfl

/-- The loop before trip `n`. -/
theorem loop3 (G : arg11.view.ty.Contents (Elt Ideal)) (Cr Ci : Fin 8 → Tile) (Br Bi : Fin 8 → ℕ → Fin 8 → Fin 128 → EReal)
    (hBr : ∀ (κ : Fin 8) t (ht : t < 64) (b : Fin 8) (l : Fin 128),
      arg11.view.read (Elt Ideal) G (ix3 ⟨κ.val, by omega⟩ ⟨8 * t + b, by omega⟩ l) = Br κ t b l)
    (hBi : ∀ (κ : Fin 8) t (ht : t < 64) (b : Fin 8) (l : Fin 128),
      arg11.view.read (Elt Ideal) G (ix3 ⟨8 + κ.val, by omega⟩ ⟨8 * t + b, by omega⟩ l) = Bi κ t b l) :
    ∀ n, n ≤ 64 → Inv ![v850, v854, v858, v862, v866, v870, v874, v878] ![v882, v886, v890, v894, v898, v902, v906, v910] Cr Ci Br Bi n
      (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v850 v854 v858 v862 v866 v870 v874 v878 v882 v886 v890 v894 v898 v902 v906 v910 v911 v912 v913 v914 v915 v916 v917 G (toT Cr Ci) n)
  | 0, _ => Inv.zero
  | n + 1, hn => by
    have H := loop3 G Cr Ci Br Bi hBr hBi n (by omega)
    have E := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v850 v854 v858 v862 v866 v870 v874 v878 v882 v886 v890 v894 v898 v902 v906 v910 v911 v912 v913 v914 v915 v916 v917 G (toT Cr Ci) ⟨n, (show n < 64 by omega).trans_eq trips3.symm⟩
    rw [show n + 1 = (⟨n, (show n < 64 by omega).trans_eq trips3.symm⟩ : Fin k0_t3_loop.trips).val + 1 from rfl, E, H.carry, tripR3, tripL3]
    exact Inv.step arg11.view G (by omega) H (offr3 ⟨n, (show n < 64 by omega).trans_eq trips3.symm⟩) (offi3 ⟨n, (show n < 64 by omega).trans_eq trips3.symm⟩) (offr3_inb _) (offi3_inb _) (offr3_eq _) (offi3_eq _) hBr hBi _ _ (fun _ => rfl) (fun _ => rfl)

end

theorem trips4 : k0_t4_loop.trips = 64 := by decide +kernel

abbrev offr4 (k : Fin k0_t4_loop.trips) : Fin 8 → Fin 3 → ℕ := ![k0_off49 k, k0_off51 k, k0_off53 k, k0_off55 k, k0_off57 k, k0_off59 k, k0_off61 k, k0_off63 k]
abbrev offi4 (k : Fin k0_t4_loop.trips) : Fin 8 → Fin 3 → ℕ := ![k0_off50 k, k0_off52 k, k0_off54 k, k0_off56 k, k0_off58 k, k0_off60 k, k0_off62 k, k0_off64 k]

theorem offr4_eq : ∀ k κ, offr4 k κ = ![κ.val, 8 * k.val, 0] := by decide +kernel
theorem offi4_eq : ∀ k κ, offi4 k κ = ![8 + κ.val, 8 * k.val, 0] := by decide +kernel

theorem offr4_inb (k : Fin k0_t4_loop.trips) (κ : Fin 8) (a : Fin 3) : offr4 k κ a + S1x8x128.size a ≤ S16x512x128.size a := by
  have hk : k.val < 64 := k.isLt.trans_eq trips4
  rw [offr4_eq]
  match a with
  | ⟨0, _⟩ => show κ.val + 1 ≤ 16; omega
  | ⟨1, _⟩ => show 8 * k.val + 8 ≤ 512; omega
  | ⟨2, _⟩ => show 0 + 128 ≤ 128; omega
theorem offi4_inb (k : Fin k0_t4_loop.trips) (κ : Fin 8) (a : Fin 3) : offi4 k κ a + S1x8x128.size a ≤ S16x512x128.size a := by
  have hk : k.val < 64 := k.isLt.trans_eq trips4
  rw [offi4_eq]
  match a with
  | ⟨0, _⟩ => show 8 + κ.val + 1 ≤ 16; omega
  | ⟨1, _⟩ => show 8 * k.val + 8 ≤ 512; omega
  | ⟨2, _⟩ => show 0 + 128 ≤ 128; omega

section

variable  (v1093 : FVec Ideal S8x128 .f32) (v1097 : FVec Ideal S8x128 .f32) (v1101 : FVec Ideal S8x128 .f32) (v1105 : FVec Ideal S8x128 .f32) (v1109 : FVec Ideal S8x128 .f32) (v1113 : FVec Ideal S8x128 .f32) (v1117 : FVec Ideal S8x128 .f32) (v1121 : FVec Ideal S8x128 .f32) (v1125 : FVec Ideal S8x128 .f32) (v1129 : FVec Ideal S8x128 .f32) (v1133 : FVec Ideal S8x128 .f32) (v1137 : FVec Ideal S8x128 .f32) (v1141 : FVec Ideal S8x128 .f32) (v1145 : FVec Ideal S8x128 .f32) (v1149 : FVec Ideal S8x128 .f32) (v1151 : FVec Ideal S1x128 .f32)

abbrev newR4 (k : Fin k0_t4_loop.trips) (cr ci : Fin 8 → Tile) (f : arg11.view.ty.Contents (Elt Ideal)) (κ : Fin 8) : Tile :=
  stepRe ((![v1093, v1097, v1101, v1105, v1109, v1113, v1117, v1121] : Fin 8 → Tile) κ) ((![v1125, v1129, v1133, v1137, v1141, v1145, v1149, (k0_pay442 v1151)] : Fin 8 → Tile) κ) (cr κ) (ci κ)
    (arg11.view.readAt (Elt Ideal) (Rect.unit (s := S16x512x128) (offr4 k κ) S1x8x128.size (offr4_inb k κ)).toLoadRect f)
abbrev newI4 (k : Fin k0_t4_loop.trips) (cr ci : Fin 8 → Tile) (f : arg11.view.ty.Contents (Elt Ideal)) (κ : Fin 8) : Tile :=
  stepIm ((![v1093, v1097, v1101, v1105, v1109, v1113, v1117, v1121] : Fin 8 → Tile) κ) ((![v1125, v1129, v1133, v1137, v1141, v1145, v1149, (k0_pay442 v1151)] : Fin 8 → Tile) κ) (cr κ) (ci κ)
    (arg11.view.readAt (Elt Ideal) (Rect.unit (s := S16x512x128) (offi4 k κ) S1x8x128.size (offi4_inb k κ)).toLoadRect f)

theorem tripR4 (k : Fin k0_t4_loop.trips) (cr ci : Fin 8 → Tile) (f : arg11.view.ty.Contents (Elt Ideal)) :
    tripR_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1093 v1097 v1101 v1105 v1109 v1113 v1117 v1121 v1125 v1129 v1133 v1137 v1141 v1145 v1149 v1151 k (toT cr ci) f
      = toT (newR4 arg11 v1093 v1097 v1101 v1105 v1109 v1113 v1117 v1121 v1125 v1129 v1133 v1137 v1141 v1145 v1149 v1151 k cr ci f) (newI4 arg11 v1093 v1097 v1101 v1105 v1109 v1113 v1117 v1121 v1125 v1129 v1133 v1137 v1141 v1145 v1149 v1151 k cr ci f) := by
  unfold tripR_k0_t4 trip_k0_t4
  rfl

theorem tripL4 (k : Fin k0_t4_loop.trips) (cr ci : Fin 8 → Tile) (f : arg11.view.ty.Contents (Elt Ideal)) :
    tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1093 v1097 v1101 v1105 v1109 v1113 v1117 v1121 v1125 v1129 v1133 v1137 v1141 v1145 v1149 v1151 k (toT cr ci) f
      = mkL (fun κ => put (offr4 k κ) (offr4_inb k κ) (newR4 arg11 v1093 v1097 v1101 v1105 v1109 v1113 v1117 v1121 v1125 v1129 v1133 v1137 v1141 v1145 v1149 v1151 k cr ci f κ))
          (fun κ => put (offi4 k κ) (offi4_inb k κ) (newI4 arg11 v1093 v1097 v1101 v1105 v1109 v1113 v1117 v1121 v1125 v1129 v1133 v1137 v1141 v1145 v1149 v1151 k cr ci f κ)) := by
  unfold tripL_k0_t4 trip_k0_t4
  rfl

/-- The loop before trip `n`. -/
theorem loop4 (G : arg11.view.ty.Contents (Elt Ideal)) (Cr Ci : Fin 8 → Tile) (Br Bi : Fin 8 → ℕ → Fin 8 → Fin 128 → EReal)
    (hBr : ∀ (κ : Fin 8) t (ht : t < 64) (b : Fin 8) (l : Fin 128),
      arg11.view.read (Elt Ideal) G (ix3 ⟨κ.val, by omega⟩ ⟨8 * t + b, by omega⟩ l) = Br κ t b l)
    (hBi : ∀ (κ : Fin 8) t (ht : t < 64) (b : Fin 8) (l : Fin 128),
      arg11.view.read (Elt Ideal) G (ix3 ⟨8 + κ.val, by omega⟩ ⟨8 * t + b, by omega⟩ l) = Bi κ t b l) :
    ∀ n, n ≤ 64 → Inv ![v1093, v1097, v1101, v1105, v1109, v1113, v1117, v1121] ![v1125, v1129, v1133, v1137, v1141, v1145, v1149, (k0_pay442 v1151)] Cr Ci Br Bi n
      (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1093 v1097 v1101 v1105 v1109 v1113 v1117 v1121 v1125 v1129 v1133 v1137 v1141 v1145 v1149 v1151 G (toT Cr Ci) n)
  | 0, _ => Inv.zero
  | n + 1, hn => by
    have H := loop4 G Cr Ci Br Bi hBr hBi n (by omega)
    have E := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1093 v1097 v1101 v1105 v1109 v1113 v1117 v1121 v1125 v1129 v1133 v1137 v1141 v1145 v1149 v1151 G (toT Cr Ci) ⟨n, (show n < 64 by omega).trans_eq trips4.symm⟩
    rw [show n + 1 = (⟨n, (show n < 64 by omega).trans_eq trips4.symm⟩ : Fin k0_t4_loop.trips).val + 1 from rfl, E, H.carry, tripR4, tripL4]
    exact Inv.step arg11.view G (by omega) H (offr4 ⟨n, (show n < 64 by omega).trans_eq trips4.symm⟩) (offi4 ⟨n, (show n < 64 by omega).trans_eq trips4.symm⟩) (offr4_inb _) (offi4_inb _) (offr4_eq _) (offi4_eq _) hBr hBi _ _ (fun _ => rfl) (fun _ => rfl)

end

end Cert.S5

end
-- ==== Proof.SISpec.lean ====
/- What one point of the S5 body leaves, as a function of what it reads: the time-major input, the recurrence, the output and the new state,
   and how the stores of the body are read back into it. -/
module

public import proofs.«01_k».proof.Proof.SIPay
public import proofs.«01_k».proof.Proof.SILoops

@[expose] public section

set_option maxRecDepth 65536

noncomputable section

namespace Cert.S5

open Idealize.ShloMosaic Cert.Kernel2Ideal Cert.Kernel2Ideal.Gen

theorem rdw {sig : RefSig} {κ : Kind} {sp : Space} {S : Shape} {e : EltTy} {m : Memref sig κ sp S e} (h : m.IsWhole) (X : S.Idx → Elt Ideal e)
    {off : Fin S.rank → ℕ} (ho : off = fun _ => 0) (inb : ∀ a, off a + S.size a ≤ S.size a) :
    View.readAt (Elt Ideal) m.view (Rect.unit off S.size inb).toLoadRect (h.unread X) = X := by
  funext x
  rw [h.readAt_unread]
  exact congrFun (View.ld_unit_zero ho inb X) x

/-- The time-major rows of the normalised input, at the narrower format. -/
def hbF (h : FVec Ideal S512x1024 .f32) : FVec Ideal S512x1024 .bf16 := fun j => h (ix2 (hrow (j 0)) (j 1))

section

variable (a : FVec Ideal S4x2x1024 .f32) (hb : FVec Ideal S512x1024 .bf16) (W : FVec Ideal S4x256x2048 .bf16) (S0 : FVec Ideal S8x8192 .f32)

/-- The entry of column `n` of block `cb` and batch row `b` after `t` steps. -/
def ent (cb : Fin 4) (b : Fin 8) (n : Fin 1024) (t : ℕ) : EReal × EReal :=
  rec (a (ix3 cb 0 n)) (a (ix3 cb 1 n))
    (fun t => if h : t < 64 then buE hb W cb ⟨8 * t + b.val, by omega⟩ ⟨n.val, by omega⟩ else 0)
    (fun t => if h : t < 64 then buE hb W cb ⟨8 * t + b.val, by omega⟩ ⟨1024 + n.val, by omega⟩ else 0)
    (S0 (ix2 b ⟨2048 * cb.val + n.val, by omega⟩), S0 (ix2 b ⟨2048 * cb.val + 1024 + n.val, by omega⟩)) t

/-- The states, row by row: real parts first, then imaginary ones. -/
def SLE (cb : Fin 4) (r : Fin 512) (n : Fin 2048) : EReal :=
  if h : n.val < 1024 then (ent a hb W S0 cb ⟨r.val % 8, by omega⟩ ⟨n.val, h⟩ (r.val / 8 + 1)).1
  else (ent a hb W S0 cb ⟨r.val % 8, by omega⟩ ⟨n.val - 1024, by omega⟩ (r.val / 8 + 1)).2

/-- The state the point leaves. -/
def stE (b : Fin 8) (k : Fin 8192) : EReal :=
  if h : k.val % 2048 < 1024 then (ent a hb W S0 ⟨k.val / 2048, by omega⟩ b ⟨k.val % 2048, h⟩ 64).1
  else (ent a hb W S0 ⟨k.val / 2048, by omega⟩ b ⟨k.val % 2048 - 1024, by omega⟩ 64).2

def stG (y : S8x8192.Idx) : EReal := stE a hb W S0 (y 0) (y 1)

variable {a hb W S0}
variable {Ar Ai Cr Ci : Fin 8 → Tile} {cb : Fin 4}

abbrev brOf (hb : FVec Ideal S512x1024 .bf16) (W : FVec Ideal S4x256x2048 .bf16) (cb : Fin 4) (κ : Fin 8) (t : ℕ) (b : Fin 8) (l : Fin 128) : EReal :=
  if h : t < 64 then buE hb W cb ⟨8 * t + b.val, by omega⟩ ⟨128 * κ.val + l.val, by omega⟩ else 0
abbrev biOf (hb : FVec Ideal S512x1024 .bf16) (W : FVec Ideal S4x256x2048 .bf16) (cb : Fin 4) (κ : Fin 8) (t : ℕ) (b : Fin 8) (l : Fin 128) : EReal :=
  if h : t < 64 then buE hb W cb ⟨8 * t + b.val, by omega⟩ ⟨1024 + (128 * κ.val + l.val), by omega⟩ else 0

theorem br_eq (hb : FVec Ideal S512x1024 .bf16) (W : FVec Ideal S4x256x2048 .bf16) (cb : Fin 4) (κ : Fin 8) (t : ℕ) (ht : t < 64) (b : Fin 8) (l : Fin 128) :
    buG hb W cb (ix3 ⟨κ.val, by omega⟩ ⟨8 * t + b.val, by omega⟩ l) = brOf hb W cb κ t b l := by
  rw [brOf, dif_pos ht]
  rfl

theorem bi_eq (hb : FVec Ideal S512x1024 .bf16) (W : FVec Ideal S4x256x2048 .bf16) (cb : Fin 4) (κ : Fin 8) (t : ℕ) (ht : t < 64) (b : Fin 8) (l : Fin 128) :
    buG hb W cb (ix3 ⟨8 + κ.val, by omega⟩ ⟨8 * t + b.val, by omega⟩ l) = biOf hb W cb κ t b l := by
  rw [biOf, dif_pos ht]
  exact congrArg (buE hb W cb _) (Fin.ext (show 128 * (8 + κ.val) + l.val = 1024 + (128 * κ.val + l.val) by omega))

theorem seq_ent (hAr : ∀ (κ : Fin 8) (b : Fin 8) (l : Fin 128), Ar κ (ix2 b l) = a (ix3 cb 0 ⟨128 * κ.val + l.val, by omega⟩))
    (hAi : ∀ (κ : Fin 8) (b : Fin 8) (l : Fin 128), Ai κ (ix2 b l) = a (ix3 cb 1 ⟨128 * κ.val + l.val, by omega⟩))
    (hCr : ∀ (κ : Fin 8) (b : Fin 8) (l : Fin 128), Cr κ (ix2 b l) = S0 (ix2 b ⟨2048 * cb.val + (128 * κ.val + l.val), by omega⟩))
    (hCi : ∀ (κ : Fin 8) (b : Fin 8) (l : Fin 128), Ci κ (ix2 b l) = S0 (ix2 b ⟨2048 * cb.val + 1024 + (128 * κ.val + l.val), by omega⟩))
    (κ : Fin 8) (n : ℕ) (b : Fin 8) (l : Fin 128) :
    seqAt Ar Ai Cr Ci (brOf hb W cb) (biOf hb W cb) κ n b l = ent a hb W S0 cb b ⟨128 * κ.val + l.val, by omega⟩ n := by
  unfold seqAt ent
  rw [hAr, hAi, hCr, hCi]

theorem ix16_lt (κ : Fin 16) (l : Fin 128) : 128 * κ.val + l.val < 2048 := by omega

/-- The slabs after a loop hold the states. -/
theorem slabs_after {st : Tiles × List P16} (I : Inv Ar Ai Cr Ci (brOf hb W cb) (biOf hb W cb) 64 st)
    (hS : ∀ (κ : Fin 8) (n : ℕ) (b : Fin 8) (l : Fin 128),
      seqAt Ar Ai Cr Ci (brOf hb W cb) (biOf hb W cb) κ n b l = ent a hb W S0 cb b ⟨128 * κ.val + l.val, by omega⟩ n)
    (L : List P16) (κ : Fin 16) (r : Fin 512) (l : Fin 128) :
    View.canon (st.2 ++ L) (ix3 κ r l) = SLE a hb W S0 cb r ⟨128 * κ.val + l.val, ix16_lt κ l⟩ := by
  rw [View.canon_append_of_pieces _ L st.2 I.pieces (ix3 κ r l) (I.cover _ (show r.val < 512 from r.isLt))]
  unfold slab SLE
  by_cases h : κ.val < 8
  · have h1 : (⟨128 * κ.val + l.val, ix16_lt κ l⟩ : Fin 2048).val < 1024 := by show 128 * κ.val + l.val < 1024; omega
    rw [dif_pos h1]
    exact (dif_pos h).trans (congrArg Prod.fst (hS ⟨κ.val, h⟩ _ _ l))
  · have h1 : ¬ (⟨128 * κ.val + l.val, ix16_lt κ l⟩ : Fin 2048).val < 1024 := by show ¬ 128 * κ.val + l.val < 1024; omega
    rw [dif_neg h1]
    refine (dif_neg h).trans ((congrArg Prod.snd (hS ⟨κ.val - 8, by omega⟩ _ _ l)).trans ?_)
    exact congrArg (fun n => (ent a hb W S0 cb _ n (r.val / 8 + 1)).2) (Fin.ext (by show 128 * (κ.val - 8) + l.val = 128 * κ.val + l.val - 1024; omega))

/-- A slab read back. -/
theorem read_slab {sig : RefSig} {κ' : Kind} {sp : Space} (v : View sig κ' sp S16x512x128 .f32) (L : List P16) (κ : Fin 16)
    (inb : ∀ x : Fin 3, (![κ.val, 0, 0] : Fin 3 → ℕ) x + S1x512x128.size x ≤ S16x512x128.size x)
    {G : Fin 16 → Fin 512 → Fin 128 → EReal} (hL : ∀ κ r l, View.canon L (ix3 κ r l) = G κ r l) (r : Fin 512) (l : Fin 128) :
    shapeCast S512x128 (v.readCov L (Rect.unit (s := S16x512x128) ![κ.val, 0, 0] S1x512x128.size inb).toLoadRect) shapeCasts_S1x512x128_S512x128 (ix2 r l)
      = G κ r l := by
  rw [View.readCov_eq_canon']
  have E : ∀ w : S1x512x128.Idx → EReal, shapeCast S512x128 w shapeCasts_S1x512x128_S512x128 (ix2 r l) = w (ix3 0 r l) := fun w => by pointwise
  refine (E _).trans ?_
  rw [← hL]
  refine congrArg (View.canon L) (funext fun x => ?_)
  match x with
  | ⟨0, _⟩ => exact Fin.ext (show κ.val + 1 * 0 = κ.val by omega)
  | ⟨1, _⟩ => exact Fin.ext (show 0 + 1 * r.val = r.val by omega)
  | ⟨2, _⟩ => exact Fin.ext (show 0 + 1 * l.val = l.val by omega)

theorem tr_ent (hS : ∀ (κ : Fin 8) (n : ℕ) (b : Fin 8) (l : Fin 128),
      seqAt Ar Ai Cr Ci (brOf hb W cb) (biOf hb W cb) κ n b l = ent a hb W S0 cb b ⟨128 * κ.val + l.val, by omega⟩ n)
    (κ : Fin 8) (w : Tile) (hw : w = tr Ar Ai Cr Ci (brOf hb W cb) (biOf hb W cb) 64 κ) (c : ℕ) (hc : c = 2048 * cb.val + 128 * κ.val)
    (inb : ∀ x : Fin 2, (![0, c] : Fin 2 → ℕ) x + S8x128.size x ≤ S8x8192.size x) (x : S8x128.Idx) :
    shapeCast S8x128 w shapeCasts_S8x128_S8x128 x = stG a hb W S0 ((Rect.unit (s := S8x8192) ![0, c] S8x128.size inb).emb x) := by
  obtain ⟨b, l, rfl⟩ : ∃ (b : Fin 8) (l : Fin 128), x = ix2 b l := ⟨x 0, x 1, by pointwise⟩
  have E : shapeCast S8x128 w shapeCasts_S8x128_S8x128 (ix2 b l) = w (ix2 b l) := by pointwise
  have e : (Rect.unit (s := S8x8192) ![0, c] S8x128.size inb).emb (ix2 b l : S8x128.Idx) = (ix2 b ⟨c + l.val, by omega⟩ : S8x8192.Idx) := by
    funext x
    match x with
    | ⟨0, _⟩ => exact Fin.ext (show 0 + 1 * b.val = b.val by omega)
    | ⟨1, _⟩ => exact Fin.ext (show c + 1 * l.val = c + l.val by omega)
  rw [E, e, hw]
  refine (congrArg Prod.fst (hS κ 64 b l)).trans ?_
  show _ = stE a hb W S0 b ⟨c + l.val, _⟩
  unfold stE
  have h1 : (c + l.val) % 2048 < 1024 := by omega
  rw [dif_pos h1]
  have e1 : (⟨(c + l.val) / 2048, by omega⟩ : Fin 4) = cb := Fin.ext (by show (c + l.val) / 2048 = cb.val; omega)
  have e2 : (⟨(c + l.val) % 2048, h1⟩ : Fin 1024) = ⟨128 * κ.val + l.val, by omega⟩ := Fin.ext (by show (c + l.val) % 2048 = 128 * κ.val + l.val; omega)
  show _ = (ent a hb W S0 ⟨(c + l.val) / 2048, _⟩ b ⟨(c + l.val) % 2048, _⟩ 64).1
  rw [e1, e2]

theorem ti_ent (hS : ∀ (κ : Fin 8) (n : ℕ) (b : Fin 8) (l : Fin 128),
      seqAt Ar Ai Cr Ci (brOf hb W cb) (biOf hb W cb) κ n b l = ent a hb W S0 cb b ⟨128 * κ.val + l.val, by omega⟩ n)
    (κ : Fin 8) (w : Tile) (hw : w = ti Ar Ai Cr Ci (brOf hb W cb) (biOf hb W cb) 64 κ) (c : ℕ) (hc : c = 2048 * cb.val + 1024 + 128 * κ.val)
    (inb : ∀ x : Fin 2, (![0, c] : Fin 2 → ℕ) x + S8x128.size x ≤ S8x8192.size x) (x : S8x128.Idx) :
    shapeCast S8x128 w shapeCasts_S8x128_S8x128 x = stG a hb W S0 ((Rect.unit (s := S8x8192) ![0, c] S8x128.size inb).emb x) := by
  obtain ⟨b, l, rfl⟩ : ∃ (b : Fin 8) (l : Fin 128), x = ix2 b l := ⟨x 0, x 1, by pointwise⟩
  have E : shapeCast S8x128 w shapeCasts_S8x128_S8x128 (ix2 b l) = w (ix2 b l) := by pointwise
  have e : (Rect.unit (s := S8x8192) ![0, c] S8x128.size inb).emb (ix2 b l : S8x128.Idx) = (ix2 b ⟨c + l.val, by omega⟩ : S8x8192.Idx) := by
    funext x
    match x with
    | ⟨0, _⟩ => exact Fin.ext (show 0 + 1 * b.val = b.val by omega)
    | ⟨1, _⟩ => exact Fin.ext (show c + 1 * l.val = c + l.val by omega)
  rw [E, e, hw]
  refine (congrArg Prod.snd (hS κ 64 b l)).trans ?_
  show _ = stE a hb W S0 b ⟨c + l.val, _⟩
  unfold stE
  have h1 : ¬ (c + l.val) % 2048 < 1024 := by omega
  rw [dif_neg h1]
  have e1 : (⟨(c + l.val) / 2048, by omega⟩ : Fin 4) = cb := Fin.ext (by show (c + l.val) / 2048 = cb.val; omega)
  have e2 : (⟨(c + l.val) % 2048 - 1024, by omega⟩ : Fin 1024) = ⟨128 * κ.val + l.val, by omega⟩ :=
    Fin.ext (by show (c + l.val) % 2048 - 1024 = 128 * κ.val + l.val; omega)
  show _ = (ent a hb W S0 ⟨(c + l.val) / 2048, _⟩ b ⟨(c + l.val) % 2048 - 1024, _⟩ 64).2
  rw [e1, e2]

end

/-! ## Reading the stores -/

/-- The pieces of a list whose first `n` rectangles are given by number, and which hold a function's values, read it. -/
theorem canon_take {S : Shape} (G : S.Idx → EReal) (n : ℕ) (L : List (View.Piece (Elt Ideal) S .f32)) (R : Fin n → Rect S)
    (hR : (L.take n).map (·.1) = List.ofFn R) (h : View.PiecesOf (Val := Elt Ideal) (e := .f32) G (L.take n)) (y : S.Idx) (i : Fin n) (hy : y ∈ (R i).set) :
    View.canon L y = G y := by
  have hm : R i ∈ (L.take n).map (·.1) := by rw [hR]; exact List.mem_ofFn.mpr ⟨i, rfl⟩
  obtain ⟨p, hp, hpi⟩ := List.mem_map.mp hm
  conv_lhs => rw [← List.take_append_drop n L]
  exact View.canon_append_of_piecesOf G _ _ h y ⟨p, hp, by rw [hpi]; exact hy⟩

/-- Pieces that do not hold an index are passed over. -/
theorem canon_skip {S : Shape} (y : S.Idx) : ∀ (n : ℕ) (L : List (View.Piece (Elt Ideal) S .f32)) (_ : ∀ p ∈ L.take n, y ∉ p.1.set),
    View.canon L y = View.canon (L.drop n) y
  | 0, L, _ => by rw [List.drop_zero]
  | n + 1, [], _ => rfl
  | n + 1, p :: L, h => by
    rw [View.canon_cons_of_not_mem p L (h p (by simp))]
    exact canon_skip y n L fun q hq => h q (by simp [hq])

theorem canon_drop {S : Shape} (n : ℕ) (L : List (View.Piece (Elt Ideal) S .f32)) (R : Fin n → Rect S)
    (hR : (L.take n).map (·.1) = List.ofFn R) (y : S.Idx) (hy : ∀ i, y ∉ (R i).set) : View.canon L y = View.canon (L.drop n) y :=
  canon_skip y n L fun p hp hyp => by
    have hm : p.1 ∈ List.ofFn R := by rw [← hR]; exact List.mem_map.mpr ⟨p, hp, rfl⟩
    obtain ⟨i, hi⟩ := List.mem_ofFn.mp hm
    exact hy i (by rw [hi]; exact hyp)

theorem Fin.lt8 (κ : Fin 8) : κ.val < 8 := κ.isLt

def R8 (m : ℕ) (hm : m < 8) : Rect S8x512x128 := Rect.unit (s := S8x512x128) ![m, 0, 0] S1x512x128.size (fun x => by
  match x with
  | ⟨0, _⟩ => show m + 1 ≤ 8; omega
  | ⟨1, _⟩ => show 0 + 512 ≤ 512; omega
  | ⟨2, _⟩ => show 0 + 128 ≤ 128; omega)
def R16 (m : ℕ) (hm : m < 16) : Rect S16x512x128 := Rect.unit (s := S16x512x128) ![m, 0, 0] S1x512x128.size (fun x => by
  match x with
  | ⟨0, _⟩ => show m + 1 ≤ 16; omega
  | ⟨1, _⟩ => show 0 + 512 ≤ 512; omega
  | ⟨2, _⟩ => show 0 + 128 ≤ 128; omega)
def RS (m : ℕ) (hm : m < 64) : Rect S8x8192 := Rect.unit (s := S8x8192) ![0, 128 * m] S8x128.size (fun x => by
  match x with
  | ⟨0, _⟩ => show 0 + 8 ≤ 8; omega
  | ⟨1, _⟩ => show 128 * m + 128 ≤ 8192; omega)

theorem mem_R8 (y : S8x512x128.Idx) : y ∈ (R8 (y 0).val (y 0).isLt).set := by
  unfold R8
  rw [Rect.mem_set_unit]
  have h1 : (y 1).val < 512 := (y 1).isLt
  have h2 : (y 2).val < 128 := (y 2).isLt
  intro x
  match x with
  | ⟨0, _⟩ => show (y 0).val ≤ (y 0).val ∧ (y 0).val < (y 0).val + 1; omega
  | ⟨1, _⟩ => show 0 ≤ (y 1).val ∧ (y 1).val < 0 + 512; omega
  | ⟨2, _⟩ => show 0 ≤ (y 2).val ∧ (y 2).val < 0 + 128; omega
theorem mem_R16 (y : S16x512x128.Idx) : y ∈ (R16 (y 0).val (y 0).isLt).set := by
  unfold R16
  rw [Rect.mem_set_unit]
  have h1 : (y 1).val < 512 := (y 1).isLt
  have h2 : (y 2).val < 128 := (y 2).isLt
  intro x
  match x with
  | ⟨0, _⟩ => show (y 0).val ≤ (y 0).val ∧ (y 0).val < (y 0).val + 1; omega
  | ⟨1, _⟩ => show 0 ≤ (y 1).val ∧ (y 1).val < 0 + 512; omega
  | ⟨2, _⟩ => show 0 ≤ (y 2).val ∧ (y 2).val < 0 + 128; omega
theorem mem_RS (y : S8x8192.Idx) (m : ℕ) (hm : m < 64) : y ∈ (RS m hm).set ↔ (y 1).val / 128 = m := by
  unfold RS
  rw [Rect.mem_set_unit]
  have h0 : (y 0).val < 8 := (y 0).isLt
  constructor
  · intro H
    have a1 : 128 * m ≤ (y 1).val ∧ (y 1).val < 128 * m + 128 := H 1
    omega
  · intro H x
    match x with
    | ⟨0, _⟩ => show 0 ≤ (y 0).val ∧ (y 0).val < 0 + 8; omega
    | ⟨1, _⟩ => show 128 * m ≤ (y 1).val ∧ (y 1).val < 128 * m + 128; omega
theorem mem_sR (y : S8x512x128.Idx) : y ∈ (sR (y 0).val ((y 1).val % 8) (y 0).isLt (by omega)).set := by
  have h1 : (y 1).val < 512 := (y 1).isLt
  have e := sR_emb (y 0).val ((y 1).val % 8) (y 0).isLt (by omega) ⟨(y 1).val / 8, by omega⟩ (y 2)
  have e2 : y = (ix3 ⟨(y 0).val, (y 0).isLt⟩ ⟨8 * ((y 1).val / 8) + (y 1).val % 8, by omega⟩ (y 2) : S8x512x128.Idx) := by
    funext x
    match x with
    | ⟨0, _⟩ => rfl
    | ⟨1, _⟩ => exact Fin.ext (show (y 1).val = 8 * ((y 1).val / 8) + (y 1).val % 8 by omega)
    | ⟨2, _⟩ => rfl
  have : y = (sR (y 0).val ((y 1).val % 8) (y 0).isLt (by omega)).emb (ix3 0 ⟨(y 1).val / 8, by omega⟩ (y 2) : S1x64x128.Idx) := e2.trans e.symm
  have key : ∀ (κ b : ℕ) (hκ : κ < 8) (hb : b < 8) (x : S1x64x128.Idx), (sR κ b hκ hb).emb x ∈ (sR κ b hκ hb).set := fun κ b hκ hb x => LoadRect.idx_mem (sR κ b hκ hb).toLoadRect x
  exact Eq.mpr (congrArg (· ∈ (sR (y 0).val ((y 1).val % 8) (y 0).isLt (by omega)).set) this) (key _ _ _ _ _)

/-- The sixty-four strided stores of the normalised input. -/
theorem canon_h (h : FVec Ideal S512x1024 .f32) (L : List (View.Piece (Elt Ideal) S8x512x128 .f32))
    (hR : (L.take 64).map (·.1) = List.ofFn fun i : Fin 64 => sR ((63 - i.val) % 8) ((63 - i.val) / 8) (by omega) (by omega))
    (hP : View.PiecesOf (Val := Elt Ideal) (e := .f32) (hG h) (L.take 64)) (y : S8x512x128.Idx) : View.canon L y = hG h y := by
  have h0 : (y 0).val < 8 := (y 0).isLt
  refine canon_take (hG h) 64 L _ hR hP y ⟨63 - ((y 1).val % 8 * 8 + (y 0).val), by omega⟩ ?_
  have e1 : (63 - (63 - ((y 1).val % 8 * 8 + (y 0).val))) % 8 = (y 0).val := by omega
  have e2 : (63 - (63 - ((y 1).val % 8 * 8 + (y 0).val))) / 8 = (y 1).val % 8 := by omega
  have := mem_sR y
  simp only [e1, e2]
  exact this

theorem canon_16 (G : S16x512x128.Idx → EReal) (L : List P16) (hR : (L.take 16).map (·.1) = List.ofFn fun i : Fin 16 => R16 (15 - i.val) (by omega))
    (hP : View.PiecesOf (Val := Elt Ideal) (e := .f32) G (L.take 16)) (y : S16x512x128.Idx) : View.canon L y = G y := by
  have h0 : (y 0).val < 16 := (y 0).isLt
  refine canon_take G 16 L _ hR hP y ⟨15 - (y 0).val, by omega⟩ ?_
  have e1 : 15 - (15 - (y 0).val) = (y 0).val := by omega
  simp only [e1]
  exact mem_R16 y

theorem canon_8 (G : S8x512x128.Idx → EReal) (L : List (View.Piece (Elt Ideal) S8x512x128 .f32)) (hR : (L.take 8).map (·.1) = List.ofFn fun i : Fin 8 => R8 (7 - i.val) (by omega))
    (hP : View.PiecesOf (Val := Elt Ideal) (e := .f32) G (L.take 8)) (y : S8x512x128.Idx) : View.canon L y = G y := by
  have h0 : (y 0).val < 8 := (y 0).isLt
  refine canon_take G 8 L _ hR hP y ⟨7 - (y 0).val, by omega⟩ ?_
  have e1 : 7 - (7 - (y 0).val) = (y 0).val := by omega
  simp only [e1]
  exact mem_R8 y

theorem canon_st (G : S8x8192.Idx → EReal) (L : List (View.Piece (Elt Ideal) S8x8192 .f32)) (hR : (L.take 64).map (·.1) = List.ofFn fun i : Fin 64 => RS (63 - i.val) (by omega))
    (hP : View.PiecesOf (Val := Elt Ideal) (e := .f32) G (L.take 64)) : View.canon L = G := by
  funext y
  have h0 : (y 1).val < 8192 := (y 1).isLt
  refine canon_take G 64 L _ hR hP y ⟨63 - (y 1).val / 128, by omega⟩ ?_
  rw [mem_RS]
  show (y 1).val / 128 = 63 - (63 - (y 1).val / 128)
  omega

/-- The state before any store of a later column. -/
theorem canon_st0 (n : ℕ) (hn : n ≤ 64) (L : List (View.Piece (Elt Ideal) S8x8192 .f32)) (hR : (L.take n).map (·.1) = List.ofFn fun i : Fin n => RS (n - 1 - i.val) (by omega))
    (X : S8x8192.Idx → EReal) (inb : ∀ x, (![0, 0] : Fin 2 → ℕ) x + S8x8192.size x ≤ S8x8192.size x)
    (hX : L.drop n = [⟨Rect.unit (s := S8x8192) ![0, 0] S8x8192.size inb, X⟩]) (y : S8x8192.Idx) (hy : 128 * n ≤ (y 1).val) : View.canon L y = X y := by
  rw [canon_drop n L _ hR y (fun i hi => by rw [mem_RS] at hi; omega), hX]
  have h0 : (![0, 0] : Fin S8x8192.rank → ℕ) = fun _ => 0 := funext fun x => match x with
    | ⟨0, _⟩ => rfl
    | ⟨1, _⟩ => rfl
  have K := View.canon_unit_zero (Val := Elt Ideal) (S := S8x8192) (e := .f32) h0 inb X
  exact congrFun K y

theorem read_tile8 {sig : RefSig} {κ' : Kind} {sp : Space} (v : View sig κ' sp S8x8192 .f32) (L : List (View.Piece (Elt Ideal) S8x8192 .f32)) (X : S8x8192.Idx → EReal) (c : ℕ) (hc : c + 128 ≤ 8192)
    (inb : ∀ x : Fin 2, (![0, c] : Fin 2 → ℕ) x + S8x128.size x ≤ S8x8192.size x) (hL : ∀ y : S8x8192.Idx, c ≤ (y 1).val → View.canon L y = X y)
    (b : Fin 8) (l : Fin 128) :
    v.readCov L (Rect.unit (s := S8x8192) ![0, c] S8x128.size inb).toLoadRect (ix2 b l) = X (ix2 b ⟨c + l.val, by omega⟩) := by
  rw [View.readCov_eq_canon']
  have e : (Rect.unit (s := S8x8192) ![0, c] S8x128.size inb).idx (ix2 b l : S8x128.Idx) = (ix2 b ⟨c + l.val, by omega⟩ : S8x8192.Idx) := by
    funext x
    match x with
    | ⟨0, _⟩ => exact Fin.ext (show 0 + 1 * b.val = b.val by omega)
    | ⟨1, _⟩ => exact Fin.ext (show c + 1 * l.val = c + l.val by omega)
  exact (congrArg (View.canon L) e).trans (hL (ix2 b ⟨c + l.val, by omega⟩) (Nat.le_add_right c l.val))

theorem load_tile8 {sig : RefSig} {κ' : Kind} {sp : Space} {m : Memref sig κ' sp S8x8192 .f32} (h : m.IsWhole) (X : S8x8192.Idx → EReal) (c : ℕ) (hc : c + 128 ≤ 8192)
    (inb : ∀ x : Fin 2, (![0, c] : Fin 2 → ℕ) x + S8x128.size x ≤ S8x8192.size x) (b : Fin 8) (l : Fin 128) :
    View.readAt (Elt Ideal) m.view (Rect.unit (s := S8x8192) ![0, c] S8x128.size inb).toLoadRect (h.unread (Val := Elt Ideal) X) (ix2 b l) = X (ix2 b ⟨c + l.val, by omega⟩) := by
  rw [h.readAt_unread]
  refine congrArg X (funext fun x => ?_)
  match x with
  | ⟨0, _⟩ => exact Fin.ext (show 0 + 1 * b.val = b.val by omega)
  | ⟨1, _⟩ => exact Fin.ext (show c + 1 * l.val = c + l.val by omega)

/-- A row of the decay table, broadcast over the batch. -/
theorem a_tile {sig : RefSig} {κ' : Kind} {sp : Space} {m : Memref sig κ' sp S4x2x1024 .f32} (h : m.IsWhole) (X : FVec Ideal S4x2x1024 .f32) (cb : Fin 4) (q : Fin 2) (k : ℕ) (hk : k < 8)
    (inb : ∀ x : Fin 3, (![cb.val, q.val, 128 * k] : Fin 3 → ℕ) x + S1x1x128.size x ≤ S4x2x1024.size x) (b : Fin 8) (l : Fin 128) :
    broadcastTo S8x128 (shapeCast S1x128 (shapeCast S1x128
        (View.readAt (Elt Ideal) m.view (Rect.unit (s := S4x2x1024) ![cb.val, q.val, 128 * k] S1x1x128.size inb).toLoadRect (h.unread (Val := Elt Ideal) X))
        shapeCasts_S1x1x128_S1x128) shapeCasts_S1x128_S1x128) broadcasts_S1x128_S8x128 (ix2 b l) = X (ix3 cb q ⟨128 * k + l.val, by omega⟩) := by
  have E : ∀ w : S1x1x128.Idx → EReal, broadcastTo S8x128 (shapeCast S1x128 (shapeCast S1x128 w shapeCasts_S1x1x128_S1x128) shapeCasts_S1x128_S1x128)
      broadcasts_S1x128_S8x128 (ix2 b l) = w (ix3 0 0 l) := fun w => by pointwise
  refine (E _).trans ?_
  rw [h.readAt_unread]
  refine congrArg X (funext fun x => ?_)
  match x with
  | ⟨0, _⟩ => exact Fin.ext (show cb.val + 1 * 0 = cb.val by omega)
  | ⟨1, _⟩ => exact Fin.ext (show q.val + 1 * 0 = q.val by omega)
  | ⟨2, _⟩ => exact Fin.ext (show 128 * k + 1 * l.val = 128 * k + l.val by omega)

theorem load_W {sig : RefSig} {κ' : Kind} {sp : Space} {m : Memref sig κ' sp S4x256x2048 .bf16} (h : m.IsWhole) (X : FVec Ideal S4x256x2048 .bf16) (cb : Fin 4)
    (inb : ∀ x : Fin 3, (![cb.val, 0, 0] : Fin 3 → ℕ) x + S1x256x2048.size x ≤ S4x256x2048.size x) (k : Fin 256) (n : Fin 2048) :
    View.readAt (Elt Ideal) m.view (Rect.unit (s := S4x256x2048) ![cb.val, 0, 0] S1x256x2048.size inb).toLoadRect (h.unread (Val := Elt Ideal) X) (ix3 0 k n) = X (ix3 cb k n) := by
  rw [h.readAt_unread]
  refine congrArg X (funext fun x => ?_)
  match x with
  | ⟨0, _⟩ => exact Fin.ext (show cb.val + 1 * 0 = cb.val by omega)
  | ⟨1, _⟩ => exact Fin.ext (show 0 + 1 * k.val = k.val by omega)
  | ⟨2, _⟩ => exact Fin.ext (show 0 + 1 * n.val = n.val by omega)

theorem load_C {sig : RefSig} {κ' : Kind} {sp : Space} {m : Memref sig κ' sp S4x2048x256 .bf16} (h : m.IsWhole) (X : FVec Ideal S4x2048x256 .bf16) (cb : Fin 4)
    (inb : ∀ x : Fin 3, (![cb.val, 0, 0] : Fin 3 → ℕ) x + S1x2048x256.size x ≤ S4x2048x256.size x) (k : Fin 2048) (n : Fin 256) :
    View.readAt (Elt Ideal) m.view (Rect.unit (s := S4x2048x256) ![cb.val, 0, 0] S1x2048x256.size inb).toLoadRect (h.unread (Val := Elt Ideal) X) (ix3 0 k n) = X (ix3 cb k n) := by
  rw [h.readAt_unread]
  refine congrArg X (funext fun x => ?_)
  match x with
  | ⟨0, _⟩ => exact Fin.ext (show cb.val + 1 * 0 = cb.val by omega)
  | ⟨1, _⟩ => exact Fin.ext (show 0 + 1 * k.val = k.val by omega)
  | ⟨2, _⟩ => exact Fin.ext (show 0 + 1 * n.val = n.val by omega)

theorem read_h {sig : RefSig} {κ' : Kind} {sp : Space} (v : View sig κ' sp S8x512x128 .f32) (L : List (View.Piece (Elt Ideal) S8x512x128 .f32)) (κ : Fin 8)
    (inb : ∀ x : Fin 3, (![κ.val, 0, 0] : Fin 3 → ℕ) x + S1x512x128.size x ≤ S8x512x128.size x)
    {G : S8x512x128.Idx → EReal} (hL : ∀ y, View.canon L y = G y) (r : Fin 512) (l : Fin 128) :
    v.readCov L (Rect.unit (s := S8x512x128) ![κ.val, 0, 0] S1x512x128.size inb).toLoadRect (ix3 0 r l) = G (ix3 κ r l) := by
  rw [View.readCov_eq_canon']
  refine (hL _).trans (congrArg G (funext fun x => ?_))
  match x with
  | ⟨0, _⟩ => exact Fin.ext (show κ.val + 1 * 0 = κ.val by omega)
  | ⟨1, _⟩ => exact Fin.ext (show 0 + 1 * r.val = r.val by omega)
  | ⟨2, _⟩ => exact Fin.ext (show 0 + 1 * l.val = l.val by omega)

/-- The rows of y, put back in batch-major order. -/
def Ymat {sig : RefSig} {κ' : Kind} {sp : Space} (v : View sig κ' sp S8x512x128 .f32) (L : List (View.Piece (Elt Ideal) S8x512x128 .f32)) : FVec Ideal S512x1024 .f32 :=
  ySl fun k => rSl fun b => shapeCast S64x128 (v.readCov L (sR k.val b.val k.isLt b.isLt).toLoadRect) shapeCasts_S1x64x128_S64x128

theorem Ymat_apply {sig : RefSig} {κ' : Kind} {sp : Space} (v : View sig κ' sp S8x512x128 .f32) (L : List (View.Piece (Elt Ideal) S8x512x128 .f32))
    (SL : Fin 4 → Fin 512 → Fin 2048 → EReal) (C : FVec Ideal S4x2048x256 .bf16) (hL : ∀ y, View.canon L y = yG SL C y) (b : Fin 8) (t : Fin 64) (e : Fin 1024) :
    Ymat v L (ix2 ⟨64 * b.val + t.val, by omega⟩ e) = yE SL C ⟨8 * t.val + b.val, by omega⟩ e := by
  have E : e = ⟨128 * (e.val / 128) + e.val % 128, by omega⟩ := Fin.ext (by show _ = 128 * (e.val / 128) + e.val % 128; omega)
  conv_lhs => rw [E]
  refine (ySl_apply _ ⟨e.val / 128, by omega⟩ _ ⟨e.val % 128, by omega⟩).trans ((rSl_apply _ b t _).trans ?_)
  have K3 : ∀ w : S1x64x128.Idx → EReal, ∀ l : Fin 128, shapeCast S64x128 w shapeCasts_S1x64x128_S64x128 (ix2 t l) = w (ix3 0 t l) := fun w l => by pointwise
  refine (K3 _ _).trans ?_
  rw [View.readCov_eq_canon']
  refine (hL _).trans ?_
  refine (congrArg (yG SL C) (sR_emb (e.val / 128) b.val (by omega) b.isLt t ⟨e.val % 128, by omega⟩)).trans ?_
  exact congrArg (yE SL C _) E.symm

end Cert.S5
-- ==== Proof.SIPoints.lean ====
/- The grid points of the S5 call. -/
module

public import proofs.«01_k».proof.Proof.Gen.Kernel2Ideal
public import Idealize.ShloMosaic.Lib.Pipeline.Kit

@[expose] public section

noncomputable section

namespace Cert.Kernel2Ideal.Gen

open Idealize.ShloMosaic Idealize.ShloMosaic.TcCoe
open Idealize.SL Idealize.SL.Sem

variable {F : FTy → Type} [FloatOps F]
/-! ## custom_call 0 -/

/-- Window 0 (operand 0 (%arg0)) is fetched at every point. -/
theorem fetch0_0 : ∀ t : Fin cfg0.N, (cfg0.win 0).fetch t = true :=
  (fun t => (Pipeline.Window.fetch_reads win0_0 rfl 0 (by decide) (by decide) (Pipeline.Window.sep_of_coord cc0_transform_0 0 1 (fun _ => rfl) (by decide)) (P := 1) (by decide) t).mpr (Nat.mod_one _) : ∀ t : Fin grid0.N, win0_0.fetch t = true)
/-- Window 1 (operand 1 (%54)) is fetched at the first point only. -/
theorem fetch0_1 : ∀ t : Fin cfg0.N, (cfg0.win 1).fetch t = true ↔ t.val % 32 = 0 :=
  (fun t => Pipeline.Window.fetch_const win0_1 rfl (fun _ _ => rfl) (n := 32) (by decide) t : ∀ t : Fin grid0.N, win0_1.fetch t = true ↔ t.val % 32 = 0)
/-- Window 2 (operand 2 (%55)) is fetched at the first point only. -/
theorem fetch0_2 : ∀ t : Fin cfg0.N, (cfg0.win 2).fetch t = true ↔ t.val % 32 = 0 :=
  (fun t => Pipeline.Window.fetch_const win0_2 rfl (fun _ _ => rfl) (n := 32) (by decide) t : ∀ t : Fin grid0.N, win0_2.fetch t = true ↔ t.val % 32 = 0)
/-- Window 3 (operand 3 (%47)) is fetched at the first point only. -/
theorem fetch0_3 : ∀ t : Fin cfg0.N, (cfg0.win 3).fetch t = true ↔ t.val % 32 = 0 :=
  (fun t => Pipeline.Window.fetch_const win0_3 rfl (fun _ _ => rfl) (n := 32) (by decide) t : ∀ t : Fin grid0.N, win0_3.fetch t = true ↔ t.val % 32 = 0)
/-- Window 4 (operand 4 (%23)) is fetched at the first point only. -/
theorem fetch0_4 : ∀ t : Fin cfg0.N, (cfg0.win 4).fetch t = true ↔ t.val % 32 = 0 :=
  (fun t => Pipeline.Window.fetch_const win0_4 rfl (fun _ _ => rfl) (n := 32) (by decide) t : ∀ t : Fin grid0.N, win0_4.fetch t = true ↔ t.val % 32 = 0)
/-- Window 5 (operand 5 (%42)) is fetched at the first point only. -/
theorem fetch0_5 : ∀ t : Fin cfg0.N, (cfg0.win 5).fetch t = true ↔ t.val % 32 = 0 :=
  (fun t => Pipeline.Window.fetch_const win0_5 rfl (fun _ _ => rfl) (n := 32) (by decide) t : ∀ t : Fin grid0.N, win0_5.fetch t = true ↔ t.val % 32 = 0)
/-- Window 6 (operand 6 (%56)) is fetched at the first point only. -/
theorem fetch0_6 : ∀ t : Fin cfg0.N, (cfg0.win 6).fetch t = true ↔ t.val % 32 = 0 :=
  (fun t => Pipeline.Window.fetch_const win0_6 rfl (fun _ _ => rfl) (n := 32) (by decide) t : ∀ t : Fin grid0.N, win0_6.fetch t = true ↔ t.val % 32 = 0)
/-- Window 7 (operand 7 (%48)) is fetched at the first point only. -/
theorem fetch0_7 : ∀ t : Fin cfg0.N, (cfg0.win 7).fetch t = true ↔ t.val % 32 = 0 :=
  (fun t => Pipeline.Window.fetch_const win0_7 rfl (fun _ _ => rfl) (n := 32) (by decide) t : ∀ t : Fin grid0.N, win0_7.fetch t = true ↔ t.val % 32 = 0)
/-- Window 8 (result 0 (%57#0)) is written back at every point. -/
theorem flush0_8 : ∀ t : Fin cfg0.N, (cfg0.win 8).flush t = true :=
  (fun t => (Pipeline.Window.flush_reads win0_8 rfl 0 (by decide) (by decide) (Pipeline.Window.sep_of_coord cc0_transform_8 0 1 (fun _ => rfl) (by decide)) (P := 1) (m := 0) (by decide) rfl t).mpr (Nat.mod_one _) : ∀ t : Fin grid0.N, win0_8.flush t = true)
/-- Window 9 (result 1 (%57#1)) is written back at the last point only. -/
theorem flush0_9 : ∀ t : Fin cfg0.N, (cfg0.win 9).flush t = true ↔ t.val % 32 = 31 :=
  (fun t => Pipeline.Window.flush_const win0_9 rfl (fun _ _ => rfl) (n := 32) (by decide) rfl t : ∀ t : Fin grid0.N, win0_9.flush t = true ↔ t.val % 32 = 31)

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)

/-- The kernel body at point `t`, on what the pipeline calls it with (`defs₀`'s row at the slots). -/
abbrev bodyAt0 (t : Fin cfg0.N) : Prog (TpuEff nD τ sig (Elt F) Λ₀ .tc) PUnit :=
  cc0_s5_layer (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel2Ideal.Gen

end
-- ==== Proof.SIRuns.lean ====
/- Launch set-up of the S5 call: the host part before it, the blocks, the scratch buffers. -/
module

public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.SIPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- One staging buffer of output window 8, through which its contents are stated (`View.read_writes_of_cover`: the
    choice does not matter). -/
abbrev VO0_8 : View sig .tc .vmem S8x64x1024 .f32 := (Memref.whole cc0_stg8_0 : Memref sig .tc .vmem S8x64x1024 .f32).view
/-- One staging buffer of output window 9, through which its contents are stated (`View.read_writes_of_cover`: the
    choice does not matter). -/
abbrev VO0_9 : View sig .tc .vmem S8x8192 .f32 := (Memref.whole cc0_stg9_0 : Memref sig .tc .vmem S8x8192 .f32).view
/-- Each window's current staging memref at point `t`, spelled as the pipeline passes it (`bodyAt0`), and its wholeness. -/
abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x8192 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S16x512x128 .f32 := Memref.whole cc0_scratch0
abbrev scM0_1 : Memref sig .tc .vmem S8x8192 .f32 := Memref.whole cc0_scratch1
abbrev scM0_2 : Memref sig .tc .vmem S8x512x128 .f32 := Memref.whole cc0_scratch2
abbrev scM0_3 : Memref sig .tc .vmem S8x512x128 .f32 := Memref.whole cc0_scratch3
/-- The scratch `arg12` the kernel carries between points, as a view: what it holds is stated through it. -/
abbrev VS0_1 : View sig .tc .vmem S8x8192 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel2Ideal.Gen

end
-- ==== Proof.SIRunA.lean ====
/- The body of the S5 call at the first point. -/
module

public import proofs.«01_k».proof.Proof.SIRuns

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4328000 in set_option sl_exec.stridedRows true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) :
    Σ' (L8 : List (View.Piece (Elt F) S8x64x1024 .f32)), Σ' (L9 : List (View.Piece (Elt F) S8x8192 .f32)), Σ' (LS1 : List (View.Piece (Elt F) S8x8192 .f32)), { LT3 : List (View.Piece (Elt F) S8x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ f, arg12.view.loc (c : Thread nD τ) ↦[arg12.view.set]{fullShare} arg12.view.writes (Elt F) f LS1) ∗ (∃ d, owns (c : Thread nD τ) arg13 fullShare d) ∗ (∃ f, arg14.view.loc (c : Thread nD τ) ↦[arg14.view.set]{fullShare} arg14.view.writes (Elt F) f LT3)) -∗ K ⟨⟩))
          ⊢ wp frame (wpE (defs₀ (F := F)) Variants.none c none) E (cc0_s5_layer i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_s5_layer_eq_skeleton]; unfold cc0_s5_layer_skel
    simp only [k0_part66_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]
    · iexists _, _; isplitr; swap; · iexact HS0
      ipureintro; rfl
    isplitl [HS1]; · iexists _; iexact HS1
    isplitl [HS2]
    · iexists _, _; isplitr; swap; · iexact HS2
      ipureintro; rfl
    iexists _; iexact HS3

end Cert.Kernel2Ideal.Gen

end
-- ==== Proof.SIStA.lean ====
/- The S5 body at the first point, stage by stage: what its stores hold. -/
module

public import proofs.«01_k».proof.Proof.SISpec
public import proofs.«01_k».proof.Proof.SIRunA

@[expose] public section

set_option maxRecDepth 65536
set_option maxHeartbeats 1600000

noncomputable section

namespace Cert.S5.PA

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16)

theorem r1 : (kernelRun0_A.sl.r_1 (F := Ideal) c arg1 harg1 arg3 harg3 x0 x2) = (k0_pay128 (F := Ideal) x0 x2) := by
  exact congrArg₂ (k0_pay128 (F := Ideal)) (rdw harg1 x0 (by decide) _) (rdw harg3 x2 (by decide) _)

theorem hst (y : S8x512x128.Idx) : View.canon (kernelRun0_A.sl.HS2_64 (F := Ideal) c arg1 harg1 arg3 harg3 x0 x2) y = hG (k0_pay128 (F := Ideal) x0 x2) y := by
  have K := canon_h (kernelRun0_A.sl.r_1 (F := Ideal) c arg1 harg1 arg3 harg3 x0 x2) (kernelRun0_A.sl.HS2_64 (F := Ideal) c arg1 harg1 arg3 harg3 x0 x2) rfl (And.intro (fun x => hpiece 7 7 (by decide) (by decide) (kernelRun0_A.sl.r_1 (F := Ideal) c arg1 harg1 arg3 harg3 x0 x2) (by decide) x) (And.intro (fun x => hpiece 6 7 (by decide) (by decide) (kernelRun0_A.sl.r_1 (F := Ideal) c arg1 harg1 arg3 harg3 x0 x2) (by decide) x) (And.intro (fun x => hpiece 5 7 (by decide) (by decide) (kernelRun0_A.sl.r_1 (F := Ideal) c arg1 harg1 arg3 harg3 x0 x2) (by decide) x) (And.intro (fun x => hpiece 4 7 (by decide) (by decide) (kernelRun0_A.sl.r_1 (F := Ideal) c arg1 harg1 arg3 harg3 x0 x2) (by decide) x) (And.intro (fun x => hpiece 3 7 (by decide) (by decide) (kernelRun0_A.sl.r_1 (F := Ideal) c arg1 harg1 arg3 harg3 x0 x2) (by decide) x) (And.intro (fun x => hpiece 2 7 (by decide) (by decide) (kernelRun0_A.sl.r_1 (F := Ideal) c arg1 harg1 arg3 harg3 x0 x2) (by decide) x) (And.intro (fun x => hpiece 1 7 (by decide) (by decide) (kernelRun0_A.sl.r_1 (F := Ideal) c arg1 harg1 arg3 harg3 x0 x2) (by decide) x) (And.intro (fun x => hpiece 0 7 (by decide) (by decide) (kernelRun0_A.sl.r_1 (F := Ideal) c arg1 harg1 arg3 harg3 x0 x2) (by decide) x) (And.intro (fun x => hpiece 7 6 (by decide) (by decide) (kernelRun0_A.sl.r_1 (F := Ideal) c arg1 harg1 arg3 harg3 x0 x2) (by decide) x) (And.intro (fun x => hpiece 6 6 (by decide) (by decide) (kernelRun0_A.sl.r_1 (F := Ideal) c arg1 harg1 arg3 harg3 x0 x2) (by decide) x) (And.intro (fun x => hpiece 5 6 (by decide) (by decide) (kernelRun0_A.sl.r_1 (F := Ideal) c arg1 harg1 arg3 harg3 x0 x2) (by decide) x) (And.intro (fun x => hpiece 4 6 (by decide) (by decide) (kernelRun0_A.sl.r_1 (F := Ideal) c arg1 harg1 arg3 harg3 x0 x2) (by decide) x) (And.intro (fun x => hpiece 3 6 (by decide) (by decide) (kernelRun0_A.sl.r_1 (F := Ideal) c arg1 harg1 arg3 harg3 x0 x2) (by decide) x) (And.intro (fun x => hpiece 2 6 (by decide) (by decide) (kernelRun0_A.sl.r_1 (F := Ideal) c arg1 harg1 arg3 harg3 x0 x2) (by decide) x) (And.intro (fun x => hpiece 1 6 (by decide) (by decide) (kernelRun0_A.sl.r_1 (F := Ideal) c arg1 harg1 arg3 harg3 x0 x2) (by decide) x) (And.intro (fun x => hpiece 0 6 (by decide) (by decide) (kernelRun0_A.sl.r_1 (F := Ideal) c arg1 harg1 arg3 harg3 x0 x2) (by decide) x) (And.intro (fun x => hpiece 7 5 (by decide) (by decide) (kernelRun0_A.sl.r_1 (F := Ideal) c arg1 harg1 arg3 harg3 x0 x2) (by decide) x) (And.intro (fun x => hpiece 6 5 (by decide) (by decide) (kernelRun0_A.sl.r_1 (F := Ideal) c arg1 harg1 arg3 harg3 x0 x2) (by decide) x) (And.intro (fun x => hpiece 5 5 (by decide) (by decide) (kernelRun0_A.sl.r_1 (F := Ideal) c arg1 harg1 arg3 harg3 x0 x2) (by decide) x) (And.intro (fun x => hpiece 4 5 (by decide) (by decide) (kernelRun0_A.sl.r_1 (F := Ideal) c arg1 harg1 arg3 harg3 x0 x2) (by decide) x) (And.intro (fun x => hpiece 3 5 (by decide) (by decide) (kernelRun0_A.sl.r_1 (F := Ideal) c arg1 harg1 arg3 harg3 x0 x2) (by decide) x) (And.intro (fun x => hpiece 2 5 (by decide) (by decide) (kernelRun0_A.sl.r_1 (F := Ideal) c arg1 harg1 arg3 harg3 x0 x2) (by decide) x) (And.intro (fun x => hpiece 1 5 (by decide) (by decide) (kernelRun0_A.sl.r_1 (F := Ideal) c arg1 harg1 arg3 harg3 x0 x2) (by decide) x) (And.intro (fun x => hpiece 0 5 (by decide) (by decide) (kernelRun0_A.sl.r_1 (F := Ideal) c arg1 harg1 arg3 harg3 x0 x2) (by decide) x) (And.intro (fun x => hpiece 7 4 (by decide) (by decide) (kernelRun0_A.sl.r_1 (F := Ideal) c arg1 harg1 arg3 harg3 x0 x2) (by decide) x) (And.intro (fun x => hpiece 6 4 (by decide) (by decide) (kernelRun0_A.sl.r_1 (F := Ideal) c arg1 harg1 arg3 harg3 x0 x2) (by decide) x) (And.intro (fun x => hpiece 5 4 (by decide) (by decide) (kernelRun0_A.sl.r_1 (F := Ideal) c arg1 harg1 arg3 harg3 x0 x2) (by decide) x) (And.intro (fun x => hpiece 4 4 (by decide) (by decide) (kernelRun0_A.sl.r_1 (F := Ideal) c arg1 harg1 arg3 harg3 x0 x2) (by decide) x) (And.intro (fun x => hpiece 3 4 (by decide) (by decide) (kernelRun0_A.sl.r_1 (F := Ideal) c arg1 harg1 arg3 harg3 x0 x2) (by decide) x) (And.intro (fun x => hpiece 2 4 (by decide) (by decide) (kernelRun0_A.sl.r_1 (F := Ideal) c arg1 harg1 arg3 harg3 x0 x2) (by decide) x) (And.intro (fun x => hpiece 1 4 (by decide) (by decide) (kernelRun0_A.sl.r_1 (F := Ideal) c arg1 harg1 arg3 harg3 x0 x2) (by decide) x) (And.intro (fun x => hpiece 0 4 (by decide) (by decide) (kernelRun0_A.sl.r_1 (F := Ideal) c arg1 harg1 arg3 harg3 x0 x2) (by decide) x) (And.intro (fun x => hpiece 7 3 (by decide) (by decide) (kernelRun0_A.sl.r_1 (F := Ideal) c arg1 harg1 arg3 harg3 x0 x2) (by decide) x) (And.intro (fun x => hpiece 6 3 (by decide) (by decide) (kernelRun0_A.sl.r_1 (F := Ideal) c arg1 harg1 arg3 harg3 x0 x2) (by decide) x) (And.intro (fun x => hpiece 5 3 (by decide) (by decide) (kernelRun0_A.sl.r_1 (F := Ideal) c arg1 harg1 arg3 harg3 x0 x2) (by decide) x) (And.intro (fun x => hpiece 4 3 (by decide) (by decide) (kernelRun0_A.sl.r_1 (F := Ideal) c arg1 harg1 arg3 harg3 x0 x2) (by decide) x) (And.intro (fun x => hpiece 3 3 (by decide) (by decide) (kernelRun0_A.sl.r_1 (F := Ideal) c arg1 harg1 arg3 harg3 x0 x2) (by decide) x) (And.intro (fun x => hpiece 2 3 (by decide) (by decide) (kernelRun0_A.sl.r_1 (F := Ideal) c arg1 harg1 arg3 harg3 x0 x2) (by decide) x) (And.intro (fun x => hpiece 1 3 (by decide) (by decide) (kernelRun0_A.sl.r_1 (F := Ideal) c arg1 harg1 arg3 harg3 x0 x2) (by decide) x) (And.intro (fun x => hpiece 0 3 (by decide) (by decide) (kernelRun0_A.sl.r_1 (F := Ideal) c arg1 harg1 arg3 harg3 x0 x2) (by decide) x) (And.intro (fun x => hpiece 7 2 (by decide) (by decide) (kernelRun0_A.sl.r_1 (F := Ideal) c arg1 harg1 arg3 harg3 x0 x2) (by decide) x) (And.intro (fun x => hpiece 6 2 (by decide) (by decide) (kernelRun0_A.sl.r_1 (F := Ideal) c arg1 harg1 arg3 harg3 x0 x2) (by decide) x) (And.intro (fun x => hpiece 5 2 (by decide) (by decide) (kernelRun0_A.sl.r_1 (F := Ideal) c arg1 harg1 arg3 harg3 x0 x2) (by decide) x) (And.intro (fun x => hpiece 4 2 (by decide) (by decide) (kernelRun0_A.sl.r_1 (F := Ideal) c arg1 harg1 arg3 harg3 x0 x2) (by decide) x) (And.intro (fun x => hpiece 3 2 (by decide) (by decide) (kernelRun0_A.sl.r_1 (F := Ideal) c arg1 harg1 arg3 harg3 x0 x2) (by decide) x) (And.intro (fun x => hpiece 2 2 (by decide) (by decide) (kernelRun0_A.sl.r_1 (F := Ideal) c arg1 harg1 arg3 harg3 x0 x2) (by decide) x) (And.intro (fun x => hpiece 1 2 (by decide) (by decide) (kernelRun0_A.sl.r_1 (F := Ideal) c arg1 harg1 arg3 harg3 x0 x2) (by decide) x) (And.intro (fun x => hpiece 0 2 (by decide) (by decide) (kernelRun0_A.sl.r_1 (F := Ideal) c arg1 harg1 arg3 harg3 x0 x2) (by decide) x) (And.intro (fun x => hpiece 7 1 (by decide) (by decide) (kernelRun0_A.sl.r_1 (F := Ideal) c arg1 harg1 arg3 harg3 x0 x2) (by decide) x) (And.intro (fun x => hpiece 6 1 (by decide) (by decide) (kernelRun0_A.sl.r_1 (F := Ideal) c arg1 harg1 arg3 harg3 x0 x2) (by decide) x) (And.intro (fun x => hpiece 5 1 (by decide) (by decide) (kernelRun0_A.sl.r_1 (F := Ideal) c arg1 harg1 arg3 harg3 x0 x2) (by decide) x) (And.intro (fun x => hpiece 4 1 (by decide) (by decide) (kernelRun0_A.sl.r_1 (F := Ideal) c arg1 harg1 arg3 harg3 x0 x2) (by decide) x) (And.intro (fun x => hpiece 3 1 (by decide) (by decide) (kernelRun0_A.sl.r_1 (F := Ideal) c arg1 harg1 arg3 harg3 x0 x2) (by decide) x) (And.intro (fun x => hpiece 2 1 (by decide) (by decide) (kernelRun0_A.sl.r_1 (F := Ideal) c arg1 harg1 arg3 harg3 x0 x2) (by decide) x) (And.intro (fun x => hpiece 1 1 (by decide) (by decide) (kernelRun0_A.sl.r_1 (F := Ideal) c arg1 harg1 arg3 harg3 x0 x2) (by decide) x) (And.intro (fun x => hpiece 0 1 (by decide) (by decide) (kernelRun0_A.sl.r_1 (F := Ideal) c arg1 harg1 arg3 harg3 x0 x2) (by decide) x) (And.intro (fun x => hpiece 7 0 (by decide) (by decide) (kernelRun0_A.sl.r_1 (F := Ideal) c arg1 harg1 arg3 harg3 x0 x2) (by decide) x) (And.intro (fun x => hpiece 6 0 (by decide) (by decide) (kernelRun0_A.sl.r_1 (F := Ideal) c arg1 harg1 arg3 harg3 x0 x2) (by decide) x) (And.intro (fun x => hpiece 5 0 (by decide) (by decide) (kernelRun0_A.sl.r_1 (F := Ideal) c arg1 harg1 arg3 harg3 x0 x2) (by decide) x) (And.intro (fun x => hpiece 4 0 (by decide) (by decide) (kernelRun0_A.sl.r_1 (F := Ideal) c arg1 harg1 arg3 harg3 x0 x2) (by decide) x) (And.intro (fun x => hpiece 3 0 (by decide) (by decide) (kernelRun0_A.sl.r_1 (F := Ideal) c arg1 harg1 arg3 harg3 x0 x2) (by decide) x) (And.intro (fun x => hpiece 2 0 (by decide) (by decide) (kernelRun0_A.sl.r_1 (F := Ideal) c arg1 harg1 arg3 harg3 x0 x2) (by decide) x) (And.intro (fun x => hpiece 1 0 (by decide) (by decide) (kernelRun0_A.sl.r_1 (F := Ideal) c arg1 harg1 arg3 harg3 x0 x2) (by decide) x) (And.intro (fun x => hpiece 0 0 (by decide) (by decide) (kernelRun0_A.sl.r_1 (F := Ideal) c arg1 harg1 arg3 harg3 x0 x2) (by decide) x) trivial)))))))))))))))))))))))))))))))))))))))))))))))))))))))))))))))) y
  rw [r1] at K
  exact K

theorem h0 (r : Fin 512) (l : Fin 128) : (kernelRun0_A.sl.v275 (F := Ideal) c arg1 harg1 arg3 harg3 arg13 x0 x2) (ix3 0 r l) = hG (k0_pay128 (F := Ideal) x0 x2) (ix3 0 r l) :=
  read_h arg13.view (kernelRun0_A.sl.HS2_64 (F := Ideal) c arg1 harg1 arg3 harg3 x0 x2) 0 _ (fun y => hst (y := y) ..) r l

theorem h1 (r : Fin 512) (l : Fin 128) : (kernelRun0_A.sl.v277 (F := Ideal) c arg1 harg1 arg3 harg3 arg13 x0 x2) (ix3 0 r l) = hG (k0_pay128 (F := Ideal) x0 x2) (ix3 1 r l) :=
  read_h arg13.view (kernelRun0_A.sl.HS2_64 (F := Ideal) c arg1 harg1 arg3 harg3 x0 x2) 1 _ (fun y => hst (y := y) ..) r l

theorem h2 (r : Fin 512) (l : Fin 128) : (kernelRun0_A.sl.v279 (F := Ideal) c arg1 harg1 arg3 harg3 arg13 x0 x2) (ix3 0 r l) = hG (k0_pay128 (F := Ideal) x0 x2) (ix3 2 r l) :=
  read_h arg13.view (kernelRun0_A.sl.HS2_64 (F := Ideal) c arg1 harg1 arg3 harg3 x0 x2) 2 _ (fun y => hst (y := y) ..) r l

theorem h3 (r : Fin 512) (l : Fin 128) : (kernelRun0_A.sl.v281 (F := Ideal) c arg1 harg1 arg3 harg3 arg13 x0 x2) (ix3 0 r l) = hG (k0_pay128 (F := Ideal) x0 x2) (ix3 3 r l) :=
  read_h arg13.view (kernelRun0_A.sl.HS2_64 (F := Ideal) c arg1 harg1 arg3 harg3 x0 x2) 3 _ (fun y => hst (y := y) ..) r l

theorem h4 (r : Fin 512) (l : Fin 128) : (kernelRun0_A.sl.v283 (F := Ideal) c arg1 harg1 arg3 harg3 arg13 x0 x2) (ix3 0 r l) = hG (k0_pay128 (F := Ideal) x0 x2) (ix3 4 r l) :=
  read_h arg13.view (kernelRun0_A.sl.HS2_64 (F := Ideal) c arg1 harg1 arg3 harg3 x0 x2) 4 _ (fun y => hst (y := y) ..) r l

theorem h5 (r : Fin 512) (l : Fin 128) : (kernelRun0_A.sl.v285 (F := Ideal) c arg1 harg1 arg3 harg3 arg13 x0 x2) (ix3 0 r l) = hG (k0_pay128 (F := Ideal) x0 x2) (ix3 5 r l) :=
  read_h arg13.view (kernelRun0_A.sl.HS2_64 (F := Ideal) c arg1 harg1 arg3 harg3 x0 x2) 5 _ (fun y => hst (y := y) ..) r l

theorem h6 (r : Fin 512) (l : Fin 128) : (kernelRun0_A.sl.v287 (F := Ideal) c arg1 harg1 arg3 harg3 arg13 x0 x2) (ix3 0 r l) = hG (k0_pay128 (F := Ideal) x0 x2) (ix3 6 r l) :=
  read_h arg13.view (kernelRun0_A.sl.HS2_64 (F := Ideal) c arg1 harg1 arg3 harg3 x0 x2) 6 _ (fun y => hst (y := y) ..) r l

theorem h7 (r : Fin 512) (l : Fin 128) : (kernelRun0_A.sl.v289 (F := Ideal) c arg1 harg1 arg3 harg3 arg13 x0 x2) (ix3 0 r l) = hG (k0_pay128 (F := Ideal) x0 x2) (ix3 7 r l) :=
  read_h arg13.view (kernelRun0_A.sl.HS2_64 (F := Ideal) c arg1 harg1 arg3 harg3 x0 x2) 7 _ (fun y => hst (y := y) ..) r l

theorem r3 : (kernelRun0_A.sl.r_3 (F := Ideal) c arg1 harg1 arg3 harg3 arg13 x0 x2) = hbF (k0_pay128 (F := Ideal) x0 x2) := by
  funext j
  obtain ⟨r, e, rfl⟩ : ∃ (r : Fin 512) (e : Fin 1024), j = ix2 r e := ⟨j 0, j 1, by pointwise⟩
  refine hb_apply ![(kernelRun0_A.sl.v275 (F := Ideal) c arg1 harg1 arg3 harg3 arg13 x0 x2), (kernelRun0_A.sl.v277 (F := Ideal) c arg1 harg1 arg3 harg3 arg13 x0 x2), (kernelRun0_A.sl.v279 (F := Ideal) c arg1 harg1 arg3 harg3 arg13 x0 x2), (kernelRun0_A.sl.v281 (F := Ideal) c arg1 harg1 arg3 harg3 arg13 x0 x2), (kernelRun0_A.sl.v283 (F := Ideal) c arg1 harg1 arg3 harg3 arg13 x0 x2), (kernelRun0_A.sl.v285 (F := Ideal) c arg1 harg1 arg3 harg3 arg13 x0 x2), (kernelRun0_A.sl.v287 (F := Ideal) c arg1 harg1 arg3 harg3 arg13 x0 x2), (kernelRun0_A.sl.v289 (F := Ideal) c arg1 harg1 arg3 harg3 arg13 x0 x2)] (k0_pay128 (F := Ideal) x0 x2) ?_ r e
  intro κ r l
  fin_cases κ
  · exact h0 (r := r) (l := l) ..
  · exact h1 (r := r) (l := l) ..
  · exact h2 (r := r) (l := l) ..
  · exact h3 (r := r) (l := l) ..
  · exact h4 (r := r) (l := l) ..
  · exact h5 (r := r) (l := l) ..
  · exact h6 (r := r) (l := l) ..
  · exact h7 (r := r) (l := l) ..

/-- The sixteen stores before loop 1, and all the earlier ones. -/
abbrev list1 : List P16 := (kernelRun0_A.sl.HS0_16 (F := Ideal) c arg1 harg1 arg3 harg3 arg5 harg5 arg13 x0 x2 x4)

abbrev Ar1 : Fin 8 → Tile := ![(kernelRun0_A.sl.v364 (F := Ideal) c arg4 harg4 x3), (kernelRun0_A.sl.v368 (F := Ideal) c arg4 harg4 x3), (kernelRun0_A.sl.v372 (F := Ideal) c arg4 harg4 x3), (kernelRun0_A.sl.v376 (F := Ideal) c arg4 harg4 x3), (kernelRun0_A.sl.v380 (F := Ideal) c arg4 harg4 x3), (kernelRun0_A.sl.v384 (F := Ideal) c arg4 harg4 x3), (kernelRun0_A.sl.v388 (F := Ideal) c arg4 harg4 x3), (kernelRun0_A.sl.v392 (F := Ideal) c arg4 harg4 x3)]
abbrev Ai1 : Fin 8 → Tile := ![(kernelRun0_A.sl.v396 (F := Ideal) c arg4 harg4 x3), (kernelRun0_A.sl.v400 (F := Ideal) c arg4 harg4 x3), (kernelRun0_A.sl.v404 (F := Ideal) c arg4 harg4 x3), (kernelRun0_A.sl.v408 (F := Ideal) c arg4 harg4 x3), (kernelRun0_A.sl.v412 (F := Ideal) c arg4 harg4 x3), (kernelRun0_A.sl.v416 (F := Ideal) c arg4 harg4 x3), (kernelRun0_A.sl.v420 (F := Ideal) c arg4 harg4 x3), (kernelRun0_A.sl.v424 (F := Ideal) c arg4 harg4 x3)]

abbrev Cr1 : Fin 8 → Tile := ![(kernelRun0_A.sl.v425 (F := Ideal) c arg2 harg2 arg12 x1), (kernelRun0_A.sl.v426 (F := Ideal) c arg2 harg2 arg12 x1), (kernelRun0_A.sl.v427 (F := Ideal) c arg2 harg2 arg12 x1), (kernelRun0_A.sl.v428 (F := Ideal) c arg2 harg2 arg12 x1), (kernelRun0_A.sl.v429 (F := Ideal) c arg2 harg2 arg12 x1), (kernelRun0_A.sl.v430 (F := Ideal) c arg2 harg2 arg12 x1), (kernelRun0_A.sl.v431 (F := Ideal) c arg2 harg2 arg12 x1), (kernelRun0_A.sl.v432 (F := Ideal) c arg2 harg2 arg12 x1)]
abbrev Ci1 : Fin 8 → Tile := ![(kernelRun0_A.sl.v433 (F := Ideal) c arg2 harg2 arg12 x1), (kernelRun0_A.sl.v434 (F := Ideal) c arg2 harg2 arg12 x1), (kernelRun0_A.sl.v435 (F := Ideal) c arg2 harg2 arg12 x1), (kernelRun0_A.sl.v436 (F := Ideal) c arg2 harg2 arg12 x1), (kernelRun0_A.sl.v437 (F := Ideal) c arg2 harg2 arg12 x1), (kernelRun0_A.sl.v438 (F := Ideal) c arg2 harg2 arg12 x1), (kernelRun0_A.sl.v439 (F := Ideal) c arg2 harg2 arg12 x1), (kernelRun0_A.sl.v440 (F := Ideal) c arg2 harg2 arg12 x1)]

abbrev st1 : Tiles × List P16 := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v364 (F := Ideal) c arg4 harg4 x3) (kernelRun0_A.sl.v368 (F := Ideal) c arg4 harg4 x3) (kernelRun0_A.sl.v372 (F := Ideal) c arg4 harg4 x3) (kernelRun0_A.sl.v376 (F := Ideal) c arg4 harg4 x3) (kernelRun0_A.sl.v380 (F := Ideal) c arg4 harg4 x3) (kernelRun0_A.sl.v384 (F := Ideal) c arg4 harg4 x3) (kernelRun0_A.sl.v388 (F := Ideal) c arg4 harg4 x3) (kernelRun0_A.sl.v392 (F := Ideal) c arg4 harg4 x3) (kernelRun0_A.sl.v396 (F := Ideal) c arg4 harg4 x3) (kernelRun0_A.sl.v400 (F := Ideal) c arg4 harg4 x3) (kernelRun0_A.sl.v404 (F := Ideal) c arg4 harg4 x3) (kernelRun0_A.sl.v408 (F := Ideal) c arg4 harg4 x3) (kernelRun0_A.sl.v412 (F := Ideal) c arg4 harg4 x3) (kernelRun0_A.sl.v416 (F := Ideal) c arg4 harg4 x3) (kernelRun0_A.sl.v420 (F := Ideal) c arg4 harg4 x3) (kernelRun0_A.sl.v424 (F := Ideal) c arg4 harg4 x3) (kernelRun0_A.sl.v425 (F := Ideal) c arg2 harg2 arg12 x1) (kernelRun0_A.sl.v426 (F := Ideal) c arg2 harg2 arg12 x1) (arg11.view.writes (Elt Ideal) arg11.view.junk (list1 c arg1 harg1 arg3 harg3 arg5 harg5 arg13 x0 x2 x4)) (toT (Cr1 c arg2 harg2 arg12 x1) (Ci1 c arg2 harg2 arg12 x1)) (Scf.trips k0_t1_loop.lb k0_t1_loop.ub k0_t1_loop.st)

theorem bu1 (y : S16x512x128.Idx) : View.canon (list1 c arg1 harg1 arg3 harg3 arg5 harg5 arg13 x0 x2 x4) y = buG (hbF (k0_pay128 (F := Ideal) x0 x2)) x4 0 y := by
  have K := canon_16 (buG (kernelRun0_A.sl.r_3 (F := Ideal) c arg1 harg1 arg3 harg3 arg13 x0 x2) x4 0) (list1 c arg1 harg1 arg3 harg3 arg5 harg5 arg13 x0 x2 x4) rfl (And.intro (fun x => bupiece 0 15 (by decide) (by decide) (kernelRun0_A.sl.r_3 (F := Ideal) c arg1 harg1 arg3 harg3 arg13 x0 x2) x4 _ (load_W harg5 x4 0 (by decide)) (by decide) (by decide) (by decide) x) (And.intro (fun x => bupiece 0 14 (by decide) (by decide) (kernelRun0_A.sl.r_3 (F := Ideal) c arg1 harg1 arg3 harg3 arg13 x0 x2) x4 _ (load_W harg5 x4 0 (by decide)) (by decide) (by decide) (by decide) x) (And.intro (fun x => bupiece 0 13 (by decide) (by decide) (kernelRun0_A.sl.r_3 (F := Ideal) c arg1 harg1 arg3 harg3 arg13 x0 x2) x4 _ (load_W harg5 x4 0 (by decide)) (by decide) (by decide) (by decide) x) (And.intro (fun x => bupiece 0 12 (by decide) (by decide) (kernelRun0_A.sl.r_3 (F := Ideal) c arg1 harg1 arg3 harg3 arg13 x0 x2) x4 _ (load_W harg5 x4 0 (by decide)) (by decide) (by decide) (by decide) x) (And.intro (fun x => bupiece 0 11 (by decide) (by decide) (kernelRun0_A.sl.r_3 (F := Ideal) c arg1 harg1 arg3 harg3 arg13 x0 x2) x4 _ (load_W harg5 x4 0 (by decide)) (by decide) (by decide) (by decide) x) (And.intro (fun x => bupiece 0 10 (by decide) (by decide) (kernelRun0_A.sl.r_3 (F := Ideal) c arg1 harg1 arg3 harg3 arg13 x0 x2) x4 _ (load_W harg5 x4 0 (by decide)) (by decide) (by decide) (by decide) x) (And.intro (fun x => bupiece 0 9 (by decide) (by decide) (kernelRun0_A.sl.r_3 (F := Ideal) c arg1 harg1 arg3 harg3 arg13 x0 x2) x4 _ (load_W harg5 x4 0 (by decide)) (by decide) (by decide) (by decide) x) (And.intro (fun x => bupiece 0 8 (by decide) (by decide) (kernelRun0_A.sl.r_3 (F := Ideal) c arg1 harg1 arg3 harg3 arg13 x0 x2) x4 _ (load_W harg5 x4 0 (by decide)) (by decide) (by decide) (by decide) x) (And.intro (fun x => bupiece 0 7 (by decide) (by decide) (kernelRun0_A.sl.r_3 (F := Ideal) c arg1 harg1 arg3 harg3 arg13 x0 x2) x4 _ (load_W harg5 x4 0 (by decide)) (by decide) (by decide) (by decide) x) (And.intro (fun x => bupiece 0 6 (by decide) (by decide) (kernelRun0_A.sl.r_3 (F := Ideal) c arg1 harg1 arg3 harg3 arg13 x0 x2) x4 _ (load_W harg5 x4 0 (by decide)) (by decide) (by decide) (by decide) x) (And.intro (fun x => bupiece 0 5 (by decide) (by decide) (kernelRun0_A.sl.r_3 (F := Ideal) c arg1 harg1 arg3 harg3 arg13 x0 x2) x4 _ (load_W harg5 x4 0 (by decide)) (by decide) (by decide) (by decide) x) (And.intro (fun x => bupiece 0 4 (by decide) (by decide) (kernelRun0_A.sl.r_3 (F := Ideal) c arg1 harg1 arg3 harg3 arg13 x0 x2) x4 _ (load_W harg5 x4 0 (by decide)) (by decide) (by decide) (by decide) x) (And.intro (fun x => bupiece 0 3 (by decide) (by decide) (kernelRun0_A.sl.r_3 (F := Ideal) c arg1 harg1 arg3 harg3 arg13 x0 x2) x4 _ (load_W harg5 x4 0 (by decide)) (by decide) (by decide) (by decide) x) (And.intro (fun x => bupiece 0 2 (by decide) (by decide) (kernelRun0_A.sl.r_3 (F := Ideal) c arg1 harg1 arg3 harg3 arg13 x0 x2) x4 _ (load_W harg5 x4 0 (by decide)) (by decide) (by decide) (by decide) x) (And.intro (fun x => bupiece 0 1 (by decide) (by decide) (kernelRun0_A.sl.r_3 (F := Ideal) c arg1 harg1 arg3 harg3 arg13 x0 x2) x4 _ (load_W harg5 x4 0 (by decide)) (by decide) (by decide) (by decide) x) (And.intro (fun x => bupiece 0 0 (by decide) (by decide) (kernelRun0_A.sl.r_3 (F := Ideal) c arg1 harg1 arg3 harg3 arg13 x0 x2) x4 _ (load_W harg5 x4 0 (by decide)) (by decide) (by decide) (by decide) x) (trivial))))))))))))))))) y
  rw [r3] at K
  exact K

theorem hAr1 (κ : Fin 8) (b : Fin 8) (l : Fin 128) : (Ar1 c arg4 harg4 x3) κ (ix2 b l) = x3 (ix3 0 0 ⟨128 * κ.val + l.val, by omega⟩) := by
  fin_cases κ
  · exact a_tile harg4 x3 0 0 0 (by decide) _ b l
  · exact a_tile harg4 x3 0 0 1 (by decide) _ b l
  · exact a_tile harg4 x3 0 0 2 (by decide) _ b l
  · exact a_tile harg4 x3 0 0 3 (by decide) _ b l
  · exact a_tile harg4 x3 0 0 4 (by decide) _ b l
  · exact a_tile harg4 x3 0 0 5 (by decide) _ b l
  · exact a_tile harg4 x3 0 0 6 (by decide) _ b l
  · exact a_tile harg4 x3 0 0 7 (by decide) _ b l

theorem hAi1 (κ : Fin 8) (b : Fin 8) (l : Fin 128) : (Ai1 c arg4 harg4 x3) κ (ix2 b l) = x3 (ix3 0 1 ⟨128 * κ.val + l.val, by omega⟩) := by
  fin_cases κ
  · exact a_tile harg4 x3 0 1 0 (by decide) _ b l
  · exact a_tile harg4 x3 0 1 1 (by decide) _ b l
  · exact a_tile harg4 x3 0 1 2 (by decide) _ b l
  · exact a_tile harg4 x3 0 1 3 (by decide) _ b l
  · exact a_tile harg4 x3 0 1 4 (by decide) _ b l
  · exact a_tile harg4 x3 0 1 5 (by decide) _ b l
  · exact a_tile harg4 x3 0 1 6 (by decide) _ b l
  · exact a_tile harg4 x3 0 1 7 (by decide) _ b l

theorem s01 (y : S8x8192.Idx) (hy : 0 ≤ (y 1).val) : View.canon (kernelRun0_A.sl.HS1_1 (F := Ideal) c arg2 harg2 x1) y = x1 y := by
  have K := canon_st0 0 (by decide) (kernelRun0_A.sl.HS1_1 (F := Ideal) c arg2 harg2 x1) rfl (k0_pay126 (F := Ideal) (View.readAt (Elt Ideal) arg2.view (Rect.unit (s := S8x8192) ![0, 0] S8x8192.size (by decide)).toLoadRect (harg2.unread x1))) (by decide) rfl y hy
  rw [K, rdw harg2 x1 (by decide) _]
  obtain ⟨b, l, rfl⟩ : ∃ (b : Fin 8) (l : Fin 8192), y = ix2 b l := ⟨y 0, y 1, by pointwise⟩
  unfold k0_pay126
  pointwise

theorem hCr1 (κ : Fin 8) (b : Fin 8) (l : Fin 128) : (Cr1 c arg2 harg2 arg12 x1) κ (ix2 b l) = x1 (ix2 b ⟨2048 * (0 : Fin 4).val + (128 * κ.val + l.val), by have h : (0 : Fin 4).val = 0 := rfl; omega⟩) := by
  fin_cases κ
  · exact (read_tile8 arg12.view (kernelRun0_A.sl.HS1_1 (F := Ideal) c arg2 harg2 x1) x1 0 (by decide) (by decide) (fun y hy => s01 (y := y) (hy := le_trans (by decide) hy) ..) b l).trans (congrArg x1 (congrArg (ix2 b) (Fin.ext (show 0 + l.val = 2048 * 0 + (128 * 0 + l.val) by omega))))
  · exact (read_tile8 arg12.view (kernelRun0_A.sl.HS1_1 (F := Ideal) c arg2 harg2 x1) x1 128 (by decide) (by decide) (fun y hy => s01 (y := y) (hy := le_trans (by decide) hy) ..) b l).trans (congrArg x1 (congrArg (ix2 b) (Fin.ext (show 128 + l.val = 2048 * 0 + (128 * 1 + l.val) by omega))))
  · exact (read_tile8 arg12.view (kernelRun0_A.sl.HS1_1 (F := Ideal) c arg2 harg2 x1) x1 256 (by decide) (by decide) (fun y hy => s01 (y := y) (hy := le_trans (by decide) hy) ..) b l).trans (congrArg x1 (congrArg (ix2 b) (Fin.ext (show 256 + l.val = 2048 * 0 + (128 * 2 + l.val) by omega))))
  · exact (read_tile8 arg12.view (kernelRun0_A.sl.HS1_1 (F := Ideal) c arg2 harg2 x1) x1 384 (by decide) (by decide) (fun y hy => s01 (y := y) (hy := le_trans (by decide) hy) ..) b l).trans (congrArg x1 (congrArg (ix2 b) (Fin.ext (show 384 + l.val = 2048 * 0 + (128 * 3 + l.val) by omega))))
  · exact (read_tile8 arg12.view (kernelRun0_A.sl.HS1_1 (F := Ideal) c arg2 harg2 x1) x1 512 (by decide) (by decide) (fun y hy => s01 (y := y) (hy := le_trans (by decide) hy) ..) b l).trans (congrArg x1 (congrArg (ix2 b) (Fin.ext (show 512 + l.val = 2048 * 0 + (128 * 4 + l.val) by omega))))
  · exact (read_tile8 arg12.view (kernelRun0_A.sl.HS1_1 (F := Ideal) c arg2 harg2 x1) x1 640 (by decide) (by decide) (fun y hy => s01 (y := y) (hy := le_trans (by decide) hy) ..) b l).trans (congrArg x1 (congrArg (ix2 b) (Fin.ext (show 640 + l.val = 2048 * 0 + (128 * 5 + l.val) by omega))))
  · exact (read_tile8 arg12.view (kernelRun0_A.sl.HS1_1 (F := Ideal) c arg2 harg2 x1) x1 768 (by decide) (by decide) (fun y hy => s01 (y := y) (hy := le_trans (by decide) hy) ..) b l).trans (congrArg x1 (congrArg (ix2 b) (Fin.ext (show 768 + l.val = 2048 * 0 + (128 * 6 + l.val) by omega))))
  · exact (read_tile8 arg12.view (kernelRun0_A.sl.HS1_1 (F := Ideal) c arg2 harg2 x1) x1 896 (by decide) (by decide) (fun y hy => s01 (y := y) (hy := le_trans (by decide) hy) ..) b l).trans (congrArg x1 (congrArg (ix2 b) (Fin.ext (show 896 + l.val = 2048 * 0 + (128 * 7 + l.val) by omega))))

theorem hCi1 (κ : Fin 8) (b : Fin 8) (l : Fin 128) : (Ci1 c arg2 harg2 arg12 x1) κ (ix2 b l) = x1 (ix2 b ⟨2048 * (0 : Fin 4).val + 1024 + (128 * κ.val + l.val), by have h : (0 : Fin 4).val = 0 := rfl; omega⟩) := by
  fin_cases κ
  · exact (read_tile8 arg12.view (kernelRun0_A.sl.HS1_1 (F := Ideal) c arg2 harg2 x1) x1 1024 (by decide) (by decide) (fun y hy => s01 (y := y) (hy := le_trans (by decide) hy) ..) b l).trans (congrArg x1 (congrArg (ix2 b) (Fin.ext (show 1024 + l.val = 2048 * 0 + 1024 + (128 * 0 + l.val) by omega))))
  · exact (read_tile8 arg12.view (kernelRun0_A.sl.HS1_1 (F := Ideal) c arg2 harg2 x1) x1 1152 (by decide) (by decide) (fun y hy => s01 (y := y) (hy := le_trans (by decide) hy) ..) b l).trans (congrArg x1 (congrArg (ix2 b) (Fin.ext (show 1152 + l.val = 2048 * 0 + 1024 + (128 * 1 + l.val) by omega))))
  · exact (read_tile8 arg12.view (kernelRun0_A.sl.HS1_1 (F := Ideal) c arg2 harg2 x1) x1 1280 (by decide) (by decide) (fun y hy => s01 (y := y) (hy := le_trans (by decide) hy) ..) b l).trans (congrArg x1 (congrArg (ix2 b) (Fin.ext (show 1280 + l.val = 2048 * 0 + 1024 + (128 * 2 + l.val) by omega))))
  · exact (read_tile8 arg12.view (kernelRun0_A.sl.HS1_1 (F := Ideal) c arg2 harg2 x1) x1 1408 (by decide) (by decide) (fun y hy => s01 (y := y) (hy := le_trans (by decide) hy) ..) b l).trans (congrArg x1 (congrArg (ix2 b) (Fin.ext (show 1408 + l.val = 2048 * 0 + 1024 + (128 * 3 + l.val) by omega))))
  · exact (read_tile8 arg12.view (kernelRun0_A.sl.HS1_1 (F := Ideal) c arg2 harg2 x1) x1 1536 (by decide) (by decide) (fun y hy => s01 (y := y) (hy := le_trans (by decide) hy) ..) b l).trans (congrArg x1 (congrArg (ix2 b) (Fin.ext (show 1536 + l.val = 2048 * 0 + 1024 + (128 * 4 + l.val) by omega))))
  · exact (read_tile8 arg12.view (kernelRun0_A.sl.HS1_1 (F := Ideal) c arg2 harg2 x1) x1 1664 (by decide) (by decide) (fun y hy => s01 (y := y) (hy := le_trans (by decide) hy) ..) b l).trans (congrArg x1 (congrArg (ix2 b) (Fin.ext (show 1664 + l.val = 2048 * 0 + 1024 + (128 * 5 + l.val) by omega))))
  · exact (read_tile8 arg12.view (kernelRun0_A.sl.HS1_1 (F := Ideal) c arg2 harg2 x1) x1 1792 (by decide) (by decide) (fun y hy => s01 (y := y) (hy := le_trans (by decide) hy) ..) b l).trans (congrArg x1 (congrArg (ix2 b) (Fin.ext (show 1792 + l.val = 2048 * 0 + 1024 + (128 * 6 + l.val) by omega))))
  · exact (read_tile8 arg12.view (kernelRun0_A.sl.HS1_1 (F := Ideal) c arg2 harg2 x1) x1 1920 (by decide) (by decide) (fun y hy => s01 (y := y) (hy := le_trans (by decide) hy) ..) b l).trans (congrArg x1 (congrArg (ix2 b) (Fin.ext (show 1920 + l.val = 2048 * 0 + 1024 + (128 * 7 + l.val) by omega))))

theorem seq1 (κ : Fin 8) (n : ℕ) (b : Fin 8) (l : Fin 128) : seqAt (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) κ n b l = ent x3 (hbF (k0_pay128 (F := Ideal) x0 x2)) x4 x1 0 b ⟨128 * κ.val + l.val, by omega⟩ n :=
  seq_ent (fun κ b l => hAr1 (κ := κ) (b := b) (l := l) ..) (fun κ b l => hAi1 (κ := κ) (b := b) (l := l) ..) (fun κ b l => hCr1 (κ := κ) (b := b) (l := l) ..) (fun κ b l => hCi1 (κ := κ) (b := b) (l := l) ..) κ n b l

theorem inv1 : Inv (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) := by
  have hBr : ∀ (κ : Fin 8) t (ht : t < 64) (b : Fin 8) (l : Fin 128), arg11.view.read (Elt Ideal) (arg11.view.writes (Elt Ideal) arg11.view.junk (list1 c arg1 harg1 arg3 harg3 arg5 harg5 arg13 x0 x2 x4)) (ix3 ⟨κ.val, by omega⟩ ⟨8 * t + b, by omega⟩ l) = brOf (hbF (k0_pay128 (F := Ideal) x0 x2)) x4 0 κ t b l := by
    intro κ t ht b l
    rw [View.read_writes_junk_eq_canon]
    exact (bu1 (y := _) ..).trans (br_eq _ _ _ κ t ht b l)
  have hBi : ∀ (κ : Fin 8) t (ht : t < 64) (b : Fin 8) (l : Fin 128), arg11.view.read (Elt Ideal) (arg11.view.writes (Elt Ideal) arg11.view.junk (list1 c arg1 harg1 arg3 harg3 arg5 harg5 arg13 x0 x2 x4)) (ix3 ⟨8 + κ.val, by omega⟩ ⟨8 * t + b, by omega⟩ l) = biOf (hbF (k0_pay128 (F := Ideal) x0 x2)) x4 0 κ t b l := by
    intro κ t ht b l
    rw [View.read_writes_junk_eq_canon]
    exact (bu1 (y := _) ..).trans (bi_eq _ _ _ κ t ht b l)
  exact loop1 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v364 (F := Ideal) c arg4 harg4 x3) (kernelRun0_A.sl.v368 (F := Ideal) c arg4 harg4 x3) (kernelRun0_A.sl.v372 (F := Ideal) c arg4 harg4 x3) (kernelRun0_A.sl.v376 (F := Ideal) c arg4 harg4 x3) (kernelRun0_A.sl.v380 (F := Ideal) c arg4 harg4 x3) (kernelRun0_A.sl.v384 (F := Ideal) c arg4 harg4 x3) (kernelRun0_A.sl.v388 (F := Ideal) c arg4 harg4 x3) (kernelRun0_A.sl.v392 (F := Ideal) c arg4 harg4 x3) (kernelRun0_A.sl.v396 (F := Ideal) c arg4 harg4 x3) (kernelRun0_A.sl.v400 (F := Ideal) c arg4 harg4 x3) (kernelRun0_A.sl.v404 (F := Ideal) c arg4 harg4 x3) (kernelRun0_A.sl.v408 (F := Ideal) c arg4 harg4 x3) (kernelRun0_A.sl.v412 (F := Ideal) c arg4 harg4 x3) (kernelRun0_A.sl.v416 (F := Ideal) c arg4 harg4 x3) (kernelRun0_A.sl.v420 (F := Ideal) c arg4 harg4 x3) (kernelRun0_A.sl.v424 (F := Ideal) c arg4 harg4 x3) (kernelRun0_A.sl.v425 (F := Ideal) c arg2 harg2 arg12 x1) (kernelRun0_A.sl.v426 (F := Ideal) c arg2 harg2 arg12 x1) _ _ _ _ _ hBr hBi 64 (le_refl 64)

theorem slabs1 (κ : Fin 16) (r : Fin 512) (l : Fin 128) : View.canon ((st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).2 ++ list1 c arg1 harg1 arg3 harg3 arg5 harg5 arg13 x0 x2 x4) (ix3 κ r l) = SLE x3 (hbF (k0_pay128 (F := Ideal) x0 x2)) x4 x1 0 r ⟨128 * κ.val + l.val, ix16_lt κ l⟩ :=
  slabs_after (inv1 ..) (fun κ n b l => seq1 (κ := κ) (n := n) (b := b) (l := l) ..) _ κ r l

/-- The sixteen stores before loop 2, and all the earlier ones. -/
abbrev list2 : List P16 := (⟨Rect.unit (s := S16x512x128) ![15, 0, 0] S1x512x128.size (by decide), kernelRun0_A.sl.v603 (F := Ideal) c arg1 harg1 arg3 harg3 arg5 harg5 arg13 x0 x2 x4⟩ :: kernelRun0_A.sl.HS0_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)

abbrev Ar2 : Fin 8 → Tile := ![(kernelRun0_A.sl.v607 (F := Ideal) c arg4 harg4 x3), (kernelRun0_A.sl.v611 (F := Ideal) c arg4 harg4 x3), (kernelRun0_A.sl.v615 (F := Ideal) c arg4 harg4 x3), (kernelRun0_A.sl.v619 (F := Ideal) c arg4 harg4 x3), (kernelRun0_A.sl.v623 (F := Ideal) c arg4 harg4 x3), (kernelRun0_A.sl.v627 (F := Ideal) c arg4 harg4 x3), (kernelRun0_A.sl.v631 (F := Ideal) c arg4 harg4 x3), (kernelRun0_A.sl.v635 (F := Ideal) c arg4 harg4 x3)]
abbrev Ai2 : Fin 8 → Tile := ![(kernelRun0_A.sl.v639 (F := Ideal) c arg4 harg4 x3), (kernelRun0_A.sl.v643 (F := Ideal) c arg4 harg4 x3), (kernelRun0_A.sl.v647 (F := Ideal) c arg4 harg4 x3), (kernelRun0_A.sl.v651 (F := Ideal) c arg4 harg4 x3), (kernelRun0_A.sl.v655 (F := Ideal) c arg4 harg4 x3), (kernelRun0_A.sl.v659 (F := Ideal) c arg4 harg4 x3), (kernelRun0_A.sl.v663 (F := Ideal) c arg4 harg4 x3), (kernelRun0_A.sl.v667 (F := Ideal) c arg4 harg4 x3)]

abbrev Cr2 : Fin 8 → Tile := ![(kernelRun0_A.sl.v668 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v669 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v670 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v671 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v672 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v673 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v674 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v675 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
abbrev Ci2 : Fin 8 → Tile := ![(kernelRun0_A.sl.v676 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v677 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v678 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v679 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v680 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v681 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v682 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v683 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]

abbrev st2 : Tiles × List P16 := st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v607 (F := Ideal) c arg4 harg4 x3) (kernelRun0_A.sl.v611 (F := Ideal) c arg4 harg4 x3) (kernelRun0_A.sl.v615 (F := Ideal) c arg4 harg4 x3) (kernelRun0_A.sl.v619 (F := Ideal) c arg4 harg4 x3) (kernelRun0_A.sl.v623 (F := Ideal) c arg4 harg4 x3) (kernelRun0_A.sl.v627 (F := Ideal) c arg4 harg4 x3) (kernelRun0_A.sl.v631 (F := Ideal) c arg4 harg4 x3) (kernelRun0_A.sl.v635 (F := Ideal) c arg4 harg4 x3) (kernelRun0_A.sl.v639 (F := Ideal) c arg4 harg4 x3) (kernelRun0_A.sl.v643 (F := Ideal) c arg4 harg4 x3) (kernelRun0_A.sl.v647 (F := Ideal) c arg4 harg4 x3) (kernelRun0_A.sl.v651 (F := Ideal) c arg4 harg4 x3) (kernelRun0_A.sl.v655 (F := Ideal) c arg4 harg4 x3) (kernelRun0_A.sl.v659 (F := Ideal) c arg4 harg4 x3) (kernelRun0_A.sl.v663 (F := Ideal) c arg4 harg4 x3) (kernelRun0_A.sl.v667 (F := Ideal) c arg4 harg4 x3) (kernelRun0_A.sl.v668 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v669 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v670 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v671 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v672 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v673 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v674 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v675 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v676 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v677 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v678 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v679 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v680 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v681 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (arg11.view.writes (Elt Ideal) arg11.view.junk (list2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (toT (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (Scf.trips k0_t2_loop.lb k0_t2_loop.ub k0_t2_loop.st)

theorem bu2 (y : S16x512x128.Idx) : View.canon (list2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) y = buG (hbF (k0_pay128 (F := Ideal) x0 x2)) x4 1 y := by
  have K := canon_16 (buG (kernelRun0_A.sl.r_3 (F := Ideal) c arg1 harg1 arg3 harg3 arg13 x0 x2) x4 1) (list2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) rfl (And.intro (fun x => bupiece 1 15 (by decide) (by decide) (kernelRun0_A.sl.r_3 (F := Ideal) c arg1 harg1 arg3 harg3 arg13 x0 x2) x4 _ (load_W harg5 x4 1 (by decide)) (by decide) (by decide) (by decide) x) (And.intro (fun x => bupiece 1 14 (by decide) (by decide) (kernelRun0_A.sl.r_3 (F := Ideal) c arg1 harg1 arg3 harg3 arg13 x0 x2) x4 _ (load_W harg5 x4 1 (by decide)) (by decide) (by decide) (by decide) x) (And.intro (fun x => bupiece 1 13 (by decide) (by decide) (kernelRun0_A.sl.r_3 (F := Ideal) c arg1 harg1 arg3 harg3 arg13 x0 x2) x4 _ (load_W harg5 x4 1 (by decide)) (by decide) (by decide) (by decide) x) (And.intro (fun x => bupiece 1 12 (by decide) (by decide) (kernelRun0_A.sl.r_3 (F := Ideal) c arg1 harg1 arg3 harg3 arg13 x0 x2) x4 _ (load_W harg5 x4 1 (by decide)) (by decide) (by decide) (by decide) x) (And.intro (fun x => bupiece 1 11 (by decide) (by decide) (kernelRun0_A.sl.r_3 (F := Ideal) c arg1 harg1 arg3 harg3 arg13 x0 x2) x4 _ (load_W harg5 x4 1 (by decide)) (by decide) (by decide) (by decide) x) (And.intro (fun x => bupiece 1 10 (by decide) (by decide) (kernelRun0_A.sl.r_3 (F := Ideal) c arg1 harg1 arg3 harg3 arg13 x0 x2) x4 _ (load_W harg5 x4 1 (by decide)) (by decide) (by decide) (by decide) x) (And.intro (fun x => bupiece 1 9 (by decide) (by decide) (kernelRun0_A.sl.r_3 (F := Ideal) c arg1 harg1 arg3 harg3 arg13 x0 x2) x4 _ (load_W harg5 x4 1 (by decide)) (by decide) (by decide) (by decide) x) (And.intro (fun x => bupiece 1 8 (by decide) (by decide) (kernelRun0_A.sl.r_3 (F := Ideal) c arg1 harg1 arg3 harg3 arg13 x0 x2) x4 _ (load_W harg5 x4 1 (by decide)) (by decide) (by decide) (by decide) x) (And.intro (fun x => bupiece 1 7 (by decide) (by decide) (kernelRun0_A.sl.r_3 (F := Ideal) c arg1 harg1 arg3 harg3 arg13 x0 x2) x4 _ (load_W harg5 x4 1 (by decide)) (by decide) (by decide) (by decide) x) (And.intro (fun x => bupiece 1 6 (by decide) (by decide) (kernelRun0_A.sl.r_3 (F := Ideal) c arg1 harg1 arg3 harg3 arg13 x0 x2) x4 _ (load_W harg5 x4 1 (by decide)) (by decide) (by decide) (by decide) x) (And.intro (fun x => bupiece 1 5 (by decide) (by decide) (kernelRun0_A.sl.r_3 (F := Ideal) c arg1 harg1 arg3 harg3 arg13 x0 x2) x4 _ (load_W harg5 x4 1 (by decide)) (by decide) (by decide) (by decide) x) (And.intro (fun x => bupiece 1 4 (by decide) (by decide) (kernelRun0_A.sl.r_3 (F := Ideal) c arg1 harg1 arg3 harg3 arg13 x0 x2) x4 _ (load_W harg5 x4 1 (by decide)) (by decide) (by decide) (by decide) x) (And.intro (fun x => bupiece 1 3 (by decide) (by decide) (kernelRun0_A.sl.r_3 (F := Ideal) c arg1 harg1 arg3 harg3 arg13 x0 x2) x4 _ (load_W harg5 x4 1 (by decide)) (by decide) (by decide) (by decide) x) (And.intro (fun x => bupiece 1 2 (by decide) (by decide) (kernelRun0_A.sl.r_3 (F := Ideal) c arg1 harg1 arg3 harg3 arg13 x0 x2) x4 _ (load_W harg5 x4 1 (by decide)) (by decide) (by decide) (by decide) x) (And.intro (fun x => bupiece 1 1 (by decide) (by decide) (kernelRun0_A.sl.r_3 (F := Ideal) c arg1 harg1 arg3 harg3 arg13 x0 x2) x4 _ (load_W harg5 x4 1 (by decide)) (by decide) (by decide) (by decide) x) (And.intro (fun x => bupiece 1 0 (by decide) (by decide) (kernelRun0_A.sl.r_3 (F := Ideal) c arg1 harg1 arg3 harg3 arg13 x0 x2) x4 _ (load_W harg5 x4 1 (by decide)) (by decide) (by decide) (by decide) x) (trivial))))))))))))))))) y
  rw [r3] at K
  exact K

theorem hAr2 (κ : Fin 8) (b : Fin 8) (l : Fin 128) : (Ar2 c arg4 harg4 x3) κ (ix2 b l) = x3 (ix3 1 0 ⟨128 * κ.val + l.val, by omega⟩) := by
  fin_cases κ
  · exact a_tile harg4 x3 1 0 0 (by decide) _ b l
  · exact a_tile harg4 x3 1 0 1 (by decide) _ b l
  · exact a_tile harg4 x3 1 0 2 (by decide) _ b l
  · exact a_tile harg4 x3 1 0 3 (by decide) _ b l
  · exact a_tile harg4 x3 1 0 4 (by decide) _ b l
  · exact a_tile harg4 x3 1 0 5 (by decide) _ b l
  · exact a_tile harg4 x3 1 0 6 (by decide) _ b l
  · exact a_tile harg4 x3 1 0 7 (by decide) _ b l

theorem hAi2 (κ : Fin 8) (b : Fin 8) (l : Fin 128) : (Ai2 c arg4 harg4 x3) κ (ix2 b l) = x3 (ix3 1 1 ⟨128 * κ.val + l.val, by omega⟩) := by
  fin_cases κ
  · exact a_tile harg4 x3 1 1 0 (by decide) _ b l
  · exact a_tile harg4 x3 1 1 1 (by decide) _ b l
  · exact a_tile harg4 x3 1 1 2 (by decide) _ b l
  · exact a_tile harg4 x3 1 1 3 (by decide) _ b l
  · exact a_tile harg4 x3 1 1 4 (by decide) _ b l
  · exact a_tile harg4 x3 1 1 5 (by decide) _ b l
  · exact a_tile harg4 x3 1 1 6 (by decide) _ b l
  · exact a_tile harg4 x3 1 1 7 (by decide) _ b l

theorem s02 (y : S8x8192.Idx) (hy : 2048 ≤ (y 1).val) : View.canon (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) y = x1 y := by
  have K := canon_st0 16 (by decide) (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) rfl (k0_pay126 (F := Ideal) (View.readAt (Elt Ideal) arg2.view (Rect.unit (s := S8x8192) ![0, 0] S8x8192.size (by decide)).toLoadRect (harg2.unread x1))) (by decide) rfl y hy
  rw [K, rdw harg2 x1 (by decide) _]
  obtain ⟨b, l, rfl⟩ : ∃ (b : Fin 8) (l : Fin 8192), y = ix2 b l := ⟨y 0, y 1, by pointwise⟩
  unfold k0_pay126
  pointwise

theorem hCr2 (κ : Fin 8) (b : Fin 8) (l : Fin 128) : (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) κ (ix2 b l) = x1 (ix2 b ⟨2048 * (1 : Fin 4).val + (128 * κ.val + l.val), by have h : (1 : Fin 4).val = 1 := rfl; omega⟩) := by
  fin_cases κ
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2048 (by decide) (by decide) (fun y hy => s02 (y := y) (hy := le_trans (by decide) hy) ..) b l).trans (congrArg x1 (congrArg (ix2 b) (Fin.ext (show 2048 + l.val = 2048 * 1 + (128 * 0 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2176 (by decide) (by decide) (fun y hy => s02 (y := y) (hy := le_trans (by decide) hy) ..) b l).trans (congrArg x1 (congrArg (ix2 b) (Fin.ext (show 2176 + l.val = 2048 * 1 + (128 * 1 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2304 (by decide) (by decide) (fun y hy => s02 (y := y) (hy := le_trans (by decide) hy) ..) b l).trans (congrArg x1 (congrArg (ix2 b) (Fin.ext (show 2304 + l.val = 2048 * 1 + (128 * 2 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2432 (by decide) (by decide) (fun y hy => s02 (y := y) (hy := le_trans (by decide) hy) ..) b l).trans (congrArg x1 (congrArg (ix2 b) (Fin.ext (show 2432 + l.val = 2048 * 1 + (128 * 3 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2560 (by decide) (by decide) (fun y hy => s02 (y := y) (hy := le_trans (by decide) hy) ..) b l).trans (congrArg x1 (congrArg (ix2 b) (Fin.ext (show 2560 + l.val = 2048 * 1 + (128 * 4 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2688 (by decide) (by decide) (fun y hy => s02 (y := y) (hy := le_trans (by decide) hy) ..) b l).trans (congrArg x1 (congrArg (ix2 b) (Fin.ext (show 2688 + l.val = 2048 * 1 + (128 * 5 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2816 (by decide) (by decide) (fun y hy => s02 (y := y) (hy := le_trans (by decide) hy) ..) b l).trans (congrArg x1 (congrArg (ix2 b) (Fin.ext (show 2816 + l.val = 2048 * 1 + (128 * 6 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 2944 (by decide) (by decide) (fun y hy => s02 (y := y) (hy := le_trans (by decide) hy) ..) b l).trans (congrArg x1 (congrArg (ix2 b) (Fin.ext (show 2944 + l.val = 2048 * 1 + (128 * 7 + l.val) by omega))))

theorem hCi2 (κ : Fin 8) (b : Fin 8) (l : Fin 128) : (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) κ (ix2 b l) = x1 (ix2 b ⟨2048 * (1 : Fin 4).val + 1024 + (128 * κ.val + l.val), by have h : (1 : Fin 4).val = 1 := rfl; omega⟩) := by
  fin_cases κ
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3072 (by decide) (by decide) (fun y hy => s02 (y := y) (hy := le_trans (by decide) hy) ..) b l).trans (congrArg x1 (congrArg (ix2 b) (Fin.ext (show 3072 + l.val = 2048 * 1 + 1024 + (128 * 0 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3200 (by decide) (by decide) (fun y hy => s02 (y := y) (hy := le_trans (by decide) hy) ..) b l).trans (congrArg x1 (congrArg (ix2 b) (Fin.ext (show 3200 + l.val = 2048 * 1 + 1024 + (128 * 1 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3328 (by decide) (by decide) (fun y hy => s02 (y := y) (hy := le_trans (by decide) hy) ..) b l).trans (congrArg x1 (congrArg (ix2 b) (Fin.ext (show 3328 + l.val = 2048 * 1 + 1024 + (128 * 2 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3456 (by decide) (by decide) (fun y hy => s02 (y := y) (hy := le_trans (by decide) hy) ..) b l).trans (congrArg x1 (congrArg (ix2 b) (Fin.ext (show 3456 + l.val = 2048 * 1 + 1024 + (128 * 3 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3584 (by decide) (by decide) (fun y hy => s02 (y := y) (hy := le_trans (by decide) hy) ..) b l).trans (congrArg x1 (congrArg (ix2 b) (Fin.ext (show 3584 + l.val = 2048 * 1 + 1024 + (128 * 4 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3712 (by decide) (by decide) (fun y hy => s02 (y := y) (hy := le_trans (by decide) hy) ..) b l).trans (congrArg x1 (congrArg (ix2 b) (Fin.ext (show 3712 + l.val = 2048 * 1 + 1024 + (128 * 5 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3840 (by decide) (by decide) (fun y hy => s02 (y := y) (hy := le_trans (by decide) hy) ..) b l).trans (congrArg x1 (congrArg (ix2 b) (Fin.ext (show 3840 + l.val = 2048 * 1 + 1024 + (128 * 6 + l.val) by omega))))
  · exact (read_tile8 arg12.view (kernelRun0_A.sl.HS1_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 3968 (by decide) (by decide) (fun y hy => s02 (y := y) (hy := le_trans (by decide) hy) ..) b l).trans (congrArg x1 (congrArg (ix2 b) (Fin.ext (show 3968 + l.val = 2048 * 1 + 1024 + (128 * 7 + l.val) by omega))))

theorem seq2 (κ : Fin 8) (n : ℕ) (b : Fin 8) (l : Fin 128) : seqAt (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) κ n b l = ent x3 (hbF (k0_pay128 (F := Ideal) x0 x2)) x4 x1 1 b ⟨128 * κ.val + l.val, by omega⟩ n :=
  seq_ent (fun κ b l => hAr2 (κ := κ) (b := b) (l := l) ..) (fun κ b l => hAi2 (κ := κ) (b := b) (l := l) ..) (fun κ b l => hCr2 (κ := κ) (b := b) (l := l) ..) (fun κ b l => hCi2 (κ := κ) (b := b) (l := l) ..) κ n b l

theorem inv2 : Inv (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) := by
  have hBr : ∀ (κ : Fin 8) t (ht : t < 64) (b : Fin 8) (l : Fin 128), arg11.view.read (Elt Ideal) (arg11.view.writes (Elt Ideal) arg11.view.junk (list2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (ix3 ⟨κ.val, by omega⟩ ⟨8 * t + b, by omega⟩ l) = brOf (hbF (k0_pay128 (F := Ideal) x0 x2)) x4 1 κ t b l := by
    intro κ t ht b l
    rw [View.read_writes_junk_eq_canon]
    exact (bu2 (y := _) ..).trans (br_eq _ _ _ κ t ht b l)
  have hBi : ∀ (κ : Fin 8) t (ht : t < 64) (b : Fin 8) (l : Fin 128), arg11.view.read (Elt Ideal) (arg11.view.writes (Elt Ideal) arg11.view.junk (list2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (ix3 ⟨8 + κ.val, by omega⟩ ⟨8 * t + b, by omega⟩ l) = biOf (hbF (k0_pay128 (F := Ideal) x0 x2)) x4 1 κ t b l := by
    intro κ t ht b l
    rw [View.read_writes_junk_eq_canon]
    exact (bu2 (y := _) ..).trans (bi_eq _ _ _ κ t ht b l)
  exact loop2 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v607 (F := Ideal) c arg4 harg4 x3) (kernelRun0_A.sl.v611 (F := Ideal) c arg4 harg4 x3) (kernelRun0_A.sl.v615 (F := Ideal) c arg4 harg4 x3) (kernelRun0_A.sl.v619 (F := Ideal) c arg4 harg4 x3) (kernelRun0_A.sl.v623 (F := Ideal) c arg4 harg4 x3) (kernelRun0_A.sl.v627 (F := Ideal) c arg4 harg4 x3) (kernelRun0_A.sl.v631 (F := Ideal) c arg4 harg4 x3) (kernelRun0_A.sl.v635 (F := Ideal) c arg4 harg4 x3) (kernelRun0_A.sl.v639 (F := Ideal) c arg4 harg4 x3) (kernelRun0_A.sl.v643 (F := Ideal) c arg4 harg4 x3) (kernelRun0_A.sl.v647 (F := Ideal) c arg4 harg4 x3) (kernelRun0_A.sl.v651 (F := Ideal) c arg4 harg4 x3) (kernelRun0_A.sl.v655 (F := Ideal) c arg4 harg4 x3) (kernelRun0_A.sl.v659 (F := Ideal) c arg4 harg4 x3) (kernelRun0_A.sl.v663 (F := Ideal) c arg4 harg4 x3) (kernelRun0_A.sl.v667 (F := Ideal) c arg4 harg4 x3) (kernelRun0_A.sl.v668 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v669 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v670 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v671 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v672 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v673 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v674 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v675 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v676 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v677 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v678 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v679 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v680 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v681 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) _ _ _ _ _ hBr hBi 64 (le_refl 64)

theorem slabs2 (κ : Fin 16) (r : Fin 512) (l : Fin 128) : View.canon ((st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).2 ++ list2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (ix3 κ r l) = SLE x3 (hbF (k0_pay128 (F := Ideal) x0 x2)) x4 x1 1 r ⟨128 * κ.val + l.val, ix16_lt κ l⟩ :=
  slabs_after (inv2 ..) (fun κ n b l => seq2 (κ := κ) (n := n) (b := b) (l := l) ..) _ κ r l

end Cert.S5.PA
-- ==== Proof.SIStA2.lean ====
/- The S5 body at the first point, its last two blocks, its output and the state it leaves. -/
module

public import proofs.«01_k».proof.Proof.SIStA
public import proofs.«01_k».proof.Proof.SIRunA

@[expose] public section

set_option maxRecDepth 65536
set_option maxHeartbeats 1600000

noncomputable section

namespace Cert.S5.PA

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16)

/-- The sixteen stores before loop 3, and all the earlier ones. -/
abbrev list3 : List P16 := (⟨Rect.unit (s := S16x512x128) ![15, 0, 0] S1x512x128.size (by decide), kernelRun0_A.sl.v846 (F := Ideal) c arg1 harg1 arg3 harg3 arg5 harg5 arg13 x0 x2 x4⟩ :: kernelRun0_A.sl.HS0_15_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)

abbrev Ar3 : Fin 8 → Tile := ![(kernelRun0_A.sl.v850 (F := Ideal) c arg4 harg4 x3), (kernelRun0_A.sl.v854 (F := Ideal) c arg4 harg4 x3), (kernelRun0_A.sl.v858 (F := Ideal) c arg4 harg4 x3), (kernelRun0_A.sl.v862 (F := Ideal) c arg4 harg4 x3), (kernelRun0_A.sl.v866 (F := Ideal) c arg4 harg4 x3), (kernelRun0_A.sl.v870 (F := Ideal) c arg4 harg4 x3), (kernelRun0_A.sl.v874 (F := Ideal) c arg4 harg4 x3), (kernelRun0_A.sl.v878 (F := Ideal) c arg4 harg4 x3)]
abbrev Ai3 : Fin 8 → Tile := ![(kernelRun0_A.sl.v882 (F := Ideal) c arg4 harg4 x3), (kernelRun0_A.sl.v886 (F := Ideal) c arg4 harg4 x3), (kernelRun0_A.sl.v890 (F := Ideal) c arg4 harg4 x3), (kernelRun0_A.sl.v894 (F := Ideal) c arg4 harg4 x3), (kernelRun0_A.sl.v898 (F := Ideal) c arg4 harg4 x3), (kernelRun0_A.sl.v902 (F := Ideal) c arg4 harg4 x3), (kernelRun0_A.sl.v906 (F := Ideal) c arg4 harg4 x3), (kernelRun0_A.sl.v910 (F := Ideal) c arg4 harg4 x3)]

abbrev Cr3 : Fin 8 → Tile := ![(kernelRun0_A.sl.v911 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v912 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v913 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v914 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v915 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v916 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v917 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v918 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
abbrev Ci3 : Fin 8 → Tile := ![(kernelRun0_A.sl.v919 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v920 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v921 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v922 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v923 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v924 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v925 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v926 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]

abbrev st3 : Tiles × List P16 := st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v850 (F := Ideal) c arg4 harg4 x3) (kernelRun0_A.sl.v854 (F := Ideal) c arg4 harg4 x3) (kernelRun0_A.sl.v858 (F := Ideal) c arg4 harg4 x3) (kernelRun0_A.sl.v862 (F := Ideal) c arg4 harg4 x3) (kernelRun0_A.sl.v866 (F := Ideal) c arg4 harg4 x3) (kernelRun0_A.sl.v870 (F := Ideal) c arg4 harg4 x3) (kernelRun0_A.sl.v874 (F := Ideal) c arg4 harg4 x3) (kernelRun0_A.sl.v878 (F := Ideal) c arg4 harg4 x3) (kernelRun0_A.sl.v882 (F := Ideal) c arg4 harg4 x3) (kernelRun0_A.sl.v886 (F := Ideal) c arg4 harg4 x3) (kernelRun0_A.sl.v890 (F := Ideal) c arg4 harg4 x3) (kernelRun0_A.sl.v894 (F := Ideal) c arg4 harg4 x3) (kernelRun0_A.sl.v898 (F := Ideal) c arg4 harg4 x3) (kernelRun0_A.sl.v902 (F := Ideal) c arg4 harg4 x3) (kernelRun0_A.sl.v906 (F := Ideal) c arg4 harg4 x3) (kernelRun0_A.sl.v910 (F := Ideal) c arg4 harg4 x3) (kernelRun0_A.sl.v911 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v912 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v913 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v914 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v915 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v916 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v917 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (arg11.view.writes (Elt Ideal) arg11.view.junk (list3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (toT (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (Scf.trips k0_t3_loop.lb k0_t3_loop.ub k0_t3_loop.st)

theorem bu3 (y : S16x512x128.Idx) : View.canon (list3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) y = buG (hbF (k0_pay128 (F := Ideal) x0 x2)) x4 2 y := by
  have K := canon_16 (buG (kernelRun0_A.sl.r_3 (F := Ideal) c arg1 harg1 arg3 harg3 arg13 x0 x2) x4 2) (list3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) rfl (And.intro (fun x => bupiece 2 15 (by decide) (by decide) (kernelRun0_A.sl.r_3 (F := Ideal) c arg1 harg1 arg3 harg3 arg13 x0 x2) x4 _ (load_W harg5 x4 2 (by decide)) (by decide) (by decide) (by decide) x) (And.intro (fun x => bupiece 2 14 (by decide) (by decide) (kernelRun0_A.sl.r_3 (F := Ideal) c arg1 harg1 arg3 harg3 arg13 x0 x2) x4 _ (load_W harg5 x4 2 (by decide)) (by decide) (by decide) (by decide) x) (And.intro (fun x => bupiece 2 13 (by decide) (by decide) (kernelRun0_A.sl.r_3 (F := Ideal) c arg1 harg1 arg3 harg3 arg13 x0 x2) x4 _ (load_W harg5 x4 2 (by decide)) (by decide) (by decide) (by decide) x) (And.intro (fun x => bupiece 2 12 (by decide) (by decide) (kernelRun0_A.sl.r_3 (F := Ideal) c arg1 harg1 arg3 harg3 arg13 x0 x2) x4 _ (load_W harg5 x4 2 (by decide)) (by decide) (by decide) (by decide) x) (And.intro (fun x => bupiece 2 11 (by decide) (by decide) (kernelRun0_A.sl.r_3 (F := Ideal) c arg1 harg1 arg3 harg3 arg13 x0 x2) x4 _ (load_W harg5 x4 2 (by decide)) (by decide) (by decide) (by decide) x) (And.intro (fun x => bupiece 2 10 (by decide) (by decide) (kernelRun0_A.sl.r_3 (F := Ideal) c arg1 harg1 arg3 harg3 arg13 x0 x2) x4 _ (load_W harg5 x4 2 (by decide)) (by decide) (by decide) (by decide) x) (And.intro (fun x => bupiece 2 9 (by decide) (by decide) (kernelRun0_A.sl.r_3 (F := Ideal) c arg1 harg1 arg3 harg3 arg13 x0 x2) x4 _ (load_W harg5 x4 2 (by decide)) (by decide) (by decide) (by decide) x) (And.intro (fun x => bupiece 2 8 (by decide) (by decide) (kernelRun0_A.sl.r_3 (F := Ideal) c arg1 harg1 arg3 harg3 arg13 x0 x2) x4 _ (load_W harg5 x4 2 (by decide)) (by decide) (by decide) (by decide) x) (And.intro (fun x => bupiece 2 7 (by decide) (by decide) (kernelRun0_A.sl.r_3 (F := Ideal) c arg1 harg1 arg3 harg3 arg13 x0 x2) x4 _ (load_W harg5 x4 2 (by decide)) (by decide) (by decide) (by decide) x) (And.intro (fun x => bupiece 2 6 (by decide) (by decide) (kernelRun0_A.sl.r_3 (F := Ideal) c arg1 harg1 arg3 harg3 arg13 x0 x2) x4 _ (load_W harg5 x4 2 (by decide)) (by decide) (by decide) (by decide) x) (And.intro (fun x => bupiece 2 5 (by decide) (by decide) (kernelRun0_A.sl.r_3 (F := Ideal) c arg1 harg1 arg3 harg3 arg13 x0 x2) x4 _ (load_W harg5 x4 2 (by decide)) (by decide) (by decide) (by decide) x) (And.intro (fun x => bupiece 2 4 (by decide) (by decide) (kernelRun0_A.sl.r_3 (F := Ideal) c arg1 harg1 arg3 harg3 arg13 x0 x2) x4 _ (load_W harg5 x4 2 (by decide)) (by decide) (by decide) (by decide) x) (And.intro (fun x => bupiece 2 3 (by decide) (by decide) (kernelRun0_A.sl.r_3 (F := Ideal) c arg1 harg1 arg3 harg3 arg13 x0 x2) x4 _ (load_W harg5 x4 2 (by decide)) (by decide) (by decide) (by decide) x) (And.intro (fun x => bupiece 2 2 (by decide) (by decide) (kernelRun0_A.sl.r_3 (F := Ideal) c arg1 harg1 arg3 harg3 arg13 x0 x2) x4 _ (load_W harg5 x4 2 (by decide)) (by decide) (by decide) (by decide) x) (And.intro (fun x => bupiece 2 1 (by decide) (by decide) (kernelRun0_A.sl.r_3 (F := Ideal) c arg1 harg1 arg3 harg3 arg13 x0 x2) x4 _ (load_W harg5 x4 2 (by decide)) (by decide) (by decide) (by decide) x) (And.intro (fun x => bupiece 2 0 (by decide) (by decide) (kernelRun0_A.sl.r_3 (F := Ideal) c arg1 harg1 arg3 harg3 arg13 x0 x2) x4 _ (load_W harg5 x4 2 (by decide)) (by decide) (by decide) (by decide) x) (trivial))))))))))))))))) y
  rw [r3] at K
  exact K

theorem hAr3 (κ : Fin 8) (b : Fin 8) (l : Fin 128) : (Ar3 c arg4 harg4 x3) κ (ix2 b l) = x3 (ix3 2 0 ⟨128 * κ.val + l.val, by omega⟩) := by
  fin_cases κ
  · exact a_tile harg4 x3 2 0 0 (by decide) _ b l
  · exact a_tile harg4 x3 2 0 1 (by decide) _ b l
  · exact a_tile harg4 x3 2 0 2 (by decide) _ b l
  · exact a_tile harg4 x3 2 0 3 (by decide) _ b l
  · exact a_tile harg4 x3 2 0 4 (by decide) _ b l
  · exact a_tile harg4 x3 2 0 5 (by decide) _ b l
  · exact a_tile harg4 x3 2 0 6 (by decide) _ b l
  · exact a_tile harg4 x3 2 0 7 (by decide) _ b l

theorem hAi3 (κ : Fin 8) (b : Fin 8) (l : Fin 128) : (Ai3 c arg4 harg4 x3) κ (ix2 b l) = x3 (ix3 2 1 ⟨128 * κ.val + l.val, by omega⟩) := by
  fin_cases κ
  · exact a_tile harg4 x3 2 1 0 (by decide) _ b l
  · exact a_tile harg4 x3 2 1 1 (by decide) _ b l
  · exact a_tile harg4 x3 2 1 2 (by decide) _ b l
  · exact a_tile harg4 x3 2 1 3 (by decide) _ b l
  · exact a_tile harg4 x3 2 1 4 (by decide) _ b l
  · exact a_tile harg4 x3 2 1 5 (by decide) _ b l
  · exact a_tile harg4 x3 2 1 6 (by decide) _ b l
  · exact a_tile harg4 x3 2 1 7 (by decide) _ b l

theorem s03 (y : S8x8192.Idx) (hy : 4096 ≤ (y 1).val) : View.canon (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) y = x1 y := by
  have K := canon_st0 32 (by decide) (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) rfl (k0_pay126 (F := Ideal) (View.readAt (Elt Ideal) arg2.view (Rect.unit (s := S8x8192) ![0, 0] S8x8192.size (by decide)).toLoadRect (harg2.unread x1))) (by decide) rfl y hy
  rw [K, rdw harg2 x1 (by decide) _]
  obtain ⟨b, l, rfl⟩ : ∃ (b : Fin 8) (l : Fin 8192), y = ix2 b l := ⟨y 0, y 1, by pointwise⟩
  unfold k0_pay126
  pointwise

theorem hCr3 (κ : Fin 8) (b : Fin 8) (l : Fin 128) : (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) κ (ix2 b l) = x1 (ix2 b ⟨2048 * (2 : Fin 4).val + (128 * κ.val + l.val), by have h : (2 : Fin 4).val = 2 := rfl; omega⟩) := by
  fin_cases κ
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4096 (by decide) (by decide) (fun y hy => s03 (y := y) (hy := le_trans (by decide) hy) ..) b l).trans (congrArg x1 (congrArg (ix2 b) (Fin.ext (show 4096 + l.val = 2048 * 2 + (128 * 0 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4224 (by decide) (by decide) (fun y hy => s03 (y := y) (hy := le_trans (by decide) hy) ..) b l).trans (congrArg x1 (congrArg (ix2 b) (Fin.ext (show 4224 + l.val = 2048 * 2 + (128 * 1 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4352 (by decide) (by decide) (fun y hy => s03 (y := y) (hy := le_trans (by decide) hy) ..) b l).trans (congrArg x1 (congrArg (ix2 b) (Fin.ext (show 4352 + l.val = 2048 * 2 + (128 * 2 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4480 (by decide) (by decide) (fun y hy => s03 (y := y) (hy := le_trans (by decide) hy) ..) b l).trans (congrArg x1 (congrArg (ix2 b) (Fin.ext (show 4480 + l.val = 2048 * 2 + (128 * 3 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4608 (by decide) (by decide) (fun y hy => s03 (y := y) (hy := le_trans (by decide) hy) ..) b l).trans (congrArg x1 (congrArg (ix2 b) (Fin.ext (show 4608 + l.val = 2048 * 2 + (128 * 4 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4736 (by decide) (by decide) (fun y hy => s03 (y := y) (hy := le_trans (by decide) hy) ..) b l).trans (congrArg x1 (congrArg (ix2 b) (Fin.ext (show 4736 + l.val = 2048 * 2 + (128 * 5 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4864 (by decide) (by decide) (fun y hy => s03 (y := y) (hy := le_trans (by decide) hy) ..) b l).trans (congrArg x1 (congrArg (ix2 b) (Fin.ext (show 4864 + l.val = 2048 * 2 + (128 * 6 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 4992 (by decide) (by decide) (fun y hy => s03 (y := y) (hy := le_trans (by decide) hy) ..) b l).trans (congrArg x1 (congrArg (ix2 b) (Fin.ext (show 4992 + l.val = 2048 * 2 + (128 * 7 + l.val) by omega))))

theorem hCi3 (κ : Fin 8) (b : Fin 8) (l : Fin 128) : (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) κ (ix2 b l) = x1 (ix2 b ⟨2048 * (2 : Fin 4).val + 1024 + (128 * κ.val + l.val), by have h : (2 : Fin 4).val = 2 := rfl; omega⟩) := by
  fin_cases κ
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5120 (by decide) (by decide) (fun y hy => s03 (y := y) (hy := le_trans (by decide) hy) ..) b l).trans (congrArg x1 (congrArg (ix2 b) (Fin.ext (show 5120 + l.val = 2048 * 2 + 1024 + (128 * 0 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5248 (by decide) (by decide) (fun y hy => s03 (y := y) (hy := le_trans (by decide) hy) ..) b l).trans (congrArg x1 (congrArg (ix2 b) (Fin.ext (show 5248 + l.val = 2048 * 2 + 1024 + (128 * 1 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5376 (by decide) (by decide) (fun y hy => s03 (y := y) (hy := le_trans (by decide) hy) ..) b l).trans (congrArg x1 (congrArg (ix2 b) (Fin.ext (show 5376 + l.val = 2048 * 2 + 1024 + (128 * 2 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5504 (by decide) (by decide) (fun y hy => s03 (y := y) (hy := le_trans (by decide) hy) ..) b l).trans (congrArg x1 (congrArg (ix2 b) (Fin.ext (show 5504 + l.val = 2048 * 2 + 1024 + (128 * 3 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5632 (by decide) (by decide) (fun y hy => s03 (y := y) (hy := le_trans (by decide) hy) ..) b l).trans (congrArg x1 (congrArg (ix2 b) (Fin.ext (show 5632 + l.val = 2048 * 2 + 1024 + (128 * 4 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5760 (by decide) (by decide) (fun y hy => s03 (y := y) (hy := le_trans (by decide) hy) ..) b l).trans (congrArg x1 (congrArg (ix2 b) (Fin.ext (show 5760 + l.val = 2048 * 2 + 1024 + (128 * 5 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 5888 (by decide) (by decide) (fun y hy => s03 (y := y) (hy := le_trans (by decide) hy) ..) b l).trans (congrArg x1 (congrArg (ix2 b) (Fin.ext (show 5888 + l.val = 2048 * 2 + 1024 + (128 * 6 + l.val) by omega))))
  · exact (read_tile8 arg12.view (kernelRun0_A.sl.HS1_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6016 (by decide) (by decide) (fun y hy => s03 (y := y) (hy := le_trans (by decide) hy) ..) b l).trans (congrArg x1 (congrArg (ix2 b) (Fin.ext (show 6016 + l.val = 2048 * 2 + 1024 + (128 * 7 + l.val) by omega))))

theorem seq3 (κ : Fin 8) (n : ℕ) (b : Fin 8) (l : Fin 128) : seqAt (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) κ n b l = ent x3 (hbF (k0_pay128 (F := Ideal) x0 x2)) x4 x1 2 b ⟨128 * κ.val + l.val, by omega⟩ n :=
  seq_ent (fun κ b l => hAr3 (κ := κ) (b := b) (l := l) ..) (fun κ b l => hAi3 (κ := κ) (b := b) (l := l) ..) (fun κ b l => hCr3 (κ := κ) (b := b) (l := l) ..) (fun κ b l => hCi3 (κ := κ) (b := b) (l := l) ..) κ n b l

theorem inv3 : Inv (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) := by
  have hBr : ∀ (κ : Fin 8) t (ht : t < 64) (b : Fin 8) (l : Fin 128), arg11.view.read (Elt Ideal) (arg11.view.writes (Elt Ideal) arg11.view.junk (list3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (ix3 ⟨κ.val, by omega⟩ ⟨8 * t + b, by omega⟩ l) = brOf (hbF (k0_pay128 (F := Ideal) x0 x2)) x4 2 κ t b l := by
    intro κ t ht b l
    rw [View.read_writes_junk_eq_canon]
    exact (bu3 (y := _) ..).trans (br_eq _ _ _ κ t ht b l)
  have hBi : ∀ (κ : Fin 8) t (ht : t < 64) (b : Fin 8) (l : Fin 128), arg11.view.read (Elt Ideal) (arg11.view.writes (Elt Ideal) arg11.view.junk (list3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (ix3 ⟨8 + κ.val, by omega⟩ ⟨8 * t + b, by omega⟩ l) = biOf (hbF (k0_pay128 (F := Ideal) x0 x2)) x4 2 κ t b l := by
    intro κ t ht b l
    rw [View.read_writes_junk_eq_canon]
    exact (bu3 (y := _) ..).trans (bi_eq _ _ _ κ t ht b l)
  exact loop3 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v850 (F := Ideal) c arg4 harg4 x3) (kernelRun0_A.sl.v854 (F := Ideal) c arg4 harg4 x3) (kernelRun0_A.sl.v858 (F := Ideal) c arg4 harg4 x3) (kernelRun0_A.sl.v862 (F := Ideal) c arg4 harg4 x3) (kernelRun0_A.sl.v866 (F := Ideal) c arg4 harg4 x3) (kernelRun0_A.sl.v870 (F := Ideal) c arg4 harg4 x3) (kernelRun0_A.sl.v874 (F := Ideal) c arg4 harg4 x3) (kernelRun0_A.sl.v878 (F := Ideal) c arg4 harg4 x3) (kernelRun0_A.sl.v882 (F := Ideal) c arg4 harg4 x3) (kernelRun0_A.sl.v886 (F := Ideal) c arg4 harg4 x3) (kernelRun0_A.sl.v890 (F := Ideal) c arg4 harg4 x3) (kernelRun0_A.sl.v894 (F := Ideal) c arg4 harg4 x3) (kernelRun0_A.sl.v898 (F := Ideal) c arg4 harg4 x3) (kernelRun0_A.sl.v902 (F := Ideal) c arg4 harg4 x3) (kernelRun0_A.sl.v906 (F := Ideal) c arg4 harg4 x3) (kernelRun0_A.sl.v910 (F := Ideal) c arg4 harg4 x3) (kernelRun0_A.sl.v911 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v912 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v913 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v914 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v915 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v916 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v917 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) _ _ _ _ _ hBr hBi 64 (le_refl 64)

theorem slabs3 (κ : Fin 16) (r : Fin 512) (l : Fin 128) : View.canon ((st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).2 ++ list3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (ix3 κ r l) = SLE x3 (hbF (k0_pay128 (F := Ideal) x0 x2)) x4 x1 2 r ⟨128 * κ.val + l.val, ix16_lt κ l⟩ :=
  slabs_after (inv3 ..) (fun κ n b l => seq3 (κ := κ) (n := n) (b := b) (l := l) ..) _ κ r l

/-- The sixteen stores before loop 4, and all the earlier ones. -/
abbrev list4 : List P16 := (⟨Rect.unit (s := S16x512x128) ![15, 0, 0] S1x512x128.size (by decide), kernelRun0_A.sl.v1089 (F := Ideal) c arg1 harg1 arg3 harg3 arg5 harg5 arg13 x0 x2 x4⟩ :: kernelRun0_A.sl.HS0_15_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)

abbrev Ar4 : Fin 8 → Tile := ![(kernelRun0_A.sl.v1093 (F := Ideal) c arg4 harg4 x3), (kernelRun0_A.sl.v1097 (F := Ideal) c arg4 harg4 x3), (kernelRun0_A.sl.v1101 (F := Ideal) c arg4 harg4 x3), (kernelRun0_A.sl.v1105 (F := Ideal) c arg4 harg4 x3), (kernelRun0_A.sl.v1109 (F := Ideal) c arg4 harg4 x3), (kernelRun0_A.sl.v1113 (F := Ideal) c arg4 harg4 x3), (kernelRun0_A.sl.v1117 (F := Ideal) c arg4 harg4 x3), (kernelRun0_A.sl.v1121 (F := Ideal) c arg4 harg4 x3)]
abbrev Ai4 : Fin 8 → Tile := ![(kernelRun0_A.sl.v1125 (F := Ideal) c arg4 harg4 x3), (kernelRun0_A.sl.v1129 (F := Ideal) c arg4 harg4 x3), (kernelRun0_A.sl.v1133 (F := Ideal) c arg4 harg4 x3), (kernelRun0_A.sl.v1137 (F := Ideal) c arg4 harg4 x3), (kernelRun0_A.sl.v1141 (F := Ideal) c arg4 harg4 x3), (kernelRun0_A.sl.v1145 (F := Ideal) c arg4 harg4 x3), (kernelRun0_A.sl.v1149 (F := Ideal) c arg4 harg4 x3), (k0_pay442 (F := Ideal) (kernelRun0_A.sl.v1151 (F := Ideal) c arg4 harg4 x3))]

abbrev Cr4 : Fin 8 → Tile := ![(kernelRun0_A.sl.v1154 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1155 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1156 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1157 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1158 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1159 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1160 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1161 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]
abbrev Ci4 : Fin 8 → Tile := ![(kernelRun0_A.sl.v1162 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1163 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1164 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1165 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1166 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1167 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1168 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4), (kernelRun0_A.sl.v1169 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)]

abbrev st4 : Tiles × List P16 := st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v1093 (F := Ideal) c arg4 harg4 x3) (kernelRun0_A.sl.v1097 (F := Ideal) c arg4 harg4 x3) (kernelRun0_A.sl.v1101 (F := Ideal) c arg4 harg4 x3) (kernelRun0_A.sl.v1105 (F := Ideal) c arg4 harg4 x3) (kernelRun0_A.sl.v1109 (F := Ideal) c arg4 harg4 x3) (kernelRun0_A.sl.v1113 (F := Ideal) c arg4 harg4 x3) (kernelRun0_A.sl.v1117 (F := Ideal) c arg4 harg4 x3) (kernelRun0_A.sl.v1121 (F := Ideal) c arg4 harg4 x3) (kernelRun0_A.sl.v1125 (F := Ideal) c arg4 harg4 x3) (kernelRun0_A.sl.v1129 (F := Ideal) c arg4 harg4 x3) (kernelRun0_A.sl.v1133 (F := Ideal) c arg4 harg4 x3) (kernelRun0_A.sl.v1137 (F := Ideal) c arg4 harg4 x3) (kernelRun0_A.sl.v1141 (F := Ideal) c arg4 harg4 x3) (kernelRun0_A.sl.v1145 (F := Ideal) c arg4 harg4 x3) (kernelRun0_A.sl.v1149 (F := Ideal) c arg4 harg4 x3) (kernelRun0_A.sl.v1151 (F := Ideal) c arg4 harg4 x3) (arg11.view.writes (Elt Ideal) arg11.view.junk (list4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (toT (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (Scf.trips k0_t4_loop.lb k0_t4_loop.ub k0_t4_loop.st)

theorem bu4 (y : S16x512x128.Idx) : View.canon (list4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) y = buG (hbF (k0_pay128 (F := Ideal) x0 x2)) x4 3 y := by
  have K := canon_16 (buG (kernelRun0_A.sl.r_3 (F := Ideal) c arg1 harg1 arg3 harg3 arg13 x0 x2) x4 3) (list4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) rfl (And.intro (fun x => bupiece 3 15 (by decide) (by decide) (kernelRun0_A.sl.r_3 (F := Ideal) c arg1 harg1 arg3 harg3 arg13 x0 x2) x4 _ (load_W harg5 x4 3 (by decide)) (by decide) (by decide) (by decide) x) (And.intro (fun x => bupiece 3 14 (by decide) (by decide) (kernelRun0_A.sl.r_3 (F := Ideal) c arg1 harg1 arg3 harg3 arg13 x0 x2) x4 _ (load_W harg5 x4 3 (by decide)) (by decide) (by decide) (by decide) x) (And.intro (fun x => bupiece 3 13 (by decide) (by decide) (kernelRun0_A.sl.r_3 (F := Ideal) c arg1 harg1 arg3 harg3 arg13 x0 x2) x4 _ (load_W harg5 x4 3 (by decide)) (by decide) (by decide) (by decide) x) (And.intro (fun x => bupiece 3 12 (by decide) (by decide) (kernelRun0_A.sl.r_3 (F := Ideal) c arg1 harg1 arg3 harg3 arg13 x0 x2) x4 _ (load_W harg5 x4 3 (by decide)) (by decide) (by decide) (by decide) x) (And.intro (fun x => bupiece 3 11 (by decide) (by decide) (kernelRun0_A.sl.r_3 (F := Ideal) c arg1 harg1 arg3 harg3 arg13 x0 x2) x4 _ (load_W harg5 x4 3 (by decide)) (by decide) (by decide) (by decide) x) (And.intro (fun x => bupiece 3 10 (by decide) (by decide) (kernelRun0_A.sl.r_3 (F := Ideal) c arg1 harg1 arg3 harg3 arg13 x0 x2) x4 _ (load_W harg5 x4 3 (by decide)) (by decide) (by decide) (by decide) x) (And.intro (fun x => bupiece 3 9 (by decide) (by decide) (kernelRun0_A.sl.r_3 (F := Ideal) c arg1 harg1 arg3 harg3 arg13 x0 x2) x4 _ (load_W harg5 x4 3 (by decide)) (by decide) (by decide) (by decide) x) (And.intro (fun x => bupiece 3 8 (by decide) (by decide) (kernelRun0_A.sl.r_3 (F := Ideal) c arg1 harg1 arg3 harg3 arg13 x0 x2) x4 _ (load_W harg5 x4 3 (by decide)) (by decide) (by decide) (by decide) x) (And.intro (fun x => bupiece 3 7 (by decide) (by decide) (kernelRun0_A.sl.r_3 (F := Ideal) c arg1 harg1 arg3 harg3 arg13 x0 x2) x4 _ (load_W harg5 x4 3 (by decide)) (by decide) (by decide) (by decide) x) (And.intro (fun x => bupiece 3 6 (by decide) (by decide) (kernelRun0_A.sl.r_3 (F := Ideal) c arg1 harg1 arg3 harg3 arg13 x0 x2) x4 _ (load_W harg5 x4 3 (by decide)) (by decide) (by decide) (by decide) x) (And.intro (fun x => bupiece 3 5 (by decide) (by decide) (kernelRun0_A.sl.r_3 (F := Ideal) c arg1 harg1 arg3 harg3 arg13 x0 x2) x4 _ (load_W harg5 x4 3 (by decide)) (by decide) (by decide) (by decide) x) (And.intro (fun x => bupiece 3 4 (by decide) (by decide) (kernelRun0_A.sl.r_3 (F := Ideal) c arg1 harg1 arg3 harg3 arg13 x0 x2) x4 _ (load_W harg5 x4 3 (by decide)) (by decide) (by decide) (by decide) x) (And.intro (fun x => bupiece 3 3 (by decide) (by decide) (kernelRun0_A.sl.r_3 (F := Ideal) c arg1 harg1 arg3 harg3 arg13 x0 x2) x4 _ (load_W harg5 x4 3 (by decide)) (by decide) (by decide) (by decide) x) (And.intro (fun x => bupiece 3 2 (by decide) (by decide) (kernelRun0_A.sl.r_3 (F := Ideal) c arg1 harg1 arg3 harg3 arg13 x0 x2) x4 _ (load_W harg5 x4 3 (by decide)) (by decide) (by decide) (by decide) x) (And.intro (fun x => bupiece 3 1 (by decide) (by decide) (kernelRun0_A.sl.r_3 (F := Ideal) c arg1 harg1 arg3 harg3 arg13 x0 x2) x4 _ (load_W harg5 x4 3 (by decide)) (by decide) (by decide) (by decide) x) (And.intro (fun x => bupiece 3 0 (by decide) (by decide) (kernelRun0_A.sl.r_3 (F := Ideal) c arg1 harg1 arg3 harg3 arg13 x0 x2) x4 _ (load_W harg5 x4 3 (by decide)) (by decide) (by decide) (by decide) x) (trivial))))))))))))))))) y
  rw [r3] at K
  exact K

theorem hAr4 (κ : Fin 8) (b : Fin 8) (l : Fin 128) : (Ar4 c arg4 harg4 x3) κ (ix2 b l) = x3 (ix3 3 0 ⟨128 * κ.val + l.val, by omega⟩) := by
  fin_cases κ
  · exact a_tile harg4 x3 3 0 0 (by decide) _ b l
  · exact a_tile harg4 x3 3 0 1 (by decide) _ b l
  · exact a_tile harg4 x3 3 0 2 (by decide) _ b l
  · exact a_tile harg4 x3 3 0 3 (by decide) _ b l
  · exact a_tile harg4 x3 3 0 4 (by decide) _ b l
  · exact a_tile harg4 x3 3 0 5 (by decide) _ b l
  · exact a_tile harg4 x3 3 0 6 (by decide) _ b l
  · exact a_tile harg4 x3 3 0 7 (by decide) _ b l

theorem hAi4 (κ : Fin 8) (b : Fin 8) (l : Fin 128) : (Ai4 c arg4 harg4 x3) κ (ix2 b l) = x3 (ix3 3 1 ⟨128 * κ.val + l.val, by omega⟩) := by
  fin_cases κ
  · exact a_tile harg4 x3 3 1 0 (by decide) _ b l
  · exact a_tile harg4 x3 3 1 1 (by decide) _ b l
  · exact a_tile harg4 x3 3 1 2 (by decide) _ b l
  · exact a_tile harg4 x3 3 1 3 (by decide) _ b l
  · exact a_tile harg4 x3 3 1 4 (by decide) _ b l
  · exact a_tile harg4 x3 3 1 5 (by decide) _ b l
  · exact a_tile harg4 x3 3 1 6 (by decide) _ b l
  · exact a_tile harg4 x3 3 1 7 (by decide) _ b l

theorem s04 (y : S8x8192.Idx) (hy : 6144 ≤ (y 1).val) : View.canon (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) y = x1 y := by
  have K := canon_st0 48 (by decide) (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) rfl (k0_pay126 (F := Ideal) (View.readAt (Elt Ideal) arg2.view (Rect.unit (s := S8x8192) ![0, 0] S8x8192.size (by decide)).toLoadRect (harg2.unread x1))) (by decide) rfl y hy
  rw [K, rdw harg2 x1 (by decide) _]
  obtain ⟨b, l, rfl⟩ : ∃ (b : Fin 8) (l : Fin 8192), y = ix2 b l := ⟨y 0, y 1, by pointwise⟩
  unfold k0_pay126
  pointwise

theorem hCr4 (κ : Fin 8) (b : Fin 8) (l : Fin 128) : (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) κ (ix2 b l) = x1 (ix2 b ⟨2048 * (3 : Fin 4).val + (128 * κ.val + l.val), by have h : (3 : Fin 4).val = 3 := rfl; omega⟩) := by
  fin_cases κ
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6144 (by decide) (by decide) (fun y hy => s04 (y := y) (hy := le_trans (by decide) hy) ..) b l).trans (congrArg x1 (congrArg (ix2 b) (Fin.ext (show 6144 + l.val = 2048 * 3 + (128 * 0 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6272 (by decide) (by decide) (fun y hy => s04 (y := y) (hy := le_trans (by decide) hy) ..) b l).trans (congrArg x1 (congrArg (ix2 b) (Fin.ext (show 6272 + l.val = 2048 * 3 + (128 * 1 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6400 (by decide) (by decide) (fun y hy => s04 (y := y) (hy := le_trans (by decide) hy) ..) b l).trans (congrArg x1 (congrArg (ix2 b) (Fin.ext (show 6400 + l.val = 2048 * 3 + (128 * 2 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6528 (by decide) (by decide) (fun y hy => s04 (y := y) (hy := le_trans (by decide) hy) ..) b l).trans (congrArg x1 (congrArg (ix2 b) (Fin.ext (show 6528 + l.val = 2048 * 3 + (128 * 3 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6656 (by decide) (by decide) (fun y hy => s04 (y := y) (hy := le_trans (by decide) hy) ..) b l).trans (congrArg x1 (congrArg (ix2 b) (Fin.ext (show 6656 + l.val = 2048 * 3 + (128 * 4 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6784 (by decide) (by decide) (fun y hy => s04 (y := y) (hy := le_trans (by decide) hy) ..) b l).trans (congrArg x1 (congrArg (ix2 b) (Fin.ext (show 6784 + l.val = 2048 * 3 + (128 * 5 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 6912 (by decide) (by decide) (fun y hy => s04 (y := y) (hy := le_trans (by decide) hy) ..) b l).trans (congrArg x1 (congrArg (ix2 b) (Fin.ext (show 6912 + l.val = 2048 * 3 + (128 * 6 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7040 (by decide) (by decide) (fun y hy => s04 (y := y) (hy := le_trans (by decide) hy) ..) b l).trans (congrArg x1 (congrArg (ix2 b) (Fin.ext (show 7040 + l.val = 2048 * 3 + (128 * 7 + l.val) by omega))))

theorem hCi4 (κ : Fin 8) (b : Fin 8) (l : Fin 128) : (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) κ (ix2 b l) = x1 (ix2 b ⟨2048 * (3 : Fin 4).val + 1024 + (128 * κ.val + l.val), by have h : (3 : Fin 4).val = 3 := rfl; omega⟩) := by
  fin_cases κ
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7168 (by decide) (by decide) (fun y hy => s04 (y := y) (hy := le_trans (by decide) hy) ..) b l).trans (congrArg x1 (congrArg (ix2 b) (Fin.ext (show 7168 + l.val = 2048 * 3 + 1024 + (128 * 0 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7296 (by decide) (by decide) (fun y hy => s04 (y := y) (hy := le_trans (by decide) hy) ..) b l).trans (congrArg x1 (congrArg (ix2 b) (Fin.ext (show 7296 + l.val = 2048 * 3 + 1024 + (128 * 1 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7424 (by decide) (by decide) (fun y hy => s04 (y := y) (hy := le_trans (by decide) hy) ..) b l).trans (congrArg x1 (congrArg (ix2 b) (Fin.ext (show 7424 + l.val = 2048 * 3 + 1024 + (128 * 2 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7552 (by decide) (by decide) (fun y hy => s04 (y := y) (hy := le_trans (by decide) hy) ..) b l).trans (congrArg x1 (congrArg (ix2 b) (Fin.ext (show 7552 + l.val = 2048 * 3 + 1024 + (128 * 3 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7680 (by decide) (by decide) (fun y hy => s04 (y := y) (hy := le_trans (by decide) hy) ..) b l).trans (congrArg x1 (congrArg (ix2 b) (Fin.ext (show 7680 + l.val = 2048 * 3 + 1024 + (128 * 4 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7808 (by decide) (by decide) (fun y hy => s04 (y := y) (hy := le_trans (by decide) hy) ..) b l).trans (congrArg x1 (congrArg (ix2 b) (Fin.ext (show 7808 + l.val = 2048 * 3 + 1024 + (128 * 5 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 7936 (by decide) (by decide) (fun y hy => s04 (y := y) (hy := le_trans (by decide) hy) ..) b l).trans (congrArg x1 (congrArg (ix2 b) (Fin.ext (show 7936 + l.val = 2048 * 3 + 1024 + (128 * 6 + l.val) by omega))))
  · exact (read_tile8 arg12.view (kernelRun0_A.sl.HS1_49 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x1 8064 (by decide) (by decide) (fun y hy => s04 (y := y) (hy := le_trans (by decide) hy) ..) b l).trans (congrArg x1 (congrArg (ix2 b) (Fin.ext (show 8064 + l.val = 2048 * 3 + 1024 + (128 * 7 + l.val) by omega))))

theorem seq4 (κ : Fin 8) (n : ℕ) (b : Fin 8) (l : Fin 128) : seqAt (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) κ n b l = ent x3 (hbF (k0_pay128 (F := Ideal) x0 x2)) x4 x1 3 b ⟨128 * κ.val + l.val, by omega⟩ n :=
  seq_ent (fun κ b l => hAr4 (κ := κ) (b := b) (l := l) ..) (fun κ b l => hAi4 (κ := κ) (b := b) (l := l) ..) (fun κ b l => hCr4 (κ := κ) (b := b) (l := l) ..) (fun κ b l => hCi4 (κ := κ) (b := b) (l := l) ..) κ n b l

theorem inv4 : Inv (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) := by
  have hBr : ∀ (κ : Fin 8) t (ht : t < 64) (b : Fin 8) (l : Fin 128), arg11.view.read (Elt Ideal) (arg11.view.writes (Elt Ideal) arg11.view.junk (list4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (ix3 ⟨κ.val, by omega⟩ ⟨8 * t + b, by omega⟩ l) = brOf (hbF (k0_pay128 (F := Ideal) x0 x2)) x4 3 κ t b l := by
    intro κ t ht b l
    rw [View.read_writes_junk_eq_canon]
    exact (bu4 (y := _) ..).trans (br_eq _ _ _ κ t ht b l)
  have hBi : ∀ (κ : Fin 8) t (ht : t < 64) (b : Fin 8) (l : Fin 128), arg11.view.read (Elt Ideal) (arg11.view.writes (Elt Ideal) arg11.view.junk (list4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4)) (ix3 ⟨8 + κ.val, by omega⟩ ⟨8 * t + b, by omega⟩ l) = biOf (hbF (k0_pay128 (F := Ideal) x0 x2)) x4 3 κ t b l := by
    intro κ t ht b l
    rw [View.read_writes_junk_eq_canon]
    exact (bu4 (y := _) ..).trans (bi_eq _ _ _ κ t ht b l)
  exact loop4 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.v1093 (F := Ideal) c arg4 harg4 x3) (kernelRun0_A.sl.v1097 (F := Ideal) c arg4 harg4 x3) (kernelRun0_A.sl.v1101 (F := Ideal) c arg4 harg4 x3) (kernelRun0_A.sl.v1105 (F := Ideal) c arg4 harg4 x3) (kernelRun0_A.sl.v1109 (F := Ideal) c arg4 harg4 x3) (kernelRun0_A.sl.v1113 (F := Ideal) c arg4 harg4 x3) (kernelRun0_A.sl.v1117 (F := Ideal) c arg4 harg4 x3) (kernelRun0_A.sl.v1121 (F := Ideal) c arg4 harg4 x3) (kernelRun0_A.sl.v1125 (F := Ideal) c arg4 harg4 x3) (kernelRun0_A.sl.v1129 (F := Ideal) c arg4 harg4 x3) (kernelRun0_A.sl.v1133 (F := Ideal) c arg4 harg4 x3) (kernelRun0_A.sl.v1137 (F := Ideal) c arg4 harg4 x3) (kernelRun0_A.sl.v1141 (F := Ideal) c arg4 harg4 x3) (kernelRun0_A.sl.v1145 (F := Ideal) c arg4 harg4 x3) (kernelRun0_A.sl.v1149 (F := Ideal) c arg4 harg4 x3) (kernelRun0_A.sl.v1151 (F := Ideal) c arg4 harg4 x3) _ _ _ _ _ hBr hBi 64 (le_refl 64)

theorem slabs4 (κ : Fin 16) (r : Fin 512) (l : Fin 128) : View.canon ((st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).2 ++ list4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (ix3 κ r l) = SLE x3 (hbF (k0_pay128 (F := Ideal) x0 x2)) x4 x1 3 r ⟨128 * κ.val + l.val, ix16_lt κ l⟩ :=
  slabs_after (inv4 ..) (fun κ n b l => seq4 (κ := κ) (n := n) (b := b) (l := l) ..) _ κ r l

theorem c1_0 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 0 := by
  rw [(inv1 ..).carry]; rfl

theorem c1_1 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 1 := by
  rw [(inv1 ..).carry]; rfl

theorem c1_2 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 2 := by
  rw [(inv1 ..).carry]; rfl

theorem c1_3 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 3 := by
  rw [(inv1 ..).carry]; rfl

theorem c1_4 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 4 := by
  rw [(inv1 ..).carry]; rfl

theorem c1_5 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 5 := by
  rw [(inv1 ..).carry]; rfl

theorem c1_6 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 6 := by
  rw [(inv1 ..).carry]; rfl

theorem c1_7 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.1 = tr (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 7 := by
  rw [(inv1 ..).carry]; rfl

theorem c1_8 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 0 := by
  rw [(inv1 ..).carry]; rfl

theorem c1_9 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 1 := by
  rw [(inv1 ..).carry]; rfl

theorem c1_10 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 2 := by
  rw [(inv1 ..).carry]; rfl

theorem c1_11 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 3 := by
  rw [(inv1 ..).carry]; rfl

theorem c1_12 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 4 := by
  rw [(inv1 ..).carry]; rfl

theorem c1_13 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 5 := by
  rw [(inv1 ..).carry]; rfl

theorem c1_14 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.1 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 6 := by
  rw [(inv1 ..).carry]; rfl

theorem c1_15 : (st1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.2 = ti (Ar1 c arg4 harg4 x3) (Ai1 c arg4 harg4 x3) (Cr1 c arg2 harg2 arg12 x1) (Ci1 c arg2 harg2 arg12 x1) (brOf (hbF (k0_pay128 (F := Ideal) x0 x2)) x4 0) (biOf (hbF (k0_pay128 (F := Ideal) x0 x2)) x4 0) 64 7 := by
  rw [(inv1 ..).carry]; rfl

theorem c2_0 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 0 := by
  rw [(inv2 ..).carry]; rfl

theorem c2_1 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 1 := by
  rw [(inv2 ..).carry]; rfl

theorem c2_2 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 2 := by
  rw [(inv2 ..).carry]; rfl

theorem c2_3 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 3 := by
  rw [(inv2 ..).carry]; rfl

theorem c2_4 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 4 := by
  rw [(inv2 ..).carry]; rfl

theorem c2_5 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 5 := by
  rw [(inv2 ..).carry]; rfl

theorem c2_6 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 6 := by
  rw [(inv2 ..).carry]; rfl

theorem c2_7 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.1 = tr (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 7 := by
  rw [(inv2 ..).carry]; rfl

theorem c2_8 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 0 := by
  rw [(inv2 ..).carry]; rfl

theorem c2_9 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 1 := by
  rw [(inv2 ..).carry]; rfl

theorem c2_10 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 2 := by
  rw [(inv2 ..).carry]; rfl

theorem c2_11 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 3 := by
  rw [(inv2 ..).carry]; rfl

theorem c2_12 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 4 := by
  rw [(inv2 ..).carry]; rfl

theorem c2_13 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 5 := by
  rw [(inv2 ..).carry]; rfl

theorem c2_14 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.1 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 6 := by
  rw [(inv2 ..).carry]; rfl

theorem c2_15 : (st2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.2 = ti (Ar2 c arg4 harg4 x3) (Ai2 c arg4 harg4 x3) (Cr2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 1) (biOf (hbF (k0_pay128 (F := Ideal) x0 x2)) x4 1) 64 7 := by
  rw [(inv2 ..).carry]; rfl

theorem c3_0 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 0 := by
  rw [(inv3 ..).carry]; rfl

theorem c3_1 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 1 := by
  rw [(inv3 ..).carry]; rfl

theorem c3_2 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 2 := by
  rw [(inv3 ..).carry]; rfl

theorem c3_3 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 3 := by
  rw [(inv3 ..).carry]; rfl

theorem c3_4 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 4 := by
  rw [(inv3 ..).carry]; rfl

theorem c3_5 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 5 := by
  rw [(inv3 ..).carry]; rfl

theorem c3_6 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 6 := by
  rw [(inv3 ..).carry]; rfl

theorem c3_7 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.1 = tr (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 7 := by
  rw [(inv3 ..).carry]; rfl

theorem c3_8 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 0 := by
  rw [(inv3 ..).carry]; rfl

theorem c3_9 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 1 := by
  rw [(inv3 ..).carry]; rfl

theorem c3_10 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 2 := by
  rw [(inv3 ..).carry]; rfl

theorem c3_11 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 3 := by
  rw [(inv3 ..).carry]; rfl

theorem c3_12 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 4 := by
  rw [(inv3 ..).carry]; rfl

theorem c3_13 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 5 := by
  rw [(inv3 ..).carry]; rfl

theorem c3_14 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.1 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 6 := by
  rw [(inv3 ..).carry]; rfl

theorem c3_15 : (st3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.2 = ti (Ar3 c arg4 harg4 x3) (Ai3 c arg4 harg4 x3) (Cr3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 2) (biOf (hbF (k0_pay128 (F := Ideal) x0 x2)) x4 2) 64 7 := by
  rw [(inv3 ..).carry]; rfl

theorem c4_0 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 0 := by
  rw [(inv4 ..).carry]; rfl

theorem c4_1 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 1 := by
  rw [(inv4 ..).carry]; rfl

theorem c4_2 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 2 := by
  rw [(inv4 ..).carry]; rfl

theorem c4_3 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 3 := by
  rw [(inv4 ..).carry]; rfl

theorem c4_4 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 4 := by
  rw [(inv4 ..).carry]; rfl

theorem c4_5 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 5 := by
  rw [(inv4 ..).carry]; rfl

theorem c4_6 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 6 := by
  rw [(inv4 ..).carry]; rfl

theorem c4_7 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.1 = tr (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 7 := by
  rw [(inv4 ..).carry]; rfl

theorem c4_8 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 0 := by
  rw [(inv4 ..).carry]; rfl

theorem c4_9 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 1 := by
  rw [(inv4 ..).carry]; rfl

theorem c4_10 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 2 := by
  rw [(inv4 ..).carry]; rfl

theorem c4_11 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 3 := by
  rw [(inv4 ..).carry]; rfl

theorem c4_12 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 4 := by
  rw [(inv4 ..).carry]; rfl

theorem c4_13 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 5 := by
  rw [(inv4 ..).carry]; rfl

theorem c4_14 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.1 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 6 := by
  rw [(inv4 ..).carry]; rfl

theorem c4_15 : (st4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4).1.2.2.2.2.2.2.2.2.2.2.2.2.2.2.2 = ti (Ar4 c arg4 harg4 x3) (Ai4 c arg4 harg4 x3) (Cr4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (Ci4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (brOf (hbF (k0_pay128 (F := Ideal) x0 x2)) x4 3) (biOf (hbF (k0_pay128 (F := Ideal) x0 x2)) x4 3) 64 7 := by
  rw [(inv4 ..).carry]; rfl

/-- The output block before its last addition: the values of y with the skip term. -/
abbrev Yd : FVec Ideal S512x1024 .f32 := addf (Ymat arg14.view (kernelRun0_A.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5)) (mulf (broadcastTo S512x1024 (shapeCast S1x1024 (View.readAt (Elt Ideal) arg7.view (Rect.unit (s := S1x1024) ![0, 0] S1x1024.size (by decide)).toLoadRect (harg7.unread x6)) shapeCasts_S1x1024_S1x1024) broadcasts_S1x1024_S512x1024) (kernelRun0_A.sl.r_1 (F := Ideal) c arg1 harg1 arg3 harg3 x0 x2))

theorem zst : (kernelRun0_A.sl.r_70 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) = k0_pay503 (F := Ideal) (mulf (broadcast S512x1024 (Scalar.ofBits .f32 0x3F000000#32)) (Yd c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)) (erf (mulf (Yd c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6) (broadcast S512x1024 (Scalar.ofBits .f32 0x3F3504F3#32)))) (View.readAt (Elt Ideal) arg8.view (Rect.unit (s := S1024x2048) ![0, 0] S1024x2048.size (by decide)).toLoadRect (harg8.unread x7)) := rfl

end Cert.S5.PA
-- ==== Proof.SIPay2.lean ====
/- The eight slabs of y that the S5 body stores, each from the sixteen slabs of the state beside it. -/
module

public import proofs.«01_k».proof.Proof.SIPay
public import proofs.«01_k».proof.Proof.SISpec

@[expose] public section

set_option maxRecDepth 65536
set_option maxHeartbeats 1600000

noncomputable section

namespace Cert.S5

open Idealize.ShloMosaic Idealize.ShloMosaic.TcCoe Idealize.SL.Sem Cert.Kernel2Ideal Cert.Kernel2Ideal.Gen

theorem yp0_0 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S512x128 .f32) (v6 : FVec Ideal S512x128 .f32) (v7 : FVec Ideal S1x512x128 .f32) (v8 : FVec Ideal S1x512x128 .f32) (v9 : FVec Ideal S1x512x128 .f32) (v10 : FVec Ideal S1x512x128 .f32) (v11 : FVec Ideal S1x512x128 .f32) (v12 : FVec Ideal S1x512x128 .f32) (v13 : FVec Ideal S1x512x128 .f32) (v14 : FVec Ideal S1x512x128 .f32) (v15 : FVec Ideal S1x512x128 .f32)
    (h0 : ∀ (r : Fin 512) (l : Fin 128), (v0 : FVec Ideal S512x128 .f32) (ix2 r l) = SL 0 r ⟨128 * ((0 : Fin 16) : ℕ) + l.val, ix16_lt 0 l⟩)
    (h1 : ∀ (r : Fin 512) (l : Fin 128), (v1 : FVec Ideal S512x128 .f32) (ix2 r l) = SL 0 r ⟨128 * ((1 : Fin 16) : ℕ) + l.val, ix16_lt 1 l⟩)
    (h2 : ∀ (r : Fin 512) (l : Fin 128), (v2 : FVec Ideal S512x128 .f32) (ix2 r l) = SL 0 r ⟨128 * ((2 : Fin 16) : ℕ) + l.val, ix16_lt 2 l⟩)
    (h3 : ∀ (r : Fin 512) (l : Fin 128), (v3 : FVec Ideal S512x128 .f32) (ix2 r l) = SL 0 r ⟨128 * ((3 : Fin 16) : ℕ) + l.val, ix16_lt 3 l⟩)
    (h4 : ∀ (r : Fin 512) (l : Fin 128), (v4 : FVec Ideal S512x128 .f32) (ix2 r l) = SL 0 r ⟨128 * ((4 : Fin 16) : ℕ) + l.val, ix16_lt 4 l⟩)
    (h5 : ∀ (r : Fin 512) (l : Fin 128), (v5 : FVec Ideal S512x128 .f32) (ix2 r l) = SL 0 r ⟨128 * ((5 : Fin 16) : ℕ) + l.val, ix16_lt 5 l⟩)
    (h6 : ∀ (r : Fin 512) (l : Fin 128), (v6 : FVec Ideal S512x128 .f32) (ix2 r l) = SL 0 r ⟨128 * ((6 : Fin 16) : ℕ) + l.val, ix16_lt 6 l⟩)
    (h7 : ∀ (r : Fin 512) (l : Fin 128), ((shapeCast S512x128 v7 shapeCasts_S1x512x128_S512x128) : FVec Ideal S512x128 .f32) (ix2 r l) = SL 0 r ⟨128 * ((7 : Fin 16) : ℕ) + l.val, ix16_lt 7 l⟩)
    (h8 : ∀ (r : Fin 512) (l : Fin 128), ((shapeCast S512x128 v8 shapeCasts_S1x512x128_S512x128) : FVec Ideal S512x128 .f32) (ix2 r l) = SL 0 r ⟨128 * ((8 : Fin 16) : ℕ) + l.val, ix16_lt 8 l⟩)
    (h9 : ∀ (r : Fin 512) (l : Fin 128), ((shapeCast S512x128 v9 shapeCasts_S1x512x128_S512x128) : FVec Ideal S512x128 .f32) (ix2 r l) = SL 0 r ⟨128 * ((9 : Fin 16) : ℕ) + l.val, ix16_lt 9 l⟩)
    (h10 : ∀ (r : Fin 512) (l : Fin 128), ((shapeCast S512x128 v10 shapeCasts_S1x512x128_S512x128) : FVec Ideal S512x128 .f32) (ix2 r l) = SL 0 r ⟨128 * ((10 : Fin 16) : ℕ) + l.val, ix16_lt 10 l⟩)
    (h11 : ∀ (r : Fin 512) (l : Fin 128), ((shapeCast S512x128 v11 shapeCasts_S1x512x128_S512x128) : FVec Ideal S512x128 .f32) (ix2 r l) = SL 0 r ⟨128 * ((11 : Fin 16) : ℕ) + l.val, ix16_lt 11 l⟩)
    (h12 : ∀ (r : Fin 512) (l : Fin 128), ((shapeCast S512x128 v12 shapeCasts_S1x512x128_S512x128) : FVec Ideal S512x128 .f32) (ix2 r l) = SL 0 r ⟨128 * ((12 : Fin 16) : ℕ) + l.val, ix16_lt 12 l⟩)
    (h13 : ∀ (r : Fin 512) (l : Fin 128), ((shapeCast S512x128 v13 shapeCasts_S1x512x128_S512x128) : FVec Ideal S512x128 .f32) (ix2 r l) = SL 0 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 0 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 0 r ⟨128 * ((15 : Fin 16) : ℕ) + l.val, ix16_lt 15 l⟩)
    (C1 : FVec Ideal S1x2048x256 .bf16) (hC : ∀ (n : Fin 2048) (o : Fin 256), C1 (ix3 0 n o) = C (ix3 0 n o))
    (inb : ∀ a : Fin 3, (![0, 0, 0] : Fin 3 → ℕ) a + S1x512x128.size a ≤ S8x512x128.size a) (x : S1x512x128.Idx) :
    k0_pay264 (F := Ideal) v0 v1 v2 v3 v4 v5 v6 v7 v8 v9 v10 v11 v12 v13 v14 v15 C1 x = yG SL C ((Rect.unit (s := S8x512x128) ![0, 0, 0] S1x512x128.size inb).emb x) :=
  ypiece 0 0 (by decide) (by decide) SL C ![v0, v1, v2, v3, v4, v5, v6, (shapeCast S512x128 v7 shapeCasts_S1x512x128_S512x128), (shapeCast S512x128 v8 shapeCasts_S1x512x128_S512x128), (shapeCast S512x128 v9 shapeCasts_S1x512x128_S512x128), (shapeCast S512x128 v10 shapeCasts_S1x512x128_S512x128), (shapeCast S512x128 v11 shapeCasts_S1x512x128_S512x128), (shapeCast S512x128 v12 shapeCasts_S1x512x128_S512x128), (shapeCast S512x128 v13 shapeCasts_S1x512x128_S512x128), (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp0_1 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S512x128 .f32) (v6 : FVec Ideal S512x128 .f32) (v7 : FVec Ideal S1x512x128 .f32) (v8 : FVec Ideal S1x512x128 .f32) (v9 : FVec Ideal S1x512x128 .f32) (v10 : FVec Ideal S1x512x128 .f32) (v11 : FVec Ideal S1x512x128 .f32) (v12 : FVec Ideal S1x512x128 .f32) (v13 : FVec Ideal S1x512x128 .f32) (v14 : FVec Ideal S1x512x128 .f32) (v15 : FVec Ideal S1x512x128 .f32)
    (h0 : ∀ (r : Fin 512) (l : Fin 128), (v0 : FVec Ideal S512x128 .f32) (ix2 r l) = SL 0 r ⟨128 * ((0 : Fin 16) : ℕ) + l.val, ix16_lt 0 l⟩)
    (h1 : ∀ (r : Fin 512) (l : Fin 128), (v1 : FVec Ideal S512x128 .f32) (ix2 r l) = SL 0 r ⟨128 * ((1 : Fin 16) : ℕ) + l.val, ix16_lt 1 l⟩)
    (h2 : ∀ (r : Fin 512) (l : Fin 128), (v2 : FVec Ideal S512x128 .f32) (ix2 r l) = SL 0 r ⟨128 * ((2 : Fin 16) : ℕ) + l.val, ix16_lt 2 l⟩)
    (h3 : ∀ (r : Fin 512) (l : Fin 128), (v3 : FVec Ideal S512x128 .f32) (ix2 r l) = SL 0 r ⟨128 * ((3 : Fin 16) : ℕ) + l.val, ix16_lt 3 l⟩)
    (h4 : ∀ (r : Fin 512) (l : Fin 128), (v4 : FVec Ideal S512x128 .f32) (ix2 r l) = SL 0 r ⟨128 * ((4 : Fin 16) : ℕ) + l.val, ix16_lt 4 l⟩)
    (h5 : ∀ (r : Fin 512) (l : Fin 128), (v5 : FVec Ideal S512x128 .f32) (ix2 r l) = SL 0 r ⟨128 * ((5 : Fin 16) : ℕ) + l.val, ix16_lt 5 l⟩)
    (h6 : ∀ (r : Fin 512) (l : Fin 128), (v6 : FVec Ideal S512x128 .f32) (ix2 r l) = SL 0 r ⟨128 * ((6 : Fin 16) : ℕ) + l.val, ix16_lt 6 l⟩)
    (h7 : ∀ (r : Fin 512) (l : Fin 128), ((shapeCast S512x128 v7 shapeCasts_S1x512x128_S512x128) : FVec Ideal S512x128 .f32) (ix2 r l) = SL 0 r ⟨128 * ((7 : Fin 16) : ℕ) + l.val, ix16_lt 7 l⟩)
    (h8 : ∀ (r : Fin 512) (l : Fin 128), ((shapeCast S512x128 v8 shapeCasts_S1x512x128_S512x128) : FVec Ideal S512x128 .f32) (ix2 r l) = SL 0 r ⟨128 * ((8 : Fin 16) : ℕ) + l.val, ix16_lt 8 l⟩)
    (h9 : ∀ (r : Fin 512) (l : Fin 128), ((shapeCast S512x128 v9 shapeCasts_S1x512x128_S512x128) : FVec Ideal S512x128 .f32) (ix2 r l) = SL 0 r ⟨128 * ((9 : Fin 16) : ℕ) + l.val, ix16_lt 9 l⟩)
    (h10 : ∀ (r : Fin 512) (l : Fin 128), ((shapeCast S512x128 v10 shapeCasts_S1x512x128_S512x128) : FVec Ideal S512x128 .f32) (ix2 r l) = SL 0 r ⟨128 * ((10 : Fin 16) : ℕ) + l.val, ix16_lt 10 l⟩)
    (h11 : ∀ (r : Fin 512) (l : Fin 128), ((shapeCast S512x128 v11 shapeCasts_S1x512x128_S512x128) : FVec Ideal S512x128 .f32) (ix2 r l) = SL 0 r ⟨128 * ((11 : Fin 16) : ℕ) + l.val, ix16_lt 11 l⟩)
    (h12 : ∀ (r : Fin 512) (l : Fin 128), ((shapeCast S512x128 v12 shapeCasts_S1x512x128_S512x128) : FVec Ideal S512x128 .f32) (ix2 r l) = SL 0 r ⟨128 * ((12 : Fin 16) : ℕ) + l.val, ix16_lt 12 l⟩)
    (h13 : ∀ (r : Fin 512) (l : Fin 128), ((shapeCast S512x128 v13 shapeCasts_S1x512x128_S512x128) : FVec Ideal S512x128 .f32) (ix2 r l) = SL 0 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 0 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 0 r ⟨128 * ((15 : Fin 16) : ℕ) + l.val, ix16_lt 15 l⟩)
    (C1 : FVec Ideal S1x2048x256 .bf16) (hC : ∀ (n : Fin 2048) (o : Fin 256), C1 (ix3 0 n o) = C (ix3 0 n o))
    (inb : ∀ a : Fin 3, (![1, 0, 0] : Fin 3 → ℕ) a + S1x512x128.size a ≤ S8x512x128.size a) (x : S1x512x128.Idx) :
    k0_pay265 (F := Ideal) (k0_pay263 (F := Ideal) v0 v1 v2 v3 v4 v5 v6 v7 v8 v9 v10 v11 v12 v13 v14 v15 C1) x = yG SL C ((Rect.unit (s := S8x512x128) ![1, 0, 0] S1x512x128.size inb).emb x) :=
  ypiece 0 1 (by decide) (by decide) SL C ![v0, v1, v2, v3, v4, v5, v6, (shapeCast S512x128 v7 shapeCasts_S1x512x128_S512x128), (shapeCast S512x128 v8 shapeCasts_S1x512x128_S512x128), (shapeCast S512x128 v9 shapeCasts_S1x512x128_S512x128), (shapeCast S512x128 v10 shapeCasts_S1x512x128_S512x128), (shapeCast S512x128 v11 shapeCasts_S1x512x128_S512x128), (shapeCast S512x128 v12 shapeCasts_S1x512x128_S512x128), (shapeCast S512x128 v13 shapeCasts_S1x512x128_S512x128), (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp1_0 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S512x128 .f32) (v6 : FVec Ideal S512x128 .f32) (v7 : FVec Ideal S512x128 .f32) (v8 : FVec Ideal S512x128 .f32) (v9 : FVec Ideal S512x128 .f32) (v10 : FVec Ideal S512x128 .f32) (v11 : FVec Ideal S512x128 .f32) (v12 : FVec Ideal S512x128 .f32) (v13 : FVec Ideal S512x128 .f32) (v14 : FVec Ideal S1x512x128 .f32) (v15 : FVec Ideal S1x512x128 .f32)
    (h0 : ∀ (r : Fin 512) (l : Fin 128), (v0 : FVec Ideal S512x128 .f32) (ix2 r l) = SL 1 r ⟨128 * ((0 : Fin 16) : ℕ) + l.val, ix16_lt 0 l⟩)
    (h1 : ∀ (r : Fin 512) (l : Fin 128), (v1 : FVec Ideal S512x128 .f32) (ix2 r l) = SL 1 r ⟨128 * ((1 : Fin 16) : ℕ) + l.val, ix16_lt 1 l⟩)
    (h2 : ∀ (r : Fin 512) (l : Fin 128), (v2 : FVec Ideal S512x128 .f32) (ix2 r l) = SL 1 r ⟨128 * ((2 : Fin 16) : ℕ) + l.val, ix16_lt 2 l⟩)
    (h3 : ∀ (r : Fin 512) (l : Fin 128), (v3 : FVec Ideal S512x128 .f32) (ix2 r l) = SL 1 r ⟨128 * ((3 : Fin 16) : ℕ) + l.val, ix16_lt 3 l⟩)
    (h4 : ∀ (r : Fin 512) (l : Fin 128), (v4 : FVec Ideal S512x128 .f32) (ix2 r l) = SL 1 r ⟨128 * ((4 : Fin 16) : ℕ) + l.val, ix16_lt 4 l⟩)
    (h5 : ∀ (r : Fin 512) (l : Fin 128), (v5 : FVec Ideal S512x128 .f32) (ix2 r l) = SL 1 r ⟨128 * ((5 : Fin 16) : ℕ) + l.val, ix16_lt 5 l⟩)
    (h6 : ∀ (r : Fin 512) (l : Fin 128), (v6 : FVec Ideal S512x128 .f32) (ix2 r l) = SL 1 r ⟨128 * ((6 : Fin 16) : ℕ) + l.val, ix16_lt 6 l⟩)
    (h7 : ∀ (r : Fin 512) (l : Fin 128), (v7 : FVec Ideal S512x128 .f32) (ix2 r l) = SL 1 r ⟨128 * ((7 : Fin 16) : ℕ) + l.val, ix16_lt 7 l⟩)
    (h8 : ∀ (r : Fin 512) (l : Fin 128), (v8 : FVec Ideal S512x128 .f32) (ix2 r l) = SL 1 r ⟨128 * ((8 : Fin 16) : ℕ) + l.val, ix16_lt 8 l⟩)
    (h9 : ∀ (r : Fin 512) (l : Fin 128), (v9 : FVec Ideal S512x128 .f32) (ix2 r l) = SL 1 r ⟨128 * ((9 : Fin 16) : ℕ) + l.val, ix16_lt 9 l⟩)
    (h10 : ∀ (r : Fin 512) (l : Fin 128), (v10 : FVec Ideal S512x128 .f32) (ix2 r l) = SL 1 r ⟨128 * ((10 : Fin 16) : ℕ) + l.val, ix16_lt 10 l⟩)
    (h11 : ∀ (r : Fin 512) (l : Fin 128), (v11 : FVec Ideal S512x128 .f32) (ix2 r l) = SL 1 r ⟨128 * ((11 : Fin 16) : ℕ) + l.val, ix16_lt 11 l⟩)
    (h12 : ∀ (r : Fin 512) (l : Fin 128), (v12 : FVec Ideal S512x128 .f32) (ix2 r l) = SL 1 r ⟨128 * ((12 : Fin 16) : ℕ) + l.val, ix16_lt 12 l⟩)
    (h13 : ∀ (r : Fin 512) (l : Fin 128), (v13 : FVec Ideal S512x128 .f32) (ix2 r l) = SL 1 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 1 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 1 r ⟨128 * ((15 : Fin 16) : ℕ) + l.val, ix16_lt 15 l⟩)
    (C1 : FVec Ideal S1x2048x256 .bf16) (hC : ∀ (n : Fin 2048) (o : Fin 256), C1 (ix3 0 n o) = C (ix3 1 n o))
    (inb : ∀ a : Fin 3, (![2, 0, 0] : Fin 3 → ℕ) a + S1x512x128.size a ≤ S8x512x128.size a) (x : S1x512x128.Idx) :
    k0_pay335 (F := Ideal) v0 v1 v2 v3 v4 v5 v6 v7 v8 v9 v10 v11 v12 v13 v14 v15 C1 x = yG SL C ((Rect.unit (s := S8x512x128) ![2, 0, 0] S1x512x128.size inb).emb x) :=
  ypiece 1 0 (by decide) (by decide) SL C ![v0, v1, v2, v3, v4, v5, v6, v7, v8, v9, v10, v11, v12, v13, (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp1_1 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S512x128 .f32) (v6 : FVec Ideal S512x128 .f32) (v7 : FVec Ideal S512x128 .f32) (v8 : FVec Ideal S512x128 .f32) (v9 : FVec Ideal S512x128 .f32) (v10 : FVec Ideal S512x128 .f32) (v11 : FVec Ideal S512x128 .f32) (v12 : FVec Ideal S512x128 .f32) (v13 : FVec Ideal S512x128 .f32) (v14 : FVec Ideal S1x512x128 .f32) (v15 : FVec Ideal S1x512x128 .f32)
    (h0 : ∀ (r : Fin 512) (l : Fin 128), (v0 : FVec Ideal S512x128 .f32) (ix2 r l) = SL 1 r ⟨128 * ((0 : Fin 16) : ℕ) + l.val, ix16_lt 0 l⟩)
    (h1 : ∀ (r : Fin 512) (l : Fin 128), (v1 : FVec Ideal S512x128 .f32) (ix2 r l) = SL 1 r ⟨128 * ((1 : Fin 16) : ℕ) + l.val, ix16_lt 1 l⟩)
    (h2 : ∀ (r : Fin 512) (l : Fin 128), (v2 : FVec Ideal S512x128 .f32) (ix2 r l) = SL 1 r ⟨128 * ((2 : Fin 16) : ℕ) + l.val, ix16_lt 2 l⟩)
    (h3 : ∀ (r : Fin 512) (l : Fin 128), (v3 : FVec Ideal S512x128 .f32) (ix2 r l) = SL 1 r ⟨128 * ((3 : Fin 16) : ℕ) + l.val, ix16_lt 3 l⟩)
    (h4 : ∀ (r : Fin 512) (l : Fin 128), (v4 : FVec Ideal S512x128 .f32) (ix2 r l) = SL 1 r ⟨128 * ((4 : Fin 16) : ℕ) + l.val, ix16_lt 4 l⟩)
    (h5 : ∀ (r : Fin 512) (l : Fin 128), (v5 : FVec Ideal S512x128 .f32) (ix2 r l) = SL 1 r ⟨128 * ((5 : Fin 16) : ℕ) + l.val, ix16_lt 5 l⟩)
    (h6 : ∀ (r : Fin 512) (l : Fin 128), (v6 : FVec Ideal S512x128 .f32) (ix2 r l) = SL 1 r ⟨128 * ((6 : Fin 16) : ℕ) + l.val, ix16_lt 6 l⟩)
    (h7 : ∀ (r : Fin 512) (l : Fin 128), (v7 : FVec Ideal S512x128 .f32) (ix2 r l) = SL 1 r ⟨128 * ((7 : Fin 16) : ℕ) + l.val, ix16_lt 7 l⟩)
    (h8 : ∀ (r : Fin 512) (l : Fin 128), (v8 : FVec Ideal S512x128 .f32) (ix2 r l) = SL 1 r ⟨128 * ((8 : Fin 16) : ℕ) + l.val, ix16_lt 8 l⟩)
    (h9 : ∀ (r : Fin 512) (l : Fin 128), (v9 : FVec Ideal S512x128 .f32) (ix2 r l) = SL 1 r ⟨128 * ((9 : Fin 16) : ℕ) + l.val, ix16_lt 9 l⟩)
    (h10 : ∀ (r : Fin 512) (l : Fin 128), (v10 : FVec Ideal S512x128 .f32) (ix2 r l) = SL 1 r ⟨128 * ((10 : Fin 16) : ℕ) + l.val, ix16_lt 10 l⟩)
    (h11 : ∀ (r : Fin 512) (l : Fin 128), (v11 : FVec Ideal S512x128 .f32) (ix2 r l) = SL 1 r ⟨128 * ((11 : Fin 16) : ℕ) + l.val, ix16_lt 11 l⟩)
    (h12 : ∀ (r : Fin 512) (l : Fin 128), (v12 : FVec Ideal S512x128 .f32) (ix2 r l) = SL 1 r ⟨128 * ((12 : Fin 16) : ℕ) + l.val, ix16_lt 12 l⟩)
    (h13 : ∀ (r : Fin 512) (l : Fin 128), (v13 : FVec Ideal S512x128 .f32) (ix2 r l) = SL 1 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 1 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 1 r ⟨128 * ((15 : Fin 16) : ℕ) + l.val, ix16_lt 15 l⟩)
    (C1 : FVec Ideal S1x2048x256 .bf16) (hC : ∀ (n : Fin 2048) (o : Fin 256), C1 (ix3 0 n o) = C (ix3 1 n o))
    (inb : ∀ a : Fin 3, (![3, 0, 0] : Fin 3 → ℕ) a + S1x512x128.size a ≤ S8x512x128.size a) (x : S1x512x128.Idx) :
    k0_pay336 (F := Ideal) v0 v1 v2 v3 v4 v5 v6 v7 v8 v9 v10 v11 v12 v13 v14 v15 C1 x = yG SL C ((Rect.unit (s := S8x512x128) ![3, 0, 0] S1x512x128.size inb).emb x) :=
  ypiece 1 1 (by decide) (by decide) SL C ![v0, v1, v2, v3, v4, v5, v6, v7, v8, v9, v10, v11, v12, v13, (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp2_0 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S512x128 .f32) (v6 : FVec Ideal S512x128 .f32) (v7 : FVec Ideal S512x128 .f32) (v8 : FVec Ideal S512x128 .f32) (v9 : FVec Ideal S512x128 .f32) (v10 : FVec Ideal S1x512x128 .f32) (v11 : FVec Ideal S1x512x128 .f32) (v12 : FVec Ideal S1x512x128 .f32) (v13 : FVec Ideal S1x512x128 .f32) (v14 : FVec Ideal S1x512x128 .f32) (v15 : FVec Ideal S1x512x128 .f32)
    (h0 : ∀ (r : Fin 512) (l : Fin 128), (v0 : FVec Ideal S512x128 .f32) (ix2 r l) = SL 2 r ⟨128 * ((0 : Fin 16) : ℕ) + l.val, ix16_lt 0 l⟩)
    (h1 : ∀ (r : Fin 512) (l : Fin 128), (v1 : FVec Ideal S512x128 .f32) (ix2 r l) = SL 2 r ⟨128 * ((1 : Fin 16) : ℕ) + l.val, ix16_lt 1 l⟩)
    (h2 : ∀ (r : Fin 512) (l : Fin 128), (v2 : FVec Ideal S512x128 .f32) (ix2 r l) = SL 2 r ⟨128 * ((2 : Fin 16) : ℕ) + l.val, ix16_lt 2 l⟩)
    (h3 : ∀ (r : Fin 512) (l : Fin 128), (v3 : FVec Ideal S512x128 .f32) (ix2 r l) = SL 2 r ⟨128 * ((3 : Fin 16) : ℕ) + l.val, ix16_lt 3 l⟩)
    (h4 : ∀ (r : Fin 512) (l : Fin 128), (v4 : FVec Ideal S512x128 .f32) (ix2 r l) = SL 2 r ⟨128 * ((4 : Fin 16) : ℕ) + l.val, ix16_lt 4 l⟩)
    (h5 : ∀ (r : Fin 512) (l : Fin 128), (v5 : FVec Ideal S512x128 .f32) (ix2 r l) = SL 2 r ⟨128 * ((5 : Fin 16) : ℕ) + l.val, ix16_lt 5 l⟩)
    (h6 : ∀ (r : Fin 512) (l : Fin 128), (v6 : FVec Ideal S512x128 .f32) (ix2 r l) = SL 2 r ⟨128 * ((6 : Fin 16) : ℕ) + l.val, ix16_lt 6 l⟩)
    (h7 : ∀ (r : Fin 512) (l : Fin 128), (v7 : FVec Ideal S512x128 .f32) (ix2 r l) = SL 2 r ⟨128 * ((7 : Fin 16) : ℕ) + l.val, ix16_lt 7 l⟩)
    (h8 : ∀ (r : Fin 512) (l : Fin 128), (v8 : FVec Ideal S512x128 .f32) (ix2 r l) = SL 2 r ⟨128 * ((8 : Fin 16) : ℕ) + l.val, ix16_lt 8 l⟩)
    (h9 : ∀ (r : Fin 512) (l : Fin 128), (v9 : FVec Ideal S512x128 .f32) (ix2 r l) = SL 2 r ⟨128 * ((9 : Fin 16) : ℕ) + l.val, ix16_lt 9 l⟩)
    (h10 : ∀ (r : Fin 512) (l : Fin 128), ((shapeCast S512x128 v10 shapeCasts_S1x512x128_S512x128) : FVec Ideal S512x128 .f32) (ix2 r l) = SL 2 r ⟨128 * ((10 : Fin 16) : ℕ) + l.val, ix16_lt 10 l⟩)
    (h11 : ∀ (r : Fin 512) (l : Fin 128), ((shapeCast S512x128 v11 shapeCasts_S1x512x128_S512x128) : FVec Ideal S512x128 .f32) (ix2 r l) = SL 2 r ⟨128 * ((11 : Fin 16) : ℕ) + l.val, ix16_lt 11 l⟩)
    (h12 : ∀ (r : Fin 512) (l : Fin 128), ((shapeCast S512x128 v12 shapeCasts_S1x512x128_S512x128) : FVec Ideal S512x128 .f32) (ix2 r l) = SL 2 r ⟨128 * ((12 : Fin 16) : ℕ) + l.val, ix16_lt 12 l⟩)
    (h13 : ∀ (r : Fin 512) (l : Fin 128), ((shapeCast S512x128 v13 shapeCasts_S1x512x128_S512x128) : FVec Ideal S512x128 .f32) (ix2 r l) = SL 2 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 2 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 2 r ⟨128 * ((15 : Fin 16) : ℕ) + l.val, ix16_lt 15 l⟩)
    (C1 : FVec Ideal S1x2048x256 .bf16) (hC : ∀ (n : Fin 2048) (o : Fin 256), C1 (ix3 0 n o) = C (ix3 2 n o))
    (inb : ∀ a : Fin 3, (![4, 0, 0] : Fin 3 → ℕ) a + S1x512x128.size a ≤ S8x512x128.size a) (x : S1x512x128.Idx) :
    k0_pay403 (F := Ideal) v0 v1 v2 v3 v4 v5 v6 v7 v8 v9 v10 v11 v12 v13 v14 v15 C1 x = yG SL C ((Rect.unit (s := S8x512x128) ![4, 0, 0] S1x512x128.size inb).emb x) :=
  ypiece 2 0 (by decide) (by decide) SL C ![v0, v1, v2, v3, v4, v5, v6, v7, v8, v9, (shapeCast S512x128 v10 shapeCasts_S1x512x128_S512x128), (shapeCast S512x128 v11 shapeCasts_S1x512x128_S512x128), (shapeCast S512x128 v12 shapeCasts_S1x512x128_S512x128), (shapeCast S512x128 v13 shapeCasts_S1x512x128_S512x128), (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp2_1 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S512x128 .f32) (v6 : FVec Ideal S512x128 .f32) (v7 : FVec Ideal S512x128 .f32) (v8 : FVec Ideal S512x128 .f32) (v9 : FVec Ideal S512x128 .f32) (v10 : FVec Ideal S1x512x128 .f32) (v11 : FVec Ideal S1x512x128 .f32) (v12 : FVec Ideal S1x512x128 .f32) (v13 : FVec Ideal S1x512x128 .f32) (v14 : FVec Ideal S1x512x128 .f32) (v15 : FVec Ideal S1x512x128 .f32)
    (h0 : ∀ (r : Fin 512) (l : Fin 128), (v0 : FVec Ideal S512x128 .f32) (ix2 r l) = SL 2 r ⟨128 * ((0 : Fin 16) : ℕ) + l.val, ix16_lt 0 l⟩)
    (h1 : ∀ (r : Fin 512) (l : Fin 128), (v1 : FVec Ideal S512x128 .f32) (ix2 r l) = SL 2 r ⟨128 * ((1 : Fin 16) : ℕ) + l.val, ix16_lt 1 l⟩)
    (h2 : ∀ (r : Fin 512) (l : Fin 128), (v2 : FVec Ideal S512x128 .f32) (ix2 r l) = SL 2 r ⟨128 * ((2 : Fin 16) : ℕ) + l.val, ix16_lt 2 l⟩)
    (h3 : ∀ (r : Fin 512) (l : Fin 128), (v3 : FVec Ideal S512x128 .f32) (ix2 r l) = SL 2 r ⟨128 * ((3 : Fin 16) : ℕ) + l.val, ix16_lt 3 l⟩)
    (h4 : ∀ (r : Fin 512) (l : Fin 128), (v4 : FVec Ideal S512x128 .f32) (ix2 r l) = SL 2 r ⟨128 * ((4 : Fin 16) : ℕ) + l.val, ix16_lt 4 l⟩)
    (h5 : ∀ (r : Fin 512) (l : Fin 128), (v5 : FVec Ideal S512x128 .f32) (ix2 r l) = SL 2 r ⟨128 * ((5 : Fin 16) : ℕ) + l.val, ix16_lt 5 l⟩)
    (h6 : ∀ (r : Fin 512) (l : Fin 128), (v6 : FVec Ideal S512x128 .f32) (ix2 r l) = SL 2 r ⟨128 * ((6 : Fin 16) : ℕ) + l.val, ix16_lt 6 l⟩)
    (h7 : ∀ (r : Fin 512) (l : Fin 128), (v7 : FVec Ideal S512x128 .f32) (ix2 r l) = SL 2 r ⟨128 * ((7 : Fin 16) : ℕ) + l.val, ix16_lt 7 l⟩)
    (h8 : ∀ (r : Fin 512) (l : Fin 128), (v8 : FVec Ideal S512x128 .f32) (ix2 r l) = SL 2 r ⟨128 * ((8 : Fin 16) : ℕ) + l.val, ix16_lt 8 l⟩)
    (h9 : ∀ (r : Fin 512) (l : Fin 128), (v9 : FVec Ideal S512x128 .f32) (ix2 r l) = SL 2 r ⟨128 * ((9 : Fin 16) : ℕ) + l.val, ix16_lt 9 l⟩)
    (h10 : ∀ (r : Fin 512) (l : Fin 128), ((shapeCast S512x128 v10 shapeCasts_S1x512x128_S512x128) : FVec Ideal S512x128 .f32) (ix2 r l) = SL 2 r ⟨128 * ((10 : Fin 16) : ℕ) + l.val, ix16_lt 10 l⟩)
    (h11 : ∀ (r : Fin 512) (l : Fin 128), ((shapeCast S512x128 v11 shapeCasts_S1x512x128_S512x128) : FVec Ideal S512x128 .f32) (ix2 r l) = SL 2 r ⟨128 * ((11 : Fin 16) : ℕ) + l.val, ix16_lt 11 l⟩)
    (h12 : ∀ (r : Fin 512) (l : Fin 128), ((shapeCast S512x128 v12 shapeCasts_S1x512x128_S512x128) : FVec Ideal S512x128 .f32) (ix2 r l) = SL 2 r ⟨128 * ((12 : Fin 16) : ℕ) + l.val, ix16_lt 12 l⟩)
    (h13 : ∀ (r : Fin 512) (l : Fin 128), ((shapeCast S512x128 v13 shapeCasts_S1x512x128_S512x128) : FVec Ideal S512x128 .f32) (ix2 r l) = SL 2 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 2 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 2 r ⟨128 * ((15 : Fin 16) : ℕ) + l.val, ix16_lt 15 l⟩)
    (C1 : FVec Ideal S1x2048x256 .bf16) (hC : ∀ (n : Fin 2048) (o : Fin 256), C1 (ix3 0 n o) = C (ix3 2 n o))
    (inb : ∀ a : Fin 3, (![5, 0, 0] : Fin 3 → ℕ) a + S1x512x128.size a ≤ S8x512x128.size a) (x : S1x512x128.Idx) :
    k0_pay404 (F := Ideal) v0 v1 v2 v3 v4 v5 v6 v7 v8 v9 v10 v11 v12 v13 v14 v15 C1 x = yG SL C ((Rect.unit (s := S8x512x128) ![5, 0, 0] S1x512x128.size inb).emb x) :=
  ypiece 2 1 (by decide) (by decide) SL C ![v0, v1, v2, v3, v4, v5, v6, v7, v8, v9, (shapeCast S512x128 v10 shapeCasts_S1x512x128_S512x128), (shapeCast S512x128 v11 shapeCasts_S1x512x128_S512x128), (shapeCast S512x128 v12 shapeCasts_S1x512x128_S512x128), (shapeCast S512x128 v13 shapeCasts_S1x512x128_S512x128), (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp3_0 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S1x512x128 .f32) (v6 : FVec Ideal S1x512x128 .f32) (v7 : FVec Ideal S1x512x128 .f32) (v8 : FVec Ideal S1x512x128 .f32) (v9 : FVec Ideal S1x512x128 .f32) (v10 : FVec Ideal S1x512x128 .f32) (v11 : FVec Ideal S1x512x128 .f32) (v12 : FVec Ideal S1x512x128 .f32) (v13 : FVec Ideal S1x512x128 .f32) (v14 : FVec Ideal S1x512x128 .f32) (v15 : FVec Ideal S1x512x128 .f32)
    (h0 : ∀ (r : Fin 512) (l : Fin 128), (v0 : FVec Ideal S512x128 .f32) (ix2 r l) = SL 3 r ⟨128 * ((0 : Fin 16) : ℕ) + l.val, ix16_lt 0 l⟩)
    (h1 : ∀ (r : Fin 512) (l : Fin 128), (v1 : FVec Ideal S512x128 .f32) (ix2 r l) = SL 3 r ⟨128 * ((1 : Fin 16) : ℕ) + l.val, ix16_lt 1 l⟩)
    (h2 : ∀ (r : Fin 512) (l : Fin 128), (v2 : FVec Ideal S512x128 .f32) (ix2 r l) = SL 3 r ⟨128 * ((2 : Fin 16) : ℕ) + l.val, ix16_lt 2 l⟩)
    (h3 : ∀ (r : Fin 512) (l : Fin 128), (v3 : FVec Ideal S512x128 .f32) (ix2 r l) = SL 3 r ⟨128 * ((3 : Fin 16) : ℕ) + l.val, ix16_lt 3 l⟩)
    (h4 : ∀ (r : Fin 512) (l : Fin 128), (v4 : FVec Ideal S512x128 .f32) (ix2 r l) = SL 3 r ⟨128 * ((4 : Fin 16) : ℕ) + l.val, ix16_lt 4 l⟩)
    (h5 : ∀ (r : Fin 512) (l : Fin 128), ((shapeCast S512x128 v5 shapeCasts_S1x512x128_S512x128) : FVec Ideal S512x128 .f32) (ix2 r l) = SL 3 r ⟨128 * ((5 : Fin 16) : ℕ) + l.val, ix16_lt 5 l⟩)
    (h6 : ∀ (r : Fin 512) (l : Fin 128), ((shapeCast S512x128 v6 shapeCasts_S1x512x128_S512x128) : FVec Ideal S512x128 .f32) (ix2 r l) = SL 3 r ⟨128 * ((6 : Fin 16) : ℕ) + l.val, ix16_lt 6 l⟩)
    (h7 : ∀ (r : Fin 512) (l : Fin 128), ((shapeCast S512x128 v7 shapeCasts_S1x512x128_S512x128) : FVec Ideal S512x128 .f32) (ix2 r l) = SL 3 r ⟨128 * ((7 : Fin 16) : ℕ) + l.val, ix16_lt 7 l⟩)
    (h8 : ∀ (r : Fin 512) (l : Fin 128), ((shapeCast S512x128 v8 shapeCasts_S1x512x128_S512x128) : FVec Ideal S512x128 .f32) (ix2 r l) = SL 3 r ⟨128 * ((8 : Fin 16) : ℕ) + l.val, ix16_lt 8 l⟩)
    (h9 : ∀ (r : Fin 512) (l : Fin 128), ((shapeCast S512x128 v9 shapeCasts_S1x512x128_S512x128) : FVec Ideal S512x128 .f32) (ix2 r l) = SL 3 r ⟨128 * ((9 : Fin 16) : ℕ) + l.val, ix16_lt 9 l⟩)
    (h10 : ∀ (r : Fin 512) (l : Fin 128), ((shapeCast S512x128 v10 shapeCasts_S1x512x128_S512x128) : FVec Ideal S512x128 .f32) (ix2 r l) = SL 3 r ⟨128 * ((10 : Fin 16) : ℕ) + l.val, ix16_lt 10 l⟩)
    (h11 : ∀ (r : Fin 512) (l : Fin 128), ((shapeCast S512x128 v11 shapeCasts_S1x512x128_S512x128) : FVec Ideal S512x128 .f32) (ix2 r l) = SL 3 r ⟨128 * ((11 : Fin 16) : ℕ) + l.val, ix16_lt 11 l⟩)
    (h12 : ∀ (r : Fin 512) (l : Fin 128), ((shapeCast S512x128 v12 shapeCasts_S1x512x128_S512x128) : FVec Ideal S512x128 .f32) (ix2 r l) = SL 3 r ⟨128 * ((12 : Fin 16) : ℕ) + l.val, ix16_lt 12 l⟩)
    (h13 : ∀ (r : Fin 512) (l : Fin 128), ((shapeCast S512x128 v13 shapeCasts_S1x512x128_S512x128) : FVec Ideal S512x128 .f32) (ix2 r l) = SL 3 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 3 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 3 r ⟨128 * ((15 : Fin 16) : ℕ) + l.val, ix16_lt 15 l⟩)
    (C1 : FVec Ideal S1x2048x256 .bf16) (hC : ∀ (n : Fin 2048) (o : Fin 256), C1 (ix3 0 n o) = C (ix3 3 n o))
    (inb : ∀ a : Fin 3, (![6, 0, 0] : Fin 3 → ℕ) a + S1x512x128.size a ≤ S8x512x128.size a) (x : S1x512x128.Idx) :
    k0_pay470 (F := Ideal) (k0_pay467 (F := Ideal) v0 v1 v2 v3 v4 v5 v6 v7 v8 v9 v10 v11 v12 v13 v14 v15) (k0_pay468 (F := Ideal) C1) (constant S512x256 .f32 0x00000000#32) x = yG SL C ((Rect.unit (s := S8x512x128) ![6, 0, 0] S1x512x128.size inb).emb x) :=
  ypiece 3 0 (by decide) (by decide) SL C ![v0, v1, v2, v3, v4, (shapeCast S512x128 v5 shapeCasts_S1x512x128_S512x128), (shapeCast S512x128 v6 shapeCasts_S1x512x128_S512x128), (shapeCast S512x128 v7 shapeCasts_S1x512x128_S512x128), (shapeCast S512x128 v8 shapeCasts_S1x512x128_S512x128), (shapeCast S512x128 v9 shapeCasts_S1x512x128_S512x128), (shapeCast S512x128 v10 shapeCasts_S1x512x128_S512x128), (shapeCast S512x128 v11 shapeCasts_S1x512x128_S512x128), (shapeCast S512x128 v12 shapeCasts_S1x512x128_S512x128), (shapeCast S512x128 v13 shapeCasts_S1x512x128_S512x128), (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

theorem yp3_1 (SL : Fin 4 → Fin 512 → Fin 2048 → EReal) (C : FVec Ideal S4x2048x256 .bf16) (v0 : FVec Ideal S512x128 .f32) (v1 : FVec Ideal S512x128 .f32) (v2 : FVec Ideal S512x128 .f32) (v3 : FVec Ideal S512x128 .f32) (v4 : FVec Ideal S512x128 .f32) (v5 : FVec Ideal S1x512x128 .f32) (v6 : FVec Ideal S1x512x128 .f32) (v7 : FVec Ideal S1x512x128 .f32) (v8 : FVec Ideal S1x512x128 .f32) (v9 : FVec Ideal S1x512x128 .f32) (v10 : FVec Ideal S1x512x128 .f32) (v11 : FVec Ideal S1x512x128 .f32) (v12 : FVec Ideal S1x512x128 .f32) (v13 : FVec Ideal S1x512x128 .f32) (v14 : FVec Ideal S1x512x128 .f32) (v15 : FVec Ideal S1x512x128 .f32)
    (h0 : ∀ (r : Fin 512) (l : Fin 128), (v0 : FVec Ideal S512x128 .f32) (ix2 r l) = SL 3 r ⟨128 * ((0 : Fin 16) : ℕ) + l.val, ix16_lt 0 l⟩)
    (h1 : ∀ (r : Fin 512) (l : Fin 128), (v1 : FVec Ideal S512x128 .f32) (ix2 r l) = SL 3 r ⟨128 * ((1 : Fin 16) : ℕ) + l.val, ix16_lt 1 l⟩)
    (h2 : ∀ (r : Fin 512) (l : Fin 128), (v2 : FVec Ideal S512x128 .f32) (ix2 r l) = SL 3 r ⟨128 * ((2 : Fin 16) : ℕ) + l.val, ix16_lt 2 l⟩)
    (h3 : ∀ (r : Fin 512) (l : Fin 128), (v3 : FVec Ideal S512x128 .f32) (ix2 r l) = SL 3 r ⟨128 * ((3 : Fin 16) : ℕ) + l.val, ix16_lt 3 l⟩)
    (h4 : ∀ (r : Fin 512) (l : Fin 128), (v4 : FVec Ideal S512x128 .f32) (ix2 r l) = SL 3 r ⟨128 * ((4 : Fin 16) : ℕ) + l.val, ix16_lt 4 l⟩)
    (h5 : ∀ (r : Fin 512) (l : Fin 128), ((shapeCast S512x128 v5 shapeCasts_S1x512x128_S512x128) : FVec Ideal S512x128 .f32) (ix2 r l) = SL 3 r ⟨128 * ((5 : Fin 16) : ℕ) + l.val, ix16_lt 5 l⟩)
    (h6 : ∀ (r : Fin 512) (l : Fin 128), ((shapeCast S512x128 v6 shapeCasts_S1x512x128_S512x128) : FVec Ideal S512x128 .f32) (ix2 r l) = SL 3 r ⟨128 * ((6 : Fin 16) : ℕ) + l.val, ix16_lt 6 l⟩)
    (h7 : ∀ (r : Fin 512) (l : Fin 128), ((shapeCast S512x128 v7 shapeCasts_S1x512x128_S512x128) : FVec Ideal S512x128 .f32) (ix2 r l) = SL 3 r ⟨128 * ((7 : Fin 16) : ℕ) + l.val, ix16_lt 7 l⟩)
    (h8 : ∀ (r : Fin 512) (l : Fin 128), ((shapeCast S512x128 v8 shapeCasts_S1x512x128_S512x128) : FVec Ideal S512x128 .f32) (ix2 r l) = SL 3 r ⟨128 * ((8 : Fin 16) : ℕ) + l.val, ix16_lt 8 l⟩)
    (h9 : ∀ (r : Fin 512) (l : Fin 128), ((shapeCast S512x128 v9 shapeCasts_S1x512x128_S512x128) : FVec Ideal S512x128 .f32) (ix2 r l) = SL 3 r ⟨128 * ((9 : Fin 16) : ℕ) + l.val, ix16_lt 9 l⟩)
    (h10 : ∀ (r : Fin 512) (l : Fin 128), ((shapeCast S512x128 v10 shapeCasts_S1x512x128_S512x128) : FVec Ideal S512x128 .f32) (ix2 r l) = SL 3 r ⟨128 * ((10 : Fin 16) : ℕ) + l.val, ix16_lt 10 l⟩)
    (h11 : ∀ (r : Fin 512) (l : Fin 128), ((shapeCast S512x128 v11 shapeCasts_S1x512x128_S512x128) : FVec Ideal S512x128 .f32) (ix2 r l) = SL 3 r ⟨128 * ((11 : Fin 16) : ℕ) + l.val, ix16_lt 11 l⟩)
    (h12 : ∀ (r : Fin 512) (l : Fin 128), ((shapeCast S512x128 v12 shapeCasts_S1x512x128_S512x128) : FVec Ideal S512x128 .f32) (ix2 r l) = SL 3 r ⟨128 * ((12 : Fin 16) : ℕ) + l.val, ix16_lt 12 l⟩)
    (h13 : ∀ (r : Fin 512) (l : Fin 128), ((shapeCast S512x128 v13 shapeCasts_S1x512x128_S512x128) : FVec Ideal S512x128 .f32) (ix2 r l) = SL 3 r ⟨128 * ((13 : Fin 16) : ℕ) + l.val, ix16_lt 13 l⟩)
    (h14 : ∀ (r : Fin 512) (l : Fin 128), ((shapeCast S512x128 v14 shapeCasts_S1x512x128_S512x128) : FVec Ideal S512x128 .f32) (ix2 r l) = SL 3 r ⟨128 * ((14 : Fin 16) : ℕ) + l.val, ix16_lt 14 l⟩)
    (h15 : ∀ (r : Fin 512) (l : Fin 128), ((shapeCast S512x128 v15 shapeCasts_S1x512x128_S512x128) : FVec Ideal S512x128 .f32) (ix2 r l) = SL 3 r ⟨128 * ((15 : Fin 16) : ℕ) + l.val, ix16_lt 15 l⟩)
    (C1 : FVec Ideal S1x2048x256 .bf16) (hC : ∀ (n : Fin 2048) (o : Fin 256), C1 (ix3 0 n o) = C (ix3 3 n o))
    (inb : ∀ a : Fin 3, (![7, 0, 0] : Fin 3 → ℕ) a + S1x512x128.size a ≤ S8x512x128.size a) (x : S1x512x128.Idx) :
    k0_pay471 (F := Ideal) (k0_pay467 (F := Ideal) v0 v1 v2 v3 v4 v5 v6 v7 v8 v9 v10 v11 v12 v13 v14 v15) (k0_pay468 (F := Ideal) C1) (constant S512x256 .f32 0x00000000#32) x = yG SL C ((Rect.unit (s := S8x512x128) ![7, 0, 0] S1x512x128.size inb).emb x) :=
  ypiece 3 1 (by decide) (by decide) SL C ![v0, v1, v2, v3, v4, (shapeCast S512x128 v5 shapeCasts_S1x512x128_S512x128), (shapeCast S512x128 v6 shapeCasts_S1x512x128_S512x128), (shapeCast S512x128 v7 shapeCasts_S1x512x128_S512x128), (shapeCast S512x128 v8 shapeCasts_S1x512x128_S512x128), (shapeCast S512x128 v9 shapeCasts_S1x512x128_S512x128), (shapeCast S512x128 v10 shapeCasts_S1x512x128_S512x128), (shapeCast S512x128 v11 shapeCasts_S1x512x128_S512x128), (shapeCast S512x128 v12 shapeCasts_S1x512x128_S512x128), (shapeCast S512x128 v13 shapeCasts_S1x512x128_S512x128), (shapeCast S512x128 v14 shapeCasts_S1x512x128_S512x128), (shapeCast S512x128 v15 shapeCasts_S1x512x128_S512x128)] (fun κ r l => match κ with
    | ⟨0, _⟩ => h0 r l | ⟨1, _⟩ => h1 r l | ⟨2, _⟩ => h2 r l | ⟨3, _⟩ => h3 r l | ⟨4, _⟩ => h4 r l | ⟨5, _⟩ => h5 r l | ⟨6, _⟩ => h6 r l | ⟨7, _⟩ => h7 r l | ⟨8, _⟩ => h8 r l | ⟨9, _⟩ => h9 r l | ⟨10, _⟩ => h10 r l | ⟨11, _⟩ => h11 r l | ⟨12, _⟩ => h12 r l | ⟨13, _⟩ => h13 r l | ⟨14, _⟩ => h14 r l | ⟨15, _⟩ => h15 r l | ⟨n + 16, hn⟩ => absurd hn (by omega)) C1 hC (by decide) inb x

end Cert.S5
-- ==== Proof.SIStA3.lean ====
/- The S5 body at the first point: what the slabs of y hold. -/
module

public import proofs.«01_k».proof.Proof.SIStA2
public import proofs.«01_k».proof.Proof.SIPay2

@[expose] public section

set_option maxRecDepth 65536
set_option maxHeartbeats 1600000

noncomputable section

namespace Cert.S5.PA

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16)

theorem l1_0 (r : Fin 512) (l : Fin 128) : ((kernelRun0_A.sl.v492 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((0 : Fin 16) : ℕ) + l.val, ix16_lt 0 l⟩ :=
  read_slab arg11.view _ 0 _ (fun κ r l => slabs1 (κ := κ) (r := r) (l := l) ..) r l

theorem l1_1 (r : Fin 512) (l : Fin 128) : ((kernelRun0_A.sl.v494 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((1 : Fin 16) : ℕ) + l.val, ix16_lt 1 l⟩ :=
  read_slab arg11.view _ 1 _ (fun κ r l => slabs1 (κ := κ) (r := r) (l := l) ..) r l

theorem l1_2 (r : Fin 512) (l : Fin 128) : ((kernelRun0_A.sl.v496 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((2 : Fin 16) : ℕ) + l.val, ix16_lt 2 l⟩ :=
  read_slab arg11.view _ 2 _ (fun κ r l => slabs1 (κ := κ) (r := r) (l := l) ..) r l

theorem l1_3 (r : Fin 512) (l : Fin 128) : ((kernelRun0_A.sl.v498 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((3 : Fin 16) : ℕ) + l.val, ix16_lt 3 l⟩ :=
  read_slab arg11.view _ 3 _ (fun κ r l => slabs1 (κ := κ) (r := r) (l := l) ..) r l

theorem l1_4 (r : Fin 512) (l : Fin 128) : ((kernelRun0_A.sl.v500 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((4 : Fin 16) : ℕ) + l.val, ix16_lt 4 l⟩ :=
  read_slab arg11.view _ 4 _ (fun κ r l => slabs1 (κ := κ) (r := r) (l := l) ..) r l

theorem l1_5 (r : Fin 512) (l : Fin 128) : ((kernelRun0_A.sl.v502 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((5 : Fin 16) : ℕ) + l.val, ix16_lt 5 l⟩ :=
  read_slab arg11.view _ 5 _ (fun κ r l => slabs1 (κ := κ) (r := r) (l := l) ..) r l

theorem l1_6 (r : Fin 512) (l : Fin 128) : ((kernelRun0_A.sl.v504 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 0 r ⟨128 * ((6 : Fin 16) : ℕ) + l.val, ix16_lt 6 l⟩ :=
  read_slab arg11.view _ 6 _ (fun κ r l => slabs1 (κ := κ) (r := r) (l := l) ..) r l

theorem l1_7 (r : Fin 512) (l : Fin 128) : ((shapeCast S512x128 (kernelRun0_A.sl.v505 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((7 : Fin 16) : ℕ) + l.val, ix16_lt 7 l⟩ :=
  read_slab arg11.view _ 7 _ (fun κ r l => slabs1 (κ := κ) (r := r) (l := l) ..) r l

theorem l1_8 (r : Fin 512) (l : Fin 128) : ((shapeCast S512x128 (kernelRun0_A.sl.v507 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((8 : Fin 16) : ℕ) + l.val, ix16_lt 8 l⟩ :=
  read_slab arg11.view _ 8 _ (fun κ r l => slabs1 (κ := κ) (r := r) (l := l) ..) r l

theorem l1_9 (r : Fin 512) (l : Fin 128) : ((shapeCast S512x128 (kernelRun0_A.sl.v509 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((9 : Fin 16) : ℕ) + l.val, ix16_lt 9 l⟩ :=
  read_slab arg11.view _ 9 _ (fun κ r l => slabs1 (κ := κ) (r := r) (l := l) ..) r l

theorem l1_10 (r : Fin 512) (l : Fin 128) : ((shapeCast S512x128 (kernelRun0_A.sl.v511 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((10 : Fin 16) : ℕ) + l.val, ix16_lt 10 l⟩ :=
  read_slab arg11.view _ 10 _ (fun κ r l => slabs1 (κ := κ) (r := r) (l := l) ..) r l

theorem l1_11 (r : Fin 512) (l : Fin 128) : ((shapeCast S512x128 (kernelRun0_A.sl.v513 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((11 : Fin 16) : ℕ) + l.val, ix16_lt 11 l⟩ :=
  read_slab arg11.view _ 11 _ (fun κ r l => slabs1 (κ := κ) (r := r) (l := l) ..) r l

theorem l1_12 (r : Fin 512) (l : Fin 128) : ((shapeCast S512x128 (kernelRun0_A.sl.v515 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((12 : Fin 16) : ℕ) + l.val, ix16_lt 12 l⟩ :=
  read_slab arg11.view _ 12 _ (fun κ r l => slabs1 (κ := κ) (r := r) (l := l) ..) r l

theorem l1_13 (r : Fin 512) (l : Fin 128) : ((shapeCast S512x128 (kernelRun0_A.sl.v517 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((13 : Fin 16) : ℕ) + l.val, ix16_lt 13 l⟩ :=
  read_slab arg11.view _ 13 _ (fun κ r l => slabs1 (κ := κ) (r := r) (l := l) ..) r l

theorem l1_14 (r : Fin 512) (l : Fin 128) : ((shapeCast S512x128 (kernelRun0_A.sl.v519 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((14 : Fin 16) : ℕ) + l.val, ix16_lt 14 l⟩ :=
  read_slab arg11.view _ 14 _ (fun κ r l => slabs1 (κ := κ) (r := r) (l := l) ..) r l

theorem l1_15 (r : Fin 512) (l : Fin 128) : ((shapeCast S512x128 (kernelRun0_A.sl.v521 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 0 r ⟨128 * ((15 : Fin 16) : ℕ) + l.val, ix16_lt 15 l⟩ :=
  read_slab arg11.view _ 15 _ (fun κ r l => slabs1 (κ := κ) (r := r) (l := l) ..) r l

theorem l2_0 (r : Fin 512) (l : Fin 128) : ((kernelRun0_A.sl.v735 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((0 : Fin 16) : ℕ) + l.val, ix16_lt 0 l⟩ :=
  read_slab arg11.view _ 0 _ (fun κ r l => slabs2 (κ := κ) (r := r) (l := l) ..) r l

theorem l2_1 (r : Fin 512) (l : Fin 128) : ((kernelRun0_A.sl.v737 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((1 : Fin 16) : ℕ) + l.val, ix16_lt 1 l⟩ :=
  read_slab arg11.view _ 1 _ (fun κ r l => slabs2 (κ := κ) (r := r) (l := l) ..) r l

theorem l2_2 (r : Fin 512) (l : Fin 128) : ((kernelRun0_A.sl.v739 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((2 : Fin 16) : ℕ) + l.val, ix16_lt 2 l⟩ :=
  read_slab arg11.view _ 2 _ (fun κ r l => slabs2 (κ := κ) (r := r) (l := l) ..) r l

theorem l2_3 (r : Fin 512) (l : Fin 128) : ((kernelRun0_A.sl.v741 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((3 : Fin 16) : ℕ) + l.val, ix16_lt 3 l⟩ :=
  read_slab arg11.view _ 3 _ (fun κ r l => slabs2 (κ := κ) (r := r) (l := l) ..) r l

theorem l2_4 (r : Fin 512) (l : Fin 128) : ((kernelRun0_A.sl.v743 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((4 : Fin 16) : ℕ) + l.val, ix16_lt 4 l⟩ :=
  read_slab arg11.view _ 4 _ (fun κ r l => slabs2 (κ := κ) (r := r) (l := l) ..) r l

theorem l2_5 (r : Fin 512) (l : Fin 128) : ((kernelRun0_A.sl.v745 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((5 : Fin 16) : ℕ) + l.val, ix16_lt 5 l⟩ :=
  read_slab arg11.view _ 5 _ (fun κ r l => slabs2 (κ := κ) (r := r) (l := l) ..) r l

theorem l2_6 (r : Fin 512) (l : Fin 128) : ((kernelRun0_A.sl.v747 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((6 : Fin 16) : ℕ) + l.val, ix16_lt 6 l⟩ :=
  read_slab arg11.view _ 6 _ (fun κ r l => slabs2 (κ := κ) (r := r) (l := l) ..) r l

theorem l2_7 (r : Fin 512) (l : Fin 128) : ((kernelRun0_A.sl.v749 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((7 : Fin 16) : ℕ) + l.val, ix16_lt 7 l⟩ :=
  read_slab arg11.view _ 7 _ (fun κ r l => slabs2 (κ := κ) (r := r) (l := l) ..) r l

theorem l2_8 (r : Fin 512) (l : Fin 128) : ((kernelRun0_A.sl.v751 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((8 : Fin 16) : ℕ) + l.val, ix16_lt 8 l⟩ :=
  read_slab arg11.view _ 8 _ (fun κ r l => slabs2 (κ := κ) (r := r) (l := l) ..) r l

theorem l2_9 (r : Fin 512) (l : Fin 128) : ((kernelRun0_A.sl.v753 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((9 : Fin 16) : ℕ) + l.val, ix16_lt 9 l⟩ :=
  read_slab arg11.view _ 9 _ (fun κ r l => slabs2 (κ := κ) (r := r) (l := l) ..) r l

theorem l2_10 (r : Fin 512) (l : Fin 128) : ((kernelRun0_A.sl.v755 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((10 : Fin 16) : ℕ) + l.val, ix16_lt 10 l⟩ :=
  read_slab arg11.view _ 10 _ (fun κ r l => slabs2 (κ := κ) (r := r) (l := l) ..) r l

theorem l2_11 (r : Fin 512) (l : Fin 128) : ((kernelRun0_A.sl.v757 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((11 : Fin 16) : ℕ) + l.val, ix16_lt 11 l⟩ :=
  read_slab arg11.view _ 11 _ (fun κ r l => slabs2 (κ := κ) (r := r) (l := l) ..) r l

theorem l2_12 (r : Fin 512) (l : Fin 128) : ((kernelRun0_A.sl.v759 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((12 : Fin 16) : ℕ) + l.val, ix16_lt 12 l⟩ :=
  read_slab arg11.view _ 12 _ (fun κ r l => slabs2 (κ := κ) (r := r) (l := l) ..) r l

theorem l2_13 (r : Fin 512) (l : Fin 128) : ((kernelRun0_A.sl.v761 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 1 r ⟨128 * ((13 : Fin 16) : ℕ) + l.val, ix16_lt 13 l⟩ :=
  read_slab arg11.view _ 13 _ (fun κ r l => slabs2 (κ := κ) (r := r) (l := l) ..) r l

theorem l2_14 (r : Fin 512) (l : Fin 128) : ((shapeCast S512x128 (kernelRun0_A.sl.v762 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 1 r ⟨128 * ((14 : Fin 16) : ℕ) + l.val, ix16_lt 14 l⟩ :=
  read_slab arg11.view _ 14 _ (fun κ r l => slabs2 (κ := κ) (r := r) (l := l) ..) r l

theorem l2_15 (r : Fin 512) (l : Fin 128) : ((shapeCast S512x128 (kernelRun0_A.sl.v764 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 1 r ⟨128 * ((15 : Fin 16) : ℕ) + l.val, ix16_lt 15 l⟩ :=
  read_slab arg11.view _ 15 _ (fun κ r l => slabs2 (κ := κ) (r := r) (l := l) ..) r l

theorem l3_0 (r : Fin 512) (l : Fin 128) : ((kernelRun0_A.sl.v978 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((0 : Fin 16) : ℕ) + l.val, ix16_lt 0 l⟩ :=
  read_slab arg11.view _ 0 _ (fun κ r l => slabs3 (κ := κ) (r := r) (l := l) ..) r l

theorem l3_1 (r : Fin 512) (l : Fin 128) : ((kernelRun0_A.sl.v980 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((1 : Fin 16) : ℕ) + l.val, ix16_lt 1 l⟩ :=
  read_slab arg11.view _ 1 _ (fun κ r l => slabs3 (κ := κ) (r := r) (l := l) ..) r l

theorem l3_2 (r : Fin 512) (l : Fin 128) : ((kernelRun0_A.sl.v982 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((2 : Fin 16) : ℕ) + l.val, ix16_lt 2 l⟩ :=
  read_slab arg11.view _ 2 _ (fun κ r l => slabs3 (κ := κ) (r := r) (l := l) ..) r l

theorem l3_3 (r : Fin 512) (l : Fin 128) : ((kernelRun0_A.sl.v984 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((3 : Fin 16) : ℕ) + l.val, ix16_lt 3 l⟩ :=
  read_slab arg11.view _ 3 _ (fun κ r l => slabs3 (κ := κ) (r := r) (l := l) ..) r l

theorem l3_4 (r : Fin 512) (l : Fin 128) : ((kernelRun0_A.sl.v986 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((4 : Fin 16) : ℕ) + l.val, ix16_lt 4 l⟩ :=
  read_slab arg11.view _ 4 _ (fun κ r l => slabs3 (κ := κ) (r := r) (l := l) ..) r l

theorem l3_5 (r : Fin 512) (l : Fin 128) : ((kernelRun0_A.sl.v988 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((5 : Fin 16) : ℕ) + l.val, ix16_lt 5 l⟩ :=
  read_slab arg11.view _ 5 _ (fun κ r l => slabs3 (κ := κ) (r := r) (l := l) ..) r l

theorem l3_6 (r : Fin 512) (l : Fin 128) : ((kernelRun0_A.sl.v990 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((6 : Fin 16) : ℕ) + l.val, ix16_lt 6 l⟩ :=
  read_slab arg11.view _ 6 _ (fun κ r l => slabs3 (κ := κ) (r := r) (l := l) ..) r l

theorem l3_7 (r : Fin 512) (l : Fin 128) : ((kernelRun0_A.sl.v992 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((7 : Fin 16) : ℕ) + l.val, ix16_lt 7 l⟩ :=
  read_slab arg11.view _ 7 _ (fun κ r l => slabs3 (κ := κ) (r := r) (l := l) ..) r l

theorem l3_8 (r : Fin 512) (l : Fin 128) : ((kernelRun0_A.sl.v994 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((8 : Fin 16) : ℕ) + l.val, ix16_lt 8 l⟩ :=
  read_slab arg11.view _ 8 _ (fun κ r l => slabs3 (κ := κ) (r := r) (l := l) ..) r l

theorem l3_9 (r : Fin 512) (l : Fin 128) : ((kernelRun0_A.sl.v996 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 2 r ⟨128 * ((9 : Fin 16) : ℕ) + l.val, ix16_lt 9 l⟩ :=
  read_slab arg11.view _ 9 _ (fun κ r l => slabs3 (κ := κ) (r := r) (l := l) ..) r l

theorem l3_10 (r : Fin 512) (l : Fin 128) : ((shapeCast S512x128 (kernelRun0_A.sl.v997 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 2 r ⟨128 * ((10 : Fin 16) : ℕ) + l.val, ix16_lt 10 l⟩ :=
  read_slab arg11.view _ 10 _ (fun κ r l => slabs3 (κ := κ) (r := r) (l := l) ..) r l

theorem l3_11 (r : Fin 512) (l : Fin 128) : ((shapeCast S512x128 (kernelRun0_A.sl.v999 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 2 r ⟨128 * ((11 : Fin 16) : ℕ) + l.val, ix16_lt 11 l⟩ :=
  read_slab arg11.view _ 11 _ (fun κ r l => slabs3 (κ := κ) (r := r) (l := l) ..) r l

theorem l3_12 (r : Fin 512) (l : Fin 128) : ((shapeCast S512x128 (kernelRun0_A.sl.v1001 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 2 r ⟨128 * ((12 : Fin 16) : ℕ) + l.val, ix16_lt 12 l⟩ :=
  read_slab arg11.view _ 12 _ (fun κ r l => slabs3 (κ := κ) (r := r) (l := l) ..) r l

theorem l3_13 (r : Fin 512) (l : Fin 128) : ((shapeCast S512x128 (kernelRun0_A.sl.v1003 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 2 r ⟨128 * ((13 : Fin 16) : ℕ) + l.val, ix16_lt 13 l⟩ :=
  read_slab arg11.view _ 13 _ (fun κ r l => slabs3 (κ := κ) (r := r) (l := l) ..) r l

theorem l3_14 (r : Fin 512) (l : Fin 128) : ((shapeCast S512x128 (kernelRun0_A.sl.v1005 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 2 r ⟨128 * ((14 : Fin 16) : ℕ) + l.val, ix16_lt 14 l⟩ :=
  read_slab arg11.view _ 14 _ (fun κ r l => slabs3 (κ := κ) (r := r) (l := l) ..) r l

theorem l3_15 (r : Fin 512) (l : Fin 128) : ((shapeCast S512x128 (kernelRun0_A.sl.v1007 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 2 r ⟨128 * ((15 : Fin 16) : ℕ) + l.val, ix16_lt 15 l⟩ :=
  read_slab arg11.view _ 15 _ (fun κ r l => slabs3 (κ := κ) (r := r) (l := l) ..) r l

theorem l4_0 (r : Fin 512) (l : Fin 128) : ((kernelRun0_A.sl.v1221 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 3 r ⟨128 * ((0 : Fin 16) : ℕ) + l.val, ix16_lt 0 l⟩ :=
  read_slab arg11.view _ 0 _ (fun κ r l => slabs4 (κ := κ) (r := r) (l := l) ..) r l

theorem l4_1 (r : Fin 512) (l : Fin 128) : ((kernelRun0_A.sl.v1223 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 3 r ⟨128 * ((1 : Fin 16) : ℕ) + l.val, ix16_lt 1 l⟩ :=
  read_slab arg11.view _ 1 _ (fun κ r l => slabs4 (κ := κ) (r := r) (l := l) ..) r l

theorem l4_2 (r : Fin 512) (l : Fin 128) : ((kernelRun0_A.sl.v1225 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 3 r ⟨128 * ((2 : Fin 16) : ℕ) + l.val, ix16_lt 2 l⟩ :=
  read_slab arg11.view _ 2 _ (fun κ r l => slabs4 (κ := κ) (r := r) (l := l) ..) r l

theorem l4_3 (r : Fin 512) (l : Fin 128) : ((kernelRun0_A.sl.v1227 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 3 r ⟨128 * ((3 : Fin 16) : ℕ) + l.val, ix16_lt 3 l⟩ :=
  read_slab arg11.view _ 3 _ (fun κ r l => slabs4 (κ := κ) (r := r) (l := l) ..) r l

theorem l4_4 (r : Fin 512) (l : Fin 128) : ((kernelRun0_A.sl.v1229 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) : FVec Ideal S512x128 .f32) (ix2 r l) = (SLE x3 (hbF (k0_pay128 (F := Ideal) x0 x2)) x4 x1) 3 r ⟨128 * ((4 : Fin 16) : ℕ) + l.val, ix16_lt 4 l⟩ :=
  read_slab arg11.view _ 4 _ (fun κ r l => slabs4 (κ := κ) (r := r) (l := l) ..) r l

theorem l4_5 (r : Fin 512) (l : Fin 128) : ((shapeCast S512x128 (kernelRun0_A.sl.v1230 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((5 : Fin 16) : ℕ) + l.val, ix16_lt 5 l⟩ :=
  read_slab arg11.view _ 5 _ (fun κ r l => slabs4 (κ := κ) (r := r) (l := l) ..) r l

theorem l4_6 (r : Fin 512) (l : Fin 128) : ((shapeCast S512x128 (kernelRun0_A.sl.v1232 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((6 : Fin 16) : ℕ) + l.val, ix16_lt 6 l⟩ :=
  read_slab arg11.view _ 6 _ (fun κ r l => slabs4 (κ := κ) (r := r) (l := l) ..) r l

theorem l4_7 (r : Fin 512) (l : Fin 128) : ((shapeCast S512x128 (kernelRun0_A.sl.v1234 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((7 : Fin 16) : ℕ) + l.val, ix16_lt 7 l⟩ :=
  read_slab arg11.view _ 7 _ (fun κ r l => slabs4 (κ := κ) (r := r) (l := l) ..) r l

theorem l4_8 (r : Fin 512) (l : Fin 128) : ((shapeCast S512x128 (kernelRun0_A.sl.v1236 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((8 : Fin 16) : ℕ) + l.val, ix16_lt 8 l⟩ :=
  read_slab arg11.view _ 8 _ (fun κ r l => slabs4 (κ := κ) (r := r) (l := l) ..) r l

theorem l4_9 (r : Fin 512) (l : Fin 128) : ((shapeCast S512x128 (kernelRun0_A.sl.v1238 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((9 : Fin 16) : ℕ) + l.val, ix16_lt 9 l⟩ :=
  read_slab arg11.view _ 9 _ (fun κ r l => slabs4 (κ := κ) (r := r) (l := l) ..) r l

theorem l4_10 (r : Fin 512) (l : Fin 128) : ((shapeCast S512x128 (kernelRun0_A.sl.v1240 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((10 : Fin 16) : ℕ) + l.val, ix16_lt 10 l⟩ :=
  read_slab arg11.view _ 10 _ (fun κ r l => slabs4 (κ := κ) (r := r) (l := l) ..) r l

theorem l4_11 (r : Fin 512) (l : Fin 128) : ((shapeCast S512x128 (kernelRun0_A.sl.v1242 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((11 : Fin 16) : ℕ) + l.val, ix16_lt 11 l⟩ :=
  read_slab arg11.view _ 11 _ (fun κ r l => slabs4 (κ := κ) (r := r) (l := l) ..) r l

theorem l4_12 (r : Fin 512) (l : Fin 128) : ((shapeCast S512x128 (kernelRun0_A.sl.v1244 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((12 : Fin 16) : ℕ) + l.val, ix16_lt 12 l⟩ :=
  read_slab arg11.view _ 12 _ (fun κ r l => slabs4 (κ := κ) (r := r) (l := l) ..) r l

theorem l4_13 (r : Fin 512) (l : Fin 128) : ((shapeCast S512x128 (kernelRun0_A.sl.v1246 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((13 : Fin 16) : ℕ) + l.val, ix16_lt 13 l⟩ :=
  read_slab arg11.view _ 13 _ (fun κ r l => slabs4 (κ := κ) (r := r) (l := l) ..) r l

theorem l4_14 (r : Fin 512) (l : Fin 128) : ((shapeCast S512x128 (kernelRun0_A.sl.v1248 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((14 : Fin 16) : ℕ) + l.val, ix16_lt 14 l⟩ :=
  read_slab arg11.view _ 14 _ (fun κ r l => slabs4 (κ := κ) (r := r) (l := l) ..) r l

theorem l4_15 (r : Fin 512) (l : Fin 128) : ((shapeCast S512x128 (kernelRun0_A.sl.v1250 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) shapeCasts_S1x512x128_S512x128) : FVec Ideal S512x128 .f32) (ix2 r l) = (SLE x3 (hbF (k0_pay128 (F := Ideal) x0 x2)) x4 x1) 3 r ⟨128 * ((15 : Fin 16) : ℕ) + l.val, ix16_lt 15 l⟩ :=
  read_slab arg11.view _ 15 _ (fun κ r l => slabs4 (κ := κ) (r := r) (l := l) ..) r l

theorem yst (y : S8x512x128.Idx) : View.canon (kernelRun0_A.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5) y = yG (SLE x3 (hbF (k0_pay128 (F := Ideal) x0 x2)) x4 x1) x5 y :=
  canon_8 (yG (SLE x3 (hbF (k0_pay128 (F := Ideal) x0 x2)) x4 x1) x5) (kernelRun0_A.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5) rfl (And.intro (fun x => yp3_1 (SLE x3 (hbF (k0_pay128 (F := Ideal) x0 x2)) x4 x1) x5 (kernelRun0_A.sl.v1221 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1223 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1225 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1227 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1229 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1230 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1232 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1234 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1236 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1238 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1240 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1242 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1244 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1246 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1248 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1250 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l4_0 (r := r) (l := l) ..) (fun r l => l4_1 (r := r) (l := l) ..) (fun r l => l4_2 (r := r) (l := l) ..) (fun r l => l4_3 (r := r) (l := l) ..) (fun r l => l4_4 (r := r) (l := l) ..) (fun r l => l4_5 (r := r) (l := l) ..) (fun r l => l4_6 (r := r) (l := l) ..) (fun r l => l4_7 (r := r) (l := l) ..) (fun r l => l4_8 (r := r) (l := l) ..) (fun r l => l4_9 (r := r) (l := l) ..) (fun r l => l4_10 (r := r) (l := l) ..) (fun r l => l4_11 (r := r) (l := l) ..) (fun r l => l4_12 (r := r) (l := l) ..) (fun r l => l4_13 (r := r) (l := l) ..) (fun r l => l4_14 (r := r) (l := l) ..) (fun r l => l4_15 (r := r) (l := l) ..) _ (load_C harg6 x5 3 (by decide)) (by decide) x) (And.intro (fun x => yp3_0 (SLE x3 (hbF (k0_pay128 (F := Ideal) x0 x2)) x4 x1) x5 (kernelRun0_A.sl.v1221 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1223 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1225 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1227 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1229 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1230 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1232 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1234 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1236 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1238 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1240 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1242 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1244 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1246 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1248 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1250 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l4_0 (r := r) (l := l) ..) (fun r l => l4_1 (r := r) (l := l) ..) (fun r l => l4_2 (r := r) (l := l) ..) (fun r l => l4_3 (r := r) (l := l) ..) (fun r l => l4_4 (r := r) (l := l) ..) (fun r l => l4_5 (r := r) (l := l) ..) (fun r l => l4_6 (r := r) (l := l) ..) (fun r l => l4_7 (r := r) (l := l) ..) (fun r l => l4_8 (r := r) (l := l) ..) (fun r l => l4_9 (r := r) (l := l) ..) (fun r l => l4_10 (r := r) (l := l) ..) (fun r l => l4_11 (r := r) (l := l) ..) (fun r l => l4_12 (r := r) (l := l) ..) (fun r l => l4_13 (r := r) (l := l) ..) (fun r l => l4_14 (r := r) (l := l) ..) (fun r l => l4_15 (r := r) (l := l) ..) _ (load_C harg6 x5 3 (by decide)) (by decide) x) (And.intro (fun x => yp2_1 (SLE x3 (hbF (k0_pay128 (F := Ideal) x0 x2)) x4 x1) x5 (kernelRun0_A.sl.v978 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v980 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v982 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v984 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v986 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v988 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v990 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v992 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v994 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v996 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v997 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v999 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1001 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1003 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1005 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1007 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l3_0 (r := r) (l := l) ..) (fun r l => l3_1 (r := r) (l := l) ..) (fun r l => l3_2 (r := r) (l := l) ..) (fun r l => l3_3 (r := r) (l := l) ..) (fun r l => l3_4 (r := r) (l := l) ..) (fun r l => l3_5 (r := r) (l := l) ..) (fun r l => l3_6 (r := r) (l := l) ..) (fun r l => l3_7 (r := r) (l := l) ..) (fun r l => l3_8 (r := r) (l := l) ..) (fun r l => l3_9 (r := r) (l := l) ..) (fun r l => l3_10 (r := r) (l := l) ..) (fun r l => l3_11 (r := r) (l := l) ..) (fun r l => l3_12 (r := r) (l := l) ..) (fun r l => l3_13 (r := r) (l := l) ..) (fun r l => l3_14 (r := r) (l := l) ..) (fun r l => l3_15 (r := r) (l := l) ..) _ (load_C harg6 x5 2 (by decide)) (by decide) x) (And.intro (fun x => yp2_0 (SLE x3 (hbF (k0_pay128 (F := Ideal) x0 x2)) x4 x1) x5 (kernelRun0_A.sl.v978 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v980 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v982 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v984 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v986 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v988 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v990 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v992 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v994 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v996 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v997 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v999 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1001 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1003 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1005 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v1007 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l3_0 (r := r) (l := l) ..) (fun r l => l3_1 (r := r) (l := l) ..) (fun r l => l3_2 (r := r) (l := l) ..) (fun r l => l3_3 (r := r) (l := l) ..) (fun r l => l3_4 (r := r) (l := l) ..) (fun r l => l3_5 (r := r) (l := l) ..) (fun r l => l3_6 (r := r) (l := l) ..) (fun r l => l3_7 (r := r) (l := l) ..) (fun r l => l3_8 (r := r) (l := l) ..) (fun r l => l3_9 (r := r) (l := l) ..) (fun r l => l3_10 (r := r) (l := l) ..) (fun r l => l3_11 (r := r) (l := l) ..) (fun r l => l3_12 (r := r) (l := l) ..) (fun r l => l3_13 (r := r) (l := l) ..) (fun r l => l3_14 (r := r) (l := l) ..) (fun r l => l3_15 (r := r) (l := l) ..) _ (load_C harg6 x5 2 (by decide)) (by decide) x) (And.intro (fun x => yp1_1 (SLE x3 (hbF (k0_pay128 (F := Ideal) x0 x2)) x4 x1) x5 (kernelRun0_A.sl.v735 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v737 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v739 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v741 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v743 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v745 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v747 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v749 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v751 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v753 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v755 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v757 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v759 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v761 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v762 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v764 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l2_0 (r := r) (l := l) ..) (fun r l => l2_1 (r := r) (l := l) ..) (fun r l => l2_2 (r := r) (l := l) ..) (fun r l => l2_3 (r := r) (l := l) ..) (fun r l => l2_4 (r := r) (l := l) ..) (fun r l => l2_5 (r := r) (l := l) ..) (fun r l => l2_6 (r := r) (l := l) ..) (fun r l => l2_7 (r := r) (l := l) ..) (fun r l => l2_8 (r := r) (l := l) ..) (fun r l => l2_9 (r := r) (l := l) ..) (fun r l => l2_10 (r := r) (l := l) ..) (fun r l => l2_11 (r := r) (l := l) ..) (fun r l => l2_12 (r := r) (l := l) ..) (fun r l => l2_13 (r := r) (l := l) ..) (fun r l => l2_14 (r := r) (l := l) ..) (fun r l => l2_15 (r := r) (l := l) ..) _ (load_C harg6 x5 1 (by decide)) (by decide) x) (And.intro (fun x => yp1_0 (SLE x3 (hbF (k0_pay128 (F := Ideal) x0 x2)) x4 x1) x5 (kernelRun0_A.sl.v735 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v737 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v739 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v741 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v743 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v745 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v747 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v749 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v751 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v753 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v755 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v757 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v759 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v761 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v762 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v764 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l2_0 (r := r) (l := l) ..) (fun r l => l2_1 (r := r) (l := l) ..) (fun r l => l2_2 (r := r) (l := l) ..) (fun r l => l2_3 (r := r) (l := l) ..) (fun r l => l2_4 (r := r) (l := l) ..) (fun r l => l2_5 (r := r) (l := l) ..) (fun r l => l2_6 (r := r) (l := l) ..) (fun r l => l2_7 (r := r) (l := l) ..) (fun r l => l2_8 (r := r) (l := l) ..) (fun r l => l2_9 (r := r) (l := l) ..) (fun r l => l2_10 (r := r) (l := l) ..) (fun r l => l2_11 (r := r) (l := l) ..) (fun r l => l2_12 (r := r) (l := l) ..) (fun r l => l2_13 (r := r) (l := l) ..) (fun r l => l2_14 (r := r) (l := l) ..) (fun r l => l2_15 (r := r) (l := l) ..) _ (load_C harg6 x5 1 (by decide)) (by decide) x) (And.intro (fun x => yp0_1 (SLE x3 (hbF (k0_pay128 (F := Ideal) x0 x2)) x4 x1) x5 (kernelRun0_A.sl.v492 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v494 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v496 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v498 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v500 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v502 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v504 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v505 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v507 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v509 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v511 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v513 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v515 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v517 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v519 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v521 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l1_0 (r := r) (l := l) ..) (fun r l => l1_1 (r := r) (l := l) ..) (fun r l => l1_2 (r := r) (l := l) ..) (fun r l => l1_3 (r := r) (l := l) ..) (fun r l => l1_4 (r := r) (l := l) ..) (fun r l => l1_5 (r := r) (l := l) ..) (fun r l => l1_6 (r := r) (l := l) ..) (fun r l => l1_7 (r := r) (l := l) ..) (fun r l => l1_8 (r := r) (l := l) ..) (fun r l => l1_9 (r := r) (l := l) ..) (fun r l => l1_10 (r := r) (l := l) ..) (fun r l => l1_11 (r := r) (l := l) ..) (fun r l => l1_12 (r := r) (l := l) ..) (fun r l => l1_13 (r := r) (l := l) ..) (fun r l => l1_14 (r := r) (l := l) ..) (fun r l => l1_15 (r := r) (l := l) ..) _ (load_C harg6 x5 0 (by decide)) (by decide) x) (And.intro (fun x => yp0_0 (SLE x3 (hbF (k0_pay128 (F := Ideal) x0 x2)) x4 x1) x5 (kernelRun0_A.sl.v492 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v494 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v496 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v498 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v500 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v502 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v504 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v505 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v507 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v509 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v511 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v513 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v515 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v517 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v519 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (kernelRun0_A.sl.v521 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) (fun r l => l1_0 (r := r) (l := l) ..) (fun r l => l1_1 (r := r) (l := l) ..) (fun r l => l1_2 (r := r) (l := l) ..) (fun r l => l1_3 (r := r) (l := l) ..) (fun r l => l1_4 (r := r) (l := l) ..) (fun r l => l1_5 (r := r) (l := l) ..) (fun r l => l1_6 (r := r) (l := l) ..) (fun r l => l1_7 (r := r) (l := l) ..) (fun r l => l1_8 (r := r) (l := l) ..) (fun r l => l1_9 (r := r) (l := l) ..) (fun r l => l1_10 (r := r) (l := l) ..) (fun r l => l1_11 (r := r) (l := l) ..) (fun r l => l1_12 (r := r) (l := l) ..) (fun r l => l1_13 (r := r) (l := l) ..) (fun r l => l1_14 (r := r) (l := l) ..) (fun r l => l1_15 (r := r) (l := l) ..) _ (load_C harg6 x5 0 (by decide)) (by decide) x) (trivial))))))))) y

end Cert.S5.PA
-- ==== Proof.SISst.lean ====
/- An array of states written as sixty-four tiles, each of which holds its part of one value. -/
module

public import proofs.«01_k».proof.Proof.SISpec

@[expose] public section

set_option maxRecDepth 65536
set_option maxHeartbeats 1600000

noncomputable section

namespace Cert.S5

open Idealize.ShloMosaic Idealize.ShloMosaic.TcCoe Idealize.SL.Sem Cert.Kernel2Ideal Cert.Kernel2Ideal.Gen

theorem canon64 (G : S8x8192.Idx → EReal) (T : List (View.Piece (Elt Ideal) S8x8192 .f32))
    {i0 : ∀ x : Fin 2, (![0, 0] : Fin 2 → ℕ) x + S8x128.size x ≤ S8x8192.size x} {v0 : S8x128.Idx → EReal} (h0 : ∀ x : S8x128.Idx, v0 x = G ((Rect.unit (s := S8x8192) ![0, 0] S8x128.size i0).emb x))
    {i1 : ∀ x : Fin 2, (![0, 128] : Fin 2 → ℕ) x + S8x128.size x ≤ S8x8192.size x} {v1 : S8x128.Idx → EReal} (h1 : ∀ x : S8x128.Idx, v1 x = G ((Rect.unit (s := S8x8192) ![0, 128] S8x128.size i1).emb x))
    {i2 : ∀ x : Fin 2, (![0, 256] : Fin 2 → ℕ) x + S8x128.size x ≤ S8x8192.size x} {v2 : S8x128.Idx → EReal} (h2 : ∀ x : S8x128.Idx, v2 x = G ((Rect.unit (s := S8x8192) ![0, 256] S8x128.size i2).emb x))
    {i3 : ∀ x : Fin 2, (![0, 384] : Fin 2 → ℕ) x + S8x128.size x ≤ S8x8192.size x} {v3 : S8x128.Idx → EReal} (h3 : ∀ x : S8x128.Idx, v3 x = G ((Rect.unit (s := S8x8192) ![0, 384] S8x128.size i3).emb x))
    {i4 : ∀ x : Fin 2, (![0, 512] : Fin 2 → ℕ) x + S8x128.size x ≤ S8x8192.size x} {v4 : S8x128.Idx → EReal} (h4 : ∀ x : S8x128.Idx, v4 x = G ((Rect.unit (s := S8x8192) ![0, 512] S8x128.size i4).emb x))
    {i5 : ∀ x : Fin 2, (![0, 640] : Fin 2 → ℕ) x + S8x128.size x ≤ S8x8192.size x} {v5 : S8x128.Idx → EReal} (h5 : ∀ x : S8x128.Idx, v5 x = G ((Rect.unit (s := S8x8192) ![0, 640] S8x128.size i5).emb x))
    {i6 : ∀ x : Fin 2, (![0, 768] : Fin 2 → ℕ) x + S8x128.size x ≤ S8x8192.size x} {v6 : S8x128.Idx → EReal} (h6 : ∀ x : S8x128.Idx, v6 x = G ((Rect.unit (s := S8x8192) ![0, 768] S8x128.size i6).emb x))
    {i7 : ∀ x : Fin 2, (![0, 896] : Fin 2 → ℕ) x + S8x128.size x ≤ S8x8192.size x} {v7 : S8x128.Idx → EReal} (h7 : ∀ x : S8x128.Idx, v7 x = G ((Rect.unit (s := S8x8192) ![0, 896] S8x128.size i7).emb x))
    {i8 : ∀ x : Fin 2, (![0, 1024] : Fin 2 → ℕ) x + S8x128.size x ≤ S8x8192.size x} {v8 : S8x128.Idx → EReal} (h8 : ∀ x : S8x128.Idx, v8 x = G ((Rect.unit (s := S8x8192) ![0, 1024] S8x128.size i8).emb x))
    {i9 : ∀ x : Fin 2, (![0, 1152] : Fin 2 → ℕ) x + S8x128.size x ≤ S8x8192.size x} {v9 : S8x128.Idx → EReal} (h9 : ∀ x : S8x128.Idx, v9 x = G ((Rect.unit (s := S8x8192) ![0, 1152] S8x128.size i9).emb x))
    {i10 : ∀ x : Fin 2, (![0, 1280] : Fin 2 → ℕ) x + S8x128.size x ≤ S8x8192.size x} {v10 : S8x128.Idx → EReal} (h10 : ∀ x : S8x128.Idx, v10 x = G ((Rect.unit (s := S8x8192) ![0, 1280] S8x128.size i10).emb x))
    {i11 : ∀ x : Fin 2, (![0, 1408] : Fin 2 → ℕ) x + S8x128.size x ≤ S8x8192.size x} {v11 : S8x128.Idx → EReal} (h11 : ∀ x : S8x128.Idx, v11 x = G ((Rect.unit (s := S8x8192) ![0, 1408] S8x128.size i11).emb x))
    {i12 : ∀ x : Fin 2, (![0, 1536] : Fin 2 → ℕ) x + S8x128.size x ≤ S8x8192.size x} {v12 : S8x128.Idx → EReal} (h12 : ∀ x : S8x128.Idx, v12 x = G ((Rect.unit (s := S8x8192) ![0, 1536] S8x128.size i12).emb x))
    {i13 : ∀ x : Fin 2, (![0, 1664] : Fin 2 → ℕ) x + S8x128.size x ≤ S8x8192.size x} {v13 : S8x128.Idx → EReal} (h13 : ∀ x : S8x128.Idx, v13 x = G ((Rect.unit (s := S8x8192) ![0, 1664] S8x128.size i13).emb x))
    {i14 : ∀ x : Fin 2, (![0, 1792] : Fin 2 → ℕ) x + S8x128.size x ≤ S8x8192.size x} {v14 : S8x128.Idx → EReal} (h14 : ∀ x : S8x128.Idx, v14 x = G ((Rect.unit (s := S8x8192) ![0, 1792] S8x128.size i14).emb x))
    {i15 : ∀ x : Fin 2, (![0, 1920] : Fin 2 → ℕ) x + S8x128.size x ≤ S8x8192.size x} {v15 : S8x128.Idx → EReal} (h15 : ∀ x : S8x128.Idx, v15 x = G ((Rect.unit (s := S8x8192) ![0, 1920] S8x128.size i15).emb x))
    {i16 : ∀ x : Fin 2, (![0, 2048] : Fin 2 → ℕ) x + S8x128.size x ≤ S8x8192.size x} {v16 : S8x128.Idx → EReal} (h16 : ∀ x : S8x128.Idx, v16 x = G ((Rect.unit (s := S8x8192) ![0, 2048] S8x128.size i16).emb x))
    {i17 : ∀ x : Fin 2, (![0, 2176] : Fin 2 → ℕ) x + S8x128.size x ≤ S8x8192.size x} {v17 : S8x128.Idx → EReal} (h17 : ∀ x : S8x128.Idx, v17 x = G ((Rect.unit (s := S8x8192) ![0, 2176] S8x128.size i17).emb x))
    {i18 : ∀ x : Fin 2, (![0, 2304] : Fin 2 → ℕ) x + S8x128.size x ≤ S8x8192.size x} {v18 : S8x128.Idx → EReal} (h18 : ∀ x : S8x128.Idx, v18 x = G ((Rect.unit (s := S8x8192) ![0, 2304] S8x128.size i18).emb x))
    {i19 : ∀ x : Fin 2, (![0, 2432] : Fin 2 → ℕ) x + S8x128.size x ≤ S8x8192.size x} {v19 : S8x128.Idx → EReal} (h19 : ∀ x : S8x128.Idx, v19 x = G ((Rect.unit (s := S8x8192) ![0, 2432] S8x128.size i19).emb x))
    {i20 : ∀ x : Fin 2, (![0, 2560] : Fin 2 → ℕ) x + S8x128.size x ≤ S8x8192.size x} {v20 : S8x128.Idx → EReal} (h20 : ∀ x : S8x128.Idx, v20 x = G ((Rect.unit (s := S8x8192) ![0, 2560] S8x128.size i20).emb x))
    {i21 : ∀ x : Fin 2, (![0, 2688] : Fin 2 → ℕ) x + S8x128.size x ≤ S8x8192.size x} {v21 : S8x128.Idx → EReal} (h21 : ∀ x : S8x128.Idx, v21 x = G ((Rect.unit (s := S8x8192) ![0, 2688] S8x128.size i21).emb x))
    {i22 : ∀ x : Fin 2, (![0, 2816] : Fin 2 → ℕ) x + S8x128.size x ≤ S8x8192.size x} {v22 : S8x128.Idx → EReal} (h22 : ∀ x : S8x128.Idx, v22 x = G ((Rect.unit (s := S8x8192) ![0, 2816] S8x128.size i22).emb x))
    {i23 : ∀ x : Fin 2, (![0, 2944] : Fin 2 → ℕ) x + S8x128.size x ≤ S8x8192.size x} {v23 : S8x128.Idx → EReal} (h23 : ∀ x : S8x128.Idx, v23 x = G ((Rect.unit (s := S8x8192) ![0, 2944] S8x128.size i23).emb x))
    {i24 : ∀ x : Fin 2, (![0, 3072] : Fin 2 → ℕ) x + S8x128.size x ≤ S8x8192.size x} {v24 : S8x128.Idx → EReal} (h24 : ∀ x : S8x128.Idx, v24 x = G ((Rect.unit (s := S8x8192) ![0, 3072] S8x128.size i24).emb x))
    {i25 : ∀ x : Fin 2, (![0, 3200] : Fin 2 → ℕ) x + S8x128.size x ≤ S8x8192.size x} {v25 : S8x128.Idx → EReal} (h25 : ∀ x : S8x128.Idx, v25 x = G ((Rect.unit (s := S8x8192) ![0, 3200] S8x128.size i25).emb x))
    {i26 : ∀ x : Fin 2, (![0, 3328] : Fin 2 → ℕ) x + S8x128.size x ≤ S8x8192.size x} {v26 : S8x128.Idx → EReal} (h26 : ∀ x : S8x128.Idx, v26 x = G ((Rect.unit (s := S8x8192) ![0, 3328] S8x128.size i26).emb x))
    {i27 : ∀ x : Fin 2, (![0, 3456] : Fin 2 → ℕ) x + S8x128.size x ≤ S8x8192.size x} {v27 : S8x128.Idx → EReal} (h27 : ∀ x : S8x128.Idx, v27 x = G ((Rect.unit (s := S8x8192) ![0, 3456] S8x128.size i27).emb x))
    {i28 : ∀ x : Fin 2, (![0, 3584] : Fin 2 → ℕ) x + S8x128.size x ≤ S8x8192.size x} {v28 : S8x128.Idx → EReal} (h28 : ∀ x : S8x128.Idx, v28 x = G ((Rect.unit (s := S8x8192) ![0, 3584] S8x128.size i28).emb x))
    {i29 : ∀ x : Fin 2, (![0, 3712] : Fin 2 → ℕ) x + S8x128.size x ≤ S8x8192.size x} {v29 : S8x128.Idx → EReal} (h29 : ∀ x : S8x128.Idx, v29 x = G ((Rect.unit (s := S8x8192) ![0, 3712] S8x128.size i29).emb x))
    {i30 : ∀ x : Fin 2, (![0, 3840] : Fin 2 → ℕ) x + S8x128.size x ≤ S8x8192.size x} {v30 : S8x128.Idx → EReal} (h30 : ∀ x : S8x128.Idx, v30 x = G ((Rect.unit (s := S8x8192) ![0, 3840] S8x128.size i30).emb x))
    {i31 : ∀ x : Fin 2, (![0, 3968] : Fin 2 → ℕ) x + S8x128.size x ≤ S8x8192.size x} {v31 : S8x128.Idx → EReal} (h31 : ∀ x : S8x128.Idx, v31 x = G ((Rect.unit (s := S8x8192) ![0, 3968] S8x128.size i31).emb x))
    {i32 : ∀ x : Fin 2, (![0, 4096] : Fin 2 → ℕ) x + S8x128.size x ≤ S8x8192.size x} {v32 : S8x128.Idx → EReal} (h32 : ∀ x : S8x128.Idx, v32 x = G ((Rect.unit (s := S8x8192) ![0, 4096] S8x128.size i32).emb x))
    {i33 : ∀ x : Fin 2, (![0, 4224] : Fin 2 → ℕ) x + S8x128.size x ≤ S8x8192.size x} {v33 : S8x128.Idx → EReal} (h33 : ∀ x : S8x128.Idx, v33 x = G ((Rect.unit (s := S8x8192) ![0, 4224] S8x128.size i33).emb x))
    {i34 : ∀ x : Fin 2, (![0, 4352] : Fin 2 → ℕ) x + S8x128.size x ≤ S8x8192.size x} {v34 : S8x128.Idx → EReal} (h34 : ∀ x : S8x128.Idx, v34 x = G ((Rect.unit (s := S8x8192) ![0, 4352] S8x128.size i34).emb x))
    {i35 : ∀ x : Fin 2, (![0, 4480] : Fin 2 → ℕ) x + S8x128.size x ≤ S8x8192.size x} {v35 : S8x128.Idx → EReal} (h35 : ∀ x : S8x128.Idx, v35 x = G ((Rect.unit (s := S8x8192) ![0, 4480] S8x128.size i35).emb x))
    {i36 : ∀ x : Fin 2, (![0, 4608] : Fin 2 → ℕ) x + S8x128.size x ≤ S8x8192.size x} {v36 : S8x128.Idx → EReal} (h36 : ∀ x : S8x128.Idx, v36 x = G ((Rect.unit (s := S8x8192) ![0, 4608] S8x128.size i36).emb x))
    {i37 : ∀ x : Fin 2, (![0, 4736] : Fin 2 → ℕ) x + S8x128.size x ≤ S8x8192.size x} {v37 : S8x128.Idx → EReal} (h37 : ∀ x : S8x128.Idx, v37 x = G ((Rect.unit (s := S8x8192) ![0, 4736] S8x128.size i37).emb x))
    {i38 : ∀ x : Fin 2, (![0, 4864] : Fin 2 → ℕ) x + S8x128.size x ≤ S8x8192.size x} {v38 : S8x128.Idx → EReal} (h38 : ∀ x : S8x128.Idx, v38 x = G ((Rect.unit (s := S8x8192) ![0, 4864] S8x128.size i38).emb x))
    {i39 : ∀ x : Fin 2, (![0, 4992] : Fin 2 → ℕ) x + S8x128.size x ≤ S8x8192.size x} {v39 : S8x128.Idx → EReal} (h39 : ∀ x : S8x128.Idx, v39 x = G ((Rect.unit (s := S8x8192) ![0, 4992] S8x128.size i39).emb x))
    {i40 : ∀ x : Fin 2, (![0, 5120] : Fin 2 → ℕ) x + S8x128.size x ≤ S8x8192.size x} {v40 : S8x128.Idx → EReal} (h40 : ∀ x : S8x128.Idx, v40 x = G ((Rect.unit (s := S8x8192) ![0, 5120] S8x128.size i40).emb x))
    {i41 : ∀ x : Fin 2, (![0, 5248] : Fin 2 → ℕ) x + S8x128.size x ≤ S8x8192.size x} {v41 : S8x128.Idx → EReal} (h41 : ∀ x : S8x128.Idx, v41 x = G ((Rect.unit (s := S8x8192) ![0, 5248] S8x128.size i41).emb x))
    {i42 : ∀ x : Fin 2, (![0, 5376] : Fin 2 → ℕ) x + S8x128.size x ≤ S8x8192.size x} {v42 : S8x128.Idx → EReal} (h42 : ∀ x : S8x128.Idx, v42 x = G ((Rect.unit (s := S8x8192) ![0, 5376] S8x128.size i42).emb x))
    {i43 : ∀ x : Fin 2, (![0, 5504] : Fin 2 → ℕ) x + S8x128.size x ≤ S8x8192.size x} {v43 : S8x128.Idx → EReal} (h43 : ∀ x : S8x128.Idx, v43 x = G ((Rect.unit (s := S8x8192) ![0, 5504] S8x128.size i43).emb x))
    {i44 : ∀ x : Fin 2, (![0, 5632] : Fin 2 → ℕ) x + S8x128.size x ≤ S8x8192.size x} {v44 : S8x128.Idx → EReal} (h44 : ∀ x : S8x128.Idx, v44 x = G ((Rect.unit (s := S8x8192) ![0, 5632] S8x128.size i44).emb x))
    {i45 : ∀ x : Fin 2, (![0, 5760] : Fin 2 → ℕ) x + S8x128.size x ≤ S8x8192.size x} {v45 : S8x128.Idx → EReal} (h45 : ∀ x : S8x128.Idx, v45 x = G ((Rect.unit (s := S8x8192) ![0, 5760] S8x128.size i45).emb x))
    {i46 : ∀ x : Fin 2, (![0, 5888] : Fin 2 → ℕ) x + S8x128.size x ≤ S8x8192.size x} {v46 : S8x128.Idx → EReal} (h46 : ∀ x : S8x128.Idx, v46 x = G ((Rect.unit (s := S8x8192) ![0, 5888] S8x128.size i46).emb x))
    {i47 : ∀ x : Fin 2, (![0, 6016] : Fin 2 → ℕ) x + S8x128.size x ≤ S8x8192.size x} {v47 : S8x128.Idx → EReal} (h47 : ∀ x : S8x128.Idx, v47 x = G ((Rect.unit (s := S8x8192) ![0, 6016] S8x128.size i47).emb x))
    {i48 : ∀ x : Fin 2, (![0, 6144] : Fin 2 → ℕ) x + S8x128.size x ≤ S8x8192.size x} {v48 : S8x128.Idx → EReal} (h48 : ∀ x : S8x128.Idx, v48 x = G ((Rect.unit (s := S8x8192) ![0, 6144] S8x128.size i48).emb x))
    {i49 : ∀ x : Fin 2, (![0, 6272] : Fin 2 → ℕ) x + S8x128.size x ≤ S8x8192.size x} {v49 : S8x128.Idx → EReal} (h49 : ∀ x : S8x128.Idx, v49 x = G ((Rect.unit (s := S8x8192) ![0, 6272] S8x128.size i49).emb x))
    {i50 : ∀ x : Fin 2, (![0, 6400] : Fin 2 → ℕ) x + S8x128.size x ≤ S8x8192.size x} {v50 : S8x128.Idx → EReal} (h50 : ∀ x : S8x128.Idx, v50 x = G ((Rect.unit (s := S8x8192) ![0, 6400] S8x128.size i50).emb x))
    {i51 : ∀ x : Fin 2, (![0, 6528] : Fin 2 → ℕ) x + S8x128.size x ≤ S8x8192.size x} {v51 : S8x128.Idx → EReal} (h51 : ∀ x : S8x128.Idx, v51 x = G ((Rect.unit (s := S8x8192) ![0, 6528] S8x128.size i51).emb x))
    {i52 : ∀ x : Fin 2, (![0, 6656] : Fin 2 → ℕ) x + S8x128.size x ≤ S8x8192.size x} {v52 : S8x128.Idx → EReal} (h52 : ∀ x : S8x128.Idx, v52 x = G ((Rect.unit (s := S8x8192) ![0, 6656] S8x128.size i52).emb x))
    {i53 : ∀ x : Fin 2, (![0, 6784] : Fin 2 → ℕ) x + S8x128.size x ≤ S8x8192.size x} {v53 : S8x128.Idx → EReal} (h53 : ∀ x : S8x128.Idx, v53 x = G ((Rect.unit (s := S8x8192) ![0, 6784] S8x128.size i53).emb x))
    {i54 : ∀ x : Fin 2, (![0, 6912] : Fin 2 → ℕ) x + S8x128.size x ≤ S8x8192.size x} {v54 : S8x128.Idx → EReal} (h54 : ∀ x : S8x128.Idx, v54 x = G ((Rect.unit (s := S8x8192) ![0, 6912] S8x128.size i54).emb x))
    {i55 : ∀ x : Fin 2, (![0, 7040] : Fin 2 → ℕ) x + S8x128.size x ≤ S8x8192.size x} {v55 : S8x128.Idx → EReal} (h55 : ∀ x : S8x128.Idx, v55 x = G ((Rect.unit (s := S8x8192) ![0, 7040] S8x128.size i55).emb x))
    {i56 : ∀ x : Fin 2, (![0, 7168] : Fin 2 → ℕ) x + S8x128.size x ≤ S8x8192.size x} {v56 : S8x128.Idx → EReal} (h56 : ∀ x : S8x128.Idx, v56 x = G ((Rect.unit (s := S8x8192) ![0, 7168] S8x128.size i56).emb x))
    {i57 : ∀ x : Fin 2, (![0, 7296] : Fin 2 → ℕ) x + S8x128.size x ≤ S8x8192.size x} {v57 : S8x128.Idx → EReal} (h57 : ∀ x : S8x128.Idx, v57 x = G ((Rect.unit (s := S8x8192) ![0, 7296] S8x128.size i57).emb x))
    {i58 : ∀ x : Fin 2, (![0, 7424] : Fin 2 → ℕ) x + S8x128.size x ≤ S8x8192.size x} {v58 : S8x128.Idx → EReal} (h58 : ∀ x : S8x128.Idx, v58 x = G ((Rect.unit (s := S8x8192) ![0, 7424] S8x128.size i58).emb x))
    {i59 : ∀ x : Fin 2, (![0, 7552] : Fin 2 → ℕ) x + S8x128.size x ≤ S8x8192.size x} {v59 : S8x128.Idx → EReal} (h59 : ∀ x : S8x128.Idx, v59 x = G ((Rect.unit (s := S8x8192) ![0, 7552] S8x128.size i59).emb x))
    {i60 : ∀ x : Fin 2, (![0, 7680] : Fin 2 → ℕ) x + S8x128.size x ≤ S8x8192.size x} {v60 : S8x128.Idx → EReal} (h60 : ∀ x : S8x128.Idx, v60 x = G ((Rect.unit (s := S8x8192) ![0, 7680] S8x128.size i60).emb x))
    {i61 : ∀ x : Fin 2, (![0, 7808] : Fin 2 → ℕ) x + S8x128.size x ≤ S8x8192.size x} {v61 : S8x128.Idx → EReal} (h61 : ∀ x : S8x128.Idx, v61 x = G ((Rect.unit (s := S8x8192) ![0, 7808] S8x128.size i61).emb x))
    {i62 : ∀ x : Fin 2, (![0, 7936] : Fin 2 → ℕ) x + S8x128.size x ≤ S8x8192.size x} {v62 : S8x128.Idx → EReal} (h62 : ∀ x : S8x128.Idx, v62 x = G ((Rect.unit (s := S8x8192) ![0, 7936] S8x128.size i62).emb x))
    {i63 : ∀ x : Fin 2, (![0, 8064] : Fin 2 → ℕ) x + S8x128.size x ≤ S8x8192.size x} {v63 : S8x128.Idx → EReal} (h63 : ∀ x : S8x128.Idx, v63 x = G ((Rect.unit (s := S8x8192) ![0, 8064] S8x128.size i63).emb x))
    : View.canon (Val := Elt Ideal) (s := S8x8192) (e := .f32) (⟨Rect.unit (s := S8x8192) ![0, 8064] S8x128.size i63, v63⟩ :: ⟨Rect.unit (s := S8x8192) ![0, 7936] S8x128.size i62, v62⟩ :: ⟨Rect.unit (s := S8x8192) ![0, 7808] S8x128.size i61, v61⟩ :: ⟨Rect.unit (s := S8x8192) ![0, 7680] S8x128.size i60, v60⟩ :: ⟨Rect.unit (s := S8x8192) ![0, 7552] S8x128.size i59, v59⟩ :: ⟨Rect.unit (s := S8x8192) ![0, 7424] S8x128.size i58, v58⟩ :: ⟨Rect.unit (s := S8x8192) ![0, 7296] S8x128.size i57, v57⟩ :: ⟨Rect.unit (s := S8x8192) ![0, 7168] S8x128.size i56, v56⟩ :: ⟨Rect.unit (s := S8x8192) ![0, 7040] S8x128.size i55, v55⟩ :: ⟨Rect.unit (s := S8x8192) ![0, 6912] S8x128.size i54, v54⟩ :: ⟨Rect.unit (s := S8x8192) ![0, 6784] S8x128.size i53, v53⟩ :: ⟨Rect.unit (s := S8x8192) ![0, 6656] S8x128.size i52, v52⟩ :: ⟨Rect.unit (s := S8x8192) ![0, 6528] S8x128.size i51, v51⟩ :: ⟨Rect.unit (s := S8x8192) ![0, 6400] S8x128.size i50, v50⟩ :: ⟨Rect.unit (s := S8x8192) ![0, 6272] S8x128.size i49, v49⟩ :: ⟨Rect.unit (s := S8x8192) ![0, 6144] S8x128.size i48, v48⟩ :: ⟨Rect.unit (s := S8x8192) ![0, 6016] S8x128.size i47, v47⟩ :: ⟨Rect.unit (s := S8x8192) ![0, 5888] S8x128.size i46, v46⟩ :: ⟨Rect.unit (s := S8x8192) ![0, 5760] S8x128.size i45, v45⟩ :: ⟨Rect.unit (s := S8x8192) ![0, 5632] S8x128.size i44, v44⟩ :: ⟨Rect.unit (s := S8x8192) ![0, 5504] S8x128.size i43, v43⟩ :: ⟨Rect.unit (s := S8x8192) ![0, 5376] S8x128.size i42, v42⟩ :: ⟨Rect.unit (s := S8x8192) ![0, 5248] S8x128.size i41, v41⟩ :: ⟨Rect.unit (s := S8x8192) ![0, 5120] S8x128.size i40, v40⟩ :: ⟨Rect.unit (s := S8x8192) ![0, 4992] S8x128.size i39, v39⟩ :: ⟨Rect.unit (s := S8x8192) ![0, 4864] S8x128.size i38, v38⟩ :: ⟨Rect.unit (s := S8x8192) ![0, 4736] S8x128.size i37, v37⟩ :: ⟨Rect.unit (s := S8x8192) ![0, 4608] S8x128.size i36, v36⟩ :: ⟨Rect.unit (s := S8x8192) ![0, 4480] S8x128.size i35, v35⟩ :: ⟨Rect.unit (s := S8x8192) ![0, 4352] S8x128.size i34, v34⟩ :: ⟨Rect.unit (s := S8x8192) ![0, 4224] S8x128.size i33, v33⟩ :: ⟨Rect.unit (s := S8x8192) ![0, 4096] S8x128.size i32, v32⟩ :: ⟨Rect.unit (s := S8x8192) ![0, 3968] S8x128.size i31, v31⟩ :: ⟨Rect.unit (s := S8x8192) ![0, 3840] S8x128.size i30, v30⟩ :: ⟨Rect.unit (s := S8x8192) ![0, 3712] S8x128.size i29, v29⟩ :: ⟨Rect.unit (s := S8x8192) ![0, 3584] S8x128.size i28, v28⟩ :: ⟨Rect.unit (s := S8x8192) ![0, 3456] S8x128.size i27, v27⟩ :: ⟨Rect.unit (s := S8x8192) ![0, 3328] S8x128.size i26, v26⟩ :: ⟨Rect.unit (s := S8x8192) ![0, 3200] S8x128.size i25, v25⟩ :: ⟨Rect.unit (s := S8x8192) ![0, 3072] S8x128.size i24, v24⟩ :: ⟨Rect.unit (s := S8x8192) ![0, 2944] S8x128.size i23, v23⟩ :: ⟨Rect.unit (s := S8x8192) ![0, 2816] S8x128.size i22, v22⟩ :: ⟨Rect.unit (s := S8x8192) ![0, 2688] S8x128.size i21, v21⟩ :: ⟨Rect.unit (s := S8x8192) ![0, 2560] S8x128.size i20, v20⟩ :: ⟨Rect.unit (s := S8x8192) ![0, 2432] S8x128.size i19, v19⟩ :: ⟨Rect.unit (s := S8x8192) ![0, 2304] S8x128.size i18, v18⟩ :: ⟨Rect.unit (s := S8x8192) ![0, 2176] S8x128.size i17, v17⟩ :: ⟨Rect.unit (s := S8x8192) ![0, 2048] S8x128.size i16, v16⟩ :: ⟨Rect.unit (s := S8x8192) ![0, 1920] S8x128.size i15, v15⟩ :: ⟨Rect.unit (s := S8x8192) ![0, 1792] S8x128.size i14, v14⟩ :: ⟨Rect.unit (s := S8x8192) ![0, 1664] S8x128.size i13, v13⟩ :: ⟨Rect.unit (s := S8x8192) ![0, 1536] S8x128.size i12, v12⟩ :: ⟨Rect.unit (s := S8x8192) ![0, 1408] S8x128.size i11, v11⟩ :: ⟨Rect.unit (s := S8x8192) ![0, 1280] S8x128.size i10, v10⟩ :: ⟨Rect.unit (s := S8x8192) ![0, 1152] S8x128.size i9, v9⟩ :: ⟨Rect.unit (s := S8x8192) ![0, 1024] S8x128.size i8, v8⟩ :: ⟨Rect.unit (s := S8x8192) ![0, 896] S8x128.size i7, v7⟩ :: ⟨Rect.unit (s := S8x8192) ![0, 768] S8x128.size i6, v6⟩ :: ⟨Rect.unit (s := S8x8192) ![0, 640] S8x128.size i5, v5⟩ :: ⟨Rect.unit (s := S8x8192) ![0, 512] S8x128.size i4, v4⟩ :: ⟨Rect.unit (s := S8x8192) ![0, 384] S8x128.size i3, v3⟩ :: ⟨Rect.unit (s := S8x8192) ![0, 256] S8x128.size i2, v2⟩ :: ⟨Rect.unit (s := S8x8192) ![0, 128] S8x128.size i1, v1⟩ :: ⟨Rect.unit (s := S8x8192) ![0, 0] S8x128.size i0, v0⟩ :: T) = G :=
  canon_st G _ rfl ⟨h63, h62, h61, h60, h59, h58, h57, h56, h55, h54, h53, h52, h51, h50, h49, h48, h47, h46, h45, h44, h43, h42, h41, h40, h39, h38, h37, h36, h35, h34, h33, h32, h31, h30, h29, h28, h27, h26, h25, h24, h23, h22, h21, h20, h19, h18, h17, h16, h15, h14, h13, h12, h11, h10, h9, h8, h7, h6, h5, h4, h3, h2, h1, h0, trivial⟩

end Cert.S5
-- ==== Proof.SIStA4.lean ====
/- The S5 body at the first point: what the stored states hold. -/
module

public import proofs.«01_k».proof.Proof.SIStA2
public import proofs.«01_k».proof.Proof.SISst

@[expose] public section

set_option maxRecDepth 65536
set_option maxHeartbeats 1600000

noncomputable section

namespace Cert.S5.PA

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16)

attribute [local irreducible] st_k0_t1 st_k0_t2 st_k0_t3 st_k0_t4

theorem e2 (x : S8x128.Idx) : (kernelRun0_A.sl.v451 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 256] S8x128.size (by decide)).emb x) :=
  tr_ent (fun κ n b l => seq1 (κ := κ) (n := n) (b := b) (l := l) ..) 2 _ (c1_2 ..) 256 (by decide) (by decide) x

theorem e3 (x : S8x128.Idx) : (kernelRun0_A.sl.v454 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 384] S8x128.size (by decide)).emb x) :=
  tr_ent (fun κ n b l => seq1 (κ := κ) (n := n) (b := b) (l := l) ..) 3 _ (c1_3 ..) 384 (by decide) (by decide) x

theorem e4 (x : S8x128.Idx) : (kernelRun0_A.sl.v457 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 512] S8x128.size (by decide)).emb x) :=
  tr_ent (fun κ n b l => seq1 (κ := κ) (n := n) (b := b) (l := l) ..) 4 _ (c1_4 ..) 512 (by decide) (by decide) x

theorem e5 (x : S8x128.Idx) : (kernelRun0_A.sl.v460 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 640] S8x128.size (by decide)).emb x) :=
  tr_ent (fun κ n b l => seq1 (κ := κ) (n := n) (b := b) (l := l) ..) 5 _ (c1_5 ..) 640 (by decide) (by decide) x

theorem e6 (x : S8x128.Idx) : (kernelRun0_A.sl.v463 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 768] S8x128.size (by decide)).emb x) :=
  tr_ent (fun κ n b l => seq1 (κ := κ) (n := n) (b := b) (l := l) ..) 6 _ (c1_6 ..) 768 (by decide) (by decide) x

theorem e7 (x : S8x128.Idx) : (kernelRun0_A.sl.v466 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 896] S8x128.size (by decide)).emb x) :=
  tr_ent (fun κ n b l => seq1 (κ := κ) (n := n) (b := b) (l := l) ..) 7 _ (c1_7 ..) 896 (by decide) (by decide) x

theorem e8 (x : S8x128.Idx) : (kernelRun0_A.sl.v469 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1024] S8x128.size (by decide)).emb x) :=
  ti_ent (fun κ n b l => seq1 (κ := κ) (n := n) (b := b) (l := l) ..) 0 _ (c1_8 ..) 1024 (by decide) (by decide) x

theorem e9 (x : S8x128.Idx) : (kernelRun0_A.sl.v472 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1152] S8x128.size (by decide)).emb x) :=
  ti_ent (fun κ n b l => seq1 (κ := κ) (n := n) (b := b) (l := l) ..) 1 _ (c1_9 ..) 1152 (by decide) (by decide) x

theorem e10 (x : S8x128.Idx) : (kernelRun0_A.sl.v475 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1280] S8x128.size (by decide)).emb x) :=
  ti_ent (fun κ n b l => seq1 (κ := κ) (n := n) (b := b) (l := l) ..) 2 _ (c1_10 ..) 1280 (by decide) (by decide) x

theorem e11 (x : S8x128.Idx) : (kernelRun0_A.sl.v478 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1408] S8x128.size (by decide)).emb x) :=
  ti_ent (fun κ n b l => seq1 (κ := κ) (n := n) (b := b) (l := l) ..) 3 _ (c1_11 ..) 1408 (by decide) (by decide) x

theorem e12 (x : S8x128.Idx) : (kernelRun0_A.sl.v481 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1536] S8x128.size (by decide)).emb x) :=
  ti_ent (fun κ n b l => seq1 (κ := κ) (n := n) (b := b) (l := l) ..) 4 _ (c1_12 ..) 1536 (by decide) (by decide) x

theorem e13 (x : S8x128.Idx) : (kernelRun0_A.sl.v484 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1664] S8x128.size (by decide)).emb x) :=
  ti_ent (fun κ n b l => seq1 (κ := κ) (n := n) (b := b) (l := l) ..) 5 _ (c1_13 ..) 1664 (by decide) (by decide) x

theorem e14 (x : S8x128.Idx) : (kernelRun0_A.sl.v487 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1792] S8x128.size (by decide)).emb x) :=
  ti_ent (fun κ n b l => seq1 (κ := κ) (n := n) (b := b) (l := l) ..) 6 _ (c1_14 ..) 1792 (by decide) (by decide) x

theorem e15 (x : S8x128.Idx) : (kernelRun0_A.sl.v490 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 1920] S8x128.size (by decide)).emb x) :=
  ti_ent (fun κ n b l => seq1 (κ := κ) (n := n) (b := b) (l := l) ..) 7 _ (c1_15 ..) 1920 (by decide) (by decide) x

theorem e24 (x : S8x128.Idx) : (kernelRun0_A.sl.v712 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3072] S8x128.size (by decide)).emb x) :=
  ti_ent (fun κ n b l => seq2 (κ := κ) (n := n) (b := b) (l := l) ..) 0 _ (c2_8 ..) 3072 (by decide) (by decide) x

theorem e25 (x : S8x128.Idx) : (kernelRun0_A.sl.v715 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3200] S8x128.size (by decide)).emb x) :=
  ti_ent (fun κ n b l => seq2 (κ := κ) (n := n) (b := b) (l := l) ..) 1 _ (c2_9 ..) 3200 (by decide) (by decide) x

theorem e26 (x : S8x128.Idx) : (kernelRun0_A.sl.v718 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3328] S8x128.size (by decide)).emb x) :=
  ti_ent (fun κ n b l => seq2 (κ := κ) (n := n) (b := b) (l := l) ..) 2 _ (c2_10 ..) 3328 (by decide) (by decide) x

theorem e27 (x : S8x128.Idx) : (kernelRun0_A.sl.v721 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3456] S8x128.size (by decide)).emb x) :=
  ti_ent (fun κ n b l => seq2 (κ := κ) (n := n) (b := b) (l := l) ..) 3 _ (c2_11 ..) 3456 (by decide) (by decide) x

theorem e28 (x : S8x128.Idx) : (kernelRun0_A.sl.v724 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3584] S8x128.size (by decide)).emb x) :=
  ti_ent (fun κ n b l => seq2 (κ := κ) (n := n) (b := b) (l := l) ..) 4 _ (c2_12 ..) 3584 (by decide) (by decide) x

theorem e29 (x : S8x128.Idx) : (kernelRun0_A.sl.v727 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3712] S8x128.size (by decide)).emb x) :=
  ti_ent (fun κ n b l => seq2 (κ := κ) (n := n) (b := b) (l := l) ..) 5 _ (c2_13 ..) 3712 (by decide) (by decide) x

theorem e30 (x : S8x128.Idx) : (kernelRun0_A.sl.v730 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3840] S8x128.size (by decide)).emb x) :=
  ti_ent (fun κ n b l => seq2 (κ := κ) (n := n) (b := b) (l := l) ..) 6 _ (c2_14 ..) 3840 (by decide) (by decide) x

theorem e31 (x : S8x128.Idx) : (kernelRun0_A.sl.v733 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 3968] S8x128.size (by decide)).emb x) :=
  ti_ent (fun κ n b l => seq2 (κ := κ) (n := n) (b := b) (l := l) ..) 7 _ (c2_15 ..) 3968 (by decide) (by decide) x

theorem e36 (x : S8x128.Idx) : (kernelRun0_A.sl.v943 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 4608] S8x128.size (by decide)).emb x) :=
  tr_ent (fun κ n b l => seq3 (κ := κ) (n := n) (b := b) (l := l) ..) 4 _ (c3_4 ..) 4608 (by decide) (by decide) x

theorem e37 (x : S8x128.Idx) : (kernelRun0_A.sl.v946 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 4736] S8x128.size (by decide)).emb x) :=
  tr_ent (fun κ n b l => seq3 (κ := κ) (n := n) (b := b) (l := l) ..) 5 _ (c3_5 ..) 4736 (by decide) (by decide) x

theorem e38 (x : S8x128.Idx) : (kernelRun0_A.sl.v949 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 4864] S8x128.size (by decide)).emb x) :=
  tr_ent (fun κ n b l => seq3 (κ := κ) (n := n) (b := b) (l := l) ..) 6 _ (c3_6 ..) 4864 (by decide) (by decide) x

theorem e39 (x : S8x128.Idx) : (kernelRun0_A.sl.v952 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 4992] S8x128.size (by decide)).emb x) :=
  tr_ent (fun κ n b l => seq3 (κ := κ) (n := n) (b := b) (l := l) ..) 7 _ (c3_7 ..) 4992 (by decide) (by decide) x

theorem e40 (x : S8x128.Idx) : (kernelRun0_A.sl.v955 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5120] S8x128.size (by decide)).emb x) :=
  ti_ent (fun κ n b l => seq3 (κ := κ) (n := n) (b := b) (l := l) ..) 0 _ (c3_8 ..) 5120 (by decide) (by decide) x

theorem e41 (x : S8x128.Idx) : (kernelRun0_A.sl.v958 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5248] S8x128.size (by decide)).emb x) :=
  ti_ent (fun κ n b l => seq3 (κ := κ) (n := n) (b := b) (l := l) ..) 1 _ (c3_9 ..) 5248 (by decide) (by decide) x

theorem e42 (x : S8x128.Idx) : (kernelRun0_A.sl.v961 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5376] S8x128.size (by decide)).emb x) :=
  ti_ent (fun κ n b l => seq3 (κ := κ) (n := n) (b := b) (l := l) ..) 2 _ (c3_10 ..) 5376 (by decide) (by decide) x

theorem e43 (x : S8x128.Idx) : (kernelRun0_A.sl.v964 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5504] S8x128.size (by decide)).emb x) :=
  ti_ent (fun κ n b l => seq3 (κ := κ) (n := n) (b := b) (l := l) ..) 3 _ (c3_11 ..) 5504 (by decide) (by decide) x

theorem e44 (x : S8x128.Idx) : (kernelRun0_A.sl.v967 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5632] S8x128.size (by decide)).emb x) :=
  ti_ent (fun κ n b l => seq3 (κ := κ) (n := n) (b := b) (l := l) ..) 4 _ (c3_12 ..) 5632 (by decide) (by decide) x

theorem e45 (x : S8x128.Idx) : (kernelRun0_A.sl.v970 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5760] S8x128.size (by decide)).emb x) :=
  ti_ent (fun κ n b l => seq3 (κ := κ) (n := n) (b := b) (l := l) ..) 5 _ (c3_13 ..) 5760 (by decide) (by decide) x

theorem e46 (x : S8x128.Idx) : (kernelRun0_A.sl.v973 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 5888] S8x128.size (by decide)).emb x) :=
  ti_ent (fun κ n b l => seq3 (κ := κ) (n := n) (b := b) (l := l) ..) 6 _ (c3_14 ..) 5888 (by decide) (by decide) x

theorem e47 (x : S8x128.Idx) : (kernelRun0_A.sl.v976 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6016] S8x128.size (by decide)).emb x) :=
  ti_ent (fun κ n b l => seq3 (κ := κ) (n := n) (b := b) (l := l) ..) 7 _ (c3_15 ..) 6016 (by decide) (by decide) x

theorem e48 (x : S8x128.Idx) : (kernelRun0_A.sl.v1174 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6144] S8x128.size (by decide)).emb x) :=
  tr_ent (fun κ n b l => seq4 (κ := κ) (n := n) (b := b) (l := l) ..) 0 _ (c4_0 ..) 6144 (by decide) (by decide) x

theorem e49 (x : S8x128.Idx) : (kernelRun0_A.sl.v1177 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6272] S8x128.size (by decide)).emb x) :=
  tr_ent (fun κ n b l => seq4 (κ := κ) (n := n) (b := b) (l := l) ..) 1 _ (c4_1 ..) 6272 (by decide) (by decide) x

theorem e50 (x : S8x128.Idx) : (kernelRun0_A.sl.v1180 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6400] S8x128.size (by decide)).emb x) :=
  tr_ent (fun κ n b l => seq4 (κ := κ) (n := n) (b := b) (l := l) ..) 2 _ (c4_2 ..) 6400 (by decide) (by decide) x

theorem e51 (x : S8x128.Idx) : (kernelRun0_A.sl.v1183 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6528] S8x128.size (by decide)).emb x) :=
  tr_ent (fun κ n b l => seq4 (κ := κ) (n := n) (b := b) (l := l) ..) 3 _ (c4_3 ..) 6528 (by decide) (by decide) x

theorem e52 (x : S8x128.Idx) : (kernelRun0_A.sl.v1186 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6656] S8x128.size (by decide)).emb x) :=
  tr_ent (fun κ n b l => seq4 (κ := κ) (n := n) (b := b) (l := l) ..) 4 _ (c4_4 ..) 6656 (by decide) (by decide) x

theorem e53 (x : S8x128.Idx) : (kernelRun0_A.sl.v1189 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6784] S8x128.size (by decide)).emb x) :=
  tr_ent (fun κ n b l => seq4 (κ := κ) (n := n) (b := b) (l := l) ..) 5 _ (c4_5 ..) 6784 (by decide) (by decide) x

theorem e54 (x : S8x128.Idx) : (kernelRun0_A.sl.v1192 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 6912] S8x128.size (by decide)).emb x) :=
  tr_ent (fun κ n b l => seq4 (κ := κ) (n := n) (b := b) (l := l) ..) 6 _ (c4_6 ..) 6912 (by decide) (by decide) x

theorem e55 (x : S8x128.Idx) : (kernelRun0_A.sl.v1195 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7040] S8x128.size (by decide)).emb x) :=
  tr_ent (fun κ n b l => seq4 (κ := κ) (n := n) (b := b) (l := l) ..) 7 _ (c4_7 ..) 7040 (by decide) (by decide) x

theorem e56 (x : S8x128.Idx) : (kernelRun0_A.sl.v1198 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7168] S8x128.size (by decide)).emb x) :=
  ti_ent (fun κ n b l => seq4 (κ := κ) (n := n) (b := b) (l := l) ..) 0 _ (c4_8 ..) 7168 (by decide) (by decide) x

theorem e57 (x : S8x128.Idx) : (kernelRun0_A.sl.v1201 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7296] S8x128.size (by decide)).emb x) :=
  ti_ent (fun κ n b l => seq4 (κ := κ) (n := n) (b := b) (l := l) ..) 1 _ (c4_9 ..) 7296 (by decide) (by decide) x

theorem e58 (x : S8x128.Idx) : (kernelRun0_A.sl.v1204 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7424] S8x128.size (by decide)).emb x) :=
  ti_ent (fun κ n b l => seq4 (κ := κ) (n := n) (b := b) (l := l) ..) 2 _ (c4_10 ..) 7424 (by decide) (by decide) x

theorem e59 (x : S8x128.Idx) : (kernelRun0_A.sl.v1207 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7552] S8x128.size (by decide)).emb x) :=
  ti_ent (fun κ n b l => seq4 (κ := κ) (n := n) (b := b) (l := l) ..) 3 _ (c4_11 ..) 7552 (by decide) (by decide) x

theorem e60 (x : S8x128.Idx) : (kernelRun0_A.sl.v1210 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7680] S8x128.size (by decide)).emb x) :=
  ti_ent (fun κ n b l => seq4 (κ := κ) (n := n) (b := b) (l := l) ..) 4 _ (c4_12 ..) 7680 (by decide) (by decide) x

theorem e61 (x : S8x128.Idx) : (kernelRun0_A.sl.v1213 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7808] S8x128.size (by decide)).emb x) :=
  ti_ent (fun κ n b l => seq4 (κ := κ) (n := n) (b := b) (l := l) ..) 5 _ (c4_13 ..) 7808 (by decide) (by decide) x

theorem e62 (x : S8x128.Idx) : (kernelRun0_A.sl.v1216 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 7936] S8x128.size (by decide)).emb x) :=
  ti_ent (fun κ n b l => seq4 (κ := κ) (n := n) (b := b) (l := l) ..) 6 _ (c4_14 ..) 7936 (by decide) (by decide) x

theorem e63 (x : S8x128.Idx) : (kernelRun0_A.sl.v1219 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) x = (stG x3 (hbF (k0_pay128 (F := Ideal) x0 x2)) x4 x1) ((Rect.unit (s := S8x8192) ![0, 8064] S8x128.size (by decide)).emb x) :=
  ti_ent (fun κ n b l => seq4 (κ := κ) (n := n) (b := b) (l := l) ..) 7 _ (c4_15 ..) 8064 (by decide) (by decide) x

theorem sst : View.canon (kernelRun0_A.sl.HS1_65 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4) = (stG x3 (hbF (k0_pay128 (F := Ideal) x0 x2)) x4 x1) :=
  canon64 (stG x3 (hbF (k0_pay128 (F := Ideal) x0 x2)) x4 x1) _ (fun x => tr_ent (fun κ n b l => seq1 (κ := κ) (n := n) (b := b) (l := l) ..) 0 _ (c1_0 ..) 0 (by decide) _ x) (fun x => tr_ent (fun κ n b l => seq1 (κ := κ) (n := n) (b := b) (l := l) ..) 1 _ (c1_1 ..) 128 (by decide) _ x) (fun x => e2 (x := x) ..) (fun x => e3 (x := x) ..) (fun x => e4 (x := x) ..) (fun x => e5 (x := x) ..) (fun x => e6 (x := x) ..) (fun x => e7 (x := x) ..) (fun x => e8 (x := x) ..) (fun x => e9 (x := x) ..) (fun x => e10 (x := x) ..) (fun x => e11 (x := x) ..) (fun x => e12 (x := x) ..) (fun x => e13 (x := x) ..) (fun x => e14 (x := x) ..) (fun x => e15 (x := x) ..) (fun x => tr_ent (fun κ n b l => seq2 (κ := κ) (n := n) (b := b) (l := l) ..) 0 _ (c2_0 ..) 2048 (by decide) _ x) (fun x => tr_ent (fun κ n b l => seq2 (κ := κ) (n := n) (b := b) (l := l) ..) 1 _ (c2_1 ..) 2176 (by decide) _ x) (fun x => tr_ent (fun κ n b l => seq2 (κ := κ) (n := n) (b := b) (l := l) ..) 2 _ (c2_2 ..) 2304 (by decide) _ x) (fun x => tr_ent (fun κ n b l => seq2 (κ := κ) (n := n) (b := b) (l := l) ..) 3 _ (c2_3 ..) 2432 (by decide) _ x) (fun x => tr_ent (fun κ n b l => seq2 (κ := κ) (n := n) (b := b) (l := l) ..) 4 _ (c2_4 ..) 2560 (by decide) _ x) (fun x => tr_ent (fun κ n b l => seq2 (κ := κ) (n := n) (b := b) (l := l) ..) 5 _ (c2_5 ..) 2688 (by decide) _ x) (fun x => tr_ent (fun κ n b l => seq2 (κ := κ) (n := n) (b := b) (l := l) ..) 6 _ (c2_6 ..) 2816 (by decide) _ x) (fun x => tr_ent (fun κ n b l => seq2 (κ := κ) (n := n) (b := b) (l := l) ..) 7 _ (c2_7 ..) 2944 (by decide) _ x) (fun x => e24 (x := x) ..) (fun x => e25 (x := x) ..) (fun x => e26 (x := x) ..) (fun x => e27 (x := x) ..) (fun x => e28 (x := x) ..) (fun x => e29 (x := x) ..) (fun x => e30 (x := x) ..) (fun x => e31 (x := x) ..) (fun x => tr_ent (fun κ n b l => seq3 (κ := κ) (n := n) (b := b) (l := l) ..) 0 _ (c3_0 ..) 4096 (by decide) _ x) (fun x => tr_ent (fun κ n b l => seq3 (κ := κ) (n := n) (b := b) (l := l) ..) 1 _ (c3_1 ..) 4224 (by decide) _ x) (fun x => tr_ent (fun κ n b l => seq3 (κ := κ) (n := n) (b := b) (l := l) ..) 2 _ (c3_2 ..) 4352 (by decide) _ x) (fun x => tr_ent (fun κ n b l => seq3 (κ := κ) (n := n) (b := b) (l := l) ..) 3 _ (c3_3 ..) 4480 (by decide) _ x) (fun x => e36 (x := x) ..) (fun x => e37 (x := x) ..) (fun x => e38 (x := x) ..) (fun x => e39 (x := x) ..) (fun x => e40 (x := x) ..) (fun x => e41 (x := x) ..) (fun x => e42 (x := x) ..) (fun x => e43 (x := x) ..) (fun x => e44 (x := x) ..) (fun x => e45 (x := x) ..) (fun x => e46 (x := x) ..) (fun x => e47 (x := x) ..) (fun x => e48 (x := x) ..) (fun x => e49 (x := x) ..) (fun x => e50 (x := x) ..) (fun x => e51 (x := x) ..) (fun x => e52 (x := x) ..) (fun x => e53 (x := x) ..) (fun x => e54 (x := x) ..) (fun x => e55 (x := x) ..) (fun x => e56 (x := x) ..) (fun x => e57 (x := x) ..) (fun x => e58 (x := x) ..) (fun x => e59 (x := x) ..) (fun x => e60 (x := x) ..) (fun x => e61 (x := x) ..) (fun x => e62 (x := x) ..) (fun x => e63 (x := x) ..)

end Cert.S5.PA
-- ==== Proof.SIOut.lean ====
/- The output block of one point of the S5 body, as a function of what the point reads. -/
module

public import proofs.«01_k».proof.Proof.SISpec
public import proofs.«01_k».proof.Proof.SModel

@[expose] public section

set_option maxRecDepth 65536

noncomputable section

namespace Cert.S5

open Idealize.ShloMosaic Cert.Kernel2Ideal Cert.Kernel2Ideal.Gen

theorem h_at (x0 : FVec Ideal S8x64x1024 .f32) (x2 : FVec Ideal S1x1024 .f32) (b : Fin 8) (t : Fin 64) (e : Fin 1024) :
    k0_pay128 (F := Ideal) x0 x2 (ix2 ⟨64 * b.val + t.val, by omega⟩ e) = nrm (fun e => x2 (ix2 0 e)) (fun e => x0 (ix3 b t e)) e := by
  pointwise [k0_pay128, k0_pay127]
  rfl

section

variable (x0 : FVec Ideal S8x64x1024 .f32) (x2 : FVec Ideal S1x1024 .f32) (x3 : FVec Ideal S4x2x1024 .f32) (x4 : FVec Ideal S4x256x2048 .bf16)
  (S0 : FVec Ideal S8x8192 .f32) (x5 : FVec Ideal S4x2048x256 .bf16) (x6 : FVec Ideal S1x1024 .f32) (x7 : FVec Ideal S1024x2048 .bf16)

/-- The read-out of row `t` of batch row `b`, with the skip term. -/
def yP (b : Fin 8) (t : Fin 64) (e : Fin 1024) : EReal :=
  yE (SLE x3 (hbF (k0_pay128 (F := Ideal) x0 x2)) x4 S0) x5 ⟨8 * t.val + b.val, by omega⟩ e
    + x6 (ix2 0 e) * nrm (fun e => x2 (ix2 0 e)) (fun e => x0 (ix3 b t e)) e

def zP (b : Fin 8) (t : Fin 64) (j : Fin 2048) : EReal := ∑ k : Fin 1024, gelu (yP x0 x2 x3 x4 S0 x5 x6 b t k) * x7 (ix2 k j)

def outP (b : Fin 8) (t : Fin 64) (e : Fin 1024) : EReal :=
  x0 (ix3 b t e) + zP x0 x2 x3 x4 S0 x5 x6 x7 b t ⟨e.val, by omega⟩
    * Ideal.div 1 (1 + Ideal.exp (-zP x0 x2 x3 x4 S0 x5 x6 x7 b t ⟨1024 + e.val, by omega⟩))

end

theorem pay503_at (Y : FVec Ideal S512x1024 .f32) (x7 : FVec Ideal S1024x2048 .bf16) (r : Fin 512) (j : Fin 2048) :
    k0_pay503 (F := Ideal) (mulf (broadcast S512x1024 (Scalar.ofBits .f32 0x3F000000#32)) Y)
        (erf (mulf Y (broadcast S512x1024 (Scalar.ofBits .f32 0x3F3504F3#32)))) x7 (ix2 r j)
      = ∑ k : Fin 1024, gelu (Y (ix2 r k)) * x7 (ix2 k j) := by
  pointwise [k0_pay503]
  rfl

theorem pay1_at (x0 : FVec Ideal S8x64x1024 .f32) (Z : FVec Ideal S512x2048 .f32) (b : Fin 8) (t : Fin 64) (e : Fin 1024) :
    k0_pay1 (F := Ideal) (k0_pay127 (F := Ideal) x0) Z (ix3 b t e)
      = x0 (ix3 b t e) + Z (ix2 ⟨64 * b.val + t.val, by omega⟩ ⟨e.val, by omega⟩)
          * Ideal.div 1 (1 + Ideal.exp (-Z (ix2 ⟨64 * b.val + t.val, by omega⟩ ⟨1024 + e.val, by omega⟩))) := by
  pointwise [k0_pay1, k0_pay127]
  have E : 64 * b.val + t.val = b.val * 64 + t.val := by omega
  simp only [E, zero_sub]

theorem skip_at (M : FVec Ideal S512x1024 .f32) (D : FVec Ideal S1x1024 .f32) (h : FVec Ideal S512x1024 .f32) (r : Fin 512) (e : Fin 1024) :
    addf M (mulf (broadcastTo S512x1024 (shapeCast S1x1024 D shapeCasts_S1x1024_S1x1024) broadcasts_S1x1024_S512x1024) h) (ix2 r e)
      = M (ix2 r e) + D (ix2 0 e) * h (ix2 r e) := by pointwise

theorem one_piece3 {sig : RefSig} {κ : Kind} {sp : Space} (v : View sig κ sp S8x64x1024 .f32)
    (inb : ∀ a : Fin 3, (![0, 0, 0] : Fin 3 → ℕ) a + S8x64x1024.size a ≤ S8x64x1024.size a) (P : FVec Ideal S8x64x1024 .f32) (y : S8x64x1024.Idx) :
    v.read (Elt Ideal) (v.writes (Elt Ideal) v.junk [⟨Rect.unit (s := S8x64x1024) ![0, 0, 0] S8x64x1024.size inb, P⟩]) y = P y := by
  have h0 : (![0, 0, 0] : Fin S8x64x1024.rank → ℕ) = fun _ => 0 := funext fun x => match x with
    | ⟨0, _⟩ => rfl
    | ⟨1, _⟩ => rfl
    | ⟨2, _⟩ => rfl
  have K := View.canon_unit_zero (Val := Elt Ideal) (S := S8x64x1024) (e := .f32) h0 inb P
  exact (congrFun (View.read_writes_junk_eq_canon (Val := Elt Ideal) v _) y).trans (congrFun K y)

theorem one_piece2 {sig : RefSig} {κ : Kind} {sp : Space} (v : View sig κ sp S8x8192 .f32)
    (inb : ∀ a : Fin 2, (![0, 0] : Fin 2 → ℕ) a + S8x8192.size a ≤ S8x8192.size a) (P : FVec Ideal S8x8192 .f32) (y : S8x8192.Idx) :
    v.read (Elt Ideal) (v.writes (Elt Ideal) v.junk [⟨Rect.unit (s := S8x8192) ![0, 0] S8x8192.size inb, P⟩]) y = P y := by
  have h0 : (![0, 0] : Fin S8x8192.rank → ℕ) = fun _ => 0 := funext fun x => match x with
    | ⟨0, _⟩ => rfl
    | ⟨1, _⟩ => rfl
  have K := View.canon_unit_zero (Val := Elt Ideal) (S := S8x8192) (e := .f32) h0 inb P
  exact (congrFun (View.read_writes_junk_eq_canon (Val := Elt Ideal) v _) y).trans (congrFun K y)

theorem whole_back {sig : RefSig} {κ : Kind} {sp : Space} (v : View sig κ sp S8x8192 .f32) (L : List (View.Piece (Elt Ideal) S8x8192 .f32))
    (inb : ∀ a : Fin 2, (![0, 0] : Fin 2 → ℕ) a + S8x8192.size a ≤ S8x8192.size a) (y : S8x8192.Idx) :
    v.readCov L (Rect.unit (s := S8x8192) ![0, 0] S8x8192.size inb).toLoadRect y = View.canon L y := by
  rw [View.readCov_eq_canon']
  exact congrFun (View.ld_unit_zero (S := S8x8192) (by decide) inb (View.canon L)) y

end Cert.S5

end
-- ==== Proof.SIRunB.lean ====
/- The body of the S5 call at a later point. -/
module

public import proofs.«01_k».proof.Proof.SIRunA

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4312000 in set_option sl_exec.stridedRows true in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) :
    Σ' (L8 : List (View.Piece (Elt F) S8x64x1024 .f32)), Σ' (L9 : List (View.Piece (Elt F) S8x8192 .f32)), Σ' (LS1 : List (View.Piece (Elt F) S8x8192 .f32)), { LT3 : List (View.Piece (Elt F) S8x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ f, arg12.view.loc (c : Thread nD τ) ↦[arg12.view.set]{fullShare} arg12.view.writes (Elt F) f LS1) ∗ (∃ d, owns (c : Thread nD τ) arg13 fullShare d) ∗ (∃ f, arg14.view.loc (c : Thread nD τ) ↦[arg14.view.set]{fullShare} arg14.view.writes (Elt F) f LT3)) -∗ K ⟨⟩))
          ⊢ wp frame (wpE (defs₀ (F := F)) Variants.none c none) E (cc0_s5_layer i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_s5_layer_eq_skeleton]; unfold cc0_s5_layer_skel
    simp only [k0_part66_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]
    · iexists _, _; isplitr; swap; · iexact HS0
      ipureintro; rfl
    isplitl [HS1]; · iexists _; iexact HS1
    isplitl [HS2]
    · iexists _, _; isplitr; swap; · iexact HS2
      ipureintro; rfl
    iexists _; iexact HS3

end Cert.Kernel2Ideal.Gen

end
-- ==== Proof.SIFrame.lean ====
/- What the S5 call leaves point by point, and its frame. -/
module

public import proofs.«01_k».proof.Proof.SIRunB
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S8x64x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (y : S8x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S8x64x1024.size (by sl_kernel_rfl) y

/-- What case A leaves in output 8's staging buffer: its pieces read back over junk. -/
def out0_A_8 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) : Vec F S8x64x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case A's pieces for output 9 tile its block (1 store of `S8x8192`, checked by the kernel's evaluation: Lib/Ring.lean `Piece.tiledL`, linear in the pieces, through a loop's `@[irreducible]` trip theorem too), so they cover it. -/
theorem cover0_A_9 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (y : S8x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S8x8192.size (by sl_kernel_rfl) y

/-- What case A leaves in output 9's staging buffer: its pieces read back over junk. -/
def out0_A_9 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) : Vec F S8x8192 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- Case A's pieces for scratch `arg12`, which the kernel carries between points, cover it: one of them a store of the WHOLE buffer (Lib/Ring.lean `sl_whole_mem`). -/
theorem scover0_A_1 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (y : S8x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 (by sl_whole_mem) y

/-- What case A leaves in scratch `arg12`: its pieces read back over junk. -/
def sout0_A_1 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) : Vec F S8x8192 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- Case B's pieces for output 8 tile its block (1 store of `S8x64x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) (y : S8x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).1 S8x64x1024.size (by sl_kernel_rfl) y

/-- What case B leaves in output 8's staging buffer: its pieces read back over junk. -/
def out0_B_8 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) : Vec F S8x64x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).1)

/-- Case B's pieces for output 9 tile its block (1 store of `S8x8192`, checked by the kernel's evaluation: Lib/Ring.lean `Piece.tiledL`, linear in the pieces, through a loop's `@[irreducible]` trip theorem too), so they cover it. -/
theorem cover0_B_9 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) (y : S8x8192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.1 S8x8192.size (by sl_kernel_rfl) y

/-- What case B leaves in output 9's staging buffer: its pieces read back over junk. -/
def out0_B_9 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) : Vec F S8x8192 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.1)

/-- Case B's pieces for scratch `arg12`, which the kernel carries between points, cover it: 64 pieces of `S8x128` tiling it (Lib/Ring.lean `Piece.tiledL`). -/
theorem scover0_B_1 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) (y : S8x8192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.2.1 S8x128.size (by sl_kernel_rfl) y

/-- What case B leaves in scratch `arg12`: its pieces read back over junk. -/
def sout0_B_1 (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole) (hc0 : ¬cond0_0 i)
    (x0 : Vec F S8x64x1024 .f32) (x1 : Vec F S8x8192 .f32) (x2 : Vec F S1x1024 .f32) (x3 : Vec F S4x2x1024 .f32) (x4 : Vec F S4x256x2048 .bf16) (x5 : Vec F S4x2048x256 .bf16) (x6 : Vec F S1x1024 .f32) (x7 : Vec F S1024x2048 .bf16) (xs1 : Vec F S8x8192 .f32) : Vec F S8x8192 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x64x1024 .f32 × Vec F S8x8192 .f32 × Vec F S8x8192 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

/-- `outsAt0` at a point of case A: that case's contents. -/
theorem outsAt0_A (c : Dev nD) (t : Fin cfg0.N) (h0 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_8 out0_A_9 sout0_A_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, HS0, ⟨%es1, HS1⟩, HS2, ⟨%fT3, HS3⟩⟩
      isplitl [HS0 HS1 HS2 HS3 Hg]
      · isplitl [HS0 HS1 HS2 HS3]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _)
          isplitl [HS2]
          · iexact HS2
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_8 out0_B_9 sout0_B_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, HS0, ⟨%es1, HS1⟩, HS2, ⟨%fT3, HS3⟩⟩
      isplitl [HS0 HS1 HS2 HS3 Hg]
      · isplitl [HS0 HS1 HS2 HS3]
        · isplitl [HS0]
          · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _)
          isplitl [HS2]
          · iexact HS2
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel2Ideal.Gen

end
-- ==== Proof.SIOutA.lean ====
/- What the first point of the S5 body leaves: its output block and the new state. -/
module

public import proofs.«01_k».proof.Proof.SIStA3
public import proofs.«01_k».proof.Proof.SIStA4
public import proofs.«01_k».proof.Proof.SIOut
public import proofs.«01_k».proof.Proof.SIFrame

@[expose] public section

set_option maxRecDepth 65536
set_option maxHeartbeats 1600000

noncomputable section

namespace Cert.S5.PA

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16)

theorem Yd_at (b : Fin 8) (t : Fin 64) (e : Fin 1024) :
    (Yd c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6) (ix2 ⟨64 * b.val + t.val, by omega⟩ e) = yP x0 x2 x3 x4 x1 x5 x6 b t e := by
  refine (skip_at _ _ _ _ _).trans ?_
  rw [Ymat_apply _ _ (SLE x3 (hbF (k0_pay128 (F := Ideal) x0 x2)) x4 x1) x5 (fun y => yst (y := y) ..) b t e, rdw harg7 x6 (by decide) _, r1, h_at]
  rfl

theorem out8 (hc0 : cond0_0 i) (b : Fin 8) (t : Fin 64) (e : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 b t e) = outP x0 x2 x3 x4 x1 x5 x6 x7 b t e := by
  refine (one_piece3 VO0_8 (by decide) _ _).trans ?_
  refine (pay1_at _ _ b t e).trans ?_
  have hz : ∀ j : Fin 2048, (kernelRun0_A.sl.r_70 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) (ix2 ⟨64 * b.val + t.val, by omega⟩ j) = zP x0 x2 x3 x4 x1 x5 x6 x7 b t j := by
    intro j
    rw [zst]
    refine (pay503_at _ _ _ j).trans ?_
    rw [rdw harg8 x7 (by decide) _]
    exact Finset.sum_congr rfl fun k _ => congrArg (fun a => gelu a * x7 (ix2 k j)) (Yd_at (b := b) (t := t) (e := k) ..)
  unfold outP
  rw [← hz, ← hz, rdw harg1 x0 (by decide) _]

theorem out9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = stG x3 (hbF (k0_pay128 (F := Ideal) x0 x2)) x4 x1 := by
  funext y
  refine (one_piece2 VO0_9 (by decide) _ _).trans ?_
  refine (whole_back arg12.view _ (by decide) y).trans ?_
  rw [sst]

theorem sout1 (hc0 : cond0_0 i) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = stG x3 (hbF (k0_pay128 (F := Ideal) x0 x2)) x4 x1 := by
  refine (View.read_writes_junk_eq_canon _ _).trans ?_
  exact sst ..

end Cert.S5.PA
-- ==== Proof.SIStB.lean ====
/- The S5 body at a later point, stage by stage: what its stores hold. -/
module

public import proofs.«01_k».proof.Proof.SISpec
public import proofs.«01_k».proof.Proof.SIRunB

@[expose] public section

set_option maxRecDepth 65536
set_option maxHeartbeats 1600000

noncomputable section

namespace Cert.S5.PB

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16) (xs1 : FVec Ideal S8x8192 .f32)

theorem r1 : (kernelRun0_B.sl.r_1 (F := Ideal) c arg1 harg1 arg3 harg3 x0 x2) = (k0_pay128 (F := Ideal) x0 x2) := by
  exact congrArg₂ (k0_pay128 (F := Ideal)) (rdw harg1 x0 (by decide) _) (rdw harg3 x2 (by decide) _)

theorem hst (y : S8x512x128.Idx) : View.canon (kernelRun0_B.sl.HS2_64 (F := Ideal) c arg1 harg1 arg3 harg3 x0 x2) y = hG (k0_pay128 (F := Ideal) x0 x2) y := by
  have K := canon_h (kernelRun0_B.sl.r_1 (F := Ideal) c arg1 harg1 arg3 harg3 x0 x2) (kernelRun0_B.sl.HS2_64 (F := Ideal) c arg1 harg1 arg3 harg3 x0 x2) rfl (And.intro (fun x => hpiece 7 7 (by decide) (by decide) (kernelRun0_B.sl.r_1 (F := Ideal) c arg1 harg1 arg3 harg3 x0 x2) (by decide) x) (And.intro (fun x => hpiece 6 7 (by decide) (by decide) (kernelRun0_B.sl.r_1 (F := Ideal) c arg1 harg1 arg3 harg3 x0 x2) (by decide) x) (And.intro (fun x => hpiece 5 7 (by decide) (by decide) (kernelRun0_B.sl.r_1 (F := Ideal) c arg1 harg1 arg3 harg3 x0 x2) (by decide) x) (And.intro (fun x => hpiece 4 7 (by decide) (by decide) (kernelRun0_B.sl.r_1 (F := Ideal) c arg1 harg1 arg3 harg3 x0 x2) (by decide) x) (And.intro (fun x => hpiece 3 7 (by decide) (by decide) (kernelRun0_B.sl.r_1 (F := Ideal) c arg1 harg1 arg3 harg3 x0 x2) (by decide) x) (And.intro (fun x => hpiece 2 7 (by decide) (by decide) (kernelRun0_B.sl.r_1 (F := Ideal) c arg1 harg1 arg3 harg3 x0 x2) (by decide) x) (And.intro (fun x => hpiece 1 7 (by decide) (by decide) (kernelRun0_B.sl.r_1 (F := Ideal) c arg1 harg1 arg3 harg3 x0 x2) (by decide) x) (And.intro (fun x => hpiece 0 7 (by decide) (by decide) (kernelRun0_B.sl.r_1 (F := Ideal) c arg1 harg1 arg3 harg3 x0 x2) (by decide) x) (And.intro (fun x => hpiece 7 6 (by decide) (by decide) (kernelRun0_B.sl.r_1 (F := Ideal) c arg1 harg1 arg3 harg3 x0 x2) (by decide) x) (And.intro (fun x => hpiece 6 6 (by decide) (by decide) (kernelRun0_B.sl.r_1 (F := Ideal) c arg1 harg1 arg3 harg3 x0 x2) (by decide) x) (And.intro (fun x => hpiece 5 6 (by decide) (by decide) (kernelRun0_B.sl.r_1 (F := Ideal) c arg1 harg1 arg3 harg3 x0 x2) (by decide) x) (And.intro (fun x => hpiece 4 6 (by decide) (by decide) (kernelRun0_B.sl.r_1 (F := Ideal) c arg1 harg1 arg3 harg3 x0 x2) (by decide) x) (And.intro (fun x => hpiece 3 6 (by decide) (by decide) (kernelRun0_B.sl.r_1 (F := Ideal) c arg1 harg1 arg3 harg3 x0 x2) (by decide) x) (And.intro (fun x => hpiece 2 6 (by decide) (by decide) (kernelRun0_B.sl.r_1 (F := Ideal) c arg1 harg1 arg3 harg3 x0 x2) (by decide) x) (And.intro (fun x => hpiece 1 6 (by decide) (by decide) (kernelRun0_B.sl.r_1 (F := Ideal) c arg1 harg1 arg3 harg3 x0 x2) (by decide) x) (And.intro (fun x => hpiece 0 6 (by decide) (by decide) (kernelRun0_B.sl.r_1 (F := Ideal) c arg1 harg1 arg3 harg3 x0 x2) (by decide) x) (And.intro (fun x => hpiece 7 5 (by decide) (by decide) (kernelRun0_B.sl.r_1 (F := Ideal) c arg1 harg1 arg3 harg3 x0 x2) (by decide) x) (And.intro (fun x => hpiece 6 5 (by decide) (by decide) (kernelRun0_B.sl.r_1 (F := Ideal) c arg1 harg1 arg3 harg3 x0 x2) (by decide) x) (And.intro (fun x => hpiece 5 5 (by decide) (by decide) (kernelRun0_B.sl.r_1 (F := Ideal) c arg1 harg1 arg3 harg3 x0 x2) (by decide) x) (And.intro (fun x => hpiece 4 5 (by decide) (by decide) (kernelRun0_B.sl.r_1 (F := Ideal) c arg1 harg1 arg3 harg3 x0 x2) (by decide) x) (And.intro (fun x => hpiece 3 5 (by decide) (by decide) (kernelRun0_B.sl.r_1 (F := Ideal) c arg1 harg1 arg3 harg3 x0 x2) (by decide) x) (And.intro (fun x => hpiece 2 5 (by decide) (by decide) (kernelRun0_B.sl.r_1 (F := Ideal) c arg1 harg1 arg3 harg3 x0 x2) (by decide) x) (And.intro (fun x => hpiece 1 5 (by decide) (by decide) (kernelRun0_B.sl.r_1 (F := Ideal) c arg1 harg1 arg3 harg3 x0 x2) (by decide) x) (And.intro (fun x => hpiece 0 5 (by decide) (by decide) (kernelRun0_B.sl.r_1 (F := Ideal) c arg1 harg1 arg3 harg3 x0 x2) (by decide) x) (And.intro (fun x => hpiece 7 4 (by decide) (by decide) (kernelRun0_B.sl.r_1 (F := Ideal) c arg1 harg1 arg3 harg3 x0 x2) (by decide) x) (And.intro (fun x => hpiece 6 4 (by decide) (by decide) (kernelRun0_B.sl.r_1 (F := Ideal) c arg1 harg1 arg3 harg3 x0 x2) (by decide) x) (And.intro (fun x => hpiece 5 4 (by decide) (by decide) (kernelRun0_B.sl.r_1 (F := Ideal) c arg1 harg1 arg3 harg3 x0 x2) (by decide) x) (And.intro (fun x => hpiece 4 4 (by decide) (by decide) (kernelRun0_B.sl.r_1 (F := Ideal) c arg1 harg1 arg3 harg3 x0 x2) (by decide) x) (And.intro (fun x => hpiece 3 4 (by decide) (by decide) (kernelRun0_B.sl.r_1 (F := Ideal) c arg1 harg1 arg3 harg3 x0 x2) (by decide) x) (And.intro (fun x => hpiece 2 4 (by decide) (by decide) (kernelRun0_B.sl.r_1 (F := Ideal) c arg1 harg1 arg3 harg3 x0 x2) (by decide) x) (And.intro (fun x => hpiece 1 4 (by decide) (by decide) (kernelRun0_B.sl.r_1 (F := Ideal) c arg1 harg1 arg3 harg3 x0 x2) (by decide) x) (And.intro (fun x => hpiece 0 4 (by decide) (by decide) (kernelRun0_B.sl.r_1 (F := Ideal) c arg1 harg1 arg3 harg3 x0 x2) (by decide) x) (And.intro (fun x => hpiece 7 3 (by decide) (by decide) (kernelRun0_B.sl.r_1 (F := Ideal) c arg1 harg1 arg3 harg3 x0 x2) (by decide) x) (And.intro (fun x => hpiece 6 3 (by decide) (by decide) (kernelRun0_B.sl.r_1 (F := Ideal) c arg1 harg1 arg3 harg3 x0 x2) (by decide) x) (And.intro (fun x => hpiece 5 3 (by decide) (by decide) (kernelRun0_B.sl.r_1 (F := Ideal) c arg1 harg1 arg3 harg3 x0 x2) (by decide) x) (And.intro (fun x => hpiece 4 3 (by decide) (by decide) (kernelRun0_B.sl.r_1 (F := Ideal) c arg1 harg1 arg3 harg3 x0 x2) (by decide) x) (And.intro (fun x => hpiece 3 3 (by decide) (by decide) (kernelRun0_B.sl.r_1 (F := Ideal) c arg1 harg1 arg3 harg3 x0 x2) (by decide) x) (And.intro (fun x => hpiece 2 3 (by decide) (by decide) (kernelRun0_B.sl.r_1 (F := Ideal) c arg1 harg1 arg3 harg3 x0 x2) (by decide) x) (And.intro (fun x => hpiece 1 3 (by decide) (by decide) (kernelRun0_B.sl.r_1 (F := Ideal) c arg1 harg1 arg3 harg3 x0 x2) (by decide) x) (And.intro (fun x => hpiece 0 3 (by decide) (by decide) (kernelRun0_B.sl.r_1 (F := Ideal) c arg1 harg1 arg3 harg3 x0 x2) (by decide) x) (And.intro (fun x => hpiece 7 2 (by decide) (by decide) (kernelRun0_B.sl.r_1 (F := Ideal) c arg1 harg1 arg3 harg3 x0 x2) (by decide) x) (And.intro (fun x => hpiece 6 2 (by decide) (by decide) (kernelRun0_B.sl.r_1 (F := Ideal) c arg1 harg1 arg3 harg3 x0 x2) (by decide) x) (And.intro (fun x => hpiece 5 2 (by decide) (by decide) (kernelRun0_B.sl.r_1 (F := Ideal) c arg1 harg1 arg3 harg3 x0 x2) (by decide) x) (And.intro (fun x => hpiece 4 2 (by decide) (by decide) (kernelRun0_B.sl.r_1 (F := Ideal) c arg1 harg1 arg3 harg3 x0 x2) (by decide) x) (And.intro (fun x => hpiece 3 2 (by decide) (by decide) (kernelRun0_B.sl.r_1 (F := Ideal) c arg1 harg1 arg3 harg3 x0 x2) (by decide) x) (And.intro (fun x => hpiece 2 2 (by decide) (by decide) (kernelRun0_B.sl.r_1 (F := Ideal) c arg1 harg1 arg3 harg3 x0 x2) (by decide) x) (And.intro (fun x => hpiece 1 2 (by decide) (by decide) (kernelRun0_B.sl.r_1 (F := Ideal) c arg1 harg1 arg3 harg3 x0 x2) (by decide) x) (And.intro (fun x => hpiece 0 2 (by decide) (by decide) (kernelRun0_B.sl.r_1 (F := Ideal) c arg1 harg1 arg3 harg3 x0 x2) (by decide) x) (And.intro (fun x => hpiece 7 1 (by decide) (by decide) (kernelRun0_B.sl.r_1 (F := Ideal) c arg1 harg1 arg3 harg3 x0 x2) (by decide) x) (And.intro (fun x => hpiece 6 1 (by decide) (by decide) (kernelRun0_B.sl.r_1 (F := Ideal) c arg1 harg1 arg3 harg3 x0 x2) (by decide) x) (And.intro (fun x => hpiece 5 1 (by decide) (by decide) (kernelRun0_B.sl.r_1 (F := Ideal) c arg1 harg1 arg3 harg3 x0 x2) (by decide) x) (And.intro (fun x => hpiece 4 1 (by decide) (by decide) (kernelRun0_B.sl.r_1 (F := Ideal) c arg1 harg1 arg3 harg3 x0 x2) (by decide) x) (And.intro (fun x => hpiece 3 1 (by decide) (by decide) (kernelRun0_B.sl.r_1 (F := Ideal) c arg1 harg1 arg3 harg3 x0 x2) (by decide) x) (And.intro (fun x => hpiece 2 1 (by decide) (by decide) (kernelRun0_B.sl.r_1 (F := Ideal) c arg1 harg1 arg3 harg3 x0 x2) (by decide) x) (And.intro (fun x => hpiece 1 1 (by decide) (by decide) (kernelRun0_B.sl.r_1 (F := Ideal) c arg1 harg1 arg3 harg3 x0 x2) (by decide) x) (And.intro (fun x => hpiece 0 1 (by decide) (by decide) (kernelRun0_B.sl.r_1 (F := Ideal) c arg1 harg1 arg3 harg3 x0 x2) (by decide) x) (And.intro (fun x => hpiece 7 0 (by decide) (by decide) (kernelRun0_B.sl.r_1 (F := Ideal) c arg1 harg1 arg3 harg3 x0 x2) (by decide) x) (And.intro (fun x => hpiece 6 0 (by decide) (by decide) (kernelRun0_B.sl.r_1 (F := Ideal) c arg1 harg1 arg3 harg3 x0 x2) (by decide) x) (And.intro (fun x => hpiece 5 0 (by decide) (by decide) (kernelRun0_B.sl.r_1 (F := Ideal) c arg1 harg1 arg3 harg3 x0 x2) (by decide) x) (And.intro (fun x => hpiece 4 0 (by decide) (by decide) (kernelRun0_B.sl.r_1 (F := Ideal) c arg1 harg1 arg3 harg3 x0 x2) (by decide) x) (And.intro (fun x => hpiece 3 0 (by decide) (by decide) (kernelRun0_B.sl.r_1 (F := Ideal) c arg1 harg1 arg3 harg3 x0 x2) (by decide) x) (And.intro (fun x => hpiece 2 0 (by decide) (by decide) (kernelRun0_B.sl.r_1 (F := Ideal) c arg1 harg1 arg3 harg3 x0 x2) (by decide) x) (And.intro (fun x => hpiece 1 0 (by decide) (by decide) (kernelRun0_B.sl.r_1 (F := Ideal) c arg1 harg1 arg3 harg3 x0 x2) (by decide) x) (And.intro (fun x => hpiece 0 0 (by decide) (by decide) (kernelRun0_B.sl.r_1 (F := Ideal) c arg1 harg1 arg3 harg3 x0 x2) (by decide) x) trivial)))))))))))))))))))))))))))))))))))))))))))))))))))))))))))))))) y
  rw [r1] at K
  exact K

theorem h0 (r : Fin 512) (l : Fin 128) : (kernelRun0_B.sl.v275 (F := Ideal) c arg1 harg1 arg3 harg3 arg13 x0 x2) (ix3 0 r l) = hG (k0_pay128 (F := Ideal) x0 x2) (ix3 0 r l) :=
  read_h arg13.view (kernelRun0_B.sl.HS2_64 (F := Ideal) c arg1 harg1 arg3 harg3 x0 x2) 0 _ (fun y => hst (y := y) ..) r l

theorem h1 (r : Fin 512) (l : Fin 128) : (kernelRun0_B.sl.v277 (F := Ideal) c arg1 harg1 arg3 harg3 arg13 x0 x2) (ix3 0 r l) = hG (k0_pay128 (F := Ideal) x0 x2) (ix3 1 r l) :=
  read_h arg13.view (kernelRun0_B.sl.HS2_64 (F := Ideal) c arg1 harg1 arg3 harg3 x0 x2) 1 _ (fun y => hst (y := y) ..) r l

theorem h2 (r : Fin 512) (l : Fin 128) : (kernelRun0_B.sl.v279 (F := Ideal) c arg1 harg1 arg3 harg3 arg13 x0 x2) (ix3 0 r l) = hG (k0_pay128 (F := Ideal) x0 x2) (ix3 2 r l) :=
  read_h arg13.view (kernelRun0_B.sl.HS2_64 (F := Ideal) c arg1 harg1 arg3 harg3 x0 x2) 2 _ (fun y => hst (y := y) ..) r l

theorem h3 (r : Fin 512) (l : Fin 128) : (kernelRun0_B.sl.v281 (F := Ideal) c arg1 harg1 arg3 harg3 arg13 x0 x2) (ix3 0 r l) = hG (k0_pay128 (F := Ideal) x0 x2) (ix3 3 r l) :=
  read_h arg13.view (kernelRun0_B.sl.HS2_64 (F := Ideal) c arg1 harg1 arg3 harg3 x0 x2) 3 _ (fun y => hst (y := y) ..) r l

theorem h4 (r : Fin 512) (l : Fin 128) : (kernelRun0_B.sl.v283 (F := Ideal) c arg1 harg1 arg3 harg3 arg13 x0 x2) (ix3 0 r l) = hG (k0_pay128 (F := Ideal) x0 x2) (ix3 4 r l) :=
  read_h arg13.view (kernelRun0_B.sl.HS2_64 (F := Ideal) c arg1 harg1 arg3 harg3 x0 x2) 4 _ (fun y => hst (y := y) ..) r l

theorem h5 (r : Fin 512) (l : Fin 128) : (kernelRun0_B.sl.v285 (F := Ideal) c arg1 harg1 arg3 harg3 arg13 x0 x2) (ix3 0 r l) = hG (k0_pay128 (F := Ideal) x0 x2) (ix3 5 r l) :=
  read_h arg13.view (kernelRun0_B.sl.HS2_64 (F := Ideal) c arg1 harg1 arg3 harg3 x0 x2) 5 _ (fun y => hst (y := y) ..) r l

theorem h6 (r : Fin 512) (l : Fin 128) : (kernelRun0_B.sl.v287 (F := Ideal) c arg1 harg1 arg3 harg3 arg13 x0 x2) (ix3 0 r l) = hG (k0_pay128 (F := Ideal) x0 x2) (ix3 6 r l) :=
  read_h arg13.view (kernelRun0_B.sl.HS2_64 (F := Ideal) c arg1 harg1 arg3 harg3 x0 x2) 6 _ (fun y => hst (y := y) ..) r l

theorem h7 (r : Fin 512) (l : Fin 128) : (kernelRun0_B.sl.v289 (F := Ideal) c arg1 harg1 arg3 harg3 arg13 x0 x2) (ix3 0 r l) = hG (k0_pay128 (F := Ideal) x0 x2) (ix3 7 r l) :=
  read_h arg13.view (kernelRun0_B.sl.HS2_64 (F := Ideal) c arg1 harg1 arg3 harg3 x0 x2) 7 _ (fun y => hst (y := y) ..) r l

theorem r3 : (kernelRun0_B.sl.r_3 (F := Ideal) c arg1 harg1 arg3 harg3 arg13 x0 x2) = hbF (k0_pay128 (F := Ideal) x0 x2) := by
  funext j
  obtain ⟨r, e, rfl⟩ : ∃ (r : Fin 512) (e : Fin 1024), j = ix2 r e := ⟨j 0, j 1, by pointwise⟩
  refine hb_apply ![(kernelRun0_B.sl.v275 (F := Ideal) c arg1 harg1 arg3 harg3 arg13 x0 x2), (kernelRun0_B.sl.v277 (F := Ideal) c arg1 harg1 arg3 harg3 arg13 x0 x2), (kernelRun0_B.sl.v279 (F := Ideal) c arg1 harg1 arg3 harg3 arg13 x0 x2), (kernelRun0_B.sl.v281 (F := Ideal) c arg1 harg1 arg3 harg3 arg13 x0 x2), (kernelRun0_B.sl.v283 (F := Ideal) c arg1 harg1 arg3 harg3 arg13 x0 x2), (kernelRun0_B.sl.v285 (F := Ideal) c arg1 harg1 arg3 harg3 arg13 x0 x2), (kernelRun0_B.sl.v287 (F := Ideal) c arg1 harg1 arg3 harg3 arg13 x0 x2), (kernelRun0_B.sl.v289 (F := Ideal) c arg1 harg1 arg3 harg3 arg13 x0 x2)] (k0_pay128 (F := Ideal) x0 x2) ?_ r e
  intro κ r l
  fin_cases κ
  · exact h0 (r := r) (l := l) ..
  · exact h1 (r := r) (l := l) ..
  · exact h2 (r := r) (l := l) ..
  · exact h3 (r := r) (l := l) ..
  · exact h4 (r := r) (l := l) ..
  · exact h5 (r := r) (l := l) ..
  · exact h6 (r := r) (l := l) ..
  · exact h7 (r := r) (l := l) ..

/-- The sixteen stores before loop 1, and all the earlier ones. -/
abbrev list1 : List P16 := (kernelRun0_B.sl.HS0_16 (F := Ideal) c arg1 harg1 arg3 harg3 arg5 harg5 arg13 x0 x2 x4)

abbrev Ar1 : Fin 8 → Tile := ![(kernelRun0_B.sl.v364 (F := Ideal) c arg4 harg4 x3), (kernelRun0_B.sl.v368 (F := Ideal) c arg4 harg4 x3), (kernelRun0_B.sl.v372 (F := Ideal) c arg4 harg4 x3), (kernelRun0_B.sl.v376 (F := Ideal) c arg4 harg4 x3), (kernelRun0_B.sl.v380 (F := Ideal) c arg4 harg4 x3), (kernelRun0_B.sl.v384 (F := Ideal) c arg4 harg4 x3), (kernelRun0_B.sl.v388 (F := Ideal) c arg4 harg4 x3), (kernelRun0_B.sl.v392 (F := Ideal) c arg4 harg4 x3)]
abbrev Ai1 : Fin 8 → Tile := ![(kernelRun0_B.sl.v396 (F := Ideal) c arg4 harg4 x3), (kernelRun0_B.sl.v400 (F := Ideal) c arg4 harg4 x3), (kernelRun0_B.sl.v404 (F := Ideal) c arg4 harg4 x3), (kernelRun0_B.sl.v408 (F := Ideal) c arg4 harg4 x3), (kernelRun0_B.sl.v412 (F := Ideal) c arg4 harg4 x3), (kernelRun0_B.sl.v416 (F := Ideal) c arg4 harg4 x3), (kernelRun0_B.sl.v420 (F := Ideal) c arg4 harg4 x3), (kernelRun0_B.sl.v424 (F := Ideal) c arg4 harg4 x3)]

abbrev Cr1 : Fin 8 → Tile := ![(kernelRun0_B.sl.r_6 (F := Ideal) c arg12 harg12 xs1), (kernelRun0_B.sl.r_7 (F := Ideal) c arg12 harg12 xs1), (View.readAt (Elt Ideal) arg12.view (Rect.unit (s := S8x8192) ![0, 256] S8x128.size inb_S8x8192_S8x128_0_256).toLoadRect (harg12.unread xs1)), (View.readAt (Elt Ideal) arg12.view (Rect.unit (s := S8x8192) ![0, 384] S8x128.size inb_S8x8192_S8x128_0_384).toLoadRect (harg12.unread xs1)), (View.readAt (Elt Ideal) arg12.view (Rect.unit (s := S8x8192) ![0, 512] S8x128.size inb_S8x8192_S8x128_0_512).toLoadRect (harg12.unread xs1)), (View.readAt (Elt Ideal) arg12.view (Rect.unit (s := S8x8192) ![0, 640] S8x128.size inb_S8x8192_S8x128_0_640).toLoadRect (harg12.unread xs1)), (View.readAt (Elt Ideal) arg12.view (Rect.unit (s := S8x8192) ![0, 768] S8x128.size inb_S8x8192_S8x128_0_768).toLoadRect (harg12.unread xs1)), (View.readAt (Elt Ideal) arg12.view (Rect.unit (s := S8x8192) ![0, 896] S8x128.size inb_S8x8192_S8x128_0_896).toLoadRect (harg12.unread xs1))]
abbrev Ci1 : Fin 8 → Tile := ![(View.readAt (Elt Ideal) arg12.view (Rect.unit (s := S8x8192) ![0, 1024] S8x128.size inb_S8x8192_S8x128_0_1024).toLoadRect (harg12.unread xs1)), (View.readAt (Elt Ideal) arg12.view (Rect.unit (s := S8x8192) ![0, 1152] S8x128.size inb_S8x8192_S8x128_0_1152).toLoadRect (harg12.unread xs1)), (View.readAt (Elt Ideal) arg12.view (Rect.unit (s := S8x8192) ![0, 1280] S8x128.size inb_S8x8192_S8x128_0_1280).toLoadRect (harg12.unread xs1)), (View.readAt (Elt Ideal) arg12.view (Rect.unit (s := S8x8192) ![0, 1408] S8x128.size inb_S8x8192_S8x128_0_1408).toLoadRect (harg12.unread xs1)), (View.readAt (Elt Ideal) arg12.view (Rect.unit (s := S8x8192) ![0, 1536] S8x128.size inb_S8x8192_S8x128_0_1536).toLoadRect (harg12.unread xs1)), (View.readAt (Elt Ideal) arg12.view (Rect.unit (s := S8x8192) ![0, 1664] S8x128.size inb_S8x8192_S8x128_0_1664).toLoadRect (harg12.unread xs1)), (View.readAt (Elt Ideal) arg12.view (Rect.unit (s := S8x8192) ![0, 1792] S8x128.size inb_S8x8192_S8x128_0_1792).toLoadRect (harg12.unread xs1)), (View.readAt (Elt Ideal) arg12.view (Rect.unit (s := S8x8192) ![0, 1920] S8x128.size inb_S8x8192_S8x128_0_1920).toLoadRect (harg12.unread xs1))]

abbrev st1 : Tiles × List P16 := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v364 (F := Ideal) c arg4 harg4 x3) (kernelRun0_B.sl.v368 (F := Ideal) c arg4 harg4 x3) (kernelRun0_B.sl.v372 (F := Ideal) c arg4 harg4 x3) (kernelRun0_B.sl.v376 (F := Ideal) c arg4 harg4 x3) (kernelRun0_B.sl.v380 (F := Ideal) c arg4 harg4 x3) (kernelRun0_B.sl.v384 (F := Ideal) c arg4 harg4 x3) (kernelRun0_B.sl.v388 (F := Ideal) c arg4 harg4 x3) (kernelRun0_B.sl.v392 (F := Ideal) c arg4 harg4 x3) (kernelRun0_B.sl.v396 (F := Ideal) c arg4 harg4 x3) (kernelRun0_B.sl.v400 (F := Ideal) c arg4 harg4 x3) (kernelRun0_B.sl.v404 (F := Ideal) c arg4 harg4 x3) (kernelRun0_B.sl.v408 (F := Ideal) c arg4 harg4 x3) (kernelRun0_B.sl.v412 (F := Ideal) c arg4 harg4 x3) (kernelRun0_B.sl.v416 (F := Ideal) c arg4 harg4 x3) (kernelRun0_B.sl.v420 (F := Ideal) c arg4 harg4 x3) (kernelRun0_B.sl.v424 (F := Ideal) c arg4 harg4 x3) (kernelRun0_B.sl.r_6 (F := Ideal) c arg12 harg12 xs1) (kernelRun0_B.sl.r_7 (F := Ideal) c arg12 harg12 xs1) (arg11.view.writes (Elt Ideal) arg11.view.junk (list1 c arg1 harg1 arg3 harg3 arg5 harg5 arg13 x0 x2 x4)) (toT (Cr1 c arg12 harg12 xs1) (Ci1 arg12 harg12 xs1)) (Scf.trips k0_t1_loop.lb k0_t1_loop.ub k0_t1_loop.st)

theorem bu1 (y : S16x512x128.Idx) : View.canon (list1 c arg1 harg1 arg3 harg3 arg5 harg5 arg13 x0 x2 x4) y = buG (hbF (k0_pay128 (F := Ideal) x0 x2)) x4 0 y := by
  have K := canon_16 (buG (kernelRun0_B.sl.r_3 (F := Ideal) c arg1 harg1 arg3 harg3 arg13 x0 x2) x4 0) (list1 c arg1 harg1 arg3 harg3 arg5 harg5 arg13 x0 x2 x4) rfl (And.intro (fun x => bupiece 0 15 (by decide) (by decide) (kernelRun0_B.sl.r_3 (F := Ideal) c arg1 harg1 arg3 harg3 arg13 x0 x2) x4 _ (load_W harg5 x4 0 (by decide)) (by decide) (by decide) (by decide) x) (And.intro (fun x => bupiece 0 14 (by decide) (by decide) (kernelRun0_B.sl.r_3 (F := Ideal) c arg1 harg1 arg3 harg3 arg13 x0 x2) x4 _ (load_W harg5 x4 0 (by decide)) (by decide) (by decide) (by decide) x) (And.intro (fun x => bupiece 0 13 (by decide) (by decide) (kernelRun0_B.sl.r_3 (F := Ideal) c arg1 harg1 arg3 harg3 arg13 x0 x2) x4 _ (load_W harg5 x4 0 (by decide)) (by decide) (by decide) (by decide) x) (And.intro (fun x => bupiece 0 12 (by decide) (by decide) (kernelRun0_B.sl.r_3 (F := Ideal) c arg1 harg1 arg3 harg3 arg13 x0 x2) x4 _ (load_W harg5 x4 0 (by decide)) (by decide) (by decide) (by decide) x) (And.intro (fun x => bupiece 0 11 (by decide) (by decide) (kernelRun0_B.sl.r_3 (F := Ideal) c arg1 harg1 arg3 harg3 arg13 x0 x2) x4 _ (load_W harg5 x4 0 (by decide)) (by decide) (by decide) (by decide) x) (And.intro (fun x => bupiece 0 10 (by decide) (by decide) (kernelRun0_B.sl.r_3 (F := Ideal) c arg1 harg1 arg3 harg3 arg13 x0 x2) x4 _ (load_W harg5 x4 0 (by decide)) (by decide) (by decide) (by decide) x) (And.intro (fun x => bupiece 0 9 (by decide) (by decide) (kernelRun0_B.sl.r_3 (F := Ideal) c arg1 harg1 arg3 harg3 arg13 x0 x2) x4 _ (load_W harg5 x4 0 (by decide)) (by decide) (by decide) (by decide) x) (And.intro (fun x => bupiece 0 8 (by decide) (by decide) (kernelRun0_B.sl.r_3 (F := Ideal) c arg1 harg1 arg3 harg3 arg13 x0 x2) x4 _ (load_W harg5 x4 0 (by decide)) (by decide) (by decide) (by decide) x) (And.intro (fun x => bupiece 0 7 (by decide) (by decide) (kernelRun0_B.sl.r_3 (F := Ideal) c arg1 harg1 arg3 harg3 arg13 x0 x2) x4 _ (load_W harg5 x4 0 (by decide)) (by decide) (by decide) (by decide) x) (And.intro (fun x => bupiece 0 6 (by decide) (by decide) (kernelRun0_B.sl.r_3 (F := Ideal) c arg1 harg1 arg3 harg3 arg13 x0 x2) x4 _ (load_W harg5 x4 0 (by decide)) (by decide) (by decide) (by decide) x) (And.intro (fun x => bupiece 0 5 (by decide) (by decide) (kernelRun0_B.sl.r_3 (F := Ideal) c arg1 harg1 arg3 harg3 arg13 x0 x2) x4 _ (load_W harg5 x4 0 (by decide)) (by decide) (by decide) (by decide) x) (And.intro (fun x => bupiece 0 4 (by decide) (by decide) (kernelRun0_B.sl.r_3 (F := Ideal) c arg1 harg1 arg3 harg3 arg13 x0 x2) x4 _ (load_W harg5 x4 0 (by decide)) (by decide) (by decide) (by decide) x) (And.intro (fun x => bupiece 0 3 (by decide) (by decide) (kernelRun0_B.sl.r_3 (F := Ideal) c arg1 harg1 arg3 harg3 arg13 x0 x2) x4 _ (load_W harg5 x4 0 (by decide)) (by decide) (by decide) (by decide) x) (And.intro (fun x => bupiece 0 2 (by decide) (by decide) (kernelRun0_B.sl.r_3 (F := Ideal) c arg1 harg1 arg3 harg3 arg13 x0 x2) x4 _ (load_W harg5 x4 0 (by decide)) (by decide) (by decide) (by decide) x) (And.intro (fun x => bupiece 0 1 (by decide) (by decide) (kernelRun0_B.sl.r_3 (F := Ideal) c arg1 harg1 arg3 harg3 arg13 x0 x2) x4 _ (load_W harg5 x4 0 (by decide)) (by decide) (by decide) (by decide) x) (And.intro (fun x => bupiece 0 0 (by decide) (by decide) (kernelRun0_B.sl.r_3 (F := Ideal) c arg1 harg1 arg3 harg3 arg13 x0 x2) x4 _ (load_W harg5 x4 0 (by decide)) (by decide) (by decide) (by decide) x) (trivial))))))))))))))))) y
  rw [r3] at K
  exact K

theorem hAr1 (κ : Fin 8) (b : Fin 8) (l : Fin 128) : (Ar1 c arg4 harg4 x3) κ (ix2 b l) = x3 (ix3 0 0 ⟨128 * κ.val + l.val, by omega⟩) := by
  fin_cases κ
  · exact a_tile harg4 x3 0 0 0 (by decide) _ b l
  · exact a_tile harg4 x3 0 0 1 (by decide) _ b l
  · exact a_tile harg4 x3 0 0 2 (by decide) _ b l
  · exact a_tile harg4 x3 0 0 3 (by decide) _ b l
  · exact a_tile harg4 x3 0 0 4 (by decide) _ b l
  · exact a_tile harg4 x3 0 0 5 (by decide) _ b l
  · exact a_tile harg4 x3 0 0 6 (by decide) _ b l
  · exact a_tile harg4 x3 0 0 7 (by decide) _ b l

theorem hAi1 (κ : Fin 8) (b : Fin 8) (l : Fin 128) : (Ai1 c arg4 harg4 x3) κ (ix2 b l) = x3 (ix3 0 1 ⟨128 * κ.val + l.val, by omega⟩) := by
  fin_cases κ
  · exact a_tile harg4 x3 0 1 0 (by decide) _ b l
  · exact a_tile harg4 x3 0 1 1 (by decide) _ b l
  · exact a_tile harg4 x3 0 1 2 (by decide) _ b l
  · exact a_tile harg4 x3 0 1 3 (by decide) _ b l
  · exact a_tile harg4 x3 0 1 4 (by decide) _ b l
  · exact a_tile harg4 x3 0 1 5 (by decide) _ b l
  · exact a_tile harg4 x3 0 1 6 (by decide) _ b l
  · exact a_tile harg4 x3 0 1 7 (by decide) _ b l

theorem hCr1 (κ : Fin 8) (b : Fin 8) (l : Fin 128) : (Cr1 c arg12 harg12 xs1) κ (ix2 b l) = xs1 (ix2 b ⟨2048 * (0 : Fin 4).val + (128 * κ.val + l.val), by have h : (0 : Fin 4).val = 0 := rfl; omega⟩) := by
  fin_cases κ
  · exact (load_tile8 harg12 xs1 0 (by decide) (by decide) b l).trans (congrArg xs1 (congrArg (ix2 b) (Fin.ext (show 0 + l.val = 2048 * 0 + (128 * 0 + l.val) by omega))))
  · exact (load_tile8 harg12 xs1 128 (by decide) (by decide) b l).trans (congrArg xs1 (congrArg (ix2 b) (Fin.ext (show 128 + l.val = 2048 * 0 + (128 * 1 + l.val) by omega))))
  · exact (load_tile8 harg12 xs1 256 (by decide) (by decide) b l).trans (congrArg xs1 (congrArg (ix2 b) (Fin.ext (show 256 + l.val = 2048 * 0 + (128 * 2 + l.val) by omega))))
  · exact (load_tile8 harg12 xs1 384 (by decide) (by decide) b l).trans (congrArg xs1 (congrArg (ix2 b) (Fin.ext (show 384 + l.val = 2048 * 0 + (128 * 3 + l.val) by omega))))
  · exact (load_tile8 harg12 xs1 512 (by decide) (by decide) b l).trans (congrArg xs1 (congrArg (ix2 b) (Fin.ext (show 512 + l.val = 2048 * 0 + (128 * 4 + l.val) by omega))))
  · exact (load_tile8 harg12 xs1 640 (by decide) (by decide) b l).trans (congrArg xs1 (congrArg (ix2 b) (Fin.ext (show 640 + l.val = 2048 * 0 + (128 * 5 + l.val) by omega))))
  · exact (load_tile8 harg12 xs1 768 (by decide) (by decide) b l).trans (congrArg xs1 (congrArg (ix2 b) (Fin.ext (show 768 + l.val = 2048 * 0 + (128 * 6 + l.val) by omega))))
  · exact (load_tile8 harg12 xs1 896 (by decide) (by decide) b l).trans (congrArg xs1 (congrArg (ix2 b) (Fin.ext (show 896 + l.val = 2048 * 0 + (128 * 7 + l.val) by omega))))

theorem hCi1 (κ : Fin 8) (b : Fin 8) (l : Fin 128) : (Ci1 arg12 harg12 xs1) κ (ix2 b l) = xs1 (ix2 b ⟨2048 * (0 : Fin 4).val + 1024 + (128 * κ.val + l.val), by have h : (0 : Fin 4).val = 0 := rfl; omega⟩) := by
  fin_cases κ
  · exact (load_tile8 harg12 xs1 1024 (by decide) (by decide) b l).trans (congrArg xs1 (congrArg (ix2 b) (Fin.ext (show 1024 + l.val = 2048 * 0 + 1024 + (128 * 0 + l.val) by omega))))
  · exact (load_tile8 harg12 xs1 1152 (by decide) (by decide) b l).trans (congrArg xs1 (congrArg (ix2 b) (Fin.ext (show 1152 + l.val = 2048 * 0 + 1024 + (128 * 1 + l.val) by omega))))
  · exact (load_tile8 harg12 xs1 1280 (by decide) (by decide) b l).trans (congrArg xs1 (congrArg (ix2 b) (Fin.ext (show 1280 + l.val = 2048 * 0 + 1024 + (128 * 2 + l.val) by omega))))
  · exact (load_tile8 harg12 xs1 1408 (by decide) (by decide) b l).trans (congrArg xs1 (congrArg (ix2 b) (Fin.ext (show 1408 + l.val = 2048 * 0 + 1024 + (128 * 3 + l.val) by omega))))
  · exact (load_tile8 harg12 xs1 1536 (by decide) (by decide) b l).trans (congrArg xs1 (congrArg (ix2 b) (Fin.ext (show 1536 + l.val = 2048 * 0 + 1024 + (128 * 4 + l.val) by omega))))
  · exact (load_tile8 harg12 xs1 1664 (by decide) (by decide) b l).trans (congrArg xs1 (congrArg (ix2 b) (Fin.ext (show 1664 + l.val = 2048 * 0 + 1024 + (128 * 5 + l.val) by omega))))
  · exact (load_tile8 harg12 xs1 1792 (by decide) (by decide) b l).trans (congrArg xs1 (congrArg (ix2 b) (Fin.ext (show 1792 + l.val = 2048 * 0 + 1024 + (128 * 6 + l.val) by omega))))
  · exact (load_tile8 harg12 xs1 1920 (by decide) (by decide) b l).trans (congrArg xs1 (congrArg (ix2 b) (Fin.ext (show 1920 + l.val = 2048 * 0 + 1024 + (128 * 7 + l.val) by omega))))

theorem seq1 (κ : Fin 8) (n : ℕ) (b : Fin 8) (l : Fin 128) : seqAt (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) κ n b l = ent x3 (hbF (k0_pay128 (F := Ideal) x0 x2)) x4 xs1 0 b ⟨128 * κ.val + l.val, by omega⟩ n :=
  seq_ent (fun κ b l => hAr1 (κ := κ) (b := b) (l := l) ..) (fun κ b l => hAi1 (κ := κ) (b := b) (l := l) ..) (fun κ b l => hCr1 (κ := κ) (b := b) (l := l) ..) (fun κ b l => hCi1 (κ := κ) (b := b) (l := l) ..) κ n b l

theorem inv1 : Inv (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) := by
  have hBr : ∀ (κ : Fin 8) t (ht : t < 64) (b : Fin 8) (l : Fin 128), arg11.view.read (Elt Ideal) (arg11.view.writes (Elt Ideal) arg11.view.junk (list1 c arg1 harg1 arg3 harg3 arg5 harg5 arg13 x0 x2 x4)) (ix3 ⟨κ.val, by omega⟩ ⟨8 * t + b, by omega⟩ l) = brOf (hbF (k0_pay128 (F := Ideal) x0 x2)) x4 0 κ t b l := by
    intro κ t ht b l
    rw [View.read_writes_junk_eq_canon]
    exact (bu1 (y := _) ..).trans (br_eq _ _ _ κ t ht b l)
  have hBi : ∀ (κ : Fin 8) t (ht : t < 64) (b : Fin 8) (l : Fin 128), arg11.view.read (Elt Ideal) (arg11.view.writes (Elt Ideal) arg11.view.junk (list1 c arg1 harg1 arg3 harg3 arg5 harg5 arg13 x0 x2 x4)) (ix3 ⟨8 + κ.val, by omega⟩ ⟨8 * t + b, by omega⟩ l) = biOf (hbF (k0_pay128 (F := Ideal) x0 x2)) x4 0 κ t b l := by
    intro κ t ht b l
    rw [View.read_writes_junk_eq_canon]
    exact (bu1 (y := _) ..).trans (bi_eq _ _ _ κ t ht b l)
  exact loop1 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v364 (F := Ideal) c arg4 harg4 x3) (kernelRun0_B.sl.v368 (F := Ideal) c arg4 harg4 x3) (kernelRun0_B.sl.v372 (F := Ideal) c arg4 harg4 x3) (kernelRun0_B.sl.v376 (F := Ideal) c arg4 harg4 x3) (kernelRun0_B.sl.v380 (F := Ideal) c arg4 harg4 x3) (kernelRun0_B.sl.v384 (F := Ideal) c arg4 harg4 x3) (kernelRun0_B.sl.v388 (F := Ideal) c arg4 harg4 x3) (kernelRun0_B.sl.v392 (F := Ideal) c arg4 harg4 x3) (kernelRun0_B.sl.v396 (F := Ideal) c arg4 harg4 x3) (kernelRun0_B.sl.v400 (F := Ideal) c arg4 harg4 x3) (kernelRun0_B.sl.v404 (F := Ideal) c arg4 harg4 x3) (kernelRun0_B.sl.v408 (F := Ideal) c arg4 harg4 x3) (kernelRun0_B.sl.v412 (F := Ideal) c arg4 harg4 x3) (kernelRun0_B.sl.v416 (F := Ideal) c arg4 harg4 x3) (kernelRun0_B.sl.v420 (F := Ideal) c arg4 harg4 x3) (kernelRun0_B.sl.v424 (F := Ideal) c arg4 harg4 x3) (kernelRun0_B.sl.r_6 (F := Ideal) c arg12 harg12 xs1) (kernelRun0_B.sl.r_7 (F := Ideal) c arg12 harg12 xs1) _ _ _ _ _ hBr hBi 64 (le_refl 64)

theorem slabs1 (κ : Fin 16) (r : Fin 512) (l : Fin 128) : View.canon ((st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).2 ++ list1 c arg1 harg1 arg3 harg3 arg5 harg5 arg13 x0 x2 x4) (ix3 κ r l) = SLE x3 (hbF (k0_pay128 (F := Ideal) x0 x2)) x4 xs1 0 r ⟨128 * κ.val + l.val, ix16_lt κ l⟩ :=
  slabs_after (inv1 ..) (fun κ n b l => seq1 (κ := κ) (n := n) (b := b) (l := l) ..) _ κ r l

/-- The sixteen stores before loop 2, and all the earlier ones. -/
abbrev list2 : List P16 := (⟨Rect.unit (s := S16x512x128) ![15, 0, 0] S1x512x128.size (by decide), kernelRun0_B.sl.v603 (F := Ideal) c arg1 harg1 arg3 harg3 arg5 harg5 arg13 x0 x2 x4⟩ :: kernelRun0_B.sl.HS0_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)

abbrev Ar2 : Fin 8 → Tile := ![(kernelRun0_B.sl.v607 (F := Ideal) c arg4 harg4 x3), (kernelRun0_B.sl.v611 (F := Ideal) c arg4 harg4 x3), (kernelRun0_B.sl.v615 (F := Ideal) c arg4 harg4 x3), (kernelRun0_B.sl.v619 (F := Ideal) c arg4 harg4 x3), (kernelRun0_B.sl.v623 (F := Ideal) c arg4 harg4 x3), (kernelRun0_B.sl.v627 (F := Ideal) c arg4 harg4 x3), (kernelRun0_B.sl.v631 (F := Ideal) c arg4 harg4 x3), (kernelRun0_B.sl.v635 (F := Ideal) c arg4 harg4 x3)]
abbrev Ai2 : Fin 8 → Tile := ![(kernelRun0_B.sl.v639 (F := Ideal) c arg4 harg4 x3), (kernelRun0_B.sl.v643 (F := Ideal) c arg4 harg4 x3), (kernelRun0_B.sl.v647 (F := Ideal) c arg4 harg4 x3), (kernelRun0_B.sl.v651 (F := Ideal) c arg4 harg4 x3), (kernelRun0_B.sl.v655 (F := Ideal) c arg4 harg4 x3), (kernelRun0_B.sl.v659 (F := Ideal) c arg4 harg4 x3), (kernelRun0_B.sl.v663 (F := Ideal) c arg4 harg4 x3), (kernelRun0_B.sl.v667 (F := Ideal) c arg4 harg4 x3)]

abbrev Cr2 : Fin 8 → Tile := ![(kernelRun0_B.sl.v668 (F := Ideal) c arg12 harg12 xs1), (kernelRun0_B.sl.v669 (F := Ideal) c arg12 harg12 xs1), (kernelRun0_B.sl.v670 (F := Ideal) c arg12 harg12 xs1), (kernelRun0_B.sl.v671 (F := Ideal) c arg12 harg12 xs1), (kernelRun0_B.sl.v672 (F := Ideal) c arg12 harg12 xs1), (kernelRun0_B.sl.v673 (F := Ideal) c arg12 harg12 xs1), (kernelRun0_B.sl.v674 (F := Ideal) c arg12 harg12 xs1), (kernelRun0_B.sl.v675 (F := Ideal) c arg12 harg12 xs1)]
abbrev Ci2 : Fin 8 → Tile := ![(kernelRun0_B.sl.v676 (F := Ideal) c arg12 harg12 xs1), (kernelRun0_B.sl.v677 (F := Ideal) c arg12 harg12 xs1), (kernelRun0_B.sl.v678 (F := Ideal) c arg12 harg12 xs1), (kernelRun0_B.sl.v679 (F := Ideal) c arg12 harg12 xs1), (kernelRun0_B.sl.v680 (F := Ideal) c arg12 harg12 xs1), (kernelRun0_B.sl.v681 (F := Ideal) c arg12 harg12 xs1), (kernelRun0_B.sl.v682 (F := Ideal) c arg12 harg12 xs1), (kernelRun0_B.sl.v683 (F := Ideal) c arg12 harg12 xs1)]

abbrev st2 : Tiles × List P16 := st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v607 (F := Ideal) c arg4 harg4 x3) (kernelRun0_B.sl.v611 (F := Ideal) c arg4 harg4 x3) (kernelRun0_B.sl.v615 (F := Ideal) c arg4 harg4 x3) (kernelRun0_B.sl.v619 (F := Ideal) c arg4 harg4 x3) (kernelRun0_B.sl.v623 (F := Ideal) c arg4 harg4 x3) (kernelRun0_B.sl.v627 (F := Ideal) c arg4 harg4 x3) (kernelRun0_B.sl.v631 (F := Ideal) c arg4 harg4 x3) (kernelRun0_B.sl.v635 (F := Ideal) c arg4 harg4 x3) (kernelRun0_B.sl.v639 (F := Ideal) c arg4 harg4 x3) (kernelRun0_B.sl.v643 (F := Ideal) c arg4 harg4 x3) (kernelRun0_B.sl.v647 (F := Ideal) c arg4 harg4 x3) (kernelRun0_B.sl.v651 (F := Ideal) c arg4 harg4 x3) (kernelRun0_B.sl.v655 (F := Ideal) c arg4 harg4 x3) (kernelRun0_B.sl.v659 (F := Ideal) c arg4 harg4 x3) (kernelRun0_B.sl.v663 (F := Ideal) c arg4 harg4 x3) (kernelRun0_B.sl.v667 (F := Ideal) c arg4 harg4 x3) (kernelRun0_B.sl.v668 (F := Ideal) c arg12 harg12 xs1) (kernelRun0_B.sl.v669 (F := Ideal) c arg12 harg12 xs1) (kernelRun0_B.sl.v670 (F := Ideal) c arg12 harg12 xs1) (kernelRun0_B.sl.v671 (F := Ideal) c arg12 harg12 xs1) (kernelRun0_B.sl.v672 (F := Ideal) c arg12 harg12 xs1) (kernelRun0_B.sl.v673 (F := Ideal) c arg12 harg12 xs1) (kernelRun0_B.sl.v674 (F := Ideal) c arg12 harg12 xs1) (kernelRun0_B.sl.v675 (F := Ideal) c arg12 harg12 xs1) (kernelRun0_B.sl.v676 (F := Ideal) c arg12 harg12 xs1) (kernelRun0_B.sl.v677 (F := Ideal) c arg12 harg12 xs1) (kernelRun0_B.sl.v678 (F := Ideal) c arg12 harg12 xs1) (kernelRun0_B.sl.v679 (F := Ideal) c arg12 harg12 xs1) (kernelRun0_B.sl.v680 (F := Ideal) c arg12 harg12 xs1) (kernelRun0_B.sl.v681 (F := Ideal) c arg12 harg12 xs1) (arg11.view.writes (Elt Ideal) arg11.view.junk (list2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (toT (Cr2 c arg12 harg12 xs1) (Ci2 c arg12 harg12 xs1)) (Scf.trips k0_t2_loop.lb k0_t2_loop.ub k0_t2_loop.st)

theorem bu2 (y : S16x512x128.Idx) : View.canon (list2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) y = buG (hbF (k0_pay128 (F := Ideal) x0 x2)) x4 1 y := by
  have K := canon_16 (buG (kernelRun0_B.sl.r_3 (F := Ideal) c arg1 harg1 arg3 harg3 arg13 x0 x2) x4 1) (list2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) rfl (And.intro (fun x => bupiece 1 15 (by decide) (by decide) (kernelRun0_B.sl.r_3 (F := Ideal) c arg1 harg1 arg3 harg3 arg13 x0 x2) x4 _ (load_W harg5 x4 1 (by decide)) (by decide) (by decide) (by decide) x) (And.intro (fun x => bupiece 1 14 (by decide) (by decide) (kernelRun0_B.sl.r_3 (F := Ideal) c arg1 harg1 arg3 harg3 arg13 x0 x2) x4 _ (load_W harg5 x4 1 (by decide)) (by decide) (by decide) (by decide) x) (And.intro (fun x => bupiece 1 13 (by decide) (by decide) (kernelRun0_B.sl.r_3 (F := Ideal) c arg1 harg1 arg3 harg3 arg13 x0 x2) x4 _ (load_W harg5 x4 1 (by decide)) (by decide) (by decide) (by decide) x) (And.intro (fun x => bupiece 1 12 (by decide) (by decide) (kernelRun0_B.sl.r_3 (F := Ideal) c arg1 harg1 arg3 harg3 arg13 x0 x2) x4 _ (load_W harg5 x4 1 (by decide)) (by decide) (by decide) (by decide) x) (And.intro (fun x => bupiece 1 11 (by decide) (by decide) (kernelRun0_B.sl.r_3 (F := Ideal) c arg1 harg1 arg3 harg3 arg13 x0 x2) x4 _ (load_W harg5 x4 1 (by decide)) (by decide) (by decide) (by decide) x) (And.intro (fun x => bupiece 1 10 (by decide) (by decide) (kernelRun0_B.sl.r_3 (F := Ideal) c arg1 harg1 arg3 harg3 arg13 x0 x2) x4 _ (load_W harg5 x4 1 (by decide)) (by decide) (by decide) (by decide) x) (And.intro (fun x => bupiece 1 9 (by decide) (by decide) (kernelRun0_B.sl.r_3 (F := Ideal) c arg1 harg1 arg3 harg3 arg13 x0 x2) x4 _ (load_W harg5 x4 1 (by decide)) (by decide) (by decide) (by decide) x) (And.intro (fun x => bupiece 1 8 (by decide) (by decide) (kernelRun0_B.sl.r_3 (F := Ideal) c arg1 harg1 arg3 harg3 arg13 x0 x2) x4 _ (load_W harg5 x4 1 (by decide)) (by decide) (by decide) (by decide) x) (And.intro (fun x => bupiece 1 7 (by decide) (by decide) (kernelRun0_B.sl.r_3 (F := Ideal) c arg1 harg1 arg3 harg3 arg13 x0 x2) x4 _ (load_W harg5 x4 1 (by decide)) (by decide) (by decide) (by decide) x) (And.intro (fun x => bupiece 1 6 (by decide) (by decide) (kernelRun0_B.sl.r_3 (F := Ideal) c arg1 harg1 arg3 harg3 arg13 x0 x2) x4 _ (load_W harg5 x4 1 (by decide)) (by decide) (by decide) (by decide) x) (And.intro (fun x => bupiece 1 5 (by decide) (by decide) (kernelRun0_B.sl.r_3 (F := Ideal) c arg1 harg1 arg3 harg3 arg13 x0 x2) x4 _ (load_W harg5 x4 1 (by decide)) (by decide) (by decide) (by decide) x) (And.intro (fun x => bupiece 1 4 (by decide) (by decide) (kernelRun0_B.sl.r_3 (F := Ideal) c arg1 harg1 arg3 harg3 arg13 x0 x2) x4 _ (load_W harg5 x4 1 (by decide)) (by decide) (by decide) (by decide) x) (And.intro (fun x => bupiece 1 3 (by decide) (by decide) (kernelRun0_B.sl.r_3 (F := Ideal) c arg1 harg1 arg3 harg3 arg13 x0 x2) x4 _ (load_W harg5 x4 1 (by decide)) (by decide) (by decide) (by decide) x) (And.intro (fun x => bupiece 1 2 (by decide) (by decide) (kernelRun0_B.sl.r_3 (F := Ideal) c arg1 harg1 arg3 harg3 arg13 x0 x2) x4 _ (load_W harg5 x4 1 (by decide)) (by decide) (by decide) (by decide) x) (And.intro (fun x => bupiece 1 1 (by decide) (by decide) (kernelRun0_B.sl.r_3 (F := Ideal) c arg1 harg1 arg3 harg3 arg13 x0 x2) x4 _ (load_W harg5 x4 1 (by decide)) (by decide) (by decide) (by decide) x) (And.intro (fun x => bupiece 1 0 (by decide) (by decide) (kernelRun0_B.sl.r_3 (F := Ideal) c arg1 harg1 arg3 harg3 arg13 x0 x2) x4 _ (load_W harg5 x4 1 (by decide)) (by decide) (by decide) (by decide) x) (trivial))))))))))))))))) y
  rw [r3] at K
  exact K

theorem hAr2 (κ : Fin 8) (b : Fin 8) (l : Fin 128) : (Ar2 c arg4 harg4 x3) κ (ix2 b l) = x3 (ix3 1 0 ⟨128 * κ.val + l.val, by omega⟩) := by
  fin_cases κ
  · exact a_tile harg4 x3 1 0 0 (by decide) _ b l
  · exact a_tile harg4 x3 1 0 1 (by decide) _ b l
  · exact a_tile harg4 x3 1 0 2 (by decide) _ b l
  · exact a_tile harg4 x3 1 0 3 (by decide) _ b l
  · exact a_tile harg4 x3 1 0 4 (by decide) _ b l
  · exact a_tile harg4 x3 1 0 5 (by decide) _ b l
  · exact a_tile harg4 x3 1 0 6 (by decide) _ b l
  · exact a_tile harg4 x3 1 0 7 (by decide) _ b l

theorem hAi2 (κ : Fin 8) (b : Fin 8) (l : Fin 128) : (Ai2 c arg4 harg4 x3) κ (ix2 b l) = x3 (ix3 1 1 ⟨128 * κ.val + l.val, by omega⟩) := by
  fin_cases κ
  · exact a_tile harg4 x3 1 1 0 (by decide) _ b l
  · exact a_tile harg4 x3 1 1 1 (by decide) _ b l
  · exact a_tile harg4 x3 1 1 2 (by decide) _ b l
  · exact a_tile harg4 x3 1 1 3 (by decide) _ b l
  · exact a_tile harg4 x3 1 1 4 (by decide) _ b l
  · exact a_tile harg4 x3 1 1 5 (by decide) _ b l
  · exact a_tile harg4 x3 1 1 6 (by decide) _ b l
  · exact a_tile harg4 x3 1 1 7 (by decide) _ b l

theorem hCr2 (κ : Fin 8) (b : Fin 8) (l : Fin 128) : (Cr2 c arg12 harg12 xs1) κ (ix2 b l) = xs1 (ix2 b ⟨2048 * (1 : Fin 4).val + (128 * κ.val + l.val), by have h : (1 : Fin 4).val = 1 := rfl; omega⟩) := by
  fin_cases κ
  · exact (load_tile8 harg12 xs1 2048 (by decide) (by decide) b l).trans (congrArg xs1 (congrArg (ix2 b) (Fin.ext (show 2048 + l.val = 2048 * 1 + (128 * 0 + l.val) by omega))))
  · exact (load_tile8 harg12 xs1 2176 (by decide) (by decide) b l).trans (congrArg xs1 (congrArg (ix2 b) (Fin.ext (show 2176 + l.val = 2048 * 1 + (128 * 1 + l.val) by omega))))
  · exact (load_tile8 harg12 xs1 2304 (by decide) (by decide) b l).trans (congrArg xs1 (congrArg (ix2 b) (Fin.ext (show 2304 + l.val = 2048 * 1 + (128 * 2 + l.val) by omega))))
  · exact (load_tile8 harg12 xs1 2432 (by decide) (by decide) b l).trans (congrArg xs1 (congrArg (ix2 b) (Fin.ext (show 2432 + l.val = 2048 * 1 + (128 * 3 + l.val) by omega))))
  · exact (load_tile8 harg12 xs1 2560 (by decide) (by decide) b l).trans (congrArg xs1 (congrArg (ix2 b) (Fin.ext (show 2560 + l.val = 2048 * 1 + (128 * 4 + l.val) by omega))))
  · exact (load_tile8 harg12 xs1 2688 (by decide) (by decide) b l).trans (congrArg xs1 (congrArg (ix2 b) (Fin.ext (show 2688 + l.val = 2048 * 1 + (128 * 5 + l.val) by omega))))
  · exact (load_tile8 harg12 xs1 2816 (by decide) (by decide) b l).trans (congrArg xs1 (congrArg (ix2 b) (Fin.ext (show 2816 + l.val = 2048 * 1 + (128 * 6 + l.val) by omega))))
  · exact (load_tile8 harg12 xs1 2944 (by decide) (by decide) b l).trans (congrArg xs1 (congrArg (ix2 b) (Fin.ext (show 2944 + l.val = 2048 * 1 + (128 * 7 + l.val) by omega))))

theorem hCi2 (κ : Fin 8) (b : Fin 8) (l : Fin 128) : (Ci2 c arg12 harg12 xs1) κ (ix2 b l) = xs1 (ix2 b ⟨2048 * (1 : Fin 4).val + 1024 + (128 * κ.val + l.val), by have h : (1 : Fin 4).val = 1 := rfl; omega⟩) := by
  fin_cases κ
  · exact (load_tile8 harg12 xs1 3072 (by decide) (by decide) b l).trans (congrArg xs1 (congrArg (ix2 b) (Fin.ext (show 3072 + l.val = 2048 * 1 + 1024 + (128 * 0 + l.val) by omega))))
  · exact (load_tile8 harg12 xs1 3200 (by decide) (by decide) b l).trans (congrArg xs1 (congrArg (ix2 b) (Fin.ext (show 3200 + l.val = 2048 * 1 + 1024 + (128 * 1 + l.val) by omega))))
  · exact (load_tile8 harg12 xs1 3328 (by decide) (by decide) b l).trans (congrArg xs1 (congrArg (ix2 b) (Fin.ext (show 3328 + l.val = 2048 * 1 + 1024 + (128 * 2 + l.val) by omega))))
  · exact (load_tile8 harg12 xs1 3456 (by decide) (by decide) b l).trans (congrArg xs1 (congrArg (ix2 b) (Fin.ext (show 3456 + l.val = 2048 * 1 + 1024 + (128 * 3 + l.val) by omega))))
  · exact (load_tile8 harg12 xs1 3584 (by decide) (by decide) b l).trans (congrArg xs1 (congrArg (ix2 b) (Fin.ext (show 3584 + l.val = 2048 * 1 + 1024 + (128 * 4 + l.val) by omega))))
  · exact (load_tile8 harg12 xs1 3712 (by decide) (by decide) b l).trans (congrArg xs1 (congrArg (ix2 b) (Fin.ext (show 3712 + l.val = 2048 * 1 + 1024 + (128 * 5 + l.val) by omega))))
  · exact (load_tile8 harg12 xs1 3840 (by decide) (by decide) b l).trans (congrArg xs1 (congrArg (ix2 b) (Fin.ext (show 3840 + l.val = 2048 * 1 + 1024 + (128 * 6 + l.val) by omega))))
  · exact (load_tile8 harg12 xs1 3968 (by decide) (by decide) b l).trans (congrArg xs1 (congrArg (ix2 b) (Fin.ext (show 3968 + l.val = 2048 * 1 + 1024 + (128 * 7 + l.val) by omega))))

theorem seq2 (κ : Fin 8) (n : ℕ) (b : Fin 8) (l : Fin 128) : seqAt (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) κ n b l = ent x3 (hbF (k0_pay128 (F := Ideal) x0 x2)) x4 xs1 1 b ⟨128 * κ.val + l.val, by omega⟩ n :=
  seq_ent (fun κ b l => hAr2 (κ := κ) (b := b) (l := l) ..) (fun κ b l => hAi2 (κ := κ) (b := b) (l := l) ..) (fun κ b l => hCr2 (κ := κ) (b := b) (l := l) ..) (fun κ b l => hCi2 (κ := κ) (b := b) (l := l) ..) κ n b l

theorem inv2 : Inv (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) := by
  have hBr : ∀ (κ : Fin 8) t (ht : t < 64) (b : Fin 8) (l : Fin 128), arg11.view.read (Elt Ideal) (arg11.view.writes (Elt Ideal) arg11.view.junk (list2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (ix3 ⟨κ.val, by omega⟩ ⟨8 * t + b, by omega⟩ l) = brOf (hbF (k0_pay128 (F := Ideal) x0 x2)) x4 1 κ t b l := by
    intro κ t ht b l
    rw [View.read_writes_junk_eq_canon]
    exact (bu2 (y := _) ..).trans (br_eq _ _ _ κ t ht b l)
  have hBi : ∀ (κ : Fin 8) t (ht : t < 64) (b : Fin 8) (l : Fin 128), arg11.view.read (Elt Ideal) (arg11.view.writes (Elt Ideal) arg11.view.junk (list2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (ix3 ⟨8 + κ.val, by omega⟩ ⟨8 * t + b, by omega⟩ l) = biOf (hbF (k0_pay128 (F := Ideal) x0 x2)) x4 1 κ t b l := by
    intro κ t ht b l
    rw [View.read_writes_junk_eq_canon]
    exact (bu2 (y := _) ..).trans (bi_eq _ _ _ κ t ht b l)
  exact loop2 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v607 (F := Ideal) c arg4 harg4 x3) (kernelRun0_B.sl.v611 (F := Ideal) c arg4 harg4 x3) (kernelRun0_B.sl.v615 (F := Ideal) c arg4 harg4 x3) (kernelRun0_B.sl.v619 (F := Ideal) c arg4 harg4 x3) (kernelRun0_B.sl.v623 (F := Ideal) c arg4 harg4 x3) (kernelRun0_B.sl.v627 (F := Ideal) c arg4 harg4 x3) (kernelRun0_B.sl.v631 (F := Ideal) c arg4 harg4 x3) (kernelRun0_B.sl.v635 (F := Ideal) c arg4 harg4 x3) (kernelRun0_B.sl.v639 (F := Ideal) c arg4 harg4 x3) (kernelRun0_B.sl.v643 (F := Ideal) c arg4 harg4 x3) (kernelRun0_B.sl.v647 (F := Ideal) c arg4 harg4 x3) (kernelRun0_B.sl.v651 (F := Ideal) c arg4 harg4 x3) (kernelRun0_B.sl.v655 (F := Ideal) c arg4 harg4 x3) (kernelRun0_B.sl.v659 (F := Ideal) c arg4 harg4 x3) (kernelRun0_B.sl.v663 (F := Ideal) c arg4 harg4 x3) (kernelRun0_B.sl.v667 (F := Ideal) c arg4 harg4 x3) (kernelRun0_B.sl.v668 (F := Ideal) c arg12 harg12 xs1) (kernelRun0_B.sl.v669 (F := Ideal) c arg12 harg12 xs1) (kernelRun0_B.sl.v670 (F := Ideal) c arg12 harg12 xs1) (kernelRun0_B.sl.v671 (F := Ideal) c arg12 harg12 xs1) (kernelRun0_B.sl.v672 (F := Ideal) c arg12 harg12 xs1) (kernelRun0_B.sl.v673 (F := Ideal) c arg12 harg12 xs1) (kernelRun0_B.sl.v674 (F := Ideal) c arg12 harg12 xs1) (kernelRun0_B.sl.v675 (F := Ideal) c arg12 harg12 xs1) (kernelRun0_B.sl.v676 (F := Ideal) c arg12 harg12 xs1) (kernelRun0_B.sl.v677 (F := Ideal) c arg12 harg12 xs1) (kernelRun0_B.sl.v678 (F := Ideal) c arg12 harg12 xs1) (kernelRun0_B.sl.v679 (F := Ideal) c arg12 harg12 xs1) (kernelRun0_B.sl.v680 (F := Ideal) c arg12 harg12 xs1) (kernelRun0_B.sl.v681 (F := Ideal) c arg12 harg12 xs1) _ _ _ _ _ hBr hBi 64 (le_refl 64)

theorem slabs2 (κ : Fin 16) (r : Fin 512) (l : Fin 128) : View.canon ((st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).2 ++ list2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (ix3 κ r l) = SLE x3 (hbF (k0_pay128 (F := Ideal) x0 x2)) x4 xs1 1 r ⟨128 * κ.val + l.val, ix16_lt κ l⟩ :=
  slabs_after (inv2 ..) (fun κ n b l => seq2 (κ := κ) (n := n) (b := b) (l := l) ..) _ κ r l

end Cert.S5.PB
-- ==== Proof.SIStB2.lean ====
/- The S5 body at a later point, its last two blocks, its output and the state it leaves. -/
module

public import proofs.«01_k».proof.Proof.SIStB
public import proofs.«01_k».proof.Proof.SIRunB

@[expose] public section

set_option maxRecDepth 65536
set_option maxHeartbeats 1600000

noncomputable section

namespace Cert.S5.PB

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16) (xs1 : FVec Ideal S8x8192 .f32)

/-- The sixteen stores before loop 3, and all the earlier ones. -/
abbrev list3 : List P16 := (⟨Rect.unit (s := S16x512x128) ![15, 0, 0] S1x512x128.size (by decide), kernelRun0_B.sl.v846 (F := Ideal) c arg1 harg1 arg3 harg3 arg5 harg5 arg13 x0 x2 x4⟩ :: kernelRun0_B.sl.HS0_15_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)

abbrev Ar3 : Fin 8 → Tile := ![(kernelRun0_B.sl.v850 (F := Ideal) c arg4 harg4 x3), (kernelRun0_B.sl.v854 (F := Ideal) c arg4 harg4 x3), (kernelRun0_B.sl.v858 (F := Ideal) c arg4 harg4 x3), (kernelRun0_B.sl.v862 (F := Ideal) c arg4 harg4 x3), (kernelRun0_B.sl.v866 (F := Ideal) c arg4 harg4 x3), (kernelRun0_B.sl.v870 (F := Ideal) c arg4 harg4 x3), (kernelRun0_B.sl.v874 (F := Ideal) c arg4 harg4 x3), (kernelRun0_B.sl.v878 (F := Ideal) c arg4 harg4 x3)]
abbrev Ai3 : Fin 8 → Tile := ![(kernelRun0_B.sl.v882 (F := Ideal) c arg4 harg4 x3), (kernelRun0_B.sl.v886 (F := Ideal) c arg4 harg4 x3), (kernelRun0_B.sl.v890 (F := Ideal) c arg4 harg4 x3), (kernelRun0_B.sl.v894 (F := Ideal) c arg4 harg4 x3), (kernelRun0_B.sl.v898 (F := Ideal) c arg4 harg4 x3), (kernelRun0_B.sl.v902 (F := Ideal) c arg4 harg4 x3), (kernelRun0_B.sl.v906 (F := Ideal) c arg4 harg4 x3), (kernelRun0_B.sl.v910 (F := Ideal) c arg4 harg4 x3)]

abbrev Cr3 : Fin 8 → Tile := ![(kernelRun0_B.sl.v911 (F := Ideal) c arg12 harg12 xs1), (kernelRun0_B.sl.v912 (F := Ideal) c arg12 harg12 xs1), (kernelRun0_B.sl.v913 (F := Ideal) c arg12 harg12 xs1), (kernelRun0_B.sl.v914 (F := Ideal) c arg12 harg12 xs1), (kernelRun0_B.sl.v915 (F := Ideal) c arg12 harg12 xs1), (kernelRun0_B.sl.v916 (F := Ideal) c arg12 harg12 xs1), (kernelRun0_B.sl.v917 (F := Ideal) c arg12 harg12 xs1), (kernelRun0_B.sl.v918 (F := Ideal) c arg12 harg12 xs1)]
abbrev Ci3 : Fin 8 → Tile := ![(kernelRun0_B.sl.v919 (F := Ideal) c arg12 harg12 xs1), (kernelRun0_B.sl.v920 (F := Ideal) c arg12 harg12 xs1), (kernelRun0_B.sl.v921 (F := Ideal) c arg12 harg12 xs1), (kernelRun0_B.sl.v922 (F := Ideal) c arg12 harg12 xs1), (kernelRun0_B.sl.v923 (F := Ideal) c arg12 harg12 xs1), (kernelRun0_B.sl.v924 (F := Ideal) c arg12 harg12 xs1), (kernelRun0_B.sl.v925 (F := Ideal) c arg12 harg12 xs1), (kernelRun0_B.sl.v926 (F := Ideal) c arg12 harg12 xs1)]

abbrev st3 : Tiles × List P16 := st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v850 (F := Ideal) c arg4 harg4 x3) (kernelRun0_B.sl.v854 (F := Ideal) c arg4 harg4 x3) (kernelRun0_B.sl.v858 (F := Ideal) c arg4 harg4 x3) (kernelRun0_B.sl.v862 (F := Ideal) c arg4 harg4 x3) (kernelRun0_B.sl.v866 (F := Ideal) c arg4 harg4 x3) (kernelRun0_B.sl.v870 (F := Ideal) c arg4 harg4 x3) (kernelRun0_B.sl.v874 (F := Ideal) c arg4 harg4 x3) (kernelRun0_B.sl.v878 (F := Ideal) c arg4 harg4 x3) (kernelRun0_B.sl.v882 (F := Ideal) c arg4 harg4 x3) (kernelRun0_B.sl.v886 (F := Ideal) c arg4 harg4 x3) (kernelRun0_B.sl.v890 (F := Ideal) c arg4 harg4 x3) (kernelRun0_B.sl.v894 (F := Ideal) c arg4 harg4 x3) (kernelRun0_B.sl.v898 (F := Ideal) c arg4 harg4 x3) (kernelRun0_B.sl.v902 (F := Ideal) c arg4 harg4 x3) (kernelRun0_B.sl.v906 (F := Ideal) c arg4 harg4 x3) (kernelRun0_B.sl.v910 (F := Ideal) c arg4 harg4 x3) (kernelRun0_B.sl.v911 (F := Ideal) c arg12 harg12 xs1) (kernelRun0_B.sl.v912 (F := Ideal) c arg12 harg12 xs1) (kernelRun0_B.sl.v913 (F := Ideal) c arg12 harg12 xs1) (kernelRun0_B.sl.v914 (F := Ideal) c arg12 harg12 xs1) (kernelRun0_B.sl.v915 (F := Ideal) c arg12 harg12 xs1) (kernelRun0_B.sl.v916 (F := Ideal) c arg12 harg12 xs1) (kernelRun0_B.sl.v917 (F := Ideal) c arg12 harg12 xs1) (arg11.view.writes (Elt Ideal) arg11.view.junk (list3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (toT (Cr3 c arg12 harg12 xs1) (Ci3 c arg12 harg12 xs1)) (Scf.trips k0_t3_loop.lb k0_t3_loop.ub k0_t3_loop.st)

theorem bu3 (y : S16x512x128.Idx) : View.canon (list3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) y = buG (hbF (k0_pay128 (F := Ideal) x0 x2)) x4 2 y := by
  have K := canon_16 (buG (kernelRun0_B.sl.r_3 (F := Ideal) c arg1 harg1 arg3 harg3 arg13 x0 x2) x4 2) (list3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) rfl (And.intro (fun x => bupiece 2 15 (by decide) (by decide) (kernelRun0_B.sl.r_3 (F := Ideal) c arg1 harg1 arg3 harg3 arg13 x0 x2) x4 _ (load_W harg5 x4 2 (by decide)) (by decide) (by decide) (by decide) x) (And.intro (fun x => bupiece 2 14 (by decide) (by decide) (kernelRun0_B.sl.r_3 (F := Ideal) c arg1 harg1 arg3 harg3 arg13 x0 x2) x4 _ (load_W harg5 x4 2 (by decide)) (by decide) (by decide) (by decide) x) (And.intro (fun x => bupiece 2 13 (by decide) (by decide) (kernelRun0_B.sl.r_3 (F := Ideal) c arg1 harg1 arg3 harg3 arg13 x0 x2) x4 _ (load_W harg5 x4 2 (by decide)) (by decide) (by decide) (by decide) x) (And.intro (fun x => bupiece 2 12 (by decide) (by decide) (kernelRun0_B.sl.r_3 (F := Ideal) c arg1 harg1 arg3 harg3 arg13 x0 x2) x4 _ (load_W harg5 x4 2 (by decide)) (by decide) (by decide) (by decide) x) (And.intro (fun x => bupiece 2 11 (by decide) (by decide) (kernelRun0_B.sl.r_3 (F := Ideal) c arg1 harg1 arg3 harg3 arg13 x0 x2) x4 _ (load_W harg5 x4 2 (by decide)) (by decide) (by decide) (by decide) x) (And.intro (fun x => bupiece 2 10 (by decide) (by decide) (kernelRun0_B.sl.r_3 (F := Ideal) c arg1 harg1 arg3 harg3 arg13 x0 x2) x4 _ (load_W harg5 x4 2 (by decide)) (by decide) (by decide) (by decide) x) (And.intro (fun x => bupiece 2 9 (by decide) (by decide) (kernelRun0_B.sl.r_3 (F := Ideal) c arg1 harg1 arg3 harg3 arg13 x0 x2) x4 _ (load_W harg5 x4 2 (by decide)) (by decide) (by decide) (by decide) x) (And.intro (fun x => bupiece 2 8 (by decide) (by decide) (kernelRun0_B.sl.r_3 (F := Ideal) c arg1 harg1 arg3 harg3 arg13 x0 x2) x4 _ (load_W harg5 x4 2 (by decide)) (by decide) (by decide) (by decide) x) (And.intro (fun x => bupiece 2 7 (by decide) (by decide) (kernelRun0_B.sl.r_3 (F := Ideal) c arg1 harg1 arg3 harg3 arg13 x0 x2) x4 _ (load_W harg5 x4 2 (by decide)) (by decide) (by decide) (by decide) x) (And.intro (fun x => bupiece 2 6 (by decide) (by decide) (kernelRun0_B.sl.r_3 (F := Ideal) c arg1 harg1 arg3 harg3 arg13 x0 x2) x4 _ (load_W harg5 x4 2 (by decide)) (by decide) (by decide) (by decide) x) (And.intro (fun x => bupiece 2 5 (by decide) (by decide) (kernelRun0_B.sl.r_3 (F := Ideal) c arg1 harg1 arg3 harg3 arg13 x0 x2) x4 _ (load_W harg5 x4 2 (by decide)) (by decide) (by decide) (by decide) x) (And.intro (fun x => bupiece 2 4 (by decide) (by decide) (kernelRun0_B.sl.r_3 (F := Ideal) c arg1 harg1 arg3 harg3 arg13 x0 x2) x4 _ (load_W harg5 x4 2 (by decide)) (by decide) (by decide) (by decide) x) (And.intro (fun x => bupiece 2 3 (by decide) (by decide) (kernelRun0_B.sl.r_3 (F := Ideal) c arg1 harg1 arg3 harg3 arg13 x0 x2) x4 _ (load_W harg5 x4 2 (by decide)) (by decide) (by decide) (by decide) x) (And.intro (fun x => bupiece 2 2 (by decide) (by decide) (kernelRun0_B.sl.r_3 (F := Ideal) c arg1 harg1 arg3 harg3 arg13 x0 x2) x4 _ (load_W harg5 x4 2 (by decide)) (by decide) (by decide) (by decide) x) (And.intro (fun x => bupiece 2 1 (by decide) (by decide) (kernelRun0_B.sl.r_3 (F := Ideal) c arg1 harg1 arg3 harg3 arg13 x0 x2) x4 _ (load_W harg5 x4 2 (by decide)) (by decide) (by decide) (by decide) x) (And.intro (fun x => bupiece 2 0 (by decide) (by decide) (kernelRun0_B.sl.r_3 (F := Ideal) c arg1 harg1 arg3 harg3 arg13 x0 x2) x4 _ (load_W harg5 x4 2 (by decide)) (by decide) (by decide) (by decide) x) (trivial))))))))))))))))) y
  rw [r3] at K
  exact K

theorem hAr3 (κ : Fin 8) (b : Fin 8) (l : Fin 128) : (Ar3 c arg4 harg4 x3) κ (ix2 b l) = x3 (ix3 2 0 ⟨128 * κ.val + l.val, by omega⟩) := by
  fin_cases κ
  · exact a_tile harg4 x3 2 0 0 (by decide) _ b l
  · exact a_tile harg4 x3 2 0 1 (by decide) _ b l
  · exact a_tile harg4 x3 2 0 2 (by decide) _ b l
  · exact a_tile harg4 x3 2 0 3 (by decide) _ b l
  · exact a_tile harg4 x3 2 0 4 (by decide) _ b l
  · exact a_tile harg4 x3 2 0 5 (by decide) _ b l
  · exact a_tile harg4 x3 2 0 6 (by decide) _ b l
  · exact a_tile harg4 x3 2 0 7 (by decide) _ b l

theorem hAi3 (κ : Fin 8) (b : Fin 8) (l : Fin 128) : (Ai3 c arg4 harg4 x3) κ (ix2 b l) = x3 (ix3 2 1 ⟨128 * κ.val + l.val, by omega⟩) := by
  fin_cases κ
  · exact a_tile harg4 x3 2 1 0 (by decide) _ b l
  · exact a_tile harg4 x3 2 1 1 (by decide) _ b l
  · exact a_tile harg4 x3 2 1 2 (by decide) _ b l
  · exact a_tile harg4 x3 2 1 3 (by decide) _ b l
  · exact a_tile harg4 x3 2 1 4 (by decide) _ b l
  · exact a_tile harg4 x3 2 1 5 (by decide) _ b l
  · exact a_tile harg4 x3 2 1 6 (by decide) _ b l
  · exact a_tile harg4 x3 2 1 7 (by decide) _ b l

theorem hCr3 (κ : Fin 8) (b : Fin 8) (l : Fin 128) : (Cr3 c arg12 harg12 xs1) κ (ix2 b l) = xs1 (ix2 b ⟨2048 * (2 : Fin 4).val + (128 * κ.val + l.val), by have h : (2 : Fin 4).val = 2 := rfl; omega⟩) := by
  fin_cases κ
  · exact (load_tile8 harg12 xs1 4096 (by decide) (by decide) b l).trans (congrArg xs1 (congrArg (ix2 b) (Fin.ext (show 4096 + l.val = 2048 * 2 + (128 * 0 + l.val) by omega))))
  · exact (load_tile8 harg12 xs1 4224 (by decide) (by decide) b l).trans (congrArg xs1 (congrArg (ix2 b) (Fin.ext (show 4224 + l.val = 2048 * 2 + (128 * 1 + l.val) by omega))))
  · exact (load_tile8 harg12 xs1 4352 (by decide) (by decide) b l).trans (congrArg xs1 (congrArg (ix2 b) (Fin.ext (show 4352 + l.val = 2048 * 2 + (128 * 2 + l.val) by omega))))
  · exact (load_tile8 harg12 xs1 4480 (by decide) (by decide) b l).trans (congrArg xs1 (congrArg (ix2 b) (Fin.ext (show 4480 + l.val = 2048 * 2 + (128 * 3 + l.val) by omega))))
  · exact (load_tile8 harg12 xs1 4608 (by decide) (by decide) b l).trans (congrArg xs1 (congrArg (ix2 b) (Fin.ext (show 4608 + l.val = 2048 * 2 + (128 * 4 + l.val) by omega))))
  · exact (load_tile8 harg12 xs1 4736 (by decide) (by decide) b l).trans (congrArg xs1 (congrArg (ix2 b) (Fin.ext (show 4736 + l.val = 2048 * 2 + (128 * 5 + l.val) by omega))))
  · exact (load_tile8 harg12 xs1 4864 (by decide) (by decide) b l).trans (congrArg xs1 (congrArg (ix2 b) (Fin.ext (show 4864 + l.val = 2048 * 2 + (128 * 6 + l.val) by omega))))
  · exact (load_tile8 harg12 xs1 4992 (by decide) (by decide) b l).trans (congrArg xs1 (congrArg (ix2 b) (Fin.ext (show 4992 + l.val = 2048 * 2 + (128 * 7 + l.val) by omega))))

theorem hCi3 (κ : Fin 8) (b : Fin 8) (l : Fin 128) : (Ci3 c arg12 harg12 xs1) κ (ix2 b l) = xs1 (ix2 b ⟨2048 * (2 : Fin 4).val + 1024 + (128 * κ.val + l.val), by have h : (2 : Fin 4).val = 2 := rfl; omega⟩) := by
  fin_cases κ
  · exact (load_tile8 harg12 xs1 5120 (by decide) (by decide) b l).trans (congrArg xs1 (congrArg (ix2 b) (Fin.ext (show 5120 + l.val = 2048 * 2 + 1024 + (128 * 0 + l.val) by omega))))
  · exact (load_tile8 harg12 xs1 5248 (by decide) (by decide) b l).trans (congrArg xs1 (congrArg (ix2 b) (Fin.ext (show 5248 + l.val = 2048 * 2 + 1024 + (128 * 1 + l.val) by omega))))
  · exact (load_tile8 harg12 xs1 5376 (by decide) (by decide) b l).trans (congrArg xs1 (congrArg (ix2 b) (Fin.ext (show 5376 + l.val = 2048 * 2 + 1024 + (128 * 2 + l.val) by omega))))
  · exact (load_tile8 harg12 xs1 5504 (by decide) (by decide) b l).trans (congrArg xs1 (congrArg (ix2 b) (Fin.ext (show 5504 + l.val = 2048 * 2 + 1024 + (128 * 3 + l.val) by omega))))
  · exact (load_tile8 harg12 xs1 5632 (by decide) (by decide) b l).trans (congrArg xs1 (congrArg (ix2 b) (Fin.ext (show 5632 + l.val = 2048 * 2 + 1024 + (128 * 4 + l.val) by omega))))
  · exact (load_tile8 harg12 xs1 5760 (by decide) (by decide) b l).trans (congrArg xs1 (congrArg (ix2 b) (Fin.ext (show 5760 + l.val = 2048 * 2 + 1024 + (128 * 5 + l.val) by omega))))
  · exact (load_tile8 harg12 xs1 5888 (by decide) (by decide) b l).trans (congrArg xs1 (congrArg (ix2 b) (Fin.ext (show 5888 + l.val = 2048 * 2 + 1024 + (128 * 6 + l.val) by omega))))
  · exact (load_tile8 harg12 xs1 6016 (by decide) (by decide) b l).trans (congrArg xs1 (congrArg (ix2 b) (Fin.ext (show 6016 + l.val = 2048 * 2 + 1024 + (128 * 7 + l.val) by omega))))

theorem seq3 (κ : Fin 8) (n : ℕ) (b : Fin 8) (l : Fin 128) : seqAt (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) κ n b l = ent x3 (hbF (k0_pay128 (F := Ideal) x0 x2)) x4 xs1 2 b ⟨128 * κ.val + l.val, by omega⟩ n :=
  seq_ent (fun κ b l => hAr3 (κ := κ) (b := b) (l := l) ..) (fun κ b l => hAi3 (κ := κ) (b := b) (l := l) ..) (fun κ b l => hCr3 (κ := κ) (b := b) (l := l) ..) (fun κ b l => hCi3 (κ := κ) (b := b) (l := l) ..) κ n b l

theorem inv3 : Inv (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) := by
  have hBr : ∀ (κ : Fin 8) t (ht : t < 64) (b : Fin 8) (l : Fin 128), arg11.view.read (Elt Ideal) (arg11.view.writes (Elt Ideal) arg11.view.junk (list3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (ix3 ⟨κ.val, by omega⟩ ⟨8 * t + b, by omega⟩ l) = brOf (hbF (k0_pay128 (F := Ideal) x0 x2)) x4 2 κ t b l := by
    intro κ t ht b l
    rw [View.read_writes_junk_eq_canon]
    exact (bu3 (y := _) ..).trans (br_eq _ _ _ κ t ht b l)
  have hBi : ∀ (κ : Fin 8) t (ht : t < 64) (b : Fin 8) (l : Fin 128), arg11.view.read (Elt Ideal) (arg11.view.writes (Elt Ideal) arg11.view.junk (list3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (ix3 ⟨8 + κ.val, by omega⟩ ⟨8 * t + b, by omega⟩ l) = biOf (hbF (k0_pay128 (F := Ideal) x0 x2)) x4 2 κ t b l := by
    intro κ t ht b l
    rw [View.read_writes_junk_eq_canon]
    exact (bu3 (y := _) ..).trans (bi_eq _ _ _ κ t ht b l)
  exact loop3 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v850 (F := Ideal) c arg4 harg4 x3) (kernelRun0_B.sl.v854 (F := Ideal) c arg4 harg4 x3) (kernelRun0_B.sl.v858 (F := Ideal) c arg4 harg4 x3) (kernelRun0_B.sl.v862 (F := Ideal) c arg4 harg4 x3) (kernelRun0_B.sl.v866 (F := Ideal) c arg4 harg4 x3) (kernelRun0_B.sl.v870 (F := Ideal) c arg4 harg4 x3) (kernelRun0_B.sl.v874 (F := Ideal) c arg4 harg4 x3) (kernelRun0_B.sl.v878 (F := Ideal) c arg4 harg4 x3) (kernelRun0_B.sl.v882 (F := Ideal) c arg4 harg4 x3) (kernelRun0_B.sl.v886 (F := Ideal) c arg4 harg4 x3) (kernelRun0_B.sl.v890 (F := Ideal) c arg4 harg4 x3) (kernelRun0_B.sl.v894 (F := Ideal) c arg4 harg4 x3) (kernelRun0_B.sl.v898 (F := Ideal) c arg4 harg4 x3) (kernelRun0_B.sl.v902 (F := Ideal) c arg4 harg4 x3) (kernelRun0_B.sl.v906 (F := Ideal) c arg4 harg4 x3) (kernelRun0_B.sl.v910 (F := Ideal) c arg4 harg4 x3) (kernelRun0_B.sl.v911 (F := Ideal) c arg12 harg12 xs1) (kernelRun0_B.sl.v912 (F := Ideal) c arg12 harg12 xs1) (kernelRun0_B.sl.v913 (F := Ideal) c arg12 harg12 xs1) (kernelRun0_B.sl.v914 (F := Ideal) c arg12 harg12 xs1) (kernelRun0_B.sl.v915 (F := Ideal) c arg12 harg12 xs1) (kernelRun0_B.sl.v916 (F := Ideal) c arg12 harg12 xs1) (kernelRun0_B.sl.v917 (F := Ideal) c arg12 harg12 xs1) _ _ _ _ _ hBr hBi 64 (le_refl 64)

theorem slabs3 (κ : Fin 16) (r : Fin 512) (l : Fin 128) : View.canon ((st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).2 ++ list3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (ix3 κ r l) = SLE x3 (hbF (k0_pay128 (F := Ideal) x0 x2)) x4 xs1 2 r ⟨128 * κ.val + l.val, ix16_lt κ l⟩ :=
  slabs_after (inv3 ..) (fun κ n b l => seq3 (κ := κ) (n := n) (b := b) (l := l) ..) _ κ r l

/-- The sixteen stores before loop 4, and all the earlier ones. -/
abbrev list4 : List P16 := (⟨Rect.unit (s := S16x512x128) ![15, 0, 0] S1x512x128.size (by decide), kernelRun0_B.sl.v1089 (F := Ideal) c arg1 harg1 arg3 harg3 arg5 harg5 arg13 x0 x2 x4⟩ :: kernelRun0_B.sl.HS0_15_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)

abbrev Ar4 : Fin 8 → Tile := ![(kernelRun0_B.sl.v1093 (F := Ideal) c arg4 harg4 x3), (kernelRun0_B.sl.v1097 (F := Ideal) c arg4 harg4 x3), (kernelRun0_B.sl.v1101 (F := Ideal) c arg4 harg4 x3), (kernelRun0_B.sl.v1105 (F := Ideal) c arg4 harg4 x3), (kernelRun0_B.sl.v1109 (F := Ideal) c arg4 harg4 x3), (kernelRun0_B.sl.v1113 (F := Ideal) c arg4 harg4 x3), (kernelRun0_B.sl.v1117 (F := Ideal) c arg4 harg4 x3), (kernelRun0_B.sl.v1121 (F := Ideal) c arg4 harg4 x3)]
abbrev Ai4 : Fin 8 → Tile := ![(kernelRun0_B.sl.v1125 (F := Ideal) c arg4 harg4 x3), (kernelRun0_B.sl.v1129 (F := Ideal) c arg4 harg4 x3), (kernelRun0_B.sl.v1133 (F := Ideal) c arg4 harg4 x3), (kernelRun0_B.sl.v1137 (F := Ideal) c arg4 harg4 x3), (kernelRun0_B.sl.v1141 (F := Ideal) c arg4 harg4 x3), (kernelRun0_B.sl.v1145 (F := Ideal) c arg4 harg4 x3), (kernelRun0_B.sl.v1149 (F := Ideal) c arg4 harg4 x3), (k0_pay442 (F := Ideal) (kernelRun0_B.sl.v1151 (F := Ideal) c arg4 harg4 x3))]

abbrev Cr4 : Fin 8 → Tile := ![(kernelRun0_B.sl.v1154 (F := Ideal) c arg12 harg12 xs1), (kernelRun0_B.sl.v1155 (F := Ideal) c arg12 harg12 xs1), (kernelRun0_B.sl.v1156 (F := Ideal) c arg12 harg12 xs1), (kernelRun0_B.sl.v1157 (F := Ideal) c arg12 harg12 xs1), (kernelRun0_B.sl.v1158 (F := Ideal) c arg12 harg12 xs1), (kernelRun0_B.sl.v1159 (F := Ideal) c arg12 harg12 xs1), (kernelRun0_B.sl.v1160 (F := Ideal) c arg12 harg12 xs1), (kernelRun0_B.sl.v1161 (F := Ideal) c arg12 harg12 xs1)]
abbrev Ci4 : Fin 8 → Tile := ![(kernelRun0_B.sl.v1162 (F := Ideal) c arg12 harg12 xs1), (kernelRun0_B.sl.v1163 (F := Ideal) c arg12 harg12 xs1), (kernelRun0_B.sl.v1164 (F := Ideal) c arg12 harg12 xs1), (kernelRun0_B.sl.v1165 (F := Ideal) c arg12 harg12 xs1), (kernelRun0_B.sl.v1166 (F := Ideal) c arg12 harg12 xs1), (kernelRun0_B.sl.v1167 (F := Ideal) c arg12 harg12 xs1), (kernelRun0_B.sl.v1168 (F := Ideal) c arg12 harg12 xs1), (kernelRun0_B.sl.v1169 (F := Ideal) c arg12 harg12 xs1)]

abbrev st4 : Tiles × List P16 := st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v1093 (F := Ideal) c arg4 harg4 x3) (kernelRun0_B.sl.v1097 (F := Ideal) c arg4 harg4 x3) (kernelRun0_B.sl.v1101 (F := Ideal) c arg4 harg4 x3) (kernelRun0_B.sl.v1105 (F := Ideal) c arg4 harg4 x3) (kernelRun0_B.sl.v1109 (F := Ideal) c arg4 harg4 x3) (kernelRun0_B.sl.v1113 (F := Ideal) c arg4 harg4 x3) (kernelRun0_B.sl.v1117 (F := Ideal) c arg4 harg4 x3) (kernelRun0_B.sl.v1121 (F := Ideal) c arg4 harg4 x3) (kernelRun0_B.sl.v1125 (F := Ideal) c arg4 harg4 x3) (kernelRun0_B.sl.v1129 (F := Ideal) c arg4 harg4 x3) (kernelRun0_B.sl.v1133 (F := Ideal) c arg4 harg4 x3) (kernelRun0_B.sl.v1137 (F := Ideal) c arg4 harg4 x3) (kernelRun0_B.sl.v1141 (F := Ideal) c arg4 harg4 x3) (kernelRun0_B.sl.v1145 (F := Ideal) c arg4 harg4 x3) (kernelRun0_B.sl.v1149 (F := Ideal) c arg4 harg4 x3) (kernelRun0_B.sl.v1151 (F := Ideal) c arg4 harg4 x3) (arg11.view.writes (Elt Ideal) arg11.view.junk (list4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (toT (Cr4 c arg12 harg12 xs1) (Ci4 c arg12 harg12 xs1)) (Scf.trips k0_t4_loop.lb k0_t4_loop.ub k0_t4_loop.st)

theorem bu4 (y : S16x512x128.Idx) : View.canon (list4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) y = buG (hbF (k0_pay128 (F := Ideal) x0 x2)) x4 3 y := by
  have K := canon_16 (buG (kernelRun0_B.sl.r_3 (F := Ideal) c arg1 harg1 arg3 harg3 arg13 x0 x2) x4 3) (list4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) rfl (And.intro (fun x => bupiece 3 15 (by decide) (by decide) (kernelRun0_B.sl.r_3 (F := Ideal) c arg1 harg1 arg3 harg3 arg13 x0 x2) x4 _ (load_W harg5 x4 3 (by decide)) (by decide) (by decide) (by decide) x) (And.intro (fun x => bupiece 3 14 (by decide) (by decide) (kernelRun0_B.sl.r_3 (F := Ideal) c arg1 harg1 arg3 harg3 arg13 x0 x2) x4 _ (load_W harg5 x4 3 (by decide)) (by decide) (by decide) (by decide) x) (And.intro (fun x => bupiece 3 13 (by decide) (by decide) (kernelRun0_B.sl.r_3 (F := Ideal) c arg1 harg1 arg3 harg3 arg13 x0 x2) x4 _ (load_W harg5 x4 3 (by decide)) (by decide) (by decide) (by decide) x) (And.intro (fun x => bupiece 3 12 (by decide) (by decide) (kernelRun0_B.sl.r_3 (F := Ideal) c arg1 harg1 arg3 harg3 arg13 x0 x2) x4 _ (load_W harg5 x4 3 (by decide)) (by decide) (by decide) (by decide) x) (And.intro (fun x => bupiece 3 11 (by decide) (by decide) (kernelRun0_B.sl.r_3 (F := Ideal) c arg1 harg1 arg3 harg3 arg13 x0 x2) x4 _ (load_W harg5 x4 3 (by decide)) (by decide) (by decide) (by decide) x) (And.intro (fun x => bupiece 3 10 (by decide) (by decide) (kernelRun0_B.sl.r_3 (F := Ideal) c arg1 harg1 arg3 harg3 arg13 x0 x2) x4 _ (load_W harg5 x4 3 (by decide)) (by decide) (by decide) (by decide) x) (And.intro (fun x => bupiece 3 9 (by decide) (by decide) (kernelRun0_B.sl.r_3 (F := Ideal) c arg1 harg1 arg3 harg3 arg13 x0 x2) x4 _ (load_W harg5 x4 3 (by decide)) (by decide) (by decide) (by decide) x) (And.intro (fun x => bupiece 3 8 (by decide) (by decide) (kernelRun0_B.sl.r_3 (F := Ideal) c arg1 harg1 arg3 harg3 arg13 x0 x2) x4 _ (load_W harg5 x4 3 (by decide)) (by decide) (by decide) (by decide) x) (And.intro (fun x => bupiece 3 7 (by decide) (by decide) (kernelRun0_B.sl.r_3 (F := Ideal) c arg1 harg1 arg3 harg3 arg13 x0 x2) x4 _ (load_W harg5 x4 3 (by decide)) (by decide) (by decide) (by decide) x) (And.intro (fun x => bupiece 3 6 (by decide) (by decide) (kernelRun0_B.sl.r_3 (F := Ideal) c arg1 harg1 arg3 harg3 arg13 x0 x2) x4 _ (load_W harg5 x4 3 (by decide)) (by decide) (by decide) (by decide) x) (And.intro (fun x => bupiece 3 5 (by decide) (by decide) (kernelRun0_B.sl.r_3 (F := Ideal) c arg1 harg1 arg3 harg3 arg13 x0 x2) x4 _ (load_W harg5 x4 3 (by decide)) (by decide) (by decide) (by decide) x) (And.intro (fun x => bupiece 3 4 (by decide) (by decide) (kernelRun0_B.sl.r_3 (F := Ideal) c arg1 harg1 arg3 harg3 arg13 x0 x2) x4 _ (load_W harg5 x4 3 (by decide)) (by decide) (by decide) (by decide) x) (And.intro (fun x => bupiece 3 3 (by decide) (by decide) (kernelRun0_B.sl.r_3 (F := Ideal) c arg1 harg1 arg3 harg3 arg13 x0 x2) x4 _ (load_W harg5 x4 3 (by decide)) (by decide) (by decide) (by decide) x) (And.intro (fun x => bupiece 3 2 (by decide) (by decide) (kernelRun0_B.sl.r_3 (F := Ideal) c arg1 harg1 arg3 harg3 arg13 x0 x2) x4 _ (load_W harg5 x4 3 (by decide)) (by decide) (by decide) (by decide) x) (And.intro (fun x => bupiece 3 1 (by decide) (by decide) (kernelRun0_B.sl.r_3 (F := Ideal) c arg1 harg1 arg3 harg3 arg13 x0 x2) x4 _ (load_W harg5 x4 3 (by decide)) (by decide) (by decide) (by decide) x) (And.intro (fun x => bupiece 3 0 (by decide) (by decide) (kernelRun0_B.sl.r_3 (F := Ideal) c arg1 harg1 arg3 harg3 arg13 x0 x2) x4 _ (load_W harg5 x4 3 (by decide)) (by decide) (by decide) (by decide) x) (trivial))))))))))))))))) y
  rw [r3] at K
  exact K

theorem hAr4 (κ : Fin 8) (b : Fin 8) (l : Fin 128) : (Ar4 c arg4 harg4 x3) κ (ix2 b l) = x3 (ix3 3 0 ⟨128 * κ.val + l.val, by omega⟩) := by
  fin_cases κ
  · exact a_tile harg4 x3 3 0 0 (by decide) _ b l
  · exact a_tile harg4 x3 3 0 1 (by decide) _ b l
  · exact a_tile harg4 x3 3 0 2 (by decide) _ b l
  · exact a_tile harg4 x3 3 0 3 (by decide) _ b l
  · exact a_tile harg4 x3 3 0 4 (by decide) _ b l
  · exact a_tile harg4 x3 3 0 5 (by decide) _ b l
  · exact a_tile harg4 x3 3 0 6 (by decide) _ b l
  · exact a_tile harg4 x3 3 0 7 (by decide) _ b l

theorem hAi4 (κ : Fin 8) (b : Fin 8) (l : Fin 128) : (Ai4 c arg4 harg4 x3) κ (ix2 b l) = x3 (ix3 3 1 ⟨128 * κ.val + l.val, by omega⟩) := by
  fin_cases κ
  · exact a_tile harg4 x3 3 1 0 (by decide) _ b l
  · exact a_tile harg4 x3 3 1 1 (by decide) _ b l
  · exact a_tile harg4 x3 3 1 2 (by decide) _ b l
  · exact a_tile harg4 x3 3 1 3 (by decide) _ b l
  · exact a_tile harg4 x3 3 1 4 (by decide) _ b l
  · exact a_tile harg4 x3 3 1 5 (by decide) _ b l
  · exact a_tile harg4 x3 3 1 6 (by decide) _ b l
  · exact a_tile harg4 x3 3 1 7 (by decide) _ b l

theorem hCr4 (κ : Fin 8) (b : Fin 8) (l : Fin 128) : (Cr4 c arg12 harg12 xs1) κ (ix2 b l) = xs1 (ix2 b ⟨2048 * (3 : Fin 4).val + (128 * κ.val + l.val), by have h : (3 : Fin 4).val = 3 := rfl; omega⟩) := by
  fin_cases κ
  · exact (load_tile8 harg12 xs1 6144 (by decide) (by decide) b l).trans (congrArg xs1 (congrArg (ix2 b) (Fin.ext (show 6144 + l.val = 2048 * 3 + (128 * 0 + l.val) by omega))))
  · exact (load_tile8 harg12 xs1 6272 (by decide) (by decide) b l).trans (congrArg xs1 (congrArg (ix2 b) (Fin.ext (show 6272 + l.val = 2048 * 3 + (128 * 1 + l.val) by omega))))
  · exact (load_tile8 harg12 xs1 6400 (by decide) (by decide) b l).trans (congrArg xs1 (congrArg (ix2 b) (Fin.ext (show 6400 + l.val = 2048 * 3 + (128 * 2 + l.val) by omega))))
  · exact (load_tile8 harg12 xs1 6528 (by decide) (by decide) b l).trans (congrArg xs1 (congrArg (ix2 b) (Fin.ext (show 6528 + l.val = 2048 * 3 + (128 * 3 + l.val) by omega))))
  · exact (load_tile8 harg12 xs1 6656 (by decide) (by decide) b l).trans (congrArg xs1 (congrArg (ix2 b) (Fin.ext (show 6656 + l.val = 2048 * 3 + (128 * 4 + l.val) by omega))))
  · exact (load_tile8 harg12 xs1 6784 (by decide) (by decide) b l).trans (congrArg xs1 (congrArg (ix2 b) (Fin.ext (show 6784 + l.val = 2048 * 3 + (128 * 5 + l.val) by omega))))
  · exact (load_tile8 harg12 xs1 6912 (by decide) (by decide) b l).trans (congrArg xs1 (congrArg (ix2 b) (Fin.ext (show 6912 + l.val = 2048 * 3 + (128 * 6 + l.val) by omega))))
  · exact (load_tile8 harg12 xs1 7040 (by decide) (by decide) b l).trans (congrArg xs1 (congrArg (ix2 b) (Fin.ext (show 7040 + l.val = 2048 * 3 + (128 * 7 + l.val) by omega))))

theorem hCi4 (κ : Fin 8) (b : Fin 8) (l : Fin 128) : (Ci4 c arg12 harg12 xs1) κ (ix2 b l) = xs1 (ix2 b ⟨2048 * (3 : Fin 4).val + 1024 + (128 * κ.val + l.val), by have h : (3 : Fin 4).val = 3 := rfl; omega⟩) := by
  fin_cases κ
  · exact (load_tile8 harg12 xs1 7168 (by decide) (by decide) b l).trans (congrArg xs1 (congrArg (ix2 b) (Fin.ext (show 7168 + l.val = 2048 * 3 + 1024 + (128 * 0 + l.val) by omega))))
  · exact (load_tile8 harg12 xs1 7296 (by decide) (by decide) b l).trans (congrArg xs1 (congrArg (ix2 b) (Fin.ext (show 7296 + l.val = 2048 * 3 + 1024 + (128 * 1 + l.val) by omega))))
  · exact (load_tile8 harg12 xs1 7424 (by decide) (by decide) b l).trans (congrArg xs1 (congrArg (ix2 b) (Fin.ext (show 7424 + l.val = 2048 * 3 + 1024 + (128 * 2 + l.val) by omega))))
  · exact (load_tile8 harg12 xs1 7552 (by decide) (by decide) b l).trans (congrArg xs1 (congrArg (ix2 b) (Fin.ext (show 7552 + l.val = 2048 * 3 + 1024 + (128 * 3 + l.val) by omega))))
  · exact (load_tile8 harg12 xs1 7680 (by decide) (by decide) b l).trans (congrArg xs1 (congrArg (ix2 b) (Fin.ext (show 7680 + l.val = 2048 * 3 + 1024 + (128 * 4 + l.val) by omega))))
  · exact (load_tile8 harg12 xs1 7808 (by decide) (by decide) b l).trans (congrArg xs1 (congrArg (ix2 b) (Fin.ext (show 7808 + l.val = 2048 * 3 + 1024 + (128 * 5 + l.val) by omega))))
  · exact (load_tile8 harg12 xs1 7936 (by decide) (by decide) b l).trans (congrArg xs1 (congrArg (ix2 b) (Fin.ext (show 7936 + l.val = 2048 * 3 + 1024 + (128 * 6 + l.val) by omega))))
  · exact (load_tile8 harg12 xs1 8064 (by decide) (by decide) b l).trans (congrArg xs1 (congrArg (ix2 b) (Fin.ext (show 8064 + l.val = 2048 * 3 + 1024 + (128 * 7 + l.val) by omega))))

theorem seq4 (κ : Fin 8) (n : ℕ) (b : Fin 8) (l : Fin 128) : seqAt (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) κ n b l = ent x3 (hbF (k0_pay128 (F := Ideal) x0 x2)) x4 xs1 3 b ⟨128 * κ.val + l.val, by omega⟩ n :=
  seq_ent (fun κ b l => hAr4 (κ := κ) (b := b) (l := l) ..) (fun κ b l => hAi4 (κ := κ) (b := b) (l := l) ..) (fun κ b l => hCr4 (κ := κ) (b := b) (l := l) ..) (fun κ b l => hCi4 (κ := κ) (b := b) (l := l) ..) κ n b l

theorem inv4 : Inv (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) := by
  have hBr : ∀ (κ : Fin 8) t (ht : t < 64) (b : Fin 8) (l : Fin 128), arg11.view.read (Elt Ideal) (arg11.view.writes (Elt Ideal) arg11.view.junk (list4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (ix3 ⟨κ.val, by omega⟩ ⟨8 * t + b, by omega⟩ l) = brOf (hbF (k0_pay128 (F := Ideal) x0 x2)) x4 3 κ t b l := by
    intro κ t ht b l
    rw [View.read_writes_junk_eq_canon]
    exact (bu4 (y := _) ..).trans (br_eq _ _ _ κ t ht b l)
  have hBi : ∀ (κ : Fin 8) t (ht : t < 64) (b : Fin 8) (l : Fin 128), arg11.view.read (Elt Ideal) (arg11.view.writes (Elt Ideal) arg11.view.junk (list4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1)) (ix3 ⟨8 + κ.val, by omega⟩ ⟨8 * t + b, by omega⟩ l) = biOf (hbF (k0_pay128 (F := Ideal) x0 x2)) x4 3 κ t b l := by
    intro κ t ht b l
    rw [View.read_writes_junk_eq_canon]
    exact (bu4 (y := _) ..).trans (bi_eq _ _ _ κ t ht b l)
  exact loop4 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.v1093 (F := Ideal) c arg4 harg4 x3) (kernelRun0_B.sl.v1097 (F := Ideal) c arg4 harg4 x3) (kernelRun0_B.sl.v1101 (F := Ideal) c arg4 harg4 x3) (kernelRun0_B.sl.v1105 (F := Ideal) c arg4 harg4 x3) (kernelRun0_B.sl.v1109 (F := Ideal) c arg4 harg4 x3) (kernelRun0_B.sl.v1113 (F := Ideal) c arg4 harg4 x3) (kernelRun0_B.sl.v1117 (F := Ideal) c arg4 harg4 x3) (kernelRun0_B.sl.v1121 (F := Ideal) c arg4 harg4 x3) (kernelRun0_B.sl.v1125 (F := Ideal) c arg4 harg4 x3) (kernelRun0_B.sl.v1129 (F := Ideal) c arg4 harg4 x3) (kernelRun0_B.sl.v1133 (F := Ideal) c arg4 harg4 x3) (kernelRun0_B.sl.v1137 (F := Ideal) c arg4 harg4 x3) (kernelRun0_B.sl.v1141 (F := Ideal) c arg4 harg4 x3) (kernelRun0_B.sl.v1145 (F := Ideal) c arg4 harg4 x3) (kernelRun0_B.sl.v1149 (F := Ideal) c arg4 harg4 x3) (kernelRun0_B.sl.v1151 (F := Ideal) c arg4 harg4 x3) _ _ _ _ _ hBr hBi 64 (le_refl 64)

theorem slabs4 (κ : Fin 16) (r : Fin 512) (l : Fin 128) : View.canon ((st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).2 ++ list4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (ix3 κ r l) = SLE x3 (hbF (k0_pay128 (F := Ideal) x0 x2)) x4 xs1 3 r ⟨128 * κ.val + l.val, ix16_lt κ l⟩ :=
  slabs_after (inv4 ..) (fun κ n b l => seq4 (κ := κ) (n := n) (b := b) (l := l) ..) _ κ r l

theorem c1_0 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 0 := by
  rw [(inv1 ..).carry]; rfl

theorem c1_1 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 1 := by
  rw [(inv1 ..).carry]; rfl

theorem c1_2 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 2 := by
  rw [(inv1 ..).carry]; rfl

theorem c1_3 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 3 := by
  rw [(inv1 ..).carry]; rfl

theorem c1_4 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 4 := by
  rw [(inv1 ..).carry]; rfl

theorem c1_5 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 5 := by
  rw [(inv1 ..).carry]; rfl

theorem c1_6 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 6 := by
  rw [(inv1 ..).carry]; rfl

theorem c1_7 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.1 = tr (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 7 := by
  rw [(inv1 ..).carry]; rfl

theorem c1_8 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 0 := by
  rw [(inv1 ..).carry]; rfl

theorem c1_9 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 1 := by
  rw [(inv1 ..).carry]; rfl

theorem c1_10 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 2 := by
  rw [(inv1 ..).carry]; rfl

theorem c1_11 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 3 := by
  rw [(inv1 ..).carry]; rfl

theorem c1_12 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 4 := by
  rw [(inv1 ..).carry]; rfl

theorem c1_13 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 5 := by
  rw [(inv1 ..).carry]; rfl

theorem c1_14 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.1 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 6 := by
  rw [(inv1 ..).carry]; rfl

theorem c1_15 : (st1 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.2 = ti (Ar1 c arg4 harg4 x3) (Ai1 c arg4 harg4 x3) (Cr1 c arg12 harg12 xs1) (Ci1 arg12 harg12 xs1) (brOf (hbF (k0_pay128 (F := Ideal) x0 x2)) x4 0) (biOf (hbF (k0_pay128 (F := Ideal) x0 x2)) x4 0) 64 7 := by
  rw [(inv1 ..).carry]; rfl

theorem c2_0 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 0 := by
  rw [(inv2 ..).carry]; rfl

theorem c2_1 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 1 := by
  rw [(inv2 ..).carry]; rfl

theorem c2_2 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 2 := by
  rw [(inv2 ..).carry]; rfl

theorem c2_3 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 3 := by
  rw [(inv2 ..).carry]; rfl

theorem c2_4 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 4 := by
  rw [(inv2 ..).carry]; rfl

theorem c2_5 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 5 := by
  rw [(inv2 ..).carry]; rfl

theorem c2_6 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 6 := by
  rw [(inv2 ..).carry]; rfl

theorem c2_7 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.1 = tr (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 7 := by
  rw [(inv2 ..).carry]; rfl

theorem c2_8 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 0 := by
  rw [(inv2 ..).carry]; rfl

theorem c2_9 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 1 := by
  rw [(inv2 ..).carry]; rfl

theorem c2_10 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 2 := by
  rw [(inv2 ..).carry]; rfl

theorem c2_11 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 3 := by
  rw [(inv2 ..).carry]; rfl

theorem c2_12 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 4 := by
  rw [(inv2 ..).carry]; rfl

theorem c2_13 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 5 := by
  rw [(inv2 ..).carry]; rfl

theorem c2_14 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.1 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 6 := by
  rw [(inv2 ..).carry]; rfl

theorem c2_15 : (st2 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.2 = ti (Ar2 c arg4 harg4 x3) (Ai2 c arg4 harg4 x3) (Cr2 c arg12 harg12 xs1) (Ci2 c arg12 harg12 xs1) (brOf (hbF (k0_pay128 (F := Ideal) x0 x2)) x4 1) (biOf (hbF (k0_pay128 (F := Ideal) x0 x2)) x4 1) 64 7 := by
  rw [(inv2 ..).carry]; rfl

theorem c3_0 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 0 := by
  rw [(inv3 ..).carry]; rfl

theorem c3_1 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 1 := by
  rw [(inv3 ..).carry]; rfl

theorem c3_2 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 2 := by
  rw [(inv3 ..).carry]; rfl

theorem c3_3 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 3 := by
  rw [(inv3 ..).carry]; rfl

theorem c3_4 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 4 := by
  rw [(inv3 ..).carry]; rfl

theorem c3_5 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 5 := by
  rw [(inv3 ..).carry]; rfl

theorem c3_6 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 6 := by
  rw [(inv3 ..).carry]; rfl

theorem c3_7 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.1 = tr (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 7 := by
  rw [(inv3 ..).carry]; rfl

theorem c3_8 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 0 := by
  rw [(inv3 ..).carry]; rfl

theorem c3_9 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 1 := by
  rw [(inv3 ..).carry]; rfl

theorem c3_10 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 2 := by
  rw [(inv3 ..).carry]; rfl

theorem c3_11 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 3 := by
  rw [(inv3 ..).carry]; rfl

theorem c3_12 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 4 := by
  rw [(inv3 ..).carry]; rfl

theorem c3_13 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 5 := by
  rw [(inv3 ..).carry]; rfl

theorem c3_14 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.1 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 6 := by
  rw [(inv3 ..).carry]; rfl

theorem c3_15 : (st3 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.2 = ti (Ar3 c arg4 harg4 x3) (Ai3 c arg4 harg4 x3) (Cr3 c arg12 harg12 xs1) (Ci3 c arg12 harg12 xs1) (brOf (hbF (k0_pay128 (F := Ideal) x0 x2)) x4 2) (biOf (hbF (k0_pay128 (F := Ideal) x0 x2)) x4 2) 64 7 := by
  rw [(inv3 ..).carry]; rfl

theorem c4_0 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 0 := by
  rw [(inv4 ..).carry]; rfl

theorem c4_1 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 1 := by
  rw [(inv4 ..).carry]; rfl

theorem c4_2 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 2 := by
  rw [(inv4 ..).carry]; rfl

theorem c4_3 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 3 := by
  rw [(inv4 ..).carry]; rfl

theorem c4_4 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 4 := by
  rw [(inv4 ..).carry]; rfl

theorem c4_5 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 5 := by
  rw [(inv4 ..).carry]; rfl

theorem c4_6 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 6 := by
  rw [(inv4 ..).carry]; rfl

theorem c4_7 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.1 = tr (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 7 := by
  rw [(inv4 ..).carry]; rfl

theorem c4_8 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 0 := by
  rw [(inv4 ..).carry]; rfl

theorem c4_9 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 1 := by
  rw [(inv4 ..).carry]; rfl

theorem c4_10 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 2 := by
  rw [(inv4 ..).carry]; rfl

theorem c4_11 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 3 := by
  rw [(inv4 ..).carry]; rfl

theorem c4_12 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 4 := by
  rw [(inv4 ..).carry]; rfl

theorem c4_13 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 5 := by
  rw [(inv4 ..).carry]; rfl

theorem c4_14 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.1 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 6 := by
  rw [(inv4 ..).carry]; rfl

theorem c4_15 : (st4 c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1).1.2.2.2.2.2.2.2.2.2.2.2.2.2.2.2 = ti (Ar4 c arg4 harg4 x3) (Ai4 c arg4 harg4 x3) (Cr4 c arg12 harg12 xs1) (Ci4 c arg12 harg12 xs1) (brOf (hbF (k0_pay128 (F := Ideal) x0 x2)) x4 3) (biOf (hbF (k0_pay128 (F := Ideal) x0 x2)) x4 3) 64 7 := by
  rw [(inv4 ..).carry]; rfl

/-- The output block before its last addition: the values of y with the skip term. -/
abbrev Yd : FVec Ideal S512x1024 .f32 := addf (Ymat arg14.view (kernelRun0_B.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 xs1)) (mulf (broadcastTo S512x1024 (shapeCast S1x1024 (View.readAt (Elt Ideal) arg7.view (Rect.unit (s := S1x1024) ![0, 0] S1x1024.size (by decide)).toLoadRect (harg7.unread x6)) shapeCasts_S1x1024_S1x1024) broadcasts_S1x1024_S512x1024) (kernelRun0_B.sl.r_1 (F := Ideal) c arg1 harg1 arg3 harg3 x0 x2))

theorem zst : (kernelRun0_B.sl.r_72 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 xs1) = k0_pay503 (F := Ideal) (mulf (broadcast S512x1024 (Scalar.ofBits .f32 0x3F000000#32)) (Yd c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 xs1)) (erf (mulf (Yd c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 xs1) (broadcast S512x1024 (Scalar.ofBits .f32 0x3F3504F3#32)))) (View.readAt (Elt Ideal) arg8.view (Rect.unit (s := S1024x2048) ![0, 0] S1024x2048.size (by decide)).toLoadRect (harg8.unread x7)) := rfl

end Cert.S5.PB
-- ==== Proof.SIStB3.lean ====
/- The S5 body at a later point: what the slabs of y hold. -/
module

public import proofs.«01_k».proof.Proof.SIStB2
public import proofs.«01_k».proof.Proof.SIPay2

@[expose] public section

set_option maxRecDepth 65536
set_option maxHeartbeats 1600000

noncomputable section

namespace Cert.S5.PB

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16) (xs1 : FVec Ideal S8x8192 .f32)

theorem l1_0 (r : Fin 512) (l : Fin 128) : ((kernelRun0_B.sl.v492 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((0 : Fin 16) : ℕ) + l.val, ix16_lt 0 l⟩ :=
  read_slab arg11.view _ 0 _ (fun κ r l => slabs1 (κ := κ) (r := r) (l := l) ..) r l

theorem l1_1 (r : Fin 512) (l : Fin 128) : ((kernelRun0_B.sl.v494 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((1 : Fin 16) : ℕ) + l.val, ix16_lt 1 l⟩ :=
  read_slab arg11.view _ 1 _ (fun κ r l => slabs1 (κ := κ) (r := r) (l := l) ..) r l

theorem l1_2 (r : Fin 512) (l : Fin 128) : ((kernelRun0_B.sl.v496 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((2 : Fin 16) : ℕ) + l.val, ix16_lt 2 l⟩ :=
  read_slab arg11.view _ 2 _ (fun κ r l => slabs1 (κ := κ) (r := r) (l := l) ..) r l

theorem l1_3 (r : Fin 512) (l : Fin 128) : ((kernelRun0_B.sl.v498 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((3 : Fin 16) : ℕ) + l.val, ix16_lt 3 l⟩ :=
  read_slab arg11.view _ 3 _ (fun κ r l => slabs1 (κ := κ) (r := r) (l := l) ..) r l

theorem l1_4 (r : Fin 512) (l : Fin 128) : ((kernelRun0_B.sl.v500 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((4 : Fin 16) : ℕ) + l.val, ix16_lt 4 l⟩ :=
  read_slab arg11.view _ 4 _ (fun κ r l => slabs1 (κ := κ) (r := r) (l := l) ..) r l

theorem l1_5 (r : Fin 512) (l : Fin 128) : ((kernelRun0_B.sl.v502 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((5 : Fin 16) : ℕ) + l.val, ix16_lt 5 l⟩ :=
  read_slab arg11.view _ 5 _ (fun κ r l => slabs1 (κ := κ) (r := r) (l := l) ..) r l

theorem l1_6 (r : Fin 512) (l : Fin 128) : ((kernelRun0_B.sl.v504 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 0 r ⟨128 * ((6 : Fin 16) : ℕ) + l.val, ix16_lt 6 l⟩ :=
  read_slab arg11.view _ 6 _ (fun κ r l => slabs1 (κ := κ) (r := r) (l := l) ..) r l

theorem l1_7 (r : Fin 512) (l : Fin 128) : ((shapeCast S512x128 (kernelRun0_B.sl.v505 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((7 : Fin 16) : ℕ) + l.val, ix16_lt 7 l⟩ :=
  read_slab arg11.view _ 7 _ (fun κ r l => slabs1 (κ := κ) (r := r) (l := l) ..) r l

theorem l1_8 (r : Fin 512) (l : Fin 128) : ((shapeCast S512x128 (kernelRun0_B.sl.v507 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((8 : Fin 16) : ℕ) + l.val, ix16_lt 8 l⟩ :=
  read_slab arg11.view _ 8 _ (fun κ r l => slabs1 (κ := κ) (r := r) (l := l) ..) r l

theorem l1_9 (r : Fin 512) (l : Fin 128) : ((shapeCast S512x128 (kernelRun0_B.sl.v509 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((9 : Fin 16) : ℕ) + l.val, ix16_lt 9 l⟩ :=
  read_slab arg11.view _ 9 _ (fun κ r l => slabs1 (κ := κ) (r := r) (l := l) ..) r l

theorem l1_10 (r : Fin 512) (l : Fin 128) : ((shapeCast S512x128 (kernelRun0_B.sl.v511 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((10 : Fin 16) : ℕ) + l.val, ix16_lt 10 l⟩ :=
  read_slab arg11.view _ 10 _ (fun κ r l => slabs1 (κ := κ) (r := r) (l := l) ..) r l

theorem l1_11 (r : Fin 512) (l : Fin 128) : ((shapeCast S512x128 (kernelRun0_B.sl.v513 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((11 : Fin 16) : ℕ) + l.val, ix16_lt 11 l⟩ :=
  read_slab arg11.view _ 11 _ (fun κ r l => slabs1 (κ := κ) (r := r) (l := l) ..) r l

theorem l1_12 (r : Fin 512) (l : Fin 128) : ((shapeCast S512x128 (kernelRun0_B.sl.v515 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((12 : Fin 16) : ℕ) + l.val, ix16_lt 12 l⟩ :=
  read_slab arg11.view _ 12 _ (fun κ r l => slabs1 (κ := κ) (r := r) (l := l) ..) r l

theorem l1_13 (r : Fin 512) (l : Fin 128) : ((shapeCast S512x128 (kernelRun0_B.sl.v517 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((13 : Fin 16) : ℕ) + l.val, ix16_lt 13 l⟩ :=
  read_slab arg11.view _ 13 _ (fun κ r l => slabs1 (κ := κ) (r := r) (l := l) ..) r l

theorem l1_14 (r : Fin 512) (l : Fin 128) : ((shapeCast S512x128 (kernelRun0_B.sl.v519 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((14 : Fin 16) : ℕ) + l.val, ix16_lt 14 l⟩ :=
  read_slab arg11.view _ 14 _ (fun κ r l => slabs1 (κ := κ) (r := r) (l := l) ..) r l

theorem l1_15 (r : Fin 512) (l : Fin 128) : ((shapeCast S512x128 (kernelRun0_B.sl.v521 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 0 r ⟨128 * ((15 : Fin 16) : ℕ) + l.val, ix16_lt 15 l⟩ :=
  read_slab arg11.view _ 15 _ (fun κ r l => slabs1 (κ := κ) (r := r) (l := l) ..) r l

theorem l2_0 (r : Fin 512) (l : Fin 128) : ((kernelRun0_B.sl.v735 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((0 : Fin 16) : ℕ) + l.val, ix16_lt 0 l⟩ :=
  read_slab arg11.view _ 0 _ (fun κ r l => slabs2 (κ := κ) (r := r) (l := l) ..) r l

theorem l2_1 (r : Fin 512) (l : Fin 128) : ((kernelRun0_B.sl.v737 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((1 : Fin 16) : ℕ) + l.val, ix16_lt 1 l⟩ :=
  read_slab arg11.view _ 1 _ (fun κ r l => slabs2 (κ := κ) (r := r) (l := l) ..) r l

theorem l2_2 (r : Fin 512) (l : Fin 128) : ((kernelRun0_B.sl.v739 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((2 : Fin 16) : ℕ) + l.val, ix16_lt 2 l⟩ :=
  read_slab arg11.view _ 2 _ (fun κ r l => slabs2 (κ := κ) (r := r) (l := l) ..) r l

theorem l2_3 (r : Fin 512) (l : Fin 128) : ((kernelRun0_B.sl.v741 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((3 : Fin 16) : ℕ) + l.val, ix16_lt 3 l⟩ :=
  read_slab arg11.view _ 3 _ (fun κ r l => slabs2 (κ := κ) (r := r) (l := l) ..) r l

theorem l2_4 (r : Fin 512) (l : Fin 128) : ((kernelRun0_B.sl.v743 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((4 : Fin 16) : ℕ) + l.val, ix16_lt 4 l⟩ :=
  read_slab arg11.view _ 4 _ (fun κ r l => slabs2 (κ := κ) (r := r) (l := l) ..) r l

theorem l2_5 (r : Fin 512) (l : Fin 128) : ((kernelRun0_B.sl.v745 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((5 : Fin 16) : ℕ) + l.val, ix16_lt 5 l⟩ :=
  read_slab arg11.view _ 5 _ (fun κ r l => slabs2 (κ := κ) (r := r) (l := l) ..) r l

theorem l2_6 (r : Fin 512) (l : Fin 128) : ((kernelRun0_B.sl.v747 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((6 : Fin 16) : ℕ) + l.val, ix16_lt 6 l⟩ :=
  read_slab arg11.view _ 6 _ (fun κ r l => slabs2 (κ := κ) (r := r) (l := l) ..) r l

theorem l2_7 (r : Fin 512) (l : Fin 128) : ((kernelRun0_B.sl.v749 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((7 : Fin 16) : ℕ) + l.val, ix16_lt 7 l⟩ :=
  read_slab arg11.view _ 7 _ (fun κ r l => slabs2 (κ := κ) (r := r) (l := l) ..) r l

theorem l2_8 (r : Fin 512) (l : Fin 128) : ((kernelRun0_B.sl.v751 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((8 : Fin 16) : ℕ) + l.val, ix16_lt 8 l⟩ :=
  read_slab arg11.view _ 8 _ (fun κ r l => slabs2 (κ := κ) (r := r) (l := l) ..) r l

theorem l2_9 (r : Fin 512) (l : Fin 128) : ((kernelRun0_B.sl.v753 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((9 : Fin 16) : ℕ) + l.val, ix16_lt 9 l⟩ :=
  read_slab arg11.view _ 9 _ (fun κ r l => slabs2 (κ := κ) (r := r) (l := l) ..) r l

theorem l2_10 (r : Fin 512) (l : Fin 128) : ((kernelRun0_B.sl.v755 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((10 : Fin 16) : ℕ) + l.val, ix16_lt 10 l⟩ :=
  read_slab arg11.view _ 10 _ (fun κ r l => slabs2 (κ := κ) (r := r) (l := l) ..) r l

theorem l2_11 (r : Fin 512) (l : Fin 128) : ((kernelRun0_B.sl.v757 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((11 : Fin 16) : ℕ) + l.val, ix16_lt 11 l⟩ :=
  read_slab arg11.view _ 11 _ (fun κ r l => slabs2 (κ := κ) (r := r) (l := l) ..) r l

theorem l2_12 (r : Fin 512) (l : Fin 128) : ((kernelRun0_B.sl.v759 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((12 : Fin 16) : ℕ) + l.val, ix16_lt 12 l⟩ :=
  read_slab arg11.view _ 12 _ (fun κ r l => slabs2 (κ := κ) (r := r) (l := l) ..) r l

theorem l2_13 (r : Fin 512) (l : Fin 128) : ((kernelRun0_B.sl.v761 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 1 r ⟨128 * ((13 : Fin 16) : ℕ) + l.val, ix16_lt 13 l⟩ :=
  read_slab arg11.view _ 13 _ (fun κ r l => slabs2 (κ := κ) (r := r) (l := l) ..) r l

theorem l2_14 (r : Fin 512) (l : Fin 128) : ((shapeCast S512x128 (kernelRun0_B.sl.v762 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 1 r ⟨128 * ((14 : Fin 16) : ℕ) + l.val, ix16_lt 14 l⟩ :=
  read_slab arg11.view _ 14 _ (fun κ r l => slabs2 (κ := κ) (r := r) (l := l) ..) r l

theorem l2_15 (r : Fin 512) (l : Fin 128) : ((shapeCast S512x128 (kernelRun0_B.sl.v764 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 1 r ⟨128 * ((15 : Fin 16) : ℕ) + l.val, ix16_lt 15 l⟩ :=
  read_slab arg11.view _ 15 _ (fun κ r l => slabs2 (κ := κ) (r := r) (l := l) ..) r l

theorem l3_0 (r : Fin 512) (l : Fin 128) : ((kernelRun0_B.sl.v978 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((0 : Fin 16) : ℕ) + l.val, ix16_lt 0 l⟩ :=
  read_slab arg11.view _ 0 _ (fun κ r l => slabs3 (κ := κ) (r := r) (l := l) ..) r l

theorem l3_1 (r : Fin 512) (l : Fin 128) : ((kernelRun0_B.sl.v980 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((1 : Fin 16) : ℕ) + l.val, ix16_lt 1 l⟩ :=
  read_slab arg11.view _ 1 _ (fun κ r l => slabs3 (κ := κ) (r := r) (l := l) ..) r l

theorem l3_2 (r : Fin 512) (l : Fin 128) : ((kernelRun0_B.sl.v982 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((2 : Fin 16) : ℕ) + l.val, ix16_lt 2 l⟩ :=
  read_slab arg11.view _ 2 _ (fun κ r l => slabs3 (κ := κ) (r := r) (l := l) ..) r l

theorem l3_3 (r : Fin 512) (l : Fin 128) : ((kernelRun0_B.sl.v984 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((3 : Fin 16) : ℕ) + l.val, ix16_lt 3 l⟩ :=
  read_slab arg11.view _ 3 _ (fun κ r l => slabs3 (κ := κ) (r := r) (l := l) ..) r l

theorem l3_4 (r : Fin 512) (l : Fin 128) : ((kernelRun0_B.sl.v986 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((4 : Fin 16) : ℕ) + l.val, ix16_lt 4 l⟩ :=
  read_slab arg11.view _ 4 _ (fun κ r l => slabs3 (κ := κ) (r := r) (l := l) ..) r l

theorem l3_5 (r : Fin 512) (l : Fin 128) : ((kernelRun0_B.sl.v988 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((5 : Fin 16) : ℕ) + l.val, ix16_lt 5 l⟩ :=
  read_slab arg11.view _ 5 _ (fun κ r l => slabs3 (κ := κ) (r := r) (l := l) ..) r l

theorem l3_6 (r : Fin 512) (l : Fin 128) : ((kernelRun0_B.sl.v990 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((6 : Fin 16) : ℕ) + l.val, ix16_lt 6 l⟩ :=
  read_slab arg11.view _ 6 _ (fun κ r l => slabs3 (κ := κ) (r := r) (l := l) ..) r l

theorem l3_7 (r : Fin 512) (l : Fin 128) : ((kernelRun0_B.sl.v992 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((7 : Fin 16) : ℕ) + l.val, ix16_lt 7 l⟩ :=
  read_slab arg11.view _ 7 _ (fun κ r l => slabs3 (κ := κ) (r := r) (l := l) ..) r l

theorem l3_8 (r : Fin 512) (l : Fin 128) : ((kernelRun0_B.sl.v994 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((8 : Fin 16) : ℕ) + l.val, ix16_lt 8 l⟩ :=
  read_slab arg11.view _ 8 _ (fun κ r l => slabs3 (κ := κ) (r := r) (l := l) ..) r l

theorem l3_9 (r : Fin 512) (l : Fin 128) : ((kernelRun0_B.sl.v996 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 2 r ⟨128 * ((9 : Fin 16) : ℕ) + l.val, ix16_lt 9 l⟩ :=
  read_slab arg11.view _ 9 _ (fun κ r l => slabs3 (κ := κ) (r := r) (l := l) ..) r l

theorem l3_10 (r : Fin 512) (l : Fin 128) : ((shapeCast S512x128 (kernelRun0_B.sl.v997 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 2 r ⟨128 * ((10 : Fin 16) : ℕ) + l.val, ix16_lt 10 l⟩ :=
  read_slab arg11.view _ 10 _ (fun κ r l => slabs3 (κ := κ) (r := r) (l := l) ..) r l

theorem l3_11 (r : Fin 512) (l : Fin 128) : ((shapeCast S512x128 (kernelRun0_B.sl.v999 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 2 r ⟨128 * ((11 : Fin 16) : ℕ) + l.val, ix16_lt 11 l⟩ :=
  read_slab arg11.view _ 11 _ (fun κ r l => slabs3 (κ := κ) (r := r) (l := l) ..) r l

theorem l3_12 (r : Fin 512) (l : Fin 128) : ((shapeCast S512x128 (kernelRun0_B.sl.v1001 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 2 r ⟨128 * ((12 : Fin 16) : ℕ) + l.val, ix16_lt 12 l⟩ :=
  read_slab arg11.view _ 12 _ (fun κ r l => slabs3 (κ := κ) (r := r) (l := l) ..) r l

theorem l3_13 (r : Fin 512) (l : Fin 128) : ((shapeCast S512x128 (kernelRun0_B.sl.v1003 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 2 r ⟨128 * ((13 : Fin 16) : ℕ) + l.val, ix16_lt 13 l⟩ :=
  read_slab arg11.view _ 13 _ (fun κ r l => slabs3 (κ := κ) (r := r) (l := l) ..) r l

theorem l3_14 (r : Fin 512) (l : Fin 128) : ((shapeCast S512x128 (kernelRun0_B.sl.v1005 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 2 r ⟨128 * ((14 : Fin 16) : ℕ) + l.val, ix16_lt 14 l⟩ :=
  read_slab arg11.view _ 14 _ (fun κ r l => slabs3 (κ := κ) (r := r) (l := l) ..) r l

theorem l3_15 (r : Fin 512) (l : Fin 128) : ((shapeCast S512x128 (kernelRun0_B.sl.v1007 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 2 r ⟨128 * ((15 : Fin 16) : ℕ) + l.val, ix16_lt 15 l⟩ :=
  read_slab arg11.view _ 15 _ (fun κ r l => slabs3 (κ := κ) (r := r) (l := l) ..) r l

theorem l4_0 (r : Fin 512) (l : Fin 128) : ((kernelRun0_B.sl.v1221 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 3 r ⟨128 * ((0 : Fin 16) : ℕ) + l.val, ix16_lt 0 l⟩ :=
  read_slab arg11.view _ 0 _ (fun κ r l => slabs4 (κ := κ) (r := r) (l := l) ..) r l

theorem l4_1 (r : Fin 512) (l : Fin 128) : ((kernelRun0_B.sl.v1223 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 3 r ⟨128 * ((1 : Fin 16) : ℕ) + l.val, ix16_lt 1 l⟩ :=
  read_slab arg11.view _ 1 _ (fun κ r l => slabs4 (κ := κ) (r := r) (l := l) ..) r l

theorem l4_2 (r : Fin 512) (l : Fin 128) : ((kernelRun0_B.sl.v1225 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 3 r ⟨128 * ((2 : Fin 16) : ℕ) + l.val, ix16_lt 2 l⟩ :=
  read_slab arg11.view _ 2 _ (fun κ r l => slabs4 (κ := κ) (r := r) (l := l) ..) r l

theorem l4_3 (r : Fin 512) (l : Fin 128) : ((kernelRun0_B.sl.v1227 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 3 r ⟨128 * ((3 : Fin 16) : ℕ) + l.val, ix16_lt 3 l⟩ :=
  read_slab arg11.view _ 3 _ (fun κ r l => slabs4 (κ := κ) (r := r) (l := l) ..) r l

theorem l4_4 (r : Fin 512) (l : Fin 128) : ((kernelRun0_B.sl.v1229 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) : FVec Ideal S512x128 .f32) (ix2 r l) = (SLE x3 (hbF (k0_pay128 (F := Ideal) x0 x2)) x4 xs1) 3 r ⟨128 * ((4 : Fin 16) : ℕ) + l.val, ix16_lt 4 l⟩ :=
  read_slab arg11.view _ 4 _ (fun κ r l => slabs4 (κ := κ) (r := r) (l := l) ..) r l

theorem l4_5 (r : Fin 512) (l : Fin 128) : ((shapeCast S512x128 (kernelRun0_B.sl.v1230 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((5 : Fin 16) : ℕ) + l.val, ix16_lt 5 l⟩ :=
  read_slab arg11.view _ 5 _ (fun κ r l => slabs4 (κ := κ) (r := r) (l := l) ..) r l

theorem l4_6 (r : Fin 512) (l : Fin 128) : ((shapeCast S512x128 (kernelRun0_B.sl.v1232 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((6 : Fin 16) : ℕ) + l.val, ix16_lt 6 l⟩ :=
  read_slab arg11.view _ 6 _ (fun κ r l => slabs4 (κ := κ) (r := r) (l := l) ..) r l

theorem l4_7 (r : Fin 512) (l : Fin 128) : ((shapeCast S512x128 (kernelRun0_B.sl.v1234 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((7 : Fin 16) : ℕ) + l.val, ix16_lt 7 l⟩ :=
  read_slab arg11.view _ 7 _ (fun κ r l => slabs4 (κ := κ) (r := r) (l := l) ..) r l

theorem l4_8 (r : Fin 512) (l : Fin 128) : ((shapeCast S512x128 (kernelRun0_B.sl.v1236 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((8 : Fin 16) : ℕ) + l.val, ix16_lt 8 l⟩ :=
  read_slab arg11.view _ 8 _ (fun κ r l => slabs4 (κ := κ) (r := r) (l := l) ..) r l

theorem l4_9 (r : Fin 512) (l : Fin 128) : ((shapeCast S512x128 (kernelRun0_B.sl.v1238 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((9 : Fin 16) : ℕ) + l.val, ix16_lt 9 l⟩ :=
  read_slab arg11.view _ 9 _ (fun κ r l => slabs4 (κ := κ) (r := r) (l := l) ..) r l

theorem l4_10 (r : Fin 512) (l : Fin 128) : ((shapeCast S512x128 (kernelRun0_B.sl.v1240 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((10 : Fin 16) : ℕ) + l.val, ix16_lt 10 l⟩ :=
  read_slab arg11.view _ 10 _ (fun κ r l => slabs4 (κ := κ) (r := r) (l := l) ..) r l

theorem l4_11 (r : Fin 512) (l : Fin 128) : ((shapeCast S512x128 (kernelRun0_B.sl.v1242 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((11 : Fin 16) : ℕ) + l.val, ix16_lt 11 l⟩ :=
  read_slab arg11.view _ 11 _ (fun κ r l => slabs4 (κ := κ) (r := r) (l := l) ..) r l

theorem l4_12 (r : Fin 512) (l : Fin 128) : ((shapeCast S512x128 (kernelRun0_B.sl.v1244 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((12 : Fin 16) : ℕ) + l.val, ix16_lt 12 l⟩ :=
  read_slab arg11.view _ 12 _ (fun κ r l => slabs4 (κ := κ) (r := r) (l := l) ..) r l

theorem l4_13 (r : Fin 512) (l : Fin 128) : ((shapeCast S512x128 (kernelRun0_B.sl.v1246 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((13 : Fin 16) : ℕ) + l.val, ix16_lt 13 l⟩ :=
  read_slab arg11.view _ 13 _ (fun κ r l => slabs4 (κ := κ) (r := r) (l := l) ..) r l

theorem l4_14 (r : Fin 512) (l : Fin 128) : ((shapeCast S512x128 (kernelRun0_B.sl.v1248 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((14 : Fin 16) : ℕ) + l.val, ix16_lt 14 l⟩ :=
  read_slab arg11.view _ 14 _ (fun κ r l => slabs4 (κ := κ) (r := r) (l := l) ..) r l

theorem l4_15 (r : Fin 512) (l : Fin 128) : ((shapeCast S512x128 (kernelRun0_B.sl.v1250 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) shapeCasts_S1x512x128_S512x128) : FVec Ideal S512x128 .f32) (ix2 r l) = (SLE x3 (hbF (k0_pay128 (F := Ideal) x0 x2)) x4 xs1) 3 r ⟨128 * ((15 : Fin 16) : ℕ) + l.val, ix16_lt 15 l⟩ :=
  read_slab arg11.view _ 15 _ (fun κ r l => slabs4 (κ := κ) (r := r) (l := l) ..) r l

theorem yst (y : S8x512x128.Idx) : View.canon (kernelRun0_B.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 xs1) y = yG (SLE x3 (hbF (k0_pay128 (F := Ideal) x0 x2)) x4 xs1) x5 y :=
  canon_8 (yG (SLE x3 (hbF (k0_pay128 (F := Ideal) x0 x2)) x4 xs1) x5) (kernelRun0_B.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 xs1) rfl (And.intro (fun x => yp3_1 (SLE x3 (hbF (k0_pay128 (F := Ideal) x0 x2)) x4 xs1) x5 (kernelRun0_B.sl.v1221 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1223 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1225 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1227 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1229 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1230 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1232 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1234 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1236 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1238 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1240 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1242 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1244 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1246 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1248 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1250 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l4_0 (r := r) (l := l) ..) (fun r l => l4_1 (r := r) (l := l) ..) (fun r l => l4_2 (r := r) (l := l) ..) (fun r l => l4_3 (r := r) (l := l) ..) (fun r l => l4_4 (r := r) (l := l) ..) (fun r l => l4_5 (r := r) (l := l) ..) (fun r l => l4_6 (r := r) (l := l) ..) (fun r l => l4_7 (r := r) (l := l) ..) (fun r l => l4_8 (r := r) (l := l) ..) (fun r l => l4_9 (r := r) (l := l) ..) (fun r l => l4_10 (r := r) (l := l) ..) (fun r l => l4_11 (r := r) (l := l) ..) (fun r l => l4_12 (r := r) (l := l) ..) (fun r l => l4_13 (r := r) (l := l) ..) (fun r l => l4_14 (r := r) (l := l) ..) (fun r l => l4_15 (r := r) (l := l) ..) _ (load_C harg6 x5 3 (by decide)) (by decide) x) (And.intro (fun x => yp3_0 (SLE x3 (hbF (k0_pay128 (F := Ideal) x0 x2)) x4 xs1) x5 (kernelRun0_B.sl.v1221 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1223 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1225 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1227 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1229 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1230 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1232 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1234 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1236 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1238 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1240 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1242 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1244 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1246 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1248 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1250 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l4_0 (r := r) (l := l) ..) (fun r l => l4_1 (r := r) (l := l) ..) (fun r l => l4_2 (r := r) (l := l) ..) (fun r l => l4_3 (r := r) (l := l) ..) (fun r l => l4_4 (r := r) (l := l) ..) (fun r l => l4_5 (r := r) (l := l) ..) (fun r l => l4_6 (r := r) (l := l) ..) (fun r l => l4_7 (r := r) (l := l) ..) (fun r l => l4_8 (r := r) (l := l) ..) (fun r l => l4_9 (r := r) (l := l) ..) (fun r l => l4_10 (r := r) (l := l) ..) (fun r l => l4_11 (r := r) (l := l) ..) (fun r l => l4_12 (r := r) (l := l) ..) (fun r l => l4_13 (r := r) (l := l) ..) (fun r l => l4_14 (r := r) (l := l) ..) (fun r l => l4_15 (r := r) (l := l) ..) _ (load_C harg6 x5 3 (by decide)) (by decide) x) (And.intro (fun x => yp2_1 (SLE x3 (hbF (k0_pay128 (F := Ideal) x0 x2)) x4 xs1) x5 (kernelRun0_B.sl.v978 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v980 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v982 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v984 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v986 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v988 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v990 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v992 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v994 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v996 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v997 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v999 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1001 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1003 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1005 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1007 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l3_0 (r := r) (l := l) ..) (fun r l => l3_1 (r := r) (l := l) ..) (fun r l => l3_2 (r := r) (l := l) ..) (fun r l => l3_3 (r := r) (l := l) ..) (fun r l => l3_4 (r := r) (l := l) ..) (fun r l => l3_5 (r := r) (l := l) ..) (fun r l => l3_6 (r := r) (l := l) ..) (fun r l => l3_7 (r := r) (l := l) ..) (fun r l => l3_8 (r := r) (l := l) ..) (fun r l => l3_9 (r := r) (l := l) ..) (fun r l => l3_10 (r := r) (l := l) ..) (fun r l => l3_11 (r := r) (l := l) ..) (fun r l => l3_12 (r := r) (l := l) ..) (fun r l => l3_13 (r := r) (l := l) ..) (fun r l => l3_14 (r := r) (l := l) ..) (fun r l => l3_15 (r := r) (l := l) ..) _ (load_C harg6 x5 2 (by decide)) (by decide) x) (And.intro (fun x => yp2_0 (SLE x3 (hbF (k0_pay128 (F := Ideal) x0 x2)) x4 xs1) x5 (kernelRun0_B.sl.v978 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v980 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v982 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v984 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v986 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v988 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v990 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v992 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v994 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v996 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v997 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v999 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1001 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1003 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1005 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v1007 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l3_0 (r := r) (l := l) ..) (fun r l => l3_1 (r := r) (l := l) ..) (fun r l => l3_2 (r := r) (l := l) ..) (fun r l => l3_3 (r := r) (l := l) ..) (fun r l => l3_4 (r := r) (l := l) ..) (fun r l => l3_5 (r := r) (l := l) ..) (fun r l => l3_6 (r := r) (l := l) ..) (fun r l => l3_7 (r := r) (l := l) ..) (fun r l => l3_8 (r := r) (l := l) ..) (fun r l => l3_9 (r := r) (l := l) ..) (fun r l => l3_10 (r := r) (l := l) ..) (fun r l => l3_11 (r := r) (l := l) ..) (fun r l => l3_12 (r := r) (l := l) ..) (fun r l => l3_13 (r := r) (l := l) ..) (fun r l => l3_14 (r := r) (l := l) ..) (fun r l => l3_15 (r := r) (l := l) ..) _ (load_C harg6 x5 2 (by decide)) (by decide) x) (And.intro (fun x => yp1_1 (SLE x3 (hbF (k0_pay128 (F := Ideal) x0 x2)) x4 xs1) x5 (kernelRun0_B.sl.v735 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v737 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v739 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v741 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v743 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v745 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v747 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v749 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v751 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v753 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v755 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v757 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v759 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v761 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v762 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v764 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l2_0 (r := r) (l := l) ..) (fun r l => l2_1 (r := r) (l := l) ..) (fun r l => l2_2 (r := r) (l := l) ..) (fun r l => l2_3 (r := r) (l := l) ..) (fun r l => l2_4 (r := r) (l := l) ..) (fun r l => l2_5 (r := r) (l := l) ..) (fun r l => l2_6 (r := r) (l := l) ..) (fun r l => l2_7 (r := r) (l := l) ..) (fun r l => l2_8 (r := r) (l := l) ..) (fun r l => l2_9 (r := r) (l := l) ..) (fun r l => l2_10 (r := r) (l := l) ..) (fun r l => l2_11 (r := r) (l := l) ..) (fun r l => l2_12 (r := r) (l := l) ..) (fun r l => l2_13 (r := r) (l := l) ..) (fun r l => l2_14 (r := r) (l := l) ..) (fun r l => l2_15 (r := r) (l := l) ..) _ (load_C harg6 x5 1 (by decide)) (by decide) x) (And.intro (fun x => yp1_0 (SLE x3 (hbF (k0_pay128 (F := Ideal) x0 x2)) x4 xs1) x5 (kernelRun0_B.sl.v735 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v737 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v739 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v741 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v743 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v745 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v747 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v749 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v751 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v753 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v755 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v757 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v759 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v761 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v762 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v764 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l2_0 (r := r) (l := l) ..) (fun r l => l2_1 (r := r) (l := l) ..) (fun r l => l2_2 (r := r) (l := l) ..) (fun r l => l2_3 (r := r) (l := l) ..) (fun r l => l2_4 (r := r) (l := l) ..) (fun r l => l2_5 (r := r) (l := l) ..) (fun r l => l2_6 (r := r) (l := l) ..) (fun r l => l2_7 (r := r) (l := l) ..) (fun r l => l2_8 (r := r) (l := l) ..) (fun r l => l2_9 (r := r) (l := l) ..) (fun r l => l2_10 (r := r) (l := l) ..) (fun r l => l2_11 (r := r) (l := l) ..) (fun r l => l2_12 (r := r) (l := l) ..) (fun r l => l2_13 (r := r) (l := l) ..) (fun r l => l2_14 (r := r) (l := l) ..) (fun r l => l2_15 (r := r) (l := l) ..) _ (load_C harg6 x5 1 (by decide)) (by decide) x) (And.intro (fun x => yp0_1 (SLE x3 (hbF (k0_pay128 (F := Ideal) x0 x2)) x4 xs1) x5 (kernelRun0_B.sl.v492 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v494 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v496 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v498 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v500 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v502 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v504 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v505 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v507 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v509 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v511 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v513 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v515 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v517 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v519 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v521 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l1_0 (r := r) (l := l) ..) (fun r l => l1_1 (r := r) (l := l) ..) (fun r l => l1_2 (r := r) (l := l) ..) (fun r l => l1_3 (r := r) (l := l) ..) (fun r l => l1_4 (r := r) (l := l) ..) (fun r l => l1_5 (r := r) (l := l) ..) (fun r l => l1_6 (r := r) (l := l) ..) (fun r l => l1_7 (r := r) (l := l) ..) (fun r l => l1_8 (r := r) (l := l) ..) (fun r l => l1_9 (r := r) (l := l) ..) (fun r l => l1_10 (r := r) (l := l) ..) (fun r l => l1_11 (r := r) (l := l) ..) (fun r l => l1_12 (r := r) (l := l) ..) (fun r l => l1_13 (r := r) (l := l) ..) (fun r l => l1_14 (r := r) (l := l) ..) (fun r l => l1_15 (r := r) (l := l) ..) _ (load_C harg6 x5 0 (by decide)) (by decide) x) (And.intro (fun x => yp0_0 (SLE x3 (hbF (k0_pay128 (F := Ideal) x0 x2)) x4 xs1) x5 (kernelRun0_B.sl.v492 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v494 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v496 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v498 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v500 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v502 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v504 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v505 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v507 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v509 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v511 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v513 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v515 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v517 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v519 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (kernelRun0_B.sl.v521 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) (fun r l => l1_0 (r := r) (l := l) ..) (fun r l => l1_1 (r := r) (l := l) ..) (fun r l => l1_2 (r := r) (l := l) ..) (fun r l => l1_3 (r := r) (l := l) ..) (fun r l => l1_4 (r := r) (l := l) ..) (fun r l => l1_5 (r := r) (l := l) ..) (fun r l => l1_6 (r := r) (l := l) ..) (fun r l => l1_7 (r := r) (l := l) ..) (fun r l => l1_8 (r := r) (l := l) ..) (fun r l => l1_9 (r := r) (l := l) ..) (fun r l => l1_10 (r := r) (l := l) ..) (fun r l => l1_11 (r := r) (l := l) ..) (fun r l => l1_12 (r := r) (l := l) ..) (fun r l => l1_13 (r := r) (l := l) ..) (fun r l => l1_14 (r := r) (l := l) ..) (fun r l => l1_15 (r := r) (l := l) ..) _ (load_C harg6 x5 0 (by decide)) (by decide) x) (trivial))))))))) y

end Cert.S5.PB
-- ==== Proof.SIStB4.lean ====
/- The S5 body at a later point: what the stored states hold. -/
module

public import proofs.«01_k».proof.Proof.SIStB2
public import proofs.«01_k».proof.Proof.SISst

@[expose] public section

set_option maxRecDepth 65536
set_option maxHeartbeats 1600000

noncomputable section

namespace Cert.S5.PB

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16) (xs1 : FVec Ideal S8x8192 .f32)

attribute [local irreducible] st_k0_t1 st_k0_t2 st_k0_t3 st_k0_t4

theorem e2 (x : S8x128.Idx) : (kernelRun0_B.sl.v451 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 256] S8x128.size (by decide)).emb x) :=
  tr_ent (fun κ n b l => seq1 (κ := κ) (n := n) (b := b) (l := l) ..) 2 _ (c1_2 ..) 256 (by decide) (by decide) x

theorem e3 (x : S8x128.Idx) : (kernelRun0_B.sl.v454 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 384] S8x128.size (by decide)).emb x) :=
  tr_ent (fun κ n b l => seq1 (κ := κ) (n := n) (b := b) (l := l) ..) 3 _ (c1_3 ..) 384 (by decide) (by decide) x

theorem e4 (x : S8x128.Idx) : (kernelRun0_B.sl.v457 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 512] S8x128.size (by decide)).emb x) :=
  tr_ent (fun κ n b l => seq1 (κ := κ) (n := n) (b := b) (l := l) ..) 4 _ (c1_4 ..) 512 (by decide) (by decide) x

theorem e5 (x : S8x128.Idx) : (kernelRun0_B.sl.v460 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 640] S8x128.size (by decide)).emb x) :=
  tr_ent (fun κ n b l => seq1 (κ := κ) (n := n) (b := b) (l := l) ..) 5 _ (c1_5 ..) 640 (by decide) (by decide) x

theorem e6 (x : S8x128.Idx) : (kernelRun0_B.sl.v463 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 768] S8x128.size (by decide)).emb x) :=
  tr_ent (fun κ n b l => seq1 (κ := κ) (n := n) (b := b) (l := l) ..) 6 _ (c1_6 ..) 768 (by decide) (by decide) x

theorem e7 (x : S8x128.Idx) : (kernelRun0_B.sl.v466 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 896] S8x128.size (by decide)).emb x) :=
  tr_ent (fun κ n b l => seq1 (κ := κ) (n := n) (b := b) (l := l) ..) 7 _ (c1_7 ..) 896 (by decide) (by decide) x

theorem e8 (x : S8x128.Idx) : (kernelRun0_B.sl.v469 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1024] S8x128.size (by decide)).emb x) :=
  ti_ent (fun κ n b l => seq1 (κ := κ) (n := n) (b := b) (l := l) ..) 0 _ (c1_8 ..) 1024 (by decide) (by decide) x

theorem e9 (x : S8x128.Idx) : (kernelRun0_B.sl.v472 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1152] S8x128.size (by decide)).emb x) :=
  ti_ent (fun κ n b l => seq1 (κ := κ) (n := n) (b := b) (l := l) ..) 1 _ (c1_9 ..) 1152 (by decide) (by decide) x

theorem e10 (x : S8x128.Idx) : (kernelRun0_B.sl.v475 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1280] S8x128.size (by decide)).emb x) :=
  ti_ent (fun κ n b l => seq1 (κ := κ) (n := n) (b := b) (l := l) ..) 2 _ (c1_10 ..) 1280 (by decide) (by decide) x

theorem e11 (x : S8x128.Idx) : (kernelRun0_B.sl.v478 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1408] S8x128.size (by decide)).emb x) :=
  ti_ent (fun κ n b l => seq1 (κ := κ) (n := n) (b := b) (l := l) ..) 3 _ (c1_11 ..) 1408 (by decide) (by decide) x

theorem e12 (x : S8x128.Idx) : (kernelRun0_B.sl.v481 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1536] S8x128.size (by decide)).emb x) :=
  ti_ent (fun κ n b l => seq1 (κ := κ) (n := n) (b := b) (l := l) ..) 4 _ (c1_12 ..) 1536 (by decide) (by decide) x

theorem e13 (x : S8x128.Idx) : (kernelRun0_B.sl.v484 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1664] S8x128.size (by decide)).emb x) :=
  ti_ent (fun κ n b l => seq1 (κ := κ) (n := n) (b := b) (l := l) ..) 5 _ (c1_13 ..) 1664 (by decide) (by decide) x

theorem e14 (x : S8x128.Idx) : (kernelRun0_B.sl.v487 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1792] S8x128.size (by decide)).emb x) :=
  ti_ent (fun κ n b l => seq1 (κ := κ) (n := n) (b := b) (l := l) ..) 6 _ (c1_14 ..) 1792 (by decide) (by decide) x

theorem e15 (x : S8x128.Idx) : (kernelRun0_B.sl.v490 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 1920] S8x128.size (by decide)).emb x) :=
  ti_ent (fun κ n b l => seq1 (κ := κ) (n := n) (b := b) (l := l) ..) 7 _ (c1_15 ..) 1920 (by decide) (by decide) x

theorem e24 (x : S8x128.Idx) : (kernelRun0_B.sl.v712 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3072] S8x128.size (by decide)).emb x) :=
  ti_ent (fun κ n b l => seq2 (κ := κ) (n := n) (b := b) (l := l) ..) 0 _ (c2_8 ..) 3072 (by decide) (by decide) x

theorem e25 (x : S8x128.Idx) : (kernelRun0_B.sl.v715 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3200] S8x128.size (by decide)).emb x) :=
  ti_ent (fun κ n b l => seq2 (κ := κ) (n := n) (b := b) (l := l) ..) 1 _ (c2_9 ..) 3200 (by decide) (by decide) x

theorem e26 (x : S8x128.Idx) : (kernelRun0_B.sl.v718 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3328] S8x128.size (by decide)).emb x) :=
  ti_ent (fun κ n b l => seq2 (κ := κ) (n := n) (b := b) (l := l) ..) 2 _ (c2_10 ..) 3328 (by decide) (by decide) x

theorem e27 (x : S8x128.Idx) : (kernelRun0_B.sl.v721 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3456] S8x128.size (by decide)).emb x) :=
  ti_ent (fun κ n b l => seq2 (κ := κ) (n := n) (b := b) (l := l) ..) 3 _ (c2_11 ..) 3456 (by decide) (by decide) x

theorem e28 (x : S8x128.Idx) : (kernelRun0_B.sl.v724 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3584] S8x128.size (by decide)).emb x) :=
  ti_ent (fun κ n b l => seq2 (κ := κ) (n := n) (b := b) (l := l) ..) 4 _ (c2_12 ..) 3584 (by decide) (by decide) x

theorem e29 (x : S8x128.Idx) : (kernelRun0_B.sl.v727 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3712] S8x128.size (by decide)).emb x) :=
  ti_ent (fun κ n b l => seq2 (κ := κ) (n := n) (b := b) (l := l) ..) 5 _ (c2_13 ..) 3712 (by decide) (by decide) x

theorem e30 (x : S8x128.Idx) : (kernelRun0_B.sl.v730 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3840] S8x128.size (by decide)).emb x) :=
  ti_ent (fun κ n b l => seq2 (κ := κ) (n := n) (b := b) (l := l) ..) 6 _ (c2_14 ..) 3840 (by decide) (by decide) x

theorem e31 (x : S8x128.Idx) : (kernelRun0_B.sl.v733 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 3968] S8x128.size (by decide)).emb x) :=
  ti_ent (fun κ n b l => seq2 (κ := κ) (n := n) (b := b) (l := l) ..) 7 _ (c2_15 ..) 3968 (by decide) (by decide) x

theorem e36 (x : S8x128.Idx) : (kernelRun0_B.sl.v943 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 4608] S8x128.size (by decide)).emb x) :=
  tr_ent (fun κ n b l => seq3 (κ := κ) (n := n) (b := b) (l := l) ..) 4 _ (c3_4 ..) 4608 (by decide) (by decide) x

theorem e37 (x : S8x128.Idx) : (kernelRun0_B.sl.v946 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 4736] S8x128.size (by decide)).emb x) :=
  tr_ent (fun κ n b l => seq3 (κ := κ) (n := n) (b := b) (l := l) ..) 5 _ (c3_5 ..) 4736 (by decide) (by decide) x

theorem e38 (x : S8x128.Idx) : (kernelRun0_B.sl.v949 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 4864] S8x128.size (by decide)).emb x) :=
  tr_ent (fun κ n b l => seq3 (κ := κ) (n := n) (b := b) (l := l) ..) 6 _ (c3_6 ..) 4864 (by decide) (by decide) x

theorem e39 (x : S8x128.Idx) : (kernelRun0_B.sl.v952 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 4992] S8x128.size (by decide)).emb x) :=
  tr_ent (fun κ n b l => seq3 (κ := κ) (n := n) (b := b) (l := l) ..) 7 _ (c3_7 ..) 4992 (by decide) (by decide) x

theorem e40 (x : S8x128.Idx) : (kernelRun0_B.sl.v955 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5120] S8x128.size (by decide)).emb x) :=
  ti_ent (fun κ n b l => seq3 (κ := κ) (n := n) (b := b) (l := l) ..) 0 _ (c3_8 ..) 5120 (by decide) (by decide) x

theorem e41 (x : S8x128.Idx) : (kernelRun0_B.sl.v958 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5248] S8x128.size (by decide)).emb x) :=
  ti_ent (fun κ n b l => seq3 (κ := κ) (n := n) (b := b) (l := l) ..) 1 _ (c3_9 ..) 5248 (by decide) (by decide) x

theorem e42 (x : S8x128.Idx) : (kernelRun0_B.sl.v961 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5376] S8x128.size (by decide)).emb x) :=
  ti_ent (fun κ n b l => seq3 (κ := κ) (n := n) (b := b) (l := l) ..) 2 _ (c3_10 ..) 5376 (by decide) (by decide) x

theorem e43 (x : S8x128.Idx) : (kernelRun0_B.sl.v964 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5504] S8x128.size (by decide)).emb x) :=
  ti_ent (fun κ n b l => seq3 (κ := κ) (n := n) (b := b) (l := l) ..) 3 _ (c3_11 ..) 5504 (by decide) (by decide) x

theorem e44 (x : S8x128.Idx) : (kernelRun0_B.sl.v967 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5632] S8x128.size (by decide)).emb x) :=
  ti_ent (fun κ n b l => seq3 (κ := κ) (n := n) (b := b) (l := l) ..) 4 _ (c3_12 ..) 5632 (by decide) (by decide) x

theorem e45 (x : S8x128.Idx) : (kernelRun0_B.sl.v970 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5760] S8x128.size (by decide)).emb x) :=
  ti_ent (fun κ n b l => seq3 (κ := κ) (n := n) (b := b) (l := l) ..) 5 _ (c3_13 ..) 5760 (by decide) (by decide) x

theorem e46 (x : S8x128.Idx) : (kernelRun0_B.sl.v973 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 5888] S8x128.size (by decide)).emb x) :=
  ti_ent (fun κ n b l => seq3 (κ := κ) (n := n) (b := b) (l := l) ..) 6 _ (c3_14 ..) 5888 (by decide) (by decide) x

theorem e47 (x : S8x128.Idx) : (kernelRun0_B.sl.v976 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6016] S8x128.size (by decide)).emb x) :=
  ti_ent (fun κ n b l => seq3 (κ := κ) (n := n) (b := b) (l := l) ..) 7 _ (c3_15 ..) 6016 (by decide) (by decide) x

theorem e48 (x : S8x128.Idx) : (kernelRun0_B.sl.v1174 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6144] S8x128.size (by decide)).emb x) :=
  tr_ent (fun κ n b l => seq4 (κ := κ) (n := n) (b := b) (l := l) ..) 0 _ (c4_0 ..) 6144 (by decide) (by decide) x

theorem e49 (x : S8x128.Idx) : (kernelRun0_B.sl.v1177 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6272] S8x128.size (by decide)).emb x) :=
  tr_ent (fun κ n b l => seq4 (κ := κ) (n := n) (b := b) (l := l) ..) 1 _ (c4_1 ..) 6272 (by decide) (by decide) x

theorem e50 (x : S8x128.Idx) : (kernelRun0_B.sl.v1180 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6400] S8x128.size (by decide)).emb x) :=
  tr_ent (fun κ n b l => seq4 (κ := κ) (n := n) (b := b) (l := l) ..) 2 _ (c4_2 ..) 6400 (by decide) (by decide) x

theorem e51 (x : S8x128.Idx) : (kernelRun0_B.sl.v1183 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6528] S8x128.size (by decide)).emb x) :=
  tr_ent (fun κ n b l => seq4 (κ := κ) (n := n) (b := b) (l := l) ..) 3 _ (c4_3 ..) 6528 (by decide) (by decide) x

theorem e52 (x : S8x128.Idx) : (kernelRun0_B.sl.v1186 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6656] S8x128.size (by decide)).emb x) :=
  tr_ent (fun κ n b l => seq4 (κ := κ) (n := n) (b := b) (l := l) ..) 4 _ (c4_4 ..) 6656 (by decide) (by decide) x

theorem e53 (x : S8x128.Idx) : (kernelRun0_B.sl.v1189 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6784] S8x128.size (by decide)).emb x) :=
  tr_ent (fun κ n b l => seq4 (κ := κ) (n := n) (b := b) (l := l) ..) 5 _ (c4_5 ..) 6784 (by decide) (by decide) x

theorem e54 (x : S8x128.Idx) : (kernelRun0_B.sl.v1192 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 6912] S8x128.size (by decide)).emb x) :=
  tr_ent (fun κ n b l => seq4 (κ := κ) (n := n) (b := b) (l := l) ..) 6 _ (c4_6 ..) 6912 (by decide) (by decide) x

theorem e55 (x : S8x128.Idx) : (kernelRun0_B.sl.v1195 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7040] S8x128.size (by decide)).emb x) :=
  tr_ent (fun κ n b l => seq4 (κ := κ) (n := n) (b := b) (l := l) ..) 7 _ (c4_7 ..) 7040 (by decide) (by decide) x

theorem e56 (x : S8x128.Idx) : (kernelRun0_B.sl.v1198 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7168] S8x128.size (by decide)).emb x) :=
  ti_ent (fun κ n b l => seq4 (κ := κ) (n := n) (b := b) (l := l) ..) 0 _ (c4_8 ..) 7168 (by decide) (by decide) x

theorem e57 (x : S8x128.Idx) : (kernelRun0_B.sl.v1201 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7296] S8x128.size (by decide)).emb x) :=
  ti_ent (fun κ n b l => seq4 (κ := κ) (n := n) (b := b) (l := l) ..) 1 _ (c4_9 ..) 7296 (by decide) (by decide) x

theorem e58 (x : S8x128.Idx) : (kernelRun0_B.sl.v1204 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7424] S8x128.size (by decide)).emb x) :=
  ti_ent (fun κ n b l => seq4 (κ := κ) (n := n) (b := b) (l := l) ..) 2 _ (c4_10 ..) 7424 (by decide) (by decide) x

theorem e59 (x : S8x128.Idx) : (kernelRun0_B.sl.v1207 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7552] S8x128.size (by decide)).emb x) :=
  ti_ent (fun κ n b l => seq4 (κ := κ) (n := n) (b := b) (l := l) ..) 3 _ (c4_11 ..) 7552 (by decide) (by decide) x

theorem e60 (x : S8x128.Idx) : (kernelRun0_B.sl.v1210 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7680] S8x128.size (by decide)).emb x) :=
  ti_ent (fun κ n b l => seq4 (κ := κ) (n := n) (b := b) (l := l) ..) 4 _ (c4_12 ..) 7680 (by decide) (by decide) x

theorem e61 (x : S8x128.Idx) : (kernelRun0_B.sl.v1213 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7808] S8x128.size (by decide)).emb x) :=
  ti_ent (fun κ n b l => seq4 (κ := κ) (n := n) (b := b) (l := l) ..) 5 _ (c4_13 ..) 7808 (by decide) (by decide) x

theorem e62 (x : S8x128.Idx) : (kernelRun0_B.sl.v1216 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 7936] S8x128.size (by decide)).emb x) :=
  ti_ent (fun κ n b l => seq4 (κ := κ) (n := n) (b := b) (l := l) ..) 6 _ (c4_14 ..) 7936 (by decide) (by decide) x

theorem e63 (x : S8x128.Idx) : (kernelRun0_B.sl.v1219 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) x = (stG x3 (hbF (k0_pay128 (F := Ideal) x0 x2)) x4 xs1) ((Rect.unit (s := S8x8192) ![0, 8064] S8x128.size (by decide)).emb x) :=
  ti_ent (fun κ n b l => seq4 (κ := κ) (n := n) (b := b) (l := l) ..) 7 _ (c4_15 ..) 8064 (by decide) (by decide) x

theorem sst : View.canon (kernelRun0_B.sl.HS1_64 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 xs1) = (stG x3 (hbF (k0_pay128 (F := Ideal) x0 x2)) x4 xs1) :=
  canon64 (stG x3 (hbF (k0_pay128 (F := Ideal) x0 x2)) x4 xs1) _ (fun x => tr_ent (fun κ n b l => seq1 (κ := κ) (n := n) (b := b) (l := l) ..) 0 _ (c1_0 ..) 0 (by decide) _ x) (fun x => tr_ent (fun κ n b l => seq1 (κ := κ) (n := n) (b := b) (l := l) ..) 1 _ (c1_1 ..) 128 (by decide) _ x) (fun x => e2 (x := x) ..) (fun x => e3 (x := x) ..) (fun x => e4 (x := x) ..) (fun x => e5 (x := x) ..) (fun x => e6 (x := x) ..) (fun x => e7 (x := x) ..) (fun x => e8 (x := x) ..) (fun x => e9 (x := x) ..) (fun x => e10 (x := x) ..) (fun x => e11 (x := x) ..) (fun x => e12 (x := x) ..) (fun x => e13 (x := x) ..) (fun x => e14 (x := x) ..) (fun x => e15 (x := x) ..) (fun x => tr_ent (fun κ n b l => seq2 (κ := κ) (n := n) (b := b) (l := l) ..) 0 _ (c2_0 ..) 2048 (by decide) _ x) (fun x => tr_ent (fun κ n b l => seq2 (κ := κ) (n := n) (b := b) (l := l) ..) 1 _ (c2_1 ..) 2176 (by decide) _ x) (fun x => tr_ent (fun κ n b l => seq2 (κ := κ) (n := n) (b := b) (l := l) ..) 2 _ (c2_2 ..) 2304 (by decide) _ x) (fun x => tr_ent (fun κ n b l => seq2 (κ := κ) (n := n) (b := b) (l := l) ..) 3 _ (c2_3 ..) 2432 (by decide) _ x) (fun x => tr_ent (fun κ n b l => seq2 (κ := κ) (n := n) (b := b) (l := l) ..) 4 _ (c2_4 ..) 2560 (by decide) _ x) (fun x => tr_ent (fun κ n b l => seq2 (κ := κ) (n := n) (b := b) (l := l) ..) 5 _ (c2_5 ..) 2688 (by decide) _ x) (fun x => tr_ent (fun κ n b l => seq2 (κ := κ) (n := n) (b := b) (l := l) ..) 6 _ (c2_6 ..) 2816 (by decide) _ x) (fun x => tr_ent (fun κ n b l => seq2 (κ := κ) (n := n) (b := b) (l := l) ..) 7 _ (c2_7 ..) 2944 (by decide) _ x) (fun x => e24 (x := x) ..) (fun x => e25 (x := x) ..) (fun x => e26 (x := x) ..) (fun x => e27 (x := x) ..) (fun x => e28 (x := x) ..) (fun x => e29 (x := x) ..) (fun x => e30 (x := x) ..) (fun x => e31 (x := x) ..) (fun x => tr_ent (fun κ n b l => seq3 (κ := κ) (n := n) (b := b) (l := l) ..) 0 _ (c3_0 ..) 4096 (by decide) _ x) (fun x => tr_ent (fun κ n b l => seq3 (κ := κ) (n := n) (b := b) (l := l) ..) 1 _ (c3_1 ..) 4224 (by decide) _ x) (fun x => tr_ent (fun κ n b l => seq3 (κ := κ) (n := n) (b := b) (l := l) ..) 2 _ (c3_2 ..) 4352 (by decide) _ x) (fun x => tr_ent (fun κ n b l => seq3 (κ := κ) (n := n) (b := b) (l := l) ..) 3 _ (c3_3 ..) 4480 (by decide) _ x) (fun x => e36 (x := x) ..) (fun x => e37 (x := x) ..) (fun x => e38 (x := x) ..) (fun x => e39 (x := x) ..) (fun x => e40 (x := x) ..) (fun x => e41 (x := x) ..) (fun x => e42 (x := x) ..) (fun x => e43 (x := x) ..) (fun x => e44 (x := x) ..) (fun x => e45 (x := x) ..) (fun x => e46 (x := x) ..) (fun x => e47 (x := x) ..) (fun x => e48 (x := x) ..) (fun x => e49 (x := x) ..) (fun x => e50 (x := x) ..) (fun x => e51 (x := x) ..) (fun x => e52 (x := x) ..) (fun x => e53 (x := x) ..) (fun x => e54 (x := x) ..) (fun x => e55 (x := x) ..) (fun x => e56 (x := x) ..) (fun x => e57 (x := x) ..) (fun x => e58 (x := x) ..) (fun x => e59 (x := x) ..) (fun x => e60 (x := x) ..) (fun x => e61 (x := x) ..) (fun x => e62 (x := x) ..) (fun x => e63 (x := x) ..)

end Cert.S5.PB
-- ==== Proof.SIOutB.lean ====
/- What a later point of the S5 body leaves: its output block and the new state. -/
module

public import proofs.«01_k».proof.Proof.SIStB3
public import proofs.«01_k».proof.Proof.SIStB4
public import proofs.«01_k».proof.Proof.SIOut
public import proofs.«01_k».proof.Proof.SIFrame

@[expose] public section

set_option maxRecDepth 65536
set_option maxHeartbeats 1600000

noncomputable section

namespace Cert.S5.PB

open Idealize.ShloMosaic Idealize.ShloMosaic.TcCoe Idealize.SL.Sem Cert.Kernel2Ideal Cert.Kernel2Ideal.Gen

variable (c : Dev nD) (i : grid0.Coords) (arg1 : Memref sig .tc .vmem S8x64x1024 .f32) (harg1 : arg1.IsWhole) (arg2 : Memref sig .tc .vmem S8x8192 .f32) (harg2 : arg2.IsWhole) (arg3 : Memref sig .tc .vmem S1x1024 .f32) (harg3 : arg3.IsWhole) (arg4 : Memref sig .tc .vmem S4x2x1024 .f32) (harg4 : arg4.IsWhole) (arg5 : Memref sig .tc .vmem S4x256x2048 .bf16) (harg5 : arg5.IsWhole) (arg6 : Memref sig .tc .vmem S4x2048x256 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S8x64x1024 .f32) (harg9 : arg9.IsWhole) (arg10 : Memref sig .tc .vmem S8x8192 .f32) (harg10 : arg10.IsWhole) (arg11 : Memref sig .tc .vmem S16x512x128 .f32) (harg11 : arg11.IsWhole) (arg12 : Memref sig .tc .vmem S8x8192 .f32) (harg12 : arg12.IsWhole) (arg13 : Memref sig .tc .vmem S8x512x128 .f32) (harg13 : arg13.IsWhole) (arg14 : Memref sig .tc .vmem S8x512x128 .f32) (harg14 : arg14.IsWhole)
  (x0 : FVec Ideal S8x64x1024 .f32) (x1 : FVec Ideal S8x8192 .f32) (x2 : FVec Ideal S1x1024 .f32) (x3 : FVec Ideal S4x2x1024 .f32) (x4 : FVec Ideal S4x256x2048 .bf16) (x5 : FVec Ideal S4x2048x256 .bf16) (x6 : FVec Ideal S1x1024 .f32) (x7 : FVec Ideal S1024x2048 .bf16) (xs1 : FVec Ideal S8x8192 .f32)

theorem Yd_at (b : Fin 8) (t : Fin 64) (e : Fin 1024) :
    (Yd c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 xs1) (ix2 ⟨64 * b.val + t.val, by omega⟩ e) = yP x0 x2 x3 x4 xs1 x5 x6 b t e := by
  refine (skip_at _ _ _ _ _).trans ?_
  rw [Ymat_apply _ _ (SLE x3 (hbF (k0_pay128 (F := Ideal) x0 x2)) x4 xs1) x5 (fun y => yst (y := y) ..) b t e, rdw harg7 x6 (by decide) _, r1, h_at]
  rfl

theorem out8 (hc0 : ¬cond0_0 i) (b : Fin 8) (t : Fin 64) (e : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 (ix3 b t e) = outP x0 x2 x3 x4 xs1 x5 x6 x7 b t e := by
  refine (one_piece3 VO0_8 (by decide) _ _).trans ?_
  refine (pay1_at _ _ b t e).trans ?_
  have hz : ∀ j : Fin 2048, (kernelRun0_B.sl.r_72 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 xs1) (ix2 ⟨64 * b.val + t.val, by omega⟩ j) = zP x0 x2 x3 x4 xs1 x5 x6 x7 b t j := by
    intro j
    rw [zst]
    refine (pay503_at _ _ _ j).trans ?_
    rw [rdw harg8 x7 (by decide) _]
    exact Finset.sum_congr rfl fun k _ => congrArg (fun a => gelu a * x7 (ix2 k j)) (Yd_at (b := b) (t := t) (e := k) ..)
  unfold outP
  rw [← hz, ← hz, rdw harg1 x0 (by decide) _]

theorem out9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 = stG x3 (hbF (k0_pay128 (F := Ideal) x0 x2)) x4 xs1 := by
  funext y
  refine (one_piece2 VO0_9 (by decide) _ _).trans ?_
  refine (whole_back arg12.view _ (by decide) y).trans ?_
  rw [sst]

theorem sout1 (hc0 : ¬cond0_0 i) : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1 = stG x3 (hbF (k0_pay128 (F := Ideal) x0 x2)) x4 xs1 := by
  refine (View.read_writes_junk_eq_canon _ _).trans ?_
  exact sst ..

end Cert.S5.PB
-- ==== Proof.SIHost.lean ====
/- The arrays that the second kernel's host lines lay out for the call, read at an index. -/
module

public import proofs.«01_k».proof.Proof.SIFrame
public import Idealize.ShloMosaic.Lib.Pipeline.ValueKit
public import Idealize.ShloMosaic.Lib.Claim

@[expose] public section

noncomputable section

namespace Cert.S5

open Cert.Kernel2Ideal Cert.Kernel2Ideal.Gen Idealize.ShloMosaic Idealize.ShloMosaic.ValueKit Idealize.ShloMosaic.TcCoe Idealize.SL.Sem

variable (m : (ℓ : Loc nD τ sig) → Buf (Elt Ideal) ℓ) (c : Dev nD)

theorem V_eq (b : Ref sig .tc) : V m c b = StableHlo.after hostOps0 (fun b => m (c, b)) (Proc.devRef .tc b) := by
  simp only [V, V0, List.flatten_cons, List.flatten_nil, List.append_nil]

theorem ix2_congr {A B : ℕ} {a a' : Fin A} {b b' : Fin B} (h1 : a.val = a'.val) (h2 : b.val = b'.val) :
    ix2 a b = ix2 a' b' := by
  rw [Fin.ext h1, Fin.ext h2]

theorem ix3_congr {A B C : ℕ} {a a' : Fin A} {b b' : Fin B} {d d' : Fin C} (h1 : a.val = a'.val) (h2 : b.val = b'.val)
    (h3 : d.val = d'.val) : ix3 a b d = ix3 a' b' d' := by
  rw [Fin.ext h1, Fin.ext h2, Fin.ext h3]

/-- The unit matrix the host builds by comparing two index ramps. -/
theorem eye : ∀ a b : Fin 16, FloatOps.uitofp (F := Ideal) FTy.f32
    (IntOp.cmpi CmpIPredicate.eq (IntOp.addi (BitVec.ofNat 32 a.val) 0#32) (BitVec.ofNat 32 b.val))
      = if a = b then (1 : EReal) else 0 := by
  intro a b
  have h : IntOp.cmpi CmpIPredicate.eq (IntOp.addi (BitVec.ofNat 32 a.val) 0#32) (BitVec.ofNat 32 b.val)
      = if a = b then 1#1 else 0#1 := by
    revert a b
    decide
  rw [h]
  split
  · show (((1 : ℕ) : ℝ) : EReal) = 1
    simp
  · show (((0 : ℕ) : ℝ) : EReal) = 0
    simp

theorem eye_nat (x y : ℕ) (a b : Fin 16) (hx : x = a.val) (hy : y = b.val) : FloatOps.uitofp (F := Ideal) FTy.f32
    (IntOp.cmpi CmpIPredicate.eq (IntOp.addi (BitVec.ofNat 32 x) 0#32) (BitVec.ofNat 32 y))
      = if a = b then (1 : EReal) else 0 := by
  rw [hx, hy]; exact eye a b

theorem s_re (b : Fin 8) (q : Fin 4) (g : Fin 16) (p : Fin 64) :
    (V m c main_v54 : Vec Ideal S8x8192 .f32) (ix2 b ⟨2048 * q + (64 * g + p), by omega⟩)
      = m ((c : Thread nD τ).loc main_arg1) (ix3 b ⟨16 * q + g, by omega⟩ p) := by
  rw [V_eq]
  entry_read
  pointwise
  rw [dif_pos (by omega)]
  exact congrArg (m (c, Proc.tc.devRef main_arg1)) (ix3_congr rfl (by dsimp only; omega) (by dsimp only; omega))

theorem s_im (b : Fin 8) (q : Fin 4) (g : Fin 16) (p : Fin 64) :
    (V m c main_v54 : Vec Ideal S8x8192 .f32) (ix2 b ⟨2048 * q + 1024 + (64 * g + p), by omega⟩)
      = m ((c : Thread nD τ).loc main_arg2) (ix3 b ⟨16 * q + g, by omega⟩ p) := by
  rw [V_eq]
  entry_read
  pointwise
  rw [dif_neg (by omega)]
  exact congrArg (m (c, Proc.tc.devRef main_arg2)) (ix3_congr rfl (by dsimp only; omega) (by dsimp only; omega))

theorem a_re (q : Fin 4) (g : Fin 16) (p : Fin 64) :
    (V m c main_v47 : Vec Ideal S4x2x1024 .f32) (ix3 q 0 ⟨64 * g + p, by omega⟩)
      = m ((c : Thread nD τ).loc main_arg4) (ix2 ⟨16 * q + g, by omega⟩ p) := by
  rw [V_eq]
  entry_read
  pointwise
  exact congrArg (m (c, Proc.tc.devRef main_arg4)) (ix2_congr (by dsimp only; omega) (by dsimp only; omega))

theorem a_im (q : Fin 4) (g : Fin 16) (p : Fin 64) :
    (V m c main_v47 : Vec Ideal S4x2x1024 .f32) (ix3 q 1 ⟨64 * g + p, by omega⟩)
      = m ((c : Thread nD τ).loc main_arg5) (ix2 ⟨16 * q + g, by omega⟩ p) := by
  rw [V_eq]
  entry_read
  pointwise
  exact congrArg (m (c, Proc.tc.devRef main_arg5)) (ix2_congr (by dsimp only; omega) (by dsimp only; omega))

theorem b_re (q : Fin 4) (g j g' : Fin 16) (p : Fin 64) (arg : Fin 64 → Fin 64 → Fin 16 → EReal)
    (ha : ∀ x y z, m ((c : Thread nD τ).loc main_arg6) (ix3 x y z) = arg x y z) (Z : EReal)
    (hZ : Z = arg ⟨16 * q + g, by omega⟩ p j * (if g = g' then (1 : EReal) else 0)) :
    (V m c main_v23 : Vec Ideal S4x256x2048 .bf16) (ix3 q ⟨16 * g + j, by omega⟩ ⟨64 * g' + p, by omega⟩) = Z := by
  rw [V_eq]
  entry_read
  pointwise
  rw [dif_pos (by omega)]
  have E := eye_nat ((16 * g.val + j.val) / 16) ((64 * g'.val + p.val) / 64) g g' (by omega) (by omega)
  rw [hZ]
  refine congrArg₂ (fun x y : EReal => x * y) (Eq.trans (congrArg (m (c, Proc.tc.devRef main_arg6)) ?_) (ha ⟨16 * q + g, by omega⟩ p j)) E
  exact ix3_congr (by dsimp only; omega) (by dsimp only; omega) (by dsimp only; omega)

theorem b_im (q : Fin 4) (g j g' : Fin 16) (p : Fin 64) (arg : Fin 64 → Fin 64 → Fin 16 → EReal)
    (ha : ∀ x y z, m ((c : Thread nD τ).loc main_arg7) (ix3 x y z) = arg x y z) (Z : EReal)
    (hZ : Z = arg ⟨16 * q + g, by omega⟩ p j * (if g = g' then (1 : EReal) else 0)) :
    (V m c main_v23 : Vec Ideal S4x256x2048 .bf16) (ix3 q ⟨16 * g + j, by omega⟩ ⟨1024 + (64 * g' + p), by omega⟩) = Z := by
  rw [V_eq]
  entry_read
  pointwise
  have E := eye_nat ((16 * g.val + j.val) / 16) ((64 * g'.val + p.val) / 64) g g' (by omega) (by omega)
  rw [hZ]
  refine congrArg₂ (fun x y : EReal => x * y) (Eq.trans (congrArg (m (c, Proc.tc.devRef main_arg7)) ?_) (ha ⟨16 * q + g, by omega⟩ p j)) E
  exact ix3_congr (by dsimp only; omega) (by dsimp only; omega) (by dsimp only; omega)

theorem c_re (q : Fin 4) (g' : Fin 16) (p : Fin 64) (g j : Fin 16) (arg : Fin 64 → Fin 16 → Fin 64 → EReal)
    (ha : ∀ x y z, m ((c : Thread nD τ).loc main_arg8) (ix3 x y z) = arg x y z) (Z : EReal)
    (hZ : Z = arg ⟨16 * q + g', by omega⟩ j p * (if g' = g then (1 : EReal) else 0)) :
    (V m c main_v42 : Vec Ideal S4x2048x256 .bf16) (ix3 q ⟨64 * g' + p, by omega⟩ ⟨16 * g + j, by omega⟩) = Z := by
  rw [V_eq]
  entry_read
  pointwise
  rw [dif_pos (by omega)]
  have E := eye_nat ((64 * g'.val + p.val) / 64) ((16 * g.val + j.val) / 16) g' g (by omega) (by omega)
  rw [hZ]
  refine congrArg₂ (fun x y : EReal => x * y) (Eq.trans (congrArg (m (c, Proc.tc.devRef main_arg8)) ?_) (ha ⟨16 * q + g', by omega⟩ j p)) E
  exact ix3_congr (by dsimp only; omega) (by dsimp only; omega) (by dsimp only; omega)

theorem c_im (q : Fin 4) (g' : Fin 16) (p : Fin 64) (g j : Fin 16) (arg : Fin 64 → Fin 16 → Fin 64 → EReal)
    (ha : ∀ x y z, m ((c : Thread nD τ).loc main_arg9) (ix3 x y z) = arg x y z) (Z : EReal)
    (hZ : Z = -(arg ⟨16 * q + g', by omega⟩ j p * (if g' = g then (1 : EReal) else 0))) :
    (V m c main_v42 : Vec Ideal S4x2048x256 .bf16) (ix3 q ⟨1024 + (64 * g' + p), by omega⟩ ⟨16 * g + j, by omega⟩) = Z := by
  rw [V_eq]
  entry_read
  pointwise
  have E := eye_nat ((64 * g'.val + p.val) / 64) ((16 * g.val + j.val) / 16) g' g (by omega) (by omega)
  rw [hZ]
  refine congrArg (fun z : EReal => -z) (congrArg₂ (fun x y : EReal => x * y) (Eq.trans (congrArg (m (c, Proc.tc.devRef main_arg9)) ?_) (ha ⟨16 * q + g', by omega⟩ j p)) E)
  exact ix3_congr (by dsimp only; omega) (by dsimp only; omega) (by dsimp only; omega)

theorem nw_at (e : Fin 1024) :
    (V m c main_v55 : Vec Ideal S1x1024 .f32) (ix2 0 e) = m ((c : Thread nD τ).loc main_arg3) (ix1 e) := by
  rw [V_eq]
  entry_read
  pointwise

theorem d_at (e : Fin 1024) :
    (V m c main_v56 : Vec Ideal S1x1024 .f32) (ix2 0 e) = m ((c : Thread nD τ).loc main_arg10) (ix1 e) := by
  rw [V_eq]
  entry_read
  pointwise

theorem w_at (k : Fin 1024) (j : Fin 2048) :
    (V m c main_v48 : Vec Ideal S1024x2048 .bf16) (ix2 k j) = m ((c : Thread nD τ).loc main_arg11) (ix2 k j) := by
  rw [V_eq]
  entry_read
  pointwise

end Cert.S5
-- ==== Proof.SIGlue.lean ====
/- One point of the second kernel against the layer's rows: with the parameters laid out in blocks and the states of the
rows before it, the point's results are those of its 64 rows. -/
module

public import proofs.«01_k».proof.Proof.SIOut

@[expose] public section

noncomputable section

namespace Cert.S5

open Cert.Kernel2Ideal Cert.Kernel2Ideal.Gen Idealize.ShloMosaic Idealize.ShloMosaic.TcCoe Idealize.SL.Sem

/-- A sum over a product range, row by row. -/
theorem sum_split (m n : ℕ) (F : Fin (m * n) → EReal) :
    ∑ k, F k = ∑ a : Fin m, ∑ b : Fin n, F ⟨n * a.val + b.val, by
      have ha := a.isLt; have hb := b.isLt
      calc n * a.val + b.val < n * a.val + n := by omega
        _ = n * (a.val + 1) := by ring
        _ ≤ n * m := Nat.mul_le_mul_left n ha
        _ = m * n := Nat.mul_comm n m⟩ := by
  rw [← finProdFinEquiv.sum_comp, Fintype.sum_prod_type]
  refine Finset.sum_congr rfl fun a _ => Finset.sum_congr rfl fun b _ => congrArg F (Fin.ext ?_)
  show b.val + n * a.val = n * a.val + b.val
  omega

theorem sum_half (F : Fin 2048 → EReal) :
    ∑ k, F k = (∑ a : Fin 1024, F ⟨a.val, by omega⟩) + ∑ a : Fin 1024, F ⟨1024 + a.val, by omega⟩ :=
  Fin.sum_univ_add (a := 1024) (b := 1024) F

theorem col_re (q : Fin 4) (g : Fin 16) (p : Fin 64) : 2048 * q.val + (64 * g.val + p.val) < 8192 := by omega
theorem col_im (q : Fin 4) (g : Fin 16) (p : Fin 64) : 2048 * q.val + 1024 + (64 * g.val + p.val) < 8192 := by omega
theorem grp_lt (q : Fin 4) (g : Fin 16) : 16 * q.val + g.val < 64 := by omega

/-- How the parameters lie in the point's input arrays. -/
structure Laid (P : Par) (x2 : FVec Ideal S1x1024 .f32) (x3 : FVec Ideal S4x2x1024 .f32) (x4 : FVec Ideal S4x256x2048 .bf16)
    (x5 : FVec Ideal S4x2048x256 .bf16) (x6 : FVec Ideal S1x1024 .f32) (x7 : FVec Ideal S1024x2048 .bf16) : Prop where
  nw : ∀ e, x2 (ix2 0 e) = P.nw e
  ar : ∀ (q : Fin 4) (g : Fin 16) (p : Fin 64), x3 (ix3 q 0 ⟨64 * g.val + p.val, by omega⟩) = P.ar ⟨16 * q.val + g.val, grp_lt q g⟩ p
  ai : ∀ (q : Fin 4) (g : Fin 16) (p : Fin 64), x3 (ix3 q 1 ⟨64 * g.val + p.val, by omega⟩) = P.ai ⟨16 * q.val + g.val, grp_lt q g⟩ p
  br : ∀ (q : Fin 4) (g j g' : Fin 16) (p : Fin 64), x4 (ix3 q ⟨16 * g.val + j.val, by omega⟩ ⟨64 * g'.val + p.val, by omega⟩)
    = P.br ⟨16 * q.val + g.val, grp_lt q g⟩ p j * (if g = g' then (1 : EReal) else 0)
  bi : ∀ (q : Fin 4) (g j g' : Fin 16) (p : Fin 64), x4 (ix3 q ⟨16 * g.val + j.val, by omega⟩ ⟨1024 + (64 * g'.val + p.val), by omega⟩)
    = P.bi ⟨16 * q.val + g.val, grp_lt q g⟩ p j * (if g = g' then (1 : EReal) else 0)
  cr : ∀ (q : Fin 4) (g' : Fin 16) (p : Fin 64) (g j : Fin 16), x5 (ix3 q ⟨64 * g'.val + p.val, by omega⟩ ⟨16 * g.val + j.val, by omega⟩)
    = P.cr ⟨16 * q.val + g'.val, by omega⟩ j p * (if g' = g then (1 : EReal) else 0)
  ci : ∀ (q : Fin 4) (g' : Fin 16) (p : Fin 64) (g j : Fin 16), x5 (ix3 q ⟨1024 + (64 * g'.val + p.val), by omega⟩ ⟨16 * g.val + j.val, by omega⟩)
    = -(P.ci ⟨16 * q.val + g'.val, by omega⟩ j p * (if g' = g then (1 : EReal) else 0))
  d : ∀ e, x6 (ix2 0 e) = P.d e
  w : ∀ k j, x7 (ix2 k j) = P.w k j

/-- A sum over groups of which only one counts. -/
theorem pick {n : ℕ} (g : Fin 16) (F G : Fin 16 → Fin n → EReal) :
    (∑ a : Fin 16, ∑ b : Fin n, F a b * (G a b * (if a = g then (1 : EReal) else 0))) = ∑ b : Fin n, G g b * F g b := by
  rw [Finset.sum_eq_single g]
  · refine Finset.sum_congr rfl fun b _ => ?_
    rw [if_pos rfl, mul_one, mul_comm]
  · intro a _ ha
    refine Finset.sum_eq_zero fun b _ => ?_
    rw [if_neg ha, mul_zero, mul_zero]
  · intro h; exact absurd (Finset.mem_univ _) h

theorem pick_neg {n : ℕ} (g : Fin 16) (F G : Fin 16 → Fin n → EReal) :
    (∑ a : Fin 16, ∑ b : Fin n, F a b * -(G a b * (if a = g then (1 : EReal) else 0))) = ∑ b : Fin n, -G g b * F g b := by
  rw [Finset.sum_eq_single g]
  · refine Finset.sum_congr rfl fun b _ => ?_
    rw [if_pos rfl, mul_one, mul_comm]
  · intro a _ ha
    refine Finset.sum_eq_zero fun b _ => ?_
    rw [if_neg ha, mul_zero, neg_zero, mul_zero]
  · intro h; exact absurd (Finset.mem_univ _) h

section

variable {P : Par} {x2 : FVec Ideal S1x1024 .f32} {x3 : FVec Ideal S4x2x1024 .f32} {x4 : FVec Ideal S4x256x2048 .bf16}
  {x5 : FVec Ideal S4x2048x256 .bf16} {x6 : FVec Ideal S1x1024 .f32} {x7 : FVec Ideal S1024x2048 .bf16}
  (L : Laid P x2 x3 x4 x5 x6 x7)
include L

theorem bu_re (hb : FVec Ideal S512x1024 .bf16) (r : Fin 512) (H : Fin 1024 → EReal) (hH : ∀ e, hb (ix2 r e) = H e)
    (q : Fin 4) (g : Fin 16) (p : Fin 64) (n : Fin 2048) (hn : n.val = 64 * g.val + p.val) :
    buE hb x4 q r n = ∑ k : Fin 16, P.br ⟨16 * q.val + g.val, grp_lt q g⟩ p k * H ⟨(16 * q.val + g.val) * 16 + k.val, by omega⟩ := by
  obtain ⟨n, hlt⟩ := n
  dsimp only at hn
  subst hn
  unfold buE
  refine (sum_split 16 16 _).trans ?_
  have K := pick g (fun (a : Fin 16) (j : Fin 16) => H ⟨(16 * q.val + a.val) * 16 + j.val, by omega⟩)
    (fun (a : Fin 16) (j : Fin 16) => P.br ⟨16 * q.val + a.val, by omega⟩ p j)
  refine Eq.trans ?_ K
  refine Finset.sum_congr rfl fun a _ => Finset.sum_congr rfl fun j _ => ?_
  refine congrArg₂ (fun x y : EReal => x * y) ((hH _).trans (congrArg H (Fin.ext ?_))) (L.br q a j g p)
  show 256 * q.val + (16 * a.val + j.val) = (16 * q.val + a.val) * 16 + j.val
  omega

theorem bu_im (hb : FVec Ideal S512x1024 .bf16) (r : Fin 512) (H : Fin 1024 → EReal) (hH : ∀ e, hb (ix2 r e) = H e)
    (q : Fin 4) (g : Fin 16) (p : Fin 64) (n : Fin 2048) (hn : n.val = 1024 + (64 * g.val + p.val)) :
    buE hb x4 q r n = ∑ k : Fin 16, P.bi ⟨16 * q.val + g.val, grp_lt q g⟩ p k * H ⟨(16 * q.val + g.val) * 16 + k.val, by omega⟩ := by
  obtain ⟨n, hlt⟩ := n
  dsimp only at hn
  subst hn
  unfold buE
  refine (sum_split 16 16 _).trans ?_
  have K := pick g (fun (a : Fin 16) (j : Fin 16) => H ⟨(16 * q.val + a.val) * 16 + j.val, by omega⟩)
    (fun (a : Fin 16) (j : Fin 16) => P.bi ⟨16 * q.val + a.val, by omega⟩ p j)
  refine Eq.trans ?_ K
  refine Finset.sum_congr rfl fun a _ => Finset.sum_congr rfl fun j _ => ?_
  refine congrArg₂ (fun x y : EReal => x * y) ((hH _).trans (congrArg H (Fin.ext ?_))) (L.bi q a j g p)
  show 256 * q.val + (16 * a.val + j.val) = (16 * q.val + a.val) * 16 + j.val
  omega

variable {x0 : FVec Ideal S8x64x1024 .f32} {X : Fin 8 → ℕ → Fin 1024 → EReal} {T : ℕ}
  (hx : ∀ (b : Fin 8) (t : Fin 64) (e : Fin 1024), x0 (ix3 b t e) = X b (T + t.val) e)
include hx

theorem hb_row (b : Fin 8) (t : Fin 64) (r : Fin 512) (hr : r.val = 8 * t.val + b.val) (e : Fin 1024) :
    hbF (k0_pay128 (F := Ideal) x0 x2) (ix2 r e) = nrm P.nw (X b (T + t.val)) e := by
  have h1 : hrow r = ⟨64 * b.val + t.val, by omega⟩ := Fin.ext (by show r.val % 8 * 64 + r.val / 8 = 64 * b.val + t.val; omega)
  show k0_pay128 (F := Ideal) x0 x2 (ix2 (hrow r) e) = _
  rw [h1, h_at, show (fun e => x2 (ix2 0 e)) = P.nw from funext L.nw, show (fun e => x0 (ix3 b t e)) = X b (T + t.val) from funext (hx b t)]

variable {s : Fin 8 → Fin 64 → Fin 64 → EReal × EReal} {S0 : FVec Ideal S8x8192 .f32}
  (hSr : ∀ (b : Fin 8) (q : Fin 4) (g : Fin 16) (p : Fin 64), S0 (ix2 b ⟨2048 * q.val + (64 * g.val + p.val), col_re q g p⟩)
    = (P.st (X b) (s b) ⟨16 * q.val + g.val, grp_lt q g⟩ p T).1)
  (hSi : ∀ (b : Fin 8) (q : Fin 4) (g : Fin 16) (p : Fin 64), S0 (ix2 b ⟨2048 * q.val + 1024 + (64 * g.val + p.val), col_im q g p⟩)
    = (P.st (X b) (s b) ⟨16 * q.val + g.val, grp_lt q g⟩ p T).2)
include hSr hSi

theorem ent_eq (q : Fin 4) (b : Fin 8) (g : Fin 16) (p : Fin 64) (n : Fin 1024) (hn : n.val = 64 * g.val + p.val) (k : ℕ) (hk : k ≤ 64) :
    ent x3 (hbF (k0_pay128 (F := Ideal) x0 x2)) x4 S0 q b n k = P.st (X b) (s b) ⟨16 * q.val + g.val, grp_lt q g⟩ p (T + k) := by
  obtain ⟨n, hlt⟩ := n
  dsimp only at hn
  subst hn
  have hS : (S0 (ix2 b ⟨2048 * q.val + (64 * g.val + p.val), col_re q g p⟩), S0 (ix2 b ⟨2048 * q.val + 1024 + (64 * g.val + p.val), col_im q g p⟩))
      = P.st (X b) (s b) ⟨16 * q.val + g.val, grp_lt q g⟩ p T := by
    rw [hSr, hSi]
  unfold ent
  refine (congrArg (fun z => Cert.S5.rec _ _ _ _ z k) hS).trans ?_
  rw [L.ar, L.ai]
  unfold Par.st
  rw [← rec_add]
  refine rec_congr _ _ _ k (fun t ht => ?_) (fun t ht => ?_)
  · rw [dif_pos (show t < 64 by omega)]
    exact bu_re L _ _ _ (hb_row L hx b ⟨t, by omega⟩ _ rfl) q g p _ rfl
  · rw [dif_pos (show t < 64 by omega)]
    exact bu_im L _ _ _ (hb_row L hx b ⟨t, by omega⟩ _ rfl) q g p _ rfl

/-- The states the point leaves. -/
theorem st_re (b : Fin 8) (q : Fin 4) (g : Fin 16) (p : Fin 64) :
    stG x3 (hbF (k0_pay128 (F := Ideal) x0 x2)) x4 S0 (ix2 b ⟨2048 * q.val + (64 * g.val + p.val), col_re q g p⟩)
      = (P.st (X b) (s b) ⟨16 * q.val + g.val, grp_lt q g⟩ p (T + 64)).1 := by
  show stE x3 (hbF (k0_pay128 (F := Ideal) x0 x2)) x4 S0 b ⟨2048 * q.val + (64 * g.val + p.val), _⟩ = _
  unfold stE
  rw [dif_pos (show (2048 * q.val + (64 * g.val + p.val)) % 2048 < 1024 by omega)]
  have hq : (⟨(2048 * q.val + (64 * g.val + p.val)) / 2048, by omega⟩ : Fin 4) = q := Fin.ext (by show _ / _ = _; omega)
  rw [← ent_eq L hx hSr hSi q b g p ⟨(2048 * q.val + (64 * g.val + p.val)) % 2048, by omega⟩ (by show _ % _ = _; omega) 64 (le_refl _)]
  exact congrArg (fun q' => (ent x3 (hbF (k0_pay128 (F := Ideal) x0 x2)) x4 S0 q' b _ 64).1) hq

theorem st_im (b : Fin 8) (q : Fin 4) (g : Fin 16) (p : Fin 64) :
    stG x3 (hbF (k0_pay128 (F := Ideal) x0 x2)) x4 S0 (ix2 b ⟨2048 * q.val + 1024 + (64 * g.val + p.val), col_im q g p⟩)
      = (P.st (X b) (s b) ⟨16 * q.val + g.val, grp_lt q g⟩ p (T + 64)).2 := by
  show stE x3 (hbF (k0_pay128 (F := Ideal) x0 x2)) x4 S0 b ⟨2048 * q.val + 1024 + (64 * g.val + p.val), _⟩ = _
  unfold stE
  rw [dif_neg (show ¬(2048 * q.val + 1024 + (64 * g.val + p.val)) % 2048 < 1024 by omega)]
  have hq : (⟨(2048 * q.val + 1024 + (64 * g.val + p.val)) / 2048, by omega⟩ : Fin 4) = q := Fin.ext (by show _ / _ = _; omega)
  rw [← ent_eq L hx hSr hSi q b g p ⟨(2048 * q.val + 1024 + (64 * g.val + p.val)) % 2048 - 1024, by omega⟩ (by show _ % _ - _ = _; omega) 64 (le_refl _)]
  exact congrArg (fun q' => (ent x3 (hbF (k0_pay128 (F := Ideal) x0 x2)) x4 S0 q' b _ 64).2) hq

theorem y_eq (b : Fin 8) (t : Fin 64) (e : Fin 1024) :
    yP x0 x2 x3 x4 S0 x5 x6 b t e = P.y (X b) (s b) (T + t.val) e := by
  obtain ⟨q, g, j, rfl⟩ : ∃ (q : Fin 4) (g j : Fin 16), e = ⟨256 * q.val + (16 * g.val + j.val), by omega⟩ :=
    ⟨⟨e.val / 256, by omega⟩, ⟨e.val % 256 / 16, by omega⟩, ⟨e.val % 16, by omega⟩, Fin.ext (by show _ = _; dsimp only; omega)⟩
  unfold yP Par.y
  rw [L.d, show (fun e => x2 (ix2 0 e)) = P.nw from funext L.nw, show (fun e => x0 (ix3 b t e)) = X b (T + t.val) from funext (hx b t)]
  refine congrArg (fun z : EReal => z + _) ?_
  have hq : (⟨(256 * q.val + (16 * g.val + j.val)) / 256, by omega⟩ : Fin 4) = q := Fin.ext (by show _ / _ = _; omega)
  have he : (⟨(256 * q.val + (16 * g.val + j.val)) % 256, by omega⟩ : Fin 256) = ⟨16 * g.val + j.val, by omega⟩ := Fin.ext (by show _ % _ = 16 * g.val + j.val; omega)
  have hg : (⟨(256 * q.val + (16 * g.val + j.val)) / 16, by omega⟩ : Fin 64) = ⟨16 * q.val + g.val, grp_lt q g⟩ := Fin.ext (by show _ / _ = 16 * q.val + g.val; omega)
  have hj : (⟨(256 * q.val + (16 * g.val + j.val)) % 16, by omega⟩ : Fin 16) = j := Fin.ext (by show _ % _ = _; omega)
  unfold yE
  simp only [hq, he, hg, hj]
  rw [sum_half]
  have hb' : (⟨(8 * t.val + b.val) % 8, by omega⟩ : Fin 8) = b := Fin.ext (by show _ % _ = _; omega)
  have ht' : (8 * t.val + b.val) / 8 + 1 = t.val + 1 := by omega
  refine congrArg₂ (fun x y : EReal => x + y) ?_ ?_
  · refine (sum_split 16 64 _).trans ?_
    refine Eq.trans ?_ (pick g (fun (a : Fin 16) (p : Fin 64) => (P.st (X b) (s b) ⟨16 * q.val + a.val, by omega⟩ p (T + t.val + 1)).1)
      (fun (a : Fin 16) (p : Fin 64) => P.cr ⟨16 * q.val + a.val, by omega⟩ j p))
    refine Finset.sum_congr rfl fun a _ => Finset.sum_congr rfl fun p _ => ?_
    refine congrArg₂ (fun x y : EReal => x * y) ?_ (L.cr q a p g j)
    unfold SLE
    rw [dif_pos (show 64 * a.val + p.val < 1024 by omega)]
    simp only [hb', ht']
    rw [ent_eq L hx hSr hSi q b a p _ rfl (t.val + 1) (by omega)]
    rfl
  · refine (sum_split 16 64 _).trans ?_
    refine Eq.trans ?_ (pick_neg g (fun (a : Fin 16) (p : Fin 64) => (P.st (X b) (s b) ⟨16 * q.val + a.val, by omega⟩ p (T + t.val + 1)).2)
      (fun (a : Fin 16) (p : Fin 64) => P.ci ⟨16 * q.val + a.val, by omega⟩ j p))
    refine Finset.sum_congr rfl fun a _ => Finset.sum_congr rfl fun p _ => ?_
    refine congrArg₂ (fun x y : EReal => x * y) ?_ (L.ci q a p g j)
    unfold SLE
    rw [dif_neg (show ¬(1024 + (64 * a.val + p.val) < 1024) by omega)]
    simp only [hb', ht']
    rw [ent_eq L hx hSr hSi q b a p _ (by show 1024 + (64 * a.val + p.val) - 1024 = _; omega) (t.val + 1) (by omega)]
    rfl

/-- The output rows of the point. -/
theorem out_eq (b : Fin 8) (t : Fin 64) (e : Fin 1024) :
    outP x0 x2 x3 x4 S0 x5 x6 x7 b t e = P.out (X b) (s b) (T + t.val) e := by
  have hz : ∀ j, zP x0 x2 x3 x4 S0 x5 x6 x7 b t j = P.z (X b) (s b) (T + t.val) j := by
    intro j
    unfold zP Par.z
    refine Finset.sum_congr rfl fun k _ => ?_
    rw [y_eq L hx hSr hSi, L.w]
  unfold outP Par.out
  rw [hz, hz, hx]

end

end Cert.S5
-- ==== Proof.SIBlk.lean ====
/- The blocks that a point of the second kernel's call reads, in the words of the layer's parameters. -/
module

public import proofs.«01_k».proof.Proof.SIHost
public import proofs.«01_k».proof.Proof.SIGlue
public import proofs.«01_k».proof.Proof.SRFold

@[expose] public section

noncomputable section

namespace Cert.S5

open Cert.Kernel2Ideal Cert.Kernel2Ideal.Gen Idealize.ShloMosaic Idealize.ShloMosaic.ValueKit Idealize.ShloMosaic.TcCoe Idealize.SL.Sem

variable (m : (ℓ : Loc nD τ sig) → Buf (Elt Ideal) ℓ) (c : Dev nD)

/-- The layer's parameters, as launched. -/
def kP : Par := RefFold.par (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

/-- The input rows, as launched. -/
def kX : Fin 8 → ℕ → Fin 1024 → EReal := RefFold.rows (m ((c : Thread nD τ).loc main_arg0))

/-- The states, as launched. -/
def kS : Fin 8 → Fin 64 → Fin 64 → EReal × EReal := RefFold.beg (m ((c : Thread nD τ).loc main_arg1)) (m ((c : Thread nD τ).loc main_arg2))

theorem idx : ∀ t : Fin cfg0.N, win0_0.index t = ![0, t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0]
    ∧ win0_7.index t = ![0, 0] ∧ win0_8.index t = ![0, t.val, 0] ∧ win0_9.index t = ![0, 0] := by decide +kernel

theorem x_blk (t : Fin cfg0.N) (b : Fin 8) (s : Fin 64) (e : Fin 1024) :
    (iblk m c 0 t : Vec Ideal S8x64x1024 .f32) (ix3 b s e)
      = m ((c : Thread nD τ).loc main_arg0) (ix3 b ⟨64 * t.val + s.val, by have : t.val < 32 := t.isLt; omega⟩ e) := by
  blk_ext [iblk, V, idx t]

theorem blk1 (t : Fin cfg0.N) (b : Fin 8) (j : Fin 8192) : (iblk m c 1 t : Vec Ideal S8x8192 .f32) (ix2 b j) = (V m c main_v54 : Vec Ideal S8x8192 .f32) (ix2 b j) := by
  blk_ext [iblk, idx t]

theorem blk2 (t : Fin cfg0.N) (b : Fin 1) (j : Fin 1024) : (iblk m c 2 t : Vec Ideal S1x1024 .f32) (ix2 b j) = (V m c main_v55 : Vec Ideal S1x1024 .f32) (ix2 b j) := by
  blk_ext [iblk, idx t]

theorem blk3 (t : Fin cfg0.N) (q : Fin 4) (b : Fin 2) (j : Fin 1024) : (iblk m c 3 t : Vec Ideal S4x2x1024 .f32) (ix3 q b j) = (V m c main_v47 : Vec Ideal S4x2x1024 .f32) (ix3 q b j) := by
  blk_ext [iblk, idx t]

theorem blk4 (t : Fin cfg0.N) (q : Fin 4) (b : Fin 256) (j : Fin 2048) : (iblk m c 4 t : Vec Ideal S4x256x2048 .bf16) (ix3 q b j) = (V m c main_v23 : Vec Ideal S4x256x2048 .bf16) (ix3 q b j) := by
  blk_ext [iblk, idx t]

theorem blk5 (t : Fin cfg0.N) (q : Fin 4) (b : Fin 2048) (j : Fin 256) : (iblk m c 5 t : Vec Ideal S4x2048x256 .bf16) (ix3 q b j) = (V m c main_v42 : Vec Ideal S4x2048x256 .bf16) (ix3 q b j) := by
  blk_ext [iblk, idx t]

theorem blk6 (t : Fin cfg0.N) (b : Fin 1) (j : Fin 1024) : (iblk m c 6 t : Vec Ideal S1x1024 .f32) (ix2 b j) = (V m c main_v56 : Vec Ideal S1x1024 .f32) (ix2 b j) := by
  blk_ext [iblk, idx t]

theorem blk7 (t : Fin cfg0.N) (b : Fin 1024) (j : Fin 2048) : (iblk m c 7 t : Vec Ideal S1024x2048 .bf16) (ix2 b j) = (V m c main_v48 : Vec Ideal S1024x2048 .bf16) (ix2 b j) := by
  blk_ext [iblk, idx t]

theorem laid (t : Fin cfg0.N) : Laid (kP m c) (iblk m c 2 t) (iblk m c 3 t) (iblk m c 4 t) (iblk m c 5 t) (iblk m c 6 t) (iblk m c 7 t) where
  nw e := (blk2 m c t 0 e).trans (nw_at m c e)
  ar q g p := (blk3 m c t q 0 _).trans (a_re m c q g p)
  ai q g p := (blk3 m c t q 1 _).trans (a_im m c q g p)
  br q g j g' p := (blk4 m c t q _ _).trans (b_re m c q g j g' p (kP m c).br (fun _ _ _ => rfl) _ rfl)
  bi q g j g' p := (blk4 m c t q _ _).trans (b_im m c q g j g' p (kP m c).bi (fun _ _ _ => rfl) _ rfl)
  cr q g' p g j := (blk5 m c t q _ _).trans (c_re m c q g' p g j (kP m c).cr (fun _ _ _ => rfl) _ rfl)
  ci q g' p g j := (blk5 m c t q _ _).trans (c_im m c q g' p g j (kP m c).ci (fun _ _ _ => rfl) _ rfl)
  d e := (blk6 m c t 0 e).trans (d_at m c e)
  w k j := (blk7 m c t k j).trans (w_at m c k j)

theorem x_row (t : Fin cfg0.N) (b : Fin 8) (s : Fin 64) (e : Fin 1024) :
    (iblk m c 0 t : Vec Ideal S8x64x1024 .f32) (ix3 b s e) = kX m c b (64 * t.val + s.val) e := by
  rw [x_blk]
  have : t.val < 32 := t.isLt
  refine congrArg (m ((c : Thread nD τ).loc main_arg0)) (ix3_congr rfl ?_ rfl)
  show 64 * t.val + s.val = (64 * t.val + s.val) % 2048
  omega

theorem s_row_re (t : Fin cfg0.N) (b : Fin 8) (q : Fin 4) (g : Fin 16) (p : Fin 64) :
    (iblk m c 1 t : Vec Ideal S8x8192 .f32) (ix2 b ⟨2048 * q.val + (64 * g.val + p.val), by omega⟩)
      = ((kP m c).st (kX m c b) (kS m c b) ⟨16 * q.val + g.val, by omega⟩ p 0).1 :=
  (blk1 m c t b _).trans (s_re m c b q g p)

theorem s_row_im (t : Fin cfg0.N) (b : Fin 8) (q : Fin 4) (g : Fin 16) (p : Fin 64) :
    (iblk m c 1 t : Vec Ideal S8x8192 .f32) (ix2 b ⟨2048 * q.val + 1024 + (64 * g.val + p.val), by omega⟩)
      = ((kP m c).st (kX m c b) (kS m c b) ⟨16 * q.val + g.val, by omega⟩ p 0).2 :=
  (blk1 m c t b _).trans (s_im m c b q g p)

end Cert.S5
-- ==== Proof.SIVal.lean ====
/- What the points of the second kernel's call leave, one after the other, and its two arrays at the end. -/
module

public import proofs.«01_k».proof.Proof.SIOutA
public import proofs.«01_k».proof.Proof.SIOutB
public import proofs.«01_k».proof.Proof.SIBlk

@[expose] public section

set_option maxRecDepth 65536
set_option maxHeartbeats 1600000

noncomputable section

namespace Cert.S5

open Cert.Kernel2Ideal Cert.Kernel2Ideal.Gen Idealize.ShloMosaic Idealize.ShloMosaic.ValueKit Idealize.ShloMosaic.TcCoe Idealize.SL.Sem
open Idealize.ShloMosaic.Pipeline (Dat)

variable (m : (ℓ : Loc nD τ sig) → Buf (Elt Ideal) ℓ) (c : Dev nD)

/-- The contents after point `t` are the layer's: rows `64 t … 64 t + 63`, and the states after them. -/
structure Good (t : ℕ) (o : Vec Ideal S8x64x1024 .f32 × Vec Ideal S8x8192 .f32 × Vec Ideal S8x8192 .f32) : Prop where
  out : ∀ (b : Fin 8) (s : Fin 64) (e : Fin 1024), o.1 (ix3 b s e) = (kP m c).out (kX m c b) (kS m c b) (64 * t + s.val) e
  fin : o.2.1 = o.2.2
  re : ∀ (b : Fin 8) (q : Fin 4) (g : Fin 16) (p : Fin 64), o.2.2 (ix2 b ⟨2048 * q.val + (64 * g.val + p.val), col_re q g p⟩)
    = ((kP m c).st (kX m c b) (kS m c b) ⟨16 * q.val + g.val, grp_lt q g⟩ p (64 * t + 64)).1
  im : ∀ (b : Fin 8) (q : Fin 4) (g : Fin 16) (p : Fin 64), o.2.2 (ix2 b ⟨2048 * q.val + 1024 + (64 * g.val + p.val), col_im q g p⟩)
    = ((kP m c).st (kX m c b) (kS m c b) ⟨16 * q.val + g.val, grp_lt q g⟩ p (64 * t + 64)).2

theorem good_of (t : Fin cfg0.N) (S0 : FVec Ideal S8x8192 .f32)
    (hSr : ∀ (b : Fin 8) (q : Fin 4) (g : Fin 16) (p : Fin 64), S0 (ix2 b ⟨2048 * q.val + (64 * g.val + p.val), col_re q g p⟩)
      = ((kP m c).st (kX m c b) (kS m c b) ⟨16 * q.val + g.val, grp_lt q g⟩ p (64 * t.val)).1)
    (hSi : ∀ (b : Fin 8) (q : Fin 4) (g : Fin 16) (p : Fin 64), S0 (ix2 b ⟨2048 * q.val + 1024 + (64 * g.val + p.val), col_im q g p⟩)
      = ((kP m c).st (kX m c b) (kS m c b) ⟨16 * q.val + g.val, grp_lt q g⟩ p (64 * t.val)).2)
    (o : Vec Ideal S8x64x1024 .f32 × Vec Ideal S8x8192 .f32 × Vec Ideal S8x8192 .f32)
    (h1 : ∀ (b : Fin 8) (s : Fin 64) (e : Fin 1024), o.1 (ix3 b s e)
      = outP (iblk m c 0 t) (iblk m c 2 t) (iblk m c 3 t) (iblk m c 4 t) S0 (iblk m c 5 t) (iblk m c 6 t) (iblk m c 7 t) b s e)
    (h2 : o.2.1 = stG (iblk m c 3 t) (hbF (k0_pay128 (F := Ideal) (iblk m c 0 t) (iblk m c 2 t))) (iblk m c 4 t) S0)
    (h3 : o.2.2 = stG (iblk m c 3 t) (hbF (k0_pay128 (F := Ideal) (iblk m c 0 t) (iblk m c 2 t))) (iblk m c 4 t) S0) :
    Good m c t.val o where
  out b s e := (h1 b s e).trans (out_eq (laid m c t) (x_row m c t) hSr hSi b s e)
  fin := h2.trans h3.symm
  re b q g p := (congrFun h3 _).trans (st_re (laid m c t) (x_row m c t) hSr hSi b q g p)
  im b q g p := (congrFun h3 _).trans (st_im (laid m c t) (x_row m c t) hSr hSi b q g p)

theorem good_A (t : Fin cfg0.N) (h0 : t.val % 32 = 0)
    (hSr : ∀ (b : Fin 8) (q : Fin 4) (g : Fin 16) (p : Fin 64), (iblk m c 1 t : FVec Ideal S8x8192 .f32) (ix2 b ⟨2048 * q.val + (64 * g.val + p.val), col_re q g p⟩)
      = ((kP m c).st (kX m c b) (kS m c b) ⟨16 * q.val + g.val, grp_lt q g⟩ p (64 * t.val)).1)
    (hSi : ∀ (b : Fin 8) (q : Fin 4) (g : Fin 16) (p : Fin 64), (iblk m c 1 t : FVec Ideal S8x8192 .f32) (ix2 b ⟨2048 * q.val + 1024 + (64 * g.val + p.val), col_im q g p⟩)
      = ((kP m c).st (kX m c b) (kS m c b) ⟨16 * q.val + g.val, grp_lt q g⟩ p (64 * t.val)).2) :
    Good m c t.val (outsAt0 m c t.val t.isLt) := by
  refine good_of m c t (iblk m c 1 t) hSr hSi _ (fun b s e => ?_) ?_ ?_
  · rw [outsAt0_A m c t h0]
    dsimp only
    rw [PA.out8]
  · rw [outsAt0_A m c t h0]
    dsimp only
    rw [PA.out9]
  · rw [outsAt0_A m c t h0]
    dsimp only
    rw [PA.sout1]

theorem good_B (t : Fin cfg0.N) (h0 : ¬t.val % 32 = 0)
    (hSr : ∀ (b : Fin 8) (q : Fin 4) (g : Fin 16) (p : Fin 64), (outsAt0 m c (t.val - 1) (Nat.lt_of_le_of_lt (Nat.sub_le _ _) t.isLt)).2.2 (ix2 b ⟨2048 * q.val + (64 * g.val + p.val), col_re q g p⟩)
      = ((kP m c).st (kX m c b) (kS m c b) ⟨16 * q.val + g.val, grp_lt q g⟩ p (64 * t.val)).1)
    (hSi : ∀ (b : Fin 8) (q : Fin 4) (g : Fin 16) (p : Fin 64), (outsAt0 m c (t.val - 1) (Nat.lt_of_le_of_lt (Nat.sub_le _ _) t.isLt)).2.2 (ix2 b ⟨2048 * q.val + 1024 + (64 * g.val + p.val), col_im q g p⟩)
      = ((kP m c).st (kX m c b) (kS m c b) ⟨16 * q.val + g.val, grp_lt q g⟩ p (64 * t.val)).2) :
    Good m c t.val (outsAt0 m c t.val t.isLt) := by
  refine good_of m c t (outsAt0 m c (t.val - 1) (Nat.lt_of_le_of_lt (Nat.sub_le _ _) t.isLt)).2.2 hSr hSi _ (fun b s e => ?_) ?_ ?_
  · rw [outsAt0_B m c t h0]
    dsimp only
    rw [PB.out8]
  · rw [outsAt0_B m c t h0]
    dsimp only
    rw [PB.out9]
  · rw [outsAt0_B m c t h0]
    dsimp only
    rw [PB.sout1]

theorem good : ∀ (n : ℕ) (hn : n < cfg0.N), Good m c n (outsAt0 m c n hn)
  | 0, hn => good_A m c ⟨0, hn⟩ (Nat.zero_mod _) (s_row_re m c _) (s_row_im m c _)
  | n + 1, hn =>
    have H := good n (Nat.lt_of_succ_lt hn)
    have hN : n + 1 < 32 := Nat.lt_of_lt_of_eq hn N_0
    good_B m c ⟨n + 1, hn⟩ (by show ¬(n + 1) % 32 = 0; omega) H.re H.im

theorem flush8 : ∀ t : Fin cfg0.N, (cfg0.win 8).flush t = true := (by decide +kernel : ∀ t : Fin grid0.N, win0_8.flush t = true)

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem disjoint9 : ∀ t t' : Fin cfg0.N, (cfg0.win 9).flush t = true → (cfg0.win 9).flush t' = true → t ≠ t' →
    Disjoint ((cfg0.win 9).blk t).view.set ((cfg0.win 9).blk t').view.set :=
  fun t t' h h' hne => absurd (Fin.ext (by
    have a := (flush0_9 t).mp h
    have a' := (flush0_9 t').mp h'
    have b : t.val < 32 := Nat.lt_of_lt_of_eq t.isLt N_0
    have b' : t'.val < 32 := Nat.lt_of_lt_of_eq t'.isLt N_0
    omega)) hne

theorem row_lt (t : Fin cfg0.N) (s : Fin 64) : 64 * t.val + s.val < 2048 := by
  have : t.val < 32 := Nat.lt_of_lt_of_eq t.isLt N_0
  omega

/-- Row `64 t + s` of the first array at the end. -/
theorem arr8 (t : Fin cfg0.N) (b : Fin 8) (s : Fin 64) (e : Fin 1024) :
    ((dats m 0 c).arrAt 8 cfg0.N : Vec Ideal S8x2048x1024 .f32) (ix3 b ⟨64 * t.val + s.val, row_lt t s⟩ e)
      = (kP m c).out (kX m c b) (kS m c b) (64 * t.val + s.val) e := by
  have h : ((cfg0.win 8).blk t).view.read (Elt Ideal) ((dats m 0 c).arrAt 8 cfg0.N) = (cfg0.win 8).cut (grid0.coords t) ((outsAt0 m c t.val t.isLt).1) := by
    refine ((dats m 0 c).read_blk_arrAt_eq_flushed 8 disjoint8 cfg0.N t t.isLt (flush8 t)).trans ?_
    show (cfg0.win 8).cut (grid0.coords t) ((dats m 0 c).after 8 t) = _
    rw [after0_8]
  obtain ⟨-, -, -, -, -, -, -, -, i8, -⟩ := idx t
  have k := congrFun h (ix3 b s e : S8x64x1024.Idx)
  refine Eq.trans ?_ (k.trans (Eq.trans ?_ ((good m c t.val t.isLt).out b s e)))
  · refine congrArg ((dats m 0 c).arrAt 8 cfg0.N) (funext fun a => Fin.ext ?_)
    match a with
    | ⟨0, _⟩ => show b.val = win0_8.index t (0 : Fin 3) * 8 + 1 * b.val; rw [i8]; show b.val = 0 * 8 + 1 * b.val; omega
    | ⟨1, _⟩ => show 64 * t.val + s.val = win0_8.index t (1 : Fin 3) * 64 + 1 * s.val; rw [i8]; show 64 * t.val + s.val = t.val * 64 + 1 * s.val; omega
    | ⟨2, _⟩ => show e.val = win0_8.index t (2 : Fin 3) * 1024 + 1 * e.val; rw [i8]; show e.val = 0 * 1024 + 1 * e.val; omega
  · refine congrArg (outsAt0 m c t.val t.isLt).1 (funext fun a => Fin.ext ?_)
    match a with
    | ⟨0, _⟩ => rfl
    | ⟨1, _⟩ => rfl
    | ⟨2, _⟩ => rfl

theorem lastPt_lt : 31 < cfg0.N := lt_of_lt_of_eq (by decide) N_0.symm

/-- The second array at the end. -/
theorem arr9 (t : Fin cfg0.N) (ht : t.val % 32 = 31) (j : S8x8192.Idx) :
    ((dats m 0 c).arrAt 9 cfg0.N : Vec Ideal S8x8192 .f32) j = (outsAt0 m c t.val t.isLt).2.1 j := by
  have h : ((cfg0.win 9).blk t).view.read (Elt Ideal) ((dats m 0 c).arrAt 9 cfg0.N)
      = (cfg0.win 9).cut (grid0.coords t) ((outsAt0 m c t.val t.isLt).2.1) := by
    refine ((dats m 0 c).read_blk_arrAt_eq_flushed 9 disjoint9 cfg0.N t t.isLt ((flush0_9 t).mpr ht)).trans ?_
    show (cfg0.win 9).cut (grid0.coords t) ((dats m 0 c).after 9 t) = _
    rw [after0_9]
  obtain ⟨-, -, -, -, -, -, -, -, -, i9⟩ := idx t
  obtain ⟨b, l, rfl⟩ : ∃ (b : Fin 8) (l : Fin 8192), j = ix2 b l := ⟨j 0, j 1, by pointwise⟩
  have k := congrFun h (ix2 b l : S8x8192.Idx)
  refine Eq.trans ?_ (k.trans ?_)
  · refine congrArg ((dats m 0 c).arrAt 9 cfg0.N) (funext fun a => Fin.ext ?_)
    match a with
    | ⟨0, _⟩ => show b.val = win0_9.index t (0 : Fin 2) * 8 + 1 * b.val; rw [i9]; show b.val = 0 * 8 + 1 * b.val; omega
    | ⟨1, _⟩ => show l.val = win0_9.index t (1 : Fin 2) * 8192 + 1 * l.val; rw [i9]; show l.val = 0 * 8192 + 1 * l.val; omega
  · refine congrArg (outsAt0 m c t.val t.isLt).2.1 (funext fun a => Fin.ext ?_)
    match a with
    | ⟨0, _⟩ => rfl
    | ⟨1, _⟩ => rfl

def lastPt : Fin cfg0.N := ⟨31, lastPt_lt⟩

theorem arr9_re (b : Fin 8) (q : Fin 4) (g : Fin 16) (p : Fin 64) :
    ((dats m 0 c).arrAt 9 cfg0.N : Vec Ideal S8x8192 .f32) (ix2 b ⟨2048 * q.val + (64 * g.val + p.val), col_re q g p⟩)
      = ((kP m c).st (kX m c b) (kS m c b) ⟨16 * q.val + g.val, grp_lt q g⟩ p 2048).1 :=
  have H : Good m c 31 (outsAt0 m c 31 lastPt_lt) := good m c 31 lastPt_lt
  (arr9 m c lastPt (by decide +kernel) _).trans ((congrFun H.fin _).trans (H.re b q g p))

theorem arr9_im (b : Fin 8) (q : Fin 4) (g : Fin 16) (p : Fin 64) :
    ((dats m 0 c).arrAt 9 cfg0.N : Vec Ideal S8x8192 .f32) (ix2 b ⟨2048 * q.val + 1024 + (64 * g.val + p.val), col_im q g p⟩)
      = ((kP m c).st (kX m c b) (kS m c b) ⟨16 * q.val + g.val, grp_lt q g⟩ p 2048).2 :=
  have H : Good m c 31 (outsAt0 m c 31 lastPt_lt) := good m c 31 lastPt_lt
  (arr9 m c lastPt (by decide +kernel) _).trans ((congrFun H.fin _).trans (H.im b q g p))

end Cert.S5
-- ==== Proof.SITail.lean ====
/- The host lines after the second kernel's call: the packed states unpacked. -/
module

public import proofs.«01_k».proof.Proof.SIHost
public import proofs.«01_k».proof.Proof.SIGlue

@[expose] public section

noncomputable section

namespace Cert.S5

open Cert.Kernel2Ideal Cert.Kernel2Ideal.Gen Idealize.ShloMosaic Idealize.ShloMosaic.ValueKit Idealize.ShloMosaic.TcCoe Idealize.SL.Sem

variable (W : Valuation τ sig (Elt Ideal))

theorem tail_re (b : Fin 8) (q : Fin 4) (g : Fin 16) (p : Fin 64) :
    (StableHlo.after hostOps1 W (Proc.devRef .tc main_v61) : Vec Ideal S8x64x64 .f32) (ix3 b ⟨16 * q.val + g.val, grp_lt q g⟩ p)
      = (W (Proc.devRef .tc main_v57_1) : Vec Ideal S8x8192 .f32) (ix2 b ⟨2048 * q.val + (64 * g.val + p.val), col_re q g p⟩) := by
  entry_read
  pointwise
  exact congrArg (W (Proc.devRef .tc main_v57_1) : Vec Ideal S8x8192 .f32) (ix2_congr rfl (by dsimp only; omega))

theorem tail_im (b : Fin 8) (q : Fin 4) (g : Fin 16) (p : Fin 64) :
    (StableHlo.after hostOps1 W (Proc.devRef .tc main_v64) : Vec Ideal S8x64x64 .f32) (ix3 b ⟨16 * q.val + g.val, grp_lt q g⟩ p)
      = (W (Proc.devRef .tc main_v57_1) : Vec Ideal S8x8192 .f32) (ix2 b ⟨2048 * q.val + 1024 + (64 * g.val + p.val), col_im q g p⟩) := by
  entry_read
  pointwise
  exact congrArg (W (Proc.devRef .tc main_v57_1) : Vec Ideal S8x8192 .f32) (ix2_congr rfl (by dsimp only; omega))

end Cert.S5
-- ==== Proof.SIEnd.lean ====
/- The second kernel as a whole: its three results named, and that every run leaves them. -/
module

public import proofs.«01_k».proof.Proof.SIVal
public import proofs.«01_k».proof.Proof.SITail

@[expose] public section

set_option maxRecDepth 65536
set_option maxHeartbeats 1600000

noncomputable section

namespace Cert.S5

open Cert.Kernel2Ideal Cert.Kernel2Ideal.Gen Idealize.ShloMosaic Idealize.ShloMosaic.ValueKit Idealize.ShloMosaic.TcCoe Idealize.SL.Sem
open Idealize.ShloMosaic.Pipeline (Dat)

variable (m : (ℓ : Loc nD τ sig) → Buf (Elt Ideal) ℓ)

/-- The output rows. -/
def kOut (c : Dev nD) : Vec Ideal S8x2048x1024 .f32 := fun j => (kP m c).out (kX m c (j 0)) (kS m c (j 0)) (j 1).val (j 2)
/-- The last states, their real parts. -/
def kRe (c : Dev nD) : Vec Ideal S8x64x64 .f32 := fun j => ((kP m c).st (kX m c (j 0)) (kS m c (j 0)) (j 1) (j 2) 2048).1
/-- The last states, their imaginary parts. -/
def kIm (c : Dev nD) : Vec Ideal S8x64x64 .f32 := fun j => ((kP m c).st (kX m c (j 0)) (kS m c (j 0)) (j 1) (j 2) 2048).2

theorem out_end (c : Dev nD) : ((dats m 0 c).arrAt 8 cfg0.N : Vec Ideal S8x2048x1024 .f32) = kOut m c := by
  funext j
  obtain ⟨b, t, e, rfl⟩ : ∃ (b : Fin 8) (t : Fin 2048) (e : Fin 1024), j = ix3 b t e := ⟨j 0, j 1, j 2, by pointwise⟩
  have hN : t.val / 64 < cfg0.N := Nat.lt_of_lt_of_eq (by omega) N_0.symm
  have H := arr8 m c ⟨t.val / 64, hN⟩ b ⟨t.val % 64, Nat.mod_lt _ (by decide)⟩ e
  have ht : 64 * (t.val / 64) + t.val % 64 = t.val := Nat.div_add_mod t.val 64
  have e1 : (⟨64 * (t.val / 64) + t.val % 64, row_lt ⟨t.val / 64, hN⟩ ⟨t.val % 64, Nat.mod_lt _ (by decide)⟩⟩ : Fin 2048) = t := Fin.ext ht
  refine (congrArg (fun r : Fin 2048 => ((dats m 0 c).arrAt 8 cfg0.N : Vec Ideal S8x2048x1024 .f32) (ix3 b r e)) e1.symm).trans (H.trans ?_)
  exact congrArg (fun n => (kP m c).out (kX m c b) (kS m c b) n e) ht

theorem arr_inj : Function.Injective (Pipeline.arrRef (cfgs 0).spec) :=
  fun a b h => (by decide : ∀ a b, Pipeline.arrRef spec0 a = Pipeline.arrRef spec0 b → a = b) a b h

theorem split (G : Fin 64) : ∃ (q : Fin 4) (g : Fin 16), G = ⟨16 * q.val + g.val, grp_lt q g⟩ :=
  ⟨⟨G.val / 16, by omega⟩, ⟨G.val % 16, by omega⟩, Fin.ext (by show G.val = 16 * (G.val / 16) + G.val % 16; omega)⟩

theorem re_end (c : Dev nD) : (Pipeline.afterTail₀ cfgs (dats m) 0 (V0 m) [hostOps1] c main_v61 : Vec Ideal S8x64x64 .f32) = kRe m c := by
  funext j
  obtain ⟨b, G, p, rfl⟩ : ∃ (b : Fin 8) (G p : Fin 64), j = ix3 b G p := ⟨j 0, j 1, j 2, by pointwise⟩
  obtain ⟨q, g, rfl⟩ := split G
  unfold Pipeline.afterTail₀
  refine (tail_re _ b q g p).trans ?_
  refine (congrFun (Pipeline.withArrays_arr (cfgs 0).spec arr_inj c (V0 m c) (fun w => (dats m 0 c).arrAt w (cfgs 0).N) 9) _).trans ?_
  exact arr9_re m c b q g p

theorem im_end (c : Dev nD) : (Pipeline.afterTail₀ cfgs (dats m) 0 (V0 m) [hostOps1] c main_v64 : Vec Ideal S8x64x64 .f32) = kIm m c := by
  funext j
  obtain ⟨b, G, p, rfl⟩ : ∃ (b : Fin 8) (G p : Fin 64), j = ix3 b G p := ⟨j 0, j 1, j 2, by pointwise⟩
  obtain ⟨q, g, rfl⟩ := split G
  unfold Pipeline.afterTail₀
  refine (tail_im _ b q g p).trans ?_
  refine (congrFun (Pipeline.withArrays_arr (cfgs 0).spec arr_inj c (V0 m c) (fun w => (dats m 0 c).arrAt w (cfgs 0).N) 9) _).trans ?_
  exact arr9_im m c b q g p

/-- Every run leaves the three results named above, and the arguments as launched. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v57_0) = kOut m c
      ∧ r.2.mem ((c.tc : Thread nD τ).loc main_v61) = kRe m c
      ∧ r.2.mem ((c.tc : Thread nD τ).loc main_v64) = kIm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h.1 c).1 8).trans (out_end m c),
    ((h.1 c).2 main_v61 (Pipeline.mem_restRefs_of main_v61 (by decide) (by decide))).trans (re_end m c),
    ((h.1 c).2 main_v64 (Pipeline.mem_restRefs_of main_v64 (by decide) (by decide))).trans (im_end m c), h.2 c⟩)
    (θ_run_and (run_main m ρ) (unchanged m ρ))

end Cert.S5
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Grid
public import proofs.«01_k».proof.Proof.Gen.Kernel2
public import proofs.«01_k».proof.Proof.Gen.Kernel2Ideal
public import proofs.«01_k».proof.Proof.Gen.Reference2Ideal
public import proofs.«01_k».proof.Proof.SBFrame
public import proofs.«01_k».proof.Proof.SRFold
public import proofs.«01_k».proof.Proof.SIEnd
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem preserves : Cert.preserves_Kernel_KernelIdeal := trivial

/-- The kernel and the reference leave the same two arrays: the layer's output rows and its last states, as the
specification names them. -/
theorem algebraic : Cert.algebraic_KernelIdeal_ReferenceIdeal := by
  intro m g m' g' _ hm
  refine ⟨Cert.KernelIdeal.Value.G7 m, Cert.KernelIdeal.Value.G8 m, Cert.KernelIdeal.Value.run m g, ?_⟩
  refine (θ_run Cert.ReferenceIdeal.defs _ _).mono (fun _ h c => ?_) (Cert.RefLoop.run m' g')
  obtain ⟨h0, h1, hk⟩ := h c
  have H := Cert.RefFold.after_all m' c 32 le_rfl
  obtain ⟨e0, e1, e2, e3, e4, e5, e6⟩ := hm c
  refine ⟨h0.trans ?_, h1.trans ?_, hk⟩
  · refine (H.out_eq _).trans ?_
    rw [Cert.Grid.out_main m c, e0, e1, e2, e3, e4, e5, e6]
  · refine H.st_eq.trans ?_
    rw [Cert.Grid.st_main m c, e0, e1, e2, e3, e4]

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.S5.RefLoop.run m ρ)

theorem preserves2 : Cert.preserves_Kernel2_Kernel2Ideal := trivial

/-- The second kernel and its reference leave the same three arrays: the output rows, and the real and the imaginary
parts of the last states. -/
theorem algebraic2 : Cert.algebraic_Kernel2Ideal_Reference2Ideal := by
  intro m g m' g' _ hm
  refine ⟨Cert.S5.kOut m, Cert.S5.kRe m, Cert.S5.kIm m, Cert.S5.run m g, ?_⟩
  refine (θ_run Cert.Reference2Ideal.defs _ _).mono (fun _ h c => ?_) (Cert.S5.RefLoop.run m' g')
  obtain ⟨h0, h1, h2, hk⟩ := h c
  have H := Cert.S5.RefFold.after_all m' c 2048 le_rfl
  obtain ⟨e0, e1, e2, e3, e4, e5, e6, e7, e8, e9, e10, e11⟩ := hm c
  rw [e0, e1, e2, e3, e4, e5, e6, e7, e8, e9, e10, e11] at H
  refine ⟨h0.trans ?_, h1.trans ?_, h2.trans ?_, hk⟩
  · rw [e0, e11]
    funext j
    obtain ⟨b, t, e, rfl⟩ : ∃ (b : Fin 8) (t : Fin 2048) (e : Fin 1024), j = ix3 b t e := ⟨j 0, j 1, j 2, by pointwise⟩
    exact H.out_eq b t e
  · funext j
    obtain ⟨b, t, e, rfl⟩ : ∃ (b : Fin 8) (t e : Fin 64), j = ix3 b t e := ⟨j 0, j 1, j 2, by pointwise⟩
    exact H.re b t e
  · funext j
    obtain ⟨b, t, e, rfl⟩ : ∃ (b : Fin 8) (t e : Fin 64), j = ix3 b t e := ⟨j 0, j 1, j 2, by pointwise⟩
    exact H.im b t e

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  frame_p, frame_pi, frame_ri, frame_p2, frame_pi2, frame_ri2, preserves, algebraic, preserves2, algebraic2⟩

end Cert.Proof

end
